-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Gw (m : (ℓ : Loc Cert.Gw.nD Cert.Gw.τ Cert.Gw.sig) → Buf (Elt Bits) ℓ) : Prop :=
  True

def Pre_GwIdeal (m : (ℓ : Loc Cert.GwIdeal.nD Cert.GwIdeal.τ Cert.GwIdeal.sig) → Buf (Elt Ideal) ℓ) : Prop :=
  True

def Pre_GwRefIdeal (m : (ℓ : Loc Cert.GwRefIdeal.nD Cert.GwRefIdeal.τ Cert.GwRefIdeal.sig) → Buf (Elt Ideal) ℓ) : Prop :=
  True

def Pre_Inb (m : (ℓ : Loc Cert.Inb.nD Cert.Inb.τ Cert.Inb.sig) → Buf (Elt Bits) ℓ) : Prop :=
  True

def Pre_InbIdeal (m : (ℓ : Loc Cert.InbIdeal.nD Cert.InbIdeal.τ Cert.InbIdeal.sig) → Buf (Elt Ideal) ℓ) : Prop :=
  True

def Pre_InbRefIdeal (m : (ℓ : Loc Cert.InbRefIdeal.nD Cert.InbRefIdeal.τ Cert.InbRefIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_OpRefIdeal (m : (ℓ : Loc Cert.OpRefIdeal.nD Cert.OpRefIdeal.τ Cert.OpRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdPe (m : (ℓ : Loc Cert.AdPe.nD Cert.AdPe.τ Cert.AdPe.sig) → Buf (Elt Bits) ℓ) : Prop :=
  True

def Pre_AdPeIdeal (m : (ℓ : Loc Cert.AdPeIdeal.nD Cert.AdPeIdeal.τ Cert.AdPeIdeal.sig) → Buf (Elt Ideal) ℓ) : Prop :=
  True

def Pre_AdPeRefIdeal (m : (ℓ : Loc Cert.AdPeRefIdeal.nD Cert.AdPeRefIdeal.τ Cert.AdPeRefIdeal.sig) → Buf (Elt Ideal) ℓ) : Prop :=
  True

def Pre_AdCw (m : (ℓ : Loc Cert.AdCw.nD Cert.AdCw.τ Cert.AdCw.sig) → Buf (Elt Bits) ℓ) : Prop :=
  True

def Pre_AdCwIdeal (m : (ℓ : Loc Cert.AdCwIdeal.nD Cert.AdCwIdeal.τ Cert.AdCwIdeal.sig) → Buf (Elt Ideal) ℓ) : Prop :=
  True

def Pre_AdCwRefIdeal (m : (ℓ : Loc Cert.AdCwRefIdeal.nD Cert.AdCwRefIdeal.τ Cert.AdCwRefIdeal.sig) → Buf (Elt Ideal) ℓ) : Prop :=
  True

def Pre_AdPre (m : (ℓ : Loc Cert.AdPre.nD Cert.AdPre.τ Cert.AdPre.sig) → Buf (Elt Bits) ℓ) : Prop :=
  True

def Pre_AdPreIdeal (m : (ℓ : Loc Cert.AdPreIdeal.nD Cert.AdPreIdeal.τ Cert.AdPreIdeal.sig) → Buf (Elt Ideal) ℓ) : Prop :=
  True

def Pre_AdPreRefIdeal (m : (ℓ : Loc Cert.AdPreRefIdeal.nD Cert.AdPreRefIdeal.τ Cert.AdPreRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_AdSm (m : (ℓ : Loc Cert.AdSm.nD Cert.AdSm.τ Cert.AdSm.sig) → Buf (Elt Bits) ℓ) : Prop :=
  True

def Pre_AdSmIdeal (m : (ℓ : Loc Cert.AdSmIdeal.nD Cert.AdSmIdeal.τ Cert.AdSmIdeal.sig) → Buf (Elt Ideal) ℓ) : Prop :=
  True

def Pre_AdSmRefIdeal (m : (ℓ : Loc Cert.AdSmRefIdeal.nD Cert.AdSmRefIdeal.τ Cert.AdSmRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Gw [hGw : Cert.Gw.Facts] : Prop :=
  ∀ (m : (ℓ : Loc Cert.Gw.nD Cert.Gw.τ Cert.Gw.sig) → Buf (Elt Bits) ℓ) (g : Dev Cert.Gw.nD → PrngReg), Pre_Gw m →
    θ_run (Cert.Gw.defs (F := Bits)) (onTc (τ := Cert.Gw.τ) (Cert.Gw.main (F := Bits))) ⟨m, fun _ => 0, g⟩ (fun r => (∀ c : Dev Cert.Gw.nD,
      r.2.mem ((c.tc : Thread Cert.Gw.nD Cert.Gw.τ).loc Cert.Gw.main_arg0) = m ((c.tc : Thread Cert.Gw.nD Cert.Gw.τ).loc Cert.Gw.main_arg0)
      ∧ r.2.mem ((c.tc : Thread Cert.Gw.nD Cert.Gw.τ).loc Cert.Gw.main_arg1) = m ((c.tc : Thread Cert.Gw.nD Cert.Gw.τ).loc Cert.Gw.main_arg1))
      ∧ r.2.sem = fun _ => 0)

def quiescent_GwIdeal [hGwIdeal : Cert.GwIdeal.Facts] : Prop :=
  ∀ (m : (ℓ : Loc Cert.GwIdeal.nD Cert.GwIdeal.τ Cert.GwIdeal.sig) → Buf (Elt Ideal) ℓ) (g : Dev Cert.GwIdeal.nD → PrngReg), Pre_GwIdeal m →
    θ_run (Cert.GwIdeal.defs (F := Ideal)) (onTc (τ := Cert.GwIdeal.τ) (Cert.GwIdeal.main (F := Ideal))) ⟨m, fun _ => 0, g⟩ (fun r => (∀ c : Dev Cert.GwIdeal.nD,
      r.2.mem ((c.tc : Thread Cert.GwIdeal.nD Cert.GwIdeal.τ).loc Cert.GwIdeal.main_arg0) = m ((c.tc : Thread Cert.GwIdeal.nD Cert.GwIdeal.τ).loc Cert.GwIdeal.main_arg0)
      ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ r.2.sem = fun _ => 0)

def quiescent_GwRefIdeal [hGwRefIdeal : Cert.GwRefIdeal.Facts] : Prop :=
  ∀ (m : (ℓ : Loc Cert.GwRefIdeal.nD Cert.GwRefIdeal.τ Cert.GwRefIdeal.sig) → Buf (Elt Ideal) ℓ) (g : Dev Cert.GwRefIdeal.nD → PrngReg), Pre_GwRefIdeal m →
    θ_run (Cert.GwRefIdeal.defs (F := Ideal)) (onTc (τ := Cert.GwRefIdeal.τ) (Cert.GwRefIdeal.main (F := Ideal))) ⟨m, fun _ => 0, g⟩ (fun r => (∀ c : Dev Cert.GwRefIdeal.nD,
      r.2.mem ((c.tc : Thread Cert.GwRefIdeal.nD Cert.GwRefIdeal.τ).loc Cert.GwRefIdeal.main_arg0) = m ((c.tc : Thread Cert.GwRefIdeal.nD Cert.GwRefIdeal.τ).loc Cert.GwRefIdeal.main_arg0)
      ∧ r.2.mem ((c.tc : Thread Cert.GwRefIdeal.nD Cert.GwRefIdeal.τ).loc Cert.GwRefIdeal.main_arg1) = m ((c.tc : Thread Cert.GwRefIdeal.nD Cert.GwRefIdeal.τ).loc Cert.GwRefIdeal.main_arg1))
      ∧ r.2.sem = fun _ => 0)

def quiescent_Inb [hInb : Cert.Inb.Facts] : Prop :=
  ∀ (m : (ℓ : Loc Cert.Inb.nD Cert.Inb.τ Cert.Inb.sig) → Buf (Elt Bits) ℓ) (g : Dev Cert.Inb.nD → PrngReg), Pre_Inb m →
    θ_run (Cert.Inb.defs (F := Bits)) (onTc (τ := Cert.Inb.τ) (Cert.Inb.main (F := Bits))) ⟨m, fun _ => 0, g⟩ (fun r => (∀ c : Dev Cert.Inb.nD,
      r.2.mem ((c.tc : Thread Cert.Inb.nD Cert.Inb.τ).loc Cert.Inb.main_arg0) = m ((c.tc : Thread Cert.Inb.nD Cert.Inb.τ).loc Cert.Inb.main_arg0)
      ∧ r.2.mem ((c.tc : Thread Cert.Inb.nD Cert.Inb.τ).loc Cert.Inb.main_arg1) = m ((c.tc : Thread Cert.Inb.nD Cert.Inb.τ).loc Cert.Inb.main_arg1)
      ∧ r.2.mem ((c.tc : Thread Cert.Inb.nD Cert.Inb.τ).loc Cert.Inb.main_arg2) = m ((c.tc : Thread Cert.Inb.nD Cert.Inb.τ).loc Cert.Inb.main_arg2)
      ∧ r.2.mem ((c.tc : Thread Cert.Inb.nD Cert.Inb.τ).loc Cert.Inb.main_arg3) = m ((c.tc : Thread Cert.Inb.nD Cert.Inb.τ).loc Cert.Inb.main_arg3)
      ∧ r.2.mem ((c.tc : Thread Cert.Inb.nD Cert.Inb.τ).loc Cert.Inb.main_arg4) = m ((c.tc : Thread Cert.Inb.nD Cert.Inb.τ).loc Cert.Inb.main_arg4))
      ∧ r.2.sem = fun _ => 0)

def quiescent_InbIdeal [hInbIdeal : Cert.InbIdeal.Facts] : Prop :=
  ∀ (m : (ℓ : Loc Cert.InbIdeal.nD Cert.InbIdeal.τ Cert.InbIdeal.sig) → Buf (Elt Ideal) ℓ) (g : Dev Cert.InbIdeal.nD → PrngReg), Pre_InbIdeal m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4))
      ∧ r.2.sem = fun _ => 0)

def quiescent_InbRefIdeal [hInbRefIdeal : Cert.InbRefIdeal.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1)
      ∧ r.2.mem ((c.tc : Thread Cert.Op.nD Cert.Op.τ).loc Cert.Op.main_arg2) = m ((c.tc : Thread Cert.Op.nD Cert.Op.τ).loc Cert.Op.main_arg2)
      ∧ r.2.mem ((c.tc : Thread Cert.Op.nD Cert.Op.τ).loc Cert.Op.main_arg3) = m ((c.tc : Thread Cert.Op.nD Cert.Op.τ).loc Cert.Op.main_arg3))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
      ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
      ∧ r.2.mem ((c.tc : Thread Cert.OpIdeal.nD Cert.OpIdeal.τ).loc Cert.OpIdeal.main_arg3) = m ((c.tc : Thread Cert.OpIdeal.nD Cert.OpIdeal.τ).loc Cert.OpIdeal.main_arg3))
      ∧ r.2.sem = fun _ => 0)

def quiescent_OpRefIdeal [hOpRefIdeal : Cert.OpRefIdeal.Facts] : Prop :=
  ∀ (m : (ℓ : Loc Cert.OpRefIdeal.nD Cert.OpRefIdeal.τ Cert.OpRefIdeal.sig) → Buf (Elt Ideal) ℓ) (g : Dev Cert.OpRefIdeal.nD → PrngReg), Pre_OpRefIdeal m →
    θ_run (Cert.OpRefIdeal.defs (F := Ideal)) (onTc (τ := Cert.OpRefIdeal.τ) (Cert.OpRefIdeal.main (F := Ideal))) ⟨m, fun _ => 0, g⟩ (fun r => (∀ c : Dev Cert.OpRefIdeal.nD,
      r.2.mem ((c.tc : Thread Cert.OpRefIdeal.nD Cert.OpRefIdeal.τ).loc Cert.OpRefIdeal.main_arg0) = m ((c.tc : Thread Cert.OpRefIdeal.nD Cert.OpRefIdeal.τ).loc Cert.OpRefIdeal.main_arg0)
      ∧ r.2.mem ((c.tc : Thread Cert.OpRefIdeal.nD Cert.OpRefIdeal.τ).loc Cert.OpRefIdeal.main_arg1) = m ((c.tc : Thread Cert.OpRefIdeal.nD Cert.OpRefIdeal.τ).loc Cert.OpRefIdeal.main_arg1)
      ∧ r.2.mem ((c.tc : Thread Cert.OpRefIdeal.nD Cert.OpRefIdeal.τ).loc Cert.OpRefIdeal.main_arg2) = m ((c.tc : Thread Cert.OpRefIdeal.nD Cert.OpRefIdeal.τ).loc Cert.OpRefIdeal.main_arg2)
      ∧ r.2.mem ((c.tc : Thread Cert.OpRefIdeal.nD Cert.OpRefIdeal.τ).loc Cert.OpRefIdeal.main_arg3) = m ((c.tc : Thread Cert.OpRefIdeal.nD Cert.OpRefIdeal.τ).loc Cert.OpRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdPe [hAdPe : Cert.AdPe.Facts] : Prop :=
  ∀ (m : (ℓ : Loc Cert.AdPe.nD Cert.AdPe.τ Cert.AdPe.sig) → Buf (Elt Bits) ℓ) (g : Dev Cert.AdPe.nD → PrngReg), Pre_AdPe m →
    θ_run (Cert.AdPe.defs (F := Bits)) (onTc (τ := Cert.AdPe.τ) (Cert.AdPe.main (F := Bits))) ⟨m, fun _ => 0, g⟩ (fun r => (∀ c : Dev Cert.AdPe.nD,
      r.2.mem ((c.tc : Thread Cert.AdPe.nD Cert.AdPe.τ).loc Cert.AdPe.main_arg0) = m ((c.tc : Thread Cert.AdPe.nD Cert.AdPe.τ).loc Cert.AdPe.main_arg0)
      ∧ r.2.mem ((c.tc : Thread Cert.AdPe.nD Cert.AdPe.τ).loc Cert.AdPe.main_arg1) = m ((c.tc : Thread Cert.AdPe.nD Cert.AdPe.τ).loc Cert.AdPe.main_arg1)
      ∧ r.2.mem ((c.tc : Thread Cert.AdPe.nD Cert.AdPe.τ).loc Cert.AdPe.main_arg2) = m ((c.tc : Thread Cert.AdPe.nD Cert.AdPe.τ).loc Cert.AdPe.main_arg2)
      ∧ r.2.mem ((c.tc : Thread Cert.AdPe.nD Cert.AdPe.τ).loc Cert.AdPe.main_arg3) = m ((c.tc : Thread Cert.AdPe.nD Cert.AdPe.τ).loc Cert.AdPe.main_arg3))
      ∧ r.2.sem = fun _ => 0)

def quiescent_AdPeIdeal [hAdPeIdeal : Cert.AdPeIdeal.Facts] : Prop :=
  ∀ (m : (ℓ : Loc Cert.AdPeIdeal.nD Cert.AdPeIdeal.τ Cert.AdPeIdeal.sig) → Buf (Elt Ideal) ℓ) (g : Dev Cert.AdPeIdeal.nD → PrngReg), Pre_AdPeIdeal m →
    θ_run (Cert.AdPeIdeal.defs (F := Ideal)) (onTc (τ := Cert.AdPeIdeal.τ) (Cert.AdPeIdeal.main (F := Ideal))) ⟨m, fun _ => 0, g⟩ (fun r => (∀ c : Dev Cert.AdPeIdeal.nD,
      r.2.mem ((c.tc : Thread Cert.AdPeIdeal.nD Cert.AdPeIdeal.τ).loc Cert.AdPeIdeal.main_arg0) = m ((c.tc : Thread Cert.AdPeIdeal.nD Cert.AdPeIdeal.τ).loc Cert.AdPeIdeal.main_arg0)
      ∧ r.2.mem ((c.tc : Thread Cert.AdPeIdeal.nD Cert.AdPeIdeal.τ).loc Cert.AdPeIdeal.main_arg1) = m ((c.tc : Thread Cert.AdPeIdeal.nD Cert.AdPeIdeal.τ).loc Cert.AdPeIdeal.main_arg1)
      ∧ r.2.mem ((c.tc : Thread Cert.AdPeIdeal.nD Cert.AdPeIdeal.τ).loc Cert.AdPeIdeal.main_arg2) = m ((c.tc : Thread Cert.AdPeIdeal.nD Cert.AdPeIdeal.τ).loc Cert.AdPeIdeal.main_arg2)
      ∧ r.2.mem ((c.tc : Thread Cert.AdPeIdeal.nD Cert.AdPeIdeal.τ).loc Cert.AdPeIdeal.main_arg3) = m ((c.tc : Thread Cert.AdPeIdeal.nD Cert.AdPeIdeal.τ).loc Cert.AdPeIdeal.main_arg3))
      ∧ r.2.sem = fun _ => 0)

def quiescent_AdPeRefIdeal [hAdPeRefIdeal : Cert.AdPeRefIdeal.Facts] : Prop :=
  ∀ (m : (ℓ : Loc Cert.AdPeRefIdeal.nD Cert.AdPeRefIdeal.τ Cert.AdPeRefIdeal.sig) → Buf (Elt Ideal) ℓ) (g : Dev Cert.AdPeRefIdeal.nD → PrngReg), Pre_AdPeRefIdeal m →
    θ_run (Cert.AdPeRefIdeal.defs (F := Ideal)) (onTc (τ := Cert.AdPeRefIdeal.τ) (Cert.AdPeRefIdeal.main (F := Ideal))) ⟨m, fun _ => 0, g⟩ (fun r => (∀ c : Dev Cert.AdPeRefIdeal.nD,
      r.2.mem ((c.tc : Thread Cert.AdPeRefIdeal.nD Cert.AdPeRefIdeal.τ).loc Cert.AdPeRefIdeal.main_arg0) = m ((c.tc : Thread Cert.AdPeRefIdeal.nD Cert.AdPeRefIdeal.τ).loc Cert.AdPeRefIdeal.main_arg0)
      ∧ r.2.mem ((c.tc : Thread Cert.AdPeRefIdeal.nD Cert.AdPeRefIdeal.τ).loc Cert.AdPeRefIdeal.main_arg1) = m ((c.tc : Thread Cert.AdPeRefIdeal.nD Cert.AdPeRefIdeal.τ).loc Cert.AdPeRefIdeal.main_arg1)
      ∧ r.2.mem ((c.tc : Thread Cert.AdPeRefIdeal.nD Cert.AdPeRefIdeal.τ).loc Cert.AdPeRefIdeal.main_arg2) = m ((c.tc : Thread Cert.AdPeRefIdeal.nD Cert.AdPeRefIdeal.τ).loc Cert.AdPeRefIdeal.main_arg2)
      ∧ r.2.mem ((c.tc : Thread Cert.AdPeRefIdeal.nD Cert.AdPeRefIdeal.τ).loc Cert.AdPeRefIdeal.main_arg3) = m ((c.tc : Thread Cert.AdPeRefIdeal.nD Cert.AdPeRefIdeal.τ).loc Cert.AdPeRefIdeal.main_arg3))
      ∧ r.2.sem = fun _ => 0)

def quiescent_AdCw [hAdCw : Cert.AdCw.Facts] : Prop :=
  ∀ (m : (ℓ : Loc Cert.AdCw.nD Cert.AdCw.τ Cert.AdCw.sig) → Buf (Elt Bits) ℓ) (g : Dev Cert.AdCw.nD → PrngReg), Pre_AdCw m →
    θ_run (Cert.AdCw.defs (F := Bits)) (onTc (τ := Cert.AdCw.τ) (Cert.AdCw.main (F := Bits))) ⟨m, fun _ => 0, g⟩ (fun r => (∀ c : Dev Cert.AdCw.nD,
      r.2.mem ((c.tc : Thread Cert.AdCw.nD Cert.AdCw.τ).loc Cert.AdCw.main_arg0) = m ((c.tc : Thread Cert.AdCw.nD Cert.AdCw.τ).loc Cert.AdCw.main_arg0)
      ∧ r.2.mem ((c.tc : Thread Cert.AdCw.nD Cert.AdCw.τ).loc Cert.AdCw.main_arg1) = m ((c.tc : Thread Cert.AdCw.nD Cert.AdCw.τ).loc Cert.AdCw.main_arg1)
      ∧ r.2.mem ((c.tc : Thread Cert.AdCw.nD Cert.AdCw.τ).loc Cert.AdCw.main_arg2) = m ((c.tc : Thread Cert.AdCw.nD Cert.AdCw.τ).loc Cert.AdCw.main_arg2)
      ∧ r.2.mem ((c.tc : Thread Cert.AdCw.nD Cert.AdCw.τ).loc Cert.AdCw.main_arg3) = m ((c.tc : Thread Cert.AdCw.nD Cert.AdCw.τ).loc Cert.AdCw.main_arg3))
      ∧ r.2.sem = fun _ => 0)

def quiescent_AdCwIdeal [hAdCwIdeal : Cert.AdCwIdeal.Facts] : Prop :=
  ∀ (m : (ℓ : Loc Cert.AdCwIdeal.nD Cert.AdCwIdeal.τ Cert.AdCwIdeal.sig) → Buf (Elt Ideal) ℓ) (g : Dev Cert.AdCwIdeal.nD → PrngReg), Pre_AdCwIdeal m →
    θ_run (Cert.AdCwIdeal.defs (F := Ideal)) (onTc (τ := Cert.AdCwIdeal.τ) (Cert.AdCwIdeal.main (F := Ideal))) ⟨m, fun _ => 0, g⟩ (fun r => (∀ c : Dev Cert.AdCwIdeal.nD,
      r.2.mem ((c.tc : Thread Cert.AdCwIdeal.nD Cert.AdCwIdeal.τ).loc Cert.AdCwIdeal.main_arg0) = m ((c.tc : Thread Cert.AdCwIdeal.nD Cert.AdCwIdeal.τ).loc Cert.AdCwIdeal.main_arg0)
      ∧ r.2.mem ((c.tc : Thread Cert.AdCwIdeal.nD Cert.AdCwIdeal.τ).loc Cert.AdCwIdeal.main_arg1) = m ((c.tc : Thread Cert.AdCwIdeal.nD Cert.AdCwIdeal.τ).loc Cert.AdCwIdeal.main_arg1)
      ∧ r.2.mem ((c.tc : Thread Cert.AdCwIdeal.nD Cert.AdCwIdeal.τ).loc Cert.AdCwIdeal.main_arg2) = m ((c.tc : Thread Cert.AdCwIdeal.nD Cert.AdCwIdeal.τ).loc Cert.AdCwIdeal.main_arg2)
      ∧ r.2.mem ((c.tc : Thread Cert.AdCwIdeal.nD Cert.AdCwIdeal.τ).loc Cert.AdCwIdeal.main_arg3) = m ((c.tc : Thread Cert.AdCwIdeal.nD Cert.AdCwIdeal.τ).loc Cert.AdCwIdeal.main_arg3))
      ∧ r.2.sem = fun _ => 0)

def quiescent_AdCwRefIdeal [hAdCwRefIdeal : Cert.AdCwRefIdeal.Facts] : Prop :=
  ∀ (m : (ℓ : Loc Cert.AdCwRefIdeal.nD Cert.AdCwRefIdeal.τ Cert.AdCwRefIdeal.sig) → Buf (Elt Ideal) ℓ) (g : Dev Cert.AdCwRefIdeal.nD → PrngReg), Pre_AdCwRefIdeal m →
    θ_run (Cert.AdCwRefIdeal.defs (F := Ideal)) (onTc (τ := Cert.AdCwRefIdeal.τ) (Cert.AdCwRefIdeal.main (F := Ideal))) ⟨m, fun _ => 0, g⟩ (fun r => (∀ c : Dev Cert.AdCwRefIdeal.nD,
      r.2.mem ((c.tc : Thread Cert.AdCwRefIdeal.nD Cert.AdCwRefIdeal.τ).loc Cert.AdCwRefIdeal.main_arg0) = m ((c.tc : Thread Cert.AdCwRefIdeal.nD Cert.AdCwRefIdeal.τ).loc Cert.AdCwRefIdeal.main_arg0)
      ∧ r.2.mem ((c.tc : Thread Cert.AdCwRefIdeal.nD Cert.AdCwRefIdeal.τ).loc Cert.AdCwRefIdeal.main_arg1) = m ((c.tc : Thread Cert.AdCwRefIdeal.nD Cert.AdCwRefIdeal.τ).loc Cert.AdCwRefIdeal.main_arg1)
      ∧ r.2.mem ((c.tc : Thread Cert.AdCwRefIdeal.nD Cert.AdCwRefIdeal.τ).loc Cert.AdCwRefIdeal.main_arg2) = m ((c.tc : Thread Cert.AdCwRefIdeal.nD Cert.AdCwRefIdeal.τ).loc Cert.AdCwRefIdeal.main_arg2)
      ∧ r.2.mem ((c.tc : Thread Cert.AdCwRefIdeal.nD Cert.AdCwRefIdeal.τ).loc Cert.AdCwRefIdeal.main_arg3) = m ((c.tc : Thread Cert.AdCwRefIdeal.nD Cert.AdCwRefIdeal.τ).loc Cert.AdCwRefIdeal.main_arg3))
      ∧ r.2.sem = fun _ => 0)

def quiescent_AdPre [hAdPre : Cert.AdPre.Facts] : Prop :=
  ∀ (m : (ℓ : Loc Cert.AdPre.nD Cert.AdPre.τ Cert.AdPre.sig) → Buf (Elt Bits) ℓ) (g : Dev Cert.AdPre.nD → PrngReg), Pre_AdPre m →
    θ_run (Cert.AdPre.defs (F := Bits)) (onTc (τ := Cert.AdPre.τ) (Cert.AdPre.main (F := Bits))) ⟨m, fun _ => 0, g⟩ (fun r => (∀ c : Dev Cert.AdPre.nD,
      r.2.mem ((c.tc : Thread Cert.AdPre.nD Cert.AdPre.τ).loc Cert.AdPre.main_arg0) = m ((c.tc : Thread Cert.AdPre.nD Cert.AdPre.τ).loc Cert.AdPre.main_arg0)
      ∧ r.2.mem ((c.tc : Thread Cert.AdPre.nD Cert.AdPre.τ).loc Cert.AdPre.main_arg1) = m ((c.tc : Thread Cert.AdPre.nD Cert.AdPre.τ).loc Cert.AdPre.main_arg1)
      ∧ r.2.mem ((c.tc : Thread Cert.AdPre.nD Cert.AdPre.τ).loc Cert.AdPre.main_arg2) = m ((c.tc : Thread Cert.AdPre.nD Cert.AdPre.τ).loc Cert.AdPre.main_arg2)
      ∧ r.2.mem ((c.tc : Thread Cert.AdPre.nD Cert.AdPre.τ).loc Cert.AdPre.main_arg3) = m ((c.tc : Thread Cert.AdPre.nD Cert.AdPre.τ).loc Cert.AdPre.main_arg3))
      ∧ r.2.sem = fun _ => 0)

def quiescent_AdPreIdeal [hAdPreIdeal : Cert.AdPreIdeal.Facts] : Prop :=
  ∀ (m : (ℓ : Loc Cert.AdPreIdeal.nD Cert.AdPreIdeal.τ Cert.AdPreIdeal.sig) → Buf (Elt Ideal) ℓ) (g : Dev Cert.AdPreIdeal.nD → PrngReg), Pre_AdPreIdeal m →
    θ_run (Cert.AdPreIdeal.defs (F := Ideal)) (onTc (τ := Cert.AdPreIdeal.τ) (Cert.AdPreIdeal.main (F := Ideal))) ⟨m, fun _ => 0, g⟩ (fun r => (∀ c : Dev Cert.AdPreIdeal.nD,
      r.2.mem ((c.tc : Thread Cert.AdPreIdeal.nD Cert.AdPreIdeal.τ).loc Cert.AdPreIdeal.main_arg0) = m ((c.tc : Thread Cert.AdPreIdeal.nD Cert.AdPreIdeal.τ).loc Cert.AdPreIdeal.main_arg0)
      ∧ r.2.mem ((c.tc : Thread Cert.AdPreIdeal.nD Cert.AdPreIdeal.τ).loc Cert.AdPreIdeal.main_arg1) = m ((c.tc : Thread Cert.AdPreIdeal.nD Cert.AdPreIdeal.τ).loc Cert.AdPreIdeal.main_arg1)
      ∧ r.2.mem ((c.tc : Thread Cert.AdPreIdeal.nD Cert.AdPreIdeal.τ).loc Cert.AdPreIdeal.main_arg2) = m ((c.tc : Thread Cert.AdPreIdeal.nD Cert.AdPreIdeal.τ).loc Cert.AdPreIdeal.main_arg2)
      ∧ r.2.mem ((c.tc : Thread Cert.AdPreIdeal.nD Cert.AdPreIdeal.τ).loc Cert.AdPreIdeal.main_arg3) = m ((c.tc : Thread Cert.AdPreIdeal.nD Cert.AdPreIdeal.τ).loc Cert.AdPreIdeal.main_arg3))
      ∧ r.2.sem = fun _ => 0)

def quiescent_AdPreRefIdeal [hAdPreRefIdeal : Cert.AdPreRefIdeal.Facts] : Prop :=
  ∀ (m : (ℓ : Loc Cert.AdPreRefIdeal.nD Cert.AdPreRefIdeal.τ Cert.AdPreRefIdeal.sig) → Buf (Elt Ideal) ℓ) (g : Dev Cert.AdPreRefIdeal.nD → PrngReg), Pre_AdPreRefIdeal m →
    θ_run (Cert.AdPreRefIdeal.defs (F := Ideal)) (onTc (τ := Cert.AdPreRefIdeal.τ) (Cert.AdPreRefIdeal.main (F := Ideal))) ⟨m, fun _ => 0, g⟩ (fun r => (∀ c : Dev Cert.AdPreRefIdeal.nD,
      r.2.mem ((c.tc : Thread Cert.AdPreRefIdeal.nD Cert.AdPreRefIdeal.τ).loc Cert.AdPreRefIdeal.main_arg0) = m ((c.tc : Thread Cert.AdPreRefIdeal.nD Cert.AdPreRefIdeal.τ).loc Cert.AdPreRefIdeal.main_arg0)
      ∧ r.2.mem ((c.tc : Thread Cert.AdPreRefIdeal.nD Cert.AdPreRefIdeal.τ).loc Cert.AdPreRefIdeal.main_arg1) = m ((c.tc : Thread Cert.AdPreRefIdeal.nD Cert.AdPreRefIdeal.τ).loc Cert.AdPreRefIdeal.main_arg1)
      ∧ r.2.mem ((c.tc : Thread Cert.AdPreRefIdeal.nD Cert.AdPreRefIdeal.τ).loc Cert.AdPreRefIdeal.main_arg2) = m ((c.tc : Thread Cert.AdPreRefIdeal.nD Cert.AdPreRefIdeal.τ).loc Cert.AdPreRefIdeal.main_arg2)
      ∧ r.2.mem ((c.tc : Thread Cert.AdPreRefIdeal.nD Cert.AdPreRefIdeal.τ).loc Cert.AdPreRefIdeal.main_arg3) = m ((c.tc : Thread Cert.AdPreRefIdeal.nD Cert.AdPreRefIdeal.τ).loc Cert.AdPreRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_AdSm [hAdSm : Cert.AdSm.Facts] : Prop :=
  ∀ (m : (ℓ : Loc Cert.AdSm.nD Cert.AdSm.τ Cert.AdSm.sig) → Buf (Elt Bits) ℓ) (g : Dev Cert.AdSm.nD → PrngReg), Pre_AdSm m →
    θ_run (Cert.AdSm.defs (F := Bits)) (onTc (τ := Cert.AdSm.τ) (Cert.AdSm.main (F := Bits))) ⟨m, fun _ => 0, g⟩ (fun r => (∀ c : Dev Cert.AdSm.nD,
      r.2.mem ((c.tc : Thread Cert.AdSm.nD Cert.AdSm.τ).loc Cert.AdSm.main_arg0) = m ((c.tc : Thread Cert.AdSm.nD Cert.AdSm.τ).loc Cert.AdSm.main_arg0)
      ∧ r.2.mem ((c.tc : Thread Cert.AdSm.nD Cert.AdSm.τ).loc Cert.AdSm.main_arg1) = m ((c.tc : Thread Cert.AdSm.nD Cert.AdSm.τ).loc Cert.AdSm.main_arg1)
      ∧ r.2.mem ((c.tc : Thread Cert.AdSm.nD Cert.AdSm.τ).loc Cert.AdSm.main_arg2) = m ((c.tc : Thread Cert.AdSm.nD Cert.AdSm.τ).loc Cert.AdSm.main_arg2)
      ∧ r.2.mem ((c.tc : Thread Cert.AdSm.nD Cert.AdSm.τ).loc Cert.AdSm.main_arg3) = m ((c.tc : Thread Cert.AdSm.nD Cert.AdSm.τ).loc Cert.AdSm.main_arg3)
      ∧ r.2.mem ((c.tc : Thread Cert.AdSm.nD Cert.AdSm.τ).loc Cert.AdSm.main_arg4) = m ((c.tc : Thread Cert.AdSm.nD Cert.AdSm.τ).loc Cert.AdSm.main_arg4)
      ∧ r.2.mem ((c.tc : Thread Cert.AdSm.nD Cert.AdSm.τ).loc Cert.AdSm.main_arg5) = m ((c.tc : Thread Cert.AdSm.nD Cert.AdSm.τ).loc Cert.AdSm.main_arg5)
      ∧ r.2.mem ((c.tc : Thread Cert.AdSm.nD Cert.AdSm.τ).loc Cert.AdSm.main_arg6) = m ((c.tc : Thread Cert.AdSm.nD Cert.AdSm.τ).loc Cert.AdSm.main_arg6)
      ∧ r.2.mem ((c.tc : Thread Cert.AdSm.nD Cert.AdSm.τ).loc Cert.AdSm.main_arg7) = m ((c.tc : Thread Cert.AdSm.nD Cert.AdSm.τ).loc Cert.AdSm.main_arg7)
      ∧ r.2.mem ((c.tc : Thread Cert.AdSm.nD Cert.AdSm.τ).loc Cert.AdSm.main_arg8) = m ((c.tc : Thread Cert.AdSm.nD Cert.AdSm.τ).loc Cert.AdSm.main_arg8)
      ∧ r.2.mem ((c.tc : Thread Cert.AdSm.nD Cert.AdSm.τ).loc Cert.AdSm.main_arg9) = m ((c.tc : Thread Cert.AdSm.nD Cert.AdSm.τ).loc Cert.AdSm.main_arg9)
      ∧ r.2.mem ((c.tc : Thread Cert.AdSm.nD Cert.AdSm.τ).loc Cert.AdSm.main_arg10) = m ((c.tc : Thread Cert.AdSm.nD Cert.AdSm.τ).loc Cert.AdSm.main_arg10)
      ∧ r.2.mem ((c.tc : Thread Cert.AdSm.nD Cert.AdSm.τ).loc Cert.AdSm.main_arg11) = m ((c.tc : Thread Cert.AdSm.nD Cert.AdSm.τ).loc Cert.AdSm.main_arg11)
      ∧ r.2.mem ((c.tc : Thread Cert.AdSm.nD Cert.AdSm.τ).loc Cert.AdSm.main_arg12) = m ((c.tc : Thread Cert.AdSm.nD Cert.AdSm.τ).loc Cert.AdSm.main_arg12)
      ∧ r.2.mem ((c.tc : Thread Cert.AdSm.nD Cert.AdSm.τ).loc Cert.AdSm.main_arg13) = m ((c.tc : Thread Cert.AdSm.nD Cert.AdSm.τ).loc Cert.AdSm.main_arg13)
      ∧ r.2.mem ((c.tc : Thread Cert.AdSm.nD Cert.AdSm.τ).loc Cert.AdSm.main_arg14) = m ((c.tc : Thread Cert.AdSm.nD Cert.AdSm.τ).loc Cert.AdSm.main_arg14)
      ∧ r.2.mem ((c.tc : Thread Cert.AdSm.nD Cert.AdSm.τ).loc Cert.AdSm.main_arg15) = m ((c.tc : Thread Cert.AdSm.nD Cert.AdSm.τ).loc Cert.AdSm.main_arg15)
      ∧ r.2.mem ((c.tc : Thread Cert.AdSm.nD Cert.AdSm.τ).loc Cert.AdSm.main_arg16) = m ((c.tc : Thread Cert.AdSm.nD Cert.AdSm.τ).loc Cert.AdSm.main_arg16)
      ∧ r.2.mem ((c.tc : Thread Cert.AdSm.nD Cert.AdSm.τ).loc Cert.AdSm.main_arg17) = m ((c.tc : Thread Cert.AdSm.nD Cert.AdSm.τ).loc Cert.AdSm.main_arg17)
      ∧ r.2.mem ((c.tc : Thread Cert.AdSm.nD Cert.AdSm.τ).loc Cert.AdSm.main_arg18) = m ((c.tc : Thread Cert.AdSm.nD Cert.AdSm.τ).loc Cert.AdSm.main_arg18)
      ∧ r.2.mem ((c.tc : Thread Cert.AdSm.nD Cert.AdSm.τ).loc Cert.AdSm.main_arg19) = m ((c.tc : Thread Cert.AdSm.nD Cert.AdSm.τ).loc Cert.AdSm.main_arg19)
      ∧ r.2.mem ((c.tc : Thread Cert.AdSm.nD Cert.AdSm.τ).loc Cert.AdSm.main_arg20) = m ((c.tc : Thread Cert.AdSm.nD Cert.AdSm.τ).loc Cert.AdSm.main_arg20)
      ∧ r.2.mem ((c.tc : Thread Cert.AdSm.nD Cert.AdSm.τ).loc Cert.AdSm.main_arg21) = m ((c.tc : Thread Cert.AdSm.nD Cert.AdSm.τ).loc Cert.AdSm.main_arg21)
      ∧ r.2.mem ((c.tc : Thread Cert.AdSm.nD Cert.AdSm.τ).loc Cert.AdSm.main_arg22) = m ((c.tc : Thread Cert.AdSm.nD Cert.AdSm.τ).loc Cert.AdSm.main_arg22)
      ∧ r.2.mem ((c.tc : Thread Cert.AdSm.nD Cert.AdSm.τ).loc Cert.AdSm.main_arg23) = m ((c.tc : Thread Cert.AdSm.nD Cert.AdSm.τ).loc Cert.AdSm.main_arg23)
      ∧ r.2.mem ((c.tc : Thread Cert.AdSm.nD Cert.AdSm.τ).loc Cert.AdSm.main_arg24) = m ((c.tc : Thread Cert.AdSm.nD Cert.AdSm.τ).loc Cert.AdSm.main_arg24)
      ∧ r.2.mem ((c.tc : Thread Cert.AdSm.nD Cert.AdSm.τ).loc Cert.AdSm.main_arg25) = m ((c.tc : Thread Cert.AdSm.nD Cert.AdSm.τ).loc Cert.AdSm.main_arg25)
      ∧ r.2.mem ((c.tc : Thread Cert.AdSm.nD Cert.AdSm.τ).loc Cert.AdSm.main_arg26) = m ((c.tc : Thread Cert.AdSm.nD Cert.AdSm.τ).loc Cert.AdSm.main_arg26)
      ∧ r.2.mem ((c.tc : Thread Cert.AdSm.nD Cert.AdSm.τ).loc Cert.AdSm.main_arg27) = m ((c.tc : Thread Cert.AdSm.nD Cert.AdSm.τ).loc Cert.AdSm.main_arg27)
      ∧ r.2.mem ((c.tc : Thread Cert.AdSm.nD Cert.AdSm.τ).loc Cert.AdSm.main_arg28) = m ((c.tc : Thread Cert.AdSm.nD Cert.AdSm.τ).loc Cert.AdSm.main_arg28)
      ∧ r.2.mem ((c.tc : Thread Cert.AdSm.nD Cert.AdSm.τ).loc Cert.AdSm.main_arg29) = m ((c.tc : Thread Cert.AdSm.nD Cert.AdSm.τ).loc Cert.AdSm.main_arg29)
      ∧ r.2.mem ((c.tc : Thread Cert.AdSm.nD Cert.AdSm.τ).loc Cert.AdSm.main_arg30) = m ((c.tc : Thread Cert.AdSm.nD Cert.AdSm.τ).loc Cert.AdSm.main_arg30)
      ∧ r.2.mem ((c.tc : Thread Cert.AdSm.nD Cert.AdSm.τ).loc Cert.AdSm.main_arg31) = m ((c.tc : Thread Cert.AdSm.nD Cert.AdSm.τ).loc Cert.AdSm.main_arg31)
      ∧ r.2.mem ((c.tc : Thread Cert.AdSm.nD Cert.AdSm.τ).loc Cert.AdSm.main_arg32) = m ((c.tc : Thread Cert.AdSm.nD Cert.AdSm.τ).loc Cert.AdSm.main_arg32)
      ∧ r.2.mem ((c.tc : Thread Cert.AdSm.nD Cert.AdSm.τ).loc Cert.AdSm.main_arg33) = m ((c.tc : Thread Cert.AdSm.nD Cert.AdSm.τ).loc Cert.AdSm.main_arg33)
      ∧ r.2.mem ((c.tc : Thread Cert.AdSm.nD Cert.AdSm.τ).loc Cert.AdSm.main_arg34) = m ((c.tc : Thread Cert.AdSm.nD Cert.AdSm.τ).loc Cert.AdSm.main_arg34)
      ∧ r.2.mem ((c.tc : Thread Cert.AdSm.nD Cert.AdSm.τ).loc Cert.AdSm.main_arg35) = m ((c.tc : Thread Cert.AdSm.nD Cert.AdSm.τ).loc Cert.AdSm.main_arg35)
      ∧ r.2.mem ((c.tc : Thread Cert.AdSm.nD Cert.AdSm.τ).loc Cert.AdSm.main_arg36) = m ((c.tc : Thread Cert.AdSm.nD Cert.AdSm.τ).loc Cert.AdSm.main_arg36)
      ∧ r.2.mem ((c.tc : Thread Cert.AdSm.nD Cert.AdSm.τ).loc Cert.AdSm.main_arg37) = m ((c.tc : Thread Cert.AdSm.nD Cert.AdSm.τ).loc Cert.AdSm.main_arg37)
      ∧ r.2.mem ((c.tc : Thread Cert.AdSm.nD Cert.AdSm.τ).loc Cert.AdSm.main_arg38) = m ((c.tc : Thread Cert.AdSm.nD Cert.AdSm.τ).loc Cert.AdSm.main_arg38)
      ∧ r.2.mem ((c.tc : Thread Cert.AdSm.nD Cert.AdSm.τ).loc Cert.AdSm.main_arg39) = m ((c.tc : Thread Cert.AdSm.nD Cert.AdSm.τ).loc Cert.AdSm.main_arg39))
      ∧ r.2.sem = fun _ => 0)

def quiescent_AdSmIdeal [hAdSmIdeal : Cert.AdSmIdeal.Facts] : Prop :=
  ∀ (m : (ℓ : Loc Cert.AdSmIdeal.nD Cert.AdSmIdeal.τ Cert.AdSmIdeal.sig) → Buf (Elt Ideal) ℓ) (g : Dev Cert.AdSmIdeal.nD → PrngReg), Pre_AdSmIdeal m →
    θ_run (Cert.AdSmIdeal.defs (F := Ideal)) (onTc (τ := Cert.AdSmIdeal.τ) (Cert.AdSmIdeal.main (F := Ideal))) ⟨m, fun _ => 0, g⟩ (fun r => (∀ c : Dev Cert.AdSmIdeal.nD,
      r.2.mem ((c.tc : Thread Cert.AdSmIdeal.nD Cert.AdSmIdeal.τ).loc Cert.AdSmIdeal.main_arg0) = m ((c.tc : Thread Cert.AdSmIdeal.nD Cert.AdSmIdeal.τ).loc Cert.AdSmIdeal.main_arg0)
      ∧ r.2.mem ((c.tc : Thread Cert.AdSmIdeal.nD Cert.AdSmIdeal.τ).loc Cert.AdSmIdeal.main_arg1) = m ((c.tc : Thread Cert.AdSmIdeal.nD Cert.AdSmIdeal.τ).loc Cert.AdSmIdeal.main_arg1)
      ∧ r.2.mem ((c.tc : Thread Cert.AdSmIdeal.nD Cert.AdSmIdeal.τ).loc Cert.AdSmIdeal.main_arg2) = m ((c.tc : Thread Cert.AdSmIdeal.nD Cert.AdSmIdeal.τ).loc Cert.AdSmIdeal.main_arg2)
      ∧ r.2.mem ((c.tc : Thread Cert.AdSmIdeal.nD Cert.AdSmIdeal.τ).loc Cert.AdSmIdeal.main_arg3) = m ((c.tc : Thread Cert.AdSmIdeal.nD Cert.AdSmIdeal.τ).loc Cert.AdSmIdeal.main_arg3)
      ∧ r.2.mem ((c.tc : Thread Cert.AdSmIdeal.nD Cert.AdSmIdeal.τ).loc Cert.AdSmIdeal.main_arg4) = m ((c.tc : Thread Cert.AdSmIdeal.nD Cert.AdSmIdeal.τ).loc Cert.AdSmIdeal.main_arg4)
      ∧ r.2.mem ((c.tc : Thread Cert.AdSmIdeal.nD Cert.AdSmIdeal.τ).loc Cert.AdSmIdeal.main_arg5) = m ((c.tc : Thread Cert.AdSmIdeal.nD Cert.AdSmIdeal.τ).loc Cert.AdSmIdeal.main_arg5)
      ∧ r.2.mem ((c.tc : Thread Cert.AdSmIdeal.nD Cert.AdSmIdeal.τ).loc Cert.AdSmIdeal.main_arg6) = m ((c.tc : Thread Cert.AdSmIdeal.nD Cert.AdSmIdeal.τ).loc Cert.AdSmIdeal.main_arg6)
      ∧ r.2.mem ((c.tc : Thread Cert.AdSmIdeal.nD Cert.AdSmIdeal.τ).loc Cert.AdSmIdeal.main_arg7) = m ((c.tc : Thread Cert.AdSmIdeal.nD Cert.AdSmIdeal.τ).loc Cert.AdSmIdeal.main_arg7)
      ∧ r.2.mem ((c.tc : Thread Cert.AdSmIdeal.nD Cert.AdSmIdeal.τ).loc Cert.AdSmIdeal.main_arg8) = m ((c.tc : Thread Cert.AdSmIdeal.nD Cert.AdSmIdeal.τ).loc Cert.AdSmIdeal.main_arg8)
      ∧ r.2.mem ((c.tc : Thread Cert.AdSmIdeal.nD Cert.AdSmIdeal.τ).loc Cert.AdSmIdeal.main_arg9) = m ((c.tc : Thread Cert.AdSmIdeal.nD Cert.AdSmIdeal.τ).loc Cert.AdSmIdeal.main_arg9)
      ∧ r.2.mem ((c.tc : Thread Cert.AdSmIdeal.nD Cert.AdSmIdeal.τ).loc Cert.AdSmIdeal.main_arg10) = m ((c.tc : Thread Cert.AdSmIdeal.nD Cert.AdSmIdeal.τ).loc Cert.AdSmIdeal.main_arg10)
      ∧ r.2.mem ((c.tc : Thread Cert.AdSmIdeal.nD Cert.AdSmIdeal.τ).loc Cert.AdSmIdeal.main_arg11) = m ((c.tc : Thread Cert.AdSmIdeal.nD Cert.AdSmIdeal.τ).loc Cert.AdSmIdeal.main_arg11)
      ∧ r.2.mem ((c.tc : Thread Cert.AdSmIdeal.nD Cert.AdSmIdeal.τ).loc Cert.AdSmIdeal.main_arg12) = m ((c.tc : Thread Cert.AdSmIdeal.nD Cert.AdSmIdeal.τ).loc Cert.AdSmIdeal.main_arg12)
      ∧ r.2.mem ((c.tc : Thread Cert.AdSmIdeal.nD Cert.AdSmIdeal.τ).loc Cert.AdSmIdeal.main_arg13) = m ((c.tc : Thread Cert.AdSmIdeal.nD Cert.AdSmIdeal.τ).loc Cert.AdSmIdeal.main_arg13)
      ∧ r.2.mem ((c.tc : Thread Cert.AdSmIdeal.nD Cert.AdSmIdeal.τ).loc Cert.AdSmIdeal.main_arg14) = m ((c.tc : Thread Cert.AdSmIdeal.nD Cert.AdSmIdeal.τ).loc Cert.AdSmIdeal.main_arg14)
      ∧ r.2.mem ((c.tc : Thread Cert.AdSmIdeal.nD Cert.AdSmIdeal.τ).loc Cert.AdSmIdeal.main_arg15) = m ((c.tc : Thread Cert.AdSmIdeal.nD Cert.AdSmIdeal.τ).loc Cert.AdSmIdeal.main_arg15)
      ∧ r.2.mem ((c.tc : Thread Cert.AdSmIdeal.nD Cert.AdSmIdeal.τ).loc Cert.AdSmIdeal.main_arg16) = m ((c.tc : Thread Cert.AdSmIdeal.nD Cert.AdSmIdeal.τ).loc Cert.AdSmIdeal.main_arg16)
      ∧ r.2.mem ((c.tc : Thread Cert.AdSmIdeal.nD Cert.AdSmIdeal.τ).loc Cert.AdSmIdeal.main_arg17) = m ((c.tc : Thread Cert.AdSmIdeal.nD Cert.AdSmIdeal.τ).loc Cert.AdSmIdeal.main_arg17)
      ∧ r.2.mem ((c.tc : Thread Cert.AdSmIdeal.nD Cert.AdSmIdeal.τ).loc Cert.AdSmIdeal.main_arg18) = m ((c.tc : Thread Cert.AdSmIdeal.nD Cert.AdSmIdeal.τ).loc Cert.AdSmIdeal.main_arg18)
      ∧ r.2.mem ((c.tc : Thread Cert.AdSmIdeal.nD Cert.AdSmIdeal.τ).loc Cert.AdSmIdeal.main_arg19) = m ((c.tc : Thread Cert.AdSmIdeal.nD Cert.AdSmIdeal.τ).loc Cert.AdSmIdeal.main_arg19)
      ∧ r.2.mem ((c.tc : Thread Cert.AdSmIdeal.nD Cert.AdSmIdeal.τ).loc Cert.AdSmIdeal.main_arg20) = m ((c.tc : Thread Cert.AdSmIdeal.nD Cert.AdSmIdeal.τ).loc Cert.AdSmIdeal.main_arg20)
      ∧ r.2.mem ((c.tc : Thread Cert.AdSmIdeal.nD Cert.AdSmIdeal.τ).loc Cert.AdSmIdeal.main_arg21) = m ((c.tc : Thread Cert.AdSmIdeal.nD Cert.AdSmIdeal.τ).loc Cert.AdSmIdeal.main_arg21)
      ∧ r.2.mem ((c.tc : Thread Cert.AdSmIdeal.nD Cert.AdSmIdeal.τ).loc Cert.AdSmIdeal.main_arg22) = m ((c.tc : Thread Cert.AdSmIdeal.nD Cert.AdSmIdeal.τ).loc Cert.AdSmIdeal.main_arg22)
      ∧ r.2.mem ((c.tc : Thread Cert.AdSmIdeal.nD Cert.AdSmIdeal.τ).loc Cert.AdSmIdeal.main_arg23) = m ((c.tc : Thread Cert.AdSmIdeal.nD Cert.AdSmIdeal.τ).loc Cert.AdSmIdeal.main_arg23)
      ∧ r.2.mem ((c.tc : Thread Cert.AdSmIdeal.nD Cert.AdSmIdeal.τ).loc Cert.AdSmIdeal.main_arg24) = m ((c.tc : Thread Cert.AdSmIdeal.nD Cert.AdSmIdeal.τ).loc Cert.AdSmIdeal.main_arg24)
      ∧ r.2.mem ((c.tc : Thread Cert.AdSmIdeal.nD Cert.AdSmIdeal.τ).loc Cert.AdSmIdeal.main_arg25) = m ((c.tc : Thread Cert.AdSmIdeal.nD Cert.AdSmIdeal.τ).loc Cert.AdSmIdeal.main_arg25)
      ∧ r.2.mem ((c.tc : Thread Cert.AdSmIdeal.nD Cert.AdSmIdeal.τ).loc Cert.AdSmIdeal.main_arg26) = m ((c.tc : Thread Cert.AdSmIdeal.nD Cert.AdSmIdeal.τ).loc Cert.AdSmIdeal.main_arg26)
      ∧ r.2.mem ((c.tc : Thread Cert.AdSmIdeal.nD Cert.AdSmIdeal.τ).loc Cert.AdSmIdeal.main_arg27) = m ((c.tc : Thread Cert.AdSmIdeal.nD Cert.AdSmIdeal.τ).loc Cert.AdSmIdeal.main_arg27)
      ∧ r.2.mem ((c.tc : Thread Cert.AdSmIdeal.nD Cert.AdSmIdeal.τ).loc Cert.AdSmIdeal.main_arg28) = m ((c.tc : Thread Cert.AdSmIdeal.nD Cert.AdSmIdeal.τ).loc Cert.AdSmIdeal.main_arg28)
      ∧ r.2.mem ((c.tc : Thread Cert.AdSmIdeal.nD Cert.AdSmIdeal.τ).loc Cert.AdSmIdeal.main_arg29) = m ((c.tc : Thread Cert.AdSmIdeal.nD Cert.AdSmIdeal.τ).loc Cert.AdSmIdeal.main_arg29)
      ∧ r.2.mem ((c.tc : Thread Cert.AdSmIdeal.nD Cert.AdSmIdeal.τ).loc Cert.AdSmIdeal.main_arg30) = m ((c.tc : Thread Cert.AdSmIdeal.nD Cert.AdSmIdeal.τ).loc Cert.AdSmIdeal.main_arg30)
      ∧ r.2.mem ((c.tc : Thread Cert.AdSmIdeal.nD Cert.AdSmIdeal.τ).loc Cert.AdSmIdeal.main_arg31) = m ((c.tc : Thread Cert.AdSmIdeal.nD Cert.AdSmIdeal.τ).loc Cert.AdSmIdeal.main_arg31)
      ∧ r.2.mem ((c.tc : Thread Cert.AdSmIdeal.nD Cert.AdSmIdeal.τ).loc Cert.AdSmIdeal.main_arg32) = m ((c.tc : Thread Cert.AdSmIdeal.nD Cert.AdSmIdeal.τ).loc Cert.AdSmIdeal.main_arg32)
      ∧ r.2.mem ((c.tc : Thread Cert.AdSmIdeal.nD Cert.AdSmIdeal.τ).loc Cert.AdSmIdeal.main_arg33) = m ((c.tc : Thread Cert.AdSmIdeal.nD Cert.AdSmIdeal.τ).loc Cert.AdSmIdeal.main_arg33)
      ∧ r.2.mem ((c.tc : Thread Cert.AdSmIdeal.nD Cert.AdSmIdeal.τ).loc Cert.AdSmIdeal.main_arg34) = m ((c.tc : Thread Cert.AdSmIdeal.nD Cert.AdSmIdeal.τ).loc Cert.AdSmIdeal.main_arg34)
      ∧ r.2.mem ((c.tc : Thread Cert.AdSmIdeal.nD Cert.AdSmIdeal.τ).loc Cert.AdSmIdeal.main_arg35) = m ((c.tc : Thread Cert.AdSmIdeal.nD Cert.AdSmIdeal.τ).loc Cert.AdSmIdeal.main_arg35)
      ∧ r.2.mem ((c.tc : Thread Cert.AdSmIdeal.nD Cert.AdSmIdeal.τ).loc Cert.AdSmIdeal.main_arg36) = m ((c.tc : Thread Cert.AdSmIdeal.nD Cert.AdSmIdeal.τ).loc Cert.AdSmIdeal.main_arg36)
      ∧ r.2.mem ((c.tc : Thread Cert.AdSmIdeal.nD Cert.AdSmIdeal.τ).loc Cert.AdSmIdeal.main_arg37) = m ((c.tc : Thread Cert.AdSmIdeal.nD Cert.AdSmIdeal.τ).loc Cert.AdSmIdeal.main_arg37)
      ∧ r.2.mem ((c.tc : Thread Cert.AdSmIdeal.nD Cert.AdSmIdeal.τ).loc Cert.AdSmIdeal.main_arg38) = m ((c.tc : Thread Cert.AdSmIdeal.nD Cert.AdSmIdeal.τ).loc Cert.AdSmIdeal.main_arg38)
      ∧ r.2.mem ((c.tc : Thread Cert.AdSmIdeal.nD Cert.AdSmIdeal.τ).loc Cert.AdSmIdeal.main_arg39) = m ((c.tc : Thread Cert.AdSmIdeal.nD Cert.AdSmIdeal.τ).loc Cert.AdSmIdeal.main_arg39))
      ∧ r.2.sem = fun _ => 0)

def quiescent_AdSmRefIdeal [hAdSmRefIdeal : Cert.AdSmRefIdeal.Facts] : Prop :=
  ∀ (m : (ℓ : Loc Cert.AdSmRefIdeal.nD Cert.AdSmRefIdeal.τ Cert.AdSmRefIdeal.sig) → Buf (Elt Ideal) ℓ) (g : Dev Cert.AdSmRefIdeal.nD → PrngReg), Pre_AdSmRefIdeal m →
    θ_run (Cert.AdSmRefIdeal.defs (F := Ideal)) (onTc (τ := Cert.AdSmRefIdeal.τ) (Cert.AdSmRefIdeal.main (F := Ideal))) ⟨m, fun _ => 0, g⟩ (fun r => (∀ c : Dev Cert.AdSmRefIdeal.nD,
      r.2.mem ((c.tc : Thread Cert.AdSmRefIdeal.nD Cert.AdSmRefIdeal.τ).loc Cert.AdSmRefIdeal.main_arg0) = m ((c.tc : Thread Cert.AdSmRefIdeal.nD Cert.AdSmRefIdeal.τ).loc Cert.AdSmRefIdeal.main_arg0)
      ∧ r.2.mem ((c.tc : Thread Cert.AdSmRefIdeal.nD Cert.AdSmRefIdeal.τ).loc Cert.AdSmRefIdeal.main_arg1) = m ((c.tc : Thread Cert.AdSmRefIdeal.nD Cert.AdSmRefIdeal.τ).loc Cert.AdSmRefIdeal.main_arg1)
      ∧ r.2.mem ((c.tc : Thread Cert.AdSmRefIdeal.nD Cert.AdSmRefIdeal.τ).loc Cert.AdSmRefIdeal.main_arg2) = m ((c.tc : Thread Cert.AdSmRefIdeal.nD Cert.AdSmRefIdeal.τ).loc Cert.AdSmRefIdeal.main_arg2)
      ∧ r.2.mem ((c.tc : Thread Cert.AdSmRefIdeal.nD Cert.AdSmRefIdeal.τ).loc Cert.AdSmRefIdeal.main_arg3) = m ((c.tc : Thread Cert.AdSmRefIdeal.nD Cert.AdSmRefIdeal.τ).loc Cert.AdSmRefIdeal.main_arg3)
      ∧ r.2.mem ((c.tc : Thread Cert.AdSmRefIdeal.nD Cert.AdSmRefIdeal.τ).loc Cert.AdSmRefIdeal.main_arg4) = m ((c.tc : Thread Cert.AdSmRefIdeal.nD Cert.AdSmRefIdeal.τ).loc Cert.AdSmRefIdeal.main_arg4)
      ∧ r.2.mem ((c.tc : Thread Cert.AdSmRefIdeal.nD Cert.AdSmRefIdeal.τ).loc Cert.AdSmRefIdeal.main_arg5) = m ((c.tc : Thread Cert.AdSmRefIdeal.nD Cert.AdSmRefIdeal.τ).loc Cert.AdSmRefIdeal.main_arg5)
      ∧ r.2.mem ((c.tc : Thread Cert.AdSmRefIdeal.nD Cert.AdSmRefIdeal.τ).loc Cert.AdSmRefIdeal.main_arg6) = m ((c.tc : Thread Cert.AdSmRefIdeal.nD Cert.AdSmRefIdeal.τ).loc Cert.AdSmRefIdeal.main_arg6)
      ∧ r.2.mem ((c.tc : Thread Cert.AdSmRefIdeal.nD Cert.AdSmRefIdeal.τ).loc Cert.AdSmRefIdeal.main_arg7) = m ((c.tc : Thread Cert.AdSmRefIdeal.nD Cert.AdSmRefIdeal.τ).loc Cert.AdSmRefIdeal.main_arg7)
      ∧ r.2.mem ((c.tc : Thread Cert.AdSmRefIdeal.nD Cert.AdSmRefIdeal.τ).loc Cert.AdSmRefIdeal.main_arg8) = m ((c.tc : Thread Cert.AdSmRefIdeal.nD Cert.AdSmRefIdeal.τ).loc Cert.AdSmRefIdeal.main_arg8)
      ∧ r.2.mem ((c.tc : Thread Cert.AdSmRefIdeal.nD Cert.AdSmRefIdeal.τ).loc Cert.AdSmRefIdeal.main_arg9) = m ((c.tc : Thread Cert.AdSmRefIdeal.nD Cert.AdSmRefIdeal.τ).loc Cert.AdSmRefIdeal.main_arg9)
      ∧ r.2.mem ((c.tc : Thread Cert.AdSmRefIdeal.nD Cert.AdSmRefIdeal.τ).loc Cert.AdSmRefIdeal.main_arg10) = m ((c.tc : Thread Cert.AdSmRefIdeal.nD Cert.AdSmRefIdeal.τ).loc Cert.AdSmRefIdeal.main_arg10)
      ∧ r.2.mem ((c.tc : Thread Cert.AdSmRefIdeal.nD Cert.AdSmRefIdeal.τ).loc Cert.AdSmRefIdeal.main_arg11) = m ((c.tc : Thread Cert.AdSmRefIdeal.nD Cert.AdSmRefIdeal.τ).loc Cert.AdSmRefIdeal.main_arg11)
      ∧ r.2.mem ((c.tc : Thread Cert.AdSmRefIdeal.nD Cert.AdSmRefIdeal.τ).loc Cert.AdSmRefIdeal.main_arg12) = m ((c.tc : Thread Cert.AdSmRefIdeal.nD Cert.AdSmRefIdeal.τ).loc Cert.AdSmRefIdeal.main_arg12)
      ∧ r.2.mem ((c.tc : Thread Cert.AdSmRefIdeal.nD Cert.AdSmRefIdeal.τ).loc Cert.AdSmRefIdeal.main_arg13) = m ((c.tc : Thread Cert.AdSmRefIdeal.nD Cert.AdSmRefIdeal.τ).loc Cert.AdSmRefIdeal.main_arg13)
      ∧ r.2.mem ((c.tc : Thread Cert.AdSmRefIdeal.nD Cert.AdSmRefIdeal.τ).loc Cert.AdSmRefIdeal.main_arg14) = m ((c.tc : Thread Cert.AdSmRefIdeal.nD Cert.AdSmRefIdeal.τ).loc Cert.AdSmRefIdeal.main_arg14)
      ∧ r.2.mem ((c.tc : Thread Cert.AdSmRefIdeal.nD Cert.AdSmRefIdeal.τ).loc Cert.AdSmRefIdeal.main_arg15) = m ((c.tc : Thread Cert.AdSmRefIdeal.nD Cert.AdSmRefIdeal.τ).loc Cert.AdSmRefIdeal.main_arg15)
      ∧ r.2.mem ((c.tc : Thread Cert.AdSmRefIdeal.nD Cert.AdSmRefIdeal.τ).loc Cert.AdSmRefIdeal.main_arg16) = m ((c.tc : Thread Cert.AdSmRefIdeal.nD Cert.AdSmRefIdeal.τ).loc Cert.AdSmRefIdeal.main_arg16)
      ∧ r.2.mem ((c.tc : Thread Cert.AdSmRefIdeal.nD Cert.AdSmRefIdeal.τ).loc Cert.AdSmRefIdeal.main_arg17) = m ((c.tc : Thread Cert.AdSmRefIdeal.nD Cert.AdSmRefIdeal.τ).loc Cert.AdSmRefIdeal.main_arg17)
      ∧ r.2.mem ((c.tc : Thread Cert.AdSmRefIdeal.nD Cert.AdSmRefIdeal.τ).loc Cert.AdSmRefIdeal.main_arg18) = m ((c.tc : Thread Cert.AdSmRefIdeal.nD Cert.AdSmRefIdeal.τ).loc Cert.AdSmRefIdeal.main_arg18)
      ∧ r.2.mem ((c.tc : Thread Cert.AdSmRefIdeal.nD Cert.AdSmRefIdeal.τ).loc Cert.AdSmRefIdeal.main_arg19) = m ((c.tc : Thread Cert.AdSmRefIdeal.nD Cert.AdSmRefIdeal.τ).loc Cert.AdSmRefIdeal.main_arg19)
      ∧ r.2.mem ((c.tc : Thread Cert.AdSmRefIdeal.nD Cert.AdSmRefIdeal.τ).loc Cert.AdSmRefIdeal.main_arg20) = m ((c.tc : Thread Cert.AdSmRefIdeal.nD Cert.AdSmRefIdeal.τ).loc Cert.AdSmRefIdeal.main_arg20)
      ∧ r.2.mem ((c.tc : Thread Cert.AdSmRefIdeal.nD Cert.AdSmRefIdeal.τ).loc Cert.AdSmRefIdeal.main_arg21) = m ((c.tc : Thread Cert.AdSmRefIdeal.nD Cert.AdSmRefIdeal.τ).loc Cert.AdSmRefIdeal.main_arg21)
      ∧ r.2.mem ((c.tc : Thread Cert.AdSmRefIdeal.nD Cert.AdSmRefIdeal.τ).loc Cert.AdSmRefIdeal.main_arg22) = m ((c.tc : Thread Cert.AdSmRefIdeal.nD Cert.AdSmRefIdeal.τ).loc Cert.AdSmRefIdeal.main_arg22)
      ∧ r.2.mem ((c.tc : Thread Cert.AdSmRefIdeal.nD Cert.AdSmRefIdeal.τ).loc Cert.AdSmRefIdeal.main_arg23) = m ((c.tc : Thread Cert.AdSmRefIdeal.nD Cert.AdSmRefIdeal.τ).loc Cert.AdSmRefIdeal.main_arg23)
      ∧ r.2.mem ((c.tc : Thread Cert.AdSmRefIdeal.nD Cert.AdSmRefIdeal.τ).loc Cert.AdSmRefIdeal.main_arg24) = m ((c.tc : Thread Cert.AdSmRefIdeal.nD Cert.AdSmRefIdeal.τ).loc Cert.AdSmRefIdeal.main_arg24)
      ∧ r.2.mem ((c.tc : Thread Cert.AdSmRefIdeal.nD Cert.AdSmRefIdeal.τ).loc Cert.AdSmRefIdeal.main_arg25) = m ((c.tc : Thread Cert.AdSmRefIdeal.nD Cert.AdSmRefIdeal.τ).loc Cert.AdSmRefIdeal.main_arg25)
      ∧ r.2.mem ((c.tc : Thread Cert.AdSmRefIdeal.nD Cert.AdSmRefIdeal.τ).loc Cert.AdSmRefIdeal.main_arg26) = m ((c.tc : Thread Cert.AdSmRefIdeal.nD Cert.AdSmRefIdeal.τ).loc Cert.AdSmRefIdeal.main_arg26)
      ∧ r.2.mem ((c.tc : Thread Cert.AdSmRefIdeal.nD Cert.AdSmRefIdeal.τ).loc Cert.AdSmRefIdeal.main_arg27) = m ((c.tc : Thread Cert.AdSmRefIdeal.nD Cert.AdSmRefIdeal.τ).loc Cert.AdSmRefIdeal.main_arg27)
      ∧ r.2.mem ((c.tc : Thread Cert.AdSmRefIdeal.nD Cert.AdSmRefIdeal.τ).loc Cert.AdSmRefIdeal.main_arg28) = m ((c.tc : Thread Cert.AdSmRefIdeal.nD Cert.AdSmRefIdeal.τ).loc Cert.AdSmRefIdeal.main_arg28)
      ∧ r.2.mem ((c.tc : Thread Cert.AdSmRefIdeal.nD Cert.AdSmRefIdeal.τ).loc Cert.AdSmRefIdeal.main_arg29) = m ((c.tc : Thread Cert.AdSmRefIdeal.nD Cert.AdSmRefIdeal.τ).loc Cert.AdSmRefIdeal.main_arg29)
      ∧ r.2.mem ((c.tc : Thread Cert.AdSmRefIdeal.nD Cert.AdSmRefIdeal.τ).loc Cert.AdSmRefIdeal.main_arg30) = m ((c.tc : Thread Cert.AdSmRefIdeal.nD Cert.AdSmRefIdeal.τ).loc Cert.AdSmRefIdeal.main_arg30)
      ∧ r.2.mem ((c.tc : Thread Cert.AdSmRefIdeal.nD Cert.AdSmRefIdeal.τ).loc Cert.AdSmRefIdeal.main_arg31) = m ((c.tc : Thread Cert.AdSmRefIdeal.nD Cert.AdSmRefIdeal.τ).loc Cert.AdSmRefIdeal.main_arg31)
      ∧ r.2.mem ((c.tc : Thread Cert.AdSmRefIdeal.nD Cert.AdSmRefIdeal.τ).loc Cert.AdSmRefIdeal.main_arg32) = m ((c.tc : Thread Cert.AdSmRefIdeal.nD Cert.AdSmRefIdeal.τ).loc Cert.AdSmRefIdeal.main_arg32)
      ∧ r.2.mem ((c.tc : Thread Cert.AdSmRefIdeal.nD Cert.AdSmRefIdeal.τ).loc Cert.AdSmRefIdeal.main_arg33) = m ((c.tc : Thread Cert.AdSmRefIdeal.nD Cert.AdSmRefIdeal.τ).loc Cert.AdSmRefIdeal.main_arg33)
      ∧ r.2.mem ((c.tc : Thread Cert.AdSmRefIdeal.nD Cert.AdSmRefIdeal.τ).loc Cert.AdSmRefIdeal.main_arg34) = m ((c.tc : Thread Cert.AdSmRefIdeal.nD Cert.AdSmRefIdeal.τ).loc Cert.AdSmRefIdeal.main_arg34)
      ∧ r.2.mem ((c.tc : Thread Cert.AdSmRefIdeal.nD Cert.AdSmRefIdeal.τ).loc Cert.AdSmRefIdeal.main_arg35) = m ((c.tc : Thread Cert.AdSmRefIdeal.nD Cert.AdSmRefIdeal.τ).loc Cert.AdSmRefIdeal.main_arg35)
      ∧ r.2.mem ((c.tc : Thread Cert.AdSmRefIdeal.nD Cert.AdSmRefIdeal.τ).loc Cert.AdSmRefIdeal.main_arg36) = m ((c.tc : Thread Cert.AdSmRefIdeal.nD Cert.AdSmRefIdeal.τ).loc Cert.AdSmRefIdeal.main_arg36)
      ∧ r.2.mem ((c.tc : Thread Cert.AdSmRefIdeal.nD Cert.AdSmRefIdeal.τ).loc Cert.AdSmRefIdeal.main_arg37) = m ((c.tc : Thread Cert.AdSmRefIdeal.nD Cert.AdSmRefIdeal.τ).loc Cert.AdSmRefIdeal.main_arg37)
      ∧ r.2.mem ((c.tc : Thread Cert.AdSmRefIdeal.nD Cert.AdSmRefIdeal.τ).loc Cert.AdSmRefIdeal.main_arg38) = m ((c.tc : Thread Cert.AdSmRefIdeal.nD Cert.AdSmRefIdeal.τ).loc Cert.AdSmRefIdeal.main_arg38)
      ∧ r.2.mem ((c.tc : Thread Cert.AdSmRefIdeal.nD Cert.AdSmRefIdeal.τ).loc Cert.AdSmRefIdeal.main_arg39) = m ((c.tc : Thread Cert.AdSmRefIdeal.nD Cert.AdSmRefIdeal.τ).loc Cert.AdSmRefIdeal.main_arg39))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)) (v2 : (c : Dev Cert.TailIdeal.nD) → Buf (Elt Ideal) ((c.tc : Thread Cert.TailIdeal.nD Cert.TailIdeal.τ).loc Cert.TailIdeal.main_v5_2)) (v3 : (c : Dev Cert.TailIdeal.nD) → Buf (Elt Ideal) ((c.tc : Thread Cert.TailIdeal.nD Cert.TailIdeal.τ).loc Cert.TailIdeal.main_v5_3)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5_0) = v0 c
          ∧ r.2.mem ((c.tc : Thread Cert.TailIdeal.nD Cert.TailIdeal.τ).loc Cert.TailIdeal.main_v5_1) = v1 c
          ∧ r.2.mem ((c.tc : Thread Cert.TailIdeal.nD Cert.TailIdeal.τ).loc Cert.TailIdeal.main_v5_2) = v2 c
          ∧ r.2.mem ((c.tc : Thread Cert.TailIdeal.nD Cert.TailIdeal.τ).loc Cert.TailIdeal.main_v5_3) = v3 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v26) = v0 c
          ∧ r.2.mem ((c.tc : Thread Cert.TailRefIdeal.nD Cert.TailRefIdeal.τ).loc Cert.TailRefIdeal.main_v48) = v1 c
          ∧ r.2.mem ((c.tc : Thread Cert.TailRefIdeal.nD Cert.TailRefIdeal.τ).loc Cert.TailRefIdeal.main_v50) = v2 c
          ∧ r.2.mem ((c.tc : Thread Cert.TailRefIdeal.nD Cert.TailRefIdeal.τ).loc Cert.TailRefIdeal.main_v51) = v3 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)) (v2 : (c : Dev Cert.PleIdeal.nD) → Buf (Elt Ideal) ((c.tc : Thread Cert.PleIdeal.nD Cert.PleIdeal.τ).loc Cert.PleIdeal.main_v0_2)) (v3 : (c : Dev Cert.PleIdeal.nD) → Buf (Elt Ideal) ((c.tc : Thread Cert.PleIdeal.nD Cert.PleIdeal.τ).loc Cert.PleIdeal.main_v0_3)) (v4 : (c : Dev Cert.PleIdeal.nD) → Buf (Elt Ideal) ((c.tc : Thread Cert.PleIdeal.nD Cert.PleIdeal.τ).loc Cert.PleIdeal.main_v0_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_v0_2) = v2 c
          ∧ r.2.mem ((c.tc : Thread Cert.PleIdeal.nD Cert.PleIdeal.τ).loc Cert.PleIdeal.main_v0_3) = v3 c
          ∧ r.2.mem ((c.tc : Thread Cert.PleIdeal.nD Cert.PleIdeal.τ).loc Cert.PleIdeal.main_v0_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v31) = v0 c
          ∧ r.2.mem ((c.tc : Thread Cert.PleRefIdeal.nD Cert.PleRefIdeal.τ).loc Cert.PleRefIdeal.main_v40) = v1 c
          ∧ r.2.mem ((c.tc : Thread Cert.PleRefIdeal.nD Cert.PleRefIdeal.τ).loc Cert.PleRefIdeal.main_v41) = v2 c
          ∧ r.2.mem ((c.tc : Thread Cert.PleRefIdeal.nD Cert.PleRefIdeal.τ).loc Cert.PleRefIdeal.main_v42) = v3 c
          ∧ r.2.mem ((c.tc : Thread Cert.PleRefIdeal.nD Cert.PleRefIdeal.τ).loc Cert.PleRefIdeal.main_v39) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Gw_GwIdeal : Prop :=
  True

def algebraic_GwIdeal_GwRefIdeal [hGwIdeal : Cert.GwIdeal.Facts] [hGwRefIdeal : Cert.GwRefIdeal.Facts] : Prop :=
  ∀ (m : (ℓ : Loc Cert.GwIdeal.nD Cert.GwIdeal.τ Cert.GwIdeal.sig) → Buf (Elt Ideal) ℓ) (g : Dev Cert.GwIdeal.nD → PrngReg)
    (m' : (ℓ : Loc Cert.GwRefIdeal.nD Cert.GwRefIdeal.τ Cert.GwRefIdeal.sig) → Buf (Elt Ideal) ℓ) (g' : Dev Cert.GwRefIdeal.nD → PrngReg), Pre_GwIdeal m →
    (∀ c : Dev Cert.GwIdeal.nD,
      m' ((c.tc : Thread Cert.GwRefIdeal.nD Cert.GwRefIdeal.τ).loc Cert.GwRefIdeal.main_arg0) = m ((c.tc : Thread Cert.GwIdeal.nD Cert.GwIdeal.τ).loc Cert.GwIdeal.main_arg0)
      ∧ m' ((c.tc : Thread Cert.GwRefIdeal.nD Cert.GwRefIdeal.τ).loc Cert.GwRefIdeal.main_arg1) = m ((c.tc : Thread Cert.GwIdeal.nD Cert.GwIdeal.τ).loc Cert.GwIdeal.main_arg1)) →
    ∃ (v0 : (c : Dev Cert.GwIdeal.nD) → Buf (Elt Ideal) ((c.tc : Thread Cert.GwIdeal.nD Cert.GwIdeal.τ).loc Cert.GwIdeal.main_v0)),
      θ_run (Cert.GwIdeal.defs (F := Ideal)) (onTc (τ := Cert.GwIdeal.τ) (Cert.GwIdeal.main (F := Ideal))) ⟨m, fun _ => 0, g⟩ (fun r => ∀ c : Dev Cert.GwIdeal.nD,
          r.2.mem ((c.tc : Thread Cert.GwIdeal.nD Cert.GwIdeal.τ).loc Cert.GwIdeal.main_v0) = v0 c
          ∧ r.2.mem ((c.tc : Thread Cert.GwIdeal.nD Cert.GwIdeal.τ).loc Cert.GwIdeal.main_arg0) = m ((c.tc : Thread Cert.GwIdeal.nD Cert.GwIdeal.τ).loc Cert.GwIdeal.main_arg0)
          ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ θ_run (Cert.GwRefIdeal.defs (F := Ideal)) (onTc (τ := Cert.GwRefIdeal.τ) (Cert.GwRefIdeal.main (F := Ideal))) ⟨m', fun _ => 0, g'⟩ (fun r => ∀ c : Dev Cert.GwRefIdeal.nD,
          r.2.mem ((c.tc : Thread Cert.GwRefIdeal.nD Cert.GwRefIdeal.τ).loc Cert.GwRefIdeal.main_v6) = v0 c
          ∧ r.2.mem ((c.tc : Thread Cert.GwRefIdeal.nD Cert.GwRefIdeal.τ).loc Cert.GwRefIdeal.main_arg0) = m' ((c.tc : Thread Cert.GwRefIdeal.nD Cert.GwRefIdeal.τ).loc Cert.GwRefIdeal.main_arg0)
          ∧ r.2.mem ((c.tc : Thread Cert.GwRefIdeal.nD Cert.GwRefIdeal.τ).loc Cert.GwRefIdeal.main_arg1) = m' ((c.tc : Thread Cert.GwRefIdeal.nD Cert.GwRefIdeal.τ).loc Cert.GwRefIdeal.main_arg1))

def preserves_Inb_InbIdeal : Prop :=
  True

def algebraic_InbIdeal_InbRefIdeal [hInbIdeal : Cert.InbIdeal.Facts] [hInbRefIdeal : Cert.InbRefIdeal.Facts] : Prop :=
  ∀ (m : (ℓ : Loc Cert.InbIdeal.nD Cert.InbIdeal.τ Cert.InbIdeal.sig) → Buf (Elt Ideal) ℓ) (g : Dev Cert.InbIdeal.nD → PrngReg)
    (m' : (ℓ : Loc Cert.InbRefIdeal.nD Cert.InbRefIdeal.τ Cert.InbRefIdeal.sig) → Buf (Elt Ideal) ℓ) (g' : Dev Cert.InbRefIdeal.nD → PrngReg), Pre_InbIdeal m →
    (∀ c : Dev Cert.InbIdeal.nD,
      m' ((c.tc : Thread Cert.InbRefIdeal.nD Cert.InbRefIdeal.τ).loc Cert.InbRefIdeal.main_arg0) = m ((c.tc : Thread Cert.InbIdeal.nD Cert.InbIdeal.τ).loc Cert.InbIdeal.main_arg0)
      ∧ m' ((c.tc : Thread Cert.InbRefIdeal.nD Cert.InbRefIdeal.τ).loc Cert.InbRefIdeal.main_arg1) = m ((c.tc : Thread Cert.InbIdeal.nD Cert.InbIdeal.τ).loc Cert.InbIdeal.main_arg1)
      ∧ m' ((c.tc : Thread Cert.InbRefIdeal.nD Cert.InbRefIdeal.τ).loc Cert.InbRefIdeal.main_arg2) = m ((c.tc : Thread Cert.InbIdeal.nD Cert.InbIdeal.τ).loc Cert.InbIdeal.main_arg2)
      ∧ m' ((c.tc : Thread Cert.InbRefIdeal.nD Cert.InbRefIdeal.τ).loc Cert.InbRefIdeal.main_arg3) = m ((c.tc : Thread Cert.InbIdeal.nD Cert.InbIdeal.τ).loc Cert.InbIdeal.main_arg3)
      ∧ m' ((c.tc : Thread Cert.InbRefIdeal.nD Cert.InbRefIdeal.τ).loc Cert.InbRefIdeal.main_arg4) = m ((c.tc : Thread Cert.InbIdeal.nD Cert.InbIdeal.τ).loc Cert.InbIdeal.main_arg4)) →
    ∃ (v0 : (c : Dev Cert.InbIdeal.nD) → Buf (Elt Ideal) ((c.tc : Thread Cert.InbIdeal.nD Cert.InbIdeal.τ).loc Cert.InbIdeal.main_v0_0)) (v1 : (c : Dev Cert.InbIdeal.nD) → Buf (Elt Ideal) ((c.tc : Thread Cert.InbIdeal.nD Cert.InbIdeal.τ).loc Cert.InbIdeal.main_v0_1)),
      θ_run (Cert.InbIdeal.defs (F := Ideal)) (onTc (τ := Cert.InbIdeal.τ) (Cert.InbIdeal.main (F := Ideal))) ⟨m, fun _ => 0, g⟩ (fun r => ∀ c : Dev Cert.InbIdeal.nD,
          r.2.mem ((c.tc : Thread Cert.InbIdeal.nD Cert.InbIdeal.τ).loc Cert.InbIdeal.main_v0_0) = v0 c
          ∧ r.2.mem ((c.tc : Thread Cert.InbIdeal.nD Cert.InbIdeal.τ).loc Cert.InbIdeal.main_v0_1) = v1 c
          ∧ r.2.mem ((c.tc : Thread Cert.InbIdeal.nD Cert.InbIdeal.τ).loc Cert.InbIdeal.main_arg0) = m ((c.tc : Thread Cert.InbIdeal.nD Cert.InbIdeal.τ).loc Cert.InbIdeal.main_arg0)
          ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
          ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
          ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
          ∧ r.2.mem ((c.tc : Thread Cert.InbIdeal.nD Cert.InbIdeal.τ).loc Cert.InbIdeal.main_arg4) = m ((c.tc : Thread Cert.InbIdeal.nD Cert.InbIdeal.τ).loc Cert.InbIdeal.main_arg4))
      ∧ θ_run (Cert.InbRefIdeal.defs (F := Ideal)) (onTc (τ := Cert.InbRefIdeal.τ) (Cert.InbRefIdeal.main (F := Ideal))) ⟨m', fun _ => 0, g'⟩ (fun r => ∀ c : Dev Cert.InbRefIdeal.nD,
          r.2.mem ((c.tc : Thread Cert.InbRefIdeal.nD Cert.InbRefIdeal.τ).loc Cert.InbRefIdeal.main_v44) = v0 c
          ∧ r.2.mem ((c.tc : Thread Cert.InbRefIdeal.nD Cert.InbRefIdeal.τ).loc Cert.InbRefIdeal.main_v43) = v1 c
          ∧ r.2.mem ((c.tc : Thread Cert.InbRefIdeal.nD Cert.InbRefIdeal.τ).loc Cert.InbRefIdeal.main_arg0) = m' ((c.tc : Thread Cert.InbRefIdeal.nD Cert.InbRefIdeal.τ).loc Cert.InbRefIdeal.main_arg0)
          ∧ r.2.mem ((c.tc : Thread Cert.InbRefIdeal.nD Cert.InbRefIdeal.τ).loc Cert.InbRefIdeal.main_arg1) = m' ((c.tc : Thread Cert.InbRefIdeal.nD Cert.InbRefIdeal.τ).loc Cert.InbRefIdeal.main_arg1)
          ∧ r.2.mem ((c.tc : Thread Cert.InbRefIdeal.nD Cert.InbRefIdeal.τ).loc Cert.InbRefIdeal.main_arg2) = m' ((c.tc : Thread Cert.InbRefIdeal.nD Cert.InbRefIdeal.τ).loc Cert.InbRefIdeal.main_arg2)
          ∧ r.2.mem ((c.tc : Thread Cert.InbRefIdeal.nD Cert.InbRefIdeal.τ).loc Cert.InbRefIdeal.main_arg3) = m' ((c.tc : Thread Cert.InbRefIdeal.nD Cert.InbRefIdeal.τ).loc Cert.InbRefIdeal.main_arg3)
          ∧ r.2.mem ((c.tc : Thread Cert.InbRefIdeal.nD Cert.InbRefIdeal.τ).loc Cert.InbRefIdeal.main_arg4) = m' ((c.tc : Thread Cert.InbRefIdeal.nD Cert.InbRefIdeal.τ).loc Cert.InbRefIdeal.main_arg4))

def preserves_Op_OpIdeal : Prop :=
  True

def algebraic_OpIdeal_OpRefIdeal [hOpIdeal : Cert.OpIdeal.Facts] [hOpRefIdeal : Cert.OpRefIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.OpRefIdeal.nD Cert.OpRefIdeal.τ Cert.OpRefIdeal.sig) → Buf (Elt Ideal) ℓ) (g' : Dev Cert.OpRefIdeal.nD → PrngReg), Pre_OpIdeal m →
    (∀ c : Dev Cert.OpIdeal.nD,
      m' ((c.tc : Thread Cert.OpRefIdeal.nD Cert.OpRefIdeal.τ).loc Cert.OpRefIdeal.main_arg0) = m ((c.tc : Thread Cert.OpIdeal.nD Cert.OpIdeal.τ).loc Cert.OpIdeal.main_arg0)
      ∧ m' ((c.tc : Thread Cert.OpRefIdeal.nD Cert.OpRefIdeal.τ).loc Cert.OpRefIdeal.main_arg1) = m ((c.tc : Thread Cert.OpIdeal.nD Cert.OpIdeal.τ).loc Cert.OpIdeal.main_arg1)
      ∧ m' ((c.tc : Thread Cert.OpRefIdeal.nD Cert.OpRefIdeal.τ).loc Cert.OpRefIdeal.main_arg2) = m ((c.tc : Thread Cert.OpIdeal.nD Cert.OpIdeal.τ).loc Cert.OpIdeal.main_arg2)
      ∧ m' ((c.tc : Thread Cert.OpRefIdeal.nD Cert.OpRefIdeal.τ).loc Cert.OpRefIdeal.main_arg3) = m ((c.tc : Thread Cert.OpIdeal.nD Cert.OpIdeal.τ).loc Cert.OpIdeal.main_arg3)) →
    ∃ (v0 : (c : Dev Cert.OpIdeal.nD) → Buf (Elt Ideal) ((c.tc : Thread Cert.OpIdeal.nD Cert.OpIdeal.τ).loc Cert.OpIdeal.main_v1_0)) (v1 : (c : Dev Cert.OpIdeal.nD) → Buf (Elt Ideal) ((c.tc : Thread Cert.OpIdeal.nD Cert.OpIdeal.τ).loc Cert.OpIdeal.main_v1_1)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v1_0) = v0 c
          ∧ r.2.mem ((c.tc : Thread Cert.OpIdeal.nD Cert.OpIdeal.τ).loc Cert.OpIdeal.main_v1_1) = v1 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
          ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
          ∧ r.2.mem ((c.tc : Thread Cert.OpIdeal.nD Cert.OpIdeal.τ).loc Cert.OpIdeal.main_arg3) = m ((c.tc : Thread Cert.OpIdeal.nD Cert.OpIdeal.τ).loc Cert.OpIdeal.main_arg3))
      ∧ θ_run (Cert.OpRefIdeal.defs (F := Ideal)) (onTc (τ := Cert.OpRefIdeal.τ) (Cert.OpRefIdeal.main (F := Ideal))) ⟨m', fun _ => 0, g'⟩ (fun r => ∀ c : Dev Cert.OpRefIdeal.nD,
          r.2.mem ((c.tc : Thread Cert.OpRefIdeal.nD Cert.OpRefIdeal.τ).loc Cert.OpRefIdeal.main_v16) = v0 c
          ∧ r.2.mem ((c.tc : Thread Cert.OpRefIdeal.nD Cert.OpRefIdeal.τ).loc Cert.OpRefIdeal.main_v17) = v1 c
          ∧ r.2.mem ((c.tc : Thread Cert.OpRefIdeal.nD Cert.OpRefIdeal.τ).loc Cert.OpRefIdeal.main_arg0) = m' ((c.tc : Thread Cert.OpRefIdeal.nD Cert.OpRefIdeal.τ).loc Cert.OpRefIdeal.main_arg0)
          ∧ r.2.mem ((c.tc : Thread Cert.OpRefIdeal.nD Cert.OpRefIdeal.τ).loc Cert.OpRefIdeal.main_arg1) = m' ((c.tc : Thread Cert.OpRefIdeal.nD Cert.OpRefIdeal.τ).loc Cert.OpRefIdeal.main_arg1)
          ∧ r.2.mem ((c.tc : Thread Cert.OpRefIdeal.nD Cert.OpRefIdeal.τ).loc Cert.OpRefIdeal.main_arg2) = m' ((c.tc : Thread Cert.OpRefIdeal.nD Cert.OpRefIdeal.τ).loc Cert.OpRefIdeal.main_arg2)
          ∧ r.2.mem ((c.tc : Thread Cert.OpRefIdeal.nD Cert.OpRefIdeal.τ).loc Cert.OpRefIdeal.main_arg3) = m' ((c.tc : Thread Cert.OpRefIdeal.nD Cert.OpRefIdeal.τ).loc Cert.OpRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)) (v3 : (c : Dev Cert.AdOutIdeal.nD) → Buf (Elt Ideal) ((c.tc : Thread Cert.AdOutIdeal.nD Cert.AdOutIdeal.τ).loc Cert.AdOutIdeal.main_v0_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_v0_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v1) = v0 c
          ∧ r.2.mem ((c.tc : Thread Cert.AdOutRefIdeal.nD Cert.AdOutRefIdeal.τ).loc Cert.AdOutRefIdeal.main_v25) = v1 c
          ∧ r.2.mem ((c.tc : Thread Cert.AdOutRefIdeal.nD Cert.AdOutRefIdeal.τ).loc Cert.AdOutRefIdeal.main_v6) = v2 c
          ∧ r.2.mem ((c.tc : Thread Cert.AdOutRefIdeal.nD Cert.AdOutRefIdeal.τ).loc Cert.AdOutRefIdeal.main_v12) = v3 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdPe_AdPeIdeal : Prop :=
  True

def algebraic_AdPeIdeal_AdPeRefIdeal [hAdPeIdeal : Cert.AdPeIdeal.Facts] [hAdPeRefIdeal : Cert.AdPeRefIdeal.Facts] : Prop :=
  ∀ (m : (ℓ : Loc Cert.AdPeIdeal.nD Cert.AdPeIdeal.τ Cert.AdPeIdeal.sig) → Buf (Elt Ideal) ℓ) (g : Dev Cert.AdPeIdeal.nD → PrngReg)
    (m' : (ℓ : Loc Cert.AdPeRefIdeal.nD Cert.AdPeRefIdeal.τ Cert.AdPeRefIdeal.sig) → Buf (Elt Ideal) ℓ) (g' : Dev Cert.AdPeRefIdeal.nD → PrngReg), Pre_AdPeIdeal m →
    (∀ c : Dev Cert.AdPeIdeal.nD,
      m' ((c.tc : Thread Cert.AdPeRefIdeal.nD Cert.AdPeRefIdeal.τ).loc Cert.AdPeRefIdeal.main_arg0) = m ((c.tc : Thread Cert.AdPeIdeal.nD Cert.AdPeIdeal.τ).loc Cert.AdPeIdeal.main_arg0)
      ∧ m' ((c.tc : Thread Cert.AdPeRefIdeal.nD Cert.AdPeRefIdeal.τ).loc Cert.AdPeRefIdeal.main_arg1) = m ((c.tc : Thread Cert.AdPeIdeal.nD Cert.AdPeIdeal.τ).loc Cert.AdPeIdeal.main_arg1)
      ∧ m' ((c.tc : Thread Cert.AdPeRefIdeal.nD Cert.AdPeRefIdeal.τ).loc Cert.AdPeRefIdeal.main_arg2) = m ((c.tc : Thread Cert.AdPeIdeal.nD Cert.AdPeIdeal.τ).loc Cert.AdPeIdeal.main_arg2)
      ∧ m' ((c.tc : Thread Cert.AdPeRefIdeal.nD Cert.AdPeRefIdeal.τ).loc Cert.AdPeRefIdeal.main_arg3) = m ((c.tc : Thread Cert.AdPeIdeal.nD Cert.AdPeIdeal.τ).loc Cert.AdPeIdeal.main_arg3)) →
    ∃ (v0 : (c : Dev Cert.AdPeIdeal.nD) → Buf (Elt Ideal) ((c.tc : Thread Cert.AdPeIdeal.nD Cert.AdPeIdeal.τ).loc Cert.AdPeIdeal.main_v0_0)) (v1 : (c : Dev Cert.AdPeIdeal.nD) → Buf (Elt Ideal) ((c.tc : Thread Cert.AdPeIdeal.nD Cert.AdPeIdeal.τ).loc Cert.AdPeIdeal.main_v0_1)) (v2 : (c : Dev Cert.AdPeIdeal.nD) → Buf (Elt Ideal) ((c.tc : Thread Cert.AdPeIdeal.nD Cert.AdPeIdeal.τ).loc Cert.AdPeIdeal.main_v0_2)) (v3 : (c : Dev Cert.AdPeIdeal.nD) → Buf (Elt Ideal) ((c.tc : Thread Cert.AdPeIdeal.nD Cert.AdPeIdeal.τ).loc Cert.AdPeIdeal.main_v0_3)),
      θ_run (Cert.AdPeIdeal.defs (F := Ideal)) (onTc (τ := Cert.AdPeIdeal.τ) (Cert.AdPeIdeal.main (F := Ideal))) ⟨m, fun _ => 0, g⟩ (fun r => ∀ c : Dev Cert.AdPeIdeal.nD,
          r.2.mem ((c.tc : Thread Cert.AdPeIdeal.nD Cert.AdPeIdeal.τ).loc Cert.AdPeIdeal.main_v0_0) = v0 c
          ∧ r.2.mem ((c.tc : Thread Cert.AdPeIdeal.nD Cert.AdPeIdeal.τ).loc Cert.AdPeIdeal.main_v0_1) = v1 c
          ∧ r.2.mem ((c.tc : Thread Cert.AdPeIdeal.nD Cert.AdPeIdeal.τ).loc Cert.AdPeIdeal.main_v0_2) = v2 c
          ∧ r.2.mem ((c.tc : Thread Cert.AdPeIdeal.nD Cert.AdPeIdeal.τ).loc Cert.AdPeIdeal.main_v0_3) = v3 c
          ∧ r.2.mem ((c.tc : Thread Cert.AdPeIdeal.nD Cert.AdPeIdeal.τ).loc Cert.AdPeIdeal.main_arg0) = m ((c.tc : Thread Cert.AdPeIdeal.nD Cert.AdPeIdeal.τ).loc Cert.AdPeIdeal.main_arg0)
          ∧ r.2.mem ((c.tc : Thread Cert.AdPeIdeal.nD Cert.AdPeIdeal.τ).loc Cert.AdPeIdeal.main_arg1) = m ((c.tc : Thread Cert.AdPeIdeal.nD Cert.AdPeIdeal.τ).loc Cert.AdPeIdeal.main_arg1)
          ∧ r.2.mem ((c.tc : Thread Cert.AdPeIdeal.nD Cert.AdPeIdeal.τ).loc Cert.AdPeIdeal.main_arg2) = m ((c.tc : Thread Cert.AdPeIdeal.nD Cert.AdPeIdeal.τ).loc Cert.AdPeIdeal.main_arg2)
          ∧ r.2.mem ((c.tc : Thread Cert.AdPeIdeal.nD Cert.AdPeIdeal.τ).loc Cert.AdPeIdeal.main_arg3) = m ((c.tc : Thread Cert.AdPeIdeal.nD Cert.AdPeIdeal.τ).loc Cert.AdPeIdeal.main_arg3))
      ∧ θ_run (Cert.AdPeRefIdeal.defs (F := Ideal)) (onTc (τ := Cert.AdPeRefIdeal.τ) (Cert.AdPeRefIdeal.main (F := Ideal))) ⟨m', fun _ => 0, g'⟩ (fun r => ∀ c : Dev Cert.AdPeRefIdeal.nD,
          r.2.mem ((c.tc : Thread Cert.AdPeRefIdeal.nD Cert.AdPeRefIdeal.τ).loc Cert.AdPeRefIdeal.main_v1) = v0 c
          ∧ r.2.mem ((c.tc : Thread Cert.AdPeRefIdeal.nD Cert.AdPeRefIdeal.τ).loc Cert.AdPeRefIdeal.main_v25) = v1 c
          ∧ r.2.mem ((c.tc : Thread Cert.AdPeRefIdeal.nD Cert.AdPeRefIdeal.τ).loc Cert.AdPeRefIdeal.main_v6) = v2 c
          ∧ r.2.mem ((c.tc : Thread Cert.AdPeRefIdeal.nD Cert.AdPeRefIdeal.τ).loc Cert.AdPeRefIdeal.main_v12) = v3 c
          ∧ r.2.mem ((c.tc : Thread Cert.AdPeRefIdeal.nD Cert.AdPeRefIdeal.τ).loc Cert.AdPeRefIdeal.main_arg0) = m' ((c.tc : Thread Cert.AdPeRefIdeal.nD Cert.AdPeRefIdeal.τ).loc Cert.AdPeRefIdeal.main_arg0)
          ∧ r.2.mem ((c.tc : Thread Cert.AdPeRefIdeal.nD Cert.AdPeRefIdeal.τ).loc Cert.AdPeRefIdeal.main_arg1) = m' ((c.tc : Thread Cert.AdPeRefIdeal.nD Cert.AdPeRefIdeal.τ).loc Cert.AdPeRefIdeal.main_arg1)
          ∧ r.2.mem ((c.tc : Thread Cert.AdPeRefIdeal.nD Cert.AdPeRefIdeal.τ).loc Cert.AdPeRefIdeal.main_arg2) = m' ((c.tc : Thread Cert.AdPeRefIdeal.nD Cert.AdPeRefIdeal.τ).loc Cert.AdPeRefIdeal.main_arg2)
          ∧ r.2.mem ((c.tc : Thread Cert.AdPeRefIdeal.nD Cert.AdPeRefIdeal.τ).loc Cert.AdPeRefIdeal.main_arg3) = m' ((c.tc : Thread Cert.AdPeRefIdeal.nD Cert.AdPeRefIdeal.τ).loc Cert.AdPeRefIdeal.main_arg3))

def preserves_AdCw_AdCwIdeal : Prop :=
  True

def algebraic_AdCwIdeal_AdCwRefIdeal [hAdCwIdeal : Cert.AdCwIdeal.Facts] [hAdCwRefIdeal : Cert.AdCwRefIdeal.Facts] : Prop :=
  ∀ (m : (ℓ : Loc Cert.AdCwIdeal.nD Cert.AdCwIdeal.τ Cert.AdCwIdeal.sig) → Buf (Elt Ideal) ℓ) (g : Dev Cert.AdCwIdeal.nD → PrngReg)
    (m' : (ℓ : Loc Cert.AdCwRefIdeal.nD Cert.AdCwRefIdeal.τ Cert.AdCwRefIdeal.sig) → Buf (Elt Ideal) ℓ) (g' : Dev Cert.AdCwRefIdeal.nD → PrngReg), Pre_AdCwIdeal m →
    (∀ c : Dev Cert.AdCwIdeal.nD,
      m' ((c.tc : Thread Cert.AdCwRefIdeal.nD Cert.AdCwRefIdeal.τ).loc Cert.AdCwRefIdeal.main_arg0) = m ((c.tc : Thread Cert.AdCwIdeal.nD Cert.AdCwIdeal.τ).loc Cert.AdCwIdeal.main_arg0)
      ∧ m' ((c.tc : Thread Cert.AdCwRefIdeal.nD Cert.AdCwRefIdeal.τ).loc Cert.AdCwRefIdeal.main_arg1) = m ((c.tc : Thread Cert.AdCwIdeal.nD Cert.AdCwIdeal.τ).loc Cert.AdCwIdeal.main_arg1)
      ∧ m' ((c.tc : Thread Cert.AdCwRefIdeal.nD Cert.AdCwRefIdeal.τ).loc Cert.AdCwRefIdeal.main_arg2) = m ((c.tc : Thread Cert.AdCwIdeal.nD Cert.AdCwIdeal.τ).loc Cert.AdCwIdeal.main_arg2)
      ∧ m' ((c.tc : Thread Cert.AdCwRefIdeal.nD Cert.AdCwRefIdeal.τ).loc Cert.AdCwRefIdeal.main_arg3) = m ((c.tc : Thread Cert.AdCwIdeal.nD Cert.AdCwIdeal.τ).loc Cert.AdCwIdeal.main_arg3)) →
    ∃ (v0 : (c : Dev Cert.AdCwIdeal.nD) → Buf (Elt Ideal) ((c.tc : Thread Cert.AdCwIdeal.nD Cert.AdCwIdeal.τ).loc Cert.AdCwIdeal.main_v0_0)) (v1 : (c : Dev Cert.AdCwIdeal.nD) → Buf (Elt Ideal) ((c.tc : Thread Cert.AdCwIdeal.nD Cert.AdCwIdeal.τ).loc Cert.AdCwIdeal.main_v0_1)) (v2 : (c : Dev Cert.AdCwIdeal.nD) → Buf (Elt Ideal) ((c.tc : Thread Cert.AdCwIdeal.nD Cert.AdCwIdeal.τ).loc Cert.AdCwIdeal.main_v0_2)) (v3 : (c : Dev Cert.AdCwIdeal.nD) → Buf (Elt Ideal) ((c.tc : Thread Cert.AdCwIdeal.nD Cert.AdCwIdeal.τ).loc Cert.AdCwIdeal.main_v0_3)),
      θ_run (Cert.AdCwIdeal.defs (F := Ideal)) (onTc (τ := Cert.AdCwIdeal.τ) (Cert.AdCwIdeal.main (F := Ideal))) ⟨m, fun _ => 0, g⟩ (fun r => ∀ c : Dev Cert.AdCwIdeal.nD,
          r.2.mem ((c.tc : Thread Cert.AdCwIdeal.nD Cert.AdCwIdeal.τ).loc Cert.AdCwIdeal.main_v0_0) = v0 c
          ∧ r.2.mem ((c.tc : Thread Cert.AdCwIdeal.nD Cert.AdCwIdeal.τ).loc Cert.AdCwIdeal.main_v0_1) = v1 c
          ∧ r.2.mem ((c.tc : Thread Cert.AdCwIdeal.nD Cert.AdCwIdeal.τ).loc Cert.AdCwIdeal.main_v0_2) = v2 c
          ∧ r.2.mem ((c.tc : Thread Cert.AdCwIdeal.nD Cert.AdCwIdeal.τ).loc Cert.AdCwIdeal.main_v0_3) = v3 c
          ∧ r.2.mem ((c.tc : Thread Cert.AdCwIdeal.nD Cert.AdCwIdeal.τ).loc Cert.AdCwIdeal.main_arg0) = m ((c.tc : Thread Cert.AdCwIdeal.nD Cert.AdCwIdeal.τ).loc Cert.AdCwIdeal.main_arg0)
          ∧ r.2.mem ((c.tc : Thread Cert.AdCwIdeal.nD Cert.AdCwIdeal.τ).loc Cert.AdCwIdeal.main_arg1) = m ((c.tc : Thread Cert.AdCwIdeal.nD Cert.AdCwIdeal.τ).loc Cert.AdCwIdeal.main_arg1)
          ∧ r.2.mem ((c.tc : Thread Cert.AdCwIdeal.nD Cert.AdCwIdeal.τ).loc Cert.AdCwIdeal.main_arg2) = m ((c.tc : Thread Cert.AdCwIdeal.nD Cert.AdCwIdeal.τ).loc Cert.AdCwIdeal.main_arg2)
          ∧ r.2.mem ((c.tc : Thread Cert.AdCwIdeal.nD Cert.AdCwIdeal.τ).loc Cert.AdCwIdeal.main_arg3) = m ((c.tc : Thread Cert.AdCwIdeal.nD Cert.AdCwIdeal.τ).loc Cert.AdCwIdeal.main_arg3))
      ∧ θ_run (Cert.AdCwRefIdeal.defs (F := Ideal)) (onTc (τ := Cert.AdCwRefIdeal.τ) (Cert.AdCwRefIdeal.main (F := Ideal))) ⟨m', fun _ => 0, g'⟩ (fun r => ∀ c : Dev Cert.AdCwRefIdeal.nD,
          r.2.mem ((c.tc : Thread Cert.AdCwRefIdeal.nD Cert.AdCwRefIdeal.τ).loc Cert.AdCwRefIdeal.main_v0) = v0 c
          ∧ r.2.mem ((c.tc : Thread Cert.AdCwRefIdeal.nD Cert.AdCwRefIdeal.τ).loc Cert.AdCwRefIdeal.main_v24) = v1 c
          ∧ r.2.mem ((c.tc : Thread Cert.AdCwRefIdeal.nD Cert.AdCwRefIdeal.τ).loc Cert.AdCwRefIdeal.main_v5) = v2 c
          ∧ r.2.mem ((c.tc : Thread Cert.AdCwRefIdeal.nD Cert.AdCwRefIdeal.τ).loc Cert.AdCwRefIdeal.main_v11) = v3 c
          ∧ r.2.mem ((c.tc : Thread Cert.AdCwRefIdeal.nD Cert.AdCwRefIdeal.τ).loc Cert.AdCwRefIdeal.main_arg0) = m' ((c.tc : Thread Cert.AdCwRefIdeal.nD Cert.AdCwRefIdeal.τ).loc Cert.AdCwRefIdeal.main_arg0)
          ∧ r.2.mem ((c.tc : Thread Cert.AdCwRefIdeal.nD Cert.AdCwRefIdeal.τ).loc Cert.AdCwRefIdeal.main_arg1) = m' ((c.tc : Thread Cert.AdCwRefIdeal.nD Cert.AdCwRefIdeal.τ).loc Cert.AdCwRefIdeal.main_arg1)
          ∧ r.2.mem ((c.tc : Thread Cert.AdCwRefIdeal.nD Cert.AdCwRefIdeal.τ).loc Cert.AdCwRefIdeal.main_arg2) = m' ((c.tc : Thread Cert.AdCwRefIdeal.nD Cert.AdCwRefIdeal.τ).loc Cert.AdCwRefIdeal.main_arg2)
          ∧ r.2.mem ((c.tc : Thread Cert.AdCwRefIdeal.nD Cert.AdCwRefIdeal.τ).loc Cert.AdCwRefIdeal.main_arg3) = m' ((c.tc : Thread Cert.AdCwRefIdeal.nD Cert.AdCwRefIdeal.τ).loc Cert.AdCwRefIdeal.main_arg3))

def preserves_AdPre_AdPreIdeal : Prop :=
  True

def algebraic_AdPreIdeal_AdPreRefIdeal [hAdPreIdeal : Cert.AdPreIdeal.Facts] [hAdPreRefIdeal : Cert.AdPreRefIdeal.Facts] : Prop :=
  ∀ (m : (ℓ : Loc Cert.AdPreIdeal.nD Cert.AdPreIdeal.τ Cert.AdPreIdeal.sig) → Buf (Elt Ideal) ℓ) (g : Dev Cert.AdPreIdeal.nD → PrngReg)
    (m' : (ℓ : Loc Cert.AdPreRefIdeal.nD Cert.AdPreRefIdeal.τ Cert.AdPreRefIdeal.sig) → Buf (Elt Ideal) ℓ) (g' : Dev Cert.AdPreRefIdeal.nD → PrngReg), Pre_AdPreIdeal m →
    (∀ c : Dev Cert.AdPreIdeal.nD,
      m' ((c.tc : Thread Cert.AdPreRefIdeal.nD Cert.AdPreRefIdeal.τ).loc Cert.AdPreRefIdeal.main_arg0) = m ((c.tc : Thread Cert.AdPreIdeal.nD Cert.AdPreIdeal.τ).loc Cert.AdPreIdeal.main_arg0)
      ∧ m' ((c.tc : Thread Cert.AdPreRefIdeal.nD Cert.AdPreRefIdeal.τ).loc Cert.AdPreRefIdeal.main_arg1) = m ((c.tc : Thread Cert.AdPreIdeal.nD Cert.AdPreIdeal.τ).loc Cert.AdPreIdeal.main_arg1)
      ∧ m' ((c.tc : Thread Cert.AdPreRefIdeal.nD Cert.AdPreRefIdeal.τ).loc Cert.AdPreRefIdeal.main_arg2) = m ((c.tc : Thread Cert.AdPreIdeal.nD Cert.AdPreIdeal.τ).loc Cert.AdPreIdeal.main_arg2)
      ∧ m' ((c.tc : Thread Cert.AdPreRefIdeal.nD Cert.AdPreRefIdeal.τ).loc Cert.AdPreRefIdeal.main_arg3) = m ((c.tc : Thread Cert.AdPreIdeal.nD Cert.AdPreIdeal.τ).loc Cert.AdPreIdeal.main_arg3)) →
    ∃ (v0 : (c : Dev Cert.AdPreIdeal.nD) → Buf (Elt Ideal) ((c.tc : Thread Cert.AdPreIdeal.nD Cert.AdPreIdeal.τ).loc Cert.AdPreIdeal.main_v3_0)) (v1 : (c : Dev Cert.AdPreIdeal.nD) → Buf (Elt Ideal) ((c.tc : Thread Cert.AdPreIdeal.nD Cert.AdPreIdeal.τ).loc Cert.AdPreIdeal.main_v3_1)) (v2 : (c : Dev Cert.AdPreIdeal.nD) → Buf (Elt Ideal) ((c.tc : Thread Cert.AdPreIdeal.nD Cert.AdPreIdeal.τ).loc Cert.AdPreIdeal.main_v3_2)) (v3 : (c : Dev Cert.AdPreIdeal.nD) → Buf (Elt Ideal) ((c.tc : Thread Cert.AdPreIdeal.nD Cert.AdPreIdeal.τ).loc Cert.AdPreIdeal.main_v3_3)),
      θ_run (Cert.AdPreIdeal.defs (F := Ideal)) (onTc (τ := Cert.AdPreIdeal.τ) (Cert.AdPreIdeal.main (F := Ideal))) ⟨m, fun _ => 0, g⟩ (fun r => ∀ c : Dev Cert.AdPreIdeal.nD,
          r.2.mem ((c.tc : Thread Cert.AdPreIdeal.nD Cert.AdPreIdeal.τ).loc Cert.AdPreIdeal.main_v3_0) = v0 c
          ∧ r.2.mem ((c.tc : Thread Cert.AdPreIdeal.nD Cert.AdPreIdeal.τ).loc Cert.AdPreIdeal.main_v3_1) = v1 c
          ∧ r.2.mem ((c.tc : Thread Cert.AdPreIdeal.nD Cert.AdPreIdeal.τ).loc Cert.AdPreIdeal.main_v3_2) = v2 c
          ∧ r.2.mem ((c.tc : Thread Cert.AdPreIdeal.nD Cert.AdPreIdeal.τ).loc Cert.AdPreIdeal.main_v3_3) = v3 c
          ∧ r.2.mem ((c.tc : Thread Cert.AdPreIdeal.nD Cert.AdPreIdeal.τ).loc Cert.AdPreIdeal.main_arg0) = m ((c.tc : Thread Cert.AdPreIdeal.nD Cert.AdPreIdeal.τ).loc Cert.AdPreIdeal.main_arg0)
          ∧ r.2.mem ((c.tc : Thread Cert.AdPreIdeal.nD Cert.AdPreIdeal.τ).loc Cert.AdPreIdeal.main_arg1) = m ((c.tc : Thread Cert.AdPreIdeal.nD Cert.AdPreIdeal.τ).loc Cert.AdPreIdeal.main_arg1)
          ∧ r.2.mem ((c.tc : Thread Cert.AdPreIdeal.nD Cert.AdPreIdeal.τ).loc Cert.AdPreIdeal.main_arg2) = m ((c.tc : Thread Cert.AdPreIdeal.nD Cert.AdPreIdeal.τ).loc Cert.AdPreIdeal.main_arg2)
          ∧ r.2.mem ((c.tc : Thread Cert.AdPreIdeal.nD Cert.AdPreIdeal.τ).loc Cert.AdPreIdeal.main_arg3) = m ((c.tc : Thread Cert.AdPreIdeal.nD Cert.AdPreIdeal.τ).loc Cert.AdPreIdeal.main_arg3))
      ∧ θ_run (Cert.AdPreRefIdeal.defs (F := Ideal)) (onTc (τ := Cert.AdPreRefIdeal.τ) (Cert.AdPreRefIdeal.main (F := Ideal))) ⟨m', fun _ => 0, g'⟩ (fun r => ∀ c : Dev Cert.AdPreRefIdeal.nD,
          r.2.mem ((c.tc : Thread Cert.AdPreRefIdeal.nD Cert.AdPreRefIdeal.τ).loc Cert.AdPreRefIdeal.main_v3) = v0 c
          ∧ r.2.mem ((c.tc : Thread Cert.AdPreRefIdeal.nD Cert.AdPreRefIdeal.τ).loc Cert.AdPreRefIdeal.main_v27) = v1 c
          ∧ r.2.mem ((c.tc : Thread Cert.AdPreRefIdeal.nD Cert.AdPreRefIdeal.τ).loc Cert.AdPreRefIdeal.main_v8) = v2 c
          ∧ r.2.mem ((c.tc : Thread Cert.AdPreRefIdeal.nD Cert.AdPreRefIdeal.τ).loc Cert.AdPreRefIdeal.main_v14) = v3 c
          ∧ r.2.mem ((c.tc : Thread Cert.AdPreRefIdeal.nD Cert.AdPreRefIdeal.τ).loc Cert.AdPreRefIdeal.main_arg0) = m' ((c.tc : Thread Cert.AdPreRefIdeal.nD Cert.AdPreRefIdeal.τ).loc Cert.AdPreRefIdeal.main_arg0)
          ∧ r.2.mem ((c.tc : Thread Cert.AdPreRefIdeal.nD Cert.AdPreRefIdeal.τ).loc Cert.AdPreRefIdeal.main_arg1) = m' ((c.tc : Thread Cert.AdPreRefIdeal.nD Cert.AdPreRefIdeal.τ).loc Cert.AdPreRefIdeal.main_arg1)
          ∧ r.2.mem ((c.tc : Thread Cert.AdPreRefIdeal.nD Cert.AdPreRefIdeal.τ).loc Cert.AdPreRefIdeal.main_arg2) = m' ((c.tc : Thread Cert.AdPreRefIdeal.nD Cert.AdPreRefIdeal.τ).loc Cert.AdPreRefIdeal.main_arg2)
          ∧ r.2.mem ((c.tc : Thread Cert.AdPreRefIdeal.nD Cert.AdPreRefIdeal.τ).loc Cert.AdPreRefIdeal.main_arg3) = m' ((c.tc : Thread Cert.AdPreRefIdeal.nD Cert.AdPreRefIdeal.τ).loc Cert.AdPreRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_AdSm_AdSmIdeal : Prop :=
  True

def algebraic_AdSmIdeal_AdSmRefIdeal [hAdSmIdeal : Cert.AdSmIdeal.Facts] [hAdSmRefIdeal : Cert.AdSmRefIdeal.Facts] : Prop :=
  ∀ (m : (ℓ : Loc Cert.AdSmIdeal.nD Cert.AdSmIdeal.τ Cert.AdSmIdeal.sig) → Buf (Elt Ideal) ℓ) (g : Dev Cert.AdSmIdeal.nD → PrngReg)
    (m' : (ℓ : Loc Cert.AdSmRefIdeal.nD Cert.AdSmRefIdeal.τ Cert.AdSmRefIdeal.sig) → Buf (Elt Ideal) ℓ) (g' : Dev Cert.AdSmRefIdeal.nD → PrngReg), Pre_AdSmIdeal m →
    (∀ c : Dev Cert.AdSmIdeal.nD,
      m' ((c.tc : Thread Cert.AdSmRefIdeal.nD Cert.AdSmRefIdeal.τ).loc Cert.AdSmRefIdeal.main_arg0) = m ((c.tc : Thread Cert.AdSmIdeal.nD Cert.AdSmIdeal.τ).loc Cert.AdSmIdeal.main_arg0)
      ∧ m' ((c.tc : Thread Cert.AdSmRefIdeal.nD Cert.AdSmRefIdeal.τ).loc Cert.AdSmRefIdeal.main_arg1) = m ((c.tc : Thread Cert.AdSmIdeal.nD Cert.AdSmIdeal.τ).loc Cert.AdSmIdeal.main_arg1)
      ∧ m' ((c.tc : Thread Cert.AdSmRefIdeal.nD Cert.AdSmRefIdeal.τ).loc Cert.AdSmRefIdeal.main_arg2) = m ((c.tc : Thread Cert.AdSmIdeal.nD Cert.AdSmIdeal.τ).loc Cert.AdSmIdeal.main_arg2)
      ∧ m' ((c.tc : Thread Cert.AdSmRefIdeal.nD Cert.AdSmRefIdeal.τ).loc Cert.AdSmRefIdeal.main_arg3) = m ((c.tc : Thread Cert.AdSmIdeal.nD Cert.AdSmIdeal.τ).loc Cert.AdSmIdeal.main_arg3)
      ∧ m' ((c.tc : Thread Cert.AdSmRefIdeal.nD Cert.AdSmRefIdeal.τ).loc Cert.AdSmRefIdeal.main_arg4) = m ((c.tc : Thread Cert.AdSmIdeal.nD Cert.AdSmIdeal.τ).loc Cert.AdSmIdeal.main_arg4)
      ∧ m' ((c.tc : Thread Cert.AdSmRefIdeal.nD Cert.AdSmRefIdeal.τ).loc Cert.AdSmRefIdeal.main_arg5) = m ((c.tc : Thread Cert.AdSmIdeal.nD Cert.AdSmIdeal.τ).loc Cert.AdSmIdeal.main_arg5)
      ∧ m' ((c.tc : Thread Cert.AdSmRefIdeal.nD Cert.AdSmRefIdeal.τ).loc Cert.AdSmRefIdeal.main_arg6) = m ((c.tc : Thread Cert.AdSmIdeal.nD Cert.AdSmIdeal.τ).loc Cert.AdSmIdeal.main_arg6)
      ∧ m' ((c.tc : Thread Cert.AdSmRefIdeal.nD Cert.AdSmRefIdeal.τ).loc Cert.AdSmRefIdeal.main_arg7) = m ((c.tc : Thread Cert.AdSmIdeal.nD Cert.AdSmIdeal.τ).loc Cert.AdSmIdeal.main_arg7)
      ∧ m' ((c.tc : Thread Cert.AdSmRefIdeal.nD Cert.AdSmRefIdeal.τ).loc Cert.AdSmRefIdeal.main_arg8) = m ((c.tc : Thread Cert.AdSmIdeal.nD Cert.AdSmIdeal.τ).loc Cert.AdSmIdeal.main_arg8)
      ∧ m' ((c.tc : Thread Cert.AdSmRefIdeal.nD Cert.AdSmRefIdeal.τ).loc Cert.AdSmRefIdeal.main_arg9) = m ((c.tc : Thread Cert.AdSmIdeal.nD Cert.AdSmIdeal.τ).loc Cert.AdSmIdeal.main_arg9)
      ∧ m' ((c.tc : Thread Cert.AdSmRefIdeal.nD Cert.AdSmRefIdeal.τ).loc Cert.AdSmRefIdeal.main_arg10) = m ((c.tc : Thread Cert.AdSmIdeal.nD Cert.AdSmIdeal.τ).loc Cert.AdSmIdeal.main_arg10)
      ∧ m' ((c.tc : Thread Cert.AdSmRefIdeal.nD Cert.AdSmRefIdeal.τ).loc Cert.AdSmRefIdeal.main_arg11) = m ((c.tc : Thread Cert.AdSmIdeal.nD Cert.AdSmIdeal.τ).loc Cert.AdSmIdeal.main_arg11)
      ∧ m' ((c.tc : Thread Cert.AdSmRefIdeal.nD Cert.AdSmRefIdeal.τ).loc Cert.AdSmRefIdeal.main_arg12) = m ((c.tc : Thread Cert.AdSmIdeal.nD Cert.AdSmIdeal.τ).loc Cert.AdSmIdeal.main_arg12)
      ∧ m' ((c.tc : Thread Cert.AdSmRefIdeal.nD Cert.AdSmRefIdeal.τ).loc Cert.AdSmRefIdeal.main_arg13) = m ((c.tc : Thread Cert.AdSmIdeal.nD Cert.AdSmIdeal.τ).loc Cert.AdSmIdeal.main_arg13)
      ∧ m' ((c.tc : Thread Cert.AdSmRefIdeal.nD Cert.AdSmRefIdeal.τ).loc Cert.AdSmRefIdeal.main_arg14) = m ((c.tc : Thread Cert.AdSmIdeal.nD Cert.AdSmIdeal.τ).loc Cert.AdSmIdeal.main_arg14)
      ∧ m' ((c.tc : Thread Cert.AdSmRefIdeal.nD Cert.AdSmRefIdeal.τ).loc Cert.AdSmRefIdeal.main_arg15) = m ((c.tc : Thread Cert.AdSmIdeal.nD Cert.AdSmIdeal.τ).loc Cert.AdSmIdeal.main_arg15)
      ∧ m' ((c.tc : Thread Cert.AdSmRefIdeal.nD Cert.AdSmRefIdeal.τ).loc Cert.AdSmRefIdeal.main_arg16) = m ((c.tc : Thread Cert.AdSmIdeal.nD Cert.AdSmIdeal.τ).loc Cert.AdSmIdeal.main_arg16)
      ∧ m' ((c.tc : Thread Cert.AdSmRefIdeal.nD Cert.AdSmRefIdeal.τ).loc Cert.AdSmRefIdeal.main_arg17) = m ((c.tc : Thread Cert.AdSmIdeal.nD Cert.AdSmIdeal.τ).loc Cert.AdSmIdeal.main_arg17)
      ∧ m' ((c.tc : Thread Cert.AdSmRefIdeal.nD Cert.AdSmRefIdeal.τ).loc Cert.AdSmRefIdeal.main_arg18) = m ((c.tc : Thread Cert.AdSmIdeal.nD Cert.AdSmIdeal.τ).loc Cert.AdSmIdeal.main_arg18)
      ∧ m' ((c.tc : Thread Cert.AdSmRefIdeal.nD Cert.AdSmRefIdeal.τ).loc Cert.AdSmRefIdeal.main_arg19) = m ((c.tc : Thread Cert.AdSmIdeal.nD Cert.AdSmIdeal.τ).loc Cert.AdSmIdeal.main_arg19)
      ∧ m' ((c.tc : Thread Cert.AdSmRefIdeal.nD Cert.AdSmRefIdeal.τ).loc Cert.AdSmRefIdeal.main_arg20) = m ((c.tc : Thread Cert.AdSmIdeal.nD Cert.AdSmIdeal.τ).loc Cert.AdSmIdeal.main_arg20)
      ∧ m' ((c.tc : Thread Cert.AdSmRefIdeal.nD Cert.AdSmRefIdeal.τ).loc Cert.AdSmRefIdeal.main_arg21) = m ((c.tc : Thread Cert.AdSmIdeal.nD Cert.AdSmIdeal.τ).loc Cert.AdSmIdeal.main_arg21)
      ∧ m' ((c.tc : Thread Cert.AdSmRefIdeal.nD Cert.AdSmRefIdeal.τ).loc Cert.AdSmRefIdeal.main_arg22) = m ((c.tc : Thread Cert.AdSmIdeal.nD Cert.AdSmIdeal.τ).loc Cert.AdSmIdeal.main_arg22)
      ∧ m' ((c.tc : Thread Cert.AdSmRefIdeal.nD Cert.AdSmRefIdeal.τ).loc Cert.AdSmRefIdeal.main_arg23) = m ((c.tc : Thread Cert.AdSmIdeal.nD Cert.AdSmIdeal.τ).loc Cert.AdSmIdeal.main_arg23)
      ∧ m' ((c.tc : Thread Cert.AdSmRefIdeal.nD Cert.AdSmRefIdeal.τ).loc Cert.AdSmRefIdeal.main_arg24) = m ((c.tc : Thread Cert.AdSmIdeal.nD Cert.AdSmIdeal.τ).loc Cert.AdSmIdeal.main_arg24)
      ∧ m' ((c.tc : Thread Cert.AdSmRefIdeal.nD Cert.AdSmRefIdeal.τ).loc Cert.AdSmRefIdeal.main_arg25) = m ((c.tc : Thread Cert.AdSmIdeal.nD Cert.AdSmIdeal.τ).loc Cert.AdSmIdeal.main_arg25)
      ∧ m' ((c.tc : Thread Cert.AdSmRefIdeal.nD Cert.AdSmRefIdeal.τ).loc Cert.AdSmRefIdeal.main_arg26) = m ((c.tc : Thread Cert.AdSmIdeal.nD Cert.AdSmIdeal.τ).loc Cert.AdSmIdeal.main_arg26)
      ∧ m' ((c.tc : Thread Cert.AdSmRefIdeal.nD Cert.AdSmRefIdeal.τ).loc Cert.AdSmRefIdeal.main_arg27) = m ((c.tc : Thread Cert.AdSmIdeal.nD Cert.AdSmIdeal.τ).loc Cert.AdSmIdeal.main_arg27)
      ∧ m' ((c.tc : Thread Cert.AdSmRefIdeal.nD Cert.AdSmRefIdeal.τ).loc Cert.AdSmRefIdeal.main_arg28) = m ((c.tc : Thread Cert.AdSmIdeal.nD Cert.AdSmIdeal.τ).loc Cert.AdSmIdeal.main_arg28)
      ∧ m' ((c.tc : Thread Cert.AdSmRefIdeal.nD Cert.AdSmRefIdeal.τ).loc Cert.AdSmRefIdeal.main_arg29) = m ((c.tc : Thread Cert.AdSmIdeal.nD Cert.AdSmIdeal.τ).loc Cert.AdSmIdeal.main_arg29)
      ∧ m' ((c.tc : Thread Cert.AdSmRefIdeal.nD Cert.AdSmRefIdeal.τ).loc Cert.AdSmRefIdeal.main_arg30) = m ((c.tc : Thread Cert.AdSmIdeal.nD Cert.AdSmIdeal.τ).loc Cert.AdSmIdeal.main_arg30)
      ∧ m' ((c.tc : Thread Cert.AdSmRefIdeal.nD Cert.AdSmRefIdeal.τ).loc Cert.AdSmRefIdeal.main_arg31) = m ((c.tc : Thread Cert.AdSmIdeal.nD Cert.AdSmIdeal.τ).loc Cert.AdSmIdeal.main_arg31)
      ∧ m' ((c.tc : Thread Cert.AdSmRefIdeal.nD Cert.AdSmRefIdeal.τ).loc Cert.AdSmRefIdeal.main_arg32) = m ((c.tc : Thread Cert.AdSmIdeal.nD Cert.AdSmIdeal.τ).loc Cert.AdSmIdeal.main_arg32)
      ∧ m' ((c.tc : Thread Cert.AdSmRefIdeal.nD Cert.AdSmRefIdeal.τ).loc Cert.AdSmRefIdeal.main_arg33) = m ((c.tc : Thread Cert.AdSmIdeal.nD Cert.AdSmIdeal.τ).loc Cert.AdSmIdeal.main_arg33)
      ∧ m' ((c.tc : Thread Cert.AdSmRefIdeal.nD Cert.AdSmRefIdeal.τ).loc Cert.AdSmRefIdeal.main_arg34) = m ((c.tc : Thread Cert.AdSmIdeal.nD Cert.AdSmIdeal.τ).loc Cert.AdSmIdeal.main_arg34)
      ∧ m' ((c.tc : Thread Cert.AdSmRefIdeal.nD Cert.AdSmRefIdeal.τ).loc Cert.AdSmRefIdeal.main_arg35) = m ((c.tc : Thread Cert.AdSmIdeal.nD Cert.AdSmIdeal.τ).loc Cert.AdSmIdeal.main_arg35)
      ∧ m' ((c.tc : Thread Cert.AdSmRefIdeal.nD Cert.AdSmRefIdeal.τ).loc Cert.AdSmRefIdeal.main_arg36) = m ((c.tc : Thread Cert.AdSmIdeal.nD Cert.AdSmIdeal.τ).loc Cert.AdSmIdeal.main_arg36)
      ∧ m' ((c.tc : Thread Cert.AdSmRefIdeal.nD Cert.AdSmRefIdeal.τ).loc Cert.AdSmRefIdeal.main_arg37) = m ((c.tc : Thread Cert.AdSmIdeal.nD Cert.AdSmIdeal.τ).loc Cert.AdSmIdeal.main_arg37)
      ∧ m' ((c.tc : Thread Cert.AdSmRefIdeal.nD Cert.AdSmRefIdeal.τ).loc Cert.AdSmRefIdeal.main_arg38) = m ((c.tc : Thread Cert.AdSmIdeal.nD Cert.AdSmIdeal.τ).loc Cert.AdSmIdeal.main_arg38)
      ∧ m' ((c.tc : Thread Cert.AdSmRefIdeal.nD Cert.AdSmRefIdeal.τ).loc Cert.AdSmRefIdeal.main_arg39) = m ((c.tc : Thread Cert.AdSmIdeal.nD Cert.AdSmIdeal.τ).loc Cert.AdSmIdeal.main_arg39)) →
    ∃ (v0 : (c : Dev Cert.AdSmIdeal.nD) → Buf (Elt Ideal) ((c.tc : Thread Cert.AdSmIdeal.nD Cert.AdSmIdeal.τ).loc Cert.AdSmIdeal.main_v40_0)) (v1 : (c : Dev Cert.AdSmIdeal.nD) → Buf (Elt Ideal) ((c.tc : Thread Cert.AdSmIdeal.nD Cert.AdSmIdeal.τ).loc Cert.AdSmIdeal.main_v40_1)) (v2 : (c : Dev Cert.AdSmIdeal.nD) → Buf (Elt Ideal) ((c.tc : Thread Cert.AdSmIdeal.nD Cert.AdSmIdeal.τ).loc Cert.AdSmIdeal.main_v40_2)) (v3 : (c : Dev Cert.AdSmIdeal.nD) → Buf (Elt Ideal) ((c.tc : Thread Cert.AdSmIdeal.nD Cert.AdSmIdeal.τ).loc Cert.AdSmIdeal.main_v40_3)) (v4 : (c : Dev Cert.AdSmIdeal.nD) → Buf (Elt Ideal) ((c.tc : Thread Cert.AdSmIdeal.nD Cert.AdSmIdeal.τ).loc Cert.AdSmIdeal.main_v40_4)) (v5 : (c : Dev Cert.AdSmIdeal.nD) → Buf (Elt Ideal) ((c.tc : Thread Cert.AdSmIdeal.nD Cert.AdSmIdeal.τ).loc Cert.AdSmIdeal.main_v40_5)) (v6 : (c : Dev Cert.AdSmIdeal.nD) → Buf (Elt Ideal) ((c.tc : Thread Cert.AdSmIdeal.nD Cert.AdSmIdeal.τ).loc Cert.AdSmIdeal.main_v40_6)) (v7 : (c : Dev Cert.AdSmIdeal.nD) → Buf (Elt Ideal) ((c.tc : Thread Cert.AdSmIdeal.nD Cert.AdSmIdeal.τ).loc Cert.AdSmIdeal.main_v40_7)) (v8 : (c : Dev Cert.AdSmIdeal.nD) → Buf (Elt Ideal) ((c.tc : Thread Cert.AdSmIdeal.nD Cert.AdSmIdeal.τ).loc Cert.AdSmIdeal.main_v40_8)) (v9 : (c : Dev Cert.AdSmIdeal.nD) → Buf (Elt Ideal) ((c.tc : Thread Cert.AdSmIdeal.nD Cert.AdSmIdeal.τ).loc Cert.AdSmIdeal.main_v40_9)) (v10 : (c : Dev Cert.AdSmIdeal.nD) → Buf (Elt Ideal) ((c.tc : Thread Cert.AdSmIdeal.nD Cert.AdSmIdeal.τ).loc Cert.AdSmIdeal.main_v40_10)) (v11 : (c : Dev Cert.AdSmIdeal.nD) → Buf (Elt Ideal) ((c.tc : Thread Cert.AdSmIdeal.nD Cert.AdSmIdeal.τ).loc Cert.AdSmIdeal.main_v40_11)) (v12 : (c : Dev Cert.AdSmIdeal.nD) → Buf (Elt Ideal) ((c.tc : Thread Cert.AdSmIdeal.nD Cert.AdSmIdeal.τ).loc Cert.AdSmIdeal.main_v40_12)) (v13 : (c : Dev Cert.AdSmIdeal.nD) → Buf (Elt Ideal) ((c.tc : Thread Cert.AdSmIdeal.nD Cert.AdSmIdeal.τ).loc Cert.AdSmIdeal.main_v40_13)) (v14 : (c : Dev Cert.AdSmIdeal.nD) → Buf (Elt Ideal) ((c.tc : Thread Cert.AdSmIdeal.nD Cert.AdSmIdeal.τ).loc Cert.AdSmIdeal.main_v40_14)) (v15 : (c : Dev Cert.AdSmIdeal.nD) → Buf (Elt Ideal) ((c.tc : Thread Cert.AdSmIdeal.nD Cert.AdSmIdeal.τ).loc Cert.AdSmIdeal.main_v40_15)) (v16 : (c : Dev Cert.AdSmIdeal.nD) → Buf (Elt Ideal) ((c.tc : Thread Cert.AdSmIdeal.nD Cert.AdSmIdeal.τ).loc Cert.AdSmIdeal.main_v40_16)) (v17 : (c : Dev Cert.AdSmIdeal.nD) → Buf (Elt Ideal) ((c.tc : Thread Cert.AdSmIdeal.nD Cert.AdSmIdeal.τ).loc Cert.AdSmIdeal.main_v40_17)) (v18 : (c : Dev Cert.AdSmIdeal.nD) → Buf (Elt Ideal) ((c.tc : Thread Cert.AdSmIdeal.nD Cert.AdSmIdeal.τ).loc Cert.AdSmIdeal.main_v40_18)) (v19 : (c : Dev Cert.AdSmIdeal.nD) → Buf (Elt Ideal) ((c.tc : Thread Cert.AdSmIdeal.nD Cert.AdSmIdeal.τ).loc Cert.AdSmIdeal.main_v40_19)) (v20 : (c : Dev Cert.AdSmIdeal.nD) → Buf (Elt Ideal) ((c.tc : Thread Cert.AdSmIdeal.nD Cert.AdSmIdeal.τ).loc Cert.AdSmIdeal.main_v40_20)) (v21 : (c : Dev Cert.AdSmIdeal.nD) → Buf (Elt Ideal) ((c.tc : Thread Cert.AdSmIdeal.nD Cert.AdSmIdeal.τ).loc Cert.AdSmIdeal.main_v40_21)) (v22 : (c : Dev Cert.AdSmIdeal.nD) → Buf (Elt Ideal) ((c.tc : Thread Cert.AdSmIdeal.nD Cert.AdSmIdeal.τ).loc Cert.AdSmIdeal.main_v40_22)) (v23 : (c : Dev Cert.AdSmIdeal.nD) → Buf (Elt Ideal) ((c.tc : Thread Cert.AdSmIdeal.nD Cert.AdSmIdeal.τ).loc Cert.AdSmIdeal.main_v40_23)) (v24 : (c : Dev Cert.AdSmIdeal.nD) → Buf (Elt Ideal) ((c.tc : Thread Cert.AdSmIdeal.nD Cert.AdSmIdeal.τ).loc Cert.AdSmIdeal.main_v40_24)) (v25 : (c : Dev Cert.AdSmIdeal.nD) → Buf (Elt Ideal) ((c.tc : Thread Cert.AdSmIdeal.nD Cert.AdSmIdeal.τ).loc Cert.AdSmIdeal.main_v40_25)) (v26 : (c : Dev Cert.AdSmIdeal.nD) → Buf (Elt Ideal) ((c.tc : Thread Cert.AdSmIdeal.nD Cert.AdSmIdeal.τ).loc Cert.AdSmIdeal.main_v40_26)) (v27 : (c : Dev Cert.AdSmIdeal.nD) → Buf (Elt Ideal) ((c.tc : Thread Cert.AdSmIdeal.nD Cert.AdSmIdeal.τ).loc Cert.AdSmIdeal.main_v40_27)) (v28 : (c : Dev Cert.AdSmIdeal.nD) → Buf (Elt Ideal) ((c.tc : Thread Cert.AdSmIdeal.nD Cert.AdSmIdeal.τ).loc Cert.AdSmIdeal.main_v40_28)) (v29 : (c : Dev Cert.AdSmIdeal.nD) → Buf (Elt Ideal) ((c.tc : Thread Cert.AdSmIdeal.nD Cert.AdSmIdeal.τ).loc Cert.AdSmIdeal.main_v40_29)) (v30 : (c : Dev Cert.AdSmIdeal.nD) → Buf (Elt Ideal) ((c.tc : Thread Cert.AdSmIdeal.nD Cert.AdSmIdeal.τ).loc Cert.AdSmIdeal.main_v40_30)) (v31 : (c : Dev Cert.AdSmIdeal.nD) → Buf (Elt Ideal) ((c.tc : Thread Cert.AdSmIdeal.nD Cert.AdSmIdeal.τ).loc Cert.AdSmIdeal.main_v40_31)) (v32 : (c : Dev Cert.AdSmIdeal.nD) → Buf (Elt Ideal) ((c.tc : Thread Cert.AdSmIdeal.nD Cert.AdSmIdeal.τ).loc Cert.AdSmIdeal.main_v40_32)) (v33 : (c : Dev Cert.AdSmIdeal.nD) → Buf (Elt Ideal) ((c.tc : Thread Cert.AdSmIdeal.nD Cert.AdSmIdeal.τ).loc Cert.AdSmIdeal.main_v40_33)) (v34 : (c : Dev Cert.AdSmIdeal.nD) → Buf (Elt Ideal) ((c.tc : Thread Cert.AdSmIdeal.nD Cert.AdSmIdeal.τ).loc Cert.AdSmIdeal.main_v40_34)) (v35 : (c : Dev Cert.AdSmIdeal.nD) → Buf (Elt Ideal) ((c.tc : Thread Cert.AdSmIdeal.nD Cert.AdSmIdeal.τ).loc Cert.AdSmIdeal.main_v40_35)) (v36 : (c : Dev Cert.AdSmIdeal.nD) → Buf (Elt Ideal) ((c.tc : Thread Cert.AdSmIdeal.nD Cert.AdSmIdeal.τ).loc Cert.AdSmIdeal.main_v40_36)) (v37 : (c : Dev Cert.AdSmIdeal.nD) → Buf (Elt Ideal) ((c.tc : Thread Cert.AdSmIdeal.nD Cert.AdSmIdeal.τ).loc Cert.AdSmIdeal.main_v40_37)) (v38 : (c : Dev Cert.AdSmIdeal.nD) → Buf (Elt Ideal) ((c.tc : Thread Cert.AdSmIdeal.nD Cert.AdSmIdeal.τ).loc Cert.AdSmIdeal.main_v40_38)) (v39 : (c : Dev Cert.AdSmIdeal.nD) → Buf (Elt Ideal) ((c.tc : Thread Cert.AdSmIdeal.nD Cert.AdSmIdeal.τ).loc Cert.AdSmIdeal.main_v40_39)) (v40 : (c : Dev Cert.AdSmIdeal.nD) → Buf (Elt Ideal) ((c.tc : Thread Cert.AdSmIdeal.nD Cert.AdSmIdeal.τ).loc Cert.AdSmIdeal.main_v40_40)) (v41 : (c : Dev Cert.AdSmIdeal.nD) → Buf (Elt Ideal) ((c.tc : Thread Cert.AdSmIdeal.nD Cert.AdSmIdeal.τ).loc Cert.AdSmIdeal.main_v40_41)) (v42 : (c : Dev Cert.AdSmIdeal.nD) → Buf (Elt Ideal) ((c.tc : Thread Cert.AdSmIdeal.nD Cert.AdSmIdeal.τ).loc Cert.AdSmIdeal.main_v40_42)) (v43 : (c : Dev Cert.AdSmIdeal.nD) → Buf (Elt Ideal) ((c.tc : Thread Cert.AdSmIdeal.nD Cert.AdSmIdeal.τ).loc Cert.AdSmIdeal.main_v40_43)) (v44 : (c : Dev Cert.AdSmIdeal.nD) → Buf (Elt Ideal) ((c.tc : Thread Cert.AdSmIdeal.nD Cert.AdSmIdeal.τ).loc Cert.AdSmIdeal.main_v40_44)) (v45 : (c : Dev Cert.AdSmIdeal.nD) → Buf (Elt Ideal) ((c.tc : Thread Cert.AdSmIdeal.nD Cert.AdSmIdeal.τ).loc Cert.AdSmIdeal.main_v40_45)) (v46 : (c : Dev Cert.AdSmIdeal.nD) → Buf (Elt Ideal) ((c.tc : Thread Cert.AdSmIdeal.nD Cert.AdSmIdeal.τ).loc Cert.AdSmIdeal.main_v40_46)) (v47 : (c : Dev Cert.AdSmIdeal.nD) → Buf (Elt Ideal) ((c.tc : Thread Cert.AdSmIdeal.nD Cert.AdSmIdeal.τ).loc Cert.AdSmIdeal.main_v40_47)) (v48 : (c : Dev Cert.AdSmIdeal.nD) → Buf (Elt Ideal) ((c.tc : Thread Cert.AdSmIdeal.nD Cert.AdSmIdeal.τ).loc Cert.AdSmIdeal.main_v40_48)) (v49 : (c : Dev Cert.AdSmIdeal.nD) → Buf (Elt Ideal) ((c.tc : Thread Cert.AdSmIdeal.nD Cert.AdSmIdeal.τ).loc Cert.AdSmIdeal.main_v40_49)) (v50 : (c : Dev Cert.AdSmIdeal.nD) → Buf (Elt Ideal) ((c.tc : Thread Cert.AdSmIdeal.nD Cert.AdSmIdeal.τ).loc Cert.AdSmIdeal.main_v40_50)) (v51 : (c : Dev Cert.AdSmIdeal.nD) → Buf (Elt Ideal) ((c.tc : Thread Cert.AdSmIdeal.nD Cert.AdSmIdeal.τ).loc Cert.AdSmIdeal.main_v40_51)) (v52 : (c : Dev Cert.AdSmIdeal.nD) → Buf (Elt Ideal) ((c.tc : Thread Cert.AdSmIdeal.nD Cert.AdSmIdeal.τ).loc Cert.AdSmIdeal.main_v40_52)),
      θ_run (Cert.AdSmIdeal.defs (F := Ideal)) (onTc (τ := Cert.AdSmIdeal.τ) (Cert.AdSmIdeal.main (F := Ideal))) ⟨m, fun _ => 0, g⟩ (fun r => ∀ c : Dev Cert.AdSmIdeal.nD,
          r.2.mem ((c.tc : Thread Cert.AdSmIdeal.nD Cert.AdSmIdeal.τ).loc Cert.AdSmIdeal.main_v40_0) = v0 c
          ∧ r.2.mem ((c.tc : Thread Cert.AdSmIdeal.nD Cert.AdSmIdeal.τ).loc Cert.AdSmIdeal.main_v40_1) = v1 c
          ∧ r.2.mem ((c.tc : Thread Cert.AdSmIdeal.nD Cert.AdSmIdeal.τ).loc Cert.AdSmIdeal.main_v40_2) = v2 c
          ∧ r.2.mem ((c.tc : Thread Cert.AdSmIdeal.nD Cert.AdSmIdeal.τ).loc Cert.AdSmIdeal.main_v40_3) = v3 c
          ∧ r.2.mem ((c.tc : Thread Cert.AdSmIdeal.nD Cert.AdSmIdeal.τ).loc Cert.AdSmIdeal.main_v40_4) = v4 c
          ∧ r.2.mem ((c.tc : Thread Cert.AdSmIdeal.nD Cert.AdSmIdeal.τ).loc Cert.AdSmIdeal.main_v40_5) = v5 c
          ∧ r.2.mem ((c.tc : Thread Cert.AdSmIdeal.nD Cert.AdSmIdeal.τ).loc Cert.AdSmIdeal.main_v40_6) = v6 c
          ∧ r.2.mem ((c.tc : Thread Cert.AdSmIdeal.nD Cert.AdSmIdeal.τ).loc Cert.AdSmIdeal.main_v40_7) = v7 c
          ∧ r.2.mem ((c.tc : Thread Cert.AdSmIdeal.nD Cert.AdSmIdeal.τ).loc Cert.AdSmIdeal.main_v40_8) = v8 c
          ∧ r.2.mem ((c.tc : Thread Cert.AdSmIdeal.nD Cert.AdSmIdeal.τ).loc Cert.AdSmIdeal.main_v40_9) = v9 c
          ∧ r.2.mem ((c.tc : Thread Cert.AdSmIdeal.nD Cert.AdSmIdeal.τ).loc Cert.AdSmIdeal.main_v40_10) = v10 c
          ∧ r.2.mem ((c.tc : Thread Cert.AdSmIdeal.nD Cert.AdSmIdeal.τ).loc Cert.AdSmIdeal.main_v40_11) = v11 c
          ∧ r.2.mem ((c.tc : Thread Cert.AdSmIdeal.nD Cert.AdSmIdeal.τ).loc Cert.AdSmIdeal.main_v40_12) = v12 c
          ∧ r.2.mem ((c.tc : Thread Cert.AdSmIdeal.nD Cert.AdSmIdeal.τ).loc Cert.AdSmIdeal.main_v40_13) = v13 c
          ∧ r.2.mem ((c.tc : Thread Cert.AdSmIdeal.nD Cert.AdSmIdeal.τ).loc Cert.AdSmIdeal.main_v40_14) = v14 c
          ∧ r.2.mem ((c.tc : Thread Cert.AdSmIdeal.nD Cert.AdSmIdeal.τ).loc Cert.AdSmIdeal.main_v40_15) = v15 c
          ∧ r.2.mem ((c.tc : Thread Cert.AdSmIdeal.nD Cert.AdSmIdeal.τ).loc Cert.AdSmIdeal.main_v40_16) = v16 c
          ∧ r.2.mem ((c.tc : Thread Cert.AdSmIdeal.nD Cert.AdSmIdeal.τ).loc Cert.AdSmIdeal.main_v40_17) = v17 c
          ∧ r.2.mem ((c.tc : Thread Cert.AdSmIdeal.nD Cert.AdSmIdeal.τ).loc Cert.AdSmIdeal.main_v40_18) = v18 c
          ∧ r.2.mem ((c.tc : Thread Cert.AdSmIdeal.nD Cert.AdSmIdeal.τ).loc Cert.AdSmIdeal.main_v40_19) = v19 c
          ∧ r.2.mem ((c.tc : Thread Cert.AdSmIdeal.nD Cert.AdSmIdeal.τ).loc Cert.AdSmIdeal.main_v40_20) = v20 c
          ∧ r.2.mem ((c.tc : Thread Cert.AdSmIdeal.nD Cert.AdSmIdeal.τ).loc Cert.AdSmIdeal.main_v40_21) = v21 c
          ∧ r.2.mem ((c.tc : Thread Cert.AdSmIdeal.nD Cert.AdSmIdeal.τ).loc Cert.AdSmIdeal.main_v40_22) = v22 c
          ∧ r.2.mem ((c.tc : Thread Cert.AdSmIdeal.nD Cert.AdSmIdeal.τ).loc Cert.AdSmIdeal.main_v40_23) = v23 c
          ∧ r.2.mem ((c.tc : Thread Cert.AdSmIdeal.nD Cert.AdSmIdeal.τ).loc Cert.AdSmIdeal.main_v40_24) = v24 c
          ∧ r.2.mem ((c.tc : Thread Cert.AdSmIdeal.nD Cert.AdSmIdeal.τ).loc Cert.AdSmIdeal.main_v40_25) = v25 c
          ∧ r.2.mem ((c.tc : Thread Cert.AdSmIdeal.nD Cert.AdSmIdeal.τ).loc Cert.AdSmIdeal.main_v40_26) = v26 c
          ∧ r.2.mem ((c.tc : Thread Cert.AdSmIdeal.nD Cert.AdSmIdeal.τ).loc Cert.AdSmIdeal.main_v40_27) = v27 c
          ∧ r.2.mem ((c.tc : Thread Cert.AdSmIdeal.nD Cert.AdSmIdeal.τ).loc Cert.AdSmIdeal.main_v40_28) = v28 c
          ∧ r.2.mem ((c.tc : Thread Cert.AdSmIdeal.nD Cert.AdSmIdeal.τ).loc Cert.AdSmIdeal.main_v40_29) = v29 c
          ∧ r.2.mem ((c.tc : Thread Cert.AdSmIdeal.nD Cert.AdSmIdeal.τ).loc Cert.AdSmIdeal.main_v40_30) = v30 c
          ∧ r.2.mem ((c.tc : Thread Cert.AdSmIdeal.nD Cert.AdSmIdeal.τ).loc Cert.AdSmIdeal.main_v40_31) = v31 c
          ∧ r.2.mem ((c.tc : Thread Cert.AdSmIdeal.nD Cert.AdSmIdeal.τ).loc Cert.AdSmIdeal.main_v40_32) = v32 c
          ∧ r.2.mem ((c.tc : Thread Cert.AdSmIdeal.nD Cert.AdSmIdeal.τ).loc Cert.AdSmIdeal.main_v40_33) = v33 c
          ∧ r.2.mem ((c.tc : Thread Cert.AdSmIdeal.nD Cert.AdSmIdeal.τ).loc Cert.AdSmIdeal.main_v40_34) = v34 c
          ∧ r.2.mem ((c.tc : Thread Cert.AdSmIdeal.nD Cert.AdSmIdeal.τ).loc Cert.AdSmIdeal.main_v40_35) = v35 c
          ∧ r.2.mem ((c.tc : Thread Cert.AdSmIdeal.nD Cert.AdSmIdeal.τ).loc Cert.AdSmIdeal.main_v40_36) = v36 c
          ∧ r.2.mem ((c.tc : Thread Cert.AdSmIdeal.nD Cert.AdSmIdeal.τ).loc Cert.AdSmIdeal.main_v40_37) = v37 c
          ∧ r.2.mem ((c.tc : Thread Cert.AdSmIdeal.nD Cert.AdSmIdeal.τ).loc Cert.AdSmIdeal.main_v40_38) = v38 c
          ∧ r.2.mem ((c.tc : Thread Cert.AdSmIdeal.nD Cert.AdSmIdeal.τ).loc Cert.AdSmIdeal.main_v40_39) = v39 c
          ∧ r.2.mem ((c.tc : Thread Cert.AdSmIdeal.nD Cert.AdSmIdeal.τ).loc Cert.AdSmIdeal.main_v40_40) = v40 c
          ∧ r.2.mem ((c.tc : Thread Cert.AdSmIdeal.nD Cert.AdSmIdeal.τ).loc Cert.AdSmIdeal.main_v40_41) = v41 c
          ∧ r.2.mem ((c.tc : Thread Cert.AdSmIdeal.nD Cert.AdSmIdeal.τ).loc Cert.AdSmIdeal.main_v40_42) = v42 c
          ∧ r.2.mem ((c.tc : Thread Cert.AdSmIdeal.nD Cert.AdSmIdeal.τ).loc Cert.AdSmIdeal.main_v40_43) = v43 c
          ∧ r.2.mem ((c.tc : Thread Cert.AdSmIdeal.nD Cert.AdSmIdeal.τ).loc Cert.AdSmIdeal.main_v40_44) = v44 c
          ∧ r.2.mem ((c.tc : Thread Cert.AdSmIdeal.nD Cert.AdSmIdeal.τ).loc Cert.AdSmIdeal.main_v40_45) = v45 c
          ∧ r.2.mem ((c.tc : Thread Cert.AdSmIdeal.nD Cert.AdSmIdeal.τ).loc Cert.AdSmIdeal.main_v40_46) = v46 c
          ∧ r.2.mem ((c.tc : Thread Cert.AdSmIdeal.nD Cert.AdSmIdeal.τ).loc Cert.AdSmIdeal.main_v40_47) = v47 c
          ∧ r.2.mem ((c.tc : Thread Cert.AdSmIdeal.nD Cert.AdSmIdeal.τ).loc Cert.AdSmIdeal.main_v40_48) = v48 c
          ∧ r.2.mem ((c.tc : Thread Cert.AdSmIdeal.nD Cert.AdSmIdeal.τ).loc Cert.AdSmIdeal.main_v40_49) = v49 c
          ∧ r.2.mem ((c.tc : Thread Cert.AdSmIdeal.nD Cert.AdSmIdeal.τ).loc Cert.AdSmIdeal.main_v40_50) = v50 c
          ∧ r.2.mem ((c.tc : Thread Cert.AdSmIdeal.nD Cert.AdSmIdeal.τ).loc Cert.AdSmIdeal.main_v40_51) = v51 c
          ∧ r.2.mem ((c.tc : Thread Cert.AdSmIdeal.nD Cert.AdSmIdeal.τ).loc Cert.AdSmIdeal.main_v40_52) = v52 c
          ∧ r.2.mem ((c.tc : Thread Cert.AdSmIdeal.nD Cert.AdSmIdeal.τ).loc Cert.AdSmIdeal.main_arg0) = m ((c.tc : Thread Cert.AdSmIdeal.nD Cert.AdSmIdeal.τ).loc Cert.AdSmIdeal.main_arg0)
          ∧ r.2.mem ((c.tc : Thread Cert.AdSmIdeal.nD Cert.AdSmIdeal.τ).loc Cert.AdSmIdeal.main_arg1) = m ((c.tc : Thread Cert.AdSmIdeal.nD Cert.AdSmIdeal.τ).loc Cert.AdSmIdeal.main_arg1)
          ∧ r.2.mem ((c.tc : Thread Cert.AdSmIdeal.nD Cert.AdSmIdeal.τ).loc Cert.AdSmIdeal.main_arg2) = m ((c.tc : Thread Cert.AdSmIdeal.nD Cert.AdSmIdeal.τ).loc Cert.AdSmIdeal.main_arg2)
          ∧ r.2.mem ((c.tc : Thread Cert.AdSmIdeal.nD Cert.AdSmIdeal.τ).loc Cert.AdSmIdeal.main_arg3) = m ((c.tc : Thread Cert.AdSmIdeal.nD Cert.AdSmIdeal.τ).loc Cert.AdSmIdeal.main_arg3)
          ∧ r.2.mem ((c.tc : Thread Cert.AdSmIdeal.nD Cert.AdSmIdeal.τ).loc Cert.AdSmIdeal.main_arg4) = m ((c.tc : Thread Cert.AdSmIdeal.nD Cert.AdSmIdeal.τ).loc Cert.AdSmIdeal.main_arg4)
          ∧ r.2.mem ((c.tc : Thread Cert.AdSmIdeal.nD Cert.AdSmIdeal.τ).loc Cert.AdSmIdeal.main_arg5) = m ((c.tc : Thread Cert.AdSmIdeal.nD Cert.AdSmIdeal.τ).loc Cert.AdSmIdeal.main_arg5)
          ∧ r.2.mem ((c.tc : Thread Cert.AdSmIdeal.nD Cert.AdSmIdeal.τ).loc Cert.AdSmIdeal.main_arg6) = m ((c.tc : Thread Cert.AdSmIdeal.nD Cert.AdSmIdeal.τ).loc Cert.AdSmIdeal.main_arg6)
          ∧ r.2.mem ((c.tc : Thread Cert.AdSmIdeal.nD Cert.AdSmIdeal.τ).loc Cert.AdSmIdeal.main_arg7) = m ((c.tc : Thread Cert.AdSmIdeal.nD Cert.AdSmIdeal.τ).loc Cert.AdSmIdeal.main_arg7)
          ∧ r.2.mem ((c.tc : Thread Cert.AdSmIdeal.nD Cert.AdSmIdeal.τ).loc Cert.AdSmIdeal.main_arg8) = m ((c.tc : Thread Cert.AdSmIdeal.nD Cert.AdSmIdeal.τ).loc Cert.AdSmIdeal.main_arg8)
          ∧ r.2.mem ((c.tc : Thread Cert.AdSmIdeal.nD Cert.AdSmIdeal.τ).loc Cert.AdSmIdeal.main_arg9) = m ((c.tc : Thread Cert.AdSmIdeal.nD Cert.AdSmIdeal.τ).loc Cert.AdSmIdeal.main_arg9)
          ∧ r.2.mem ((c.tc : Thread Cert.AdSmIdeal.nD Cert.AdSmIdeal.τ).loc Cert.AdSmIdeal.main_arg10) = m ((c.tc : Thread Cert.AdSmIdeal.nD Cert.AdSmIdeal.τ).loc Cert.AdSmIdeal.main_arg10)
          ∧ r.2.mem ((c.tc : Thread Cert.AdSmIdeal.nD Cert.AdSmIdeal.τ).loc Cert.AdSmIdeal.main_arg11) = m ((c.tc : Thread Cert.AdSmIdeal.nD Cert.AdSmIdeal.τ).loc Cert.AdSmIdeal.main_arg11)
          ∧ r.2.mem ((c.tc : Thread Cert.AdSmIdeal.nD Cert.AdSmIdeal.τ).loc Cert.AdSmIdeal.main_arg12) = m ((c.tc : Thread Cert.AdSmIdeal.nD Cert.AdSmIdeal.τ).loc Cert.AdSmIdeal.main_arg12)
          ∧ r.2.mem ((c.tc : Thread Cert.AdSmIdeal.nD Cert.AdSmIdeal.τ).loc Cert.AdSmIdeal.main_arg13) = m ((c.tc : Thread Cert.AdSmIdeal.nD Cert.AdSmIdeal.τ).loc Cert.AdSmIdeal.main_arg13)
          ∧ r.2.mem ((c.tc : Thread Cert.AdSmIdeal.nD Cert.AdSmIdeal.τ).loc Cert.AdSmIdeal.main_arg14) = m ((c.tc : Thread Cert.AdSmIdeal.nD Cert.AdSmIdeal.τ).loc Cert.AdSmIdeal.main_arg14)
          ∧ r.2.mem ((c.tc : Thread Cert.AdSmIdeal.nD Cert.AdSmIdeal.τ).loc Cert.AdSmIdeal.main_arg15) = m ((c.tc : Thread Cert.AdSmIdeal.nD Cert.AdSmIdeal.τ).loc Cert.AdSmIdeal.main_arg15)
          ∧ r.2.mem ((c.tc : Thread Cert.AdSmIdeal.nD Cert.AdSmIdeal.τ).loc Cert.AdSmIdeal.main_arg16) = m ((c.tc : Thread Cert.AdSmIdeal.nD Cert.AdSmIdeal.τ).loc Cert.AdSmIdeal.main_arg16)
          ∧ r.2.mem ((c.tc : Thread Cert.AdSmIdeal.nD Cert.AdSmIdeal.τ).loc Cert.AdSmIdeal.main_arg17) = m ((c.tc : Thread Cert.AdSmIdeal.nD Cert.AdSmIdeal.τ).loc Cert.AdSmIdeal.main_arg17)
          ∧ r.2.mem ((c.tc : Thread Cert.AdSmIdeal.nD Cert.AdSmIdeal.τ).loc Cert.AdSmIdeal.main_arg18) = m ((c.tc : Thread Cert.AdSmIdeal.nD Cert.AdSmIdeal.τ).loc Cert.AdSmIdeal.main_arg18)
          ∧ r.2.mem ((c.tc : Thread Cert.AdSmIdeal.nD Cert.AdSmIdeal.τ).loc Cert.AdSmIdeal.main_arg19) = m ((c.tc : Thread Cert.AdSmIdeal.nD Cert.AdSmIdeal.τ).loc Cert.AdSmIdeal.main_arg19)
          ∧ r.2.mem ((c.tc : Thread Cert.AdSmIdeal.nD Cert.AdSmIdeal.τ).loc Cert.AdSmIdeal.main_arg20) = m ((c.tc : Thread Cert.AdSmIdeal.nD Cert.AdSmIdeal.τ).loc Cert.AdSmIdeal.main_arg20)
          ∧ r.2.mem ((c.tc : Thread Cert.AdSmIdeal.nD Cert.AdSmIdeal.τ).loc Cert.AdSmIdeal.main_arg21) = m ((c.tc : Thread Cert.AdSmIdeal.nD Cert.AdSmIdeal.τ).loc Cert.AdSmIdeal.main_arg21)
          ∧ r.2.mem ((c.tc : Thread Cert.AdSmIdeal.nD Cert.AdSmIdeal.τ).loc Cert.AdSmIdeal.main_arg22) = m ((c.tc : Thread Cert.AdSmIdeal.nD Cert.AdSmIdeal.τ).loc Cert.AdSmIdeal.main_arg22)
          ∧ r.2.mem ((c.tc : Thread Cert.AdSmIdeal.nD Cert.AdSmIdeal.τ).loc Cert.AdSmIdeal.main_arg23) = m ((c.tc : Thread Cert.AdSmIdeal.nD Cert.AdSmIdeal.τ).loc Cert.AdSmIdeal.main_arg23)
          ∧ r.2.mem ((c.tc : Thread Cert.AdSmIdeal.nD Cert.AdSmIdeal.τ).loc Cert.AdSmIdeal.main_arg24) = m ((c.tc : Thread Cert.AdSmIdeal.nD Cert.AdSmIdeal.τ).loc Cert.AdSmIdeal.main_arg24)
          ∧ r.2.mem ((c.tc : Thread Cert.AdSmIdeal.nD Cert.AdSmIdeal.τ).loc Cert.AdSmIdeal.main_arg25) = m ((c.tc : Thread Cert.AdSmIdeal.nD Cert.AdSmIdeal.τ).loc Cert.AdSmIdeal.main_arg25)
          ∧ r.2.mem ((c.tc : Thread Cert.AdSmIdeal.nD Cert.AdSmIdeal.τ).loc Cert.AdSmIdeal.main_arg26) = m ((c.tc : Thread Cert.AdSmIdeal.nD Cert.AdSmIdeal.τ).loc Cert.AdSmIdeal.main_arg26)
          ∧ r.2.mem ((c.tc : Thread Cert.AdSmIdeal.nD Cert.AdSmIdeal.τ).loc Cert.AdSmIdeal.main_arg27) = m ((c.tc : Thread Cert.AdSmIdeal.nD Cert.AdSmIdeal.τ).loc Cert.AdSmIdeal.main_arg27)
          ∧ r.2.mem ((c.tc : Thread Cert.AdSmIdeal.nD Cert.AdSmIdeal.τ).loc Cert.AdSmIdeal.main_arg28) = m ((c.tc : Thread Cert.AdSmIdeal.nD Cert.AdSmIdeal.τ).loc Cert.AdSmIdeal.main_arg28)
          ∧ r.2.mem ((c.tc : Thread Cert.AdSmIdeal.nD Cert.AdSmIdeal.τ).loc Cert.AdSmIdeal.main_arg29) = m ((c.tc : Thread Cert.AdSmIdeal.nD Cert.AdSmIdeal.τ).loc Cert.AdSmIdeal.main_arg29)
          ∧ r.2.mem ((c.tc : Thread Cert.AdSmIdeal.nD Cert.AdSmIdeal.τ).loc Cert.AdSmIdeal.main_arg30) = m ((c.tc : Thread Cert.AdSmIdeal.nD Cert.AdSmIdeal.τ).loc Cert.AdSmIdeal.main_arg30)
          ∧ r.2.mem ((c.tc : Thread Cert.AdSmIdeal.nD Cert.AdSmIdeal.τ).loc Cert.AdSmIdeal.main_arg31) = m ((c.tc : Thread Cert.AdSmIdeal.nD Cert.AdSmIdeal.τ).loc Cert.AdSmIdeal.main_arg31)
          ∧ r.2.mem ((c.tc : Thread Cert.AdSmIdeal.nD Cert.AdSmIdeal.τ).loc Cert.AdSmIdeal.main_arg32) = m ((c.tc : Thread Cert.AdSmIdeal.nD Cert.AdSmIdeal.τ).loc Cert.AdSmIdeal.main_arg32)
          ∧ r.2.mem ((c.tc : Thread Cert.AdSmIdeal.nD Cert.AdSmIdeal.τ).loc Cert.AdSmIdeal.main_arg33) = m ((c.tc : Thread Cert.AdSmIdeal.nD Cert.AdSmIdeal.τ).loc Cert.AdSmIdeal.main_arg33)
          ∧ r.2.mem ((c.tc : Thread Cert.AdSmIdeal.nD Cert.AdSmIdeal.τ).loc Cert.AdSmIdeal.main_arg34) = m ((c.tc : Thread Cert.AdSmIdeal.nD Cert.AdSmIdeal.τ).loc Cert.AdSmIdeal.main_arg34)
          ∧ r.2.mem ((c.tc : Thread Cert.AdSmIdeal.nD Cert.AdSmIdeal.τ).loc Cert.AdSmIdeal.main_arg35) = m ((c.tc : Thread Cert.AdSmIdeal.nD Cert.AdSmIdeal.τ).loc Cert.AdSmIdeal.main_arg35)
          ∧ r.2.mem ((c.tc : Thread Cert.AdSmIdeal.nD Cert.AdSmIdeal.τ).loc Cert.AdSmIdeal.main_arg36) = m ((c.tc : Thread Cert.AdSmIdeal.nD Cert.AdSmIdeal.τ).loc Cert.AdSmIdeal.main_arg36)
          ∧ r.2.mem ((c.tc : Thread Cert.AdSmIdeal.nD Cert.AdSmIdeal.τ).loc Cert.AdSmIdeal.main_arg37) = m ((c.tc : Thread Cert.AdSmIdeal.nD Cert.AdSmIdeal.τ).loc Cert.AdSmIdeal.main_arg37)
          ∧ r.2.mem ((c.tc : Thread Cert.AdSmIdeal.nD Cert.AdSmIdeal.τ).loc Cert.AdSmIdeal.main_arg38) = m ((c.tc : Thread Cert.AdSmIdeal.nD Cert.AdSmIdeal.τ).loc Cert.AdSmIdeal.main_arg38)
          ∧ r.2.mem ((c.tc : Thread Cert.AdSmIdeal.nD Cert.AdSmIdeal.τ).loc Cert.AdSmIdeal.main_arg39) = m ((c.tc : Thread Cert.AdSmIdeal.nD Cert.AdSmIdeal.τ).loc Cert.AdSmIdeal.main_arg39))
      ∧ θ_run (Cert.AdSmRefIdeal.defs (F := Ideal)) (onTc (τ := Cert.AdSmRefIdeal.τ) (Cert.AdSmRefIdeal.main (F := Ideal))) ⟨m', fun _ => 0, g'⟩ (fun r => ∀ c : Dev Cert.AdSmRefIdeal.nD,
          r.2.mem ((c.tc : Thread Cert.AdSmRefIdeal.nD Cert.AdSmRefIdeal.τ).loc Cert.AdSmRefIdeal.main_v4) = v0 c
          ∧ r.2.mem ((c.tc : Thread Cert.AdSmRefIdeal.nD Cert.AdSmRefIdeal.τ).loc Cert.AdSmRefIdeal.main_v28) = v1 c
          ∧ r.2.mem ((c.tc : Thread Cert.AdSmRefIdeal.nD Cert.AdSmRefIdeal.τ).loc Cert.AdSmRefIdeal.main_v9) = v2 c
          ∧ r.2.mem ((c.tc : Thread Cert.AdSmRefIdeal.nD Cert.AdSmRefIdeal.τ).loc Cert.AdSmRefIdeal.main_v15) = v3 c
          ∧ r.2.mem ((c.tc : Thread Cert.AdSmRefIdeal.nD Cert.AdSmRefIdeal.τ).loc Cert.AdSmRefIdeal.main_v32) = v4 c
          ∧ r.2.mem ((c.tc : Thread Cert.AdSmRefIdeal.nD Cert.AdSmRefIdeal.τ).loc Cert.AdSmRefIdeal.main_v56) = v5 c
          ∧ r.2.mem ((c.tc : Thread Cert.AdSmRefIdeal.nD Cert.AdSmRefIdeal.τ).loc Cert.AdSmRefIdeal.main_v37) = v6 c
          ∧ r.2.mem ((c.tc : Thread Cert.AdSmRefIdeal.nD Cert.AdSmRefIdeal.τ).loc Cert.AdSmRefIdeal.main_v43) = v7 c
          ∧ r.2.mem ((c.tc : Thread Cert.AdSmRefIdeal.nD Cert.AdSmRefIdeal.τ).loc Cert.AdSmRefIdeal.main_v60) = v8 c
          ∧ r.2.mem ((c.tc : Thread Cert.AdSmRefIdeal.nD Cert.AdSmRefIdeal.τ).loc Cert.AdSmRefIdeal.main_v84) = v9 c
          ∧ r.2.mem ((c.tc : Thread Cert.AdSmRefIdeal.nD Cert.AdSmRefIdeal.τ).loc Cert.AdSmRefIdeal.main_v65) = v10 c
          ∧ r.2.mem ((c.tc : Thread Cert.AdSmRefIdeal.nD Cert.AdSmRefIdeal.τ).loc Cert.AdSmRefIdeal.main_v71) = v11 c
          ∧ r.2.mem ((c.tc : Thread Cert.AdSmRefIdeal.nD Cert.AdSmRefIdeal.τ).loc Cert.AdSmRefIdeal.main_v88) = v12 c
          ∧ r.2.mem ((c.tc : Thread Cert.AdSmRefIdeal.nD Cert.AdSmRefIdeal.τ).loc Cert.AdSmRefIdeal.main_v112) = v13 c
          ∧ r.2.mem ((c.tc : Thread Cert.AdSmRefIdeal.nD Cert.AdSmRefIdeal.τ).loc Cert.AdSmRefIdeal.main_v93) = v14 c
          ∧ r.2.mem ((c.tc : Thread Cert.AdSmRefIdeal.nD Cert.AdSmRefIdeal.τ).loc Cert.AdSmRefIdeal.main_v99) = v15 c
          ∧ r.2.mem ((c.tc : Thread Cert.AdSmRefIdeal.nD Cert.AdSmRefIdeal.τ).loc Cert.AdSmRefIdeal.main_v116) = v16 c
          ∧ r.2.mem ((c.tc : Thread Cert.AdSmRefIdeal.nD Cert.AdSmRefIdeal.τ).loc Cert.AdSmRefIdeal.main_v140) = v17 c
          ∧ r.2.mem ((c.tc : Thread Cert.AdSmRefIdeal.nD Cert.AdSmRefIdeal.τ).loc Cert.AdSmRefIdeal.main_v121) = v18 c
          ∧ r.2.mem ((c.tc : Thread Cert.AdSmRefIdeal.nD Cert.AdSmRefIdeal.τ).loc Cert.AdSmRefIdeal.main_v127) = v19 c
          ∧ r.2.mem ((c.tc : Thread Cert.AdSmRefIdeal.nD Cert.AdSmRefIdeal.τ).loc Cert.AdSmRefIdeal.main_v144) = v20 c
          ∧ r.2.mem ((c.tc : Thread Cert.AdSmRefIdeal.nD Cert.AdSmRefIdeal.τ).loc Cert.AdSmRefIdeal.main_v168) = v21 c
          ∧ r.2.mem ((c.tc : Thread Cert.AdSmRefIdeal.nD Cert.AdSmRefIdeal.τ).loc Cert.AdSmRefIdeal.main_v149) = v22 c
          ∧ r.2.mem ((c.tc : Thread Cert.AdSmRefIdeal.nD Cert.AdSmRefIdeal.τ).loc Cert.AdSmRefIdeal.main_v155) = v23 c
          ∧ r.2.mem ((c.tc : Thread Cert.AdSmRefIdeal.nD Cert.AdSmRefIdeal.τ).loc Cert.AdSmRefIdeal.main_v172) = v24 c
          ∧ r.2.mem ((c.tc : Thread Cert.AdSmRefIdeal.nD Cert.AdSmRefIdeal.τ).loc Cert.AdSmRefIdeal.main_v196) = v25 c
          ∧ r.2.mem ((c.tc : Thread Cert.AdSmRefIdeal.nD Cert.AdSmRefIdeal.τ).loc Cert.AdSmRefIdeal.main_v177) = v26 c
          ∧ r.2.mem ((c.tc : Thread Cert.AdSmRefIdeal.nD Cert.AdSmRefIdeal.τ).loc Cert.AdSmRefIdeal.main_v183) = v27 c
          ∧ r.2.mem ((c.tc : Thread Cert.AdSmRefIdeal.nD Cert.AdSmRefIdeal.τ).loc Cert.AdSmRefIdeal.main_v200) = v28 c
          ∧ r.2.mem ((c.tc : Thread Cert.AdSmRefIdeal.nD Cert.AdSmRefIdeal.τ).loc Cert.AdSmRefIdeal.main_v224) = v29 c
          ∧ r.2.mem ((c.tc : Thread Cert.AdSmRefIdeal.nD Cert.AdSmRefIdeal.τ).loc Cert.AdSmRefIdeal.main_v205) = v30 c
          ∧ r.2.mem ((c.tc : Thread Cert.AdSmRefIdeal.nD Cert.AdSmRefIdeal.τ).loc Cert.AdSmRefIdeal.main_v211) = v31 c
          ∧ r.2.mem ((c.tc : Thread Cert.AdSmRefIdeal.nD Cert.AdSmRefIdeal.τ).loc Cert.AdSmRefIdeal.main_v228) = v32 c
          ∧ r.2.mem ((c.tc : Thread Cert.AdSmRefIdeal.nD Cert.AdSmRefIdeal.τ).loc Cert.AdSmRefIdeal.main_v252) = v33 c
          ∧ r.2.mem ((c.tc : Thread Cert.AdSmRefIdeal.nD Cert.AdSmRefIdeal.τ).loc Cert.AdSmRefIdeal.main_v233) = v34 c
          ∧ r.2.mem ((c.tc : Thread Cert.AdSmRefIdeal.nD Cert.AdSmRefIdeal.τ).loc Cert.AdSmRefIdeal.main_v239) = v35 c
          ∧ r.2.mem ((c.tc : Thread Cert.AdSmRefIdeal.nD Cert.AdSmRefIdeal.τ).loc Cert.AdSmRefIdeal.main_v256) = v36 c
          ∧ r.2.mem ((c.tc : Thread Cert.AdSmRefIdeal.nD Cert.AdSmRefIdeal.τ).loc Cert.AdSmRefIdeal.main_v280) = v37 c
          ∧ r.2.mem ((c.tc : Thread Cert.AdSmRefIdeal.nD Cert.AdSmRefIdeal.τ).loc Cert.AdSmRefIdeal.main_v261) = v38 c
          ∧ r.2.mem ((c.tc : Thread Cert.AdSmRefIdeal.nD Cert.AdSmRefIdeal.τ).loc Cert.AdSmRefIdeal.main_v267) = v39 c
          ∧ r.2.mem ((c.tc : Thread Cert.AdSmRefIdeal.nD Cert.AdSmRefIdeal.τ).loc Cert.AdSmRefIdeal.main_v284) = v40 c
          ∧ r.2.mem ((c.tc : Thread Cert.AdSmRefIdeal.nD Cert.AdSmRefIdeal.τ).loc Cert.AdSmRefIdeal.main_v308) = v41 c
          ∧ r.2.mem ((c.tc : Thread Cert.AdSmRefIdeal.nD Cert.AdSmRefIdeal.τ).loc Cert.AdSmRefIdeal.main_v289) = v42 c
          ∧ r.2.mem ((c.tc : Thread Cert.AdSmRefIdeal.nD Cert.AdSmRefIdeal.τ).loc Cert.AdSmRefIdeal.main_v295) = v43 c
          ∧ r.2.mem ((c.tc : Thread Cert.AdSmRefIdeal.nD Cert.AdSmRefIdeal.τ).loc Cert.AdSmRefIdeal.main_v312) = v44 c
          ∧ r.2.mem ((c.tc : Thread Cert.AdSmRefIdeal.nD Cert.AdSmRefIdeal.τ).loc Cert.AdSmRefIdeal.main_v336) = v45 c
          ∧ r.2.mem ((c.tc : Thread Cert.AdSmRefIdeal.nD Cert.AdSmRefIdeal.τ).loc Cert.AdSmRefIdeal.main_v317) = v46 c
          ∧ r.2.mem ((c.tc : Thread Cert.AdSmRefIdeal.nD Cert.AdSmRefIdeal.τ).loc Cert.AdSmRefIdeal.main_v323) = v47 c
          ∧ r.2.mem ((c.tc : Thread Cert.AdSmRefIdeal.nD Cert.AdSmRefIdeal.τ).loc Cert.AdSmRefIdeal.main_v340) = v48 c
          ∧ r.2.mem ((c.tc : Thread Cert.AdSmRefIdeal.nD Cert.AdSmRefIdeal.τ).loc Cert.AdSmRefIdeal.main_v364) = v49 c
          ∧ r.2.mem ((c.tc : Thread Cert.AdSmRefIdeal.nD Cert.AdSmRefIdeal.τ).loc Cert.AdSmRefIdeal.main_v345) = v50 c
          ∧ r.2.mem ((c.tc : Thread Cert.AdSmRefIdeal.nD Cert.AdSmRefIdeal.τ).loc Cert.AdSmRefIdeal.main_v351) = v51 c
          ∧ r.2.mem ((c.tc : Thread Cert.AdSmRefIdeal.nD Cert.AdSmRefIdeal.τ).loc Cert.AdSmRefIdeal.main_v365) = v52 c
          ∧ r.2.mem ((c.tc : Thread Cert.AdSmRefIdeal.nD Cert.AdSmRefIdeal.τ).loc Cert.AdSmRefIdeal.main_arg0) = m' ((c.tc : Thread Cert.AdSmRefIdeal.nD Cert.AdSmRefIdeal.τ).loc Cert.AdSmRefIdeal.main_arg0)
          ∧ r.2.mem ((c.tc : Thread Cert.AdSmRefIdeal.nD Cert.AdSmRefIdeal.τ).loc Cert.AdSmRefIdeal.main_arg1) = m' ((c.tc : Thread Cert.AdSmRefIdeal.nD Cert.AdSmRefIdeal.τ).loc Cert.AdSmRefIdeal.main_arg1)
          ∧ r.2.mem ((c.tc : Thread Cert.AdSmRefIdeal.nD Cert.AdSmRefIdeal.τ).loc Cert.AdSmRefIdeal.main_arg2) = m' ((c.tc : Thread Cert.AdSmRefIdeal.nD Cert.AdSmRefIdeal.τ).loc Cert.AdSmRefIdeal.main_arg2)
          ∧ r.2.mem ((c.tc : Thread Cert.AdSmRefIdeal.nD Cert.AdSmRefIdeal.τ).loc Cert.AdSmRefIdeal.main_arg3) = m' ((c.tc : Thread Cert.AdSmRefIdeal.nD Cert.AdSmRefIdeal.τ).loc Cert.AdSmRefIdeal.main_arg3)
          ∧ r.2.mem ((c.tc : Thread Cert.AdSmRefIdeal.nD Cert.AdSmRefIdeal.τ).loc Cert.AdSmRefIdeal.main_arg4) = m' ((c.tc : Thread Cert.AdSmRefIdeal.nD Cert.AdSmRefIdeal.τ).loc Cert.AdSmRefIdeal.main_arg4)
          ∧ r.2.mem ((c.tc : Thread Cert.AdSmRefIdeal.nD Cert.AdSmRefIdeal.τ).loc Cert.AdSmRefIdeal.main_arg5) = m' ((c.tc : Thread Cert.AdSmRefIdeal.nD Cert.AdSmRefIdeal.τ).loc Cert.AdSmRefIdeal.main_arg5)
          ∧ r.2.mem ((c.tc : Thread Cert.AdSmRefIdeal.nD Cert.AdSmRefIdeal.τ).loc Cert.AdSmRefIdeal.main_arg6) = m' ((c.tc : Thread Cert.AdSmRefIdeal.nD Cert.AdSmRefIdeal.τ).loc Cert.AdSmRefIdeal.main_arg6)
          ∧ r.2.mem ((c.tc : Thread Cert.AdSmRefIdeal.nD Cert.AdSmRefIdeal.τ).loc Cert.AdSmRefIdeal.main_arg7) = m' ((c.tc : Thread Cert.AdSmRefIdeal.nD Cert.AdSmRefIdeal.τ).loc Cert.AdSmRefIdeal.main_arg7)
          ∧ r.2.mem ((c.tc : Thread Cert.AdSmRefIdeal.nD Cert.AdSmRefIdeal.τ).loc Cert.AdSmRefIdeal.main_arg8) = m' ((c.tc : Thread Cert.AdSmRefIdeal.nD Cert.AdSmRefIdeal.τ).loc Cert.AdSmRefIdeal.main_arg8)
          ∧ r.2.mem ((c.tc : Thread Cert.AdSmRefIdeal.nD Cert.AdSmRefIdeal.τ).loc Cert.AdSmRefIdeal.main_arg9) = m' ((c.tc : Thread Cert.AdSmRefIdeal.nD Cert.AdSmRefIdeal.τ).loc Cert.AdSmRefIdeal.main_arg9)
          ∧ r.2.mem ((c.tc : Thread Cert.AdSmRefIdeal.nD Cert.AdSmRefIdeal.τ).loc Cert.AdSmRefIdeal.main_arg10) = m' ((c.tc : Thread Cert.AdSmRefIdeal.nD Cert.AdSmRefIdeal.τ).loc Cert.AdSmRefIdeal.main_arg10)
          ∧ r.2.mem ((c.tc : Thread Cert.AdSmRefIdeal.nD Cert.AdSmRefIdeal.τ).loc Cert.AdSmRefIdeal.main_arg11) = m' ((c.tc : Thread Cert.AdSmRefIdeal.nD Cert.AdSmRefIdeal.τ).loc Cert.AdSmRefIdeal.main_arg11)
          ∧ r.2.mem ((c.tc : Thread Cert.AdSmRefIdeal.nD Cert.AdSmRefIdeal.τ).loc Cert.AdSmRefIdeal.main_arg12) = m' ((c.tc : Thread Cert.AdSmRefIdeal.nD Cert.AdSmRefIdeal.τ).loc Cert.AdSmRefIdeal.main_arg12)
          ∧ r.2.mem ((c.tc : Thread Cert.AdSmRefIdeal.nD Cert.AdSmRefIdeal.τ).loc Cert.AdSmRefIdeal.main_arg13) = m' ((c.tc : Thread Cert.AdSmRefIdeal.nD Cert.AdSmRefIdeal.τ).loc Cert.AdSmRefIdeal.main_arg13)
          ∧ r.2.mem ((c.tc : Thread Cert.AdSmRefIdeal.nD Cert.AdSmRefIdeal.τ).loc Cert.AdSmRefIdeal.main_arg14) = m' ((c.tc : Thread Cert.AdSmRefIdeal.nD Cert.AdSmRefIdeal.τ).loc Cert.AdSmRefIdeal.main_arg14)
          ∧ r.2.mem ((c.tc : Thread Cert.AdSmRefIdeal.nD Cert.AdSmRefIdeal.τ).loc Cert.AdSmRefIdeal.main_arg15) = m' ((c.tc : Thread Cert.AdSmRefIdeal.nD Cert.AdSmRefIdeal.τ).loc Cert.AdSmRefIdeal.main_arg15)
          ∧ r.2.mem ((c.tc : Thread Cert.AdSmRefIdeal.nD Cert.AdSmRefIdeal.τ).loc Cert.AdSmRefIdeal.main_arg16) = m' ((c.tc : Thread Cert.AdSmRefIdeal.nD Cert.AdSmRefIdeal.τ).loc Cert.AdSmRefIdeal.main_arg16)
          ∧ r.2.mem ((c.tc : Thread Cert.AdSmRefIdeal.nD Cert.AdSmRefIdeal.τ).loc Cert.AdSmRefIdeal.main_arg17) = m' ((c.tc : Thread Cert.AdSmRefIdeal.nD Cert.AdSmRefIdeal.τ).loc Cert.AdSmRefIdeal.main_arg17)
          ∧ r.2.mem ((c.tc : Thread Cert.AdSmRefIdeal.nD Cert.AdSmRefIdeal.τ).loc Cert.AdSmRefIdeal.main_arg18) = m' ((c.tc : Thread Cert.AdSmRefIdeal.nD Cert.AdSmRefIdeal.τ).loc Cert.AdSmRefIdeal.main_arg18)
          ∧ r.2.mem ((c.tc : Thread Cert.AdSmRefIdeal.nD Cert.AdSmRefIdeal.τ).loc Cert.AdSmRefIdeal.main_arg19) = m' ((c.tc : Thread Cert.AdSmRefIdeal.nD Cert.AdSmRefIdeal.τ).loc Cert.AdSmRefIdeal.main_arg19)
          ∧ r.2.mem ((c.tc : Thread Cert.AdSmRefIdeal.nD Cert.AdSmRefIdeal.τ).loc Cert.AdSmRefIdeal.main_arg20) = m' ((c.tc : Thread Cert.AdSmRefIdeal.nD Cert.AdSmRefIdeal.τ).loc Cert.AdSmRefIdeal.main_arg20)
          ∧ r.2.mem ((c.tc : Thread Cert.AdSmRefIdeal.nD Cert.AdSmRefIdeal.τ).loc Cert.AdSmRefIdeal.main_arg21) = m' ((c.tc : Thread Cert.AdSmRefIdeal.nD Cert.AdSmRefIdeal.τ).loc Cert.AdSmRefIdeal.main_arg21)
          ∧ r.2.mem ((c.tc : Thread Cert.AdSmRefIdeal.nD Cert.AdSmRefIdeal.τ).loc Cert.AdSmRefIdeal.main_arg22) = m' ((c.tc : Thread Cert.AdSmRefIdeal.nD Cert.AdSmRefIdeal.τ).loc Cert.AdSmRefIdeal.main_arg22)
          ∧ r.2.mem ((c.tc : Thread Cert.AdSmRefIdeal.nD Cert.AdSmRefIdeal.τ).loc Cert.AdSmRefIdeal.main_arg23) = m' ((c.tc : Thread Cert.AdSmRefIdeal.nD Cert.AdSmRefIdeal.τ).loc Cert.AdSmRefIdeal.main_arg23)
          ∧ r.2.mem ((c.tc : Thread Cert.AdSmRefIdeal.nD Cert.AdSmRefIdeal.τ).loc Cert.AdSmRefIdeal.main_arg24) = m' ((c.tc : Thread Cert.AdSmRefIdeal.nD Cert.AdSmRefIdeal.τ).loc Cert.AdSmRefIdeal.main_arg24)
          ∧ r.2.mem ((c.tc : Thread Cert.AdSmRefIdeal.nD Cert.AdSmRefIdeal.τ).loc Cert.AdSmRefIdeal.main_arg25) = m' ((c.tc : Thread Cert.AdSmRefIdeal.nD Cert.AdSmRefIdeal.τ).loc Cert.AdSmRefIdeal.main_arg25)
          ∧ r.2.mem ((c.tc : Thread Cert.AdSmRefIdeal.nD Cert.AdSmRefIdeal.τ).loc Cert.AdSmRefIdeal.main_arg26) = m' ((c.tc : Thread Cert.AdSmRefIdeal.nD Cert.AdSmRefIdeal.τ).loc Cert.AdSmRefIdeal.main_arg26)
          ∧ r.2.mem ((c.tc : Thread Cert.AdSmRefIdeal.nD Cert.AdSmRefIdeal.τ).loc Cert.AdSmRefIdeal.main_arg27) = m' ((c.tc : Thread Cert.AdSmRefIdeal.nD Cert.AdSmRefIdeal.τ).loc Cert.AdSmRefIdeal.main_arg27)
          ∧ r.2.mem ((c.tc : Thread Cert.AdSmRefIdeal.nD Cert.AdSmRefIdeal.τ).loc Cert.AdSmRefIdeal.main_arg28) = m' ((c.tc : Thread Cert.AdSmRefIdeal.nD Cert.AdSmRefIdeal.τ).loc Cert.AdSmRefIdeal.main_arg28)
          ∧ r.2.mem ((c.tc : Thread Cert.AdSmRefIdeal.nD Cert.AdSmRefIdeal.τ).loc Cert.AdSmRefIdeal.main_arg29) = m' ((c.tc : Thread Cert.AdSmRefIdeal.nD Cert.AdSmRefIdeal.τ).loc Cert.AdSmRefIdeal.main_arg29)
          ∧ r.2.mem ((c.tc : Thread Cert.AdSmRefIdeal.nD Cert.AdSmRefIdeal.τ).loc Cert.AdSmRefIdeal.main_arg30) = m' ((c.tc : Thread Cert.AdSmRefIdeal.nD Cert.AdSmRefIdeal.τ).loc Cert.AdSmRefIdeal.main_arg30)
          ∧ r.2.mem ((c.tc : Thread Cert.AdSmRefIdeal.nD Cert.AdSmRefIdeal.τ).loc Cert.AdSmRefIdeal.main_arg31) = m' ((c.tc : Thread Cert.AdSmRefIdeal.nD Cert.AdSmRefIdeal.τ).loc Cert.AdSmRefIdeal.main_arg31)
          ∧ r.2.mem ((c.tc : Thread Cert.AdSmRefIdeal.nD Cert.AdSmRefIdeal.τ).loc Cert.AdSmRefIdeal.main_arg32) = m' ((c.tc : Thread Cert.AdSmRefIdeal.nD Cert.AdSmRefIdeal.τ).loc Cert.AdSmRefIdeal.main_arg32)
          ∧ r.2.mem ((c.tc : Thread Cert.AdSmRefIdeal.nD Cert.AdSmRefIdeal.τ).loc Cert.AdSmRefIdeal.main_arg33) = m' ((c.tc : Thread Cert.AdSmRefIdeal.nD Cert.AdSmRefIdeal.τ).loc Cert.AdSmRefIdeal.main_arg33)
          ∧ r.2.mem ((c.tc : Thread Cert.AdSmRefIdeal.nD Cert.AdSmRefIdeal.τ).loc Cert.AdSmRefIdeal.main_arg34) = m' ((c.tc : Thread Cert.AdSmRefIdeal.nD Cert.AdSmRefIdeal.τ).loc Cert.AdSmRefIdeal.main_arg34)
          ∧ r.2.mem ((c.tc : Thread Cert.AdSmRefIdeal.nD Cert.AdSmRefIdeal.τ).loc Cert.AdSmRefIdeal.main_arg35) = m' ((c.tc : Thread Cert.AdSmRefIdeal.nD Cert.AdSmRefIdeal.τ).loc Cert.AdSmRefIdeal.main_arg35)
          ∧ r.2.mem ((c.tc : Thread Cert.AdSmRefIdeal.nD Cert.AdSmRefIdeal.τ).loc Cert.AdSmRefIdeal.main_arg36) = m' ((c.tc : Thread Cert.AdSmRefIdeal.nD Cert.AdSmRefIdeal.τ).loc Cert.AdSmRefIdeal.main_arg36)
          ∧ r.2.mem ((c.tc : Thread Cert.AdSmRefIdeal.nD Cert.AdSmRefIdeal.τ).loc Cert.AdSmRefIdeal.main_arg37) = m' ((c.tc : Thread Cert.AdSmRefIdeal.nD Cert.AdSmRefIdeal.τ).loc Cert.AdSmRefIdeal.main_arg37)
          ∧ r.2.mem ((c.tc : Thread Cert.AdSmRefIdeal.nD Cert.AdSmRefIdeal.τ).loc Cert.AdSmRefIdeal.main_arg38) = m' ((c.tc : Thread Cert.AdSmRefIdeal.nD Cert.AdSmRefIdeal.τ).loc Cert.AdSmRefIdeal.main_arg38)
          ∧ r.2.mem ((c.tc : Thread Cert.AdSmRefIdeal.nD Cert.AdSmRefIdeal.τ).loc Cert.AdSmRefIdeal.main_arg39) = m' ((c.tc : Thread Cert.AdSmRefIdeal.nD Cert.AdSmRefIdeal.τ).loc Cert.AdSmRefIdeal.main_arg39))

def Claim : Prop :=
  ∃ (hTail : Cert.Tail.Facts) (hTailIdeal : Cert.TailIdeal.Facts) (hTailRefIdeal : Cert.TailRefIdeal.Facts) (hPle : Cert.Ple.Facts) (hPleIdeal : Cert.PleIdeal.Facts) (hPleRefIdeal : Cert.PleRefIdeal.Facts) (hGw : Cert.Gw.Facts) (hGwIdeal : Cert.GwIdeal.Facts) (hGwRefIdeal : Cert.GwRefIdeal.Facts) (hInb : Cert.Inb.Facts) (hInbIdeal : Cert.InbIdeal.Facts) (hInbRefIdeal : Cert.InbRefIdeal.Facts) (hOp : Cert.Op.Facts) (hOpIdeal : Cert.OpIdeal.Facts) (hOpRefIdeal : Cert.OpRefIdeal.Facts) (hAdOut : Cert.AdOut.Facts) (hAdOutIdeal : Cert.AdOutIdeal.Facts) (hAdOutRefIdeal : Cert.AdOutRefIdeal.Facts) (hAdPe : Cert.AdPe.Facts) (hAdPeIdeal : Cert.AdPeIdeal.Facts) (hAdPeRefIdeal : Cert.AdPeRefIdeal.Facts) (hAdCw : Cert.AdCw.Facts) (hAdCwIdeal : Cert.AdCwIdeal.Facts) (hAdCwRefIdeal : Cert.AdCwRefIdeal.Facts) (hAdPre : Cert.AdPre.Facts) (hAdPreIdeal : Cert.AdPreIdeal.Facts) (hAdPreRefIdeal : Cert.AdPreRefIdeal.Facts) (hSum : Cert.Sum.Facts) (hSumIdeal : Cert.SumIdeal.Facts) (hSumRefIdeal : Cert.SumRefIdeal.Facts) (hAdSm : Cert.AdSm.Facts) (hAdSmIdeal : Cert.AdSmIdeal.Facts) (hAdSmRefIdeal : Cert.AdSmRefIdeal.Facts),
    quiescent_Tail (hTail := hTail)
    ∧ quiescent_TailIdeal (hTailIdeal := hTailIdeal)
    ∧ quiescent_TailRefIdeal (hTailRefIdeal := hTailRefIdeal)
    ∧ quiescent_Ple (hPle := hPle)
    ∧ quiescent_PleIdeal (hPleIdeal := hPleIdeal)
    ∧ quiescent_PleRefIdeal (hPleRefIdeal := hPleRefIdeal)
    ∧ quiescent_Gw (hGw := hGw)
    ∧ quiescent_GwIdeal (hGwIdeal := hGwIdeal)
    ∧ quiescent_GwRefIdeal (hGwRefIdeal := hGwRefIdeal)
    ∧ quiescent_Inb (hInb := hInb)
    ∧ quiescent_InbIdeal (hInbIdeal := hInbIdeal)
    ∧ quiescent_InbRefIdeal (hInbRefIdeal := hInbRefIdeal)
    ∧ quiescent_Op (hOp := hOp)
    ∧ quiescent_OpIdeal (hOpIdeal := hOpIdeal)
    ∧ quiescent_OpRefIdeal (hOpRefIdeal := hOpRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdPe (hAdPe := hAdPe)
    ∧ quiescent_AdPeIdeal (hAdPeIdeal := hAdPeIdeal)
    ∧ quiescent_AdPeRefIdeal (hAdPeRefIdeal := hAdPeRefIdeal)
    ∧ quiescent_AdCw (hAdCw := hAdCw)
    ∧ quiescent_AdCwIdeal (hAdCwIdeal := hAdCwIdeal)
    ∧ quiescent_AdCwRefIdeal (hAdCwRefIdeal := hAdCwRefIdeal)
    ∧ quiescent_AdPre (hAdPre := hAdPre)
    ∧ quiescent_AdPreIdeal (hAdPreIdeal := hAdPreIdeal)
    ∧ quiescent_AdPreRefIdeal (hAdPreRefIdeal := hAdPreRefIdeal)
    ∧ quiescent_Sum (hSum := hSum)
    ∧ quiescent_SumIdeal (hSumIdeal := hSumIdeal)
    ∧ quiescent_SumRefIdeal (hSumRefIdeal := hSumRefIdeal)
    ∧ quiescent_AdSm (hAdSm := hAdSm)
    ∧ quiescent_AdSmIdeal (hAdSmIdeal := hAdSmIdeal)
    ∧ quiescent_AdSmRefIdeal (hAdSmRefIdeal := hAdSmRefIdeal)
    ∧ preserves_Tail_TailIdeal
    ∧ algebraic_TailIdeal_TailRefIdeal (hTailIdeal := hTailIdeal) (hTailRefIdeal := hTailRefIdeal)
    ∧ preserves_Ple_PleIdeal
    ∧ algebraic_PleIdeal_PleRefIdeal (hPleIdeal := hPleIdeal) (hPleRefIdeal := hPleRefIdeal)
    ∧ preserves_Gw_GwIdeal
    ∧ algebraic_GwIdeal_GwRefIdeal (hGwIdeal := hGwIdeal) (hGwRefIdeal := hGwRefIdeal)
    ∧ preserves_Inb_InbIdeal
    ∧ algebraic_InbIdeal_InbRefIdeal (hInbIdeal := hInbIdeal) (hInbRefIdeal := hInbRefIdeal)
    ∧ preserves_Op_OpIdeal
    ∧ algebraic_OpIdeal_OpRefIdeal (hOpIdeal := hOpIdeal) (hOpRefIdeal := hOpRefIdeal)
    ∧ preserves_AdOut_AdOutIdeal
    ∧ algebraic_AdOutIdeal_AdOutRefIdeal (hAdOutIdeal := hAdOutIdeal) (hAdOutRefIdeal := hAdOutRefIdeal)
    ∧ preserves_AdPe_AdPeIdeal
    ∧ algebraic_AdPeIdeal_AdPeRefIdeal (hAdPeIdeal := hAdPeIdeal) (hAdPeRefIdeal := hAdPeRefIdeal)
    ∧ preserves_AdCw_AdCwIdeal
    ∧ algebraic_AdCwIdeal_AdCwRefIdeal (hAdCwIdeal := hAdCwIdeal) (hAdCwRefIdeal := hAdCwRefIdeal)
    ∧ preserves_AdPre_AdPreIdeal
    ∧ algebraic_AdPreIdeal_AdPreRefIdeal (hAdPreIdeal := hAdPreIdeal) (hAdPreRefIdeal := hAdPreRefIdeal)
    ∧ preserves_Sum_SumIdeal
    ∧ algebraic_SumIdeal_SumRefIdeal (hSumIdeal := hSumIdeal) (hSumRefIdeal := hSumRefIdeal)
    ∧ preserves_AdSm_AdSmIdeal
    ∧ algebraic_AdSmIdeal_AdSmRefIdeal (hAdSmIdeal := hAdSmIdeal) (hAdSmRefIdeal := hAdSmRefIdeal)
-- ==== Tail.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S8x2048 : Shape := ⟨2, ![8, 2048]⟩
abbrev S2 : Shape := ⟨1, ![2]⟩
abbrev S1 : Shape := ⟨1, ![1]⟩
abbrev S_ : Shape := ⟨0, ![]⟩
abbrev S16x2048 : Shape := ⟨2, ![16, 2048]⟩
abbrev S16 : Shape := ⟨1, ![16]⟩
abbrev S16x1 : Shape := ⟨2, ![16, 1]⟩
abbrev S16x128 : Shape := ⟨2, ![16, 128]⟩
abbrev S256x256 : Shape := ⟨2, ![256, 256]⟩
abbrev S8x256 : Shape := ⟨2, ![8, 256]⟩
abbrev S16x256 : Shape := ⟨2, ![16, 256]⟩
abbrev S1x256 : Shape := ⟨2, ![1, 256]⟩

abbrev nBuf : Space → Nat
  | .hbm => 15
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S2048x2048, .bf16⟩
  | .hbm, ⟨4, _⟩ => ⟨S2048x2048, .bf16⟩
  | .hbm, ⟨5, _⟩ => ⟨S2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S8192x2048, .f32⟩
  | .hbm, ⟨12, _⟩ => ⟨S8192x2048, .bf16⟩
  | .hbm, ⟨13, _⟩ => ⟨S8192x2048, .bf16⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S2048x2048, .bf16⟩
  | .local _ .vmem, ⟨15, _⟩ => ⟨S2048x2048, .bf16⟩
  | .local _ .vmem, ⟨16, _⟩ => ⟨S256x2048, .f32⟩
  | .local _ .vmem, ⟨17, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v3422 : BitVec 1 := Scalar.cmpi .eq arg0 c31_i32
  let v3423 : BitVec 32 := Scalar.extui v3422
  let c0_i32_1326 : BitVec 32 := 0#32
  let v3424 : BitVec 1 := Scalar.cmpi .ne v3423 c0_i32_1326
  v3424

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TailRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S2048x2048, .bf16⟩
  | .hbm, ⟨4, _⟩ => ⟨S2048x2048, .bf16⟩
  | .hbm, ⟨5, _⟩ => ⟨S2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .bf16⟩
  | .hbm, ⟨65, _⟩ => ⟨S8192x2048, .f32⟩
  | .hbm, ⟨66, _⟩ => ⟨S8192x2048, .bf16⟩
  | .hbm, ⟨67, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048x2048 : Shape := ⟨2, ![2048, 2048]⟩
abbrev S8x256x256 : Shape := ⟨3, ![8, 256, 256]⟩
abbrev S8x128 : Shape := ⟨2, ![8, 128]⟩
abbrev S256x2048 : Shape := ⟨2, ![256, 2048]⟩
abbrev S256x256 : Shape := ⟨2, ![256, 256]⟩
abbrev S8x2048 : Shape := ⟨2, ![8, 2048]⟩
abbrev S_ : Shape := ⟨0, ![]⟩
abbrev S1x256x256 : Shape := ⟨3, ![1, 256, 256]⟩
abbrev S2048x256 : Shape := ⟨2, ![2048, 256]⟩
abbrev S8x256 : Shape := ⟨2, ![8, 256]⟩
abbrev S16x256 : Shape := ⟨2, ![16, 256]⟩
abbrev S1x8x2048 : Shape := ⟨3, ![1, 8, 2048]⟩
abbrev S1 : Shape := ⟨1, ![1]⟩
abbrev S1x1x1 : Shape := ⟨3, ![1, 1, 1]⟩

abbrev nBuf : Space → Nat
  | .hbm => 10
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S8192x2048, .f32⟩
  | .hbm, ⟨3, _⟩ => ⟨S2048x2048, .bf16⟩
  | .hbm, ⟨4, _⟩ => ⟨S8x256x256, .bf16⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8x128, .f32⟩
  | .hbm, ⟨9, _⟩ => ⟨S8x256x256, .bf16⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S256x2048, .f32⟩
  | .local _ .vmem, ⟨5, _⟩ => ⟨S256x2048, .f32⟩
  | .local _ .vmem, ⟨6, _⟩ => ⟨S8x256x256, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S8x128, .f32⟩
  | .local _ .vmem, ⟨14, _⟩ => ⟨S8x256x256, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S8x2048, .f32⟩
  | .local _ .vmem, ⟨19, _⟩ => ⟨S256x2048, .bf16⟩
  | .local _ .vmem, ⟨20, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v4506 : BitVec 1 := Scalar.cmpi .eq arg0 c31_i32
  let v4507 : BitVec 32 := Scalar.extui v4506
  let c0_i32_2553 : BitVec 32 := 0#32
  let v4508 : BitVec 1 := Scalar.cmpi .ne v4507 c0_i32_2553
  v4508

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PleRefIdeal.lean ====
abbrev S8192x2048 : Shape := ⟨2, ![8192, 2048]⟩
abbrev S8192x256 : Shape := ⟨2, ![8192, 256]⟩
abbrev S2048x2048 : Shape := ⟨2, ![2048, 2048]⟩
abbrev S8x256x256 : Shape := ⟨3, ![8, 256, 256]⟩
abbrev S256x8x256 : Shape := ⟨3, ![256, 8, 256]⟩
abbrev S256x2048 : Shape := ⟨2, ![256, 2048]⟩
abbrev S_ : Shape := ⟨0, ![]⟩
abbrev S8192 : Shape := ⟨1, ![8192]⟩
abbrev S2048x256 : Shape := ⟨2, ![2048, 256]⟩
abbrev S8x128 : Shape := ⟨2, ![8, 128]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S8192x2048, .f32⟩
  | .hbm, ⟨3, _⟩ => ⟨S2048x2048, .bf16⟩
  | .hbm, ⟨4, _⟩ => ⟨S8x256x256, .bf16⟩
  | .hbm, ⟨5, _⟩ => ⟨S2048x2048, .f32⟩
  | .hbm, ⟨6, _⟩ => ⟨S8192x2048, .f32⟩
  | .hbm, ⟨7, _⟩ => ⟨S8x256x256, .f32⟩
  | .hbm, ⟨8, _⟩ => ⟨S256x8x256, .f32⟩
  | .hbm, ⟨9, _⟩ => ⟨S256x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S2048x256, .f32⟩
  | .hbm, ⟨52, _⟩ => ⟨S256x2048, .f32⟩
  | .hbm, ⟨53, _⟩ => ⟨S256x8x256, .f32⟩
  | .hbm, ⟨54, _⟩ => ⟨S8x256x256, .f32⟩
  | .hbm, ⟨55, _⟩ => ⟨S8x256x256, .bf16⟩
  | .hbm, ⟨56, _⟩ => ⟨S8192x2048, .bf16⟩
  | .hbm, ⟨57, _⟩ => ⟨S8192x2048, .bf16⟩
  | .hbm, ⟨58, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Gw.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Inb.lean ====
abbrev S8192x5120 : Shape := ⟨2, ![8192, 5120]⟩
abbrev S8x2048x640 : Shape := ⟨3, ![8, 2048, 640]⟩
abbrev S8192x2048 : Shape := ⟨2, ![8192, 2048]⟩
abbrev S1x2048 : Shape := ⟨2, ![1, 2048]⟩
abbrev S256x5120 : Shape := ⟨2, ![256, 5120]⟩
abbrev S256x2048 : Shape := ⟨2, ![256, 2048]⟩
abbrev S2048x5120 : Shape := ⟨2, ![2048, 5120]⟩
abbrev S8x2048 : Shape := ⟨2, ![8, 2048]⟩
abbrev S8 : Shape := ⟨1, ![8]⟩
abbrev S1 : Shape := ⟨1, ![1]⟩
abbrev S_ : Shape := ⟨0, ![]⟩
abbrev S2048x640 : Shape := ⟨2, ![2048, 640]⟩
abbrev S1x2048x640 : Shape := ⟨3, ![1, 2048, 640]⟩
abbrev S256x640 : Shape := ⟨2, ![256, 640]⟩
abbrev S256x256 : Shape := ⟨2, ![256, 256]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x5120, .bf16⟩
  | .hbm, ⟨1, _⟩ => ⟨S8x2048x640, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x5120, .bf16⟩
  | .local _ .vmem, ⟨1, _⟩ => ⟨S256x5120, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S2048x5120, .bf16⟩
  | .local _ .vmem, ⟨11, _⟩ => ⟨S256x2048, .f32⟩
  | .local _ .vmem, ⟨12, _⟩ => ⟨S256x2048, .f32⟩
  | .local _ .vmem, ⟨13, _⟩ => ⟨S8x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c0_i32_6 : BitVec 32 := 0#32
  let v14 : BitVec 1 := Scalar.cmpi .sgt arg0 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def k0_cond4 (i : grid0.Coords) : BitVec 1 :=
  let arg0 : BitVec 32 := BitVec.ofNat 32 (i 0).val
  let c32_i32 : BitVec 32 := 32#32
  let v31 : BitVec 1 := Scalar.cmpi .eq arg0 c32_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InbRefIdeal.lean ====
abbrev S8192x5120 : Shape := ⟨2, ![8192, 5120]⟩
abbrev S8x2048x640 : Shape := ⟨3, ![8, 2048, 640]⟩
abbrev S8192x2048 : Shape := ⟨2, ![8192, 2048]⟩
abbrev S1x2048 : Shape := ⟨2, ![1, 2048]⟩
abbrev S2048x8x640 : Shape := ⟨3, ![2048, 8, 640]⟩
abbrev S2048x5120 : Shape := ⟨2, ![2048, 5120]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8x2048x640, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8x2048x640, .f32⟩
  | .hbm, ⟨6, _⟩ => ⟨S2048x8x640, .f32⟩
  | .hbm, ⟨7, _⟩ => ⟨S2048x5120, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x5120, .f32⟩
  | .hbm, ⟨30, _⟩ => ⟨S8192x5120, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Op.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S_ : Shape := ⟨0, ![]⟩
abbrev S16x128 : Shape := ⟨2, ![16, 128]⟩
abbrev S2048x256 : Shape := ⟨2, ![2048, 256]⟩
abbrev S512x256 : Shape := ⟨2, ![512, 256]⟩
abbrev S16x256 : Shape := ⟨2, ![16, 256]⟩
abbrev S16 : Shape := ⟨1, ![16]⟩
abbrev S16x1 : Shape := ⟨2, ![16, 1]⟩
abbrev S16x2048 : Shape := ⟨2, ![16, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S2048x2048, .bf16⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OpRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AdOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdPe.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPeRefIdeal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdCw.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCwRefIdeal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdPre.lean ====
abbrev S8x16x128 : Shape := ⟨3, ![8, 16, 128]⟩
abbrev S1x2048 : Shape := ⟨2, ![1, 2048]⟩
abbrev S16x128 : Shape := ⟨2, ![16, 128]⟩
abbrev S1x16x128 : Shape := ⟨3, ![1, 16, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPreRefIdeal.lean ====
abbrev S8x16x128 : Shape := ⟨3, ![8, 16, 128]⟩
abbrev S1x2048 : Shape := ⟨2, ![1, 2048]⟩
abbrev S16x128 : Shape := ⟨2, ![16, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S16x128, .f32⟩
  | .hbm, ⟨20, _⟩ => ⟨S_, .f32⟩
  | .hbm, ⟨21, _⟩ => ⟨S16x128, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S_, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S_, .f32⟩
  | .hbm, ⟨36, _⟩ => ⟨S16x128, .f32⟩
  | .hbm, ⟨37, _⟩ => ⟨S16x128, .f32⟩
  | .hbm, ⟨38, _⟩ => ⟨S16x128, .f32⟩
  | .hbm, ⟨39, _⟩ => ⟨S_, .f32⟩
  | .hbm, ⟨40, _⟩ => ⟨S16x128, .f32⟩
  | .hbm, ⟨41, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Sum.lean ====
abbrev S8x400x128 : Shape := ⟨3, ![8, 400, 128]⟩
abbrev S400x128 : Shape := ⟨2, ![400, 128]⟩
abbrev S1x400x128 : Shape := ⟨3, ![1, 400, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x400x128, .f32⟩
  | .hbm, ⟨1, _⟩ => ⟨S400x128, .f32⟩
  | .local _ .vmem, ⟨0, _⟩ => ⟨S8x400x128, .f32⟩
  | .local _ .vmem, ⟨1, _⟩ => ⟨S400x128, .f32⟩
  | _, _ => ⟨S8x400x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x400x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S400x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x400x128 : Shape := ⟨3, ![8, 400, 128]⟩
abbrev S_ : Shape := ⟨0, ![]⟩
abbrev S400x128 : Shape := ⟨2, ![400, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x400x128, .f32⟩
  | .hbm, ⟨1, _⟩ => ⟨S_, .f32⟩
  | .hbm, ⟨2, _⟩ => ⟨S400x128, .f32⟩
  | _, _ => ⟨S8x400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdSm.lean ====
abbrev S8x400x128 : Shape := ⟨3, ![8, 400, 128]⟩
abbrev S1x1024 : Shape := ⟨2, ![1, 1024]⟩
abbrev S1x8x128x128 : Shape := ⟨4, ![1, 8, 128, 128]⟩
abbrev S1x8x128 : Shape := ⟨3, ![1, 8, 128]⟩
abbrev S1x2048 : Shape := ⟨2, ![1, 2048]⟩
abbrev S3200x128 : Shape := ⟨2, ![3200, 128]⟩
abbrev S8x128 : Shape := ⟨2, ![8, 128]⟩
abbrev S1024x128 : Shape := ⟨2, ![1024, 128]⟩
abbrev S16x128 : Shape := ⟨2, ![16, 128]⟩

abbrev nBuf : Space → Nat
  | .hbm => 133
  | .vmem => 93
  | .smem => 0
  | _ => 0

abbrev hbmTy0_0 (i : Nat) : BufTy := match i % 128 with
  | 0 => ⟨S8x400x128, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x8x128x128, .f32⟩
  | 8 => ⟨S1x8x128x128, .f32⟩
  | 9 => ⟨S1x8x128x128, .f32⟩
  | 10 => ⟨S1x8x128, .f32⟩
  | 11 => ⟨S1x8x128, .f32⟩
  | 12 => ⟨S1x8x128, .f32⟩
  | 13 => ⟨S1x1024, .f32⟩
  | 14 => ⟨S1x1024, .f32⟩
  | 15 => ⟨S1x1024, .f32⟩
  | 16 => ⟨S1x8x128x128, .f32⟩
  | 17 => ⟨S1x8x128x128, .f32⟩
  | 18 => ⟨S1x8x128x128, .f32⟩
  | 19 => ⟨S1x8x128, .f32⟩
  | 20 => ⟨S1x8x128, .f32⟩
  | 21 => ⟨S1x8x128, .f32⟩
  | 22 => ⟨S1x8x128x128, .f32⟩
  | 23 => ⟨S1x8x128x128, .f32⟩
  | 24 => ⟨S1x8x128x128, .f32⟩
  | 25 => ⟨S1x8x128, .f32⟩
  | 26 => ⟨S1x8x128, .f32⟩
  | 27 => ⟨S1x8x128, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x2048, .f32⟩
  | 38 => ⟨S1x2048, .f32⟩
  | 39 => ⟨S1x2048, .f32⟩
  | 40 => ⟨S3200x128, .f32⟩
  | 41 => ⟨S8x128, .f32⟩
  | 42 => ⟨S8x128, .f32⟩
  | 43 => ⟨S8x128, .f32⟩
  | 44 => ⟨S8x128, .f32⟩
  | 45 => ⟨S8x128, .f32⟩
  | 46 => ⟨S8x128, .f32⟩
  | 47 => ⟨S1024x128, .f32⟩
  | 48 => ⟨S1024x128, .f32⟩
  | 49 => ⟨S1024x128, .f32⟩
  | 50 => ⟨S8x128, .f32⟩
  | 51 => ⟨S8x128, .f32⟩
  | 52 => ⟨S8x128, .f32⟩
  | 53 => ⟨S8x128, .f32⟩
  | 54 => ⟨S8x128, .f32⟩
  | 55 => ⟨S8x128, .f32⟩
  | 56 => ⟨S1024x128, .f32⟩
  | 57 => ⟨S1024x128, .f32⟩
  | 58 => ⟨S1024x128, .f32⟩
  | 59 => ⟨S8x128, .f32⟩
  | 60 => ⟨S8x128, .f32⟩
  | 61 => ⟨S8x128, .f32⟩
  | 62 => ⟨S1024x128, .f32⟩
  | 63 => ⟨S1024x128, .f32⟩
  | 64 => ⟨S1024x128, .f32⟩
  | 65 => ⟨S8x128, .f32⟩
  | 66 => ⟨S8x128, .f32⟩
  | 67 => ⟨S8x128, .f32⟩
  | 68 => ⟨S8x128, .f32⟩
  | 69 => ⟨S8x128, .f32⟩
  | 70 => ⟨S8x128, .f32⟩
  | 71 => ⟨S8x128, .f32⟩
  | 72 => ⟨S8x128, .f32⟩
  | 73 => ⟨S8x128, .f32⟩
  | 74 => ⟨S8x128, .f32⟩
  | 75 => ⟨S8x128, .f32⟩
  | 76 => ⟨S8x128, .f32⟩
  | 77 => ⟨S16x128, .f32⟩
  | 78 => ⟨S16x128, .f32⟩
  | 79 => ⟨S16x128, .f32⟩
  | 80 => ⟨S8x128, .f32⟩
  | 81 => ⟨S8x128, .f32⟩
  | 82 => ⟨S8x128, .f32⟩
  | 83 => ⟨S8x128, .f32⟩
  | 84 => ⟨S8x128, .f32⟩
  | 85 => ⟨S8x128, .f32⟩
  | 86 => ⟨S8x128, .f32⟩
  | 87 => ⟨S8x128, .f32⟩
  | 88 => ⟨S1024x128, .f32⟩
  | 89 => ⟨S1024x128, .f32⟩
  | 90 => ⟨S1024x128, .f32⟩
  | 91 => ⟨S1024x128, .f32⟩
  | 92 => ⟨S8x128, .f32⟩
  | 93 => ⟨S8x128, .f32⟩
  | 94 => ⟨S8x128, .f32⟩
  | 95 => ⟨S8x128, .f32⟩
  | 96 => ⟨S8x128, .f32⟩
  | 97 => ⟨S8x128, .f32⟩
  | 98 => ⟨S8x128, .f32⟩
  | 99 => ⟨S8x128, .f32⟩
  | 100 => ⟨S1024x128, .f32⟩
  | 101 => ⟨S1024x128, .f32⟩
  | 102 => ⟨S1024x128, .f32⟩
  | 103 => ⟨S1024x128, .f32⟩
  | 104 => ⟨S8x128, .f32⟩
  | 105 => ⟨S8x128, .f32⟩
  | 106 => ⟨S8x128, .f32⟩
  | 107 => ⟨S8x128, .f32⟩
  | 108 => ⟨S1024x128, .f32⟩
  | 109 => ⟨S1024x128, .f32⟩
  | 110 => ⟨S1024x128, .f32⟩
  | 111 => ⟨S1024x128, .f32⟩
  | 112 => ⟨S8x128, .f32⟩
  | 113 => ⟨S8x128, .f32⟩
  | 114 => ⟨S8x128, .f32⟩
  | 115 => ⟨S8x128, .f32⟩
  | 116 => ⟨S8x128, .f32⟩
  | 117 => ⟨S8x128, .f32⟩
  | 118 => ⟨S8x128, .f32⟩
  | 119 => ⟨S8x128, .f32⟩
  | 120 => ⟨S8x128, .f32⟩
  | 121 => ⟨S8x128, .f32⟩
  | 122 => ⟨S8x128, .f32⟩
  | 123 => ⟨S8x128, .f32⟩
  | 124 => ⟨S8x128, .f32⟩
  | 125 => ⟨S8x128, .f32⟩
  | 126 => ⟨S8x128, .f32⟩
  | 127 => ⟨S8x128, .f32⟩
  | _ => ⟨S8x400x128, .f32⟩

abbrev hbmTy0_1 (i : Nat) : BufTy := match i % 128 with
  | 0 => ⟨S16x128, .f32⟩
  | 1 => ⟨S16x128, .f32⟩
  | 2 => ⟨S16x128, .f32⟩
  | 3 => ⟨S16x128, .f32⟩
  | 4 => ⟨S8x128, .f32⟩
  | _ => ⟨S8x400x128, .f32⟩

abbrev hbmTy (i : Nat) : BufTy := match i / 128 with
  | 0 => hbmTy0_0 i
  | 1 => hbmTy0_1 i
  | _ => ⟨S8x400x128, .f32⟩

abbrev bufTy : (tb : Table) → Fin (tcTables nBuf tb) → BufTy
  | .hbm, ⟨i, _⟩ => hbmTy i
  | .local _ .vmem, ⟨0, _⟩ => ⟨S3200x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S16x128, .f32⟩
  | .local _ .vmem, ⟨38, _⟩ => ⟨S16x128, .f32⟩
  | .local _ .vmem, ⟨39, _⟩ => ⟨S16x128, .f32⟩
  | .local _ .vmem, ⟨40, _⟩ => ⟨S8x128, .f32⟩
  | .local _ .vmem, ⟨41, _⟩ => ⟨S8x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S8x128, .f32⟩
  | .local _ .vmem, ⟨47, _⟩ => ⟨S8x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S8x128, .f32⟩
  | .local _ .vmem, ⟨53, _⟩ => ⟨S8x128, .f32⟩
  | .local _ .vmem, ⟨54, _⟩ => ⟨S8x128, .f32⟩
  | .local _ .vmem, ⟨55, _⟩ => ⟨S8x128, .f32⟩
  | .local _ .vmem, ⟨56, _⟩ => ⟨S8x128, .f32⟩
  | .local _ .vmem, ⟨57, _⟩ => ⟨S8x128, .f32⟩
  | .local _ .vmem, ⟨58, _⟩ => ⟨S8x128, .f32⟩
  | .local _ .vmem, ⟨59, _⟩ => ⟨S8x128, .f32⟩
  | .local _ .vmem, ⟨60, _⟩ => ⟨S1024x128, .f32⟩
  | .local _ .vmem, ⟨61, _⟩ => ⟨S1024x128, .f32⟩
  | .local _ .vmem, ⟨62, _⟩ => ⟨S1024x128, .f32⟩
  | .local _ .vmem, ⟨63, _⟩ => ⟨S1024x128, .f32⟩
  | .local _ .vmem, ⟨64, _⟩ => ⟨S8x128, .f32⟩
  | .local _ .vmem, ⟨65, _⟩ => ⟨S8x128, .f32⟩
  | .local _ .vmem, ⟨66, _⟩ => ⟨S8x128, .f32⟩
  | .local _ .vmem, ⟨67, _⟩ => ⟨S8x128, .f32⟩
  | .local _ .vmem, ⟨68, _⟩ => ⟨S1024x128, .f32⟩
  | .local _ .vmem, ⟨69, _⟩ => ⟨S1024x128, .f32⟩
  | .local _ .vmem, ⟨70, _⟩ => ⟨S1024x128, .f32⟩
  | .local _ .vmem, ⟨71, _⟩ => ⟨S1024x128, .f32⟩
  | .local _ .vmem, ⟨72, _⟩ => ⟨S8x128, .f32⟩
  | .local _ .vmem, ⟨73, _⟩ => ⟨S8x128, .f32⟩
  | .local _ .vmem, ⟨74, _⟩ => ⟨S8x128, .f32⟩
  | .local _ .vmem, ⟨75, _⟩ => ⟨S8x128, .f32⟩
  | .local _ .vmem, ⟨76, _⟩ => ⟨S8x128, .f32⟩
  | .local _ .vmem, ⟨77, _⟩ => ⟨S8x128, .f32⟩
  | .local _ .vmem, ⟨78, _⟩ => ⟨S8x128, .f32⟩
  | .local _ .vmem, ⟨79, _⟩ => ⟨S8x128, .f32⟩
  | .local _ .vmem, ⟨80, _⟩ => ⟨S8x128, .f32⟩
  | .local _ .vmem, ⟨81, _⟩ => ⟨S8x128, .f32⟩
  | .local _ .vmem, ⟨82, _⟩ => ⟨S8x128, .f32⟩
  | .local _ .vmem, ⟨83, _⟩ => ⟨S8x128, .f32⟩
  | .local _ .vmem, ⟨84, _⟩ => ⟨S8x128, .f32⟩
  | .local _ .vmem, ⟨85, _⟩ => ⟨S8x128, .f32⟩
  | .local _ .vmem, ⟨86, _⟩ => ⟨S8x128, .f32⟩
  | .local _ .vmem, ⟨87, _⟩ => ⟨S8x128, .f32⟩
  | .local _ .vmem, ⟨88, _⟩ => ⟨S16x128, .f32⟩
  | .local _ .vmem, ⟨89, _⟩ => ⟨S16x128, .f32⟩
  | .local _ .vmem, ⟨90, _⟩ => ⟨S16x128, .f32⟩
  | .local _ .vmem, ⟨91, _⟩ => ⟨S16x128, .f32⟩
  | .local _ .vmem, ⟨92, _⟩ => ⟨S8x128, .f32⟩
  | _, _ => ⟨S8x400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40_0 : Ref sig .tc := ⟨.hbm, 80, rfl⟩
abbrev main_v40_1 : Ref sig .tc := ⟨.hbm, 81, rfl⟩
abbrev main_v40_2 : Ref sig .tc := ⟨.hbm, 82, rfl⟩
abbrev main_v40_3 : Ref sig .tc := ⟨.hbm, 83, rfl⟩
abbrev main_v40_4 : Ref sig .tc := ⟨.hbm, 84, rfl⟩
abbrev main_v40_5 : Ref sig .tc := ⟨.hbm, 85, rfl⟩
abbrev main_v40_6 : Ref sig .tc := ⟨.hbm, 86, rfl⟩
abbrev main_v40_7 : Ref sig .tc := ⟨.hbm, 87, rfl⟩
abbrev main_v40_8 : Ref sig .tc := ⟨.hbm, 88, rfl⟩
abbrev main_v40_9 : Ref sig .tc := ⟨.hbm, 89, rfl⟩
abbrev main_v40_10 : Ref sig .tc := ⟨.hbm, 90, rfl⟩
abbrev main_v40_11 : Ref sig .tc := ⟨.hbm, 91, rfl⟩
abbrev main_v40_12 : Ref sig .tc := ⟨.hbm, 92, rfl⟩
abbrev main_v40_13 : Ref sig .tc := ⟨.hbm, 93, rfl⟩
abbrev main_v40_14 : Ref sig .tc := ⟨.hbm, 94, rfl⟩
abbrev main_v40_15 : Ref sig .tc := ⟨.hbm, 95, rfl⟩
abbrev main_v40_16 : Ref sig .tc := ⟨.hbm, 96, rfl⟩
abbrev main_v40_17 : Ref sig .tc := ⟨.hbm, 97, rfl⟩
abbrev main_v40_18 : Ref sig .tc := ⟨.hbm, 98, rfl⟩
abbrev main_v40_19 : Ref sig .tc := ⟨.hbm, 99, rfl⟩
abbrev main_v40_20 : Ref sig .tc := ⟨.hbm, 100, rfl⟩
abbrev main_v40_21 : Ref sig .tc := ⟨.hbm, 101, rfl⟩
abbrev main_v40_22 : Ref sig .tc := ⟨.hbm, 102, rfl⟩
abbrev main_v40_23 : Ref sig .tc := ⟨.hbm, 103, rfl⟩
abbrev main_v40_24 : Ref sig .tc := ⟨.hbm, 104, rfl⟩
abbrev main_v40_25 : Ref sig .tc := ⟨.hbm, 105, rfl⟩
abbrev main_v40_26 : Ref sig .tc := ⟨.hbm, 106, rfl⟩
abbrev main_v40_27 : Ref sig .tc := ⟨.hbm, 107, rfl⟩
abbrev main_v40_28 : Ref sig .tc := ⟨.hbm, 108, rfl⟩
abbrev main_v40_29 : Ref sig .tc := ⟨.hbm, 109, rfl⟩
abbrev main_v40_30 : Ref sig .tc := ⟨.hbm, 110, rfl⟩
abbrev main_v40_31 : Ref sig .tc := ⟨.hbm, 111, rfl⟩
abbrev main_v40_32 : Ref sig .tc := ⟨.hbm, 112, rfl⟩
abbrev main_v40_33 : Ref sig .tc := ⟨.hbm, 113, rfl⟩
abbrev main_v40_34 : Ref sig .tc := ⟨.hbm, 114, rfl⟩
abbrev main_v40_35 : Ref sig .tc := ⟨.hbm, 115, rfl⟩
abbrev main_v40_36 : Ref sig .tc := ⟨.hbm, 116, rfl⟩
abbrev main_v40_37 : Ref sig .tc := ⟨.hbm, 117, rfl⟩
abbrev main_v40_38 : Ref sig .tc := ⟨.hbm, 118, rfl⟩
abbrev main_v40_39 : Ref sig .tc := ⟨.hbm, 119, rfl⟩
abbrev main_v40_40 : Ref sig .tc := ⟨.hbm, 120, rfl⟩
abbrev main_v40_41 : Ref sig .tc := ⟨.hbm, 121, rfl⟩
abbrev main_v40_42 : Ref sig .tc := ⟨.hbm, 122, rfl⟩
abbrev main_v40_43 : Ref sig .tc := ⟨.hbm, 123, rfl⟩
abbrev main_v40_44 : Ref sig .tc := ⟨.hbm, 124, rfl⟩
abbrev main_v40_45 : Ref sig .tc := ⟨.hbm, 125, rfl⟩
abbrev main_v40_46 : Ref sig .tc := ⟨.hbm, 126, rfl⟩
abbrev main_v40_47 : Ref sig .tc := ⟨.hbm, 127, rfl⟩
abbrev main_v40_48 : Ref sig .tc := ⟨.hbm, 128, rfl⟩
abbrev main_v40_49 : Ref sig .tc := ⟨.hbm, 129, rfl⟩
abbrev main_v40_50 : Ref sig .tc := ⟨.hbm, 130, rfl⟩
abbrev main_v40_51 : Ref sig .tc := ⟨.hbm, 131, rfl⟩
abbrev main_v40_52 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_stg90_0 : Ref sig .tc := ⟨.vmem, 90, rfl⟩
abbrev cc0_stg91_0 : Ref sig .tc := ⟨.vmem, 91, rfl⟩
abbrev cc0_stg92_0 : Ref sig .tc := ⟨.vmem, 92, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89
abbrev cc0_sem90_0 : DmaSem sig := 90
abbrev cc0_sem91_0 : DmaSem sig := 91
abbrev cc0_sem92_0 : DmaSem sig := 92

abbrev nD : Nat := 1
abbrev τ : Topo := Topo.v7x

variable {F : FTy → Type} [FloatOps F]

abbrev grid0 : Pipeline.Grid := .none

abbrev stage0_0 : Fin 1 → Memref sig .tc .vmem S3200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1024x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1024x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S8x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S16x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S16x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S16x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S8x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S8x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S8x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S8x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S8x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S8x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1024x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1024x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1024x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1024x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S8x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S8x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S8x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S8x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S8x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S8x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S8x128 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S8x128 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1024x128 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1024x128 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1024x128 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1024x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S8x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S8x128 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S8x128 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S8x128 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1024x128 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1024x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1024x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1024x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S8x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S8x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S8x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S8x128 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S8x128 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S8x128 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S8x128 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S8x128 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S8x128 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S8x128 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S8x128 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S8x128 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S8x128 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S8x128 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S8x128 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S8x128 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S16x128 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S16x128 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))

abbrev stage0_90 : Fin 1 → Memref sig .tc .vmem S16x128 .f32 := fun | 0 => Memref.whole cc0_stg90_0 | ⟨_ + 1, h⟩ => absurd h (Nat.not_lt.2 (Nat.le_add_left _ _))
abbrev sem0_90 : Fin 1 → DmaSem sig := fun | 0 => cc0_sem90_0 | ⟨_ + 1, h⟩ => absurd h (Nat.not_lt.2 (Nat.le_add_left _ _))

abbrev stage0_91 : Fin 1 → Memref sig .tc .vmem S16x128 .f32 := fun | 0 => Memref.whole cc0_stg91_0 | ⟨_ + 1, h⟩ => absurd h (Nat.not_lt.2 (Nat.le_add_left _ _))
abbrev sem0_91 : Fin 1 → DmaSem sig := fun | 0 => cc0_sem91_0 | ⟨_ + 1, h⟩ => absurd h (Nat.not_lt.2 (Nat.le_add_left _ _))

abbrev stage0_92 : Fin 1 → Memref sig .tc .vmem S8x128 .f32 := fun | 0 => Memref.whole cc0_stg92_0 | ⟨_ + 1, h⟩ => absurd h (Nat.not_lt.2 (Nat.le_add_left _ _))
abbrev sem0_92 : Fin 1 → DmaSem sig := fun | 0 => cc0_sem92_0 | ⟨_ + 1, h⟩ => absurd h (Nat.not_lt.2 (Nat.le_add_left _ _))
-- ==== AdSmRefIdeal.lean ====
abbrev S8x400x128 : Shape := ⟨3, ![8, 400, 128]⟩
abbrev S1x1024 : Shape := ⟨2, ![1, 1024]⟩
abbrev S1x8x128x128 : Shape := ⟨4, ![1, 8, 128, 128]⟩
abbrev S1x8x128 : Shape := ⟨3, ![1, 8, 128]⟩
abbrev S1x2048 : Shape := ⟨2, ![1, 2048]⟩
abbrev S3200x128 : Shape := ⟨2, ![3200, 128]⟩
abbrev S8x128 : Shape := ⟨2, ![8, 128]⟩
abbrev S_ : Shape := ⟨0, ![]⟩
abbrev S1024x128 : Shape := ⟨2, ![1024, 128]⟩
abbrev S16x128 : Shape := ⟨2, ![16, 128]⟩

abbrev nBuf : Space → Nat
  | .hbm => 523
  | .vmem => 0
  | .smem => 0
  | _ => 0

abbrev hbmTy0_0 (i : Nat) : BufTy := match i % 128 with
  | 0 => ⟨S8x400x128, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x8x128x128, .f32⟩
  | 8 => ⟨S1x8x128x128, .f32⟩
  | 9 => ⟨S1x8x128x128, .f32⟩
  | 10 => ⟨S1x8x128, .f32⟩
  | 11 => ⟨S1x8x128, .f32⟩
  | 12 => ⟨S1x8x128, .f32⟩
  | 13 => ⟨S1x1024, .f32⟩
  | 14 => ⟨S1x1024, .f32⟩
  | 15 => ⟨S1x1024, .f32⟩
  | 16 => ⟨S1x8x128x128, .f32⟩
  | 17 => ⟨S1x8x128x128, .f32⟩
  | 18 => ⟨S1x8x128x128, .f32⟩
  | 19 => ⟨S1x8x128, .f32⟩
  | 20 => ⟨S1x8x128, .f32⟩
  | 21 => ⟨S1x8x128, .f32⟩
  | 22 => ⟨S1x8x128x128, .f32⟩
  | 23 => ⟨S1x8x128x128, .f32⟩
  | 24 => ⟨S1x8x128x128, .f32⟩
  | 25 => ⟨S1x8x128, .f32⟩
  | 26 => ⟨S1x8x128, .f32⟩
  | 27 => ⟨S1x8x128, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x2048, .f32⟩
  | 38 => ⟨S1x2048, .f32⟩
  | 39 => ⟨S1x2048, .f32⟩
  | 40 => ⟨S3200x128, .f32⟩
  | 41 => ⟨S8x128, .f32⟩
  | 42 => ⟨S8x128, .f32⟩
  | 43 => ⟨S8x128, .f32⟩
  | 44 => ⟨S8x128, .f32⟩
  | 45 => ⟨S_, .f32⟩
  | 46 => ⟨S8x128, .f32⟩
  | 47 => ⟨S8x128, .f32⟩
  | 48 => ⟨S_, .f32⟩
  | 49 => ⟨S8x128, .f32⟩
  | 50 => ⟨S8x128, .f32⟩
  | 51 => ⟨S8x128, .f32⟩
  | 52 => ⟨S_, .f32⟩
  | 53 => ⟨S8x128, .f32⟩
  | 54 => ⟨S8x128, .f32⟩
  | 55 => ⟨S8x128, .f32⟩
  | 56 => ⟨S_, .f32⟩
  | 57 => ⟨S8x128, .f32⟩
  | 58 => ⟨S8x128, .f32⟩
  | 59 => ⟨S8x128, .f32⟩
  | 60 => ⟨S_, .f32⟩
  | 61 => ⟨S8x128, .f32⟩
  | 62 => ⟨S8x128, .f32⟩
  | 63 => ⟨S_, .f32⟩
  | 64 => ⟨S8x128, .f32⟩
  | 65 => ⟨S8x128, .f32⟩
  | 66 => ⟨S8x128, .f32⟩
  | 67 => ⟨S_, .f32⟩
  | 68 => ⟨S8x128, .f32⟩
  | 69 => ⟨S8x128, .f32⟩
  | 70 => ⟨S8x128, .f32⟩
  | 71 => ⟨S_, .f32⟩
  | 72 => ⟨S8x128, .f32⟩
  | 73 => ⟨S8x128, .f32⟩
  | 74 => ⟨S8x128, .f32⟩
  | 75 => ⟨S_, .f32⟩
  | 76 => ⟨S8x128, .f32⟩
  | 77 => ⟨S8x128, .f32⟩
  | 78 => ⟨S8x128, .f32⟩
  | 79 => ⟨S8x128, .f32⟩
  | 80 => ⟨S8x128, .f32⟩
  | 81 => ⟨S8x128, .f32⟩
  | 82 => ⟨S_, .f32⟩
  | 83 => ⟨S8x128, .f32⟩
  | 84 => ⟨S8x128, .f32⟩
  | 85 => ⟨S_, .f32⟩
  | 86 => ⟨S8x128, .f32⟩
  | 87 => ⟨S8x128, .f32⟩
  | 88 => ⟨S8x128, .f32⟩
  | 89 => ⟨S_, .f32⟩
  | 90 => ⟨S8x128, .f32⟩
  | 91 => ⟨S8x128, .f32⟩
  | 92 => ⟨S8x128, .f32⟩
  | 93 => ⟨S_, .f32⟩
  | 94 => ⟨S8x128, .f32⟩
  | 95 => ⟨S8x128, .f32⟩
  | 96 => ⟨S8x128, .f32⟩
  | 97 => ⟨S_, .f32⟩
  | 98 => ⟨S8x128, .f32⟩
  | 99 => ⟨S8x128, .f32⟩
  | 100 => ⟨S_, .f32⟩
  | 101 => ⟨S8x128, .f32⟩
  | 102 => ⟨S8x128, .f32⟩
  | 103 => ⟨S8x128, .f32⟩
  | 104 => ⟨S_, .f32⟩
  | 105 => ⟨S8x128, .f32⟩
  | 106 => ⟨S8x128, .f32⟩
  | 107 => ⟨S8x128, .f32⟩
  | 108 => ⟨S_, .f32⟩
  | 109 => ⟨S8x128, .f32⟩
  | 110 => ⟨S8x128, .f32⟩
  | 111 => ⟨S8x128, .f32⟩
  | 112 => ⟨S_, .f32⟩
  | 113 => ⟨S8x128, .f32⟩
  | 114 => ⟨S8x128, .f32⟩
  | 115 => ⟨S1024x128, .f32⟩
  | 116 => ⟨S1024x128, .f32⟩
  | 117 => ⟨S1024x128, .f32⟩
  | 118 => ⟨S1024x128, .f32⟩
  | 119 => ⟨S_, .f32⟩
  | 120 => ⟨S1024x128, .f32⟩
  | 121 => ⟨S1024x128, .f32⟩
  | 122 => ⟨S_, .f32⟩
  | 123 => ⟨S1024x128, .f32⟩
  | 124 => ⟨S1024x128, .f32⟩
  | 125 => ⟨S1024x128, .f32⟩
  | 126 => ⟨S_, .f32⟩
  | 127 => ⟨S1024x128, .f32⟩
  | _ => ⟨S8x400x128, .f32⟩

abbrev hbmTy0_1 (i : Nat) : BufTy := match i % 128 with
  | 0 => ⟨S1024x128, .f32⟩
  | 1 => ⟨S1024x128, .f32⟩
  | 2 => ⟨S_, .f32⟩
  | 3 => ⟨S1024x128, .f32⟩
  | 4 => ⟨S1024x128, .f32⟩
  | 5 => ⟨S1024x128, .f32⟩
  | 6 => ⟨S_, .f32⟩
  | 7 => ⟨S1024x128, .f32⟩
  | 8 => ⟨S1024x128, .f32⟩
  | 9 => ⟨S_, .f32⟩
  | 10 => ⟨S1024x128, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S1024x128, .f32⟩
  | 17 => ⟨S_, .f32⟩
  | 18 => ⟨S1024x128, .f32⟩
  | 19 => ⟨S1024x128, .f32⟩
  | 20 => ⟨S1024x128, .f32⟩
  | 21 => ⟨S_, .f32⟩
  | 22 => ⟨S1024x128, .f32⟩
  | 23 => ⟨S1024x128, .f32⟩
  | 24 => ⟨S8x128, .f32⟩
  | 25 => ⟨S8x128, .f32⟩
  | 26 => ⟨S8x128, .f32⟩
  | 27 => ⟨S8x128, .f32⟩
  | 28 => ⟨S_, .f32⟩
  | 29 => ⟨S8x128, .f32⟩
  | 30 => ⟨S8x128, .f32⟩
  | 31 => ⟨S_, .f32⟩
  | 32 => ⟨S8x128, .f32⟩
  | 33 => ⟨S8x128, .f32⟩
  | 34 => ⟨S8x128, .f32⟩
  | 35 => ⟨S_, .f32⟩
  | 36 => ⟨S8x128, .f32⟩
  | 37 => ⟨S8x128, .f32⟩
  | 38 => ⟨S8x128, .f32⟩
  | 39 => ⟨S_, .f32⟩
  | 40 => ⟨S8x128, .f32⟩
  | 41 => ⟨S8x128, .f32⟩
  | 42 => ⟨S8x128, .f32⟩
  | 43 => ⟨S_, .f32⟩
  | 44 => ⟨S8x128, .f32⟩
  | 45 => ⟨S8x128, .f32⟩
  | 46 => ⟨S_, .f32⟩
  | 47 => ⟨S8x128, .f32⟩
  | 48 => ⟨S8x128, .f32⟩
  | 49 => ⟨S8x128, .f32⟩
  | 50 => ⟨S_, .f32⟩
  | 51 => ⟨S8x128, .f32⟩
  | 52 => ⟨S8x128, .f32⟩
  | 53 => ⟨S8x128, .f32⟩
  | 54 => ⟨S_, .f32⟩
  | 55 => ⟨S8x128, .f32⟩
  | 56 => ⟨S8x128, .f32⟩
  | 57 => ⟨S8x128, .f32⟩
  | 58 => ⟨S_, .f32⟩
  | 59 => ⟨S8x128, .f32⟩
  | 60 => ⟨S8x128, .f32⟩
  | 61 => ⟨S8x128, .f32⟩
  | 62 => ⟨S8x128, .f32⟩
  | 63 => ⟨S8x128, .f32⟩
  | 64 => ⟨S8x128, .f32⟩
  | 65 => ⟨S_, .f32⟩
  | 66 => ⟨S8x128, .f32⟩
  | 67 => ⟨S8x128, .f32⟩
  | 68 => ⟨S_, .f32⟩
  | 69 => ⟨S8x128, .f32⟩
  | 70 => ⟨S8x128, .f32⟩
  | 71 => ⟨S8x128, .f32⟩
  | 72 => ⟨S_, .f32⟩
  | 73 => ⟨S8x128, .f32⟩
  | 74 => ⟨S8x128, .f32⟩
  | 75 => ⟨S8x128, .f32⟩
  | 76 => ⟨S_, .f32⟩
  | 77 => ⟨S8x128, .f32⟩
  | 78 => ⟨S8x128, .f32⟩
  | 79 => ⟨S8x128, .f32⟩
  | 80 => ⟨S_, .f32⟩
  | 81 => ⟨S8x128, .f32⟩
  | 82 => ⟨S8x128, .f32⟩
  | 83 => ⟨S_, .f32⟩
  | 84 => ⟨S8x128, .f32⟩
  | 85 => ⟨S8x128, .f32⟩
  | 86 => ⟨S8x128, .f32⟩
  | 87 => ⟨S_, .f32⟩
  | 88 => ⟨S8x128, .f32⟩
  | 89 => ⟨S8x128, .f32⟩
  | 90 => ⟨S8x128, .f32⟩
  | 91 => ⟨S_, .f32⟩
  | 92 => ⟨S8x128, .f32⟩
  | 93 => ⟨S8x128, .f32⟩
  | 94 => ⟨S8x128, .f32⟩
  | 95 => ⟨S_, .f32⟩
  | 96 => ⟨S8x128, .f32⟩
  | 97 => ⟨S8x128, .f32⟩
  | 98 => ⟨S1024x128, .f32⟩
  | 99 => ⟨S1024x128, .f32⟩
  | 100 => ⟨S1024x128, .f32⟩
  | 101 => ⟨S1024x128, .f32⟩
  | 102 => ⟨S_, .f32⟩
  | 103 => ⟨S1024x128, .f32⟩
  | 104 => ⟨S1024x128, .f32⟩
  | 105 => ⟨S_, .f32⟩
  | 106 => ⟨S1024x128, .f32⟩
  | 107 => ⟨S1024x128, .f32⟩
  | 108 => ⟨S1024x128, .f32⟩
  | 109 => ⟨S_, .f32⟩
  | 110 => ⟨S1024x128, .f32⟩
  | 111 => ⟨S1024x128, .f32⟩
  | 112 => ⟨S1024x128, .f32⟩
  | 113 => ⟨S_, .f32⟩
  | 114 => ⟨S1024x128, .f32⟩
  | 115 => ⟨S1024x128, .f32⟩
  | 116 => ⟨S1024x128, .f32⟩
  | 117 => ⟨S_, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S1024x128, .f32⟩
  | 124 => ⟨S_, .f32⟩
  | 125 => ⟨S1024x128, .f32⟩
  | 126 => ⟨S1024x128, .f32⟩
  | 127 => ⟨S1024x128, .f32⟩
  | _ => ⟨S8x400x128, .f32⟩

abbrev hbmTy0_2 (i : Nat) : BufTy := match i % 128 with
  | 0 => ⟨S_, .f32⟩
  | 1 => ⟨S1024x128, .f32⟩
  | 2 => ⟨S1024x128, .f32⟩
  | 3 => ⟨S1024x128, .f32⟩
  | 4 => ⟨S_, .f32⟩
  | 5 => ⟨S1024x128, .f32⟩
  | 6 => ⟨S1024x128, .f32⟩
  | 7 => ⟨S8x128, .f32⟩
  | 8 => ⟨S8x128, .f32⟩
  | 9 => ⟨S8x128, .f32⟩
  | 10 => ⟨S8x128, .f32⟩
  | 11 => ⟨S_, .f32⟩
  | 12 => ⟨S8x128, .f32⟩
  | 13 => ⟨S8x128, .f32⟩
  | 14 => ⟨S_, .f32⟩
  | 15 => ⟨S8x128, .f32⟩
  | 16 => ⟨S8x128, .f32⟩
  | 17 => ⟨S8x128, .f32⟩
  | 18 => ⟨S_, .f32⟩
  | 19 => ⟨S8x128, .f32⟩
  | 20 => ⟨S8x128, .f32⟩
  | 21 => ⟨S8x128, .f32⟩
  | 22 => ⟨S_, .f32⟩
  | 23 => ⟨S8x128, .f32⟩
  | 24 => ⟨S8x128, .f32⟩
  | 25 => ⟨S8x128, .f32⟩
  | 26 => ⟨S_, .f32⟩
  | 27 => ⟨S8x128, .f32⟩
  | 28 => ⟨S8x128, .f32⟩
  | 29 => ⟨S_, .f32⟩
  | 30 => ⟨S8x128, .f32⟩
  | 31 => ⟨S8x128, .f32⟩
  | 32 => ⟨S8x128, .f32⟩
  | 33 => ⟨S_, .f32⟩
  | 34 => ⟨S8x128, .f32⟩
  | 35 => ⟨S8x128, .f32⟩
  | 36 => ⟨S8x128, .f32⟩
  | 37 => ⟨S_, .f32⟩
  | 38 => ⟨S8x128, .f32⟩
  | 39 => ⟨S8x128, .f32⟩
  | 40 => ⟨S8x128, .f32⟩
  | 41 => ⟨S_, .f32⟩
  | 42 => ⟨S8x128, .f32⟩
  | 43 => ⟨S8x128, .f32⟩
  | 44 => ⟨S1024x128, .f32⟩
  | 45 => ⟨S1024x128, .f32⟩
  | 46 => ⟨S1024x128, .f32⟩
  | 47 => ⟨S1024x128, .f32⟩
  | 48 => ⟨S_, .f32⟩
  | 49 => ⟨S1024x128, .f32⟩
  | 50 => ⟨S1024x128, .f32⟩
  | 51 => ⟨S_, .f32⟩
  | 52 => ⟨S1024x128, .f32⟩
  | 53 => ⟨S1024x128, .f32⟩
  | 54 => ⟨S1024x128, .f32⟩
  | 55 => ⟨S_, .f32⟩
  | 56 => ⟨S1024x128, .f32⟩
  | 57 => ⟨S1024x128, .f32⟩
  | 58 => ⟨S1024x128, .f32⟩
  | 59 => ⟨S_, .f32⟩
  | 60 => ⟨S1024x128, .f32⟩
  | 61 => ⟨S1024x128, .f32⟩
  | 62 => ⟨S1024x128, .f32⟩
  | 63 => ⟨S_, .f32⟩
  | 64 => ⟨S1024x128, .f32⟩
  | 65 => ⟨S1024x128, .f32⟩
  | 66 => ⟨S_, .f32⟩
  | 67 => ⟨S1024x128, .f32⟩
  | 68 => ⟨S1024x128, .f32⟩
  | 69 => ⟨S1024x128, .f32⟩
  | 70 => ⟨S_, .f32⟩
  | 71 => ⟨S1024x128, .f32⟩
  | 72 => ⟨S1024x128, .f32⟩
  | 73 => ⟨S1024x128, .f32⟩
  | 74 => ⟨S_, .f32⟩
  | 75 => ⟨S1024x128, .f32⟩
  | 76 => ⟨S1024x128, .f32⟩
  | 77 => ⟨S1024x128, .f32⟩
  | 78 => ⟨S_, .f32⟩
  | 79 => ⟨S1024x128, .f32⟩
  | 80 => ⟨S1024x128, .f32⟩
  | 81 => ⟨S8x128, .f32⟩
  | 82 => ⟨S8x128, .f32⟩
  | 83 => ⟨S8x128, .f32⟩
  | 84 => ⟨S8x128, .f32⟩
  | 85 => ⟨S_, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S8x128, .f32⟩
  | 92 => ⟨S_, .f32⟩
  | 93 => ⟨S8x128, .f32⟩
  | 94 => ⟨S8x128, .f32⟩
  | 95 => ⟨S8x128, .f32⟩
  | 96 => ⟨S_, .f32⟩
  | 97 => ⟨S8x128, .f32⟩
  | 98 => ⟨S8x128, .f32⟩
  | 99 => ⟨S8x128, .f32⟩
  | 100 => ⟨S_, .f32⟩
  | 101 => ⟨S8x128, .f32⟩
  | 102 => ⟨S8x128, .f32⟩
  | 103 => ⟨S_, .f32⟩
  | 104 => ⟨S8x128, .f32⟩
  | 105 => ⟨S8x128, .f32⟩
  | 106 => ⟨S8x128, .f32⟩
  | 107 => ⟨S_, .f32⟩
  | 108 => ⟨S8x128, .f32⟩
  | 109 => ⟨S8x128, .f32⟩
  | 110 => ⟨S8x128, .f32⟩
  | 111 => ⟨S_, .f32⟩
  | 112 => ⟨S8x128, .f32⟩
  | 113 => ⟨S8x128, .f32⟩
  | 114 => ⟨S8x128, .f32⟩
  | 115 => ⟨S_, .f32⟩
  | 116 => ⟨S8x128, .f32⟩
  | 117 => ⟨S8x128, .f32⟩
  | 118 => ⟨S8x128, .f32⟩
  | 119 => ⟨S8x128, .f32⟩
  | 120 => ⟨S8x128, .f32⟩
  | 121 => ⟨S8x128, .f32⟩
  | 122 => ⟨S_, .f32⟩
  | 123 => ⟨S8x128, .f32⟩
  | 124 => ⟨S8x128, .f32⟩
  | 125 => ⟨S_, .f32⟩
  | 126 => ⟨S8x128, .f32⟩
  | 127 => ⟨S8x128, .f32⟩
  | _ => ⟨S8x400x128, .f32⟩

abbrev hbmTy0_3 (i : Nat) : BufTy := match i % 128 with
  | 0 => ⟨S8x128, .f32⟩
  | 1 => ⟨S_, .f32⟩
  | 2 => ⟨S8x128, .f32⟩
  | 3 => ⟨S8x128, .f32⟩
  | 4 => ⟨S8x128, .f32⟩
  | 5 => ⟨S_, .f32⟩
  | 6 => ⟨S8x128, .f32⟩
  | 7 => ⟨S8x128, .f32⟩
  | 8 => ⟨S8x128, .f32⟩
  | 9 => ⟨S_, .f32⟩
  | 10 => ⟨S8x128, .f32⟩
  | 11 => ⟨S8x128, .f32⟩
  | 12 => ⟨S_, .f32⟩
  | 13 => ⟨S8x128, .f32⟩
  | 14 => ⟨S8x128, .f32⟩
  | 15 => ⟨S8x128, .f32⟩
  | 16 => ⟨S_, .f32⟩
  | 17 => ⟨S8x128, .f32⟩
  | 18 => ⟨S8x128, .f32⟩
  | 19 => ⟨S8x128, .f32⟩
  | 20 => ⟨S_, .f32⟩
  | 21 => ⟨S8x128, .f32⟩
  | 22 => ⟨S8x128, .f32⟩
  | 23 => ⟨S8x128, .f32⟩
  | 24 => ⟨S_, .f32⟩
  | 25 => ⟨S8x128, .f32⟩
  | 26 => ⟨S8x128, .f32⟩
  | 27 => ⟨S8x128, .f32⟩
  | 28 => ⟨S8x128, .f32⟩
  | 29 => ⟨S8x128, .f32⟩
  | 30 => ⟨S8x128, .f32⟩
  | 31 => ⟨S_, .f32⟩
  | 32 => ⟨S8x128, .f32⟩
  | 33 => ⟨S8x128, .f32⟩
  | 34 => ⟨S_, .f32⟩
  | 35 => ⟨S8x128, .f32⟩
  | 36 => ⟨S8x128, .f32⟩
  | 37 => ⟨S8x128, .f32⟩
  | 38 => ⟨S_, .f32⟩
  | 39 => ⟨S8x128, .f32⟩
  | 40 => ⟨S8x128, .f32⟩
  | 41 => ⟨S8x128, .f32⟩
  | 42 => ⟨S_, .f32⟩
  | 43 => ⟨S8x128, .f32⟩
  | 44 => ⟨S8x128, .f32⟩
  | 45 => ⟨S8x128, .f32⟩
  | 46 => ⟨S_, .f32⟩
  | 47 => ⟨S8x128, .f32⟩
  | 48 => ⟨S8x128, .f32⟩
  | 49 => ⟨S_, .f32⟩
  | 50 => ⟨S8x128, .f32⟩
  | 51 => ⟨S8x128, .f32⟩
  | 52 => ⟨S8x128, .f32⟩
  | 53 => ⟨S_, .f32⟩
  | 54 => ⟨S8x128, .f32⟩
  | 55 => ⟨S8x128, .f32⟩
  | 56 => ⟨S8x128, .f32⟩
  | 57 => ⟨S_, .f32⟩
  | 58 => ⟨S8x128, .f32⟩
  | 59 => ⟨S8x128, .f32⟩
  | 60 => ⟨S8x128, .f32⟩
  | 61 => ⟨S_, .f32⟩
  | 62 => ⟨S8x128, .f32⟩
  | 63 => ⟨S8x128, .f32⟩
  | 64 => ⟨S8x128, .f32⟩
  | 65 => ⟨S8x128, .f32⟩
  | 66 => ⟨S8x128, .f32⟩
  | 67 => ⟨S8x128, .f32⟩
  | 68 => ⟨S_, .f32⟩
  | 69 => ⟨S8x128, .f32⟩
  | 70 => ⟨S8x128, .f32⟩
  | 71 => ⟨S_, .f32⟩
  | 72 => ⟨S8x128, .f32⟩
  | 73 => ⟨S8x128, .f32⟩
  | 74 => ⟨S8x128, .f32⟩
  | 75 => ⟨S_, .f32⟩
  | 76 => ⟨S8x128, .f32⟩
  | 77 => ⟨S8x128, .f32⟩
  | 78 => ⟨S8x128, .f32⟩
  | 79 => ⟨S_, .f32⟩
  | 80 => ⟨S8x128, .f32⟩
  | 81 => ⟨S8x128, .f32⟩
  | 82 => ⟨S8x128, .f32⟩
  | 83 => ⟨S_, .f32⟩
  | 84 => ⟨S8x128, .f32⟩
  | 85 => ⟨S8x128, .f32⟩
  | 86 => ⟨S_, .f32⟩
  | 87 => ⟨S8x128, .f32⟩
  | 88 => ⟨S8x128, .f32⟩
  | 89 => ⟨S8x128, .f32⟩
  | 90 => ⟨S_, .f32⟩
  | 91 => ⟨S8x128, .f32⟩
  | 92 => ⟨S8x128, .f32⟩
  | 93 => ⟨S8x128, .f32⟩
  | 94 => ⟨S_, .f32⟩
  | 95 => ⟨S8x128, .f32⟩
  | 96 => ⟨S8x128, .f32⟩
  | 97 => ⟨S8x128, .f32⟩
  | 98 => ⟨S_, .f32⟩
  | 99 => ⟨S8x128, .f32⟩
  | 100 => ⟨S8x128, .f32⟩
  | 101 => ⟨S16x128, .f32⟩
  | 102 => ⟨S16x128, .f32⟩
  | 103 => ⟨S16x128, .f32⟩
  | 104 => ⟨S16x128, .f32⟩
  | 105 => ⟨S_, .f32⟩
  | 106 => ⟨S16x128, .f32⟩
  | 107 => ⟨S16x128, .f32⟩
  | 108 => ⟨S_, .f32⟩
  | 109 => ⟨S16x128, .f32⟩
  | 110 => ⟨S16x128, .f32⟩
  | 111 => ⟨S16x128, .f32⟩
  | 112 => ⟨S_, .f32⟩
  | 113 => ⟨S16x128, .f32⟩
  | 114 => ⟨S16x128, .f32⟩
  | 115 => ⟨S16x128, .f32⟩
  | 116 => ⟨S_, .f32⟩
  | 117 => ⟨S16x128, .f32⟩
  | 118 => ⟨S16x128, .f32⟩
  | 119 => ⟨S16x128, .f32⟩
  | 120 => ⟨S_, .f32⟩
  | 121 => ⟨S16x128, .f32⟩
  | 122 => ⟨S16x128, .f32⟩
  | 123 => ⟨S_, .f32⟩
  | 124 => ⟨S16x128, .f32⟩
  | 125 => ⟨S16x128, .f32⟩
  | 126 => ⟨S16x128, .f32⟩
  | 127 => ⟨S_, .f32⟩
  | _ => ⟨S8x400x128, .f32⟩

abbrev hbmTy0_4 (i : Nat) : BufTy := match i % 128 with
  | 0 => ⟨S16x128, .f32⟩
  | 1 => ⟨S16x128, .f32⟩
  | 2 => ⟨S16x128, .f32⟩
  | 3 => ⟨S_, .f32⟩
  | 4 => ⟨S16x128, .f32⟩
  | 5 => ⟨S16x128, .f32⟩
  | 6 => ⟨S16x128, .f32⟩
  | 7 => ⟨S_, .f32⟩
  | 8 => ⟨S16x128, .f32⟩
  | 9 => ⟨S16x128, .f32⟩
  | 10 => ⟨S8x128, .f32⟩
  | _ => ⟨S8x400x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x400x128, .f32⟩

abbrev bufTy : (tb : Table) → Fin (tcTables nBuf tb) → BufTy
  | .hbm, ⟨i, _⟩ => hbmTy i
  | _, _ => ⟨S8x400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_v5 : Ref sig .tc := ⟨.hbm, 46, rfl⟩
abbrev main_v6 : Ref sig .tc := ⟨.hbm, 47, rfl⟩
abbrev main_cst_0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_2 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_cst_3 : Ref sig .tc := ⟨.hbm, 60, rfl⟩
abbrev main_v16 : Ref sig .tc := ⟨.hbm, 61, rfl⟩
abbrev main_v17 : Ref sig .tc := ⟨.hbm, 62, rfl⟩
abbrev main_cst_4 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_5 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_6 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_7 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_8 : Ref sig .tc := ⟨.hbm, 82, rfl⟩
abbrev main_v33 : Ref sig .tc := ⟨.hbm, 83, rfl⟩
abbrev main_v34 : Ref sig .tc := ⟨.hbm, 84, rfl⟩
abbrev main_cst_9 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_10 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_11 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_12 : Ref sig .tc := ⟨.hbm, 97, rfl⟩
abbrev main_v44 : Ref sig .tc := ⟨.hbm, 98, rfl⟩
abbrev main_v45 : Ref sig .tc := ⟨.hbm, 99, rfl⟩
abbrev main_cst_13 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_14 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_15 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_16 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_17 : Ref sig .tc := ⟨.hbm, 119, rfl⟩
abbrev main_v61 : Ref sig .tc := ⟨.hbm, 120, rfl⟩
abbrev main_v62 : Ref sig .tc := ⟨.hbm, 121, rfl⟩
abbrev main_cst_18 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_19 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_cst_20 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_21 : Ref sig .tc := ⟨.hbm, 134, rfl⟩
abbrev main_v72 : Ref sig .tc := ⟨.hbm, 135, rfl⟩
abbrev main_v73 : Ref sig .tc := ⟨.hbm, 136, rfl⟩
abbrev main_cst_22 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_23 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_24 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_25 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_26 : Ref sig .tc := ⟨.hbm, 156, rfl⟩
abbrev main_v89 : Ref sig .tc := ⟨.hbm, 157, rfl⟩
abbrev main_v90 : Ref sig .tc := ⟨.hbm, 158, rfl⟩
abbrev main_cst_27 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_28 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_29 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_cst_30 : Ref sig .tc := ⟨.hbm, 171, rfl⟩
abbrev main_v100 : Ref sig .tc := ⟨.hbm, 172, rfl⟩
abbrev main_v101 : Ref sig .tc := ⟨.hbm, 173, rfl⟩
abbrev main_cst_31 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_32 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_33 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_cst_34 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_35 : Ref sig .tc := ⟨.hbm, 193, rfl⟩
abbrev main_v117 : Ref sig .tc := ⟨.hbm, 194, rfl⟩
abbrev main_v118 : Ref sig .tc := ⟨.hbm, 195, rfl⟩
abbrev main_cst_36 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_cst_37 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_38 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_39 : Ref sig .tc := ⟨.hbm, 208, rfl⟩
abbrev main_v128 : Ref sig .tc := ⟨.hbm, 209, rfl⟩
abbrev main_v129 : Ref sig .tc := ⟨.hbm, 210, rfl⟩
abbrev main_cst_40 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_41 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_42 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_43 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_cst_44 : Ref sig .tc := ⟨.hbm, 230, rfl⟩
abbrev main_v145 : Ref sig .tc := ⟨.hbm, 231, rfl⟩
abbrev main_v146 : Ref sig .tc := ⟨.hbm, 232, rfl⟩
abbrev main_cst_45 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_cst_46 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_cst_47 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_cst_48 : Ref sig .tc := ⟨.hbm, 245, rfl⟩
abbrev main_v156 : Ref sig .tc := ⟨.hbm, 246, rfl⟩
abbrev main_v157 : Ref sig .tc := ⟨.hbm, 247, rfl⟩
abbrev main_cst_49 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_cst_50 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_cst_51 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_cst_52 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_53 : Ref sig .tc := ⟨.hbm, 267, rfl⟩
abbrev main_v173 : Ref sig .tc := ⟨.hbm, 268, rfl⟩
abbrev main_v174 : Ref sig .tc := ⟨.hbm, 269, rfl⟩
abbrev main_cst_54 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_cst_55 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_cst_56 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_cst_57 : Ref sig .tc := ⟨.hbm, 282, rfl⟩
abbrev main_v184 : Ref sig .tc := ⟨.hbm, 283, rfl⟩
abbrev main_v185 : Ref sig .tc := ⟨.hbm, 284, rfl⟩
abbrev main_cst_58 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_cst_59 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_60 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_cst_61 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_cst_62 : Ref sig .tc := ⟨.hbm, 304, rfl⟩
abbrev main_v201 : Ref sig .tc := ⟨.hbm, 305, rfl⟩
abbrev main_v202 : Ref sig .tc := ⟨.hbm, 306, rfl⟩
abbrev main_cst_63 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_cst_64 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_cst_65 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_cst_66 : Ref sig .tc := ⟨.hbm, 319, rfl⟩
abbrev main_v212 : Ref sig .tc := ⟨.hbm, 320, rfl⟩
abbrev main_v213 : Ref sig .tc := ⟨.hbm, 321, rfl⟩
abbrev main_cst_67 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_cst_68 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev main_cst_69 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_cst_70 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_cst_71 : Ref sig .tc := ⟨.hbm, 341, rfl⟩
abbrev main_v229 : Ref sig .tc := ⟨.hbm, 342, rfl⟩
abbrev main_v230 : Ref sig .tc := ⟨.hbm, 343, rfl⟩
abbrev main_cst_72 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_cst_73 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_cst_74 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_cst_75 : Ref sig .tc := ⟨.hbm, 356, rfl⟩
abbrev main_v240 : Ref sig .tc := ⟨.hbm, 357, rfl⟩
abbrev main_v241 : Ref sig .tc := ⟨.hbm, 358, rfl⟩
abbrev main_cst_76 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_cst_77 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_cst_78 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_cst_79 : Ref sig .tc := ⟨.hbm, 371, rfl⟩
abbrev main_v251 : Ref sig .tc := ⟨.hbm, 372, rfl⟩
abbrev main_v252 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_cst_80 : Ref sig .tc := ⟨.hbm, 378, rfl⟩
abbrev main_v257 : Ref sig .tc := ⟨.hbm, 379, rfl⟩
abbrev main_v258 : Ref sig .tc := ⟨.hbm, 380, rfl⟩
abbrev main_cst_81 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_cst_82 : Ref sig .tc := ⟨.hbm, 385, rfl⟩
abbrev main_v262 : Ref sig .tc := ⟨.hbm, 386, rfl⟩
abbrev main_v263 : Ref sig .tc := ⟨.hbm, 387, rfl⟩
abbrev main_v264 : Ref sig .tc := ⟨.hbm, 388, rfl⟩
abbrev main_cst_83 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_cst_84 : Ref sig .tc := ⟨.hbm, 393, rfl⟩
abbrev main_v268 : Ref sig .tc := ⟨.hbm, 394, rfl⟩
abbrev main_v269 : Ref sig .tc := ⟨.hbm, 395, rfl⟩
abbrev main_cst_85 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_cst_86 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_cst_87 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_cst_88 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_cst_89 : Ref sig .tc := ⟨.hbm, 415, rfl⟩
abbrev main_v285 : Ref sig .tc := ⟨.hbm, 416, rfl⟩
abbrev main_v286 : Ref sig .tc := ⟨.hbm, 417, rfl⟩
abbrev main_cst_90 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_cst_91 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_cst_92 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_cst_93 : Ref sig .tc := ⟨.hbm, 430, rfl⟩
abbrev main_v296 : Ref sig .tc := ⟨.hbm, 431, rfl⟩
abbrev main_v297 : Ref sig .tc := ⟨.hbm, 432, rfl⟩
abbrev main_cst_94 : Ref sig .tc := ⟨.hbm, 433, rfl⟩
abbrev main_v298 : Ref sig .tc := ⟨.hbm, 434, rfl⟩
abbrev main_v299 : Ref sig .tc := ⟨.hbm, 435, rfl⟩
abbrev main_v300 : Ref sig .tc := ⟨.hbm, 436, rfl⟩
abbrev main_cst_95 : Ref sig .tc := ⟨.hbm, 437, rfl⟩
abbrev main_v301 : Ref sig .tc := ⟨.hbm, 438, rfl⟩
abbrev main_v302 : Ref sig .tc := ⟨.hbm, 439, rfl⟩
abbrev main_v303 : Ref sig .tc := ⟨.hbm, 440, rfl⟩
abbrev main_cst_96 : Ref sig .tc := ⟨.hbm, 441, rfl⟩
abbrev main_v304 : Ref sig .tc := ⟨.hbm, 442, rfl⟩
abbrev main_v305 : Ref sig .tc := ⟨.hbm, 443, rfl⟩
abbrev main_v306 : Ref sig .tc := ⟨.hbm, 444, rfl⟩
abbrev main_cst_97 : Ref sig .tc := ⟨.hbm, 445, rfl⟩
abbrev main_v307 : Ref sig .tc := ⟨.hbm, 446, rfl⟩
abbrev main_v308 : Ref sig .tc := ⟨.hbm, 447, rfl⟩
abbrev main_v309 : Ref sig .tc := ⟨.hbm, 448, rfl⟩
abbrev main_v310 : Ref sig .tc := ⟨.hbm, 449, rfl⟩
abbrev main_v311 : Ref sig .tc := ⟨.hbm, 450, rfl⟩
abbrev main_v312 : Ref sig .tc := ⟨.hbm, 451, rfl⟩
abbrev main_cst_98 : Ref sig .tc := ⟨.hbm, 452, rfl⟩
abbrev main_v313 : Ref sig .tc := ⟨.hbm, 453, rfl⟩
abbrev main_v314 : Ref sig .tc := ⟨.hbm, 454, rfl⟩
abbrev main_cst_99 : Ref sig .tc := ⟨.hbm, 455, rfl⟩
abbrev main_v315 : Ref sig .tc := ⟨.hbm, 456, rfl⟩
abbrev main_v316 : Ref sig .tc := ⟨.hbm, 457, rfl⟩
abbrev main_v317 : Ref sig .tc := ⟨.hbm, 458, rfl⟩
abbrev main_cst_100 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_cst_101 : Ref sig .tc := ⟨.hbm, 463, rfl⟩
abbrev main_v321 : Ref sig .tc := ⟨.hbm, 464, rfl⟩
abbrev main_v322 : Ref sig .tc := ⟨.hbm, 465, rfl⟩
abbrev main_v323 : Ref sig .tc := ⟨.hbm, 466, rfl⟩
abbrev main_cst_102 : Ref sig .tc := ⟨.hbm, 467, rfl⟩
abbrev main_v324 : Ref sig .tc := ⟨.hbm, 468, rfl⟩
abbrev main_v325 : Ref sig .tc := ⟨.hbm, 469, rfl⟩
abbrev main_cst_103 : Ref sig .tc := ⟨.hbm, 470, rfl⟩
abbrev main_v326 : Ref sig .tc := ⟨.hbm, 471, rfl⟩
abbrev main_v327 : Ref sig .tc := ⟨.hbm, 472, rfl⟩
abbrev main_v328 : Ref sig .tc := ⟨.hbm, 473, rfl⟩
abbrev main_cst_104 : Ref sig .tc := ⟨.hbm, 474, rfl⟩
abbrev main_v329 : Ref sig .tc := ⟨.hbm, 475, rfl⟩
abbrev main_v330 : Ref sig .tc := ⟨.hbm, 476, rfl⟩
abbrev main_v331 : Ref sig .tc := ⟨.hbm, 477, rfl⟩
abbrev main_cst_105 : Ref sig .tc := ⟨.hbm, 478, rfl⟩
abbrev main_v332 : Ref sig .tc := ⟨.hbm, 479, rfl⟩
abbrev main_v333 : Ref sig .tc := ⟨.hbm, 480, rfl⟩
abbrev main_v334 : Ref sig .tc := ⟨.hbm, 481, rfl⟩
abbrev main_cst_106 : Ref sig .tc := ⟨.hbm, 482, rfl⟩
abbrev main_v335 : Ref sig .tc := ⟨.hbm, 483, rfl⟩
abbrev main_v336 : Ref sig .tc := ⟨.hbm, 484, rfl⟩
abbrev main_v337 : Ref sig .tc := ⟨.hbm, 485, rfl⟩
abbrev main_v338 : Ref sig .tc := ⟨.hbm, 486, rfl⟩
abbrev main_v339 : Ref sig .tc := ⟨.hbm, 487, rfl⟩
abbrev main_v340 : Ref sig .tc := ⟨.hbm, 488, rfl⟩
abbrev main_cst_107 : Ref sig .tc := ⟨.hbm, 489, rfl⟩
abbrev main_v341 : Ref sig .tc := ⟨.hbm, 490, rfl⟩
abbrev main_v342 : Ref sig .tc := ⟨.hbm, 491, rfl⟩
abbrev main_cst_108 : Ref sig .tc := ⟨.hbm, 492, rfl⟩
abbrev main_v343 : Ref sig .tc := ⟨.hbm, 493, rfl⟩
abbrev main_v344 : Ref sig .tc := ⟨.hbm, 494, rfl⟩
abbrev main_v345 : Ref sig .tc := ⟨.hbm, 495, rfl⟩
abbrev main_cst_109 : Ref sig .tc := ⟨.hbm, 496, rfl⟩
abbrev main_v346 : Ref sig .tc := ⟨.hbm, 497, rfl⟩
abbrev main_v347 : Ref sig .tc := ⟨.hbm, 498, rfl⟩
abbrev main_v348 : Ref sig .tc := ⟨.hbm, 499, rfl⟩
abbrev main_cst_110 : Ref sig .tc := ⟨.hbm, 500, rfl⟩
abbrev main_v349 : Ref sig .tc := ⟨.hbm, 501, rfl⟩
abbrev main_v350 : Ref sig .tc := ⟨.hbm, 502, rfl⟩
abbrev main_v351 : Ref sig .tc := ⟨.hbm, 503, rfl⟩
abbrev main_cst_111 : Ref sig .tc := ⟨.hbm, 504, rfl⟩
abbrev main_v352 : Ref sig .tc := ⟨.hbm, 505, rfl⟩
abbrev main_v353 : Ref sig .tc := ⟨.hbm, 506, rfl⟩
abbrev main_cst_112 : Ref sig .tc := ⟨.hbm, 507, rfl⟩
abbrev main_v354 : Ref sig .tc := ⟨.hbm, 508, rfl⟩
abbrev main_v355 : Ref sig .tc := ⟨.hbm, 509, rfl⟩
abbrev main_v356 : Ref sig .tc := ⟨.hbm, 510, rfl⟩
abbrev main_cst_113 : Ref sig .tc := ⟨.hbm, 511, rfl⟩
abbrev main_v357 : Ref sig .tc := ⟨.hbm, 512, rfl⟩
abbrev main_v358 : Ref sig .tc := ⟨.hbm, 513, rfl⟩
abbrev main_v359 : Ref sig .tc := ⟨.hbm, 514, rfl⟩
abbrev main_cst_114 : Ref sig .tc := ⟨.hbm, 515, rfl⟩
abbrev main_v360 : Ref sig .tc := ⟨.hbm, 516, rfl⟩
abbrev main_v361 : Ref sig .tc := ⟨.hbm, 517, rfl⟩
abbrev main_v362 : Ref sig .tc := ⟨.hbm, 518, rfl⟩
abbrev main_cst_115 : Ref sig .tc := ⟨.hbm, 519, rfl⟩
abbrev main_v363 : Ref sig .tc := ⟨.hbm, 520, rfl⟩
abbrev main_v364 : Ref sig .tc := ⟨.hbm, 521, rfl⟩
abbrev main_v365 : Ref sig .tc := ⟨.hbm, 522, rfl⟩

abbrev nD : Nat := 1
abbrev τ : Topo := Topo.v7x

variable {F : FTy → Type} [FloatOps F]
-- ==== Proof.Frames.lean ====
/-
  Each program runs to completion, leaves its arguments as they were and ends with every semaphore at zero.
-/
module

public import proofs.«01_k».proof.Defs
public import proofs.«01_k».proof.Proof.Gen.GwRefIdeal.Run
public import proofs.«01_k».proof.Proof.Gen.PleRefIdeal.Run
public import proofs.«01_k».proof.Proof.Gen.TailRefIdeal.Run
public import proofs.«01_k».proof.Proof.Gen.Tail.Frame
public import proofs.«01_k».proof.Proof.Gen.TailIdeal.Frame
public import proofs.«01_k».proof.Proof.Gen.Ple.Frame
public import proofs.«01_k».proof.Proof.Gen.PleIdeal.Frame
public import proofs.«01_k».proof.Proof.Gen.Gw.Frame
public import proofs.«01_k».proof.Proof.Gen.GwIdeal.Frame
public import proofs.«01_k».proof.Proof.Gen.InbRefIdeal.Run
public import proofs.«01_k».proof.Proof.Gen.Op.Frame
public import proofs.«01_k».proof.Proof.Gen.OpIdeal.Frame
public import proofs.«01_k».proof.Proof.Gen.OpRefIdeal.Run
public import proofs.«01_k».proof.Proof.Gen.AdOut.Frame
public import proofs.«01_k».proof.Proof.Gen.AdOutIdeal.Frame
public import proofs.«01_k».proof.Proof.Gen.AdOutRefIdeal.Run
public import proofs.«01_k».proof.Proof.Gen.AdPe.Frame
public import proofs.«01_k».proof.Proof.Gen.AdPeIdeal.Frame
public import proofs.«01_k».proof.Proof.Gen.AdPeRefIdeal.Run
public import proofs.«01_k».proof.Proof.Gen.AdCw.Frame
public import proofs.«01_k».proof.Proof.Gen.AdCwIdeal.Frame
public import proofs.«01_k».proof.Proof.Gen.AdCwRefIdeal.Run
public import proofs.«01_k».proof.Proof.Gen.AdPre.Frame
public import proofs.«01_k».proof.Proof.Gen.AdPreIdeal.Frame
public import proofs.«01_k».proof.Proof.Gen.AdPreRefIdeal.Run
public import proofs.«01_k».proof.Proof.Gen.Sum.Frame
public import proofs.«01_k».proof.Proof.Gen.SumIdeal.Frame
public import proofs.«01_k».proof.Proof.Gen.SumRefIdeal.Run
public import Idealize.ShloMosaic.Adequacy
public import Idealize.ShloMosaic.Init

@[expose] public section

noncomputable section

namespace Cert.Proof

open Idealize.ShloMosaic Idealize.ShloMosaic.TcCoe Idealize.SL.Sem

/-- The gradient of the last stage over machine words. -/
theorem frame_tail : Cert.quiescent_Tail := fun m ρ _ => Cert.Tail.Gen.frame m ρ

/-- The gradient of the last stage over the extended reals. -/
theorem frame_tail_ideal : Cert.quiescent_TailIdeal := fun m ρ _ => Cert.TailIdeal.Gen.frame m ρ

/-- Its reference, which runs on the host alone. -/
theorem frame_tail_ref : Cert.quiescent_TailRefIdeal := fun m ρ _ =>
  (θ_run Cert.TailRefIdeal.defs _ _).mono (fun r h => ⟨fun c => (h c).2.2.2.2,
      sem_eq_zero_of_no_sems (by decide) r.2⟩)
    (Cert.TailRefIdeal.Value.run (F := Ideal) m ρ)

/-- The gate and loss kernel over machine words. -/
theorem frame_ple : Cert.quiescent_Ple := fun m ρ _ => Cert.Ple.Gen.frame m ρ

/-- The gate and loss kernel over the extended reals. -/
theorem frame_ple_ideal : Cert.quiescent_PleIdeal := fun m ρ _ => Cert.PleIdeal.Gen.frame m ρ

/-- Its reference, which runs on the host alone. -/
theorem frame_ple_ref : Cert.quiescent_PleRefIdeal := fun m ρ _ =>
  (θ_run Cert.PleRefIdeal.defs _ _).mono (fun r h => ⟨fun c => (h c).2.2.2.2.2,
      sem_eq_zero_of_no_sems (by decide) r.2⟩)
    (Cert.PleRefIdeal.Value.run (F := Ideal) m ρ)

/-- The weight gradient kernel over machine words. -/
theorem frame_gw : Cert.quiescent_Gw := fun m ρ _ => Cert.Gw.Gen.frame m ρ

/-- The weight gradient kernel over the extended reals. -/
theorem frame_gw_ideal : Cert.quiescent_GwIdeal := fun m ρ _ => Cert.GwIdeal.Gen.frame m ρ

/-- Its reference, which runs on the host alone. -/
theorem frame_gw_ref : Cert.quiescent_GwRefIdeal := fun m ρ _ =>
  (θ_run Cert.GwRefIdeal.defs _ _).mono (fun r h => ⟨fun c => (h c).2,
      sem_eq_zero_of_no_sems (by decide) r.2⟩)
    (Cert.GwRefIdeal.Value.run (F := Ideal) m ρ)

/-- The projection's gradient: its reference, which runs on the host alone. -/
theorem frame_inb_ref : Cert.quiescent_InbRefIdeal := fun m ρ _ =>
  (θ_run Cert.InbRefIdeal.defs _ _).mono (fun r h => ⟨fun c => (h c).2.2,
      sem_eq_zero_of_no_sems (by decide) r.2⟩)
    (Cert.InbRefIdeal.Value.run (F := Ideal) m ρ)

/-- The output projection over machine words. -/
theorem frame_op : Cert.quiescent_Op := fun m ρ _ => Cert.Op.Gen.frame m ρ

/-- The output projection over the extended reals. -/
theorem frame_op_ideal : Cert.quiescent_OpIdeal := fun m ρ _ => Cert.OpIdeal.Gen.frame m ρ

/-- Its reference, which runs on the host alone. -/
theorem frame_op_ref : Cert.quiescent_OpRefIdeal := fun m ρ _ =>
  (θ_run Cert.OpRefIdeal.defs _ _).mono (fun r h => ⟨fun c => (h c).2.2,
      sem_eq_zero_of_no_sems (by decide) r.2⟩)
    (Cert.OpRefIdeal.Value.run (F := Ideal) m ρ)

/-- The optimiser step of the output projection's weight over machine words. -/
theorem frame_ad_out : Cert.quiescent_AdOut := fun m ρ _ => Cert.AdOut.Gen.frame m ρ

/-- The optimiser step of the output projection's weight over the extended reals. -/
theorem frame_ad_out_ideal : Cert.quiescent_AdOutIdeal := fun m ρ _ => Cert.AdOutIdeal.Gen.frame m ρ

/-- Its reference, which runs on the host alone. -/
theorem frame_ad_out_ref : Cert.quiescent_AdOutRefIdeal := fun m ρ _ =>
  (θ_run Cert.AdOutRefIdeal.defs _ _).mono (fun r h => ⟨fun c => (h c).2.2.2.2,
      sem_eq_zero_of_no_sems (by decide) r.2⟩)
    (Cert.AdOutRefIdeal.Value.run (F := Ideal) m ρ)

/-- The optimiser step of the embedding's weight over machine words. -/
theorem frame_ad_pe : Cert.quiescent_AdPe := fun m ρ _ => Cert.AdPe.Gen.frame m ρ

/-- The optimiser step of the embedding's weight over the extended reals. -/
theorem frame_ad_pe_ideal : Cert.quiescent_AdPeIdeal := fun m ρ _ => Cert.AdPeIdeal.Gen.frame m ρ

/-- Its reference, which runs on the host alone. -/
theorem frame_ad_pe_ref : Cert.quiescent_AdPeRefIdeal := fun m ρ _ =>
  (θ_run Cert.AdPeRefIdeal.defs _ _).mono (fun r h => ⟨fun c => (h c).2.2.2.2,
      sem_eq_zero_of_no_sems (by decide) r.2⟩)
    (Cert.AdPeRefIdeal.Value.run (F := Ideal) m ρ)

/-- The optimiser step of the convolution's weight over machine words. -/
theorem frame_ad_cw : Cert.quiescent_AdCw := fun m ρ _ => Cert.AdCw.Gen.frame m ρ

/-- The optimiser step of the convolution's weight over the extended reals. -/
theorem frame_ad_cw_ideal : Cert.quiescent_AdCwIdeal := fun m ρ _ => Cert.AdCwIdeal.Gen.frame m ρ

/-- Its reference, which runs on the host alone. -/
theorem frame_ad_cw_ref : Cert.quiescent_AdCwRefIdeal := fun m ρ _ =>
  (θ_run Cert.AdCwRefIdeal.defs _ _).mono (fun r h => ⟨fun c => (h c).2.2.2.2,
      sem_eq_zero_of_no_sems (by decide) r.2⟩)
    (Cert.AdCwRefIdeal.Value.run (F := Ideal) m ρ)

/-- The optimiser step of the first norm's scale over machine words. -/
theorem frame_ad_pre : Cert.quiescent_AdPre := fun m ρ _ => Cert.AdPre.Gen.frame m ρ

/-- The optimiser step of the first norm's scale over the extended reals. -/
theorem frame_ad_pre_ideal : Cert.quiescent_AdPreIdeal := fun m ρ _ => Cert.AdPreIdeal.Gen.frame m ρ

/-- Its reference, which runs on the host alone. -/
theorem frame_ad_pre_ref : Cert.quiescent_AdPreRefIdeal := fun m ρ _ =>
  (θ_run Cert.AdPreRefIdeal.defs _ _).mono (fun r h => ⟨fun c => (h c).2.2.2.2,
      sem_eq_zero_of_no_sems (by decide) r.2⟩)
    (Cert.AdPreRefIdeal.Value.run (F := Ideal) m ρ)

/-- The sum of the parts of the packed small gradients over machine words. -/
theorem frame_sum : Cert.quiescent_Sum := fun m ρ _ => Cert.Sum.Gen.frame m ρ

/-- The sum of the parts of the packed small gradients over the extended reals. -/
theorem frame_sum_ideal : Cert.quiescent_SumIdeal := fun m ρ _ => Cert.SumIdeal.Gen.frame m ρ

/-- Its reference, which runs on the host alone. -/
theorem frame_sum_ref : Cert.quiescent_SumRefIdeal := fun m ρ _ =>
  (θ_run Cert.SumRefIdeal.defs _ _).mono (fun r h => ⟨fun c => (h c).2,
      sem_eq_zero_of_no_sems (by decide) r.2⟩)
    (Cert.SumRefIdeal.Value.run (F := Ideal) m ρ)

end Cert.Proof

end
-- ==== Proof.Sums.lean ====
/-
  Sums cut into blocks: what a grid of partial sums has to do with one sum over all the rows.
-/
module

public import Idealize.ShloMosaic.Lib.Pipeline.Value
public import Idealize.ShloMosaic.Lib.Tactic

@[expose] public section

set_option maxRecDepth 16384

noncomputable section

namespace Cert.Sums

/-- The sum over `n` blocks of `w` consecutive terms each is the sum of all `n * w` terms. -/
theorem range_blocks {β : Type*} [AddCommMonoid β] (w : ℕ) (f : ℕ → β) :
    ∀ n : ℕ, ∑ s ∈ Finset.range n, ∑ k ∈ Finset.range w, f (w * s + k) = ∑ k ∈ Finset.range (n * w), f k
  | 0 => by simp
  | n + 1 => by
    rw [Finset.sum_range_succ, range_blocks w f n, Nat.succ_mul, Finset.sum_range_add, Nat.mul_comm n w]

/-- The sum over `n` blocks of `v = w + w` terms, taken lane by lane over `w` lanes, two terms of a block to a lane. -/
theorem range_lanes {β : Type*} [AddCommMonoid β] (w v : ℕ) (hv : v = w + w) (f : ℕ → β) (n : ℕ) :
    ∑ l ∈ Finset.range w, ∑ j ∈ Finset.range n, (f (v * j + l) + f (v * j + (w + l))) = ∑ k ∈ Finset.range (n * v), f k := by
  rw [Finset.sum_comm, ← range_blocks v f n]
  refine Finset.sum_congr rfl fun j _ => ?_
  rw [Finset.sum_add_distrib, hv, Finset.sum_range_add]

end Cert.Sums

end
-- ==== Proof.GwValue.lean ====
/-
  What the weight-gradient kernel computes: its result is the product `aᵀ · b` summed over all 8192 rows.

  The grid has 16 points, two column halves of eight row tiles each. A point adds the product of its row tile to the
  accumulator, which the first tile of a half resets; the last tile of a half stores the accumulator, cast, as one half
  of the result. Over the extended reals the accumulator after tile `k` is the sum over the first `1024 * (k + 1)` rows,
  so that the result is the reference's one contraction over all rows.
-/
module

public import proofs.«01_k».proof.Defs
public import proofs.«01_k».proof.Proof.Sums
public import proofs.«01_k».proof.Proof.Gen.GwIdeal.Value
public import proofs.«01_k».proof.Proof.Gen.GwRefIdeal.Read
public import Idealize.ShloMosaic.Lib.Pointwise.Contract
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.GwIdeal.Prod

open Cert.GwIdeal Cert.GwIdeal.Gen Cert.GwIdeal.Value

theorem hz : (![0, 0] : Fin 2 → Nat) = fun _ => 0 := funext fun a => by fin_cases a <;> rfl

section Pieces
variable {F : FTy → Type} [FloatOps F]

/-- A middle tile leaves the accumulator plus its product. -/
theorem sout_B (c : Dev nD) (i : grid0.Coords) (a2 : Memref sig .tc .vmem S1024x2048 .bf16) (h2 : a2.IsWhole)
    (a3 : Memref sig .tc .vmem S1024x1024 .bf16) (h3 : a3.IsWhole) (a4 : Memref sig .tc .vmem S2048x1024 .bf16) (h4 : a4.IsWhole)
    (a5 : Memref sig .tc .vmem S2048x1024 .f32) (h5 : a5.IsWhole) (hc0 : ¬cond0_0 i) (hc1 : ¬cond0_1 i)
    (x0 : Vec F S1024x2048 .bf16) (x1 : Vec F S1024x1024 .bf16) (xs : Vec F S2048x1024 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz,
    View.ld_unit_zero (S := S1024x2048) hz, View.ld_unit_zero (S := S1024x1024) hz]

/-- A half's first tile leaves its product on top of the zero block. -/
theorem sout_A (c : Dev nD) (i : grid0.Coords) (a2 : Memref sig .tc .vmem S1024x2048 .bf16) (h2 : a2.IsWhole)
    (a3 : Memref sig .tc .vmem S1024x1024 .bf16) (h3 : a3.IsWhole) (a4 : Memref sig .tc .vmem S2048x1024 .bf16) (h4 : a4.IsWhole)
    (a5 : Memref sig .tc .vmem S2048x1024 .f32) (h5 : a5.IsWhole) (hc0 : cond0_0 i) (hc1 : ¬cond0_1 i)
    (x0 : Vec F S1024x2048 .bf16) (x1 : Vec F S1024x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz, View.readCov_unit_zero (S := S2048x1024) _ hz]
  simp only [View.readAt_eq_ld, h2.read_unread, h3.read_unread,
    View.ld_unit_zero (S := S1024x2048) hz, View.ld_unit_zero (S := S1024x1024) hz]

/-- A half's last tile leaves the accumulator plus its product in the accumulator, -/
theorem sout_C (c : Dev nD) (i : grid0.Coords) (a2 : Memref sig .tc .vmem S1024x2048 .bf16) (h2 : a2.IsWhole)
    (a3 : Memref sig .tc .vmem S1024x1024 .bf16) (h3 : a3.IsWhole) (a4 : Memref sig .tc .vmem S2048x1024 .bf16) (h4 : a4.IsWhole)
    (a5 : Memref sig .tc .vmem S2048x1024 .f32) (h5 : a5.IsWhole) (hc0 : ¬cond0_0 i) (hc1 : cond0_1 i)
    (x0 : Vec F S1024x2048 .bf16) (x1 : Vec F S1024x1024 .bf16) (xs : Vec F S2048x1024 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x1024) hz,
    View.ld_unit_zero (S := S1024x2048) hz, View.ld_unit_zero (S := S1024x1024) hz]

/-- … and the cast of that in the result's block. -/
theorem out_C (c : Dev nD) (i : grid0.Coords) (a2 : Memref sig .tc .vmem S1024x2048 .bf16) (h2 : a2.IsWhole)
    (a3 : Memref sig .tc .vmem S1024x1024 .bf16) (h3 : a3.IsWhole) (a4 : Memref sig .tc .vmem S2048x1024 .bf16) (h4 : a4.IsWhole)
    (a5 : Memref sig .tc .vmem S2048x1024 .f32) (h5 : a5.IsWhole) (hc0 : ¬cond0_0 i) (hc1 : cond0_1 i)
    (x0 : Vec F S1024x2048 .bf16) (x1 : Vec F S1024x1024 .bf16) (xs : Vec F S2048x1024 .f32) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S2048x1024) _ hz]
  simp only [View.readAt_eq_ld, h2.read_unread, h3.read_unread, h5.read_unread, View.ld_unit_zero (S := S2048x1024) hz,
    View.ld_unit_zero (S := S1024x2048) hz, View.ld_unit_zero (S := S1024x1024) hz]

end Pieces

/-- The index `(r, q)` of an `[8192, 2048]` array, for any natural numbers (reduced into range). -/
abbrev ixA (r q : ℕ) : S8192x2048.Idx := fun a => match a with
  | ⟨0, _⟩ => Fin.ofNat 8192 r
  | ⟨1, _⟩ => Fin.ofNat 2048 q

/-- The tile product at an index: the accumulator plus the sum over the tile's rows. -/
theorem pay2_apply (v3 : Vec Ideal S2048x1024 .f32) (v4 : Vec Ideal S1024x2048 .bf16) (v5 : Vec Ideal S1024x1024 .bf16)
    (i : S2048x1024.Idx) :
    k0_pay2 (F := Ideal) v3 v4 v5 i
      = v3 i + ∑ k : Fin 1024, v4 (fun a => match a with | ⟨0, _⟩ => k | ⟨1, _⟩ => i 0)
          * v5 (fun a => match a with | ⟨0, _⟩ => k | ⟨1, _⟩ => i 1) := by
  unfold k0_pay2
  simp only [shapeCast_self]
  show v3 i + Ideal.matmul dot_S1024x2048_S1024x1024_S2048x1024_0_0_1_1_n_n v4 v5 (constant (F := Ideal) S2048x1024 .f32 0x00000000#32) i = _
  rw [Ideal.matmul_apply₁_of dot_S1024x2048_S1024x1024_S2048x1024_0_0_1_1_n_n rfl rfl v4 v5 _ i
    (fun k => fun a => match a with | ⟨0, _⟩ => k | ⟨1, _⟩ => i 0)
    (fun k => fun a => match a with | ⟨0, _⟩ => k | ⟨1, _⟩ => i 1)
    (fun k => funext fun a => by fin_cases a <;> rfl) (fun k => funext fun a => by fin_cases a <;> rfl)]
  rw [show (constant (F := Ideal) S2048x1024 .f32 0x00000000#32) i = (0 : EReal) from Ideal.ofBits_zero_f32, zero_add]
  rfl

/-! ## The accumulator and the result, over the extended reals -/

variable (m : (ℓ : Loc nD τ sig) → Buf (Elt Ideal) ℓ) (c : Dev nD)

/-- The kernel's first argument at row `r`, column `q`. -/
abbrev argA (r q : ℕ) : EReal := (m ((c : Thread nD τ).loc main_arg0) : S8192x2048.Idx → EReal) (ixA r q)
/-- The kernel's second argument at row `r`, column `q`. -/
abbrev argB (r q : ℕ) : EReal := (m ((c : Thread nD τ).loc main_arg1) : S8192x2048.Idx → EReal) (ixA r q)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = t.val / 8 :=
  (by decide +kernel : ∀ t : Fin grid0.N, _)

/-- Point `t` reads row tile `t % 8` of the first argument, -/
theorem iblk0_apply (t : Fin cfg0.N) (j : S1024x2048.Idx) :
    (iblk m c 0 t : Vec Ideal S1024x2048 .bf16) j = argA m c (1024 * (t.val % 8) + (j 0).val) (j 1).val := by
  unfold iblk
  rw [View.read_apply]
  show V m c main_arg0 _ = m (c.tc.loc main_arg0) _
  unfold V
  congr 1
  have h0 : (j 0).val < 1024 := (j 0).isLt
  have h1 : (j 1).val < 2048 := (j 1).isLt
  funext a
  apply Fin.ext
  match a with
  | ⟨0, _⟩ => show win0_0.index t 0 * 1024 + 1 * (j 0).val = (1024 * (t.val % 8) + (j 0).val) % 8192; rw [(idx0 t).1]; omega
  | ⟨1, _⟩ => show win0_0.index t 1 * 2048 + 1 * (j 1).val = (j 1).val % 2048; rw [(idx0 t).2]; omega

/-- and the columns `1024 * (t / 8) …` of the same row tile of the second. -/
theorem iblk1_apply (t : Fin cfg0.N) (j : S1024x1024.Idx) :
    (iblk m c 1 t : Vec Ideal S1024x1024 .bf16) j = argB m c (1024 * (t.val % 8) + (j 0).val) (1024 * (t.val / 8) + (j 1).val) := by
  unfold iblk
  rw [View.read_apply]
  show V m c main_arg1 _ = m (c.tc.loc main_arg1) _
  unfold V
  congr 1
  have h0 : (j 0).val < 1024 := (j 0).isLt
  have h1 : (j 1).val < 1024 := (j 1).isLt
  have hN := lt_of_lt_of_eq t.isLt (show cfg0.N = 16 from N_0)
  funext a
  apply Fin.ext
  match a with
  | ⟨0, _⟩ => show win0_1.index t 0 * 1024 + 1 * (j 0).val = (1024 * (t.val % 8) + (j 0).val) % 8192; rw [(idx1 t).1]; omega
  | ⟨1, _⟩ => show win0_1.index t 1 * 1024 + 1 * (j 1).val = (1024 * (t.val / 8) + (j 1).val) % 2048; rw [(idx1 t).2]; omega

/-- What point `n` adds to the accumulator at `i`. -/
def addend (n : ℕ) (i : S2048x1024.Idx) : EReal :=
  ∑ k ∈ Finset.range 1024, argA m c (1024 * (n % 8) + k) (i 0).val * argB m c (1024 * (n % 8) + k) (1024 * (n / 8) + (i 1).val)

theorem pay2_blk (t : Fin cfg0.N) (acc : Vec Ideal S2048x1024 .f32) (i : S2048x1024.Idx) :
    k0_pay2 (F := Ideal) acc (iblk m c 0 t) (iblk m c 1 t) i = acc i + addend m c t.val i := by
  rw [pay2_apply]
  unfold addend
  rw [Finset.sum_range]
  refine congrArg (acc i + ·) (Finset.sum_congr rfl fun k _ => ?_)
  rw [iblk0_apply, iblk1_apply]

/-- The accumulator after point `t` is the sum of its half's addends so far. -/
theorem acc_apply (t : Fin cfg0.N) (i : S2048x1024.Idx) :
    ((outsAt0 m c t.val t.isLt).2 : Vec Ideal S2048x1024 .f32) i
      = ∑ s ∈ Finset.range (t.val % 8 + 1), addend m c (8 * (t.val / 8) + s) i := by
  have hN := lt_of_lt_of_eq t.isLt (show cfg0.N = 16 from N_0)
  rw [soutsAt0_0_eq]
  rw [Pipeline.accAt_add_apply (ι := S2048x1024.Idx) (β := EReal) _ _ (fun _ => 0) (addend m c) (8 * (t.val / 8)) 7 ?_ ?_ (t.val % 8) (by omega) _ i, zero_add]
  · intro h i
    unfold scAt0_0
    rw [dif_pos (by omega), dif_neg (by omega), sout_A, pay2_blk]
    refine congrArg (· + _) ?_
    unfold k0_pay1
    simp only [shapeCast_self]
    exact Ideal.ofBits_zero_f32
  · intro n h acc i h1 h2
    unfold scAt0_0
    by_cases h7 : n % 8 = 7
    · rw [dif_neg (by omega), dif_pos h7, sout_C, pay2_blk]
    · rw [dif_neg (by omega), dif_neg h7, sout_B, pay2_blk]

/-- At a half's last point the result's block is the accumulator (a cast is the identity over the extended reals). -/
theorem out_eq_acc (t : Fin cfg0.N) (h7 : t.val % 8 = 7) (i : S2048x1024.Idx) :
    ((outsAt0 m c t.val t.isLt).1 : Vec Ideal S2048x1024 .bf16) i = ((outsAt0 m c t.val t.isLt).2 : Vec Ideal S2048x1024 .f32) i := by
  rw [outsAt0_C m c t (by omega) h7]
  dsimp only
  rw [out_C, sout_C]
  rfl

/-- The result at `i`: the product of the two arguments contracted over all 8192 rows. -/
theorem G2_apply (i : S2048x2048.Idx) :
    (G2 m c : S2048x2048.Idx → EReal) i = ∑ k ∈ Finset.range 8192, argA m c k (i 0).val * argB m c k (i 1).val := by
  have h0 : (i 0).val < 2048 := (i 0).isLt
  have h1 : (i 1).val < 2048 := (i 1).isLt
  have hN : cfg0.N = 16 := N_0
  have hp : pt2Of i < cfg0.N := by unfold pt2Of run2Of; omega
  have hm : pt2Of i % 8 = 7 := by unfold pt2Of; omega
  have hd : pt2Of i / 8 = (i 1).val / 1024 := by unfold pt2Of run2Of; omega
  unfold G2
  rw [dif_pos hp, ← outsAt0_sweep m c (pt2Of i) hp]
  refine (out_eq_acc m c ⟨pt2Of i, hp⟩ hm _).trans ((acc_apply m c ⟨pt2Of i, hp⟩ _).trans ?_)
  dsimp only
  rw [hm, hd, ← Sums.range_blocks 1024 (fun k => argA m c k (i 0).val * argB m c k (i 1).val) 8]
  refine Finset.sum_congr rfl fun s hs => ?_
  have hs' : s < 8 := Finset.mem_range.mp hs
  unfold addend
  refine Finset.sum_congr rfl fun k _ => ?_
  have e1 : (8 * ((i 1).val / 1024) + s) % 8 = s := by omega
  have e2 : (8 * ((i 1).val / 1024) + s) / 8 = (i 1).val / 1024 := by omega
  rw [e1, e2]
  show argA m c (1024 * s + k) ((i 0).val % 2048) * argB m c (1024 * s + k) (1024 * ((i 1).val / 1024) + (i 1).val % 1024) = _
  rw [Nat.mod_eq_of_lt h0, Nat.div_add_mod]

end Cert.GwIdeal.Prod

/-! ## The claim -/

namespace Cert.GwClaim

open Cert.GwRefIdeal.Read

/-- The reference's result at `i`: one contraction over all 8192 rows. -/
theorem ref_apply (x0 x1 : Cert.GwRefIdeal.S8192x2048.Idx → EReal) (i : Cert.GwRefIdeal.S2048x2048.Idx) :
    val_main_v6 (F := Ideal) x0 x1 i
      = ∑ k ∈ Finset.range 8192, x0 (GwIdeal.Prod.ixA k (i 0).val) * x1 (GwIdeal.Prod.ixA k (i 1).val) := by
  rw [val_main_v6_apply]
  show val_main_v5 (F := Ideal) x0 x1 i = _
  rw [val_main_v5_apply, val_main_v4_apply, Finset.sum_range]
  refine Finset.sum_congr rfl fun k _ => ?_
  rw [val_main_v3_apply, val_main_v1_apply]
  show x1 _ * x0 _ = _
  rw [mul_comm]
  have h0 : (i 0).val < 2048 := (i 0).isLt
  have h1 : (i 1).val < 2048 := (i 1).isLt
  have hk : k.val < 8192 := k.isLt
  congr 2
  · funext a; apply Fin.ext
    match a with
    | ⟨0, _⟩ => exact (Nat.mod_eq_of_lt hk).symm
    | ⟨1, _⟩ => exact (Nat.mod_eq_of_lt h0).symm
  · funext a; apply Fin.ext
    match a with
    | ⟨0, _⟩ => exact (Nat.mod_eq_of_lt hk).symm
    | ⟨1, _⟩ => exact (Nat.mod_eq_of_lt h1).symm

/-- The weight-gradient kernel and the reference's derivative end with equal results from equal arguments. -/
theorem algebraic : Cert.algebraic_GwIdeal_GwRefIdeal := by
  intro m ρ m' ρ' _ hagree
  refine ⟨fun c => Cert.GwIdeal.Value.G2 m c, Cert.GwIdeal.Value.run (F := Ideal) m ρ, ?_⟩
  refine (θ_run Cert.GwRefIdeal.defs _ _).mono (fun _ h c => ⟨(h c).1.trans ?_, (h c).2⟩) (Cert.GwRefIdeal.Value.run (F := Ideal) m' ρ')
  rw [(hagree c).1, (hagree c).2, val_main_v6_eq]
  funext i
  exact (ref_apply _ _ i).trans (GwIdeal.Prod.G2_apply m c i).symm

end Cert.GwClaim

end
-- ==== Proof.Reals.lean ====
/-
  Facts about the extended reals that the value claims use: the constants' values, a sum times a finite nonnegative
  factor, and the reciprocal root of a mean square.
-/
module

public import Idealize.ShloMosaic.Lib.IdealHost
public import Idealize.ShloMosaic.Lib.Pointwise

@[expose] public section

noncomputable section

open Idealize.ShloMosaic

namespace Cert.Reals

/-- The pattern `0x45000000` is 2048. -/
theorem bits_2048 : Ideal.ofBits .f32 0x45000000#32 = ((2048 : ℝ) : EReal) := by
  simp [Ideal.ofBits, Ideal.ieee, -EReal.coe_mul]; norm_num

/-- The pattern `0x3A000000` is 1/2048. -/
theorem bits_inv2048 : Ideal.ofBits .f32 0x3A000000#32 = ((1 / 2048 : ℝ) : EReal) := by
  simp [Ideal.ofBits, Ideal.ieee, -EReal.coe_mul]; norm_num

/-- The pattern `0xBF000000` is minus a half. -/
theorem bits_neg_half : Ideal.ofBits .f32 0xBF000000#32 = ((-(1 / 2) : ℝ) : EReal) := by
  simp [Ideal.ofBits, Ideal.ieee, -EReal.coe_mul, -EReal.coe_neg]; norm_num

/-- The norm's small constant is a positive real. -/
theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The pattern `0x39800000` is 1/4096, -/
theorem bits_inv4096 : Ideal.ofBits .f32 0x39800000#32 = ((1 / 4096 : ℝ) : EReal) := by
  simp [Ideal.ofBits, Ideal.ieee, -EReal.coe_mul]; norm_num

/-- `0x3F000000` a half, -/
theorem bits_half : Ideal.ofBits .f32 0x3F000000#32 = ((1 / 2 : ℝ) : EReal) := by
  simp [Ideal.ofBits, Ideal.ieee, -EReal.coe_mul]; norm_num

/-- and `0x40000000` two. -/
theorem bits_two : Ideal.ofBits .f32 0x40000000#32 = ((2 : ℝ) : EReal) := by
  simp [Ideal.ofBits, Ideal.ieee, -EReal.coe_mul]; norm_num

/-- The logistic function by the hyperbolic tangent of half the argument, at every extended real. -/
theorem tanh_logistic (x : EReal) :
    Ideal.ofBits .f32 0x3F000000#32 * Ideal.tanh (Ideal.ofBits .f32 0x3F000000#32 * x) + Ideal.ofBits .f32 0x3F000000#32 = Ideal.logistic x := by
  rw [bits_half]
  induction x with
  | bot =>
    rw [EReal.coe_mul_bot_of_pos (by norm_num), Ideal.logistic_bot]
    show ((1 / 2 : ℝ) : EReal) * ((-1 : ℝ) : EReal) + ((1 / 2 : ℝ) : EReal) = ((0 : ℝ) : EReal)
    rw [← EReal.coe_mul, ← EReal.coe_add]
    norm_num
  | top =>
    rw [EReal.coe_mul_top_of_pos (by norm_num), Ideal.logistic_top]
    show ((1 / 2 : ℝ) : EReal) * ((1 : ℝ) : EReal) + ((1 / 2 : ℝ) : EReal) = ((1 : ℝ) : EReal)
    rw [← EReal.coe_mul, ← EReal.coe_add]
    norm_num
  | coe x =>
    rw [← EReal.coe_mul, Ideal.logistic_coe]
    show ((1 / 2 : ℝ) : EReal) * ((Real.tanh (1 / 2 * x) : ℝ) : EReal) + ((1 / 2 : ℝ) : EReal) = _
    rw [← EReal.coe_mul, ← EReal.coe_add]
    congr 1
    have h1 : Real.exp (-x) = Real.exp (-(1 / 2 * x)) * Real.exp (-(1 / 2 * x)) := by rw [← Real.exp_add]; congr 1; ring
    have h2 : Real.exp (1 / 2 * x) * Real.exp (-(1 / 2 * x)) = 1 := by rw [← Real.exp_add, add_neg_cancel, Real.exp_zero]
    rw [Real.tanh_eq_sinh_div_cosh, Real.sinh_eq, Real.cosh_eq, h1]
    have hb := Real.exp_pos (-(1 / 2 * x))
    have ha := Real.exp_pos (1 / 2 * x)
    generalize Real.exp (-(1 / 2 * x)) = b at *
    generalize Real.exp (1 / 2 * x) = a at *
    have hn : a = b⁻¹ := eq_inv_of_mul_eq_one_left h2
    subst hn
    have : b ≠ 0 := hb.ne'
    field_simp
    ring

/-- A finite nonnegative factor goes into a sum. -/
theorem mul_sum {ι : Type*} (s : Finset ι) (f : ι → EReal) (a : ℝ) (ha : 0 ≤ a) :
    (a : EReal) * ∑ i ∈ s, f i = ∑ i ∈ s, (a : EReal) * f i := by
  classical
  induction s using Finset.induction_on with
  | empty => simp
  | insert x t hx ih =>
    rw [Finset.sum_insert hx, Finset.sum_insert hx, ← ih]
    exact EReal.left_distrib_of_nonneg_of_ne_top (EReal.coe_nonneg.mpr ha) (EReal.coe_ne_top a) _ _

theorem sum_mul {ι : Type*} (s : Finset ι) (f : ι → EReal) (a : ℝ) (ha : 0 ≤ a) :
    (∑ i ∈ s, f i) * (a : EReal) = ∑ i ∈ s, f i * (a : EReal) := by
  rw [mul_comm, mul_sum s f a ha]
  exact Finset.sum_congr rfl fun i _ => mul_comm _ _

/-- A square is not negative. -/
theorem sq_nonneg (x : EReal) : 0 ≤ x * x := by
  rcases le_total 0 x with h | h
  · exact mul_nonneg h h
  · rw [← neg_mul_neg]; exact mul_nonneg (EReal.neg_nonneg.mpr h) (EReal.neg_nonneg.mpr h)

/-- The reciprocal root of a mean square plus a positive constant is a finite nonnegative number, and divided by the same
    argument it is its own cube. -/
theorem rsqrt_mean (s : EReal) (hs : 0 ≤ s) :
    ∃ r : ℝ, 0 ≤ r ∧ Ideal.rsqrt (Ideal.div s (Ideal.ofBits .f32 0x45000000#32) + Ideal.ofBits .f32 0x358637BD#32) = (r : EReal)
      ∧ Ideal.div (r : EReal) (Ideal.div s (Ideal.ofBits .f32 0x45000000#32) + Ideal.ofBits .f32 0x358637BD#32) = ((r * r * r : ℝ) : EReal) := by
  obtain ⟨e, he, hb⟩ := bits_eps
  rw [hb, bits_2048, Ideal.div_coe (by norm_num)]
  induction s with
  | bot => exact absurd hs (by simp)
  | top =>
    rw [EReal.top_mul_coe_of_pos (by norm_num), EReal.top_add_coe]
    refine ⟨0, le_rfl, rfl, ?_⟩
    unfold Ideal.div
    rw [if_neg (by simp)]
    simp
  | coe x =>
    have hx : 0 ≤ x := EReal.coe_nonneg.mp hs
    have hp : 0 < x * (1 / 2048) + e := by positivity
    rw [← EReal.coe_mul, ← EReal.coe_add]
    refine ⟨(Real.sqrt (x * (1 / 2048) + e))⁻¹, by positivity, ?_, ?_⟩
    · show (if x * (1 / 2048) + e < 0 then ⊥ else if x * (1 / 2048) + e = 0 then ⊤ else _) = _
      rw [if_neg (not_lt.mpr hp.le), if_neg hp.ne']
    · rw [Ideal.div_coe hp.ne', ← EReal.coe_mul]
      congr 1
      have h2 := Real.mul_self_sqrt hp.le
      have h3 : Real.sqrt (x * (1 / 2048) + e) ≠ 0 := (Real.sqrt_pos.mpr hp).ne'
      generalize Real.sqrt (x * (1 / 2048) + e) = q at h2 h3
      rw [← h2]
      field_simp

/-- The norm's gradient: the factored form equals the sum of the three terms of the product rule. -/
theorem norm_grad (r : ℝ) (hr : 0 ≤ r) (o d s : EReal) :
    (r : EReal) * (d - o * r * (s * r * Ideal.ofBits .f32 0x3A000000#32))
      = d * r + o * Ideal.div (s * (Ideal.ofBits .f32 0xBF000000#32 * ((r * r * r : ℝ) : EReal))) (Ideal.ofBits .f32 0x45000000#32)
        + Ideal.div (s * (Ideal.ofBits .f32 0xBF000000#32 * ((r * r * r : ℝ) : EReal))) (Ideal.ofBits .f32 0x45000000#32) * o := by
  rw [bits_2048, bits_inv2048, bits_neg_half, Ideal.div_coe (by norm_num)]
  have hh : (0 : ℝ) ≤ r * r * r * (1 / 4096) := by positivity
  have e1 : o * (s * (((-(1 / 2) : ℝ) : EReal) * ((r * r * r : ℝ) : EReal)) * ((1 / 2048 : ℝ) : EReal)) = -(o * s * ((r * r * r * (1 / 4096) : ℝ) : EReal)) := by
    rw [← EReal.coe_mul, mul_assoc s, ← EReal.coe_mul, ← mul_assoc,
      show (-(1 / 2) * (r * r * r) * (1 / 2048) : ℝ) = -(r * r * r * (1 / 4096)) by ring, EReal.coe_neg, mul_neg]
  rw [mul_comm (s * _ * _) o, e1, add_assoc]
  have e2 : -(o * s * ((r * r * r * (1 / 4096) : ℝ) : EReal)) + -(o * s * ((r * r * r * (1 / 4096) : ℝ) : EReal)) = -(o * s * ((r * r * r * (1 / 2048) : ℝ) : EReal)) := by
    rw [show (r * r * r * (1 / 2048) : ℝ) = r * r * r * (1 / 4096) + r * r * r * (1 / 4096) by ring, EReal.coe_add,
      EReal.left_distrib_of_nonneg (EReal.coe_nonneg.mpr hh) (EReal.coe_nonneg.mpr hh), EReal.neg_add]
    · rfl
    · generalize o * s * ((r * r * r * (1 / 4096) : ℝ) : EReal) = z
      rcases eq_or_ne z ⊥ with h | h
      · right; rw [h]; exact bot_ne_top
      · left; exact h
    · generalize o * s * ((r * r * r * (1 / 4096) : ℝ) : EReal) = z
      rcases eq_or_ne z ⊤ with h | h
      · right; rw [h]; exact top_ne_bot
      · left; exact h
  rw [e2, sub_eq_add_neg, EReal.left_distrib_of_nonneg_of_ne_top (EReal.coe_nonneg.mpr hr) (EReal.coe_ne_top r), mul_comm (r : EReal) d, mul_neg]
  congr 2
  rw [EReal.coe_mul, EReal.coe_mul, EReal.coe_mul]
  ac_rfl

end Cert.Reals

end
-- ==== Proof.TailVoc.lean ====
/-
  One grid point of the gradient of the last stage, written as functions of the row group `q` and the column block `j`.

  A point handles 256 rows, in 16 groups of 16 rows, and 2048 columns, in 8 blocks of 256 columns. The definitions
  below name each quantity the body forms; what a point stores is then a list of blocks, one for each `q` and `j`.
-/
module

public import proofs.«01_k».proof.Proof.Gen.TailIdeal.Frame

@[expose] public section

set_option maxRecDepth 16384

noncomputable section

open Idealize.ShloMosaic Idealize.ShloMosaic.TcCoe Idealize.SL.Sem

namespace Cert.TailIdeal.Voc

open Cert.TailIdeal Cert.TailIdeal.Gen

variable {F : FTy → Type} [FloatOps F]

theorem inbT (q j : ℕ) : ∀ a, (![16 * (q % 16), 256 * (j % 8)] : Fin 2 → ℕ) a + S16x256.size a ≤ S256x2048.size a := fun a => by
  have := Nat.mod_lt q (show 0 < 16 by decide); have := Nat.mod_lt j (show 0 < 8 by decide)
  fin_cases a
  · show 16 * (q % 16) + 16 ≤ 256; omega
  · show 256 * (j % 8) + 256 ≤ 2048; omega

theorem inbR (q : ℕ) : ∀ a, (![16 * (q % 16), 0] : Fin 2 → ℕ) a + S16x2048.size a ≤ S256x2048.size a := fun a => by
  have := Nat.mod_lt q (show 0 < 16 by decide)
  fin_cases a
  · show 16 * (q % 16) + 16 ≤ 256; omega
  · show 0 + 2048 ≤ 2048; omega

theorem inbC (j : ℕ) : ∀ a, (![0, 256 * (j % 8)] : Fin 2 → ℕ) a + S256x256.size a ≤ S256x2048.size a := fun a => by
  have := Nat.mod_lt j (show 0 < 8 by decide)
  fin_cases a
  · show 0 + 256 ≤ 256; omega
  · show 256 * (j % 8) + 256 ≤ 2048; omega

theorem inbA (j : ℕ) : ∀ a, (![0, 256 * (j % 8)] : Fin 2 → ℕ) a + S8x256.size a ≤ S8x2048.size a := fun a => by
  have := Nat.mod_lt j (show 0 < 8 by decide)
  fin_cases a
  · show 0 + 8 ≤ 8; omega
  · show 256 * (j % 8) + 256 ≤ 2048; omega

theorem inbW (j : ℕ) : ∀ a, (![256 * (j % 8), 0] : Fin 2 → ℕ) a + S256x2048.size a ≤ S2048x2048.size a := fun a => by
  have := Nat.mod_lt j (show 0 < 8 by decide)
  fin_cases a
  · show 256 * (j % 8) + 256 ≤ 2048; omega
  · show 0 + 2048 ≤ 2048; omega

theorem slG (j : ℕ) : S1x2048.Slices ![0, 256 * (j % 8)] S1x256 :=
  ⟨rfl, fun a => by
    have := Nat.mod_lt j (show 0 < 8 by decide)
    fin_cases a
    · show 0 + 1 ≤ 1; omega
    · show 256 * (j % 8) + 256 ≤ 2048; omega⟩

/-- The block of row group `q` and column block `j`. -/
abbrev rT (q j : ℕ) : Rect S256x2048 := Rect.unit (s := S256x2048) ![16 * (q % 16), 256 * (j % 8)] S16x256.size (inbT q j)
/-- The rows of group `q`, all columns. -/
abbrev rR (q : ℕ) : Rect S256x2048 := Rect.unit (s := S256x2048) ![16 * (q % 16), 0] S16x2048.size (inbR q)
/-- Column block `j`, all rows. -/
abbrev rC (j : ℕ) : Rect S256x2048 := Rect.unit (s := S256x2048) ![0, 256 * (j % 8)] S256x256.size (inbC j)
/-- Column block `j` of the accumulator. -/
abbrev rA (j : ℕ) : Rect S8x2048 := Rect.unit (s := S8x2048) ![0, 256 * (j % 8)] S8x256.size (inbA j)
/-- Rows `256 j` to `256 j + 255` of a weight. -/
abbrev rW (j : ℕ) : Rect S2048x2048 := Rect.unit (s := S2048x2048) ![256 * (j % 8), 0] S256x2048.size (inbW j)

/-- What a point reads: blocks of the residual's gradient and of `o`, row groups of `o`, the gate's gradient, blocks of
    rows of the gate's weight, the scale, and the block of the accumulator given the blocks stored before. -/
structure Ld (F : FTy → Type) where
  d2 : ℕ → ℕ → Vec F S16x256 .f32
  ob : ℕ → ℕ → Vec F S16x256 .bf16
  obr : ℕ → Vec F S16x2048 .bf16
  gl : Vec F S256x2048 .bf16
  w : ℕ → Vec F S256x2048 .bf16
  g : Vec F S1x2048 .f32
  a0 : List (View.Piece (Elt F) S8x2048 .f32) → ℕ → Vec F S8x256 .f32
  t0 : List (View.Piece (Elt F) S256x2048 .f32) → ℕ → ℕ → Vec F S16x256 .f32
  h0 : List (View.Piece (Elt F) S256x2048 .f32) → ℕ → Vec F S16x2048 .f32

variable (c : Ld F)

/-- The scale as the body uses it. -/
def gg : FVec F S1x2048 .f32 := shapeCast S1x2048 c.g shapeCasts_S1x2048_S1x2048

/-- A row group of `o`, widened. -/
def orow (q : ℕ) : FVec F S16x2048 .f32 := extf .f32 (shapeCast S16x2048 (c.obr q) shapeCasts_S16x2048_S16x2048) bitsLt_bf16_f32

/-- The reciprocal root of a row's mean square, for the rows of group `q`. -/
def rr (q : ℕ) : FVec F S16x1 .f32 :=
  rsqrt (addf (divf (shapeCast S16x1 (multiReduction .add [1] S16 (mulf (orow c q) (orow c q)) 0x00000000#32 reduces_S16x2048_S16 (.inl rfl) rfl) shapeCasts_S16_S16x1)
    (broadcast S16x1 (Scalar.ofBits .f32 0x45000000#32))) (broadcast S16x1 (Scalar.ofBits .f32 0x358637BD#32)))

/-- A block of the gate's product: the gate's gradient against 256 rows of the gate's weight. -/
def tv (j : ℕ) : FVec F S256x256 .f32 :=
  shapeCast S256x256 (matmul dot_S256x2048_S256x2048_S256x256_1_1_0_0_n_n none c.gl (c.w j) (constant S256x256 .f32 0x00000000#32)) shapeCasts_S256x256_S256x256

/-- The first `n` of those blocks as stored, the last store first. -/
def tl (n : ℕ) : List (View.Piece (Elt F) S256x2048 .f32) :=
  Nat.rec [] (fun j L => ⟨rC j, tv c j⟩ :: L) n

/-- The gradient that reaches the residual. -/
def dh (q j : ℕ) : FVec F S16x256 .f32 := addf (c.d2 q j) (c.t0 (tl c (j + 1)) q j)

/-- The normalised value. -/
def on (q j : ℕ) : FVec F S16x256 .f32 :=
  mulf (extf .f32 (shapeCast S16x256 (c.ob q j) shapeCasts_S16x256_S16x256) bitsLt_bf16_f32) (broadcastTo S16x256 (rr c q) broadcasts_S16x1_S16x256)

/-- The product whose row sum is the mean the norm's gradient subtracts. -/
def pr (q j : ℕ) : FVec F S16x256 .f32 :=
  mulf (mulf (dh c q j) (broadcastTo S16x256 (extractStridedSlice S1x256 ![0, 256 * (j % 8)] (gg c) (slG j)) broadcasts_S1x256_S16x256)) (on c q j)

/-- Its sum over the first `n` column blocks, folded onto 128 columns. -/
def part (q n : ℕ) : FVec F S16x128 .f32 :=
  Nat.rec (broadcast S16x128 (Scalar.ofBits .f32 0x00000000#32))
    (fun j p => addf (addf p (extractStridedSlice S16x128 ![0, 0] (pr c q j) slices_S16x256_o0_0_S16x128))
      (extractStridedSlice S16x128 ![0, 128] (pr c q j) slices_S16x256_o0_128_S16x128)) n

/-- A row group's contribution to the scale's gradient, folded onto 8 rows. -/
def fold (q j : ℕ) : FVec F S8x256 .f32 :=
  addf (extractStridedSlice S8x256 ![0, 0] (mulf (dh c q j) (on c q j)) slices_S16x256_o0_0_S8x256)
    (extractStridedSlice S8x256 ![8, 0] (mulf (dh c q j) (on c q j)) slices_S16x256_o8_0_S8x256)

/-- The accumulator's block after the first `n` row groups. -/
def acc (x : FVec F S8x256 .f32) (j n : ℕ) : FVec F S8x256 .f32 := Nat.rec x (fun q a => addf a (fold c q j)) n

/-- The first `n` blocks of the accumulator as stored over `base`. -/
def sl (base : List (View.Piece (Elt F) S8x2048 .f32)) (n : ℕ) : List (View.Piece (Elt F) S8x2048 .f32) :=
  Nat.rec base (fun j L => ⟨rA j, shapeCast S8x256 (acc c (c.a0 L j) j 16) shapeCasts_S8x256_S8x256⟩ :: L) n

/-- The first `n` blocks of the residual's gradient as stored: column block by column block, in each the row groups. -/
def l4 (n : ℕ) : List (View.Piece (Elt F) S256x2048 .f32) :=
  Nat.rec [] (fun k L => ⟨rT (k % 16) (k / 16), dh c (k % 16) (k / 16)⟩ :: L) n

/-- The mean the norm's gradient subtracts. -/
def mm (q : ℕ) : FVec F S16x1 .f32 :=
  mulf (shapeCast S16x1 (multiReduction .add [1] S16 (part c q 8) 0x00000000#32 reduces_S16x128_S16 (.inl rfl) rfl) shapeCasts_S16_S16x1)
    (broadcast S16x1 (Scalar.ofBits .f32 0x3A000000#32))

/-- The gradient of `o` in a row group. -/
def dov (q : ℕ) : FVec F S16x2048 .bf16 :=
  truncf .bf16 (mulf (broadcastTo S16x2048 (rr c q) broadcasts_S16x1_S16x2048)
    (subf (mulf (shapeCast S16x2048 (c.h0 (l4 c 128) q) shapeCasts_S16x2048_S16x2048) (broadcastTo S16x2048 (gg c) broadcasts_S1x2048_S16x2048))
      (mulf (mulf (orow c q) (broadcastTo S16x2048 (rr c q) broadcasts_S16x1_S16x2048)) (broadcastTo S16x2048 (mm c q) broadcasts_S16x1_S16x2048)))) bitsLt_bf16_f32

/-- The first `n` row groups of the gradient of `o` as stored. -/
def l5 (n : ℕ) : List (View.Piece (Elt F) S256x2048 .bf16) :=
  Nat.rec [] (fun q L => ⟨rR q, dov c q⟩ :: L) n

end Cert.TailIdeal.Voc

end
-- ==== Proof.TailFun.lean ====
/-
  The gradient of the last stage as functions of rows and columns, over the extended reals.

  With `o` the projected value, `g` the scale of its norm and `d2`, `gl` the gradients of the residual and of the gate's
  product, these are the gradients the kernel stores, in the kernel's own grouping of factors.
-/
module

public import Idealize.ShloMosaic.Lib.IdealHost
public import proofs.«01_k».proof.Proof.Sums

@[expose] public section

noncomputable section

open Idealize.ShloMosaic

namespace Cert.TailFun

/-- The arguments at a row and a column. -/
structure Arrs where
  d2 : ℕ → ℕ → EReal
  gl : ℕ → ℕ → EReal
  ob : ℕ → ℕ → EReal
  w : ℕ → ℕ → EReal
  wo : ℕ → ℕ → EReal
  g : ℕ → EReal

variable (A : Arrs)

/-- The gradient that reaches the residual. -/
def dh (r k : ℕ) : EReal := A.d2 r k + ∑ l ∈ Finset.range 2048, A.gl r l * A.w k l

/-- The reciprocal root of a row's mean square. -/
def rr (r : ℕ) : EReal :=
  Ideal.rsqrt (Ideal.div (∑ k ∈ Finset.range 2048, A.ob r k * A.ob r k) (Ideal.ofBits .f32 0x45000000#32)
    + Ideal.ofBits .f32 0x358637BD#32)

/-- The normalised value. -/
def on (r k : ℕ) : EReal := A.ob r k * rr A r

/-- The product whose mean the norm's gradient subtracts, -/
def pr (r k : ℕ) : EReal := dh A r k * A.g k * on A r k

/-- and that mean. -/
def mm (r : ℕ) : EReal := (∑ k ∈ Finset.range 2048, pr A r k) * Ideal.ofBits .f32 0x3A000000#32

/-- The gradient of `o`. -/
def dov (r k : ℕ) : EReal := rr A r * (dh A r k * A.g k - on A r k * mm A r)

/-- The gradient of the projection's input. -/
def dy (r i : ℕ) : EReal := ∑ k ∈ Finset.range 2048, dov A r k * A.wo i k

/-- The gradient of the scale. -/
def dg (k : ℕ) : EReal := ∑ r ∈ Finset.range 8192, dh A r k * on A r k

end Cert.TailFun

end
-- ==== Proof.TailPoint.lean ====
/-
  What one grid point of the gradient of the last stage stores, over the extended reals.

  If the loads of a point whose rows start at `b` read the arguments there (`Reads`), then each quantity of the point is
  the function of `TailFun` at the row `b + …` and the column it stands for.
-/
module

public import proofs.«01_k».proof.Proof.TailVoc
public import proofs.«01_k».proof.Proof.TailFun
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.TailIdeal.Voc

open Cert.TailIdeal Cert.TailIdeal.Gen Cert.TailFun

/-- The loads of a point whose rows start at `b` read the arguments `A`; a load of a buffer just written reads the
    function that all the blocks stored there restrict. -/
structure Reads (c : Ld Ideal) (A : Arrs) (b : ℕ) : Prop where
  d2 : ∀ q j x, c.d2 q j x = A.d2 (b + (16 * (q % 16) + (x 0).val)) (256 * (j % 8) + (x 1).val)
  ob : ∀ q j x, c.ob q j x = A.ob (b + (16 * (q % 16) + (x 0).val)) (256 * (j % 8) + (x 1).val)
  obr : ∀ q x, c.obr q x = A.ob (b + (16 * (q % 16) + (x 0).val)) (x 1).val
  gl : ∀ x, c.gl x = A.gl (b + (x 0).val) (x 1).val
  w : ∀ j x, c.w j x = A.w (256 * (j % 8) + (x 0).val) (x 1).val
  g : ∀ x, c.g x = A.g (x 1).val
  t0 : ∀ (T : S256x2048.Idx → EReal) (L : List (View.Piece (Elt Ideal) S256x2048 .f32)),
    (∀ p ∈ L, ∀ x, p.2 x = T (p.1.emb x)) → ∀ q j x, (∃ p ∈ L, (rT q j).emb x ∈ p.1.set) → c.t0 L q j x = T ((rT q j).emb x)
  h0 : ∀ (T : S256x2048.Idx → EReal) (L : List (View.Piece (Elt Ideal) S256x2048 .f32)),
    (∀ p ∈ L, ∀ x, p.2 x = T (p.1.emb x)) → ∀ q x, (∃ p ∈ L, (rR q).emb x ∈ p.1.set) → c.h0 L q x = T ((rR q).emb x)

variable {c : Ld Ideal} {A : Arrs} {b : ℕ} (h : Reads c A b)
include h

theorem rr_apply (q : ℕ) (x : S16x1.Idx) : rr c q x = TailFun.rr A (b + (16 * (q % 16) + (x 0).val)) := by
  pointwise [rr, orow]
  unfold TailFun.rr
  rw [Finset.sum_range]
  simp only [h.obr]
  rfl

theorem tv_apply (j : ℕ) (x : S256x256.Idx) :
    tv c j x = ∑ l ∈ Finset.range 2048, A.gl (b + (x 0).val) l * A.w (256 * (j % 8) + (x 1).val) l := by
  pointwise [tv]
  rw [Finset.sum_range]
  simp only [h.gl, h.w]
  rfl

/-- The gate's product over a point's block. -/
def tF (A : Arrs) (b : ℕ) (y : S256x2048.Idx) : EReal := ∑ l ∈ Finset.range 2048, A.gl (b + (y 0).val) l * A.w (y 1).val l

theorem tl_pieces (n : ℕ) : ∀ p ∈ tl c n, ∀ x, p.2 x = tF A b (p.1.emb x) := by
  induction n with
  | zero => intro p hp; exact absurd hp List.not_mem_nil
  | succ j ih =>
    intro p hp x
    rcases List.mem_cons.mp hp with rfl | hp
    · refine (tv_apply h j x).trans ?_
      show _ = ∑ l ∈ Finset.range 2048, A.gl (b + (0 + 1 * (x 0).val)) l * A.w (256 * (j % 8) + 1 * (x 1).val) l
      rw [Nat.one_mul, Nat.one_mul, Nat.zero_add]
    · exact ih p hp x

theorem dh_apply (q j : ℕ) (x : S16x256.Idx) :
    dh c q j x = TailFun.dh A (b + (16 * (q % 16) + (x 0).val)) (256 * (j % 8) + (x 1).val) := by
  have h0 : (x 0).val < 16 := (x 0).isLt
  have h1 : (x 1).val < 256 := (x 1).isLt
  have hq := Nat.mod_lt q (show 0 < 16 by decide)
  show c.d2 q j x + c.t0 (tl c (j + 1)) q j x = _
  rw [h.d2, h.t0 (tF A b) _ (tl_pieces h (j + 1)) q j x ⟨_, List.mem_cons_self, ?_⟩]
  · show _ + ∑ l ∈ Finset.range 2048, A.gl (b + (16 * (q % 16) + 1 * (x 0).val)) l * A.w (256 * (j % 8) + 1 * (x 1).val) l = _
    rw [Nat.one_mul, Nat.one_mul]
    rfl
  · refine (LoadRect.mem_set _).mpr fun a => ?_
    match a with
    | ⟨0, _⟩ => exact ⟨16 * (q % 16) + (x 0).val, by show _ < 256; omega, by show 16 * (q % 16) + 1 * (x 0).val = 0 + 1 * _; omega⟩
    | ⟨1, _⟩ => exact ⟨(x 1).val, h1, rfl⟩

theorem on_apply (q j : ℕ) (x : S16x256.Idx) :
    on c q j x = TailFun.on A (b + (16 * (q % 16) + (x 0).val)) (256 * (j % 8) + (x 1).val) := by
  pointwise [on]
  rw [h.ob, rr_apply h]
  rfl

theorem pr_apply (q j : ℕ) (x : S16x256.Idx) :
    pr c q j x = TailFun.pr A (b + (16 * (q % 16) + (x 0).val)) (256 * (j % 8) + (x 1).val) := by
  pointwise [pr, gg]
  rw [dh_apply h, on_apply h, h.g]
  rfl

theorem part_apply (q n : ℕ) (hn : n ≤ 8) (x : S16x128.Idx) :
    part c q n x = ∑ j ∈ Finset.range n, (TailFun.pr A (b + (16 * (q % 16) + (x 0).val)) (256 * j + (x 1).val)
      + TailFun.pr A (b + (16 * (q % 16) + (x 0).val)) (256 * j + (128 + (x 1).val))) := by
  induction n with
  | zero => exact Ideal.ofBits_zero_f32
  | succ j ih =>
    rw [Finset.sum_range_succ, ← ih (by omega), ← add_assoc]
    have e : j % 8 = j := Nat.mod_eq_of_lt (by omega)
    show addf (addf (part c q j) (extractStridedSlice S16x128 ![0, 0] (pr c q j) slices_S16x256_o0_0_S16x128))
      (extractStridedSlice S16x128 ![0, 128] (pr c q j) slices_S16x256_o0_128_S16x128) x = _
    pointwise []
    rw [pr_apply h, pr_apply h, e]
    rfl

theorem fold_apply (q j : ℕ) (x : S8x256.Idx) :
    fold c q j x = TailFun.dh A (b + (16 * (q % 16) + (x 0).val)) (256 * (j % 8) + (x 1).val)
        * TailFun.on A (b + (16 * (q % 16) + (x 0).val)) (256 * (j % 8) + (x 1).val)
      + TailFun.dh A (b + (16 * (q % 16) + (8 + (x 0).val))) (256 * (j % 8) + (x 1).val)
        * TailFun.on A (b + (16 * (q % 16) + (8 + (x 0).val))) (256 * (j % 8) + (x 1).val) := by
  pointwise [fold]
  rw [dh_apply h, on_apply h, dh_apply h, on_apply h]
  rfl

theorem acc_apply (a : FVec Ideal S8x256 .f32) (j n : ℕ) (hn : n ≤ 16) (x : S8x256.Idx) :
    acc c a j n x = a x + ∑ q ∈ Finset.range n,
      (TailFun.dh A (b + (16 * q + (x 0).val)) (256 * (j % 8) + (x 1).val) * TailFun.on A (b + (16 * q + (x 0).val)) (256 * (j % 8) + (x 1).val)
      + TailFun.dh A (b + (16 * q + (8 + (x 0).val))) (256 * (j % 8) + (x 1).val) * TailFun.on A (b + (16 * q + (8 + (x 0).val))) (256 * (j % 8) + (x 1).val)) := by
  induction n with
  | zero => rw [Finset.range_zero, Finset.sum_empty, add_zero]; rfl
  | succ q ih =>
    have e : q % 16 = q := Nat.mod_eq_of_lt (by omega)
    rw [Finset.sum_range_succ, ← add_assoc, ← ih (by omega)]
    show acc c a j q x + fold c q j x = _
    rw [fold_apply h, e]

/-- The residual's gradient over a point's block. -/
def dhF (A : Arrs) (b : ℕ) (y : S256x2048.Idx) : EReal := TailFun.dh A (b + (y 0).val) (y 1).val

theorem l4_pieces (n : ℕ) : ∀ p ∈ l4 c n, ∀ x, p.2 x = dhF A b (p.1.emb x) := by
  induction n with
  | zero => intro p hp; exact absurd hp List.not_mem_nil
  | succ k ih =>
    intro p hp x
    rcases List.mem_cons.mp hp with rfl | hp
    · refine (dh_apply h (k % 16) (k / 16) x).trans ?_
      show _ = TailFun.dh A (b + (16 * (k % 16 % 16) + 1 * (x 0).val)) (256 * (k / 16 % 8) + 1 * (x 1).val)
      rw [Nat.one_mul, Nat.one_mul]
    · exact ih p hp x

omit h in
theorem l4_mem (n k : ℕ) (hk : k < n) : (⟨rT (k % 16) (k / 16), dh c (k % 16) (k / 16)⟩ : View.Piece (Elt Ideal) S256x2048 .f32) ∈ l4 c n := by
  induction n with
  | zero => omega
  | succ n ih =>
    rcases Nat.lt_or_ge k n with hk' | hk'
    · exact List.mem_cons_of_mem _ (ih hk')
    · obtain rfl : k = n := by omega
      exact List.mem_cons_self

omit h in
theorem l4_cover (y : S256x2048.Idx) : ∃ p ∈ l4 c 128, y ∈ p.1.set := by
  have h0 : (y 0).val < 256 := (y 0).isLt
  have h1 : (y 1).val < 2048 := (y 1).isLt
  refine ⟨_, l4_mem (c := c) 128 (16 * ((y 1).val / 256) + (y 0).val / 16) (by omega), (LoadRect.mem_set _).mpr fun a => ?_⟩
  match a with
  | ⟨0, _⟩ =>
    refine ⟨(y 0).val % 16, Nat.mod_lt _ (by decide), ?_⟩
    show (y 0).val = 16 * ((16 * ((y 1).val / 256) + (y 0).val / 16) % 16 % 16) + 1 * ((y 0).val % 16)
    omega
  | ⟨1, _⟩ =>
    refine ⟨(y 1).val % 256, Nat.mod_lt _ (by decide), ?_⟩
    show (y 1).val = 256 * ((16 * ((y 1).val / 256) + (y 0).val / 16) / 16 % 8) + 1 * ((y 1).val % 256)
    omega

/-- The stored residual gradients read back, whatever the buffer. -/
theorem l4_read {sig' : RefSig} {κ : Kind} {sp : Space} (v : View sig' κ sp S256x2048 .f32) (f : v.ty.Contents (Elt Ideal)) (y : S256x2048.Idx) :
    v.read (Elt Ideal) (v.writes (Elt Ideal) f (l4 c 128)) y = dhF A b y :=
  View.read_writes_apply_of_pieces v f _ (l4 c 128) (l4_pieces h 128) y (l4_cover y)

theorem mm_apply (q : ℕ) (x : S16x1.Idx) : mm c q x = TailFun.mm A (b + (16 * (q % 16) + (x 0).val)) := by
  pointwise [mm]
  unfold TailFun.mm
  refine congrArg (· * _) ?_
  rw [show (2048 : ℕ) = 8 * 256 from rfl, ← Sums.range_lanes 128 256 rfl (fun k => TailFun.pr A (b + (16 * (q % 16) + (x 0).val)) k) 8, Finset.sum_range]
  refine Finset.sum_congr rfl fun l _ => ?_
  rw [part_apply h q 8 le_rfl]
  rfl

theorem dov_apply (q : ℕ) (x : S16x2048.Idx) :
    dov c q x = TailFun.dov A (b + (16 * (q % 16) + (x 0).val)) (x 1).val := by
  pointwise [dov, orow, gg]
  rw [rr_apply h, mm_apply h, h.obr, h.g, h.h0 (dhF A b) _ (l4_pieces h 128) q x (l4_cover _)]
  have e : dhF A b ((rR q).emb x) = TailFun.dh A (b + (16 * (q % 16) + (x 0).val)) (x 1).val := by
    show TailFun.dh A (b + (16 * (q % 16) + 1 * (x 0).val)) (0 + 1 * (x 1).val) = _
    rw [Nat.one_mul, Nat.one_mul, Nat.zero_add]
  rw [e]
  rfl

/-- The gradient of `o` over a point's block. -/
def doF (A : Arrs) (b : ℕ) (y : S256x2048.Idx) : EReal := TailFun.dov A (b + (y 0).val) (y 1).val

theorem l5_pieces (n : ℕ) : ∀ p ∈ l5 c n, ∀ x, p.2 x = doF A b (p.1.emb x) := by
  induction n with
  | zero => intro p hp; exact absurd hp List.not_mem_nil
  | succ q ih =>
    intro p hp x
    rcases List.mem_cons.mp hp with rfl | hp
    · refine (dov_apply h q x).trans ?_
      show _ = TailFun.dov A (b + (16 * (q % 16) + 1 * (x 0).val)) (0 + 1 * (x 1).val)
      rw [Nat.one_mul, Nat.one_mul, Nat.zero_add]
    · exact ih p hp x

omit h in
theorem l5_mem (n q : ℕ) (hq : q < n) : (⟨rR q, dov c q⟩ : View.Piece (Elt Ideal) S256x2048 .bf16) ∈ l5 c n := by
  induction n with
  | zero => omega
  | succ n ih =>
    rcases Nat.lt_or_ge q n with hq' | hq'
    · exact List.mem_cons_of_mem _ (ih hq')
    · obtain rfl : q = n := by omega
      exact List.mem_cons_self

omit h in
theorem l5_cover (y : S256x2048.Idx) : ∃ p ∈ l5 c 16, y ∈ p.1.set := by
  have h0 : (y 0).val < 256 := (y 0).isLt
  refine ⟨_, l5_mem (c := c) 16 ((y 0).val / 16) (by omega), (LoadRect.mem_set _).mpr fun a => ?_⟩
  match a with
  | ⟨0, _⟩ =>
    refine ⟨(y 0).val % 16, Nat.mod_lt _ (by decide), ?_⟩
    show (y 0).val = 16 * ((y 0).val / 16 % 16) + 1 * ((y 0).val % 16)
    omega
  | ⟨1, _⟩ => exact ⟨(y 1).val, (y 1).isLt, by show (y 1).val = 0 + 1 * (y 1).val; omega⟩

/-- The stored gradients of `o` read back, whatever the buffer. -/
theorem l5_read {sig' : RefSig} {κ : Kind} {sp : Space} (v : View sig' κ sp S256x2048 .bf16) (f : v.ty.Contents (Elt Ideal)) (y : S256x2048.Idx) :
    v.read (Elt Ideal) (v.writes (Elt Ideal) f (l5 c 16)) y = doF A b y :=
  View.read_writes_apply_of_pieces v f _ (l5 c 16) (l5_pieces h 16) y (l5_cover y)

/-- The accumulator's contribution of a point, at row `s` and column `k`. -/
def accAdd (A : Arrs) (b s k : ℕ) : EReal :=
  ∑ q ∈ Finset.range 16, (TailFun.dh A (b + (16 * q + s)) k * TailFun.on A (b + (16 * q + s)) k
    + TailFun.dh A (b + (16 * q + (8 + s))) k * TailFun.on A (b + (16 * q + (8 + s))) k)

omit h in
/-- Past the blocks stored so far the accumulator is what it was. -/
theorem sl_skip {sig' : RefSig} {κ : Kind} {sp : Space} (v : View sig' κ sp S8x2048 .f32) (f : v.ty.Contents (Elt Ideal))
    (base : List (View.Piece (Elt Ideal) S8x2048 .f32)) (n : ℕ) (hn : n ≤ 8) (y : S8x2048.Idx) (hy : 256 * n ≤ (y 1).val) :
    v.read (Elt Ideal) (v.writes (Elt Ideal) f (sl c base n)) y = v.read (Elt Ideal) (v.writes (Elt Ideal) f base) y := by
  induction n with
  | zero => rfl
  | succ j ih =>
    rw [← ih (by omega) (by omega)]
    refine View.read_writes_cons_unit_of_not_mem (v := v) (f := f) _ _ _ y rfl (1 : Fin 2) (Or.inr ?_)
    show 256 * (j % 8) + 256 ≤ (y 1).val
    rw [Nat.mod_eq_of_lt (show j < 8 by omega)]; omega

/-- Where blocks were stored it is what was loaded plus the point's contribution. -/
theorem sl_read {sig' : RefSig} {κ : Kind} {sp : Space} (v : View sig' κ sp S8x2048 .f32) (f : v.ty.Contents (Elt Ideal))
    (base : List (View.Piece (Elt Ideal) S8x2048 .f32)) (X : S8x2048.Idx → EReal)
    (hX : ∀ j, j < 8 → ∀ x, c.a0 (sl c base j) j x = X ((rA j).emb x)) (n : ℕ) (hn : n ≤ 8) (y : S8x2048.Idx) (hy : (y 1).val < 256 * n) :
    v.read (Elt Ideal) (v.writes (Elt Ideal) f (sl c base n)) y = X y + accAdd A b (y 0).val (y 1).val := by
  induction n with
  | zero => omega
  | succ j ih =>
    have ej : j % 8 = j := Nat.mod_eq_of_lt (show j < 8 by omega)
    rcases Nat.lt_or_ge (y 1).val (256 * j) with hj | hj
    · rw [← ih (by omega) hj]
      refine View.read_writes_cons_unit_of_not_mem (v := v) (f := f) _ _ _ y rfl (1 : Fin 2) (Or.inl ?_)
      show (y 1).val < 256 * (j % 8)
      rw [ej]; exact hj
    · have h0 : (y 0).val < 8 := (y 0).isLt
      have e1 : 256 * j + ((y 1).val - 256 * j) = (y 1).val := by omega
      refine (View.read_writes_cons_unit_of_mem (v := v) (f := f) _ _ _ y
        (ix2 (⟨(y 0).val, h0⟩ : Fin 8) (⟨(y 1).val - 256 * j, by omega⟩ : Fin 256)) rfl ?_).trans ?_
      · intro a
        match a with
        | ⟨0, _⟩ => show (y 0).val = 0 + (y 0).val; omega
        | ⟨1, _⟩ => show (y 1).val = 256 * (j % 8) + ((y 1).val - 256 * j); omega
      · rw [shapeCast_self]
        refine (acc_apply h _ j 16 le_rfl _).trans (congrArg₂ (· + ·) ((hX j (by omega) _).trans (congrArg X (funext fun a => Fin.ext ?_))) ?_)
        · match a with
          | ⟨0, _⟩ => show 0 + 1 * (y 0).val = (y 0).val; omega
          | ⟨1, _⟩ => show 256 * (j % 8) + 1 * ((y 1).val - 256 * j) = (y 1).val; omega
        · show ∑ q ∈ Finset.range 16,
            (TailFun.dh A (b + (16 * q + (y 0).val)) (256 * (j % 8) + ((y 1).val - 256 * j)) * TailFun.on A (b + (16 * q + (y 0).val)) (256 * (j % 8) + ((y 1).val - 256 * j))
            + TailFun.dh A (b + (16 * q + (8 + (y 0).val))) (256 * (j % 8) + ((y 1).val - 256 * j)) * TailFun.on A (b + (16 * q + (8 + (y 0).val))) (256 * (j % 8) + ((y 1).val - 256 * j))) = _
          rw [ej, e1]
          rfl

end Cert.TailIdeal.Voc

end
-- ==== Proof.TailBridge.lean ====
/-
  What a grid point of the last stage's gradient stores: the generated store lists are the lists of `TailVoc`, so that
  each result's block and the accumulator hold the functions of `TailFun`.

  The launch has three kinds of points. The first copies the two weights in and starts the accumulator from zero; the
  middle ones carry all three; the last also stores the scale's gradient.
-/
module

public import proofs.«01_k».proof.Proof.TailPoint
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.TailIdeal.Voc

open Cert.TailIdeal Cert.TailIdeal.Gen Cert.TailFun

/-- The whole of a block, an accumulator, a weight, a row. -/
abbrev rB : Rect S256x2048 := Rect.unit (s := S256x2048) ![0, 0] S256x2048.size inb_S256x2048_S256x2048_0_0
abbrev r8 : Rect S8x2048 := Rect.unit (s := S8x2048) ![0, 0] S8x2048.size inb_S8x2048_S8x2048_0_0
abbrev rM : Rect S2048x2048 := Rect.unit (s := S2048x2048) ![0, 0] S2048x2048.size inb_S2048x2048_S2048x2048_0_0
abbrev r1 : Rect S1x2048 := Rect.unit (s := S1x2048) ![0, 0] S1x2048.size inb_S1x2048_S1x2048_0_0

section Loads
variable {F : FTy → Type} [FloatOps F]

/-- The loads of a point that holds the arguments' blocks, a weight's block of rows `w` and the accumulator `a0`. -/
def ldOf (arg1 : Memref sig .tc .vmem S256x2048 .f32) (harg1 : arg1.IsWhole) (arg2 : Memref sig .tc .vmem S256x2048 .bf16) (harg2 : arg2.IsWhole)
    (arg3 : Memref sig .tc .vmem S256x2048 .bf16) (harg3 : arg3.IsWhole) (arg6 : Memref sig .tc .vmem S1x2048 .f32) (harg6 : arg6.IsWhole)
    (arg7 : Memref sig .tc .vmem S256x2048 .f32) (arg13 : Memref sig .tc .vmem S256x2048 .f32)
    (x0 : Vec F S256x2048 .f32) (x1 : Vec F S256x2048 .bf16) (x2 : Vec F S256x2048 .bf16) (x3 : Vec F S1x2048 .f32)
    (w : ℕ → Vec F S256x2048 .bf16) (a0 : List (View.Piece (Elt F) S8x2048 .f32) → ℕ → Vec F S8x256 .f32) : Ld F where
  d2 q j := View.readAt (Elt F) arg1.view (rT q j).toLoadRect (harg1.unread x0)
  ob q j := View.readAt (Elt F) arg3.view (rT q j).toLoadRect (harg3.unread x2)
  obr q := View.readAt (Elt F) arg3.view (rR q).toLoadRect (harg3.unread x2)
  gl := View.readAt (Elt F) arg2.view rB.toLoadRect (harg2.unread x1)
  w := w
  g := View.readAt (Elt F) arg6.view r1.toLoadRect (harg6.unread x3)
  a0 := a0
  t0 L q j := arg13.view.readCov L (rT q j).toLoadRect
  h0 L q := arg7.view.readCov L (rR q).toLoadRect

end Loads

/-- The blocks a point is handed are the rows of the arguments that start at `b`. -/
structure Blk (A : Arrs) (b : ℕ) (x0 : Vec Ideal S256x2048 .f32) (x1 x2 : Vec Ideal S256x2048 .bf16) (x3 : Vec Ideal S1x2048 .f32) : Prop where
  h0 : ∀ y, x0 y = A.d2 (b + (y 0).val) (y 1).val
  h1 : ∀ y, x1 y = A.gl (b + (y 0).val) (y 1).val
  h2 : ∀ y, x2 y = A.ob (b + (y 0).val) (y 1).val
  h3 : ∀ y, x3 y = A.g (y 1).val

theorem reads_of {A : Arrs} {b : ℕ} (arg1 : Memref sig .tc .vmem S256x2048 .f32) (harg1 : arg1.IsWhole) (arg2 : Memref sig .tc .vmem S256x2048 .bf16) (harg2 : arg2.IsWhole)
    (arg3 : Memref sig .tc .vmem S256x2048 .bf16) (harg3 : arg3.IsWhole) (arg6 : Memref sig .tc .vmem S1x2048 .f32) (harg6 : arg6.IsWhole)
    (arg7 : Memref sig .tc .vmem S256x2048 .f32) (arg13 : Memref sig .tc .vmem S256x2048 .f32)
    {x0 : Vec Ideal S256x2048 .f32} {x1 x2 : Vec Ideal S256x2048 .bf16} {x3 : Vec Ideal S1x2048 .f32} (hb : Blk A b x0 x1 x2 x3)
    (w : ℕ → Vec Ideal S256x2048 .bf16) (hw : ∀ j x, w j x = A.w (256 * (j % 8) + (x 0).val) (x 1).val)
    (a0 : List (View.Piece (Elt Ideal) S8x2048 .f32) → ℕ → Vec Ideal S8x256 .f32) :
    Reads (ldOf arg1 harg1 arg2 harg2 arg3 harg3 arg6 harg6 arg7 arg13 x0 x1 x2 x3 w a0) A b where
  d2 q j x := by
    show View.readAt (Elt Ideal) arg1.view (rT q j).toLoadRect (harg1.unread x0) x = _
    rw [Memref.IsWhole.readAt_unread, hb.h0]
    show A.d2 (b + (16 * (q % 16) + 1 * (x 0).val)) (256 * (j % 8) + 1 * (x 1).val) = _
    rw [Nat.one_mul, Nat.one_mul]
  ob q j x := by
    show View.readAt (Elt Ideal) arg3.view (rT q j).toLoadRect (harg3.unread x2) x = _
    rw [Memref.IsWhole.readAt_unread, hb.h2]
    show A.ob (b + (16 * (q % 16) + 1 * (x 0).val)) (256 * (j % 8) + 1 * (x 1).val) = _
    rw [Nat.one_mul, Nat.one_mul]
  obr q x := by
    show View.readAt (Elt Ideal) arg3.view (rR q).toLoadRect (harg3.unread x2) x = _
    rw [Memref.IsWhole.readAt_unread, hb.h2]
    show A.ob (b + (16 * (q % 16) + 1 * (x 0).val)) (0 + 1 * (x 1).val) = _
    rw [Nat.one_mul, Nat.one_mul, Nat.zero_add]
  gl x := by
    show View.readAt (Elt Ideal) arg2.view rB.toLoadRect (harg2.unread x1) x = _
    rw [Memref.IsWhole.readAt_unread, hb.h1]
    show A.gl (b + (0 + 1 * (x 0).val)) (0 + 1 * (x 1).val) = _
    rw [Nat.one_mul, Nat.one_mul, Nat.zero_add, Nat.zero_add]
  w := hw
  g x := by
    show View.readAt (Elt Ideal) arg6.view r1.toLoadRect (harg6.unread x3) x = _
    rw [Memref.IsWhole.readAt_unread, hb.h3]
    show A.g (0 + 1 * (x 1).val) = _
    rw [Nat.one_mul, Nat.zero_add]
  t0 T L hL q j x hx := View.read_writes_apply_of_pieces (Val := Elt Ideal) arg13.view (arg13.view.junk (Val := Elt Ideal)) T L hL ((rT q j).emb x) hx
  h0 T L hL q x hx := View.read_writes_apply_of_pieces (Val := Elt Ideal) arg7.view (arg7.view.junk (Val := Elt Ideal)) T L hL ((rR q).emb x) hx

/-- The gradient of the projection's input in a point's block. -/
theorem dy_apply {c : Ld Ideal} {A : Arrs} {b : ℕ} (h : Reads c A b) (arg8 : Memref sig .tc .vmem S256x2048 .bf16)
    (wo : Vec Ideal S2048x2048 .bf16) (hwo : ∀ y, wo y = A.wo (y 0).val (y 1).val) (y : S256x2048.Idx) :
    k0_pay1 (F := Ideal) (arg8.view.readCov (l5 c 16) rB.toLoadRect) wo y = TailFun.dy A (b + (y 0).val) (y 1).val := by
  pointwise [k0_pay1]
  unfold TailFun.dy
  rw [Finset.sum_range]
  refine Finset.sum_congr rfl fun k _ => ?_
  rw [hwo]
  refine congrArg (· * _) ((l5_read h arg8.view _ _).trans ?_)
  show TailFun.dov A (b + (0 + 1 * (y 0).val)) (0 + 1 * k.val) = _
  rw [Nat.one_mul, Nat.one_mul, Nat.zero_add, Nat.zero_add]

/-- The accumulator's rows summed. -/
theorem dg_apply (v : Vec Ideal S8x2048 .f32) (x : S1x2048.Idx) :
    k0_pay2 (F := Ideal) v x = ∑ s : Fin 8, v (ix2 s (x 1)) := by
  pointwise [k0_pay2]

/-- A block stored whole reads back. -/
theorem read_whole {sig' : RefSig} {κ : Kind} {sp : Space} (v : View sig' κ sp S256x2048 .bf16) (f : v.ty.Contents (Elt Ideal))
    (w : Vec Ideal S256x2048 .bf16) (y : S256x2048.Idx) : v.read (Elt Ideal) (v.writes (Elt Ideal) f [⟨rB, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

/-- A row stored whole reads back. -/
theorem read_whole1 {sig' : RefSig} {κ : Kind} {sp : Space} (v : View sig' κ sp S1x2048 .f32) (f : v.ty.Contents (Elt Ideal))
    (w : Vec Ideal S1x2048 .f32) (y : S1x2048.Idx) : v.read (Elt Ideal) (v.writes (Elt Ideal) f [⟨r1, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

/-- An accumulator stored whole reads back. -/
theorem read_whole8 {sig' : RefSig} {κ : Kind} {sp : Space} (v : View sig' κ sp S8x2048 .f32) (f : v.ty.Contents (Elt Ideal))
    (w : Vec Ideal S8x2048 .f32) (y : S8x2048.Idx) : v.read (Elt Ideal) (v.writes (Elt Ideal) f [⟨r8, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

/-! ## The first point -/

section CaseA

section Lists
variable {F : FTy → Type} [FloatOps F]

variable {c : Dev nD} {i : grid0.Coords} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg6 : Memref sig .tc .vmem S1x2048 .f32} {harg6 : arg6.IsWhole} {arg7 : Memref sig .tc .vmem S256x2048 .f32} {harg7 : arg7.IsWhole} {arg8 : Memref sig .tc .vmem S256x2048 .bf16} {harg8 : arg8.IsWhole} {arg9 : Memref sig .tc .vmem S256x2048 .bf16} {harg9 : arg9.IsWhole} {arg10 : Memref sig .tc .vmem S1x2048 .f32} {harg10 : arg10.IsWhole} {arg11 : Memref sig .tc .vmem S2048x2048 .bf16} {harg11 : arg11.IsWhole} {arg12 : Memref sig .tc .vmem S2048x2048 .bf16} {harg12 : arg12.IsWhole} {arg13 : Memref sig .tc .vmem S256x2048 .f32} {harg13 : arg13.IsWhole} {arg14 : Memref sig .tc .vmem S8x2048 .f32} {harg14 : arg14.IsWhole} {hc0 : cond0_0 i} {hc1 : cond0_1 i} {hc2 : ¬cond0_2 i}
    {x0 : Vec F S256x2048 .f32} {x1 : Vec F S256x2048 .bf16} {x2 : Vec F S256x2048 .bf16} {x3 : Vec F S1x2048 .f32} {fh0 : HbBuf0 (F := F) c hbM0_0} {fh1 : HbBuf0 (F := F) c hbM0_1}

theorem l4_A : (kernelRun0_A c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1).1 = l4 (ldOf (F := F) arg1 harg1 arg2 harg2 arg3 harg3 arg6 harg6 arg7 arg13 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect)) 128 := by sl_kernel_rfl

theorem l5_A : (kernelRun0_A c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1).2.1 = l5 (ldOf (F := F) arg1 harg1 arg2 harg2 arg3 harg3 arg6 harg6 arg7 arg13 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect)) 16 := by sl_kernel_rfl

theorem l6_A : (kernelRun0_A c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1).2.2.1 = [⟨rB, k0_pay1 (arg8.view.readCov (l5 (ldOf (F := F) arg1 harg1 arg2 harg2 arg3 harg3 arg6 harg6 arg7 arg13 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect)) 16) rB.toLoadRect) (arg12.view.readCov [⟨Rect.whole S2048x2048, ReadAs.same.apply (View.read (Elt F) (Memref.whole main_arg4).view fh1)⟩] rM.toLoadRect)⟩] := by sl_kernel_rfl

theorem ls3_A : (kernelRun0_A c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1).2.2.2.2.2.2.1 = sl (ldOf (F := F) arg1 harg1 arg2 harg2 arg3 harg3 arg6 harg6 arg7 arg13 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect)) [⟨r8, k0_pay3⟩] 8 := by sl_kernel_rfl

theorem ls0_A : (kernelRun0_A c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1).2.2.2.2.1 = [⟨Rect.whole S2048x2048, ReadAs.same.apply (View.read (Elt F) (Memref.whole main_arg3).view fh0)⟩] := by sl_kernel_rfl

theorem ls1_A : (kernelRun0_A c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1).2.2.2.2.2.1 = [⟨Rect.whole S2048x2048, ReadAs.same.apply (View.read (Elt F) (Memref.whole main_arg4).view fh1)⟩] := by sl_kernel_rfl

end Lists

variable {c : Dev nD} {i : grid0.Coords} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg6 : Memref sig .tc .vmem S1x2048 .f32} {harg6 : arg6.IsWhole} {arg7 : Memref sig .tc .vmem S256x2048 .f32} {harg7 : arg7.IsWhole} {arg8 : Memref sig .tc .vmem S256x2048 .bf16} {harg8 : arg8.IsWhole} {arg9 : Memref sig .tc .vmem S256x2048 .bf16} {harg9 : arg9.IsWhole} {arg10 : Memref sig .tc .vmem S1x2048 .f32} {harg10 : arg10.IsWhole} {arg11 : Memref sig .tc .vmem S2048x2048 .bf16} {harg11 : arg11.IsWhole} {arg12 : Memref sig .tc .vmem S2048x2048 .bf16} {harg12 : arg12.IsWhole} {arg13 : Memref sig .tc .vmem S256x2048 .f32} {harg13 : arg13.IsWhole} {arg14 : Memref sig .tc .vmem S8x2048 .f32} {harg14 : arg14.IsWhole} {hc0 : cond0_0 i} {hc1 : cond0_1 i} {hc2 : ¬cond0_2 i}
    {x0 : Vec Ideal S256x2048 .f32} {x1 : Vec Ideal S256x2048 .bf16} {x2 : Vec Ideal S256x2048 .bf16} {x3 : Vec Ideal S1x2048 .f32} {fh0 : HbBuf0 (F := Ideal) c hbM0_0} {fh1 : HbBuf0 (F := Ideal) c hbM0_1}
  {A : Arrs} {b : ℕ} (hb : Blk A b x0 x1 x2 x3)
  (hw : ∀ y, View.read (Elt Ideal) (Memref.whole main_arg3).view fh0 y = A.w (y 0).val (y 1).val)
  (hwo : ∀ y, View.read (Elt Ideal) (Memref.whole main_arg4).view fh1 y = A.wo (y 0).val (y 1).val)

include hb hw in
theorem reads_A : Reads (ldOf (F := Ideal) arg1 harg1 arg2 harg2 arg3 harg3 arg6 harg6 arg7 arg13 x0 x1 x2 x3 (fun j => arg11.view.readCov [⟨Rect.whole S2048x2048, ReadAs.same.apply (View.read (Elt Ideal) (Memref.whole main_arg3).view fh0)⟩] (rW j).toLoadRect) (fun L j => arg14.view.readCov L (rA j).toLoadRect)) A b :=
  reads_of arg1 harg1 arg2 harg2 arg3 harg3 arg6 harg6 arg7 arg13 hb _ (fun j x => by
    show View.read (Elt Ideal) arg11.view (arg11.view.writes (Elt Ideal) _ [⟨Rect.whole S2048x2048, _⟩]) _ = _
    rw [View.read_writes_whole]
    refine (hw _).trans ?_
    show A.w (256 * (j % 8) + 1 * (x 0).val) (0 + 1 * (x 1).val) = _
    rw [Nat.one_mul, Nat.one_mul, Nat.zero_add]) _

include hb hw in
/-- The block of the residual's gradient. -/
theorem out4_A (y : S256x2048.Idx) : out0_A_4 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1 y = TailFun.dh A (b + (y 0).val) (y 1).val := by
  unfold out0_A_4
  rw [l4_A]
  exact l4_read (reads_A hb hw) _ _ y

include hb hw in
/-- The block of the gradient of `o`. -/
theorem out5_A (y : S256x2048.Idx) : out0_A_5 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1 y = TailFun.dov A (b + (y 0).val) (y 1).val := by
  unfold out0_A_5
  rw [l5_A]
  exact l5_read (reads_A hb hw) _ _ y

include hb hw hwo in
/-- The block of the gradient of the projection's input. -/
theorem out6_A (y : S256x2048.Idx) : out0_A_6 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1 y = TailFun.dy A (b + (y 0).val) (y 1).val := by
  unfold out0_A_6
  rw [l6_A]
  exact (read_whole _ _ _ y).trans (dy_apply (reads_A hb hw) arg8 _ (fun y => by
    show View.read (Elt Ideal) arg12.view (arg12.view.writes (Elt Ideal) _ [⟨Rect.whole S2048x2048, _⟩]) _ = _
    rw [View.read_writes_whole]
    refine (hwo _).trans ?_
    show A.wo (0 + 1 * (y 0).val) (0 + 1 * (y 1).val) = _
    rw [Nat.one_mul, Nat.one_mul, Nat.zero_add, Nat.zero_add]) y)

/-- The first weight is copied whole. -/
theorem sout0_A : sout0_A_0 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1 = View.read (Elt Ideal) (Memref.whole main_arg3).view fh0 := by
  unfold sout0_A_0
  rw [ls0_A, View.read_writes_whole]

/-- So is the second. -/
theorem sout1_A : sout0_A_1 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1 = View.read (Elt Ideal) (Memref.whole main_arg4).view fh1 := by
  unfold sout0_A_1
  rw [ls1_A, View.read_writes_whole]

include hb hw in
/-- The accumulator is the point's contribution. -/
theorem sout3_A (y : S8x2048.Idx) : sout0_A_3 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 fh0 fh1 y = accAdd A b (y 0).val (y 1).val := by
  unfold sout0_A_3
  rw [ls3_A]
  have h1 : (y 1).val < 2048 := (y 1).isLt
  refine (sl_read (reads_A hb hw) _ _ _ (fun _ => 0) (fun j hj x => ?_) 8 le_rfl y (by omega)).trans (zero_add _)
  refine (sl_skip arg14.view _ _ j (by omega) _ ?_).trans ((read_whole8 _ _ _ _).trans ?_)
  · show 256 * j ≤ 256 * (j % 8) + 1 * (x 1).val
    rw [Nat.mod_eq_of_lt hj]; omega
  · unfold k0_pay3
    simp only [shapeCast_self]
    exact Ideal.ofBits_zero_f32

end CaseA

/-! ## A middle point -/

section CaseB

section Lists
variable {F : FTy → Type} [FloatOps F]

variable {c : Dev nD} {i : grid0.Coords} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg6 : Memref sig .tc .vmem S1x2048 .f32} {harg6 : arg6.IsWhole} {arg7 : Memref sig .tc .vmem S256x2048 .f32} {harg7 : arg7.IsWhole} {arg8 : Memref sig .tc .vmem S256x2048 .bf16} {harg8 : arg8.IsWhole} {arg9 : Memref sig .tc .vmem S256x2048 .bf16} {harg9 : arg9.IsWhole} {arg10 : Memref sig .tc .vmem S1x2048 .f32} {harg10 : arg10.IsWhole} {arg11 : Memref sig .tc .vmem S2048x2048 .bf16} {harg11 : arg11.IsWhole} {arg12 : Memref sig .tc .vmem S2048x2048 .bf16} {harg12 : arg12.IsWhole} {arg13 : Memref sig .tc .vmem S256x2048 .f32} {harg13 : arg13.IsWhole} {arg14 : Memref sig .tc .vmem S8x2048 .f32} {harg14 : arg14.IsWhole} {hc0 : ¬cond0_0 i} {hc1 : ¬cond0_1 i} {hc2 : ¬cond0_2 i}
    {x0 : Vec F S256x2048 .f32} {x1 : Vec F S256x2048 .bf16} {x2 : Vec F S256x2048 .bf16} {x3 : Vec F S1x2048 .f32} {xs0 : Vec F S2048x2048 .bf16} {xs1 : Vec F S2048x2048 .bf16} {xs3 : Vec F S8x2048 .f32} {fh0 : HbBuf0 (F := F) c hbM0_0} {fh1 : HbBuf0 (F := F) c hbM0_1}

theorem l4_B : (kernelRun0_B c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).1 = l4 (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) 128 := by sl_kernel_rfl

theorem l5_B : (kernelRun0_B c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.1 = l5 (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) 16 := by sl_kernel_rfl

theorem l6_B : (kernelRun0_B c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.2.1 = [⟨rB, k0_pay1 (arg8.view.readCov (l5 (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) 16) rB.toLoadRect) (View.readAt (Elt F) arg12.view rM.toLoadRect (harg12.unread xs1))⟩] := by sl_kernel_rfl

theorem ls3_B : (kernelRun0_B c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.2.2.2.2.2.1 = sl (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) [] 8 := by sl_kernel_rfl

end Lists

variable {c : Dev nD} {i : grid0.Coords} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg6 : Memref sig .tc .vmem S1x2048 .f32} {harg6 : arg6.IsWhole} {arg7 : Memref sig .tc .vmem S256x2048 .f32} {harg7 : arg7.IsWhole} {arg8 : Memref sig .tc .vmem S256x2048 .bf16} {harg8 : arg8.IsWhole} {arg9 : Memref sig .tc .vmem S256x2048 .bf16} {harg9 : arg9.IsWhole} {arg10 : Memref sig .tc .vmem S1x2048 .f32} {harg10 : arg10.IsWhole} {arg11 : Memref sig .tc .vmem S2048x2048 .bf16} {harg11 : arg11.IsWhole} {arg12 : Memref sig .tc .vmem S2048x2048 .bf16} {harg12 : arg12.IsWhole} {arg13 : Memref sig .tc .vmem S256x2048 .f32} {harg13 : arg13.IsWhole} {arg14 : Memref sig .tc .vmem S8x2048 .f32} {harg14 : arg14.IsWhole} {hc0 : ¬cond0_0 i} {hc1 : ¬cond0_1 i} {hc2 : ¬cond0_2 i}
    {x0 : Vec Ideal S256x2048 .f32} {x1 : Vec Ideal S256x2048 .bf16} {x2 : Vec Ideal S256x2048 .bf16} {x3 : Vec Ideal S1x2048 .f32} {xs0 : Vec Ideal S2048x2048 .bf16} {xs1 : Vec Ideal S2048x2048 .bf16} {xs3 : Vec Ideal S8x2048 .f32} {fh0 : HbBuf0 (F := Ideal) c hbM0_0} {fh1 : HbBuf0 (F := Ideal) c hbM0_1}
  {A : Arrs} {b : ℕ} (hb : Blk A b x0 x1 x2 x3)
  (hw : ∀ y, xs0 y = A.w (y 0).val (y 1).val) (hwo : ∀ y, xs1 y = A.wo (y 0).val (y 1).val)

include hb hw in
theorem reads_B : Reads (ldOf (F := Ideal) arg1 harg1 arg2 harg2 arg3 harg3 arg6 harg6 arg7 arg13 x0 x1 x2 x3 (fun j => View.readAt (Elt Ideal) arg11.view (rW j).toLoadRect (harg11.unread xs0)) (fun _ j => View.readAt (Elt Ideal) arg14.view (rA j).toLoadRect (harg14.unread xs3))) A b :=
  reads_of arg1 harg1 arg2 harg2 arg3 harg3 arg6 harg6 arg7 arg13 hb _ (fun j x => by
    show View.readAt (Elt Ideal) arg11.view (rW j).toLoadRect (harg11.unread xs0) x = _
    rw [Memref.IsWhole.readAt_unread, hw]
    show A.w (256 * (j % 8) + 1 * (x 0).val) (0 + 1 * (x 1).val) = _
    rw [Nat.one_mul, Nat.one_mul, Nat.zero_add]) _

include hb hw in
/-- The block of the residual's gradient. -/
theorem out4_B (y : S256x2048.Idx) : out0_B_4 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = TailFun.dh A (b + (y 0).val) (y 1).val := by
  unfold out0_B_4
  rw [l4_B]
  exact l4_read (reads_B hb hw) _ _ y

include hb hw in
/-- The block of the gradient of `o`. -/
theorem out5_B (y : S256x2048.Idx) : out0_B_5 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = TailFun.dov A (b + (y 0).val) (y 1).val := by
  unfold out0_B_5
  rw [l5_B]
  exact l5_read (reads_B hb hw) _ _ y

include hb hw hwo in
/-- The block of the gradient of the projection's input. -/
theorem out6_B (y : S256x2048.Idx) : out0_B_6 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = TailFun.dy A (b + (y 0).val) (y 1).val := by
  unfold out0_B_6
  rw [l6_B]
  exact (read_whole _ _ _ y).trans (dy_apply (reads_B hb hw) arg8 _ (fun y => by
    rw [Memref.IsWhole.readAt_unread, hwo]
    show A.wo (0 + 1 * (y 0).val) (0 + 1 * (y 1).val) = _
    rw [Nat.one_mul, Nat.one_mul, Nat.zero_add, Nat.zero_add]) y)

include hb hw in
theorem acc_B {sig' : RefSig} {κ : Kind} {sp : Space} (v : View sig' κ sp S8x2048 .f32) (f : v.ty.Contents (Elt Ideal)) (y : S8x2048.Idx) :
    v.read (Elt Ideal) (v.writes (Elt Ideal) f (sl (ldOf (F := Ideal) arg1 harg1 arg2 harg2 arg3 harg3 arg6 harg6 arg7 arg13 x0 x1 x2 x3 (fun j => View.readAt (Elt Ideal) arg11.view (rW j).toLoadRect (harg11.unread xs0)) (fun _ j => View.readAt (Elt Ideal) arg14.view (rA j).toLoadRect (harg14.unread xs3))) [] 8)) y = xs3 y + accAdd A b (y 0).val (y 1).val := by
  have h1 : (y 1).val < 2048 := (y 1).isLt
  refine sl_read (reads_B hb hw) _ _ _ xs3 (fun j hj x => ?_) 8 le_rfl y (by omega)
  show View.readAt (Elt Ideal) arg14.view (rA j).toLoadRect (harg14.unread xs3) x = _
  rw [Memref.IsWhole.readAt_unread]
  rfl

include hb hw in
/-- The accumulator gains the point's contribution. -/
theorem sout3_B (y : S8x2048.Idx) : sout0_B_3 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = xs3 y + accAdd A b (y 0).val (y 1).val := by
  unfold sout0_B_3
  rw [ls3_B]
  exact acc_B hb hw _ _ y

end CaseB

/-! ## The last point -/

section CaseC

section Lists
variable {F : FTy → Type} [FloatOps F]

variable {c : Dev nD} {i : grid0.Coords} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg6 : Memref sig .tc .vmem S1x2048 .f32} {harg6 : arg6.IsWhole} {arg7 : Memref sig .tc .vmem S256x2048 .f32} {harg7 : arg7.IsWhole} {arg8 : Memref sig .tc .vmem S256x2048 .bf16} {harg8 : arg8.IsWhole} {arg9 : Memref sig .tc .vmem S256x2048 .bf16} {harg9 : arg9.IsWhole} {arg10 : Memref sig .tc .vmem S1x2048 .f32} {harg10 : arg10.IsWhole} {arg11 : Memref sig .tc .vmem S2048x2048 .bf16} {harg11 : arg11.IsWhole} {arg12 : Memref sig .tc .vmem S2048x2048 .bf16} {harg12 : arg12.IsWhole} {arg13 : Memref sig .tc .vmem S256x2048 .f32} {harg13 : arg13.IsWhole} {arg14 : Memref sig .tc .vmem S8x2048 .f32} {harg14 : arg14.IsWhole} {hc0 : ¬cond0_0 i} {hc1 : ¬cond0_1 i} {hc2 : cond0_2 i}
    {x0 : Vec F S256x2048 .f32} {x1 : Vec F S256x2048 .bf16} {x2 : Vec F S256x2048 .bf16} {x3 : Vec F S1x2048 .f32} {xs0 : Vec F S2048x2048 .bf16} {xs1 : Vec F S2048x2048 .bf16} {xs3 : Vec F S8x2048 .f32} {fh0 : HbBuf0 (F := F) c hbM0_0} {fh1 : HbBuf0 (F := F) c hbM0_1}

theorem l4_C : (kernelRun0_C c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).1 = l4 (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) 128 := by sl_kernel_rfl

theorem l5_C : (kernelRun0_C c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.1 = l5 (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) 16 := by sl_kernel_rfl

theorem l6_C : (kernelRun0_C c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.2.1 = [⟨rB, k0_pay1 (arg8.view.readCov (l5 (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) 16) rB.toLoadRect) (View.readAt (Elt F) arg12.view rM.toLoadRect (harg12.unread xs1))⟩] := by sl_kernel_rfl

theorem ls3_C : (kernelRun0_C c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.2.2.2.2.2.1 = sl (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) [] 8 := by sl_kernel_rfl

theorem l7_C : (kernelRun0_C c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1).2.2.2.1 = [⟨r1, k0_pay2 (arg14.view.readCov (sl (ldOf (F := F) arg1 harg1 arg2 harg2 arg3 harg3 arg6 harg6 arg7 arg13 x0 x1 x2 x3 (fun j => View.readAt (Elt F) arg11.view (rW j).toLoadRect (harg11.unread xs0)) (fun _ j => View.readAt (Elt F) arg14.view (rA j).toLoadRect (harg14.unread xs3))) [] 8) r8.toLoadRect)⟩] := by sl_kernel_rfl

end Lists

variable {c : Dev nD} {i : grid0.Coords} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg6 : Memref sig .tc .vmem S1x2048 .f32} {harg6 : arg6.IsWhole} {arg7 : Memref sig .tc .vmem S256x2048 .f32} {harg7 : arg7.IsWhole} {arg8 : Memref sig .tc .vmem S256x2048 .bf16} {harg8 : arg8.IsWhole} {arg9 : Memref sig .tc .vmem S256x2048 .bf16} {harg9 : arg9.IsWhole} {arg10 : Memref sig .tc .vmem S1x2048 .f32} {harg10 : arg10.IsWhole} {arg11 : Memref sig .tc .vmem S2048x2048 .bf16} {harg11 : arg11.IsWhole} {arg12 : Memref sig .tc .vmem S2048x2048 .bf16} {harg12 : arg12.IsWhole} {arg13 : Memref sig .tc .vmem S256x2048 .f32} {harg13 : arg13.IsWhole} {arg14 : Memref sig .tc .vmem S8x2048 .f32} {harg14 : arg14.IsWhole} {hc0 : ¬cond0_0 i} {hc1 : ¬cond0_1 i} {hc2 : cond0_2 i}
    {x0 : Vec Ideal S256x2048 .f32} {x1 : Vec Ideal S256x2048 .bf16} {x2 : Vec Ideal S256x2048 .bf16} {x3 : Vec Ideal S1x2048 .f32} {xs0 : Vec Ideal S2048x2048 .bf16} {xs1 : Vec Ideal S2048x2048 .bf16} {xs3 : Vec Ideal S8x2048 .f32} {fh0 : HbBuf0 (F := Ideal) c hbM0_0} {fh1 : HbBuf0 (F := Ideal) c hbM0_1}
  {A : Arrs} {b : ℕ} (hb : Blk A b x0 x1 x2 x3)
  (hw : ∀ y, xs0 y = A.w (y 0).val (y 1).val) (hwo : ∀ y, xs1 y = A.wo (y 0).val (y 1).val)

include hb hw in
theorem reads_C : Reads (ldOf (F := Ideal) arg1 harg1 arg2 harg2 arg3 harg3 arg6 harg6 arg7 arg13 x0 x1 x2 x3 (fun j => View.readAt (Elt Ideal) arg11.view (rW j).toLoadRect (harg11.unread xs0)) (fun _ j => View.readAt (Elt Ideal) arg14.view (rA j).toLoadRect (harg14.unread xs3))) A b :=
  reads_of arg1 harg1 arg2 harg2 arg3 harg3 arg6 harg6 arg7 arg13 hb _ (fun j x => by
    show View.readAt (Elt Ideal) arg11.view (rW j).toLoadRect (harg11.unread xs0) x = _
    rw [Memref.IsWhole.readAt_unread, hw]
    show A.w (256 * (j % 8) + 1 * (x 0).val) (0 + 1 * (x 1).val) = _
    rw [Nat.one_mul, Nat.one_mul, Nat.zero_add]) _

include hb hw in
/-- The block of the residual's gradient. -/
theorem out4_C (y : S256x2048.Idx) : out0_C_4 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = TailFun.dh A (b + (y 0).val) (y 1).val := by
  unfold out0_C_4
  rw [l4_C]
  exact l4_read (reads_C hb hw) _ _ y

include hb hw in
/-- The block of the gradient of `o`. -/
theorem out5_C (y : S256x2048.Idx) : out0_C_5 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = TailFun.dov A (b + (y 0).val) (y 1).val := by
  unfold out0_C_5
  rw [l5_C]
  exact l5_read (reads_C hb hw) _ _ y

include hb hw hwo in
/-- The block of the gradient of the projection's input. -/
theorem out6_C (y : S256x2048.Idx) : out0_C_6 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = TailFun.dy A (b + (y 0).val) (y 1).val := by
  unfold out0_C_6
  rw [l6_C]
  exact (read_whole _ _ _ y).trans (dy_apply (reads_C hb hw) arg8 _ (fun y => by
    rw [Memref.IsWhole.readAt_unread, hwo]
    show A.wo (0 + 1 * (y 0).val) (0 + 1 * (y 1).val) = _
    rw [Nat.one_mul, Nat.one_mul, Nat.zero_add, Nat.zero_add]) y)

include hb hw in
theorem acc_C {sig' : RefSig} {κ : Kind} {sp : Space} (v : View sig' κ sp S8x2048 .f32) (f : v.ty.Contents (Elt Ideal)) (y : S8x2048.Idx) :
    v.read (Elt Ideal) (v.writes (Elt Ideal) f (sl (ldOf (F := Ideal) arg1 harg1 arg2 harg2 arg3 harg3 arg6 harg6 arg7 arg13 x0 x1 x2 x3 (fun j => View.readAt (Elt Ideal) arg11.view (rW j).toLoadRect (harg11.unread xs0)) (fun _ j => View.readAt (Elt Ideal) arg14.view (rA j).toLoadRect (harg14.unread xs3))) [] 8)) y = xs3 y + accAdd A b (y 0).val (y 1).val := by
  have h1 : (y 1).val < 2048 := (y 1).isLt
  refine sl_read (reads_C hb hw) _ _ _ xs3 (fun j hj x => ?_) 8 le_rfl y (by omega)
  show View.readAt (Elt Ideal) arg14.view (rA j).toLoadRect (harg14.unread xs3) x = _
  rw [Memref.IsWhole.readAt_unread]
  rfl

include hb hw in
/-- The accumulator gains the point's contribution. -/
theorem sout3_C (y : S8x2048.Idx) : sout0_C_3 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = xs3 y + accAdd A b (y 0).val (y 1).val := by
  unfold sout0_C_3
  rw [ls3_C]
  exact acc_C hb hw _ _ y

include hb hw in
/-- The scale's gradient is the accumulator's rows summed. -/
theorem out7_C (y : S1x2048.Idx) : out0_C_7 (F := Ideal) c i arg1 harg1 arg2 harg2 arg3 harg3 arg6 harg6 arg7 harg7 arg8 harg8 arg9 harg9 arg10 harg10 arg11 harg11 arg12 harg12 arg13 harg13 arg14 harg14 hc0 hc1 hc2 x0 x1 x2 x3 xs0 xs1 xs3 fh0 fh1 y = ∑ s : Fin 8, (xs3 (ix2 s (y 1)) + accAdd A b s.val (y 1).val) := by
  unfold out0_C_7
  rw [l7_C]
  refine (read_whole1 _ _ _ y).trans ((dg_apply _ _).trans (Finset.sum_congr rfl fun s _ => ?_))
  have e : r8.toLoadRect.idx (ix2 s (y 1)) = (ix2 s (y 1) : S8x2048.Idx) := funext fun a => Fin.ext (by
    match a with
    | ⟨0, _⟩ => show 0 + 1 * s.val = s.val; omega
    | ⟨1, _⟩ => show 0 + 1 * (y 1).val = (y 1).val; omega)
  show View.read (Elt Ideal) arg14.view (arg14.view.writes (Elt Ideal) _ _) (r8.toLoadRect.idx (ix2 s (y 1))) = _
  rw [e]
  exact acc_C hb hw arg14.view _ (ix2 s (y 1))

end CaseC

end Cert.TailIdeal.Voc

end
-- ==== Proof.TailValue.lean ====
/-
  What the last stage's gradient leaves in its four results, over the extended reals.

  The launch has 32 points, one per 256 rows. Every point finds the two weights in its scratch, copied by the first
  point; the accumulator after point `n` is the sum of the contributions of the points up to `n`.
-/
module

public import proofs.«01_k».proof.Proof.TailBridge
public import proofs.«01_k».proof.Proof.Gen.TailIdeal.Value
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.TailIdeal.Voc

open Cert.TailIdeal Cert.TailIdeal.Gen Cert.TailFun

/-- The index `(r, q)` of an `[8192, 2048]` array, for any natural numbers (reduced into range). -/
abbrev ixA (r q : ℕ) : S8192x2048.Idx := fun a => match a with
  | ⟨0, _⟩ => Fin.ofNat 8192 r
  | ⟨1, _⟩ => Fin.ofNat 2048 q

/-- The index `(r, q)` of a weight. -/
abbrev ixW (r q : ℕ) : S2048x2048.Idx := fun a => match a with
  | ⟨0, _⟩ => Fin.ofNat 2048 r
  | ⟨1, _⟩ => Fin.ofNat 2048 q

/-- The index `q` of a row. -/
abbrev ixG (q : ℕ) : S1x2048.Idx := fun a => match a with
  | ⟨0, _⟩ => (0 : Fin 1)
  | ⟨1, _⟩ => Fin.ofNat 2048 q

variable (m : (ℓ : Loc nD τ sig) → Buf (Elt Ideal) ℓ) (c : Dev nD)

/-- What the launch reads, at a row and a column: three arguments, the projection and the scale as the host leaves them. -/
def arrs : Arrs where
  d2 r k := (m ((c : Thread nD τ).loc main_arg0) : S8192x2048.Idx → EReal) (ixA r k)
  gl r k := (m ((c : Thread nD τ).loc main_arg1) : S8192x2048.Idx → EReal) (ixA r k)
  ob r k := (V m c main_v3 : S8192x2048.Idx → EReal) (ixA r k)
  w r k := (m ((c : Thread nD τ).loc main_arg3) : S2048x2048.Idx → EReal) (ixW r k)
  wo r k := (m ((c : Thread nD τ).loc main_arg4) : S2048x2048.Idx → EReal) (ixW r k)
  g k := (V m c main_v4 : S1x2048.Idx → EReal) (ixG k)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem hN32 : cfg0.N = 32 := N_0

/-- Point `t` reads the rows from `256 t` on. -/
theorem blk_of (t : Fin cfg0.N) : Blk (arrs m c) (256 * t.val) (iblk m c 0 t) (iblk m c 1 t) (iblk m c 2 t) (iblk m c 3 t) := by
  have hN := lt_of_lt_of_eq t.isLt hN32
  constructor
  · intro y
    have h0 : (y 0).val < 256 := (y 0).isLt
    have h1 : (y 1).val < 2048 := (y 1).isLt
    unfold iblk
    rw [View.read_apply]
    show V m c main_arg0 _ = m ((c : Thread nD τ).loc main_arg0) _
    rw [V_main_arg0]
    congr 1
    funext a
    apply Fin.ext
    match a with
    | ⟨0, _⟩ => show win0_0.index t 0 * 256 + 1 * (y 0).val = (256 * t.val + (y 0).val) % 8192; rw [(idx0 t).1]; omega
    | ⟨1, _⟩ => show win0_0.index t 1 * 2048 + 1 * (y 1).val = (y 1).val % 2048; rw [(idx0 t).2]; omega
  · intro y
    have h0 : (y 0).val < 256 := (y 0).isLt
    have h1 : (y 1).val < 2048 := (y 1).isLt
    unfold iblk
    rw [View.read_apply]
    show V m c main_arg1 _ = m ((c : Thread nD τ).loc main_arg1) _
    rw [V_main_arg1]
    congr 1
    funext a
    apply Fin.ext
    match a with
    | ⟨0, _⟩ => show win0_1.index t 0 * 256 + 1 * (y 0).val = (256 * t.val + (y 0).val) % 8192; rw [(idx1 t).1]; omega
    | ⟨1, _⟩ => show win0_1.index t 1 * 2048 + 1 * (y 1).val = (y 1).val % 2048; rw [(idx1 t).2]; omega
  · intro y
    have h0 : (y 0).val < 256 := (y 0).isLt
    have h1 : (y 1).val < 2048 := (y 1).isLt
    unfold iblk
    rw [View.read_apply]
    show V m c main_v3 _ = V m c main_v3 _
    congr 1
    funext a
    apply Fin.ext
    match a with
    | ⟨0, _⟩ => show win0_2.index t 0 * 256 + 1 * (y 0).val = (256 * t.val + (y 0).val) % 8192; rw [(idx2 t).1]; omega
    | ⟨1, _⟩ => show win0_2.index t 1 * 2048 + 1 * (y 1).val = (y 1).val % 2048; rw [(idx2 t).2]; omega
  · intro y
    have h0 : (y 0).val < 1 := (y 0).isLt
    have h1 : (y 1).val < 2048 := (y 1).isLt
    unfold iblk
    rw [View.read_apply]
    show V m c main_v4 _ = V m c main_v4 _
    congr 1
    funext a
    apply Fin.ext
    match a with
    | ⟨0, _⟩ => show win0_3.index t 0 * 1 + 1 * (y 0).val = 0; rw [(idx3 t).1]; omega
    | ⟨1, _⟩ => show win0_3.index t 1 * 2048 + 1 * (y 1).val = (y 1).val % 2048; rw [(idx3 t).2]; omega

theorem w_of (y : S2048x2048.Idx) : View.read (Elt Ideal) (Memref.whole main_arg3).view (V m c main_arg3) y = (arrs m c).w (y 0).val (y 1).val := by
  have h0 : (y 0).val < 2048 := (y 0).isLt
  have h1 : (y 1).val < 2048 := (y 1).isLt
  rw [V_main_arg3]
  show m ((c : Thread nD τ).loc main_arg3) _ = m ((c : Thread nD τ).loc main_arg3) _
  congr 1
  funext a
  apply Fin.ext
  match a with
  | ⟨0, _⟩ => show (y 0).val = (y 0).val % 2048; omega
  | ⟨1, _⟩ => show (y 1).val = (y 1).val % 2048; omega

theorem wo_of (y : S2048x2048.Idx) : View.read (Elt Ideal) (Memref.whole main_arg4).view (V m c main_arg4) y = (arrs m c).wo (y 0).val (y 1).val := by
  have h0 : (y 0).val < 2048 := (y 0).isLt
  have h1 : (y 1).val < 2048 := (y 1).isLt
  rw [V_main_arg4]
  show m ((c : Thread nD τ).loc main_arg4) _ = m ((c : Thread nD τ).loc main_arg4) _
  congr 1
  funext a
  apply Fin.ext
  match a with
  | ⟨0, _⟩ => show (y 0).val = (y 0).val % 2048; omega
  | ⟨1, _⟩ => show (y 1).val = (y 1).val % 2048; omega

/-- What the launch holds after point `n`: the three blocks the point stored, the two weights, the accumulator, and
    after the last point the scale's gradient. -/
structure State (n : ℕ) (hn : n < cfg0.N) : Prop where
  o4 : ∀ y, (outsAt0 m c n hn).1 y = TailFun.dh (arrs m c) (256 * n + (y 0).val) (y 1).val
  o5 : ∀ y, (outsAt0 m c n hn).2.1 y = TailFun.dov (arrs m c) (256 * n + (y 0).val) (y 1).val
  o6 : ∀ y, (outsAt0 m c n hn).2.2.1 y = TailFun.dy (arrs m c) (256 * n + (y 0).val) (y 1).val
  o7 : n = 31 → ∀ y, (outsAt0 m c n hn).2.2.2.1 y
    = ∑ s : Fin 8, ∑ t ∈ Finset.range (n + 1), accAdd (arrs m c) (256 * t) s.val (y 1).val
  s0 : ∀ y, (outsAt0 m c n hn).2.2.2.2.1 y = (arrs m c).w (y 0).val (y 1).val
  s1 : ∀ y, (outsAt0 m c n hn).2.2.2.2.2.1 y = (arrs m c).wo (y 0).val (y 1).val
  s3 : ∀ y, (outsAt0 m c n hn).2.2.2.2.2.2 y = ∑ t ∈ Finset.range (n + 1), accAdd (arrs m c) (256 * t) (y 0).val (y 1).val

theorem state (n : ℕ) (hn : n < cfg0.N) : State m c n hn := by
  have hn' : n < 32 := lt_of_lt_of_eq hn hN32
  induction n with
  | zero =>
    have e := outsAt0_A m c ⟨0, hn⟩ rfl rfl (by show ¬(0 % 32 = 31); omega)
    have hb := blk_of m c ⟨0, hn⟩
    dsimp only at e
    constructor
    · intro y; rw [e]; dsimp only; exact out4_A hb (w_of m c) y
    · intro y; rw [e]; dsimp only; exact out5_A hb (w_of m c) y
    · intro y; rw [e]; dsimp only; exact out6_A hb (w_of m c) (wo_of m c) y
    · intro h; omega
    · intro y; rw [e]; dsimp only; exact (congrFun sout0_A y).trans (w_of m c y)
    · intro y; rw [e]; dsimp only; exact (congrFun sout1_A y).trans (wo_of m c y)
    · intro y; rw [e, Finset.sum_range_one]; dsimp only; exact sout3_A hb (w_of m c) y
  | succ n ih =>
    have hp := ih (by omega) (by omega)
    have hb := blk_of m c ⟨n + 1, hn⟩
    have h0 : ¬(n + 1) % 32 = 0 := by omega
    by_cases h2 : (n + 1) % 32 = 31
    · have e := outsAt0_C m c ⟨n + 1, hn⟩ h0 h0 h2
      dsimp only at e
      constructor
      · intro y; rw [e]; dsimp only; exact out4_C hb hp.s0 y
      · intro y; rw [e]; dsimp only; exact out5_C hb hp.s0 y
      · intro y; rw [e]; dsimp only; exact out6_C hb hp.s0 hp.s1 y
      · intro _ y
        rw [e]
        dsimp only
        refine (out7_C hb hp.s0 y).trans (Finset.sum_congr rfl fun s _ => ?_)
        rw [Finset.sum_range_succ _ (n + 1)]
        exact congrArg (· + _) (hp.s3 _)
      · intro y; rw [e]; dsimp only; exact hp.s0 y
      · intro y; rw [e]; dsimp only; exact hp.s1 y
      · intro y
        rw [e, Finset.sum_range_succ _ (n + 1)]
        dsimp only
        exact (sout3_C hb hp.s0 y).trans (congrArg (· + _) (hp.s3 y))
    · have e := outsAt0_B m c ⟨n + 1, hn⟩ h0 h0 h2
      dsimp only at e
      constructor
      · intro y; rw [e]; dsimp only; exact out4_B hb hp.s0 y
      · intro y; rw [e]; dsimp only; exact out5_B hb hp.s0 y
      · intro y; rw [e]; dsimp only; exact out6_B hb hp.s0 hp.s1 y
      · intro h; omega
      · intro y; rw [e]; dsimp only; exact hp.s0 y
      · intro y; rw [e]; dsimp only; exact hp.s1 y
      · intro y
        rw [e, Finset.sum_range_succ _ (n + 1)]
        dsimp only
        exact (sout3_B hb hp.s0 y).trans (congrArg (· + _) (hp.s3 y))

/-! ## The four results -/

/-- The gradient that reaches the residual. -/
theorem arr4 : (dats m 0 c).arrAt 4 cfg0.N = fun i : S8192x2048.Idx => TailFun.dh (arrs m c) (i 0).val (i 1).val := by
  refine (dats m 0 c).arrAt_eq_of_covers 4 _ (by decide +kernel) fun t hf y => ?_
  blk_simp
  rw [after0_4]
  refine ((state m c t.val t.isLt).o4 _).trans ?_
  exact congrArg₂ (TailFun.dh (arrs m c)) (by rw [(idx4 t).1, Nat.mul_comm]) (by rw [(idx4 t).2, Nat.zero_mul, Nat.zero_add])

/-- The gradient of the projection. -/
theorem arr5 : (dats m 0 c).arrAt 5 cfg0.N = fun i : S8192x2048.Idx => TailFun.dov (arrs m c) (i 0).val (i 1).val := by
  refine (dats m 0 c).arrAt_eq_of_covers 5 _ (by decide +kernel) fun t hf y => ?_
  blk_simp
  rw [after0_5]
  refine ((state m c t.val t.isLt).o5 _).trans ?_
  exact congrArg₂ (TailFun.dov (arrs m c)) (by rw [(idx5 t).1, Nat.mul_comm]) (by rw [(idx5 t).2, Nat.zero_mul, Nat.zero_add])

/-- The gradient of the projection's input. -/
theorem arr6 : (dats m 0 c).arrAt 6 cfg0.N = fun i : S8192x2048.Idx => TailFun.dy (arrs m c) (i 0).val (i 1).val := by
  refine (dats m 0 c).arrAt_eq_of_covers 6 _ (by decide +kernel) fun t hf y => ?_
  blk_simp
  rw [after0_6]
  refine ((state m c t.val t.isLt).o6 _).trans ?_
  exact congrArg₂ (TailFun.dy (arrs m c)) (by rw [(idx6 t).1, Nat.mul_comm]) (by rw [(idx6 t).2, Nat.zero_mul, Nat.zero_add])

/-- The accumulator's rows, summed over its eight rows and all points, are the sum over all rows. -/
theorem sum_acc (A : Arrs) (k : ℕ) :
    ∑ s : Fin 8, ∑ t ∈ Finset.range 32, accAdd A (256 * t) s.val k = TailFun.dg A k := by
  unfold TailFun.dg
  rw [Finset.sum_comm, ← Sums.range_blocks 256 (fun r => TailFun.dh A r k * TailFun.on A r k) 32]
  refine Finset.sum_congr rfl fun t _ => ?_
  rw [show (256 : ℕ) = 16 * 16 from rfl, ← Sums.range_lanes 8 16 rfl (fun r => TailFun.dh A (16 * 16 * t + r) k * TailFun.on A (16 * 16 * t + r) k) 16, Finset.sum_range]
  rfl

/-- The last point, the one that writes the scale's gradient back. -/
theorem flush7 : ∀ t : Fin cfg0.N, (cfg0.win 7).flush t = true → t.val = 31 :=
  (by decide +kernel : ∀ t : Fin grid0.N, _)

/-- The gradient of the scale. -/
theorem arr7 : (dats m 0 c).arrAt 7 cfg0.N = fun i : S1x2048.Idx => TailFun.dg (arrs m c) (i 1).val := by
  refine (dats m 0 c).arrAt_eq_of_covers 7 _ (by decide +kernel) fun t hf y => ?_
  have h31 := flush7 t hf
  blk_simp
  rw [after0_7]
  refine ((state m c t.val t.isLt).o7 h31 _).trans ?_
  rw [h31]
  refine (sum_acc (arrs m c) _).trans ?_
  exact congrArg (TailFun.dg (arrs m c)) (by rw [(idx7 t).2, Nat.zero_mul, Nat.zero_add])

end Cert.TailIdeal.Voc

end
-- ==== Proof.TailClaim.lean ====
/-
  The last stage's backward kernel against the derivative of the forward lines.

  The derivative that the reference takes has three terms for the norm: the gradient times the reciprocal root, and twice
  the gradient of the mean square. Read at a row and a column it is the kernel's factored form, since a mean square is
  not negative, so that its reciprocal root is a finite number and may be taken into and out of the sums.
-/
module

public import proofs.«01_k».proof.Defs
public import proofs.«01_k».proof.Proof.Reals
public import proofs.«01_k».proof.Proof.TailValue
public import proofs.«01_k».proof.Proof.Gen.TailIdeal.Value
public import proofs.«01_k».proof.Proof.Gen.TailRefIdeal.Read

@[expose] public section

set_option maxRecDepth 16384

noncomputable section

open Idealize.ShloMosaic Idealize.ShloMosaic.TcCoe Idealize.SL.Sem

namespace Cert.TailClaim

open Cert.TailRefIdeal Cert.TailRefIdeal.Gen Cert.TailRefIdeal.Read Cert.TailFun
open Cert.TailIdeal.Voc (ixA ixW ixG)

variable (x0 : S8192x2048.Idx → EReal) (x1 x2 : S8192x2048.Idx → EReal) (x3 x4 : S2048x2048.Idx → EReal) (x5 : S2048.Idx → EReal)

/-- An index is the pair of its coordinates. -/
theorem ixA_eta (i : S8192x2048.Idx) : ixA (i 0).val (i 1).val = i := by
  have h0 : (i 0).val < 8192 := (i 0).isLt
  have h1 : (i 1).val < 2048 := (i 1).isLt
  funext a; apply Fin.ext
  match a with
  | ⟨0, _⟩ => exact Nat.mod_eq_of_lt h0
  | ⟨1, _⟩ => exact Nat.mod_eq_of_lt h1

/-- Two indices with equal coordinates are equal. -/
theorem ix_ext (i j : S8192x2048.Idx) (h0 : (i 0).val = (j 0).val) (h1 : (i 1).val = (j 1).val) : i = j := by
  rw [← ixA_eta i, ← ixA_eta j, h0, h1]

theorem ixW_eta (i : S2048x2048.Idx) : ixW (i 0).val (i 1).val = i := by
  have h0 : (i 0).val < 2048 := (i 0).isLt
  have h1 : (i 1).val < 2048 := (i 1).isLt
  funext a; apply Fin.ext
  match a with
  | ⟨0, _⟩ => exact Nat.mod_eq_of_lt h0
  | ⟨1, _⟩ => exact Nat.mod_eq_of_lt h1

/-- The index `q` of the scale. -/
abbrev ixS (q : ℕ) : S2048.Idx := fun a => match a with
  | ⟨0, _⟩ => Fin.ofNat 2048 q

/-- The reference's arguments and its projection, at a row and a column. -/
def refArrs : Arrs where
  d2 r k := x0 (ixA r k)
  gl r k := x1 (ixA r k)
  ob r k := val_main_v2 (F := Ideal) x2 x4 (ixA r k)
  w r k := x3 (ixW r k)
  wo r k := x4 (ixW r k)
  g k := x5 (ixS k)

/-- The reference's gradient of the residual. -/
theorem v25_apply (i : S8192x2048.Idx) : val_main_v25 (F := Ideal) x0 x1 x3 i = dh (refArrs x0 x1 x2 x3 x4 x5) (i 0).val (i 1).val := by
  rw [val_main_v25_apply, val_main_v24_apply]
  show x0 i + _ = x0 _ + _
  rw [ixA_eta, Finset.sum_range]
  refine congrArg (x0 i + ·) (Finset.sum_congr rfl fun k _ => congrArg₂ (· * ·) ?_ ?_)
  · show x1 _ = x1 _
    exact congrArg x1 (by rw [← ixA_eta (lidx_main_v24 i k)])
  · show x3 _ = x3 _
    exact congrArg x3 (by rw [← ixW_eta (ridx_main_v24 i k)])

theorem v26_apply (i : S8192x2048.Idx) : val_main_v26 (F := Ideal) x0 x1 x3 i = dh (refArrs x0 x1 x2 x3 x4 x5) (i 0).val (i 1).val := by
  have h0 : (i 0).val < 8192 := (i 0).isLt
  have h1 : (i 1).val < 2048 := (i 1).isLt
  rw [val_main_v26_apply, show idx_main_v26 i = i from ix_ext _ _ (by show ((i 0).val * 2048 + (i 1).val) / 2048 = _; omega) (by show ((i 0).val * 2048 + (i 1).val) % 2048 = _; omega)]
  exact v25_apply x0 x1 x2 x3 x4 x5 i

theorem v27_apply (i : S8192x2048.Idx) : val_main_v27 (F := Ideal) x0 x1 x3 i = dh (refArrs x0 x1 x2 x3 x4 x5) (i 0).val (i 1).val :=
  v26_apply x0 x1 x2 x3 x4 x5 i

theorem v2_eq (i : S8192x2048.Idx) : val_main_v2 (F := Ideal) x2 x4 i = (refArrs x0 x1 x2 x3 x4 x5).ob (i 0).val (i 1).val := by
  show _ = val_main_v2 (F := Ideal) x2 x4 (ixA _ _)
  rw [ixA_eta]

/-- The sum of a row's squares. -/
theorem v5_apply (i : S8192.Idx) : val_main_v5 (F := Ideal) x2 x4 i = ∑ k ∈ Finset.range 2048, (refArrs x0 x1 x2 x3 x4 x5).ob (i 0).val k * (refArrs x0 x1 x2 x3 x4 x5).ob (i 0).val k := by
  rw [val_main_v5_apply, Finset.sum_range]
  have e : (val_main_cst_0 (F := Ideal)) (Shape.Idx.first h_S_) = (0 : EReal) := Ideal.ofBits_zero_f32
  rw [e]
  refine (zero_add _).trans (Finset.sum_congr rfl fun k _ => ?_)
  show val_main_v2 (F := Ideal) x2 x4 _ * val_main_v2 (F := Ideal) x2 x4 _ = _
  rw [v2_eq x0 x1 x2 x3 x4 x5]

/-- A row's mean square plus the constant. -/
theorem v10_apply (i : S8192x1.Idx) : val_main_v10 (F := Ideal) x2 x4 i
    = Ideal.div (∑ k ∈ Finset.range 2048, (refArrs x0 x1 x2 x3 x4 x5).ob (i 0).val k * (refArrs x0 x1 x2 x3 x4 x5).ob (i 0).val k) (Ideal.ofBits .f32 0x45000000#32) + Ideal.ofBits .f32 0x358637BD#32 := by
  rw [val_main_v10_apply, val_main_v8_apply, val_main_v6_apply, v5_apply x0 x1 x2 x3 x4 x5]
  rfl

theorem v11_apply (i : S8192x1.Idx) : val_main_v11 (F := Ideal) x2 x4 i = rr (refArrs x0 x1 x2 x3 x4 x5) (i 0).val := by
  rw [val_main_v11_apply, v10_apply x0 x1 x2 x3 x4 x5]
  rfl

/-- The normalised value. -/
theorem v16_apply (i : S8192x2048.Idx) : val_main_v16 (F := Ideal) x2 x4 i = on (refArrs x0 x1 x2 x3 x4 x5) (i 0).val (i 1).val := by
  rw [val_main_v16_apply, val_main_v15_apply, v11_apply x0 x1 x2 x3 x4 x5, v2_eq x0 x1 x2 x3 x4 x5]
  rfl

theorem v51_apply (i : S1x2048.Idx) : val_main_v51 (F := Ideal) x0 x1 x2 x3 x4 i = dg (refArrs x0 x1 x2 x3 x4 x5) (i 1).val := by
  have h0 : (i 0).val < 1 := (i 0).isLt
  have h1 : (i 1).val < 2048 := (i 1).isLt
  rw [val_main_v51_apply, val_main_v33_apply, Fin.sum_univ_one, val_main_v30_apply, val_main_v29_apply]
  have e5 : (val_main_cst_5 (F := Ideal)) (Shape.Idx.first h_S_) = (0 : EReal) := Ideal.ofBits_zero_f32
  have e4 : (val_main_cst_4 (F := Ideal)) (Shape.Idx.first h_S_) = (0 : EReal) := Ideal.ofBits_zero_f32
  rw [e5, e4]
  refine (zero_add _).trans ((zero_add _).trans ?_)
  unfold dg
  rw [Finset.sum_range]
  refine Finset.sum_congr rfl fun k _ => ?_
  rw [val_main_v28_apply, v16_apply x0 x1 x2 x3 x4 x5, v27_apply x0 x1 x2 x3 x4 x5]
  refine (mul_comm _ _).trans ?_
  generalize hj : idx_main_v29 _ k = j
  have e0 : (j 0).val = k.val := by rw [← hj]
  have e1 : (j 1).val = (i 1).val := by
    rw [← hj]
    show 0 * 2048 + ((i 0).val * 2048 + (i 1).val) = _
    omega
  rw [e0, e1]

/-- The gradient of the normalised value. -/
theorem v32_apply (i : S8192x2048.Idx) : val_main_v32 (F := Ideal) x0 x1 x3 x5 i = dh (refArrs x0 x1 x2 x3 x4 x5) (i 0).val (i 1).val * (refArrs x0 x1 x2 x3 x4 x5).g (i 1).val := by
  rw [val_main_v32_apply, v27_apply x0 x1 x2 x3 x4 x5, val_main_v31_apply, val_main_v17_apply]
  refine congrArg (dh (refArrs x0 x1 x2 x3 x4 x5) (i 0).val (i 1).val * ·) (congrArg x5 ?_)
  have h1 : (i 1).val < 2048 := (i 1).isLt
  funext a; apply Fin.ext
  match a with
  | ⟨0, _⟩ => exact (Nat.mod_eq_of_lt h1).symm

theorem v35_apply (i : S8192.Idx) : val_main_v35 (F := Ideal) x0 x1 x2 x3 x4 x5 i
    = ∑ k ∈ Finset.range 2048, (refArrs x0 x1 x2 x3 x4 x5).ob (i 0).val k * (dh (refArrs x0 x1 x2 x3 x4 x5) (i 0).val k * (refArrs x0 x1 x2 x3 x4 x5).g k) := by
  rw [val_main_v35_apply, Finset.sum_range]
  have e : (val_main_cst_6 (F := Ideal)) (Shape.Idx.first h_S_) = (0 : EReal) := Ideal.ofBits_zero_f32
  rw [e]
  refine (zero_add _).trans (Finset.sum_congr rfl fun k _ => ?_)
  rw [val_main_v34_apply, v32_apply x0 x1 x2 x3 x4 x5, v2_eq x0 x1 x2 x3 x4 x5]
  rfl

theorem v43_apply (i : S8192x2048.Idx) : val_main_v43 (F := Ideal) x0 x1 x2 x3 x4 x5 i
    = Ideal.div ((∑ k ∈ Finset.range 2048, (refArrs x0 x1 x2 x3 x4 x5).ob (i 0).val k * (dh (refArrs x0 x1 x2 x3 x4 x5) (i 0).val k * (refArrs x0 x1 x2 x3 x4 x5).g k))
        * (Ideal.ofBits .f32 0xBF000000#32 * Ideal.div (rr (refArrs x0 x1 x2 x3 x4 x5) (i 0).val)
            (Ideal.div (∑ k ∈ Finset.range 2048, (refArrs x0 x1 x2 x3 x4 x5).ob (i 0).val k * (refArrs x0 x1 x2 x3 x4 x5).ob (i 0).val k) (Ideal.ofBits .f32 0x45000000#32) + Ideal.ofBits .f32 0x358637BD#32)))
        (Ideal.ofBits .f32 0x45000000#32) := by
  rw [val_main_v43_apply, val_main_v42_apply, Fin.sum_univ_one]
  have e : (val_main_cst_8 (F := Ideal)) (Shape.Idx.first h_S_) = (0 : EReal) := Ideal.ofBits_zero_f32
  rw [e]
  refine (zero_add _).trans ?_
  generalize hj : idx_main_v42 (idx_main_v43 i) 0 = j
  have e0 : (j 0).val = (i 0).val := by rw [← hj]
  have e1 : ((idx_main_v36 j) 0).val = (i 0).val := by
    rw [← hj]
    show (i 0).val * 1 + 0 = _
    omega
  rw [val_main_v41_apply, val_main_v39_apply, val_main_v36_apply, val_main_v14_apply, val_main_v12_apply,
    v35_apply x0 x1 x2 x3 x4 x5, v11_apply x0 x1 x2 x3 x4 x5, v10_apply x0 x1 x2 x3 x4 x5, e0, e1]
  rfl

/-- The kernel's row sum has the reciprocal root inside. -/
theorem mm_eq (B : Arrs) (r : ℕ) (q : ℝ) (hq : 0 ≤ q) (h : rr B r = (q : EReal)) :
    mm B r = (∑ k ∈ Finset.range 2048, B.ob r k * (dh B r k * B.g k)) * (q : EReal) * Ideal.ofBits .f32 0x3A000000#32 := by
  unfold mm
  rw [Reals.sum_mul _ _ q hq]
  refine congrArg (· * _) (Finset.sum_congr rfl fun k _ => ?_)
  unfold pr on
  rw [h]
  ac_rfl

/-- The reference's gradient of the projected value. -/
theorem v47_apply (i : S8192x2048.Idx) : val_main_v47 (F := Ideal) x0 x1 x2 x3 x4 x5 i = dov (refArrs x0 x1 x2 x3 x4 x5) (i 0).val (i 1).val := by
  rw [val_main_v47_apply, val_main_v46_apply, val_main_v45_apply, val_main_v44_apply, val_main_v38_apply, val_main_v37_apply,
    v43_apply x0 x1 x2 x3 x4 x5, v32_apply x0 x1 x2 x3 x4 x5, v11_apply x0 x1 x2 x3 x4 x5, v2_eq x0 x1 x2 x3 x4 x5]
  obtain ⟨q, hq, h1, h2⟩ := Reals.rsqrt_mean (∑ k ∈ Finset.range 2048, (refArrs x0 x1 x2 x3 x4 x5).ob (i 0).val k * (refArrs x0 x1 x2 x3 x4 x5).ob (i 0).val k)
    (Finset.sum_nonneg fun k _ => Reals.sq_nonneg _)
  have hr : rr (refArrs x0 x1 x2 x3 x4 x5) (i 0).val = (q : EReal) := h1
  rw [hr, h2]
  unfold dov on
  rw [mm_eq (refArrs x0 x1 x2 x3 x4 x5) _ q hq hr, hr, Reals.norm_grad q hq]
  rfl

theorem v48_apply (i : S8192x2048.Idx) : val_main_v48 (F := Ideal) x0 x1 x2 x3 x4 x5 i = dov (refArrs x0 x1 x2 x3 x4 x5) (i 0).val (i 1).val :=
  v47_apply x0 x1 x2 x3 x4 x5 i

theorem v50_apply (i : S8192x2048.Idx) : val_main_v50 (F := Ideal) x0 x1 x2 x3 x4 x5 i = dy (refArrs x0 x1 x2 x3 x4 x5) (i 0).val (i 1).val := by
  rw [val_main_v50_apply]
  show val_main_v49 (F := Ideal) x0 x1 x2 x3 x4 x5 i = _
  rw [val_main_v49_apply]
  unfold dy
  rw [Finset.sum_range]
  refine Finset.sum_congr rfl fun k _ => congrArg₂ (· * ·) ?_ ?_
  · exact v47_apply x0 x1 x2 x3 x4 x5 _
  · show x4 _ = x4 _
    exact congrArg x4 (by rw [← ixW_eta (ridx_main_v49 i k)])

end Cert.TailClaim

namespace Cert.TailClaim

open Cert.TailIdeal Cert.TailIdeal.Gen

variable (m : (ℓ : Loc nD τ sig) → Buf (Elt Ideal) ℓ) (c : Dev nD)

/-- The projection the host prepares for the kernel is the reference's own line. -/
theorem V3_eq : (V m c main_v3 : S8192x2048.Idx → EReal)
    = Cert.TailRefIdeal.Read.val_main_v2 (F := Ideal) (m ((c.tc : Thread nD τ).loc main_arg2)) (m ((c.tc : Thread nD τ).loc main_arg4)) := by
  unfold_abbrev_sides
  after_results
  rfl

/-- The host hands the kernel the scale as one row. -/
theorem V4_apply (q : ℕ) : (V m c main_v4 : S1x2048.Idx → EReal) (Voc.ixG q)
    = (m ((c.tc : Thread nD τ).loc main_arg5) : S2048.Idx → EReal) (ixS q) := by
  have e : (V m c main_v4 : S1x2048.Idx → EReal)
      = shapeCast S1x2048 (m ((c.tc : Thread nD τ).loc main_arg5) : S2048.Idx → EReal) shapeCasts_S2048_S1x2048 := by
    unfold_abbrev_sides
    after_results
    rfl
  rw [e]
  generalize (m ((c.tc : Thread nD τ).loc main_arg5) : S2048.Idx → EReal) = y
  refine shapeCast_apply (s := S2048) y _ _ _ ?_
  rewrite [Shape.rowMajor_val_one, Shape.rowMajor_val_two]
  show q % 2048 = 0 * 2048 + q % 2048
  omega

/-- What the launch reads is what the reference reads. -/
theorem arrs_eq : Voc.arrs m c = refArrs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Voc.arrs refArrs
  rw [V3_eq]
  congr 1
  funext k
  exact V4_apply m c k

/-- The last stage's backward kernel and the derivative of the forward lines end with equal results from equal arguments. -/
theorem algebraic : Cert.algebraic_TailIdeal_TailRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.TailIdeal.Value.run_blocks (F := Ideal) m ρ, ?_⟩
  refine (θ_run Cert.TailRefIdeal.defs _ _).mono (fun _ h c => ⟨(h c).1.trans ?_, (h c).2.1.trans ?_, (h c).2.2.1.trans ?_, (h c).2.2.2.1.trans ?_, (h c).2.2.2.2⟩)
    (Cert.TailRefIdeal.Value.run (F := Ideal) m' ρ')
  all_goals obtain ⟨h0, h1, h2, h3, h4, h5⟩ := hagree c
  · rw [h0, h1, h3, Cert.TailRefIdeal.Read.val_main_v26_eq]
    show _ = (dats m 0 c).arrAt 4 cfg0.N
    rw [Voc.arr4, arrs_eq]
    funext i
    exact v26_apply _ _ _ _ _ _ i
  · rw [Cert.TailRefIdeal.Read.val_main_v48_eq, h0, h1, h2, h3, h4, h5]
    show _ = (dats m 0 c).arrAt 5 cfg0.N
    rw [Voc.arr5, arrs_eq]
    funext i
    exact v48_apply _ _ _ _ _ _ i
  · rw [Cert.TailRefIdeal.Read.val_main_v50_eq, h0, h1, h2, h3, h4, h5]
    show _ = (dats m 0 c).arrAt 6 cfg0.N
    rw [Voc.arr6, arrs_eq]
    funext i
    exact v50_apply _ _ _ _ _ _ i
  · rw [h0, h1, h2, h3, h4, Cert.TailRefIdeal.Read.val_main_v51_eq]
    show _ = (dats m 0 c).arrAt 7 cfg0.N
    rw [Voc.arr7, arrs_eq]
    funext i
    exact v51_apply _ _ _ _ _ _ i

end Cert.TailClaim

end
-- ==== Proof.PleVoc.lean ====
/-
  The text of one grid point of the gate and the loss, in its own terms: what a point stores, as functions of what it
  loads.

  The body goes through eight column blocks of 256, in each through sixteen row groups of 16. For a column block it stores
  the embedding's product and the gate's product; for a row group in it the gradient of the residual, the gradient of the
  embedding's product, and the gradient of the gate's product, and it adds the squared errors to an accumulator of eight
  rows. At the end it adds the embedding's weight gradient to a second accumulator.
-/
module

public import proofs.«01_k».proof.Proof.Gen.PleIdeal.Frame

@[expose] public section

set_option maxRecDepth 16384

noncomputable section

open Idealize.ShloMosaic Idealize.ShloMosaic.TcCoe Idealize.SL.Sem

namespace Cert.PleIdeal.Voc

open Cert.PleIdeal Cert.PleIdeal.Gen

variable {F : FTy → Type} [FloatOps F]

theorem inbT (q j : ℕ) : ∀ a, (![16 * (q % 16), 256 * (j % 8)] : Fin 2 → ℕ) a + S16x256.size a ≤ S256x2048.size a := fun a => by
  have := Nat.mod_lt q (show 0 < 16 by decide); have := Nat.mod_lt j (show 0 < 8 by decide)
  fin_cases a
  · show 16 * (q % 16) + 16 ≤ 256; omega
  · show 256 * (j % 8) + 256 ≤ 2048; omega

theorem inbC (j : ℕ) : ∀ a, (![0, 256 * (j % 8)] : Fin 2 → ℕ) a + S256x256.size a ≤ S256x2048.size a := fun a => by
  have := Nat.mod_lt j (show 0 < 8 by decide)
  fin_cases a
  · show 0 + 256 ≤ 256; omega
  · show 256 * (j % 8) + 256 ≤ 2048; omega

theorem inbA (j : ℕ) : ∀ a, (![0, 256 * (j % 8)] : Fin 2 → ℕ) a + S8x256.size a ≤ S8x2048.size a := fun a => by
  have := Nat.mod_lt j (show 0 < 8 by decide)
  fin_cases a
  · show 0 + 8 ≤ 8; omega
  · show 256 * (j % 8) + 256 ≤ 2048; omega

theorem inbW (j : ℕ) : ∀ a, (![0, 256 * (j % 8)] : Fin 2 → ℕ) a + S2048x256.size a ≤ S2048x2048.size a := fun a => by
  have := Nat.mod_lt j (show 0 < 8 by decide)
  fin_cases a
  · show 0 + 2048 ≤ 2048; omega
  · show 256 * (j % 8) + 256 ≤ 2048; omega

theorem inbE (j : ℕ) : ∀ a, (![j % 8, 0, 0] : Fin 3 → ℕ) a + S1x256x256.size a ≤ S8x256x256.size a := fun a => by
  have := Nat.mod_lt j (show 0 < 8 by decide)
  fin_cases a
  · show j % 8 + 1 ≤ 8; omega
  · show 0 + 256 ≤ 256; omega
  · show 0 + 256 ≤ 256; omega

/-- The block of row group `q` and column block `j`. -/
abbrev rT (q j : ℕ) : Rect S256x2048 := Rect.unit (s := S256x2048) ![16 * (q % 16), 256 * (j % 8)] S16x256.size (inbT q j)
/-- Column block `j`, all rows. -/
abbrev rC (j : ℕ) : Rect S256x2048 := Rect.unit (s := S256x2048) ![0, 256 * (j % 8)] S256x256.size (inbC j)
/-- Column block `j` of the accumulator. -/
abbrev rA (j : ℕ) : Rect S8x2048 := Rect.unit (s := S8x2048) ![0, 256 * (j % 8)] S8x256.size (inbA j)
/-- Column block `j` of the gate's weight. -/
abbrev rW (j : ℕ) : Rect S2048x2048 := Rect.unit (s := S2048x2048) ![0, 256 * (j % 8)] S2048x256.size (inbW j)
/-- Slab `j` of the embedding's weight. -/
abbrev rE (j : ℕ) : Rect S8x256x256 := Rect.unit (s := S8x256x256) ![j % 8, 0, 0] S1x256x256.size (inbE j)
/-- The whole of a block, of the embedding's rows, of an accumulator. -/
abbrev rB : Rect S256x2048 := Rect.unit (s := S256x2048) ![0, 0] S256x2048.size inb_S256x2048_S256x2048_0_0
abbrev rP : Rect S256x256 := Rect.unit (s := S256x256) ![0, 0] S256x256.size inb_S256x256_S256x256_0_0
abbrev r8 : Rect S8x2048 := Rect.unit (s := S8x2048) ![0, 0] S8x2048.size inb_S8x2048_S8x2048_0_0
abbrev rL : Rect S8x128 := Rect.unit (s := S8x128) ![0, 0] S8x128.size inb_S8x128_S8x128_0_0

/-- What a point reads: blocks of the residual and of the target, the residual whole, the embedding's rows and its weight's
    slabs, the gate's weight by column blocks, and buffers given the blocks stored in them before: the residual cast, the
    accumulator, the two products, the embedding's gradient, and the second accumulator. -/
structure Ld (F : FTy → Type) where
  h1 : ℕ → ℕ → Vec F S16x256 .f32
  tg : ℕ → ℕ → Vec F S16x256 .f32
  hw : Vec F S256x2048 .f32
  p : Vec F S256x256 .f32
  wpe : ℕ → Vec F S1x256x256 .bf16
  w : ℕ → Vec F S2048x256 .bf16
  hb : List (View.Piece (Elt F) S256x2048 .bf16) → Vec F S256x2048 .bf16
  a0 : List (View.Piece (Elt F) S8x2048 .f32) → ℕ → Vec F S8x256 .f32
  pe0 : List (View.Piece (Elt F) S256x2048 .f32) → ℕ → ℕ → Vec F S16x256 .f32
  gl0 : List (View.Piece (Elt F) S256x2048 .f32) → ℕ → ℕ → Vec F S16x256 .f32
  dp0 : List (View.Piece (Elt F) S256x2048 .bf16) → Vec F S256x2048 .bf16
  g0 : Vec F S256x2048 .f32

variable (c : Ld F)

/-- The residual cast, as stored. -/
def l6 : List (View.Piece (Elt F) S256x2048 .bf16) := [⟨rB, truncf .bf16 c.hw bitsLt_bf16_f32⟩]

/-- The embedding's rows cast. -/
def pb : FVec F S256x256 .bf16 := truncf .bf16 c.p bitsLt_bf16_f32

/-- A block of the embedding's product, -/
def pev (j : ℕ) : FVec F S256x256 .f32 :=
  shapeCast S256x256 (matmul dot_S256x256_S256x256_S256x256_1_0_0_1_n_n none (pb c) (shapeCast S256x256 (c.wpe j) shapeCasts_S1x256x256_S256x256)
    (constant S256x256 .f32 0x00000000#32)) shapeCasts_S256x256_S256x256

/-- and of the gate's. -/
def glv (j : ℕ) : FVec F S256x256 .f32 :=
  shapeCast S256x256 (matmul dot_S256x2048_S2048x256_S256x256_1_0_0_1_n_n none (shapeCast S256x2048 (c.hb (l6 c)) shapeCasts_S256x2048_S256x2048) (c.w j)
    (constant S256x256 .f32 0x00000000#32)) shapeCasts_S256x256_S256x256

/-- The first `n` blocks of each as stored, the last store first. -/
def pl (n : ℕ) : List (View.Piece (Elt F) S256x2048 .f32) := Nat.rec [] (fun j L => ⟨rC j, pev c j⟩ :: L) n
def gll (n : ℕ) : List (View.Piece (Elt F) S256x2048 .f32) := Nat.rec [] (fun j L => ⟨rC j, glv c j⟩ :: L) n

/-- A block of the embedding's product as read back. -/
def pe (q j : ℕ) : FVec F S16x256 .f32 := c.pe0 (pl c (j + 1)) q j

/-- The gate. -/
def gt (q j : ℕ) : FVec F S16x256 .f32 :=
  addf (mulf (broadcast S16x256 (Scalar.ofBits .f32 0x3F000000#32))
    (tanh (mulf (broadcast S16x256 (Scalar.ofBits .f32 0x3F000000#32)) (c.gl0 (gll c (j + 1)) q j))))
    (broadcast S16x256 (Scalar.ofBits .f32 0x3F000000#32))

/-- The error. -/
def er (q j : ℕ) : FVec F S16x256 .f32 := subf (addf (c.h1 q j) (mulf (pe c q j) (gt c q j))) (c.tg q j)

/-- The residual's gradient, -/
def dh2 (q j : ℕ) : FVec F S16x256 .f32 := mulf (er c q j) (broadcast S16x256 (Scalar.ofBits .f32 0x3A000000#32))

/-- the embedding product's, -/
def dpe (q j : ℕ) : FVec F S16x256 .bf16 :=
  shapeCast S16x256 (truncf .bf16 (mulf (dh2 c q j) (gt c q j)) bitsLt_bf16_f32) shapeCasts_S16x256_S16x256

/-- and the gate product's. -/
def dgl (q j : ℕ) : FVec F S16x256 .bf16 :=
  truncf .bf16 (mulf (mulf (mulf (dh2 c q j) (pe c q j)) (gt c q j))
    (subf (broadcast S16x256 (Scalar.ofBits .f32 0x3F800000#32)) (gt c q j))) bitsLt_bf16_f32

/-- A row group's squared errors, folded onto 8 rows. -/
def fold (q j : ℕ) : FVec F S8x256 .f32 :=
  addf (extractStridedSlice S8x256 ![0, 0] (mulf (er c q j) (er c q j)) slices_S16x256_o0_0_S8x256)
    (extractStridedSlice S8x256 ![8, 0] (mulf (er c q j) (er c q j)) slices_S16x256_o8_0_S8x256)

/-- The accumulator's block after the first `n` row groups. -/
def acc (x : FVec F S8x256 .f32) (j n : ℕ) : FVec F S8x256 .f32 := Nat.rec x (fun q a => addf a (fold c q j)) n

/-- The first `n` blocks of the accumulator as stored over `base`. -/
def sl (base : List (View.Piece (Elt F) S8x2048 .f32)) (n : ℕ) : List (View.Piece (Elt F) S8x2048 .f32) :=
  Nat.rec base (fun j L => ⟨rA j, shapeCast S8x256 (acc c (c.a0 L j) j 16) shapeCasts_S8x256_S8x256⟩ :: L) n

/-- The first `n` blocks of the three gradients as stored: column block by column block, in each the row groups. -/
def l4 (n : ℕ) : List (View.Piece (Elt F) S256x2048 .f32) :=
  Nat.rec [] (fun k L => ⟨rT (k % 16) (k / 16), dh2 c (k % 16) (k / 16)⟩ :: L) n
def l5 (n : ℕ) : List (View.Piece (Elt F) S256x2048 .bf16) :=
  Nat.rec [] (fun k L => ⟨rT (k % 16) (k / 16), dgl c (k % 16) (k / 16)⟩ :: L) n
def ld (n : ℕ) : List (View.Piece (Elt F) S256x2048 .bf16) :=
  Nat.rec [] (fun k L => ⟨rT (k % 16) (k / 16), dpe c (k % 16) (k / 16)⟩ :: L) n

/-- The second accumulator with the point's part of the embedding's weight gradient. -/
def gn : FVec F S256x2048 .f32 :=
  shapeCast S256x2048 (addf c.g0 (matmul dot_S256x256_S256x2048_S256x2048_0_0_1_1_n_n none (pb c) (c.dp0 (ld c 128)) (constant S256x2048 .f32 0x00000000#32)))
    shapeCasts_S256x2048_S256x2048

/-- A slab of the embedding's weight gradient, from its block of the second accumulator. -/
def ev (v : Vec F S256x256 .f32) : FVec F S1x256x256 .bf16 := shapeCast S1x256x256 (truncf .bf16 v bitsLt_bf16_f32) shapeCasts_S256x256_S1x256x256

/-- The first `n` slabs as stored. -/
def l8 (x : ℕ → Vec F S256x256 .f32) (n : ℕ) : List (View.Piece (Elt F) S8x256x256 .bf16) :=
  Nat.rec [] (fun j L => ⟨rE j, ev (x j)⟩ :: L) n

end Cert.PleIdeal.Voc

end
-- ==== Proof.PleFun.lean ====
/-
  The gate, the loss and their gradients as functions of rows and columns, over the extended reals, in the kernel's own
  grouping of factors. `h1` is the residual, `p` the embedding's rows, `tg` the target, `w` the gate's weight and `wpe` the
  embedding's, laid out with its slabs side by side.
-/
module

public import Idealize.ShloMosaic.Lib.IdealHost
public import proofs.«01_k».proof.Proof.Sums

@[expose] public section

noncomputable section

open Idealize.ShloMosaic

namespace Cert.PleFun

/-- The arguments at a row and a column. -/
structure Arrs where
  h1 : ℕ → ℕ → EReal
  p : ℕ → ℕ → EReal
  tg : ℕ → ℕ → EReal
  w : ℕ → ℕ → EReal
  wpe : ℕ → ℕ → EReal

variable (A : Arrs)

/-- The gate's product, -/
def gl (r k : ℕ) : EReal := ∑ l ∈ Finset.range 2048, A.h1 r l * A.w l k

/-- and the embedding's. -/
def pe (r k : ℕ) : EReal := ∑ l ∈ Finset.range 256, A.p r l * A.wpe l k

/-- The gate, a logistic function written by the hyperbolic tangent. -/
def gt (r k : ℕ) : EReal :=
  Ideal.ofBits .f32 0x3F000000#32 * Ideal.tanh (Ideal.ofBits .f32 0x3F000000#32 * gl A r k) + Ideal.ofBits .f32 0x3F000000#32

/-- The error. -/
def er (r k : ℕ) : EReal := A.h1 r k + pe A r k * gt A r k - A.tg r k

/-- The residual's gradient, -/
def dh2 (r k : ℕ) : EReal := er A r k * Ideal.ofBits .f32 0x3A000000#32

/-- the embedding product's, -/
def dpe (r k : ℕ) : EReal := dh2 A r k * gt A r k

/-- and the gate product's. -/
def dgl (r k : ℕ) : EReal := dh2 A r k * pe A r k * gt A r k * (Ideal.ofBits .f32 0x3F800000#32 - gt A r k)

/-- The squared error. -/
def sq (r k : ℕ) : EReal := er A r k * er A r k

/-- The loss. -/
def loss : EReal := Ideal.ofBits .f32 0x39800000#32 * ∑ k ∈ Finset.range 2048, ∑ r ∈ Finset.range 8192, sq A r k

/-- The gradient of the embedding's weight. -/
def dw (l k : ℕ) : EReal := ∑ r ∈ Finset.range 8192, A.p r l * dpe A r k

end Cert.PleFun

end
-- ==== Proof.PlePoint.lean ====
/-
  What one grid point of the gate and the loss stores, over the extended reals.

  If the loads of a point whose rows start at `b` read the arguments there (`Reads`), then each quantity of the point is
  the function of `PleFun` at the row `b + …` and the column it stands for.
-/
module

public import proofs.«01_k».proof.Proof.PleVoc
public import proofs.«01_k».proof.Proof.PleFun
public import Idealize.ShloMosaic.Lib.Pointwise
public import Idealize.ShloMosaic.Lib.Pointwise.Contract
public import Idealize.ShloMosaic.Lib.WritesUnit

@[expose] public section

set_option maxRecDepth 16384

noncomputable section

open Idealize.ShloMosaic Idealize.ShloMosaic.TcCoe Idealize.SL.Sem

namespace Cert.PleIdeal.Voc

open Cert.PleIdeal Cert.PleIdeal.Gen Cert.PleFun

/-- The loads of a point whose rows start at `b` read the arguments `A`; a load of a buffer just written reads the
    function that all the blocks stored there restrict. -/
structure Reads (c : Ld Ideal) (A : Arrs) (b : ℕ) : Prop where
  h1 : ∀ q j x, c.h1 q j x = A.h1 (b + (16 * (q % 16) + (x 0).val)) (256 * (j % 8) + (x 1).val)
  tg : ∀ q j x, c.tg q j x = A.tg (b + (16 * (q % 16) + (x 0).val)) (256 * (j % 8) + (x 1).val)
  hw : ∀ x, c.hw x = A.h1 (b + (x 0).val) (x 1).val
  p : ∀ x, c.p x = A.p (b + (x 0).val) (x 1).val
  wpe : ∀ j x, c.wpe j x = A.wpe (x 1).val (256 * (j % 8) + (x 2).val)
  w : ∀ j x, c.w j x = A.w (x 0).val (256 * (j % 8) + (x 1).val)
  hb : ∀ (T : S256x2048.Idx → EReal) (L : List (View.Piece (Elt Ideal) S256x2048 .bf16)),
    (∀ p ∈ L, ∀ x, p.2 x = T (p.1.emb x)) → ∀ x, (∃ p ∈ L, rB.emb x ∈ p.1.set) → c.hb L x = T (rB.emb x)
  pe0 : ∀ (T : S256x2048.Idx → EReal) (L : List (View.Piece (Elt Ideal) S256x2048 .f32)),
    (∀ p ∈ L, ∀ x, p.2 x = T (p.1.emb x)) → ∀ q j x, (∃ p ∈ L, (rT q j).emb x ∈ p.1.set) → c.pe0 L q j x = T ((rT q j).emb x)
  gl0 : ∀ (T : S256x2048.Idx → EReal) (L : List (View.Piece (Elt Ideal) S256x2048 .f32)),
    (∀ p ∈ L, ∀ x, p.2 x = T (p.1.emb x)) → ∀ q j x, (∃ p ∈ L, (rT q j).emb x ∈ p.1.set) → c.gl0 L q j x = T ((rT q j).emb x)
  dp0 : ∀ (T : S256x2048.Idx → EReal) (L : List (View.Piece (Elt Ideal) S256x2048 .bf16)),
    (∀ p ∈ L, ∀ x, p.2 x = T (p.1.emb x)) → ∀ x, (∃ p ∈ L, rB.emb x ∈ p.1.set) → c.dp0 L x = T (rB.emb x)

/-- A function of the row and the column over a point's block. -/
def blkF (f : ℕ → ℕ → EReal) (b : ℕ) (y : S256x2048.Idx) : EReal := f (b + (y 0).val) (y 1).val

theorem blkF_B (f : ℕ → ℕ → EReal) (b : ℕ) (x : S256x2048.Idx) : blkF f b (rB.emb x) = blkF f b x := by
  show f (b + (0 + 1 * (x 0).val)) (0 + 1 * (x 1).val) = _
  rw [Nat.one_mul, Nat.one_mul, Nat.zero_add, Nat.zero_add]
  rfl

theorem blkF_T (f : ℕ → ℕ → EReal) (b q j : ℕ) (x : S16x256.Idx) :
    blkF f b ((rT q j).emb x) = f (b + (16 * (q % 16) + (x 0).val)) (256 * (j % 8) + (x 1).val) := by
  show f (b + (16 * (q % 16) + 1 * (x 0).val)) (256 * (j % 8) + 1 * (x 1).val) = _
  rw [Nat.one_mul, Nat.one_mul]

theorem blkF_C (f : ℕ → ℕ → EReal) (b j : ℕ) (x : S256x256.Idx) :
    blkF f b ((rC j).emb x) = f (b + (x 0).val) (256 * (j % 8) + (x 1).val) := by
  show f (b + (0 + 1 * (x 0).val)) (256 * (j % 8) + 1 * (x 1).val) = _
  rw [Nat.one_mul, Nat.one_mul, Nat.zero_add]

theorem mem_B (y : S256x2048.Idx) : y ∈ rB.set := (LoadRect.mem_set _).mpr fun a => by
  match a with
  | ⟨0, _⟩ => exact ⟨(y 0).val, (y 0).isLt, by show (y 0).val = 0 + 1 * (y 0).val; omega⟩
  | ⟨1, _⟩ => exact ⟨(y 1).val, (y 1).isLt, by show (y 1).val = 0 + 1 * (y 1).val; omega⟩

theorem mem_C (q j : ℕ) (x : S16x256.Idx) : (rT q j).emb x ∈ (rC j).set := by
  have h0 : (x 0).val < 16 := (x 0).isLt
  have h1 : (x 1).val < 256 := (x 1).isLt
  have hq := Nat.mod_lt q (show 0 < 16 by decide)
  refine (LoadRect.mem_set _).mpr fun a => ?_
  match a with
  | ⟨0, _⟩ => exact ⟨16 * (q % 16) + (x 0).val, by show _ < 256; omega, by show 16 * (q % 16) + 1 * (x 0).val = 0 + 1 * _; omega⟩
  | ⟨1, _⟩ => exact ⟨(x 1).val, h1, rfl⟩

variable {c : Ld Ideal} {A : Arrs} {b : ℕ} (h : Reads c A b)
include h

theorem l6_pieces : ∀ p ∈ l6 c, ∀ x, p.2 x = blkF A.h1 b (p.1.emb x) := by
  intro p hp x
  rcases List.mem_singleton.mp hp with rfl
  exact (h.hw x).trans (blkF_B A.h1 b x).symm

theorem hb_apply (x : S256x2048.Idx) : c.hb (l6 c) x = A.h1 (b + (x 0).val) (x 1).val :=
  (h.hb _ _ (l6_pieces h) x ⟨_, List.mem_cons_self, mem_B _⟩).trans (blkF_B A.h1 b x)

theorem pev_apply (j : ℕ) (x : S256x256.Idx) : pev c j x = PleFun.pe A (b + (x 0).val) (256 * (j % 8) + (x 1).val) := by
  pointwise [pev, pb]
  unfold PleFun.pe
  rw [Finset.sum_range]
  simp only [h.p, h.wpe]
  rfl

theorem glv_apply (j : ℕ) (x : S256x256.Idx) : glv c j x = PleFun.gl A (b + (x 0).val) (256 * (j % 8) + (x 1).val) := by
  pointwise [glv]
  unfold PleFun.gl
  rw [Finset.sum_range]
  simp only [hb_apply h, h.w]
  rfl

theorem pl_pieces (n : ℕ) : ∀ p ∈ pl c n, ∀ x, p.2 x = blkF (PleFun.pe A) b (p.1.emb x) := by
  induction n with
  | zero => intro p hp; exact absurd hp List.not_mem_nil
  | succ j ih =>
    intro p hp x
    rcases List.mem_cons.mp hp with rfl | hp
    · exact (pev_apply h j x).trans (blkF_C _ _ _ _).symm
    · exact ih p hp x

theorem gll_pieces (n : ℕ) : ∀ p ∈ gll c n, ∀ x, p.2 x = blkF (PleFun.gl A) b (p.1.emb x) := by
  induction n with
  | zero => intro p hp; exact absurd hp List.not_mem_nil
  | succ j ih =>
    intro p hp x
    rcases List.mem_cons.mp hp with rfl | hp
    · exact (glv_apply h j x).trans (blkF_C _ _ _ _).symm
    · exact ih p hp x

theorem pe_apply (q j : ℕ) (x : S16x256.Idx) :
    pe c q j x = PleFun.pe A (b + (16 * (q % 16) + (x 0).val)) (256 * (j % 8) + (x 1).val) :=
  (h.pe0 _ _ (pl_pieces h (j + 1)) q j x ⟨_, List.mem_cons_self, mem_C q j x⟩).trans (blkF_T _ _ _ _ _)

theorem gl0_apply (q j : ℕ) (x : S16x256.Idx) :
    c.gl0 (gll c (j + 1)) q j x = PleFun.gl A (b + (16 * (q % 16) + (x 0).val)) (256 * (j % 8) + (x 1).val) :=
  (h.gl0 _ _ (gll_pieces h (j + 1)) q j x ⟨_, List.mem_cons_self, mem_C q j x⟩).trans (blkF_T _ _ _ _ _)

theorem gt_apply (q j : ℕ) (x : S16x256.Idx) :
    gt c q j x = PleFun.gt A (b + (16 * (q % 16) + (x 0).val)) (256 * (j % 8) + (x 1).val) := by
  pointwise [gt]
  rw [gl0_apply h]
  rfl

theorem er_apply (q j : ℕ) (x : S16x256.Idx) :
    er c q j x = PleFun.er A (b + (16 * (q % 16) + (x 0).val)) (256 * (j % 8) + (x 1).val) := by
  show c.h1 q j x + pe c q j x * gt c q j x - c.tg q j x = _
  rw [h.h1, h.tg, pe_apply h, gt_apply h]
  rfl

theorem dh2_apply (q j : ℕ) (x : S16x256.Idx) :
    dh2 c q j x = PleFun.dh2 A (b + (16 * (q % 16) + (x 0).val)) (256 * (j % 8) + (x 1).val) := by
  show er c q j x * _ = _
  rw [er_apply h]
  rfl

theorem dpe_apply (q j : ℕ) (x : S16x256.Idx) :
    dpe c q j x = PleFun.dpe A (b + (16 * (q % 16) + (x 0).val)) (256 * (j % 8) + (x 1).val) := by
  pointwise [dpe]
  rw [dh2_apply h, gt_apply h]
  rfl

theorem dgl_apply (q j : ℕ) (x : S16x256.Idx) :
    dgl c q j x = PleFun.dgl A (b + (16 * (q % 16) + (x 0).val)) (256 * (j % 8) + (x 1).val) := by
  show dh2 c q j x * pe c q j x * gt c q j x * (_ - gt c q j x) = _
  rw [dh2_apply h, gt_apply h, pe_apply h]
  rfl

theorem fold_apply (q j : ℕ) (x : S8x256.Idx) :
    fold c q j x = PleFun.sq A (b + (16 * (q % 16) + (x 0).val)) (256 * (j % 8) + (x 1).val)
      + PleFun.sq A (b + (16 * (q % 16) + (8 + (x 0).val))) (256 * (j % 8) + (x 1).val) := by
  pointwise [fold]
  rw [er_apply h, er_apply h]
  rfl

theorem acc_apply (a : FVec Ideal S8x256 .f32) (j n : ℕ) (hn : n ≤ 16) (x : S8x256.Idx) :
    acc c a j n x = a x + ∑ q ∈ Finset.range n,
      (PleFun.sq A (b + (16 * q + (x 0).val)) (256 * (j % 8) + (x 1).val) + PleFun.sq A (b + (16 * q + (8 + (x 0).val))) (256 * (j % 8) + (x 1).val)) := by
  induction n with
  | zero => rw [Finset.range_zero, Finset.sum_empty, add_zero]; rfl
  | succ q ih =>
    have e : q % 16 = q := Nat.mod_eq_of_lt (by omega)
    rw [Finset.sum_range_succ, ← add_assoc, ← ih (by omega)]
    show acc c a j q x + fold c q j x = _
    rw [fold_apply h, e]

theorem l4_pieces (n : ℕ) : ∀ p ∈ l4 c n, ∀ x, p.2 x = blkF (PleFun.dh2 A) b (p.1.emb x) := by
  induction n with
  | zero => intro p hp; exact absurd hp List.not_mem_nil
  | succ k ih =>
    intro p hp x
    rcases List.mem_cons.mp hp with rfl | hp
    · exact (dh2_apply h (k % 16) (k / 16) x).trans (blkF_T _ _ _ _ _).symm
    · exact ih p hp x

theorem l5_pieces (n : ℕ) : ∀ p ∈ l5 c n, ∀ x, p.2 x = blkF (PleFun.dgl A) b (p.1.emb x) := by
  induction n with
  | zero => intro p hp; exact absurd hp List.not_mem_nil
  | succ k ih =>
    intro p hp x
    rcases List.mem_cons.mp hp with rfl | hp
    · exact (dgl_apply h (k % 16) (k / 16) x).trans (blkF_T _ _ _ _ _).symm
    · exact ih p hp x

theorem ld_pieces (n : ℕ) : ∀ p ∈ ld c n, ∀ x, p.2 x = blkF (PleFun.dpe A) b (p.1.emb x) := by
  induction n with
  | zero => intro p hp; exact absurd hp List.not_mem_nil
  | succ k ih =>
    intro p hp x
    rcases List.mem_cons.mp hp with rfl | hp
    · exact (dpe_apply h (k % 16) (k / 16) x).trans (blkF_T _ _ _ _ _).symm
    · exact ih p hp x

omit h in
theorem mem_T (y : S256x2048.Idx) :
    y ∈ (rT ((16 * ((y 1).val / 256) + (y 0).val / 16) % 16) ((16 * ((y 1).val / 256) + (y 0).val / 16) / 16)).set := by
  have h0 : (y 0).val < 256 := (y 0).isLt
  have h1 : (y 1).val < 2048 := (y 1).isLt
  refine (LoadRect.mem_set _).mpr fun a => ?_
  match a with
  | ⟨0, _⟩ =>
    refine ⟨(y 0).val % 16, Nat.mod_lt _ (by decide), ?_⟩
    show (y 0).val = 16 * ((16 * ((y 1).val / 256) + (y 0).val / 16) % 16 % 16) + 1 * ((y 0).val % 16)
    omega
  | ⟨1, _⟩ =>
    refine ⟨(y 1).val % 256, Nat.mod_lt _ (by decide), ?_⟩
    show (y 1).val = 256 * ((16 * ((y 1).val / 256) + (y 0).val / 16) / 16 % 8) + 1 * ((y 1).val % 256)
    omega

omit h in
theorem l4_mem (n k : ℕ) (hk : k < n) : (⟨rT (k % 16) (k / 16), dh2 c (k % 16) (k / 16)⟩ : View.Piece (Elt Ideal) S256x2048 .f32) ∈ l4 c n := by
  induction n with
  | zero => omega
  | succ n ih =>
    rcases Nat.lt_or_ge k n with hk' | hk'
    · exact List.mem_cons_of_mem _ (ih hk')
    · obtain rfl : k = n := by omega
      exact List.mem_cons_self

omit h in
theorem l5_mem (n k : ℕ) (hk : k < n) : (⟨rT (k % 16) (k / 16), dgl c (k % 16) (k / 16)⟩ : View.Piece (Elt Ideal) S256x2048 .bf16) ∈ l5 c n := by
  induction n with
  | zero => omega
  | succ n ih =>
    rcases Nat.lt_or_ge k n with hk' | hk'
    · exact List.mem_cons_of_mem _ (ih hk')
    · obtain rfl : k = n := by omega
      exact List.mem_cons_self

omit h in
theorem ld_mem (n k : ℕ) (hk : k < n) : (⟨rT (k % 16) (k / 16), dpe c (k % 16) (k / 16)⟩ : View.Piece (Elt Ideal) S256x2048 .bf16) ∈ ld c n := by
  induction n with
  | zero => omega
  | succ n ih =>
    rcases Nat.lt_or_ge k n with hk' | hk'
    · exact List.mem_cons_of_mem _ (ih hk')
    · obtain rfl : k = n := by omega
      exact List.mem_cons_self

omit h in
theorem group_lt (y : S256x2048.Idx) : 16 * ((y 1).val / 256) + (y 0).val / 16 < 128 := by
  have h0 : (y 0).val < 256 := (y 0).isLt
  have h1 : (y 1).val < 2048 := (y 1).isLt
  omega

/-- The stored residual gradients read back, whatever the buffer. -/
theorem l4_read {sig' : RefSig} {κ : Kind} {sp : Space} (v : View sig' κ sp S256x2048 .f32) (f : v.ty.Contents (Elt Ideal)) (y : S256x2048.Idx) :
    v.read (Elt Ideal) (v.writes (Elt Ideal) f (l4 c 128)) y = blkF (PleFun.dh2 A) b y :=
  View.read_writes_apply_of_pieces v f _ (l4 c 128) (l4_pieces h 128) y ⟨_, l4_mem 128 _ (group_lt y), mem_T y⟩

/-- So do the gate product's. -/
theorem l5_read {sig' : RefSig} {κ : Kind} {sp : Space} (v : View sig' κ sp S256x2048 .bf16) (f : v.ty.Contents (Elt Ideal)) (y : S256x2048.Idx) :
    v.read (Elt Ideal) (v.writes (Elt Ideal) f (l5 c 128)) y = blkF (PleFun.dgl A) b y :=
  View.read_writes_apply_of_pieces v f _ (l5 c 128) (l5_pieces h 128) y ⟨_, l5_mem 128 _ (group_lt y), mem_T y⟩

/-- And the residual cast. -/
theorem l6_read {sig' : RefSig} {κ : Kind} {sp : Space} (v : View sig' κ sp S256x2048 .bf16) (f : v.ty.Contents (Elt Ideal)) (y : S256x2048.Idx) :
    v.read (Elt Ideal) (v.writes (Elt Ideal) f (l6 c)) y = blkF A.h1 b y :=
  View.read_writes_apply_of_pieces v f _ (l6 c) (l6_pieces h) y ⟨_, List.mem_cons_self, mem_B y⟩

/-- What the point adds to the second accumulator at row `l` and column `k`. -/
def gAdd (A : Arrs) (b l k : ℕ) : EReal := ∑ r ∈ Finset.range 256, A.p (b + r) l * PleFun.dpe A (b + r) k

theorem dp0_apply (x : S256x2048.Idx) : c.dp0 (ld c 128) x = PleFun.dpe A (b + (x 0).val) (x 1).val :=
  (h.dp0 _ _ (ld_pieces h 128) x ⟨_, ld_mem 128 _ (group_lt _), mem_T _⟩).trans (blkF_B _ _ _)

theorem gn_apply (x : S256x2048.Idx) : gn c x = c.g0 x + gAdd A b (x 0).val (x 1).val := by
  pointwise [gn, pb]
  unfold gAdd
  rw [Finset.sum_range]
  simp only [dp0_apply h, h.p]
  rfl

/-- The accumulator's contribution of a point, at row `s` and column `k`. -/
def accAdd (A : Arrs) (b s k : ℕ) : EReal :=
  ∑ q ∈ Finset.range 16, (PleFun.sq A (b + (16 * q + s)) k + PleFun.sq A (b + (16 * q + (8 + s))) k)

omit h in
/-- Past the blocks stored so far the accumulator is what it was. -/
theorem sl_skip {sig' : RefSig} {κ : Kind} {sp : Space} (v : View sig' κ sp S8x2048 .f32) (f : v.ty.Contents (Elt Ideal))
    (base : List (View.Piece (Elt Ideal) S8x2048 .f32)) (n : ℕ) (hn : n ≤ 8) (y : S8x2048.Idx) (hy : 256 * n ≤ (y 1).val) :
    v.read (Elt Ideal) (v.writes (Elt Ideal) f (sl c base n)) y = v.read (Elt Ideal) (v.writes (Elt Ideal) f base) y := by
  induction n with
  | zero => rfl
  | succ j ih =>
    rw [← ih (by omega) (by omega)]
    refine View.read_writes_cons_unit_of_not_mem (v := v) (f := f) _ _ _ y rfl (1 : Fin 2) (Or.inr ?_)
    show 256 * (j % 8) + 256 ≤ (y 1).val
    rw [Nat.mod_eq_of_lt (show j < 8 by omega)]; omega

/-- Where blocks were stored it is what was loaded plus the point's contribution. -/
theorem sl_read {sig' : RefSig} {κ : Kind} {sp : Space} (v : View sig' κ sp S8x2048 .f32) (f : v.ty.Contents (Elt Ideal))
    (base : List (View.Piece (Elt Ideal) S8x2048 .f32)) (X : S8x2048.Idx → EReal)
    (hX : ∀ j, j < 8 → ∀ x, c.a0 (sl c base j) j x = X ((rA j).emb x)) (n : ℕ) (hn : n ≤ 8) (y : S8x2048.Idx) (hy : (y 1).val < 256 * n) :
    v.read (Elt Ideal) (v.writes (Elt Ideal) f (sl c base n)) y = X y + accAdd A b (y 0).val (y 1).val := by
  induction n with
  | zero => omega
  | succ j ih =>
    have ej : j % 8 = j := Nat.mod_eq_of_lt (show j < 8 by omega)
    rcases Nat.lt_or_ge (y 1).val (256 * j) with hj | hj
    · rw [← ih (by omega) hj]
      refine View.read_writes_cons_unit_of_not_mem (v := v) (f := f) _ _ _ y rfl (1 : Fin 2) (Or.inl ?_)
      show (y 1).val < 256 * (j % 8)
      rw [ej]; exact hj
    · have h0 : (y 0).val < 8 := (y 0).isLt
      have e1 : 256 * j + ((y 1).val - 256 * j) = (y 1).val := by omega
      refine (View.read_writes_cons_unit_of_mem (v := v) (f := f) _ _ _ y
        (ix2 (⟨(y 0).val, h0⟩ : Fin 8) (⟨(y 1).val - 256 * j, by omega⟩ : Fin 256)) rfl ?_).trans ?_
      · intro a
        match a with
        | ⟨0, _⟩ => show (y 0).val = 0 + (y 0).val; omega
        | ⟨1, _⟩ => show (y 1).val = 256 * (j % 8) + ((y 1).val - 256 * j); omega
      · rw [shapeCast_self]
        refine (acc_apply h _ j 16 le_rfl _).trans (congrArg₂ (· + ·) ((hX j (by omega) _).trans (congrArg X (funext fun a => Fin.ext ?_))) ?_)
        · match a with
          | ⟨0, _⟩ => show 0 + 1 * (y 0).val = (y 0).val; omega
          | ⟨1, _⟩ => show 256 * (j % 8) + 1 * ((y 1).val - 256 * j) = (y 1).val; omega
        · show ∑ q ∈ Finset.range 16,
            (PleFun.sq A (b + (16 * q + (y 0).val)) (256 * (j % 8) + ((y 1).val - 256 * j))
            + PleFun.sq A (b + (16 * q + (8 + (y 0).val))) (256 * (j % 8) + ((y 1).val - 256 * j))) = _
          rw [ej, e1]
          rfl

omit h in
/-- The embedding's weight gradient read back: slab `j` is block `j` of the second accumulator. -/
theorem l8_read {sig' : RefSig} {κ : Kind} {sp : Space} (v : View sig' κ sp S8x256x256 .bf16) (f : v.ty.Contents (Elt Ideal))
    (x : ℕ → Vec Ideal S256x256 .f32) (G : S8x256x256.Idx → EReal)
    (hx : ∀ j, j < 8 → ∀ (p : Fin 8) (k l : Fin 256), p.val = j → x j (ix2 k l) = G (ix3 p k l)) (n : ℕ) (hn : n ≤ 8) (y : S8x256x256.Idx) (hy : (y 0).val < n) :
    v.read (Elt Ideal) (v.writes (Elt Ideal) f (l8 x n)) y = G y := by
  induction n with
  | zero => omega
  | succ j ih =>
    have ej : j % 8 = j := Nat.mod_eq_of_lt (show j < 8 by omega)
    rcases Nat.lt_or_ge (y 0).val j with hj | hj
    · rw [← ih (by omega) hj]
      refine View.read_writes_cons_unit_of_not_mem (v := v) (f := f) _ _ _ y rfl (0 : Fin 3) (Or.inl ?_)
      show (y 0).val < j % 8
      rw [ej]; exact hj
    · refine (View.read_writes_cons_unit_of_mem (v := v) (f := f) _ _ _ y (ix3 (0 : Fin 1) (y 1) (y 2)) rfl ?_).trans ?_
      · intro a
        match a with
        | ⟨0, _⟩ => show (y 0).val = j % 8 + 0; omega
        | ⟨1, _⟩ => show (y 1).val = 0 + (y 1).val; omega
        | ⟨2, _⟩ => show (y 2).val = 0 + (y 2).val; omega
      · pointwise [ev]
        refine (hx j (by omega) (y 0) (y 1) (y 2) (by omega)).trans (congrArg G (funext fun a => ?_))
        match a with
        | ⟨0, _⟩ => rfl
        | ⟨1, _⟩ => rfl
        | ⟨2, _⟩ => rfl

end Cert.PleIdeal.Voc

end
-- ==== Proof.PleBridge.lean ====
/-
  What a grid point of the gate and the loss stores: the generated store lists are the lists of `PleVoc`, so that each
  result's block and the two accumulators hold the functions of `PleFun`.

  The launch has three kinds of points. The first copies the gate's weight in and starts both accumulators from zero; the
  middle ones carry all three; the last also stores the loss and the embedding's weight gradient.
-/
module

public import proofs.«01_k».proof.Proof.PlePoint
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.PleIdeal.Voc

open Cert.PleIdeal Cert.PleIdeal.Gen Cert.PleFun

section Loads
variable {F : FTy → Type} [FloatOps F]

/-- The loads of a point that holds the arguments' blocks, a weight's column blocks `w` and the accumulators `a0`, `g0`. -/
def ldOf (arg1 : Memref sig .tc .vmem S256x2048 .f32) (harg1 : arg1.IsWhole) (arg2 : Memref sig .tc .vmem S256x256 .f32) (harg2 : arg2.IsWhole)
    (arg3 : Memref sig .tc .vmem S256x2048 .f32) (harg3 : arg3.IsWhole) (arg5 : Memref sig .tc .vmem S8x256x256 .bf16) (harg5 : arg5.IsWhole)
    (arg8 : Memref sig .tc .vmem S256x2048 .bf16) (arg12 : Memref sig .tc .vmem S256x2048 .f32) (arg13 : Memref sig .tc .vmem S256x2048 .f32)
    (arg15 : Memref sig .tc .vmem S256x2048 .bf16)
    (x0 : Vec F S256x2048 .f32) (x1 : Vec F S256x256 .f32) (x2 : Vec F S256x2048 .f32) (x3 : Vec F S8x256x256 .bf16)
    (w : ℕ → Vec F S2048x256 .bf16) (a0 : List (View.Piece (Elt F) S8x2048 .f32) → ℕ → Vec F S8x256 .f32) (g0 : Vec F S256x2048 .f32) : Ld F where
  h1 q j := View.readAt (Elt F) arg1.view (rT q j).toLoadRect (harg1.unread x0)
  tg q j := View.readAt (Elt F) arg3.view (rT q j).toLoadRect (harg3.unread x2)
  hw := View.readAt (Elt F) arg1.view rB.toLoadRect (harg1.unread x0)
  p := View.readAt (Elt F) arg2.view rP.toLoadRect (harg2.unread x1)
  wpe j := View.readAt (Elt F) arg5.view (rE j).toLoadRect (harg5.unread x3)
  w := w
  hb L := arg8.view.readCov L rB.toLoadRect
  a0 := a0
  pe0 L q j := arg12.view.readCov L (rT q j).toLoadRect
  gl0 L q j := arg13.view.readCov L (rT q j).toLoadRect
  dp0 L := arg15.view.readCov L rB.toLoadRect
  g0 := g0

end Loads

/-- The blocks a point is handed are the rows of the arguments that start at `b`, and the embedding's weight. -/
structure Blk (A : Arrs) (b : ℕ) (x0 : Vec Ideal S256x2048 .f32) (x1 : Vec Ideal S256x256 .f32) (x2 : Vec Ideal S256x2048 .f32) (x3 : Vec Ideal S8x256x256 .bf16) : Prop where
  h0 : ∀ y, x0 y = A.h1 (b + (y 0).val) (y 1).val
  h1 : ∀ y, x1 y = A.p (b + (y 0).val) (y 1).val
  h2 : ∀ y, x2 y = A.tg (b + (y 0).val) (y 1).val
  h3 : ∀ y, x3 y = A.wpe (y 1).val (256 * (y 0).val + (y 2).val)

theorem reads_of {A : Arrs} {b : ℕ} (arg1 : Memref sig .tc .vmem S256x2048 .f32) (harg1 : arg1.IsWhole) (arg2 : Memref sig .tc .vmem S256x256 .f32) (harg2 : arg2.IsWhole)
    (arg3 : Memref sig .tc .vmem S256x2048 .f32) (harg3 : arg3.IsWhole) (arg5 : Memref sig .tc .vmem S8x256x256 .bf16) (harg5 : arg5.IsWhole)
    (arg8 : Memref sig .tc .vmem S256x2048 .bf16) (arg12 : Memref sig .tc .vmem S256x2048 .f32) (arg13 : Memref sig .tc .vmem S256x2048 .f32)
    (arg15 : Memref sig .tc .vmem S256x2048 .bf16)
    {x0 : Vec Ideal S256x2048 .f32} {x1 : Vec Ideal S256x256 .f32} {x2 : Vec Ideal S256x2048 .f32} {x3 : Vec Ideal S8x256x256 .bf16} (hb : Blk A b x0 x1 x2 x3)
    (w : ℕ → Vec Ideal S2048x256 .bf16) (hw : ∀ j x, w j x = A.w (x 0).val (256 * (j % 8) + (x 1).val))
    (a0 : List (View.Piece (Elt Ideal) S8x2048 .f32) → ℕ → Vec Ideal S8x256 .f32) (g0 : Vec Ideal S256x2048 .f32) :
    Reads (ldOf arg1 harg1 arg2 harg2 arg3 harg3 arg5 harg5 arg8 arg12 arg13 arg15 x0 x1 x2 x3 w a0 g0) A b where
  h1 q j x := by
    show View.readAt (Elt Ideal) arg1.view (rT q j).toLoadRect (harg1.unread x0) x = _
    rw [Memref.IsWhole.readAt_unread, hb.h0]
    show A.h1 (b + (16 * (q % 16) + 1 * (x 0).val)) (256 * (j % 8) + 1 * (x 1).val) = _
    rw [Nat.one_mul, Nat.one_mul]
  tg q j x := by
    show View.readAt (Elt Ideal) arg3.view (rT q j).toLoadRect (harg3.unread x2) x = _
    rw [Memref.IsWhole.readAt_unread, hb.h2]
    show A.tg (b + (16 * (q % 16) + 1 * (x 0).val)) (256 * (j % 8) + 1 * (x 1).val) = _
    rw [Nat.one_mul, Nat.one_mul]
  hw x := by
    show View.readAt (Elt Ideal) arg1.view rB.toLoadRect (harg1.unread x0) x = _
    rw [Memref.IsWhole.readAt_unread, hb.h0]
    show A.h1 (b + (0 + 1 * (x 0).val)) (0 + 1 * (x 1).val) = _
    rw [Nat.one_mul, Nat.one_mul, Nat.zero_add, Nat.zero_add]
  p x := by
    show View.readAt (Elt Ideal) arg2.view rP.toLoadRect (harg2.unread x1) x = _
    rw [Memref.IsWhole.readAt_unread, hb.h1]
    show A.p (b + (0 + 1 * (x 0).val)) (0 + 1 * (x 1).val) = _
    rw [Nat.one_mul, Nat.one_mul, Nat.zero_add, Nat.zero_add]
  wpe j x := by
    show View.readAt (Elt Ideal) arg5.view (rE j).toLoadRect (harg5.unread x3) x = _
    rw [Memref.IsWhole.readAt_unread, hb.h3]
    have h0 : (x 0).val < 1 := (x 0).isLt
    show A.wpe (0 + 1 * (x 1).val) (256 * (j % 8 + 1 * (x 0).val) + (0 + 1 * (x 2).val)) = _
    rw [Nat.one_mul, Nat.one_mul, Nat.one_mul, Nat.zero_add, Nat.zero_add, show (x 0).val = 0 by omega, Nat.add_zero]
  w := hw
  hb T L hL x hx := View.read_writes_apply_of_pieces (Val := Elt Ideal) arg8.view (arg8.view.junk (Val := Elt Ideal)) T L hL (rB.emb x) hx
  pe0 T L hL q j x hx := View.read_writes_apply_of_pieces (Val := Elt Ideal) arg12.view (arg12.view.junk (Val := Elt Ideal)) T L hL ((rT q j).emb x) hx
  gl0 T L hL q j x hx := View.read_writes_apply_of_pieces (Val := Elt Ideal) arg13.view (arg13.view.junk (Val := Elt Ideal)) T L hL ((rT q j).emb x) hx
  dp0 T L hL x hx := View.read_writes_apply_of_pieces (Val := Elt Ideal) arg15.view (arg15.view.junk (Val := Elt Ideal)) T L hL (rB.emb x) hx

/-- The loss: half the mean of the accumulator's entries, at every place of the result. -/
theorem loss_apply (v : Vec Ideal S8x2048 .f32) (x : S8x128.Idx) :
    k0_pay6 (F := Ideal) v x = Ideal.ofBits .f32 0x39800000#32 * ∑ s : Fin 8, ∑ k : Fin 2048, v (ix2 s k) := by
  pointwise [k0_pay6]

/-- A block stored whole, last, reads back. -/
theorem read_whole {sig' : RefSig} {κ : Kind} {sp : Space} (v : View sig' κ sp S256x2048 .f32) (f : v.ty.Contents (Elt Ideal))
    (w : Vec Ideal S256x2048 .f32) (L : List (View.Piece (Elt Ideal) S256x2048 .f32)) (y : S256x2048.Idx) :
    v.read (Elt Ideal) (v.writes (Elt Ideal) f (⟨rB, w⟩ :: L)) y = w y := by
  refine View.read_writes_cons_unit_of_mem (v := v) (f := f) _ _ _ y y rfl fun a => ?_
  match a with
  | ⟨0, _⟩ => exact (Nat.zero_add _).symm
  | ⟨1, _⟩ => exact (Nat.zero_add _).symm

/-- The loss's block stored whole reads back. -/
theorem read_wholeL {sig' : RefSig} {κ : Kind} {sp : Space} (v : View sig' κ sp S8x128 .f32) (f : v.ty.Contents (Elt Ideal))
    (w : Vec Ideal S8x128 .f32) (y : S8x128.Idx) : v.read (Elt Ideal) (v.writes (Elt Ideal) f [⟨rL, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

/-- An accumulator stored whole reads back. -/
theorem read_whole8 {sig' : RefSig} {κ : Kind} {sp : Space} (v : View sig' κ sp S8x2048 .f32) (f : v.ty.Contents (Elt Ideal))
    (w : Vec Ideal S8x2048 .f32) (y : S8x2048.Idx) : v.read (Elt Ideal) (v.writes (Elt Ideal) f [⟨r8, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

/-! ## The first point -/

section CaseA

section Lists
variable {F : FTy → Type} [FloatOps F]

variable {c : Dev nD} {i : grid0.Coords} {arg1 : Memref sig .tc .vmem S256x2048 .f32} {harg1 : arg1.IsWhole} {arg2 : Memref sig .tc .vmem S256x256 .f32} {harg2 : arg2.IsWhole} {arg3 : Memref sig .tc .vmem S256x2048 .f32} {harg3 : arg3.IsWhole} {arg5 : Memref sig .tc .vmem S8x256x256 .bf16} {harg5 : arg5.IsWhole} {arg6 : Memref sig .tc .vmem S256x2048 .f32} {harg6 : arg6.IsWhole} {arg7 : Memref sig .tc .vmem S256x2048 .bf16} {harg7 : arg7.IsWhole} {arg8 : Memref sig .tc .vmem S256x2048 .bf16} {harg8 : arg8.IsWhole} {arg9 : Memref sig .tc .vmem S8x128 .f32} {harg9 : arg9.IsWhole} {arg10 : Memref sig .tc .vmem S8x256x256 .bf16} {harg10 : arg10.IsWhole} {arg11 : Memref sig .tc .vmem S2048x2048 .bf16} {harg11 : arg11.IsWhole} {arg12 : Memref sig .tc .vmem S256x2048 .f32} {harg12 : arg12.IsWhole} {arg13 : Memref sig .tc .vmem S256x2048 .f32} {harg13 : arg13.IsWhole} {arg14 : Memref sig .tc .vmem S8x2048 .f32} {harg14 : arg14.IsWhole} {arg15 : Memref sig .tc .vmem S256x2048 .bf16} {harg15 : arg15.IsWhole} {arg16 : Memref sig .tc .vmem S256x2048 .f32} {harg16 : arg16.IsWhole} {hc0 : cond0_0 i} {hc1 : cond0_1 i} {hc2 : ¬cond0_2 i}
    {x0 : Vec F S256x2048 .f32} {x1 : Vec F S256x256 .f32} {x2 : Vec F S256x2048 .f32} {x3 : Vec F S8x256x256 .bf16} {fh0 : HbBuf0 (F := F) c hbM0_0}

theorem l4_A : (kernelRun0_A c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0).1 = l4 (ldOf (F := F) arg1 harg1 arg2 harg2 arg3 harg3 arg5 harg5 arg8 arg12 arg13 arg15 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect) (arg16.view.readCov [⟨rB, k0_pay12⟩] rB.toLoadRect)) 128 := by sl_kernel_rfl

theorem l5_A : (kernelRun0_A c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0).2.1 = l5 (ldOf (F := F) arg1 harg1 arg2 harg2 arg3 harg3 arg5 harg5 arg8 arg12 arg13 arg15 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect) (arg16.view.readCov [⟨rB, k0_pay12⟩] rB.toLoadRect)) 128 := by sl_kernel_rfl

theorem l6_A : (kernelRun0_A c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0).2.2.1 = l6 (ldOf (F := F) arg1 harg1 arg2 harg2 arg3 harg3 arg5 harg5 arg8 arg12 arg13 arg15 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect) (arg16.view.readCov [⟨rB, k0_pay12⟩] rB.toLoadRect)) := by sl_kernel_rfl

theorem ls3_A : (kernelRun0_A c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0).2.2.2.2.2.2.1 = sl (ldOf (F := F) arg1 harg1 arg2 harg2 arg3 harg3 arg5 harg5 arg8 arg12 arg13 arg15 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect) (arg16.view.readCov [⟨rB, k0_pay12⟩] rB.toLoadRect)) [⟨r8, k0_pay11⟩] 8 := by sl_kernel_rfl

theorem ls5_A : (kernelRun0_A c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0).2.2.2.2.2.2.2.1 = ⟨rB, gn (ldOf (F := F) arg1 harg1 arg2 harg2 arg3 harg3 arg5 harg5 arg8 arg12 arg13 arg15 x0 x1 x2 x3 (fun j => arg11.view.readCov [⟨Rect.whole S2048x2048, ReadAs.same.apply (View.read (Elt F) (Memref.whole main_arg3).view fh0)⟩] (rW j).toLoadRect) (fun L j => arg14.view.readCov L (rA j).toLoadRect) (arg16.view.readCov [⟨rB, k0_pay12⟩] rB.toLoadRect))⟩ :: [⟨rB, k0_pay12⟩] := by sl_kernel_rfl

theorem ls0_A : (kernelRun0_A c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0).2.2.2.2.2.1 = [⟨Rect.whole S2048x2048, ReadAs.same.apply (View.read (Elt F) (Memref.whole main_arg3).view fh0)⟩] := by sl_kernel_rfl

end Lists

variable {c : Dev nD} {i : grid0.Coords} {arg1 : Memref sig .tc .vmem S256x2048 .f32} {harg1 : arg1.IsWhole} {arg2 : Memref sig .tc .vmem S256x256 .f32} {harg2 : arg2.IsWhole} {arg3 : Memref sig .tc .vmem S256x2048 .f32} {harg3 : arg3.IsWhole} {arg5 : Memref sig .tc .vmem S8x256x256 .bf16} {harg5 : arg5.IsWhole} {arg6 : Memref sig .tc .vmem S256x2048 .f32} {harg6 : arg6.IsWhole} {arg7 : Memref sig .tc .vmem S256x2048 .bf16} {harg7 : arg7.IsWhole} {arg8 : Memref sig .tc .vmem S256x2048 .bf16} {harg8 : arg8.IsWhole} {arg9 : Memref sig .tc .vmem S8x128 .f32} {harg9 : arg9.IsWhole} {arg10 : Memref sig .tc .vmem S8x256x256 .bf16} {harg10 : arg10.IsWhole} {arg11 : Memref sig .tc .vmem S2048x2048 .bf16} {harg11 : arg11.IsWhole} {arg12 : Memref sig .tc .vmem S256x2048 .f32} {harg12 : arg12.IsWhole} {arg13 : Memref sig .tc .vmem S256x2048 .f32} {harg13 : arg13.IsWhole} {arg14 : Memref sig .tc .vmem S8x2048 .f32} {harg14 : arg14.IsWhole} {arg15 : Memref sig .tc .vmem S256x2048 .bf16} {harg15 : arg15.IsWhole} {arg16 : Memref sig .tc .vmem S256x2048 .f32} {harg16 : arg16.IsWhole} {hc0 : cond0_0 i} {hc1 : cond0_1 i} {hc2 : ¬cond0_2 i}
    {x0 : Vec Ideal S256x2048 .f32} {x1 : Vec Ideal S256x256 .f32} {x2 : Vec Ideal S256x2048 .f32} {x3 : Vec Ideal S8x256x256 .bf16} {fh0 : HbBuf0 (F := Ideal) c hbM0_0}
  {A : Arrs} {b : ℕ} (hb : Blk A b x0 x1 x2 x3)
  (hw : ∀ y, View.read (Elt Ideal) (Memref.whole main_arg3).view fh0 y = A.w (y 0).val (y 1).val)

include hb hw in
theorem reads_A : Reads (ldOf (F := Ideal) arg1 harg1 arg2 harg2 arg3 harg3 arg5 harg5 arg8 arg12 arg13 arg15 x0 x1 x2 x3 (fun j => arg11.view.readCov [⟨Rect.whole S2048x2048, ReadAs.same.apply (View.read (Elt Ideal) (Memref.whole main_arg3).view fh0)⟩] (rW j).toLoadRect) (fun L j => arg14.view.readCov L (rA j).toLoadRect) (arg16.view.readCov [⟨rB, k0_pay12 (F := Ideal)⟩] rB.toLoadRect)) A b :=
  reads_of arg1 harg1 arg2 harg2 arg3 harg3 arg5 harg5 arg8 arg12 arg13 arg15 hb _ (fun j x => by
    show View.read (Elt Ideal) arg11.view (arg11.view.writes (Elt Ideal) _ [⟨Rect.whole S2048x2048, _⟩]) _ = _
    rw [View.read_writes_whole]
    refine (hw _).trans ?_
    show A.w (0 + 1 * (x 0).val) (256 * (j % 8) + 1 * (x 1).val) = _
    rw [Nat.one_mul, Nat.one_mul, Nat.zero_add]) _ _

include hb hw in
/-- The block of the residual's gradient. -/
theorem out4_A (y : S256x2048.Idx) : out0_A_4 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0 y = PleFun.dh2 A (b + (y 0).val) (y 1).val := by
  unfold out0_A_4
  rw [l4_A]
  exact l4_read (reads_A hb hw) _ _ y

include hb hw in
/-- The block of the gate product's gradient. -/
theorem out5_A (y : S256x2048.Idx) : out0_A_5 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0 y = PleFun.dgl A (b + (y 0).val) (y 1).val := by
  unfold out0_A_5
  rw [l5_A]
  exact l5_read (reads_A hb hw) _ _ y

include hb hw in
/-- The block of the residual, cast. -/
theorem out6_A (y : S256x2048.Idx) : out0_A_6 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0 y = A.h1 (b + (y 0).val) (y 1).val := by
  unfold out0_A_6
  rw [l6_A]
  exact l6_read (reads_A hb hw) _ _ y

/-- The gate's weight is copied whole. -/
theorem sout0_A : sout0_A_0 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0 = View.read (Elt Ideal) (Memref.whole main_arg3).view fh0 := by
  unfold sout0_A_0
  rw [ls0_A, View.read_writes_whole]

include hb hw in
/-- The accumulator is the point's contribution. -/
theorem sout3_A (y : S8x2048.Idx) : sout0_A_3 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0 y = accAdd A b (y 0).val (y 1).val := by
  unfold sout0_A_3
  rw [ls3_A]
  have h1 : (y 1).val < 2048 := (y 1).isLt
  refine (sl_read (reads_A hb hw) _ _ _ (fun _ => 0) (fun j hj x => ?_) 8 le_rfl y (by omega)).trans (zero_add _)
  refine (sl_skip arg14.view _ _ j (by omega) _ ?_).trans ((read_whole8 _ _ _ _).trans ?_)
  · show 256 * j ≤ 256 * (j % 8) + 1 * (x 1).val
    rw [Nat.mod_eq_of_lt hj]; omega
  · unfold k0_pay11
    simp only [shapeCast_self]
    exact Ideal.ofBits_zero_f32

include hb hw in
/-- The second accumulator is the point's contribution. -/
theorem sout5_A (y : S256x2048.Idx) : sout0_A_5 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 fh0 y = gAdd A b (y 0).val (y 1).val := by
  unfold sout0_A_5
  rw [ls5_A]
  refine (read_whole _ _ _ _ y).trans ((gn_apply (reads_A hb hw) y).trans ?_)
  refine (congrArg (· + _) ?_).trans (zero_add _)
  show View.read (Elt Ideal) arg16.view (arg16.view.writes (Elt Ideal) _ [⟨rB, k0_pay12 (F := Ideal)⟩]) (rB.emb y) = 0
  refine (read_whole _ _ _ _ _).trans ?_
  unfold k0_pay12
  simp only [shapeCast_self]
  exact Ideal.ofBits_zero_f32

end CaseA

/-! ## A middle point -/

section CaseB

section Lists
variable {F : FTy → Type} [FloatOps F]

variable {c : Dev nD} {i : grid0.Coords} {arg1 : Memref sig .tc .vmem S256x2048 .f32} {harg1 : arg1.IsWhole} {arg2 : Memref sig .tc .vmem S256x256 .f32} {harg2 : arg2.IsWhole} {arg3 : Memref sig .tc .vmem S256x2048 .f32} {harg3 : arg3.IsWhole} {arg5 : Memref sig .tc .vmem S8x256x256 .bf16} {harg5 : arg5.IsWhole} {arg6 : Memref sig .tc .vmem S256x2048 .f32} {harg6 : arg6.IsWhole} {arg7 : Memref sig .tc .vmem S256x2048 .bf16} {harg7 : arg7.IsWhole} {arg8 : Memref sig .tc .vmem S256x2048 .bf16} {harg8 : arg8.IsWhole} {arg9 : Memref sig .tc .vmem S8x128 .f32} {harg9 : arg9.IsWhole} {arg10 : Memref sig .tc .vmem S8x256x256 .bf16} {harg10 : arg10.IsWhole} {arg11 : Memref sig .tc .vmem S2048x2048 .bf16} {harg11 : arg11.IsWhole} {arg12 : Memref sig .tc .vmem S256x2048 .f32} {harg12 : arg12.IsWhole} {arg13 : Memref sig .tc .vmem S256x2048 .f32} {harg13 : arg13.IsWhole} {arg14 : Memref sig .tc .vmem S8x2048 .f32} {harg14 : arg14.IsWhole} {arg15 : Memref sig .tc .vmem S256x2048 .bf16} {harg15 : arg15.IsWhole} {arg16 : Memref sig .tc .vmem S256x2048 .f32} {harg16 : arg16.IsWhole} {hc0 : ¬cond0_0 i} {hc1 : ¬cond0_1 i} {hc2 : ¬cond0_2 i}
    {x0 : Vec F S256x2048 .f32} {x1 : Vec F S256x256 .f32} {x2 : Vec F S256x2048 .f32} {x3 : Vec F S8x256x256 .bf16} {xs0 : Vec F S2048x2048 .bf16} {xs3 : Vec F S8x2048 .f32} {xs5 : Vec F S256x2048 .f32} {fh0 : HbBuf0 (F := F) c hbM0_0}

theorem l4_B : (kernelRun0_B c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).1 = l4 (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) 128 := by sl_kernel_rfl

theorem l5_B : (kernelRun0_B c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.1 = l5 (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) 128 := by sl_kernel_rfl

theorem l6_B : (kernelRun0_B c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.1 = l6 (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) := by sl_kernel_rfl

theorem ls3_B : (kernelRun0_B c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.2.2.2.2.1 = sl (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) [] 8 := by sl_kernel_rfl

theorem ls5_B : (kernelRun0_B c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.2.2.2.2.2.1 = ⟨rB, gn (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5)))⟩ :: [] := by sl_kernel_rfl

end Lists

variable {c : Dev nD} {i : grid0.Coords} {arg1 : Memref sig .tc .vmem S256x2048 .f32} {harg1 : arg1.IsWhole} {arg2 : Memref sig .tc .vmem S256x256 .f32} {harg2 : arg2.IsWhole} {arg3 : Memref sig .tc .vmem S256x2048 .f32} {harg3 : arg3.IsWhole} {arg5 : Memref sig .tc .vmem S8x256x256 .bf16} {harg5 : arg5.IsWhole} {arg6 : Memref sig .tc .vmem S256x2048 .f32} {harg6 : arg6.IsWhole} {arg7 : Memref sig .tc .vmem S256x2048 .bf16} {harg7 : arg7.IsWhole} {arg8 : Memref sig .tc .vmem S256x2048 .bf16} {harg8 : arg8.IsWhole} {arg9 : Memref sig .tc .vmem S8x128 .f32} {harg9 : arg9.IsWhole} {arg10 : Memref sig .tc .vmem S8x256x256 .bf16} {harg10 : arg10.IsWhole} {arg11 : Memref sig .tc .vmem S2048x2048 .bf16} {harg11 : arg11.IsWhole} {arg12 : Memref sig .tc .vmem S256x2048 .f32} {harg12 : arg12.IsWhole} {arg13 : Memref sig .tc .vmem S256x2048 .f32} {harg13 : arg13.IsWhole} {arg14 : Memref sig .tc .vmem S8x2048 .f32} {harg14 : arg14.IsWhole} {arg15 : Memref sig .tc .vmem S256x2048 .bf16} {harg15 : arg15.IsWhole} {arg16 : Memref sig .tc .vmem S256x2048 .f32} {harg16 : arg16.IsWhole} {hc0 : ¬cond0_0 i} {hc1 : ¬cond0_1 i} {hc2 : ¬cond0_2 i}
    {x0 : Vec Ideal S256x2048 .f32} {x1 : Vec Ideal S256x256 .f32} {x2 : Vec Ideal S256x2048 .f32} {x3 : Vec Ideal S8x256x256 .bf16} {xs0 : Vec Ideal S2048x2048 .bf16} {xs3 : Vec Ideal S8x2048 .f32} {xs5 : Vec Ideal S256x2048 .f32} {fh0 : HbBuf0 (F := Ideal) c hbM0_0}
  {A : Arrs} {b : ℕ} (hb : Blk A b x0 x1 x2 x3)
  (hw : ∀ y, xs0 y = A.w (y 0).val (y 1).val)

include hb hw in
theorem reads_B : Reads (ldOf (F := Ideal) arg1 harg1 arg2 harg2 arg3 harg3 arg5 harg5 arg8 arg12 arg13 arg15 x0 x1 x2 x3 (fun j => View.readAt (Elt Ideal) arg11.view (rW j).toLoadRect (harg11.unread xs0)) (fun _ j => View.readAt (Elt Ideal) arg14.view (rA j).toLoadRect (harg14.unread xs3)) (View.readAt (Elt Ideal) arg16.view rB.toLoadRect (harg16.unread xs5))) A b :=
  reads_of arg1 harg1 arg2 harg2 arg3 harg3 arg5 harg5 arg8 arg12 arg13 arg15 hb _ (fun j x => by
    show View.readAt (Elt Ideal) arg11.view (rW j).toLoadRect (harg11.unread xs0) x = _
    rw [Memref.IsWhole.readAt_unread, hw]
    show A.w (0 + 1 * (x 0).val) (256 * (j % 8) + 1 * (x 1).val) = _
    rw [Nat.one_mul, Nat.one_mul, Nat.zero_add]) _ _

include hb hw in
/-- The block of the residual's gradient. -/
theorem out4_B (y : S256x2048.Idx) : out0_B_4 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = PleFun.dh2 A (b + (y 0).val) (y 1).val := by
  unfold out0_B_4
  rw [l4_B]
  exact l4_read (reads_B hb hw) _ _ y

include hb hw in
/-- The block of the gate product's gradient. -/
theorem out5_B (y : S256x2048.Idx) : out0_B_5 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = PleFun.dgl A (b + (y 0).val) (y 1).val := by
  unfold out0_B_5
  rw [l5_B]
  exact l5_read (reads_B hb hw) _ _ y

include hb hw in
/-- The block of the residual, cast. -/
theorem out6_B (y : S256x2048.Idx) : out0_B_6 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = A.h1 (b + (y 0).val) (y 1).val := by
  unfold out0_B_6
  rw [l6_B]
  exact l6_read (reads_B hb hw) _ _ y

include hb hw in
theorem acc_B {sig' : RefSig} {κ : Kind} {sp : Space} (v : View sig' κ sp S8x2048 .f32) (f : v.ty.Contents (Elt Ideal)) (y : S8x2048.Idx) :
    v.read (Elt Ideal) (v.writes (Elt Ideal) f (sl (ldOf (F := Ideal) arg1 harg1 arg2 harg2 arg3 harg3 arg5 harg5 arg8 arg12 arg13 arg15 x0 x1 x2 x3 (fun j => View.readAt (Elt Ideal) arg11.view (rW j).toLoadRect (harg11.unread xs0)) (fun _ j => View.readAt (Elt Ideal) arg14.view (rA j).toLoadRect (harg14.unread xs3)) (View.readAt (Elt Ideal) arg16.view rB.toLoadRect (harg16.unread xs5))) [] 8)) y = xs3 y + accAdd A b (y 0).val (y 1).val := by
  have h1 : (y 1).val < 2048 := (y 1).isLt
  refine sl_read (reads_B hb hw) _ _ _ xs3 (fun j hj x => ?_) 8 le_rfl y (by omega)
  show View.readAt (Elt Ideal) arg14.view (rA j).toLoadRect (harg14.unread xs3) x = _
  rw [Memref.IsWhole.readAt_unread]
  rfl

include hb hw in
/-- The accumulator gains the point's contribution. -/
theorem sout3_B (y : S8x2048.Idx) : sout0_B_3 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = xs3 y + accAdd A b (y 0).val (y 1).val := by
  unfold sout0_B_3
  rw [ls3_B]
  exact acc_B hb hw _ _ y

include hb hw in
theorem gacc_B (y : S256x2048.Idx) : gn (ldOf (F := Ideal) arg1 harg1 arg2 harg2 arg3 harg3 arg5 harg5 arg8 arg12 arg13 arg15 x0 x1 x2 x3 (fun j => View.readAt (Elt Ideal) arg11.view (rW j).toLoadRect (harg11.unread xs0)) (fun _ j => View.readAt (Elt Ideal) arg14.view (rA j).toLoadRect (harg14.unread xs3)) (View.readAt (Elt Ideal) arg16.view rB.toLoadRect (harg16.unread xs5))) y = xs5 y + gAdd A b (y 0).val (y 1).val := by
  refine (gn_apply (reads_B hb hw) y).trans (congrArg (· + _) ?_)
  show View.readAt (Elt Ideal) arg16.view rB.toLoadRect (harg16.unread xs5) y = _
  rw [Memref.IsWhole.readAt_unread]
  refine congrArg xs5 (funext fun a => Fin.ext ?_)
  match a with
  | ⟨0, _⟩ => show 0 + 1 * (y 0).val = (y 0).val; omega
  | ⟨1, _⟩ => show 0 + 1 * (y 1).val = (y 1).val; omega

include hb hw in
/-- So does the second. -/
theorem sout5_B (y : S256x2048.Idx) : sout0_B_5 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = xs5 y + gAdd A b (y 0).val (y 1).val := by
  unfold sout0_B_5
  rw [ls5_B]
  exact (read_whole _ _ _ _ y).trans (gacc_B hb hw y)

end CaseB

/-! ## The last point -/

section CaseC

section Lists
variable {F : FTy → Type} [FloatOps F]

variable {c : Dev nD} {i : grid0.Coords} {arg1 : Memref sig .tc .vmem S256x2048 .f32} {harg1 : arg1.IsWhole} {arg2 : Memref sig .tc .vmem S256x256 .f32} {harg2 : arg2.IsWhole} {arg3 : Memref sig .tc .vmem S256x2048 .f32} {harg3 : arg3.IsWhole} {arg5 : Memref sig .tc .vmem S8x256x256 .bf16} {harg5 : arg5.IsWhole} {arg6 : Memref sig .tc .vmem S256x2048 .f32} {harg6 : arg6.IsWhole} {arg7 : Memref sig .tc .vmem S256x2048 .bf16} {harg7 : arg7.IsWhole} {arg8 : Memref sig .tc .vmem S256x2048 .bf16} {harg8 : arg8.IsWhole} {arg9 : Memref sig .tc .vmem S8x128 .f32} {harg9 : arg9.IsWhole} {arg10 : Memref sig .tc .vmem S8x256x256 .bf16} {harg10 : arg10.IsWhole} {arg11 : Memref sig .tc .vmem S2048x2048 .bf16} {harg11 : arg11.IsWhole} {arg12 : Memref sig .tc .vmem S256x2048 .f32} {harg12 : arg12.IsWhole} {arg13 : Memref sig .tc .vmem S256x2048 .f32} {harg13 : arg13.IsWhole} {arg14 : Memref sig .tc .vmem S8x2048 .f32} {harg14 : arg14.IsWhole} {arg15 : Memref sig .tc .vmem S256x2048 .bf16} {harg15 : arg15.IsWhole} {arg16 : Memref sig .tc .vmem S256x2048 .f32} {harg16 : arg16.IsWhole} {hc0 : ¬cond0_0 i} {hc1 : ¬cond0_1 i} {hc2 : cond0_2 i}
    {x0 : Vec F S256x2048 .f32} {x1 : Vec F S256x256 .f32} {x2 : Vec F S256x2048 .f32} {x3 : Vec F S8x256x256 .bf16} {xs0 : Vec F S2048x2048 .bf16} {xs3 : Vec F S8x2048 .f32} {xs5 : Vec F S256x2048 .f32} {fh0 : HbBuf0 (F := F) c hbM0_0}

theorem l4_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).1 = l4 (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) 128 := by sl_kernel_rfl

theorem l5_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.1 = l5 (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) 128 := by sl_kernel_rfl

theorem l6_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.1 = l6 (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) := by sl_kernel_rfl

theorem ls3_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.2.2.2.2.1 = sl (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) [] 8 := by sl_kernel_rfl

theorem ls5_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.2.2.2.2.2.1 = ⟨rB, gn (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5)))⟩ :: [] := by sl_kernel_rfl

theorem l7_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.2.1 = [⟨rL, k0_pay6 (arg14.view.readCov (sl (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5))) [] 8) r8.toLoadRect)⟩] := by sl_kernel_rfl

theorem l8_C : (kernelRun0_C c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0).2.2.2.2.1 = l8 (fun j => arg16.view.readCov [⟨rB, gn (ldOf (F := F) arg1 harg1 arg2 harg2 arg3 harg3 arg5 harg5 arg8 arg12 arg13 arg15 x0 x1 x2 x3 (fun j => View.readAt (Elt F) arg11.view (rW j).toLoadRect (harg11.unread xs0)) (fun _ j => View.readAt (Elt F) arg14.view (rA j).toLoadRect (harg14.unread xs3)) (View.readAt (Elt F) arg16.view rB.toLoadRect (harg16.unread xs5)))⟩] (rC j).toLoadRect) 8 := by sl_kernel_rfl

end Lists

variable {c : Dev nD} {i : grid0.Coords} {arg1 : Memref sig .tc .vmem S256x2048 .f32} {harg1 : arg1.IsWhole} {arg2 : Memref sig .tc .vmem S256x256 .f32} {harg2 : arg2.IsWhole} {arg3 : Memref sig .tc .vmem S256x2048 .f32} {harg3 : arg3.IsWhole} {arg5 : Memref sig .tc .vmem S8x256x256 .bf16} {harg5 : arg5.IsWhole} {arg6 : Memref sig .tc .vmem S256x2048 .f32} {harg6 : arg6.IsWhole} {arg7 : Memref sig .tc .vmem S256x2048 .bf16} {harg7 : arg7.IsWhole} {arg8 : Memref sig .tc .vmem S256x2048 .bf16} {harg8 : arg8.IsWhole} {arg9 : Memref sig .tc .vmem S8x128 .f32} {harg9 : arg9.IsWhole} {arg10 : Memref sig .tc .vmem S8x256x256 .bf16} {harg10 : arg10.IsWhole} {arg11 : Memref sig .tc .vmem S2048x2048 .bf16} {harg11 : arg11.IsWhole} {arg12 : Memref sig .tc .vmem S256x2048 .f32} {harg12 : arg12.IsWhole} {arg13 : Memref sig .tc .vmem S256x2048 .f32} {harg13 : arg13.IsWhole} {arg14 : Memref sig .tc .vmem S8x2048 .f32} {harg14 : arg14.IsWhole} {arg15 : Memref sig .tc .vmem S256x2048 .bf16} {harg15 : arg15.IsWhole} {arg16 : Memref sig .tc .vmem S256x2048 .f32} {harg16 : arg16.IsWhole} {hc0 : ¬cond0_0 i} {hc1 : ¬cond0_1 i} {hc2 : cond0_2 i}
    {x0 : Vec Ideal S256x2048 .f32} {x1 : Vec Ideal S256x256 .f32} {x2 : Vec Ideal S256x2048 .f32} {x3 : Vec Ideal S8x256x256 .bf16} {xs0 : Vec Ideal S2048x2048 .bf16} {xs3 : Vec Ideal S8x2048 .f32} {xs5 : Vec Ideal S256x2048 .f32} {fh0 : HbBuf0 (F := Ideal) c hbM0_0}
  {A : Arrs} {b : ℕ} (hb : Blk A b x0 x1 x2 x3)
  (hw : ∀ y, xs0 y = A.w (y 0).val (y 1).val)

include hb hw in
theorem reads_C : Reads (ldOf (F := Ideal) arg1 harg1 arg2 harg2 arg3 harg3 arg5 harg5 arg8 arg12 arg13 arg15 x0 x1 x2 x3 (fun j => View.readAt (Elt Ideal) arg11.view (rW j).toLoadRect (harg11.unread xs0)) (fun _ j => View.readAt (Elt Ideal) arg14.view (rA j).toLoadRect (harg14.unread xs3)) (View.readAt (Elt Ideal) arg16.view rB.toLoadRect (harg16.unread xs5))) A b :=
  reads_of arg1 harg1 arg2 harg2 arg3 harg3 arg5 harg5 arg8 arg12 arg13 arg15 hb _ (fun j x => by
    show View.readAt (Elt Ideal) arg11.view (rW j).toLoadRect (harg11.unread xs0) x = _
    rw [Memref.IsWhole.readAt_unread, hw]
    show A.w (0 + 1 * (x 0).val) (256 * (j % 8) + 1 * (x 1).val) = _
    rw [Nat.one_mul, Nat.one_mul, Nat.zero_add]) _ _

include hb hw in
/-- The block of the residual's gradient. -/
theorem out4_C (y : S256x2048.Idx) : out0_C_4 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = PleFun.dh2 A (b + (y 0).val) (y 1).val := by
  unfold out0_C_4
  rw [l4_C]
  exact l4_read (reads_C hb hw) _ _ y

include hb hw in
/-- The block of the gate product's gradient. -/
theorem out5_C (y : S256x2048.Idx) : out0_C_5 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = PleFun.dgl A (b + (y 0).val) (y 1).val := by
  unfold out0_C_5
  rw [l5_C]
  exact l5_read (reads_C hb hw) _ _ y

include hb hw in
/-- The block of the residual, cast. -/
theorem out6_C (y : S256x2048.Idx) : out0_C_6 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = A.h1 (b + (y 0).val) (y 1).val := by
  unfold out0_C_6
  rw [l6_C]
  exact l6_read (reads_C hb hw) _ _ y

include hb hw in
theorem acc_C {sig' : RefSig} {κ : Kind} {sp : Space} (v : View sig' κ sp S8x2048 .f32) (f : v.ty.Contents (Elt Ideal)) (y : S8x2048.Idx) :
    v.read (Elt Ideal) (v.writes (Elt Ideal) f (sl (ldOf (F := Ideal) arg1 harg1 arg2 harg2 arg3 harg3 arg5 harg5 arg8 arg12 arg13 arg15 x0 x1 x2 x3 (fun j => View.readAt (Elt Ideal) arg11.view (rW j).toLoadRect (harg11.unread xs0)) (fun _ j => View.readAt (Elt Ideal) arg14.view (rA j).toLoadRect (harg14.unread xs3)) (View.readAt (Elt Ideal) arg16.view rB.toLoadRect (harg16.unread xs5))) [] 8)) y = xs3 y + accAdd A b (y 0).val (y 1).val := by
  have h1 : (y 1).val < 2048 := (y 1).isLt
  refine sl_read (reads_C hb hw) _ _ _ xs3 (fun j hj x => ?_) 8 le_rfl y (by omega)
  show View.readAt (Elt Ideal) arg14.view (rA j).toLoadRect (harg14.unread xs3) x = _
  rw [Memref.IsWhole.readAt_unread]
  rfl

include hb hw in
/-- The accumulator gains the point's contribution. -/
theorem sout3_C (y : S8x2048.Idx) : sout0_C_3 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = xs3 y + accAdd A b (y 0).val (y 1).val := by
  unfold sout0_C_3
  rw [ls3_C]
  exact acc_C hb hw _ _ y

include hb hw in
theorem gacc_C (y : S256x2048.Idx) : gn (ldOf (F := Ideal) arg1 harg1 arg2 harg2 arg3 harg3 arg5 harg5 arg8 arg12 arg13 arg15 x0 x1 x2 x3 (fun j => View.readAt (Elt Ideal) arg11.view (rW j).toLoadRect (harg11.unread xs0)) (fun _ j => View.readAt (Elt Ideal) arg14.view (rA j).toLoadRect (harg14.unread xs3)) (View.readAt (Elt Ideal) arg16.view rB.toLoadRect (harg16.unread xs5))) y = xs5 y + gAdd A b (y 0).val (y 1).val := by
  refine (gn_apply (reads_C hb hw) y).trans (congrArg (· + _) ?_)
  show View.readAt (Elt Ideal) arg16.view rB.toLoadRect (harg16.unread xs5) y = _
  rw [Memref.IsWhole.readAt_unread]
  refine congrArg xs5 (funext fun a => Fin.ext ?_)
  match a with
  | ⟨0, _⟩ => show 0 + 1 * (y 0).val = (y 0).val; omega
  | ⟨1, _⟩ => show 0 + 1 * (y 1).val = (y 1).val; omega

include hb hw in
/-- So does the second. -/
theorem sout5_C (y : S256x2048.Idx) : sout0_C_5 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = xs5 y + gAdd A b (y 0).val (y 1).val := by
  unfold sout0_C_5
  rw [ls5_C]
  exact (read_whole _ _ _ _ y).trans (gacc_C hb hw y)

include hb hw in
/-- The loss is half the mean of the accumulator's entries. -/
theorem out7_C (y : S8x128.Idx) : out0_C_7 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y
    = Ideal.ofBits .f32 0x39800000#32 * ∑ s : Fin 8, ∑ k : Fin 2048, (xs3 (ix2 s k) + accAdd A b s.val k.val) := by
  unfold out0_C_7
  rw [l7_C]
  refine (read_wholeL _ _ _ y).trans ((loss_apply _ _).trans (congrArg (_ * ·) (Finset.sum_congr rfl fun s _ => Finset.sum_congr rfl fun k _ => ?_)))
  have e : r8.toLoadRect.idx (ix2 s k) = (ix2 s k : S8x2048.Idx) := funext fun a => Fin.ext (by
    match a with
    | ⟨0, _⟩ => show 0 + 1 * s.val = s.val; omega
    | ⟨1, _⟩ => show 0 + 1 * k.val = k.val; omega)
  show View.read (Elt Ideal) arg14.view (arg14.view.writes (Elt Ideal) _ _) (r8.toLoadRect.idx (ix2 s k)) = _
  rw [e]
  exact acc_C hb hw arg14.view _ (ix2 s k)

include hb hw in
/-- The embedding's weight gradient is the second accumulator, by slabs. -/
theorem out8_C (G : ℕ → ℕ → EReal) (hG : ∀ y : S256x2048.Idx, xs5 y + gAdd A b (y 0).val (y 1).val = G (y 0).val (y 1).val) (y : S8x256x256.Idx) :
    out0_C_8 (F := Ideal) c i arg1 harg1 arg2 harg2 arg3 harg3 arg5 harg5 arg6 harg6 arg7 harg7 arg8 harg8 arg9 harg9 arg10 harg10 arg11 harg11 arg12 harg12 arg13 harg13 arg14 harg14 arg15 harg15 arg16 harg16 hc0 hc1 hc2 x0 x1 x2 x3 xs0 xs3 xs5 fh0 y = G (y 1).val (256 * (y 0).val + (y 2).val) := by
  unfold out0_C_8
  rw [l8_C]
  have h0 : (y 0).val < 8 := (y 0).isLt
  refine l8_read _ _ _ (fun y => G (y 1).val (256 * (y 0).val + (y 2).val)) (fun j hj p k l hp => ?_) 8 le_rfl y h0
  show View.read (Elt Ideal) arg16.view (arg16.view.writes (Elt Ideal) _ [⟨rB, _⟩]) ((rC j).emb (ix2 k l)) = _
  refine (read_whole _ _ _ _ _).trans ((gacc_C hb hw _).trans ((hG _).trans ?_))
  show G (0 + 1 * k.val) (256 * (j % 8) + 1 * l.val) = G k.val (256 * p.val + l.val)
  rw [Nat.one_mul, Nat.one_mul, Nat.zero_add, Nat.mod_eq_of_lt hj, hp]

end CaseC

end Cert.PleIdeal.Voc

end
-- ==== Proof.PleValue.lean ====
/-
  What the gate and loss kernel computes: its five results as functions of the arguments, over the extended reals.

  The launch has 32 points of 256 rows each. By induction on the points, each point stores its rows of the three
  row-wise results, and the two accumulators hold the sums over the rows so far; the last point stores the loss and the
  gradient of the embedding's weight.
-/
module

public import proofs.«01_k».proof.Proof.PleBridge
public import proofs.«01_k».proof.Proof.Gen.PleIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleIdeal.Voc

open Cert.PleIdeal Cert.PleIdeal.Gen Cert.PleFun

/-- The index `(r, q)` of an `[8192, 2048]` array, for any natural numbers (reduced into range). -/
abbrev ixA (r q : ℕ) : S8192x2048.Idx := fun a => match a with
  | ⟨0, _⟩ => Fin.ofNat 8192 r
  | ⟨1, _⟩ => Fin.ofNat 2048 q

/-- The index `(r, q)` of the embedding's rows, -/
abbrev ixP (r q : ℕ) : S8192x256.Idx := fun a => match a with
  | ⟨0, _⟩ => Fin.ofNat 8192 r
  | ⟨1, _⟩ => Fin.ofNat 256 q

/-- of the gate's weight, -/
abbrev ixW (r q : ℕ) : S2048x2048.Idx := fun a => match a with
  | ⟨0, _⟩ => Fin.ofNat 2048 r
  | ⟨1, _⟩ => Fin.ofNat 2048 q

/-- and of the embedding's weight, whose column `k` lies in slab `k / 256`. -/
abbrev ixE (l k : ℕ) : S8x256x256.Idx := fun a => match a with
  | ⟨0, _⟩ => Fin.ofNat 8 (k / 256)
  | ⟨1, _⟩ => Fin.ofNat 256 l
  | ⟨2, _⟩ => Fin.ofNat 256 (k % 256)

variable (m : (ℓ : Loc nD τ sig) → Buf (Elt Ideal) ℓ) (c : Dev nD)

/-- The five arguments at a row and a column. -/
def arrs : Arrs where
  h1 r k := (m ((c : Thread nD τ).loc main_arg0) : S8192x2048.Idx → EReal) (ixA r k)
  p r k := (m ((c : Thread nD τ).loc main_arg1) : S8192x256.Idx → EReal) (ixP r k)
  tg r k := (m ((c : Thread nD τ).loc main_arg2) : S8192x2048.Idx → EReal) (ixA r k)
  w r k := (m ((c : Thread nD τ).loc main_arg3) : S2048x2048.Idx → EReal) (ixW r k)
  wpe l k := (m ((c : Thread nD τ).loc main_arg4) : S8x256x256.Idx → EReal) (ixE l k)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

theorem hN32 : cfg0.N = 32 := N_0

/-- Point `t` reads the rows from `256 t` on. -/
theorem blk_of (t : Fin cfg0.N) : Blk (arrs m c) (256 * t.val) (iblk m c 0 t) (iblk m c 1 t) (iblk m c 2 t) (iblk m c 3 t) := by
  have hN := lt_of_lt_of_eq t.isLt hN32
  constructor
  · intro y
    have h0 : (y 0).val < 256 := (y 0).isLt
    have h1 : (y 1).val < 2048 := (y 1).isLt
    unfold iblk
    rw [View.read_apply]
    show V m c main_arg0 _ = m ((c : Thread nD τ).loc main_arg0) _
    unfold V
    congr 1
    funext a
    apply Fin.ext
    match a with
    | ⟨0, _⟩ => show win0_0.index t 0 * 256 + 1 * (y 0).val = (256 * t.val + (y 0).val) % 8192; rw [(idx0 t).1]; omega
    | ⟨1, _⟩ => show win0_0.index t 1 * 2048 + 1 * (y 1).val = (y 1).val % 2048; rw [(idx0 t).2]; omega
  · intro y
    have h0 : (y 0).val < 256 := (y 0).isLt
    have h1 : (y 1).val < 256 := (y 1).isLt
    unfold iblk
    rw [View.read_apply]
    show V m c main_arg1 _ = m ((c : Thread nD τ).loc main_arg1) _
    unfold V
    congr 1
    funext a
    apply Fin.ext
    match a with
    | ⟨0, _⟩ => show win0_1.index t 0 * 256 + 1 * (y 0).val = (256 * t.val + (y 0).val) % 8192; rw [(idx1 t).1]; omega
    | ⟨1, _⟩ => show win0_1.index t 1 * 256 + 1 * (y 1).val = (y 1).val % 256; rw [(idx1 t).2]; omega
  · intro y
    have h0 : (y 0).val < 256 := (y 0).isLt
    have h1 : (y 1).val < 2048 := (y 1).isLt
    unfold iblk
    rw [View.read_apply]
    show V m c main_arg2 _ = m ((c : Thread nD τ).loc main_arg2) _
    unfold V
    congr 1
    funext a
    apply Fin.ext
    match a with
    | ⟨0, _⟩ => show win0_2.index t 0 * 256 + 1 * (y 0).val = (256 * t.val + (y 0).val) % 8192; rw [(idx2 t).1]; omega
    | ⟨1, _⟩ => show win0_2.index t 1 * 2048 + 1 * (y 1).val = (y 1).val % 2048; rw [(idx2 t).2]; omega
  · intro y
    have h0 : (y 0).val < 8 := (y 0).isLt
    have h1 : (y 1).val < 256 := (y 1).isLt
    have h2 : (y 2).val < 256 := (y 2).isLt
    unfold iblk
    rw [View.read_apply]
    show V m c main_arg4 _ = m ((c : Thread nD τ).loc main_arg4) _
    unfold V
    congr 1
    funext a
    apply Fin.ext
    match a with
    | ⟨0, _⟩ => show win0_3.index t 0 * 8 + 1 * (y 0).val = (256 * (y 0).val + (y 2).val) / 256 % 8; rw [(idx3 t).1]; omega
    | ⟨1, _⟩ => show win0_3.index t 1 * 256 + 1 * (y 1).val = (y 1).val % 256; rw [(idx3 t).2.1]; omega
    | ⟨2, _⟩ => show win0_3.index t 2 * 256 + 1 * (y 2).val = (256 * (y 0).val + (y 2).val) % 256 % 256; rw [(idx3 t).2.2]; omega

theorem w_of (y : S2048x2048.Idx) : View.read (Elt Ideal) (Memref.whole main_arg3).view (V m c main_arg3) y = (arrs m c).w (y 0).val (y 1).val := by
  have h0 : (y 0).val < 2048 := (y 0).isLt
  have h1 : (y 1).val < 2048 := (y 1).isLt
  unfold V
  show m ((c : Thread nD τ).loc main_arg3) _ = m ((c : Thread nD τ).loc main_arg3) _
  congr 1
  funext a
  apply Fin.ext
  match a with
  | ⟨0, _⟩ => show (y 0).val = (y 0).val % 2048; omega
  | ⟨1, _⟩ => show (y 1).val = (y 1).val % 2048; omega

/-- The accumulator's entries summed over its eight rows, its columns and all points are the squares summed over all rows. -/
theorem sum_acc (A : Arrs) :
    ∑ s : Fin 8, ∑ k : Fin 2048, ∑ t ∈ Finset.range 32, accAdd A (256 * t) s.val k.val
      = ∑ k ∈ Finset.range 2048, ∑ r ∈ Finset.range 8192, PleFun.sq A r k := by
  rw [Finset.sum_comm, Finset.sum_range (fun k => ∑ r ∈ Finset.range 8192, PleFun.sq A r k)]
  refine Finset.sum_congr rfl fun k _ => ?_
  rw [Finset.sum_comm, ← Sums.range_blocks 256 (fun r => PleFun.sq A r k.val) 32]
  refine Finset.sum_congr rfl fun t _ => ?_
  rw [show (256 : ℕ) = 16 * 16 from rfl, ← Sums.range_lanes 8 16 rfl (fun r => PleFun.sq A (16 * 16 * t + r) k.val) 16, Finset.sum_range]
  rfl

/-- The second accumulator after all points is the sum over all rows. -/
theorem sum_g (A : Arrs) (l k : ℕ) : ∑ t ∈ Finset.range 32, gAdd A (256 * t) l k = PleFun.dw A l k := by
  unfold PleFun.dw
  rw [← Sums.range_blocks 256 (fun r => A.p r l * PleFun.dpe A r k) 32]
  rfl

/-- What the launch holds after point `n`: the three blocks the point stored, the gate's weight, the two accumulators, and
    after the last point the loss and the embedding's weight gradient. -/
structure State (n : ℕ) (hn : n < cfg0.N) : Prop where
  o4 : ∀ y, (outsAt0 m c n hn).1 y = PleFun.dh2 (arrs m c) (256 * n + (y 0).val) (y 1).val
  o5 : ∀ y, (outsAt0 m c n hn).2.1 y = PleFun.dgl (arrs m c) (256 * n + (y 0).val) (y 1).val
  o6 : ∀ y, (outsAt0 m c n hn).2.2.1 y = (arrs m c).h1 (256 * n + (y 0).val) (y 1).val
  o7 : n = 31 → ∀ y, (outsAt0 m c n hn).2.2.2.1 y = PleFun.loss (arrs m c)
  o8 : n = 31 → ∀ y, (outsAt0 m c n hn).2.2.2.2.1 y = PleFun.dw (arrs m c) (y 1).val (256 * (y 0).val + (y 2).val)
  s0 : ∀ y, (outsAt0 m c n hn).2.2.2.2.2.1 y = (arrs m c).w (y 0).val (y 1).val
  s3 : ∀ y, (outsAt0 m c n hn).2.2.2.2.2.2.1 y = ∑ t ∈ Finset.range (n + 1), accAdd (arrs m c) (256 * t) (y 0).val (y 1).val
  s5 : ∀ y, (outsAt0 m c n hn).2.2.2.2.2.2.2 y = ∑ t ∈ Finset.range (n + 1), gAdd (arrs m c) (256 * t) (y 0).val (y 1).val

theorem state (n : ℕ) (hn : n < cfg0.N) : State m c n hn := by
  have hn' : n < 32 := lt_of_lt_of_eq hn hN32
  induction n with
  | zero =>
    have e := outsAt0_A m c ⟨0, hn⟩ rfl rfl (by show ¬(0 % 32 = 31); omega)
    have hb := blk_of m c ⟨0, hn⟩
    dsimp only at e
    constructor
    · intro y; rw [e]; dsimp only; exact out4_A hb (w_of m c) y
    · intro y; rw [e]; dsimp only; exact out5_A hb (w_of m c) y
    · intro y; rw [e]; dsimp only; exact out6_A hb (w_of m c) y
    · intro h; omega
    · intro h; omega
    · intro y; rw [e]; dsimp only; exact (congrFun sout0_A y).trans (w_of m c y)
    · intro y; rw [e, Finset.sum_range_one]; dsimp only; exact sout3_A hb (w_of m c) y
    · intro y; rw [e, Finset.sum_range_one]; dsimp only; exact sout5_A hb (w_of m c) y
  | succ n ih =>
    have hp := ih (by omega) (by omega)
    have hb := blk_of m c ⟨n + 1, hn⟩
    have h0 : ¬(n + 1) % 32 = 0 := by omega
    by_cases h2 : (n + 1) % 32 = 31
    · have e := outsAt0_C m c ⟨n + 1, hn⟩ h0 h0 h2
      have en : n + 1 = 31 := by omega
      dsimp only at e
      constructor
      · intro y; rw [e]; dsimp only; exact out4_C hb hp.s0 y
      · intro y; rw [e]; dsimp only; exact out5_C hb hp.s0 y
      · intro y; rw [e]; dsimp only; exact out6_C hb hp.s0 y
      · intro _ y
        rw [e]
        dsimp only
        refine (out7_C hb hp.s0 y).trans (congrArg (_ * ·) (Eq.trans ?_ (sum_acc (arrs m c))))
        refine Finset.sum_congr rfl fun s _ => Finset.sum_congr rfl fun k _ => ?_
        rw [show (32 : ℕ) = n + 1 + 1 by omega, Finset.sum_range_succ _ (n + 1)]
        exact congrArg (· + _) (hp.s3 _)
      · intro _ y
        rw [e]
        dsimp only
        refine out8_C hb hp.s0 (PleFun.dw (arrs m c)) (fun y => ?_) y
        rw [← sum_g, show (32 : ℕ) = n + 1 + 1 by omega, Finset.sum_range_succ _ (n + 1)]
        exact congrArg (· + _) (hp.s5 _)
      · intro y; rw [e]; dsimp only; exact hp.s0 y
      · intro y
        rw [e, Finset.sum_range_succ _ (n + 1)]
        dsimp only
        exact (sout3_C hb hp.s0 y).trans (congrArg (· + _) (hp.s3 y))
      · intro y
        rw [e, Finset.sum_range_succ _ (n + 1)]
        dsimp only
        exact (sout5_C hb hp.s0 y).trans (congrArg (· + _) (hp.s5 y))
    · have e := outsAt0_B m c ⟨n + 1, hn⟩ h0 h0 h2
      dsimp only at e
      constructor
      · intro y; rw [e]; dsimp only; exact out4_B hb hp.s0 y
      · intro y; rw [e]; dsimp only; exact out5_B hb hp.s0 y
      · intro y; rw [e]; dsimp only; exact out6_B hb hp.s0 y
      · intro h; omega
      · intro h; omega
      · intro y; rw [e]; dsimp only; exact hp.s0 y
      · intro y
        rw [e, Finset.sum_range_succ _ (n + 1)]
        dsimp only
        exact (sout3_B hb hp.s0 y).trans (congrArg (· + _) (hp.s3 y))
      · intro y
        rw [e, Finset.sum_range_succ _ (n + 1)]
        dsimp only
        exact (sout5_B hb hp.s0 y).trans (congrArg (· + _) (hp.s5 y))

/-! ## The five results -/

/-- The residual's gradient. -/
theorem arr4 : (dats m 0 c).arrAt 4 cfg0.N = fun i : S8192x2048.Idx => PleFun.dh2 (arrs m c) (i 0).val (i 1).val := by
  refine (dats m 0 c).arrAt_eq_of_covers 4 _ (by decide +kernel) fun t hf y => ?_
  blk_simp
  rw [after0_4]
  refine ((state m c t.val t.isLt).o4 _).trans ?_
  exact congrArg₂ (PleFun.dh2 (arrs m c)) (by rw [(idx4 t).1, Nat.mul_comm]) (by rw [(idx4 t).2, Nat.zero_mul, Nat.zero_add])

/-- The gate product's gradient. -/
theorem arr5 : (dats m 0 c).arrAt 5 cfg0.N = fun i : S8192x2048.Idx => PleFun.dgl (arrs m c) (i 0).val (i 1).val := by
  refine (dats m 0 c).arrAt_eq_of_covers 5 _ (by decide +kernel) fun t hf y => ?_
  blk_simp
  rw [after0_5]
  refine ((state m c t.val t.isLt).o5 _).trans ?_
  exact congrArg₂ (PleFun.dgl (arrs m c)) (by rw [(idx5 t).1, Nat.mul_comm]) (by rw [(idx5 t).2, Nat.zero_mul, Nat.zero_add])

/-- The residual. -/
theorem arr6 : (dats m 0 c).arrAt 6 cfg0.N = fun i : S8192x2048.Idx => (arrs m c).h1 (i 0).val (i 1).val := by
  refine (dats m 0 c).arrAt_eq_of_covers 6 _ (by decide +kernel) fun t hf y => ?_
  blk_simp
  rw [after0_6]
  refine ((state m c t.val t.isLt).o6 _).trans ?_
  exact congrArg₂ ((arrs m c).h1) (by rw [(idx6 t).1, Nat.mul_comm]) (by rw [(idx6 t).2, Nat.zero_mul, Nat.zero_add])

/-- The last point, the one that writes the loss back, -/
theorem flush7 : ∀ t : Fin cfg0.N, (cfg0.win 7).flush t = true → t.val = 31 :=
  (by decide +kernel : ∀ t : Fin grid0.N, _)

/-- and the embedding's weight gradient. -/
theorem flush8 : ∀ t : Fin cfg0.N, (cfg0.win 8).flush t = true → t.val = 31 :=
  (by decide +kernel : ∀ t : Fin grid0.N, _)

/-- The loss. -/
theorem arr7 : (dats m 0 c).arrAt 7 cfg0.N = fun i : S8x128.Idx => PleFun.loss (arrs m c) := by
  refine (dats m 0 c).arrAt_eq_of_covers 7 _ (by decide +kernel) fun t hf y => ?_
  have h31 := flush7 t hf
  blk_simp
  rw [after0_7]
  exact (state m c t.val t.isLt).o7 h31 _

/-- The embedding's weight gradient. -/
theorem arr8 : (dats m 0 c).arrAt 8 cfg0.N = fun i : S8x256x256.Idx => PleFun.dw (arrs m c) (i 1).val (256 * (i 0).val + (i 2).val) := by
  refine (dats m 0 c).arrAt_eq_of_covers 8 _ (by decide +kernel) fun t hf y => ?_
  have h31 := flush8 t hf
  blk_simp
  rw [after0_8]
  refine ((state m c t.val t.isLt).o8 h31 _).trans ?_
  exact congrArg₂ (PleFun.dw (arrs m c)) (by rw [(idx8 t).2.1, Nat.zero_mul, Nat.zero_add])
    (by rw [(idx8 t).1, (idx8 t).2.2, Nat.zero_mul, Nat.zero_add, Nat.zero_add])

end Cert.PleIdeal.Voc

end
-- ==== Proof.PleClaim.lean ====
/-
  The gate and loss kernel against the loss of the forward lines and its derivative.

  The reference's gate is the logistic function by its exponential and the kernel's by the hyperbolic tangent of half the
  argument; the reference divides each row's sum of squares by the width and halves the sum of the rows' quotients, and the
  kernel multiplies the sum of all squares by one constant; the constants of the derivative are grouped differently.
-/
module

public import proofs.«01_k».proof.Defs
public import proofs.«01_k».proof.Proof.Reals
public import proofs.«01_k».proof.Proof.PleValue
public import proofs.«01_k».proof.Proof.Gen.PleIdeal.Value
public import proofs.«01_k».proof.Proof.Gen.PleRefIdeal.Read

@[expose] public section

set_option maxRecDepth 16384

noncomputable section

open Idealize.ShloMosaic Idealize.ShloMosaic.TcCoe Idealize.SL.Sem

namespace Cert.PleClaim

open Cert.PleRefIdeal Cert.PleRefIdeal.Gen Cert.PleRefIdeal.Read Cert.PleFun
open Cert.PleIdeal.Voc (ixA ixP ixW ixE)

variable (x0 : S8192x2048.Idx → EReal) (x1 : S8192x256.Idx → EReal) (x2 : S8192x2048.Idx → EReal) (x3 : S2048x2048.Idx → EReal) (x4 : S8x256x256.Idx → EReal)

/-- The reference's arguments at a row and a column. -/
def refArrs : Arrs where
  h1 r k := x0 (ixA r k)
  p r k := x1 (ixP r k)
  tg r k := x2 (ixA r k)
  w r k := x3 (ixW r k)
  wpe l k := x4 (ixE l k)

/-- An index is made of its coordinates. -/
theorem ixA_eta (i : S8192x2048.Idx) : ixA (i 0).val (i 1).val = i := by
  have h0 : (i 0).val < 8192 := (i 0).isLt
  have h1 : (i 1).val < 2048 := (i 1).isLt
  funext a; apply Fin.ext
  match a with
  | ⟨0, _⟩ => exact Nat.mod_eq_of_lt h0
  | ⟨1, _⟩ => exact Nat.mod_eq_of_lt h1

theorem ixP_eta (i : S8192x256.Idx) : ixP (i 0).val (i 1).val = i := by
  have h0 : (i 0).val < 8192 := (i 0).isLt
  have h1 : (i 1).val < 256 := (i 1).isLt
  funext a; apply Fin.ext
  match a with
  | ⟨0, _⟩ => exact Nat.mod_eq_of_lt h0
  | ⟨1, _⟩ => exact Nat.mod_eq_of_lt h1

theorem ixW_eta (i : S2048x2048.Idx) : ixW (i 0).val (i 1).val = i := by
  have h0 : (i 0).val < 2048 := (i 0).isLt
  have h1 : (i 1).val < 2048 := (i 1).isLt
  funext a; apply Fin.ext
  match a with
  | ⟨0, _⟩ => exact Nat.mod_eq_of_lt h0
  | ⟨1, _⟩ => exact Nat.mod_eq_of_lt h1

/-- The gate's product. -/
theorem v1_apply (i : S8192x2048.Idx) : val_main_v1 (F := Ideal) x0 x3 i = gl (refArrs x0 x1 x2 x3 x4) (i 0).val (i 1).val := by
  rw [val_main_v1_apply]
  unfold gl
  rw [Finset.sum_range]
  refine Finset.sum_congr rfl fun k _ => congrArg₂ (· * ·) ?_ ?_
  · show x0 _ = x0 _
    exact congrArg x0 (by rw [← ixA_eta (lidx_main_v1 i k)])
  · show x3 _ = x3 _
    exact congrArg x3 (by rw [← ixW_eta (ridx_main_v1 i k)])

/-- The embedding's weight with its slabs side by side. -/
theorem v4_apply (i : S256x2048.Idx) : val_main_v4 (F := Ideal) x4 i = (refArrs x0 x1 x2 x3 x4).wpe (i 0).val (i 1).val := by
  rw [val_main_v4_apply, val_main_v3_apply]
  show x4 _ = x4 _
  have h0 : (i 0).val < 256 := (i 0).isLt
  have h1 : (i 1).val < 2048 := (i 1).isLt
  refine congrArg x4 (funext fun a => Fin.ext ?_)
  match a with
  | ⟨0, _⟩ => show ((i 0).val * 2048 + (i 1).val) / 256 % 8 = (i 1).val / 256 % 8; omega
  | ⟨1, _⟩ => show ((i 0).val * 2048 + (i 1).val) / 2048 = (i 0).val % 256; omega
  | ⟨2, _⟩ => show ((i 0).val * 2048 + (i 1).val) % 256 = (i 1).val % 256 % 256; omega

/-- The embedding's product. -/
theorem v5_apply (i : S8192x2048.Idx) : val_main_v5 (F := Ideal) x1 x4 i = pe (refArrs x0 x1 x2 x3 x4) (i 0).val (i 1).val := by
  rw [val_main_v5_apply]
  unfold pe
  rw [Finset.sum_range]
  refine Finset.sum_congr rfl fun k _ => congrArg₂ (· * ·) ?_ ?_
  · show x1 _ = x1 _
    exact congrArg x1 (by rw [← ixP_eta (lidx_main_v5 i k)])
  · exact v4_apply x0 x1 x2 x3 x4 _

/-- The gate. -/
theorem v11_apply (i : S8192x2048.Idx) : val_main_v11 (F := Ideal) x0 x3 i = gt (refArrs x0 x1 x2 x3 x4) (i 0).val (i 1).val := by
  rw [val_main_v11_apply, val_main_v10_apply, val_main_v9_apply, val_main_v8_apply, val_main_v7_apply, val_main_v6_apply,
    v1_apply x0 x1 x2 x3 x4]
  unfold gt
  rw [Reals.tanh_logistic]
  unfold Ideal.logistic
  rw [← Ideal.ofBits_one_f32]
  rfl

theorem v14_apply (i : S8192x2048.Idx) : val_main_v14 (F := Ideal) x0 x3 i
    = gt (refArrs x0 x1 x2 x3 x4) (i 0).val (i 1).val * (Ideal.ofBits .f32 0x3F800000#32 - gt (refArrs x0 x1 x2 x3 x4) (i 0).val (i 1).val) := by
  rw [val_main_v14_apply, val_main_v13_apply, val_main_v12_apply, v11_apply x0 x1 x2 x3 x4]
  rfl

/-- The error. -/
theorem v17_apply (i : S8192x2048.Idx) : val_main_v17 (F := Ideal) x0 x1 x2 x3 x4 i = er (refArrs x0 x1 x2 x3 x4) (i 0).val (i 1).val := by
  rw [val_main_v17_apply, val_main_v16_apply, val_main_v15_apply, v11_apply x0 x1 x2 x3 x4, v5_apply x0 x1 x2 x3 x4]
  unfold er
  show x0 i + _ - x2 i = x0 (ixA _ _) + _ - x2 (ixA _ _)
  rw [ixA_eta]
  rfl

/-- Twice the error times half of the width's inverse is the error times the inverse. -/
theorem two_half (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [Ideal.ofBits_one_f32, mul_one, Reals.bits_half, Reals.bits_2048, Ideal.div_coe (by norm_num), Reals.bits_two, Reals.bits_inv2048,
    ← EReal.coe_mul, ← mul_assoc, ← EReal.coe_mul, mul_comm]
  congr 2
  norm_num

/-- The residual's gradient. -/
theorem v31_apply (i : S8192x2048.Idx) : val_main_v31 (F := Ideal) x0 x1 x2 x3 x4 i = dh2 (refArrs x0 x1 x2 x3 x4) (i 0).val (i 1).val := by
  rw [val_main_v31_apply, val_main_v30_apply, val_main_v29_apply, val_main_v28_apply, val_main_v27_apply, val_main_v26_apply, val_main_v20_apply,
    val_main_v19_apply, v17_apply x0 x1 x2 x3 x4]
  exact two_half _

/-- The gate product's gradient. -/
theorem v40_apply (i : S8192x2048.Idx) : val_main_v40 (F := Ideal) x0 x1 x2 x3 x4 i = dgl (refArrs x0 x1 x2 x3 x4) (i 0).val (i 1).val := by
  show val_main_v34 (F := Ideal) x0 x1 x2 x3 x4 i = _
  rw [val_main_v34_apply, val_main_v32_apply, v14_apply x0 x1 x2 x3 x4, v31_apply x0 x1 x2 x3 x4, v5_apply x0 x1 x2 x3 x4]
  unfold dgl
  generalize gt (refArrs x0 x1 x2 x3 x4) (i 0).val (i 1).val = g
  generalize dh2 (refArrs x0 x1 x2 x3 x4) (i 0).val (i 1).val = d
  generalize pe (refArrs x0 x1 x2 x3 x4) (i 0).val (i 1).val = p
  show p * d * (g * (Ideal.ofBits .f32 0x3F800000#32 - g)) = _
  rw [mul_comm p d, ← mul_assoc]

/-- The residual itself. -/
theorem v41_apply (i : S8192x2048.Idx) : val_main_v41 (F := Ideal) x0 i = (refArrs x0 x1 x2 x3 x4).h1 (i 0).val (i 1).val := by
  show x0 i = x0 (ixA _ _)
  rw [ixA_eta]

/-- The embedding product's gradient. -/
theorem v33_apply (i : S8192x2048.Idx) : val_main_v33 (F := Ideal) x0 x1 x2 x3 x4 i = dpe (refArrs x0 x1 x2 x3 x4) (i 0).val (i 1).val := by
  rw [val_main_v33_apply, v31_apply x0 x1 x2 x3 x4, v11_apply x0 x1 x2 x3 x4]
  rfl

/-- The gradient of the embedding's weight. -/
theorem v35_apply (i : S2048x256.Idx) : val_main_v35 (F := Ideal) x0 x1 x2 x3 x4 i = dw (refArrs x0 x1 x2 x3 x4) (i 1).val (i 0).val := by
  rw [val_main_v35_apply]
  unfold dw
  rw [Finset.sum_range]
  refine Finset.sum_congr rfl fun k _ => (mul_comm _ _).trans (congrArg₂ (· * ·) ?_ ?_)
  · show x1 _ = x1 _
    exact congrArg x1 (by rw [← ixP_eta (ridx_main_v35 i k)])
  · exact v33_apply x0 x1 x2 x3 x4 _

theorem v39_apply (i : S8x256x256.Idx) : val_main_v39 (F := Ideal) x0 x1 x2 x3 x4 i
    = dw (refArrs x0 x1 x2 x3 x4) (i 1).val (256 * (i 0).val + (i 2).val) := by
  have h0 : (i 0).val < 8 := (i 0).isLt
  have h1 : (i 1).val < 256 := (i 1).isLt
  have h2 : (i 2).val < 256 := (i 2).isLt
  show val_main_v38 (F := Ideal) x0 x1 x2 x3 x4 i = _
  rw [val_main_v38_apply, val_main_v37_apply, val_main_v36_apply, v35_apply]
  refine congrArg₂ (dw (refArrs x0 x1 x2 x3 x4)) ?_ ?_
  · show (((i 1).val * 8 + (i 0).val) * 256 + (i 2).val) / 2048 = _
    omega
  · show (((i 1).val * 8 + (i 0).val) * 256 + (i 2).val) % 2048 = _
    omega

/-- A row's mean square. -/
theorem v23_apply (i : S8192.Idx) : val_main_v23 (F := Ideal) x0 x1 x2 x3 x4 i
    = (∑ k ∈ Finset.range 2048, sq (refArrs x0 x1 x2 x3 x4) (i 0).val k) * ((1 / 2048 : ℝ) : EReal) := by
  rw [val_main_v23_apply, val_main_v22_apply, val_main_v21_apply]
  have e : (val_main_cst_3 (F := Ideal)) (Shape.Idx.first h_S_) = (0 : EReal) := Ideal.ofBits_zero_f32
  rw [e]
  show Ideal.div (0 + _) (Ideal.ofBits .f32 0x45000000#32) = _
  rw [Reals.bits_2048, Ideal.div_coe (by norm_num), Finset.sum_range]
  refine congrArg (· * ((1 / 2048 : ℝ) : EReal)) ((zero_add _).trans (Finset.sum_congr rfl fun k _ => ?_))
  rw [val_main_v18_apply, v17_apply x0 x1 x2 x3 x4]
  rfl

/-- The rows' indices are the numbers below 8192. -/
def rowEquiv : S8192.Idx ≃ Fin 8192 where
  toFun i := i 0
  invFun r := fun a => match a with
    | ⟨0, _⟩ => r
  left_inv i := by
    funext a
    match a with
    | ⟨0, _⟩ => rfl
  right_inv r := rfl

/-- The loss. -/
theorem v42_apply (i : S8x128.Idx) : val_main_v42 (F := Ideal) x0 x1 x2 x3 x4 i = loss (refArrs x0 x1 x2 x3 x4) := by
  rw [val_main_v42_apply, val_main_v25_apply, val_main_v24_apply]
  have e : (val_main_cst_5 (F := Ideal)) (Shape.Idx.first h_S_) = (0 : EReal) := Ideal.ofBits_zero_f32
  rw [e]
  show Ideal.ofBits .f32 0x3F000000#32 * (0 + _) = _
  rw [zero_add, Reals.bits_half, Reals.mul_sum _ _ _ (by norm_num)]
  unfold loss
  rw [Finset.sum_comm, Reals.bits_inv4096, Reals.mul_sum _ _ _ (by norm_num), Finset.sum_range]
  refine Fintype.sum_equiv rowEquiv _ _ fun j => ?_
  rw [v23_apply, mul_comm _ ((1 / 2048 : ℝ) : EReal), ← mul_assoc, ← EReal.coe_mul]
  show _ * _ = ((1 / 4096 : ℝ) : EReal) * ∑ k ∈ Finset.range 2048, sq (refArrs x0 x1 x2 x3 x4) (j 0).val k
  congr 2
  norm_num

end Cert.PleClaim

namespace Cert.PleClaim

open Cert.PleIdeal Cert.PleIdeal.Gen

/-- What the launch reads is what the reference reads. -/
theorem arrs_eq (m : (ℓ : Loc nD τ sig) → Buf (Elt Ideal) ℓ) (c : Dev nD) :
    Voc.arrs m c = refArrs (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The gate and loss kernel and the loss of the forward lines with its derivative end with equal results from equal
    arguments. -/
theorem algebraic : Cert.algebraic_PleIdeal_PleRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, Cert.PleIdeal.Value.run_blocks (F := Ideal) m ρ, ?_⟩
  refine (θ_run Cert.PleRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.PleRefIdeal.Value.run (F := Ideal) m' ρ')
  all_goals obtain ⟨h0, h1, h2, h3, h4⟩ := hagree c
  · rw [Cert.PleRefIdeal.Read.val_main_v31_eq, h0, h1, h2, h3, h4]
    show _ = (dats m 0 c).arrAt 4 cfg0.N
    rw [Voc.arr4, arrs_eq]
    funext i
    exact v31_apply _ _ _ _ _ i
  · rw [Cert.PleRefIdeal.Read.val_main_v40_eq, h0, h1, h2, h3, h4]
    show _ = (dats m 0 c).arrAt 5 cfg0.N
    rw [Voc.arr5, arrs_eq]
    funext i
    exact v40_apply _ _ _ _ _ i
  · rw [Cert.PleRefIdeal.Read.val_main_v41_eq, h0]
    show _ = (dats m 0 c).arrAt 6 cfg0.N
    rw [Voc.arr6, arrs_eq]
    funext i
    exact v41_apply _ _ _ _ _ i
  · rw [Cert.PleRefIdeal.Read.val_main_v42_eq, h0, h1, h2, h3, h4]
    show _ = (dats m 0 c).arrAt 7 cfg0.N
    rw [Voc.arr7, arrs_eq]
    funext i
    exact v42_apply _ _ _ _ _ i
  · rw [Cert.PleRefIdeal.Read.val_main_v39_eq, h0, h1, h2, h3, h4]
    show _ = (dats m 0 c).arrAt 8 cfg0.N
    rw [Voc.arr8, arrs_eq]
    funext i
    exact v39_apply _ _ _ _ _ i

end Cert.PleClaim

end
-- ==== Proof.InbKit.lean ====
/-
  The projection's gradient: what its run is stated over. The buffers as the region finds them, a window's block, the
  conditions of the body's branches by the point's number, the staging and scratch buffers, and the invariant of the
  launch conjunct by conjunct.
-/
module

public import proofs.«01_k».proof.Proof.Gen.InbIdeal.Launch
public import proofs.«01_k».proof.Proof.Gen.InbIdeal.Skeleton
public import proofs.«01_k».proof.Proof.Gen.InbIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InbIdeal.Inb

open Cert.InbIdeal Cert.InbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The buffers of device `c` when the region starts: as launched. -/
abbrev V (c : Dev nD) (b : Ref sig .tc) : Buf (Elt F) ((c : Thread nD τ).loc b) := m ((c : Thread nD τ).loc b)

set_option maxHeartbeats 800000 in
/-- The host program is the region alone. -/
theorem host_region (𝒱₀ : Variants) : Pipeline.HMain (Ix := Unit) (Name := ℕ) (U := Pipeline.UD sig nD τ) (Lvl := ℕ) cfgs 0 defs₀ 𝒱₀ m
    (main (F := F)) (V m) :=
  Pipeline.hmain_region cfgs 0 defs₀ 𝒱₀ m main fun c => (main_chain c).trans rfl

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Before every point input 0's buffer holds its block. -/
theorem found0 {c : Dev nD} (dat : Dat τ (Elt F) Unit ℕ (Pipeline.UD sig nD τ) ℕ cfg0 c) (hA : dat.A 0 = V m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Before every point input 1's buffer holds its block. -/
theorem found1 {c : Dev nD} (dat : Dat τ (Elt F) Unit ℕ (Pipeline.UD sig nD τ) ℕ cfg0 c) (hA : dat.A 1 = V m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Before every point input 2's buffer holds its block. -/
theorem found2 {c : Dev nD} (dat : Dat τ (Elt F) Unit ℕ (Pipeline.UD sig nD τ) ℕ cfg0 c) (hA : dat.A 2 = V m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Before every point input 3's buffer holds its block. -/
theorem found3 {c : Dev nD} (dat : Dat τ (Elt F) Unit ℕ (Pipeline.UD sig nD τ) ℕ cfg0 c) (hA : dat.A 3 = V m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The conditions of the four branches: the first point, a later even one, an odd one, the last. -/
abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := k0_cond3 i = 1#1
abbrev cond3 (i : grid0.Coords) : Prop := k0_cond4 i = 1#1

/-- The four cases they make: first, odd, even, last. -/
abbrev isA (i : grid0.Coords) : Prop := cond0 i ∧ ¬cond1 i ∧ ¬cond2 i ∧ ¬cond3 i
abbrev isB (i : grid0.Coords) : Prop := ¬cond0 i ∧ ¬cond1 i ∧ cond2 i ∧ ¬cond3 i
abbrev isC (i : grid0.Coords) : Prop := ¬cond0 i ∧ cond1 i ∧ ¬cond2 i ∧ ¬cond3 i
abbrev isD (i : grid0.Coords) : Prop := ¬cond0 i ∧ cond1 i ∧ ¬cond2 i ∧ cond3 i

theorem isA_of : ∀ t : Fin cfg0.N, t.val = 0 → isA (grid0.coords t) :=
  (by decide +kernel : ∀ t : Fin grid0.N, t.val = 0 → isA (grid0.coords t))
theorem isB_of : ∀ t : Fin cfg0.N, t.val % 2 = 1 → isB (grid0.coords t) :=
  (by decide +kernel : ∀ t : Fin grid0.N, t.val % 2 = 1 → isB (grid0.coords t))
theorem isC_of : ∀ t : Fin cfg0.N, t.val % 2 = 0 → t.val ≠ 0 → t.val ≠ 32 → isC (grid0.coords t) :=
  (by decide +kernel : ∀ t : Fin grid0.N, t.val % 2 = 0 → t.val ≠ 0 → t.val ≠ 32 → isC (grid0.coords t))
theorem isD_of : ∀ t : Fin cfg0.N, t.val = 32 → isD (grid0.coords t) :=
  (by decide +kernel : ∀ t : Fin grid0.N, t.val = 32 → isD (grid0.coords t))

/-- Where the two results' windows are left alone, and that nothing is written back there. -/
theorem idle4 : ∀ t : Fin cfg0.N, t.val = 0 → cfg0.idle 4 (grid0.coords t) = true :=
  (by decide +kernel : ∀ t : Fin grid0.N, t.val = 0 → cfg0.idle 4 (grid0.coords t) = true)
theorem live4 : ∀ t : Fin cfg0.N, t.val ≠ 0 → cfg0.idle 4 (grid0.coords t) = false :=
  (by decide +kernel : ∀ t : Fin grid0.N, t.val ≠ 0 → cfg0.idle 4 (grid0.coords t) = false)
theorem kept4 : ∀ t : Fin cfg0.N, t.val = 0 → (cfg0.win 4).flush t = false :=
  (by decide +kernel : ∀ t : Fin cfg0.N, t.val = 0 → (cfg0.win 4).flush t = false)
theorem idle5 : ∀ t : Fin cfg0.N, t.val ≠ 32 → cfg0.idle 5 (grid0.coords t) = true :=
  (by decide +kernel : ∀ t : Fin grid0.N, t.val ≠ 32 → cfg0.idle 5 (grid0.coords t) = true)
theorem live5 : ∀ t : Fin cfg0.N, t.val = 32 → cfg0.idle 5 (grid0.coords t) = false :=
  (by decide +kernel : ∀ t : Fin grid0.N, t.val = 32 → cfg0.idle 5 (grid0.coords t) = false)
theorem kept5 : ∀ t : Fin cfg0.N, t.val ≠ 32 → (cfg0.win 5).flush t = false :=
  (by decide +kernel : ∀ t : Fin cfg0.N, t.val ≠ 32 → (cfg0.win 5).flush t = false)

/-- The windows' buffers at a point, as the pipeline passes them, and that each is a whole buffer. -/
abbrev st0 (t : Fin cfg0.N) : Memref sig .tc .vmem S256x5120 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S256x2048 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S256x2048 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x2048 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S256x2048 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x2048 .f32 := win0_5.stage (cfg0.slots t 5)
abbrev hst5 (t : Fin cfg0.N) : (st5 t).IsWhole := hstage0_5 ((cfg0.slots t 5).cast nbuf0_5)

/-- The scratch: the weight, the two tiles of the product, the accumulator. -/
abbrev scW : Memref sig .tc .vmem S2048x5120 .bf16 := Memref.whole cc0_scratch0
abbrev scE : Memref sig .tc .vmem S256x2048 .f32 := Memref.whole cc0_scratch1
abbrev scO : Memref sig .tc .vmem S256x2048 .f32 := Memref.whole cc0_scratch2
abbrev scA : Memref sig .tc .vmem S8x2048 .f32 := Memref.whole cc0_scratch3
/-- The weight as it lies in the large memory. -/
abbrev hbW : Memref sig .tc .hbm S8x2048x640 .bf16 := Memref.whole main_arg1

/-- A buffer's contents on device `c`, and that it is held with these contents. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The eight semaphores of the weight's copies. -/
abbrev ownSem : Fin 8 → SemLoc sig := fun j => (![SemLoc.dma 10, SemLoc.dma 11, SemLoc.dma 12, SemLoc.dma 13, SemLoc.dma 14, SemLoc.dma 15, SemLoc.dma 16, SemLoc.dma 17] : Fin 8 → SemLoc sig) j
theorem ownSem_facts : Pipeline.OwnSemFacts spec0 ownSem := by decide

/-- All eight at zero. -/
def sems (c : Dev nD) : sProp 𝕄 :=
  iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

theorem ownSems_eq (c : Dev nD) :
    (Pipeline.ownSems0 (Ix := Unit) (Name := ℕ) (U := Pipeline.UD sig nD τ) (Lvl := ℕ) (Val := Elt F) (τ := τ) ownSem c : sProp 𝕄) = sems c := by
  rw [Pipeline.ownSems0_eq_of_list c ownSem [0, 1, 2, 3, 4, 5, 6, 7] (by decide) (by decide)]; rfl

/-- The buffers the body copies from itself. -/
def hbmSet : Finset (Ref sig .tc) := {main_arg1}
theorem hbmSet_sub : hbmSet ⊆ Pipeline.restRefs sig spec0 := by decide
theorem hbm_eq (c : Dev nD) :
    (bigSep hbmSet (fun b => ((c : Thread nD τ).loc b) ↦{fullShare} V m c b) : sProp 𝕄) = iprop(hbPt c hbW (V m c main_arg1)) := by
  rw [BI.bigSep_eq_bigSepL_of_eq [main_arg1] (by decide) (by decide)]; rfl

/-- What the launch hands the region: each scratch at anything, the generator's register, the semaphores at zero, the
    weight as launched. -/
theorem launch_eq (c : Dev nD) :
    (Pipeline.ΦD ownSem spec0 hbmSet (V m) c : sProp 𝕄)
      = iprop(iprop((∃ d, owns (c : Thread nD τ) scW fullShare d) ∗ (∃ d, owns (c : Thread nD τ) scE fullShare d)
          ∗ (∃ d, owns (c : Thread nD τ) scO fullShare d) ∗ (∃ d, owns (c : Thread nD τ) scA fullShare d))
          ∗ (∃ r, prngReg c r) ∗ sems c ∗ iprop(hbPt c hbW (V m c main_arg1))) := by
  rw [Pipeline.ΦD_eq, scopedRest0_eq, ownSems_eq, hbm_eq]; simp only [scW, scE, scO, scA, owns_whole]; try rfl

variable (c : Dev nD) (i : grid0.Coords) (arg1 : Memref sig .tc .vmem S256x5120 .bf16) (harg1 : arg1.IsWhole)
  (arg3 : Memref sig .tc .vmem S256x2048 .f32) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S1x2048 .f32) (harg7 : arg7.IsWhole) (arg8 : Memref sig .tc .vmem S2048x5120 .bf16) (harg8 : arg8.IsWhole)
  (arg9 : Memref sig .tc .vmem S256x2048 .f32) (harg9 : arg9.IsWhole) (arg10 : Memref sig .tc .vmem S256x2048 .f32) (harg10 : arg10.IsWhole)
  (arg11 : Memref sig .tc .vmem S8x2048 .f32) (harg11 : arg11.IsWhole)

/-- The body on any buffers. -/
abbrev body : Prog (TpuEff nD τ sig (Elt F) Λ₀ .tc) PUnit :=
  cc0_in_bwd i arg1 harg1 (Memref.whole main_arg1) (Memref.isWhole_whole _) arg3 harg3 arg4 harg4 arg5 harg5 arg6 harg6 arg7 harg7
    arg8 harg8 arg9 harg9 arg10 harg10 arg11 harg11 cc0_scratch4

end Cert.InbIdeal.Inb

end
-- ==== Proof.InbRunA.lean ====
/-
  The first point: the weight copied in, the first tile of the product summed over the eight slabs, the accumulator zeroed.
-/
module

public import proofs.«01_k».proof.Proof.InbKit

@[expose] public section

set_option maxRecDepth 16384

noncomputable section

namespace Cert.InbIdeal.Inb

open Cert.InbIdeal Cert.InbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg1 : Memref sig .tc .vmem S256x5120 .bf16) (harg1 : arg1.IsWhole)
  (arg3 : Memref sig .tc .vmem S256x2048 .f32) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S1x2048 .f32) (harg7 : arg7.IsWhole) (arg8 : Memref sig .tc .vmem S2048x5120 .bf16) (harg8 : arg8.IsWhole)
  (arg9 : Memref sig .tc .vmem S256x2048 .f32) (harg9 : arg9.IsWhole) (arg10 : Memref sig .tc .vmem S256x2048 .f32) (harg10 : arg10.IsWhole)
  (arg11 : Memref sig .tc .vmem S8x2048 .f32) (harg11 : arg11.IsWhole)

set_option sl_exec.dmaWindow true in
set_option sl_exec.dmaWindowSet true in
set_option maxHeartbeats 1200000 in
/-- The first point: the weight copied in, the first tile of the product summed over the eight slabs, the accumulator zeroed. The lists are what each buffer was written with, the last store first. -/
def runA (hc : isA i)
    (x0 : Vec F S256x5120 .bf16) (fh : HbBuf (F := F) c hbW) :
    Σ' (LW : List (View.Piece (Elt F) S2048x5120 .bf16)), Σ' (LE : List (View.Piece (Elt F) S256x2048 .f32)), { LA : List (View.Piece (Elt F) S8x2048 .f32) //
      ∀ (W : Waits sig Unit) (K : PUnit → sProp 𝕄),
        iprop(owns (c : Thread nD τ) arg1 fullShare x0 ∗ (∃ d, owns (c : Thread nD τ) arg8 fullShare d) ∗ (∃ d, owns (c : Thread nD τ) arg9 fullShare d) ∗ (∃ d, owns (c : Thread nD τ) arg11 fullShare d) ∗ sems c ∗ hbPt c hbW fh ∗ owes (c : Thread nD τ) 0 W
            ∗ (iprop(owns (c : Thread nD τ) arg1 fullShare x0 ∗ (∃ f, arg8.view.loc (c : Thread nD τ) ↦[arg8.view.set]{fullShare} arg8.view.writes (Elt F) f LW) ∗ (∃ f, arg9.view.loc (c : Thread nD τ) ↦[arg9.view.set]{fullShare} arg9.view.writes (Elt F) f LE) ∗ (∃ f, arg11.view.loc (c : Thread nD τ) ↦[arg11.view.set]{fullShare} arg11.view.writes (Elt F) f LA) ∗ sems c ∗ hbPt c hbW fh ∗ (∃ W', owes (c : Thread nD τ) 0 W')) -∗ K ⟨⟩))
          ⊢ wp frame (wpE (defs₀ (F := F)) Variants.none c none) Set.univ
            (body i arg1 harg1 arg3 harg3 arg4 harg4 arg5 harg5 arg6 harg6 arg7 harg7 arg8 harg8 arg9 harg9 arg10 harg10 arg11 harg11) K } := by
  refine ⟨?_, ?_, ?_, fun W K => ?run⟩
  case run =>
    obtain ⟨hc0, hc1, hc2, hc3⟩ := hc
    unfold body
    simp only [cc0_in_bwd_eq_skeleton]; unfold cc0_in_bwd_skel
    simp only [k0_part34_eq_skeleton, k0_part1_eq_skeleton, k0_part2_eq_skeleton, k0_part3_eq_skeleton, k0_part4_eq_skeleton, k0_part5_eq_skeleton]
    unfold owns sems
    iintro ⟨⟨%farg1, %earg1, Harg1⟩, ⟨%darg8, %farg8, -, Harg8⟩, ⟨%darg9, %farg9, -, Harg9⟩, ⟨%darg11, %farg11, -, Harg11⟩, ⟨Hq0, Hq1, Hq2, Hq3, Hq4, Hq5, Hq6, Hq7⟩, Hh, HW, Hk⟩
    obtain rfl := harg1.eq_unread earg1
    sl_exec (disch := first | sl_exact hc0 | sl_exact hc1 | sl_exact hc2 | sl_exact hc3)
    sl_step
    iapply Hk
    isplitl [Harg1]
    · iexists _; isplitr; · ipureintro; exact harg1.read_unread _
      iexact Harg1
    isplitl [Harg8]
    · iexists _; iexact Harg8
    isplitl [Harg9]
    · iexists _; iexact Harg9
    isplitl [Harg11]
    · iexists _; iexact Harg11
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh]
    · iexact Hh
    iexists _; iexact HW

end Cert.InbIdeal.Inb

end
-- ==== Proof.InbRunB.lean ====
/-
  An odd point: the next tile of the product into the odd buffer, the norm's gradient from the even one.
-/
module

public import proofs.«01_k».proof.Proof.InbKit

@[expose] public section

set_option maxRecDepth 16384

noncomputable section

namespace Cert.InbIdeal.Inb

open Cert.InbIdeal Cert.InbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg1 : Memref sig .tc .vmem S256x5120 .bf16) (harg1 : arg1.IsWhole)
  (arg3 : Memref sig .tc .vmem S256x2048 .f32) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S1x2048 .f32) (harg7 : arg7.IsWhole) (arg8 : Memref sig .tc .vmem S2048x5120 .bf16) (harg8 : arg8.IsWhole)
  (arg9 : Memref sig .tc .vmem S256x2048 .f32) (harg9 : arg9.IsWhole) (arg10 : Memref sig .tc .vmem S256x2048 .f32) (harg10 : arg10.IsWhole)
  (arg11 : Memref sig .tc .vmem S8x2048 .f32) (harg11 : arg11.IsWhole)

set_option maxHeartbeats 1200000 in
/-- An odd point: the next tile of the product into the odd buffer, the norm's gradient from the even one. The lists are what each buffer was written with, the last store first. -/
def runB (hc : isB i)
    (x0 : Vec F S256x5120 .bf16) (x1 : Vec F S256x2048 .f32) (x2 : Vec F S256x2048 .f32) (x3 : Vec F S1x2048 .f32)
    (w : Vec F S2048x5120 .bf16) (b : Vec F S256x2048 .f32) (a : Vec F S8x2048 .f32) :
    Σ' (LG : List (View.Piece (Elt F) S256x2048 .f32)), Σ' (LT : List (View.Piece (Elt F) S256x2048 .f32)), { LA : List (View.Piece (Elt F) S8x2048 .f32) //
      ∀ (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg8 fullShare w ∗ owns (c : Thread nD τ) arg9 fullShare b ∗ (∃ d, owns (c : Thread nD τ) arg6 fullShare d) ∗ (∃ d, owns (c : Thread nD τ) arg10 fullShare d) ∗ owns (c : Thread nD τ) arg11 fullShare a
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg8 fullShare w ∗ owns (c : Thread nD τ) arg9 fullShare b ∗ (∃ f, arg6.view.loc (c : Thread nD τ) ↦[arg6.view.set]{fullShare} arg6.view.writes (Elt F) f LG) ∗ (∃ f, arg10.view.loc (c : Thread nD τ) ↦[arg10.view.set]{fullShare} arg10.view.writes (Elt F) f LT) ∗ (∃ f, arg11.view.loc (c : Thread nD τ) ↦[arg11.view.set]{fullShare} arg11.view.writes (Elt F) f LA)) -∗ K ⟨⟩))
          ⊢ wp frame (wpE (defs₀ (F := F)) Variants.none c none) Set.univ
            (body i arg1 harg1 arg3 harg3 arg4 harg4 arg5 harg5 arg6 harg6 arg7 harg7 arg8 harg8 arg9 harg9 arg10 harg10 arg11 harg11) K } := by
  refine ⟨?_, ?_, ?_, fun K => ?run⟩
  case run =>
    obtain ⟨hc0, hc1, hc2, hc3⟩ := hc
    unfold body
    simp only [cc0_in_bwd_eq_skeleton]; unfold cc0_in_bwd_skel
    simp only [k0_part34_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%farg1, %earg1, Harg1⟩, ⟨%farg3, %earg3, Harg3⟩, ⟨%farg4, %earg4, Harg4⟩, ⟨%farg5, %earg5, Harg5⟩, ⟨%farg8, %earg8, Harg8⟩, ⟨%farg9, %earg9, Harg9⟩, ⟨%darg6, %farg6, -, Harg6⟩, ⟨%darg10, %farg10, -, Harg10⟩, ⟨%farg11, %earg11, Harg11⟩, Hk⟩
    obtain rfl := harg1.eq_unread earg1; obtain rfl := harg3.eq_unread earg3; obtain rfl := harg4.eq_unread earg4; obtain rfl := harg5.eq_unread earg5; obtain rfl := harg8.eq_unread earg8; obtain rfl := harg9.eq_unread earg9; obtain rfl := harg11.eq_unread earg11
    sl_exec (disch := first | sl_exact hc0 | sl_exact hc1 | sl_exact hc2 | sl_exact hc3)
    sl_step
    iapply Hk
    isplitl [Harg1]
    · iexists _; isplitr; · ipureintro; exact harg1.read_unread _
      iexact Harg1
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg8]
    · iexists _; isplitr; · ipureintro; exact harg8.read_unread _
      iexact Harg8
    isplitl [Harg9]
    · iexists _; isplitr; · ipureintro; exact harg9.read_unread _
      iexact Harg9
    isplitl [Harg6]
    · iexists _; iexact Harg6
    isplitl [Harg10]
    · iexists _; iexact Harg10
    iexists _; iexact Harg11

end Cert.InbIdeal.Inb

end
-- ==== Proof.InbRunC.lean ====
/-
  A later even point: the next tile of the product into the even buffer, the norm's gradient from the odd one.
-/
module

public import proofs.«01_k».proof.Proof.InbKit

@[expose] public section

set_option maxRecDepth 16384

noncomputable section

namespace Cert.InbIdeal.Inb

open Cert.InbIdeal Cert.InbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg1 : Memref sig .tc .vmem S256x5120 .bf16) (harg1 : arg1.IsWhole)
  (arg3 : Memref sig .tc .vmem S256x2048 .f32) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S1x2048 .f32) (harg7 : arg7.IsWhole) (arg8 : Memref sig .tc .vmem S2048x5120 .bf16) (harg8 : arg8.IsWhole)
  (arg9 : Memref sig .tc .vmem S256x2048 .f32) (harg9 : arg9.IsWhole) (arg10 : Memref sig .tc .vmem S256x2048 .f32) (harg10 : arg10.IsWhole)
  (arg11 : Memref sig .tc .vmem S8x2048 .f32) (harg11 : arg11.IsWhole)

set_option maxHeartbeats 1200000 in
/-- A later even point: the next tile of the product into the even buffer, the norm's gradient from the odd one. The lists are what each buffer was written with, the last store first. -/
def runC (hc : isC i)
    (x0 : Vec F S256x5120 .bf16) (x1 : Vec F S256x2048 .f32) (x2 : Vec F S256x2048 .f32) (x3 : Vec F S1x2048 .f32)
    (w : Vec F S2048x5120 .bf16) (b : Vec F S256x2048 .f32) (a : Vec F S8x2048 .f32) :
    Σ' (LG : List (View.Piece (Elt F) S256x2048 .f32)), Σ' (LT : List (View.Piece (Elt F) S256x2048 .f32)), { LA : List (View.Piece (Elt F) S8x2048 .f32) //
      ∀ (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg8 fullShare w ∗ owns (c : Thread nD τ) arg10 fullShare b ∗ (∃ d, owns (c : Thread nD τ) arg6 fullShare d) ∗ (∃ d, owns (c : Thread nD τ) arg9 fullShare d) ∗ owns (c : Thread nD τ) arg11 fullShare a
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg8 fullShare w ∗ owns (c : Thread nD τ) arg10 fullShare b ∗ (∃ f, arg6.view.loc (c : Thread nD τ) ↦[arg6.view.set]{fullShare} arg6.view.writes (Elt F) f LG) ∗ (∃ f, arg9.view.loc (c : Thread nD τ) ↦[arg9.view.set]{fullShare} arg9.view.writes (Elt F) f LT) ∗ (∃ f, arg11.view.loc (c : Thread nD τ) ↦[arg11.view.set]{fullShare} arg11.view.writes (Elt F) f LA)) -∗ K ⟨⟩))
          ⊢ wp frame (wpE (defs₀ (F := F)) Variants.none c none) Set.univ
            (body i arg1 harg1 arg3 harg3 arg4 harg4 arg5 harg5 arg6 harg6 arg7 harg7 arg8 harg8 arg9 harg9 arg10 harg10 arg11 harg11) K } := by
  refine ⟨?_, ?_, ?_, fun K => ?run⟩
  case run =>
    obtain ⟨hc0, hc1, hc2, hc3⟩ := hc
    unfold body
    simp only [cc0_in_bwd_eq_skeleton]; unfold cc0_in_bwd_skel
    simp only [k0_part34_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%farg1, %earg1, Harg1⟩, ⟨%farg3, %earg3, Harg3⟩, ⟨%farg4, %earg4, Harg4⟩, ⟨%farg5, %earg5, Harg5⟩, ⟨%farg8, %earg8, Harg8⟩, ⟨%farg10, %earg10, Harg10⟩, ⟨%darg6, %farg6, -, Harg6⟩, ⟨%darg9, %farg9, -, Harg9⟩, ⟨%farg11, %earg11, Harg11⟩, Hk⟩
    obtain rfl := harg1.eq_unread earg1; obtain rfl := harg3.eq_unread earg3; obtain rfl := harg4.eq_unread earg4; obtain rfl := harg5.eq_unread earg5; obtain rfl := harg8.eq_unread earg8; obtain rfl := harg10.eq_unread earg10; obtain rfl := harg11.eq_unread earg11
    sl_exec (disch := first | sl_exact hc0 | sl_exact hc1 | sl_exact hc2 | sl_exact hc3)
    sl_step
    iapply Hk
    isplitl [Harg1]
    · iexists _; isplitr; · ipureintro; exact harg1.read_unread _
      iexact Harg1
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg8]
    · iexists _; isplitr; · ipureintro; exact harg8.read_unread _
      iexact Harg8
    isplitl [Harg10]
    · iexists _; isplitr; · ipureintro; exact harg10.read_unread _
      iexact Harg10
    isplitl [Harg6]
    · iexists _; iexact Harg6
    isplitl [Harg9]
    · iexists _; iexact Harg9
    iexists _; iexact Harg11

end Cert.InbIdeal.Inb

end
-- ==== Proof.InbRunD.lean ====
/-
  The last point: as an even one, and the accumulator's eight rows summed into the gain's gradient.
-/
module

public import proofs.«01_k».proof.Proof.InbKit

@[expose] public section

set_option maxRecDepth 16384

noncomputable section

namespace Cert.InbIdeal.Inb

open Cert.InbIdeal Cert.InbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg1 : Memref sig .tc .vmem S256x5120 .bf16) (harg1 : arg1.IsWhole)
  (arg3 : Memref sig .tc .vmem S256x2048 .f32) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S1x2048 .f32) (harg7 : arg7.IsWhole) (arg8 : Memref sig .tc .vmem S2048x5120 .bf16) (harg8 : arg8.IsWhole)
  (arg9 : Memref sig .tc .vmem S256x2048 .f32) (harg9 : arg9.IsWhole) (arg10 : Memref sig .tc .vmem S256x2048 .f32) (harg10 : arg10.IsWhole)
  (arg11 : Memref sig .tc .vmem S8x2048 .f32) (harg11 : arg11.IsWhole)

set_option maxHeartbeats 1200000 in
/-- The last point: as an even one, and the accumulator's eight rows summed into the gain's gradient. The lists are what each buffer was written with, the last store first. -/
def runD (hc : isD i)
    (x0 : Vec F S256x5120 .bf16) (x1 : Vec F S256x2048 .f32) (x2 : Vec F S256x2048 .f32) (x3 : Vec F S1x2048 .f32)
    (w : Vec F S2048x5120 .bf16) (b : Vec F S256x2048 .f32) (a : Vec F S8x2048 .f32) :
    Σ' (LG : List (View.Piece (Elt F) S256x2048 .f32)), Σ' (LD : List (View.Piece (Elt F) S1x2048 .f32)), Σ' (LT : List (View.Piece (Elt F) S256x2048 .f32)), { LA : List (View.Piece (Elt F) S8x2048 .f32) //
      ∀ (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg8 fullShare w ∗ owns (c : Thread nD τ) arg10 fullShare b ∗ (∃ d, owns (c : Thread nD τ) arg6 fullShare d) ∗ (∃ d, owns (c : Thread nD τ) arg7 fullShare d) ∗ (∃ d, owns (c : Thread nD τ) arg9 fullShare d) ∗ owns (c : Thread nD τ) arg11 fullShare a
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg8 fullShare w ∗ owns (c : Thread nD τ) arg10 fullShare b ∗ (∃ f, arg6.view.loc (c : Thread nD τ) ↦[arg6.view.set]{fullShare} arg6.view.writes (Elt F) f LG) ∗ (∃ f, arg7.view.loc (c : Thread nD τ) ↦[arg7.view.set]{fullShare} arg7.view.writes (Elt F) f LD) ∗ (∃ f, arg9.view.loc (c : Thread nD τ) ↦[arg9.view.set]{fullShare} arg9.view.writes (Elt F) f LT) ∗ (∃ f, arg11.view.loc (c : Thread nD τ) ↦[arg11.view.set]{fullShare} arg11.view.writes (Elt F) f LA)) -∗ K ⟨⟩))
          ⊢ wp frame (wpE (defs₀ (F := F)) Variants.none c none) Set.univ
            (body i arg1 harg1 arg3 harg3 arg4 harg4 arg5 harg5 arg6 harg6 arg7 harg7 arg8 harg8 arg9 harg9 arg10 harg10 arg11 harg11) K } := by
  refine ⟨?_, ?_, ?_, ?_, fun K => ?run⟩
  case run =>
    obtain ⟨hc0, hc1, hc2, hc3⟩ := hc
    unfold body
    simp only [cc0_in_bwd_eq_skeleton]; unfold cc0_in_bwd_skel
    simp only [k0_part34_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%farg1, %earg1, Harg1⟩, ⟨%farg3, %earg3, Harg3⟩, ⟨%farg4, %earg4, Harg4⟩, ⟨%farg5, %earg5, Harg5⟩, ⟨%farg8, %earg8, Harg8⟩, ⟨%farg10, %earg10, Harg10⟩, ⟨%darg6, %farg6, -, Harg6⟩, ⟨%darg7, %farg7, -, Harg7⟩, ⟨%darg9, %farg9, -, Harg9⟩, ⟨%farg11, %earg11, Harg11⟩, Hk⟩
    obtain rfl := harg1.eq_unread earg1; obtain rfl := harg3.eq_unread earg3; obtain rfl := harg4.eq_unread earg4; obtain rfl := harg5.eq_unread earg5; obtain rfl := harg8.eq_unread earg8; obtain rfl := harg10.eq_unread earg10; obtain rfl := harg11.eq_unread earg11
    sl_exec (disch := first | sl_exact hc0 | sl_exact hc1 | sl_exact hc2 | sl_exact hc3)
    sl_step
    iapply Hk
    isplitl [Harg1]
    · iexists _; isplitr; · ipureintro; exact harg1.read_unread _
      iexact Harg1
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg8]
    · iexists _; isplitr; · ipureintro; exact harg8.read_unread _
      iexact Harg8
    isplitl [Harg10]
    · iexists _; isplitr; · ipureintro; exact harg10.read_unread _
      iexact Harg10
    isplitl [Harg6]
    · iexists _; iexact Harg6
    isplitl [Harg7]
    · iexists _; iexact Harg7
    isplitl [Harg9]
    · iexists _; iexact Harg9
    iexists _; iexact Harg11

end Cert.InbIdeal.Inb

end
-- ==== Proof.InbFrame.lean ====
/-
  The projection's gradient: what every buffer holds after each point, and the run. The odd tile is first written at
  point one, so until then the invariant says nothing of it.
-/
module

public import proofs.«01_k».proof.Proof.InbRunA
public import proofs.«01_k».proof.Proof.InbRunB
public import proofs.«01_k».proof.Proof.InbRunC
public import proofs.«01_k».proof.Proof.InbRunD
public import Idealize.ShloMosaic.Lib.Claim

@[expose] public section

set_option maxRecDepth 16384

noncomputable section

namespace Cert.InbIdeal.Inb

open Cert.InbIdeal Cert.InbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A list of stores read back, for each of the shapes written. -/
def rdT (L : List (View.Piece (Elt F) S256x2048 .f32)) : Vec F S256x2048 .f32 := scE.view.read (Elt F) (scE.view.writes (Elt F) scE.view.junk L)
def rdW (L : List (View.Piece (Elt F) S2048x5120 .bf16)) : Vec F S2048x5120 .bf16 := scW.view.read (Elt F) (scW.view.writes (Elt F) scW.view.junk L)
def rdA (L : List (View.Piece (Elt F) S8x2048 .f32)) : Vec F S8x2048 .f32 := scA.view.read (Elt F) (scA.view.writes (Elt F) scA.view.junk L)
def rdG (L : List (View.Piece (Elt F) S1x2048 .f32)) : Vec F S1x2048 .f32 :=
  (st5 (⟨0, by decide⟩ : Fin cfg0.N)).view.read (Elt F) ((st5 (⟨0, by decide⟩ : Fin cfg0.N)).view.writes (Elt F) (st5 (⟨0, by decide⟩ : Fin cfg0.N)).view.junk L)

/-- What the buffers hold after a point: the two results' windows, the weight, the two tiles, the accumulator. -/
structure St (F : FTy → Type) where
  gx : Vec F S256x2048 .f32
  dg : Vec F S1x2048 .f32
  w : Vec F S2048x5120 .bf16
  te : Vec F S256x2048 .f32
  tod : Vec F S256x2048 .f32
  acc : Vec F S8x2048 .f32

/-- The four runs at a point's own buffers and blocks, from what the point before left. -/
abbrev atA (c : Dev nD) (t : Fin cfg0.N) (h : isA (grid0.coords t)) :=
  runA (F := F) c (grid0.coords t) (st0 t) (hst0 t) (st1 t) (hst1 t) (st2 t) (hst2 t) (st3 t) (hst3 t) (st4 t) (hst4 t) (st5 t) (hst5 t) scW (Memref.isWhole_whole _) scE (Memref.isWhole_whole _) scO (Memref.isWhole_whole _) scA (Memref.isWhole_whole _) h (blk m c 0 t) (V m c main_arg1)
abbrev atB (c : Dev nD) (t : Fin cfg0.N) (h : isB (grid0.coords t)) (s : St F) :=
  runB (F := F) c (grid0.coords t) (st0 t) (hst0 t) (st1 t) (hst1 t) (st2 t) (hst2 t) (st3 t) (hst3 t) (st4 t) (hst4 t) (st5 t) (hst5 t) scW (Memref.isWhole_whole _) scE (Memref.isWhole_whole _) scO (Memref.isWhole_whole _) scA (Memref.isWhole_whole _) h (blk m c 0 t) (blk m c 1 t) (blk m c 2 t) (blk m c 3 t) s.w s.te s.acc
abbrev atC (c : Dev nD) (t : Fin cfg0.N) (h : isC (grid0.coords t)) (s : St F) :=
  runC (F := F) c (grid0.coords t) (st0 t) (hst0 t) (st1 t) (hst1 t) (st2 t) (hst2 t) (st3 t) (hst3 t) (st4 t) (hst4 t) (st5 t) (hst5 t) scW (Memref.isWhole_whole _) scE (Memref.isWhole_whole _) scO (Memref.isWhole_whole _) scA (Memref.isWhole_whole _) h (blk m c 0 t) (blk m c 1 t) (blk m c 2 t) (blk m c 3 t) s.w s.tod s.acc
abbrev atD (c : Dev nD) (t : Fin cfg0.N) (h : isD (grid0.coords t)) (s : St F) :=
  runD (F := F) c (grid0.coords t) (st0 t) (hst0 t) (st1 t) (hst1 t) (st2 t) (hst2 t) (st3 t) (hst3 t) (st4 t) (hst4 t) (st5 t) (hst5 t) scW (Memref.isWhole_whole _) scE (Memref.isWhole_whole _) scO (Memref.isWhole_whole _) scA (Memref.isWhole_whole _) h (blk m c 0 t) (blk m c 1 t) (blk m c 2 t) (blk m c 3 t) s.w s.tod s.acc

/-- Each run's stores cover the buffers they go to. -/
theorem covA_LW (c : Dev nD) (t : Fin cfg0.N) (h : isA (grid0.coords t)) (y : S2048x5120.Idx) : ∃ p ∈ (atA m c t h).1, y ∈ p.1.set :=
  View.cover_of_tiledL (atA m c t h).1 S2048x640.size (by sl_kernel_rfl) y
theorem covA_LE (c : Dev nD) (t : Fin cfg0.N) (h : isA (grid0.coords t)) (y : S256x2048.Idx) : ∃ p ∈ (atA m c t h).2.1, y ∈ p.1.set :=
  View.cover_of_tiledL (atA m c t h).2.1 S256x2048.size (by sl_kernel_rfl) y
theorem covA_LA (c : Dev nD) (t : Fin cfg0.N) (h : isA (grid0.coords t)) (y : S8x2048.Idx) : ∃ p ∈ (atA m c t h).2.2.1, y ∈ p.1.set :=
  View.cover_of_tiledL (atA m c t h).2.2.1 S8x2048.size (by sl_kernel_rfl) y
theorem covB_LG (c : Dev nD) (t : Fin cfg0.N) (h : isB (grid0.coords t)) (s : St F) (y : S256x2048.Idx) : ∃ p ∈ (atB m c t h s).1, y ∈ p.1.set :=
  View.cover_of_tiledL (atB m c t h s).1 S16x2048.size (by sl_kernel_rfl) y
theorem covB_LT (c : Dev nD) (t : Fin cfg0.N) (h : isB (grid0.coords t)) (s : St F) (y : S256x2048.Idx) : ∃ p ∈ (atB m c t h s).2.1, y ∈ p.1.set :=
  View.cover_of_tiledL (atB m c t h s).2.1 S256x256.size (by sl_kernel_rfl) y
theorem covB_LA (c : Dev nD) (t : Fin cfg0.N) (h : isB (grid0.coords t)) (s : St F) (y : S8x2048.Idx) : ∃ p ∈ (atB m c t h s).2.2.1, y ∈ p.1.set :=
  View.cover_of_tiledL (atB m c t h s).2.2.1 S8x2048.size (by sl_kernel_rfl) y
theorem covC_LG (c : Dev nD) (t : Fin cfg0.N) (h : isC (grid0.coords t)) (s : St F) (y : S256x2048.Idx) : ∃ p ∈ (atC m c t h s).1, y ∈ p.1.set :=
  View.cover_of_tiledL (atC m c t h s).1 S16x2048.size (by sl_kernel_rfl) y
theorem covC_LT (c : Dev nD) (t : Fin cfg0.N) (h : isC (grid0.coords t)) (s : St F) (y : S256x2048.Idx) : ∃ p ∈ (atC m c t h s).2.1, y ∈ p.1.set :=
  View.cover_of_tiledL (atC m c t h s).2.1 S256x256.size (by sl_kernel_rfl) y
theorem covC_LA (c : Dev nD) (t : Fin cfg0.N) (h : isC (grid0.coords t)) (s : St F) (y : S8x2048.Idx) : ∃ p ∈ (atC m c t h s).2.2.1, y ∈ p.1.set :=
  View.cover_of_tiledL (atC m c t h s).2.2.1 S8x2048.size (by sl_kernel_rfl) y
theorem covD_LG (c : Dev nD) (t : Fin cfg0.N) (h : isD (grid0.coords t)) (s : St F) (y : S256x2048.Idx) : ∃ p ∈ (atD m c t h s).1, y ∈ p.1.set :=
  View.cover_of_tiledL (atD m c t h s).1 S16x2048.size (by sl_kernel_rfl) y
theorem covD_LD (c : Dev nD) (t : Fin cfg0.N) (h : isD (grid0.coords t)) (s : St F) (y : S1x2048.Idx) : ∃ p ∈ (atD m c t h s).2.1, y ∈ p.1.set :=
  View.cover_of_tiledL (atD m c t h s).2.1 S1x2048.size (by sl_kernel_rfl) y
theorem covD_LT (c : Dev nD) (t : Fin cfg0.N) (h : isD (grid0.coords t)) (s : St F) (y : S256x2048.Idx) : ∃ p ∈ (atD m c t h s).2.2.1, y ∈ p.1.set :=
  View.cover_of_tiledL (atD m c t h s).2.2.1 S256x256.size (by sl_kernel_rfl) y
theorem covD_LA (c : Dev nD) (t : Fin cfg0.N) (h : isD (grid0.coords t)) (s : St F) (y : S8x2048.Idx) : ∃ p ∈ (atD m c t h s).2.2.2.1, y ∈ p.1.set :=
  View.cover_of_tiledL (atD m c t h s).2.2.2.1 S8x2048.size (by sl_kernel_rfl) y

/-- The state a run leaves. -/
def goA (c : Dev nD) (t : Fin cfg0.N) (h : isA (grid0.coords t)) : St F :=
  ⟨rdT [], rdG [], rdW (atA m c t h).1, rdT (atA m c t h).2.1, rdT [], rdA (atA m c t h).2.2.1⟩
def goB (c : Dev nD) (t : Fin cfg0.N) (h : isB (grid0.coords t)) (s : St F) : St F :=
  ⟨rdT (atB m c t h s).1, rdG [], s.w, s.te, rdT (atB m c t h s).2.1, rdA (atB m c t h s).2.2.1⟩
def goC (c : Dev nD) (t : Fin cfg0.N) (h : isC (grid0.coords t)) (s : St F) : St F :=
  ⟨rdT (atC m c t h s).1, rdG [], s.w, rdT (atC m c t h s).2.1, s.tod, rdA (atC m c t h s).2.2.1⟩
def goD (c : Dev nD) (t : Fin cfg0.N) (h : isD (grid0.coords t)) (s : St F) : St F :=
  ⟨rdT (atD m c t h s).1, rdG (atD m c t h s).2.1, s.w, rdT (atD m c t h s).2.2.1, s.tod, rdA (atD m c t h s).2.2.2.1⟩

/-- The state after point `n`. -/
def after (c : Dev nD) : (n : ℕ) → n < cfg0.N → St F
  | 0, hn => goA m c ⟨0, hn⟩ (isA_of _ rfl)
  | n + 1, hn =>
    if h1 : (n + 1) % 2 = 1 then goB m c ⟨n + 1, hn⟩ (isB_of _ h1) (after c n (Nat.lt_of_succ_lt hn))
    else if h2 : n + 1 = 32 then goD m c ⟨n + 1, hn⟩ (isD_of _ h2) (after c n (Nat.lt_of_succ_lt hn))
    else goC m c ⟨n + 1, hn⟩ (isC_of _ (by dsimp only; omega) (Nat.succ_ne_zero n) h2) (after c n (Nat.lt_of_succ_lt hn))

theorem after_A (c : Dev nD) (t : Fin cfg0.N) (h : t.val = 0) : after m c t.val t.isLt = goA m c t (isA_of t h) := by
  obtain ⟨n, hn⟩ := t; dsimp only at h; subst h; rfl
theorem after_B (c : Dev nD) (t : Fin cfg0.N) (h : t.val % 2 = 1) :
    after m c t.val t.isLt = goB m c t (isB_of t h) (after m c (t.val - 1) (Nat.lt_of_le_of_lt (Nat.sub_le _ _) t.isLt)) := by
  obtain ⟨n, hn⟩ := t
  cases n with
  | zero => dsimp only at h; omega
  | succ n => exact dif_pos h
theorem after_C (c : Dev nD) (t : Fin cfg0.N) (h : t.val % 2 = 0) (h0 : t.val ≠ 0) (h2 : t.val ≠ 32) :
    after m c t.val t.isLt = goC m c t (isC_of t h h0 h2) (after m c (t.val - 1) (Nat.lt_of_le_of_lt (Nat.sub_le _ _) t.isLt)) := by
  obtain ⟨n, hn⟩ := t
  cases n with
  | zero => exact absurd rfl h0
  | succ n => exact (dif_neg (by dsimp only at h; omega)).trans (dif_neg h2)
theorem after_D (c : Dev nD) (t : Fin cfg0.N) (h : t.val = 32) :
    after m c t.val t.isLt = goD m c t (isD_of t h) (after m c (t.val - 1) (Nat.lt_of_le_of_lt (Nat.sub_le _ _) t.isLt)) := by
  obtain ⟨n, hn⟩ := t
  cases n with
  | zero => dsimp only at h; omega
  | succ n => exact (dif_neg (by dsimp only at h; omega)).trans (dif_pos h)

/-- The scratch as a state names it; the odd tile only once it has been written. -/
def held (c : Dev nD) (s : St F) (k : Prop) : sProp 𝕄 :=
  iprop(owns (c : Thread nD τ) scW fullShare s.w ∗ owns (c : Thread nD τ) scE fullShare s.te
    ∗ (∃ d, ⌜k → d = s.tod⌝ ∗ owns (c : Thread nD τ) scO fullShare d) ∗ owns (c : Thread nD τ) scA fullShare s.acc)

/-- Before point `n`: at the first what the launch gives, at a later one the scratch as the point before left it. -/
def Inv (c : Dev nD) : (n : ℕ) → n ≤ cfg0.N → sProp 𝕄
  | 0, _ => Pipeline.ΦD ownSem spec0 hbmSet (V m) c
  | n + 1, hn => iprop(held c (after m c n hn) (n ≠ 0) ∗ (∃ r, prngReg c r) ∗ sems c ∗ hbPt c hbW (V m c main_arg1))

theorem Inv_zero (c : Dev nD) (n : ℕ) (h : n ≤ cfg0.N) (hz : n = 0) : Inv m c n h = Pipeline.ΦD ownSem spec0 hbmSet (V m) c := by
  subst hz; rfl
theorem Inv_succ (c : Dev nD) (n : ℕ) (hn : n < cfg0.N) :
    Inv m c (n + 1) hn = iprop(held c (after m c n hn) (n ≠ 0) ∗ (∃ r, prngReg c r) ∗ sems c ∗ hbPt c hbW (V m c main_arg1)) := rfl
theorem Inv_pos (c : Dev nD) (n : ℕ) (h : n ≤ cfg0.N) (hz : n ≠ 0) :
    Inv m c n h = iprop(held c (after m c (n - 1) (by omega)) (n - 1 ≠ 0) ∗ (∃ r, prngReg c r) ∗ sems c ∗ hbPt c hbW (V m c main_arg1)) := by
  cases n with
  | zero => exact absurd rfl hz
  | succ n => rfl

/-- What the pipeline carries: the arrays as launched, each input's buffer at its block and each result's at the state. -/
def dats (_ : Fin 1) (c : Dev nD) : Dat τ (Elt F) Unit ℕ (Pipeline.UD sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => (after m c t.val t.isLt).gx
    | ⟨5, _⟩ => (after m c t.val t.isLt).dg
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = (after m c t.val t.isLt).gx := by dsimp only [dats]
theorem after5 (c : Dev nD) (t : Fin cfg0.N) : (dats m 0 c).after 5 t = (after m c t.val t.isLt).dg := by dsimp only [dats]

theorem before0 (c : Dev nD) (t : Fin cfg0.N) (d) : (dats m 0 c).before 0 t d = blk m c 0 t :=
  found0 m (dats m 0 c) (A_eq m c 0) (after0 m c) t d
theorem before1 (c : Dev nD) (t : Fin cfg0.N) (d) : (dats m 0 c).before 1 t d = blk m c 1 t :=
  found1 m (dats m 0 c) (A_eq m c 1) (after1 m c) t d
theorem before2 (c : Dev nD) (t : Fin cfg0.N) (d) : (dats m 0 c).before 2 t d = blk m c 2 t :=
  found2 m (dats m 0 c) (A_eq m c 2) (after2 m c) t d
theorem before3 (c : Dev nD) (t : Fin cfg0.N) (d) : (dats m 0 c).before 3 t d = blk m c 3 t :=
  found3 m (dats m 0 c) (A_eq m c 3) (after3 m c) t d
theorem leaves0 (c : Dev nD) (t : Fin cfg0.N) : (dats m 0 c).leavesExact 0 t = owns (c : Thread nD τ) (st0 t) fullShare (blk m c 0 t) := by
  unfold Dat.leavesExact; rw [show cfg0.idle 0 (grid0.coords t) = false from rfl, after0]
theorem leaves1 (c : Dev nD) (t : Fin cfg0.N) : (dats m 0 c).leavesExact 1 t = owns (c : Thread nD τ) (st1 t) fullShare (blk m c 1 t) := by
  unfold Dat.leavesExact; rw [show cfg0.idle 1 (grid0.coords t) = false from rfl, after1]
theorem leaves2 (c : Dev nD) (t : Fin cfg0.N) : (dats m 0 c).leavesExact 2 t = owns (c : Thread nD τ) (st2 t) fullShare (blk m c 2 t) := by
  unfold Dat.leavesExact; rw [show cfg0.idle 2 (grid0.coords t) = false from rfl, after2]
theorem leaves3 (c : Dev nD) (t : Fin cfg0.N) : (dats m 0 c).leavesExact 3 t = owns (c : Thread nD τ) (st3 t) fullShare (blk m c 3 t) := by
  unfold Dat.leavesExact; rw [show cfg0.idle 3 (grid0.coords t) = false from rfl, after3]
theorem leaves4 (c : Dev nD) (t : Fin cfg0.N) (h : t.val ≠ 0) : (dats m 0 c).leavesExact 4 t = owns (c : Thread nD τ) (st4 t) fullShare ((after m c t.val t.isLt).gx) := by
  unfold Dat.leavesExact; rw [live4 t h, after4]
theorem leaves5 (c : Dev nD) (t : Fin cfg0.N) (h : t.val = 32) : (dats m 0 c).leavesExact 5 t = owns (c : Thread nD τ) (st5 t) fullShare ((after m c t.val t.isLt).dg) := by
  unfold Dat.leavesExact; rw [live5 t h, after5]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 3200000 in
/-- The first point. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Inv m c (t.val + 1) t.isLt from rfl, Inv_succ]
  unfold Dat.owesAt Pipeline.owesWithin
  rw [show (dats m 0 c).owed t.castSucc = 0 from rfl, show (dats m 0 c).owed t.succ = 0 from rfl]
  rw [leaves0, leaves1, leaves2, leaves3]
  rw [Dat.leavesExact_idle (dats m 0 c) 4 t (idle4 t h) (kept4 t h), Dat.leavesExact_idle (dats m 0 c) 5 t (idle5 t (by omega)) (kept5 t (by omega))]
  rw [Inv_castSucc m c t, Inv_zero m c _ _ h, launch_eq, after_A m c t h]
  unfold held goA; dsimp only
  iintro ⟨⟨⟨HS0, HS1, ⟨%e2, HS2⟩, HS3⟩, Hg, Hq, Hh⟩, ⟨%W, -, HW⟩, ⟨%d0, H0⟩, ⟨%d1, H1⟩, ⟨%d2, H2⟩, ⟨%d3, H3⟩, ⟨%d4, H4⟩, ⟨%d5, H5⟩⟩
  iapply ((atA m c t (isA_of t h)).2.2.2 W _)
  isplitl [H0]; · iexact H0
  isplitl [HS0]; · iexact HS0
  isplitl [HS1]; · iexact HS1
  isplitl [HS3]; · iexact HS3
  isplitl [Hq]; · iexact Hq
  isplitl [Hh]; · iexact Hh
  isplitl [HW]; · iexact HW
  iintro ⟨H0, ⟨%es0, HS0⟩, ⟨%es1, HS1⟩, ⟨%es3, HS3⟩, Hq, Hh, ⟨%W', HW⟩⟩
  isplitl [HS0 HS1 HS2 HS3 Hg Hq Hh]
  · isplitl [HS0 HS1 HS2 HS3]
    · isplitl [HS0]
      · unfold owns; iexists _; isplitr
        swap; · iexact HS0
        ipureintro; exact View.read_writes_of_cover _ _ _ _ _ (covA_LW m c _ _)
      isplitl [HS1]
      · unfold owns; iexists _; isplitr
        swap; · iexact HS1
        ipureintro; exact View.read_writes_of_cover _ _ _ _ _ (covA_LE m c _ _)
      isplitl [HS2]
      · iexists e2; isplitr; · ipureintro; exact fun hn => absurd h hn
        iexact HS2
      unfold owns; iexists _; isplitr
      swap; · iexact HS3
      ipureintro; exact View.read_writes_of_cover _ _ _ _ _ (covA_LA m c _ _)
    isplitl [Hg]; · iexact Hg
    isplitl [Hq]; · iexact Hq
    iexact Hh
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexists _; iexact H4
  iexists _; iexact H5

set_option maxHeartbeats 3200000 in
/-- An odd point. -/
theorem soundB (c : Dev nD) (t : Fin cfg0.N) (h : t.val % 2 = 1) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0, before1, before2, before3]
  rw [show (dats m 0 c).Φ t.succ = Inv m c (t.val + 1) t.isLt from rfl, Inv_succ]
  unfold Dat.owesAt Pipeline.owesWithin
  rw [show (dats m 0 c).owed t.castSucc = 0 from rfl, show (dats m 0 c).owed t.succ = 0 from rfl]
  rw [leaves0, leaves1, leaves2, leaves3]
  rw [leaves4 m c t hz, Dat.leavesExact_idle (dats m 0 c) 5 t (idle5 t (by omega)) (kept5 t (by omega))]
  rw [Inv_castSucc m c t, Inv_pos m c _ _ hz, after_B m c t h]
  unfold held goB; dsimp only
  iintro ⟨⟨⟨HS0, HS1, ⟨%e2, %he, HS2⟩, HS3⟩, Hg, Hq, Hh⟩, ⟨%W, -, HW⟩, ⟨%d0, H0⟩, ⟨%d1, H1⟩, ⟨%d2, H2⟩, ⟨%d3, H3⟩, ⟨%d4, H4⟩, ⟨%d5, H5⟩⟩
  iapply ((atB m c t (isB_of t h) (after m c (t.val - 1) (Nat.lt_of_le_of_lt (Nat.sub_le _ _) t.isLt))).2.2.2 _)
  isplitl [H0]; · iexact H0
  isplitl [H1]; · iexact H1
  isplitl [H2]; · iexact H2
  isplitl [H3]; · iexact H3
  isplitl [HS0]; · iexact HS0
  isplitl [HS1]; · iexact HS1
  isplitl [H4]; · iexists _; iexact H4
  isplitl [HS2]; · iexists _; iexact HS2
  isplitl [HS3]; · iexact HS3
  iintro ⟨H0, H1, H2, H3, HS0, HS1, ⟨%e4, H4⟩, ⟨%en, HS2⟩, ⟨%es3, HS3⟩⟩
  isplitl [HS0 HS1 HS2 HS3 Hg Hq Hh]
  · isplitl [HS0 HS1 HS2 HS3]
    · isplitl [HS0]
      · iexact HS0
      isplitl [HS1]
      · iexact HS1
      isplitl [HS2]
      · iexists _; isplitr; · ipureintro; exact fun _ => rfl
        unfold owns; iexists _; isplitr
        swap; · iexact HS2
        ipureintro; exact View.read_writes_of_cover _ _ _ _ _ (covB_LT m c _ _ _)
      unfold owns; iexists _; isplitr
      swap; · iexact HS3
      ipureintro; exact View.read_writes_of_cover _ _ _ _ _ (covB_LA m c _ _ _)
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covB_LG m c _ _ _)
  iexists _; iexact H5

set_option maxHeartbeats 3200000 in
/-- A later even point. -/
theorem soundC (c : Dev nD) (t : Fin cfg0.N) (h : t.val % 2 = 0) (h0 : t.val ≠ 0) (h2 : t.val ≠ 32) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0, before1, before2, before3]
  rw [show (dats m 0 c).Φ t.succ = Inv m c (t.val + 1) t.isLt from rfl, Inv_succ]
  unfold Dat.owesAt Pipeline.owesWithin
  rw [show (dats m 0 c).owed t.castSucc = 0 from rfl, show (dats m 0 c).owed t.succ = 0 from rfl]
  rw [leaves0, leaves1, leaves2, leaves3]
  rw [leaves4 m c t hz, Dat.leavesExact_idle (dats m 0 c) 5 t (idle5 t (by omega)) (kept5 t (by omega))]
  rw [Inv_castSucc m c t, Inv_pos m c _ _ hz, after_C m c t h h0 h2]
  unfold held goC; dsimp only
  iintro ⟨⟨⟨HS0, HS1, ⟨%e2, %he, HS2⟩, HS3⟩, Hg, Hq, Hh⟩, ⟨%W, -, HW⟩, ⟨%d0, H0⟩, ⟨%d1, H1⟩, ⟨%d2, H2⟩, ⟨%d3, H3⟩, ⟨%d4, H4⟩, ⟨%d5, H5⟩⟩
  obtain rfl := he (by omega)
  iapply ((atC m c t (isC_of t h h0 h2) (after m c (t.val - 1) (Nat.lt_of_le_of_lt (Nat.sub_le _ _) t.isLt))).2.2.2 _)
  isplitl [H0]; · iexact H0
  isplitl [H1]; · iexact H1
  isplitl [H2]; · iexact H2
  isplitl [H3]; · iexact H3
  isplitl [HS0]; · iexact HS0
  isplitl [HS2]; · iexact HS2
  isplitl [H4]; · iexists _; iexact H4
  isplitl [HS1]; · iexists _; iexact HS1
  isplitl [HS3]; · iexact HS3
  iintro ⟨H0, H1, H2, H3, HS0, HS2, ⟨%e4, H4⟩, ⟨%en, HS1⟩, ⟨%es3, HS3⟩⟩
  isplitl [HS0 HS1 HS2 HS3 Hg Hq Hh]
  · isplitl [HS0 HS1 HS2 HS3]
    · isplitl [HS0]
      · iexact HS0
      isplitl [HS1]
      · unfold owns; iexists _; isplitr
        swap; · iexact HS1
        ipureintro; exact View.read_writes_of_cover _ _ _ _ _ (covC_LT m c _ _ _)
      isplitl [HS2]
      · iexists _; isplitr; · ipureintro; exact fun _ => rfl
        iexact HS2
      unfold owns; iexists _; isplitr
      swap; · iexact HS3
      ipureintro; exact View.read_writes_of_cover _ _ _ _ _ (covC_LA m c _ _ _)
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covC_LG m c _ _ _)
  iexists _; iexact H5

set_option maxHeartbeats 3200000 in
/-- The last point. -/
theorem soundD (c : Dev nD) (t : Fin cfg0.N) (h : t.val = 32) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0, before1, before2, before3]
  rw [show (dats m 0 c).Φ t.succ = Inv m c (t.val + 1) t.isLt from rfl, Inv_succ]
  unfold Dat.owesAt Pipeline.owesWithin
  rw [show (dats m 0 c).owed t.castSucc = 0 from rfl, show (dats m 0 c).owed t.succ = 0 from rfl]
  rw [leaves0, leaves1, leaves2, leaves3]
  rw [leaves4 m c t hz, leaves5 m c t h]
  rw [Inv_castSucc m c t, Inv_pos m c _ _ hz, after_D m c t h]
  unfold held goD; dsimp only
  iintro ⟨⟨⟨HS0, HS1, ⟨%e2, %he, HS2⟩, HS3⟩, Hg, Hq, Hh⟩, ⟨%W, -, HW⟩, ⟨%d0, H0⟩, ⟨%d1, H1⟩, ⟨%d2, H2⟩, ⟨%d3, H3⟩, ⟨%d4, H4⟩, ⟨%d5, H5⟩⟩
  obtain rfl := he (by omega)
  iapply ((atD m c t (isD_of t h) (after m c (t.val - 1) (Nat.lt_of_le_of_lt (Nat.sub_le _ _) t.isLt))).2.2.2.2 _)
  isplitl [H0]; · iexact H0
  isplitl [H1]; · iexact H1
  isplitl [H2]; · iexact H2
  isplitl [H3]; · iexact H3
  isplitl [HS0]; · iexact HS0
  isplitl [HS2]; · iexact HS2
  isplitl [H4]; · iexists _; iexact H4
  isplitl [H5]; · iexists _; iexact H5
  isplitl [HS1]; · iexists _; iexact HS1
  isplitl [HS3]; · iexact HS3
  iintro ⟨H0, H1, H2, H3, HS0, HS2, ⟨%e4, H4⟩, ⟨%e5, H5⟩, ⟨%en, HS1⟩, ⟨%es3, HS3⟩⟩
  isplitl [HS0 HS1 HS2 HS3 Hg Hq Hh]
  · isplitl [HS0 HS1 HS2 HS3]
    · isplitl [HS0]
      · iexact HS0
      isplitl [HS1]
      · unfold owns; iexists _; isplitr
        swap; · iexact HS1
        ipureintro; exact View.read_writes_of_cover _ _ _ _ _ (covD_LT m c _ _ _)
      isplitl [HS2]
      · iexists _; isplitr; · ipureintro; exact fun _ => rfl
        iexact HS2
      unfold owns; iexists _; isplitr
      swap; · iexact HS3
      ipureintro; exact View.read_writes_of_cover _ _ _ _ _ (covD_LA m c _ _ _)
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covD_LG m c _ _ _)
  unfold owns; iexists _; isplitr
  swap; · iexact H5
  ipureintro; exact View.read_writes_of_cover _ _ _ _ _ (covD_LD m c _ _ _)

/-- The body at any point. -/
theorem sound (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  by_cases h1 : t.val % 2 = 1
  · exact soundB m c t h1
  by_cases h2 : t.val = 32
  · exact soundD m c t h2
  exact soundC m c t (by omega) h0 h2

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem enters (c : Dev nD) : Pipeline.ΦD ownSem spec0 hbmSet (V m) c ⊢ (dats m 0 c).Φ 0 := by
  rw [show (dats m 0 c).Φ 0 = Inv m c 0 (Nat.zero_le _) from rfl, Inv_zero m c 0 _ rfl]
  try exact Idealize.SL.BI.Entails.refl _

theorem exits (c : Dev nD) : (dats m 0 c).Φ (Fin.last cfg0.N) ⊢ Pipeline.ΦD ownSem spec0 hbmSet (V m) c := by
  have hz : (Fin.last cfg0.N).val ≠ 0 := by rw [Fin.val_last]; have : cfg0.N = 33 := N_0; omega
  rw [show (dats m 0 c).Φ (Fin.last cfg0.N) = Inv m c (Fin.last cfg0.N).val (Nat.le_of_lt_succ (Fin.last cfg0.N).isLt) from rfl,
    Inv_pos m c _ _ hz, launch_eq]
  unfold held
  iintro ⟨⟨HS0, HS1, ⟨%e, -, HS2⟩, HS3⟩, Hg, Hq, Hh⟩
  isplitl [HS0 HS1 HS2 HS3]
  · isplitl [HS0]; · iexists _; iexact HS0
    isplitl [HS1]; · iexists _; iexact HS1
    isplitl [HS2]; · iexists _; iexact HS2
    iexists _; iexact HS3
  isplitl [Hg]; · iexact Hg
  isplitl [Hq]; · iexact Hq
  iexact Hh

-- the launch rule's implicit arguments are found from this conclusion, which unfolds plain definitions in their types
set_option backward.isDefEq.respectTransparency.types false in
/-- Every execution ends, each array of the pipeline at what the data says and every other buffer as launched, all
    semaphores at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownSem defs₀ Variants.none ownSem_facts hbmSet hbmSet_sub m ρ main
    (hbody := fun c => (obligation m c).loose) (hshare := fun c => (dats m 0 c).share_full fun _ => rfl)
    (howed := fun _ _ => rfl) (V := V m) (hmain := host_region m Variants.none) (hA := A_eq m)
    (hin := enters m) (hout := exits m)

/-- Every execution ends with the arguments as launched and all semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      (h.1 c).2 main_arg1 (Pipeline.mem_restRefs_of main_arg1 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run m ρ)

end Cert.InbIdeal.Inb

end
-- ==== Proof.InbSame.lean ====
/-
  The projection's gradient over machine words: the same text as over the extended reals, so the run is the one proved.
-/
module

public import proofs.«01_k».proof.Defs
public import proofs.«01_k».proof.Proof.InbFrame
public import proofs.«01_k».proof.Proof.Gen.Inb

@[expose] public section

set_option maxRecDepth 16384

noncomputable section

namespace Cert.Proof

open Idealize.ShloMosaic Idealize.ShloMosaic.TcCoe Idealize.ShloMosaic.Tactic Idealize.SL.Sem

/-- Over the extended reals. -/
theorem frame_inb_ideal : Cert.quiescent_InbIdeal := fun m ρ _ => Cert.InbIdeal.Inb.frame m ρ

/-- The two programs' bodies are one text. -/
theorem inb_defs : Cert.Inb.defs (F := Bits) = Cert.InbIdeal.defs (F := Bits) := by sl_kernel_rfl

/-- Over machine words. -/
theorem frame_inb : Cert.quiescent_Inb := fun m ρ _ => by
  rw [inb_defs]; exact Cert.InbIdeal.Inb.frame (F := Bits) m ρ

end Cert.Proof

end
-- ==== Proof.InbVoc.lean ====
/-
  One grid point of the input projection's gradient, written as functions of the row group `q`, the column block `j` and
  the slab `s`.

  A point multiplies 256 rows of the projection's gradient with the weight, and finishes the 256 rows the point before
  multiplied, in 16 groups of 16 rows. The first point multiplies slab by slab, as the slabs of the weight come in; the
  others do it column block by column block. The definitions below name each quantity the body forms.
-/
module

public import proofs.«01_k».proof.Proof.InbFrame

@[expose] public section

set_option maxRecDepth 16384

noncomputable section

open Idealize.ShloMosaic Idealize.ShloMosaic.TcCoe Idealize.SL.Sem

namespace Cert.InbIdeal.Voc

open Cert.InbIdeal Cert.InbIdeal.Gen

variable {F : FTy → Type} [FloatOps F]

theorem inbR (q : ℕ) : ∀ a, (![16 * (q % 16), 0] : Fin 2 → ℕ) a + S16x2048.size a ≤ S256x2048.size a := fun a => by
  have := Nat.mod_lt q (show 0 < 16 by decide)
  fin_cases a
  · show 16 * (q % 16) + 16 ≤ 256; omega
  · show 0 + 2048 ≤ 2048; omega

theorem inbC (j : ℕ) : ∀ a, (![0, 256 * (j % 8)] : Fin 2 → ℕ) a + S256x256.size a ≤ S256x2048.size a := fun a => by
  have := Nat.mod_lt j (show 0 < 8 by decide)
  fin_cases a
  · show 0 + 256 ≤ 256; omega
  · show 256 * (j % 8) + 256 ≤ 2048; omega

theorem inbV (j : ℕ) : ∀ a, (![256 * (j % 8), 0] : Fin 2 → ℕ) a + S256x5120.size a ≤ S2048x5120.size a := fun a => by
  have := Nat.mod_lt j (show 0 < 8 by decide)
  fin_cases a
  · show 256 * (j % 8) + 256 ≤ 2048; omega
  · show 0 + 5120 ≤ 5120; omega

theorem inbS (s : ℕ) : ∀ a, (![0, 640 * (s % 8)] : Fin 2 → ℕ) a + S2048x640.size a ≤ S2048x5120.size a := fun a => by
  have := Nat.mod_lt s (show 0 < 8 by decide)
  fin_cases a
  · show 0 + 2048 ≤ 2048; omega
  · show 640 * (s % 8) + 640 ≤ 5120; omega

theorem inbZ (s : ℕ) : ∀ a, (![0, 640 * (s % 8)] : Fin 2 → ℕ) a + S256x640.size a ≤ S256x5120.size a := fun a => by
  have := Nat.mod_lt s (show 0 < 8 by decide)
  fin_cases a
  · show 0 + 256 ≤ 256; omega
  · show 640 * (s % 8) + 640 ≤ 5120; omega

/-- The rows of group `q`. -/
abbrev rR (q : ℕ) : Rect S256x2048 := Rect.unit (s := S256x2048) ![16 * (q % 16), 0] S16x2048.size (inbR q)
/-- Column block `j`. -/
abbrev rC (j : ℕ) : Rect S256x2048 := Rect.unit (s := S256x2048) ![0, 256 * (j % 8)] S256x256.size (inbC j)
/-- Rows `256 j` to `256 j + 255` of the weight. -/
abbrev rV (j : ℕ) : Rect S2048x5120 := Rect.unit (s := S2048x5120) ![256 * (j % 8), 0] S256x5120.size (inbV j)
/-- Slab `s` of the weight. -/
abbrev rS (s : ℕ) : Rect S2048x5120 := Rect.unit (s := S2048x5120) ![0, 640 * (s % 8)] S2048x640.size (inbS s)
/-- The columns of the projection's gradient that meet slab `s`. -/
abbrev rZ (s : ℕ) : Rect S256x5120 := Rect.unit (s := S256x5120) ![0, 640 * (s % 8)] S256x640.size (inbZ s)
/-- The whole of a block, an accumulator, a row, a block of the projection's gradient. -/
abbrev rB : Rect S256x2048 := Rect.unit (s := S256x2048) ![0, 0] S256x2048.size inb_S256x2048_S256x2048_0_0
abbrev r8 : Rect S8x2048 := Rect.unit (s := S8x2048) ![0, 0] S8x2048.size inb_S8x2048_S8x2048_0_0
abbrev r1 : Rect S1x2048 := Rect.unit (s := S1x2048) ![0, 0] S1x2048.size inb_S1x2048_S1x2048_0_0
abbrev rD : Rect S256x5120 := Rect.unit (s := S256x5120) ![0, 0] S256x5120.size inb_S256x5120_S256x5120_0_0

/-! ## The first point -/

/-- What the first point reads: slabs of the projection's gradient and, as they arrived, of the weight; the tile given
    the tiles stored before. -/
structure LdA (F : FTy → Type) where
  z : ℕ → Vec F S256x640 .bf16
  w : ℕ → Vec F S2048x640 .bf16
  e : List (View.Piece (Elt F) S256x2048 .f32) → Vec F S256x2048 .f32

/-- The product of one slab. -/
def sv (c : LdA F) (s : ℕ) : FVec F S256x2048 .f32 :=
  matmul dot_S256x640_S2048x640_S256x2048_1_1_0_0_n_n none (c.z s) (c.w s) (constant S256x2048 .f32 0x00000000#32)

/-- The tile's stores, slab by slab, the last first: each adds a slab's product to the tile read back. -/
def el (c : LdA F) (n : ℕ) : List (View.Piece (Elt F) S256x2048 .f32) :=
  Nat.rec [⟨rB, shapeCast S256x2048 (sv c 0) shapeCasts_S256x2048_S256x2048⟩]
    (fun s L => ⟨rB, shapeCast S256x2048 (addf (c.e L) (sv c (s + 1))) shapeCasts_S256x2048_S256x2048⟩ :: L) n

/-- The slabs of the weight as they arrive, the last first. -/
def wl (w : ℕ → Vec F S2048x640 .bf16) (n : ℕ) : List (View.Piece (Elt F) S2048x5120 .bf16) :=
  Nat.rec [] (fun s L => ⟨rS s, w s⟩ :: L) n

/-- The accumulator's start. -/
def az : FVec F S8x2048 .f32 := shapeCast S8x2048 (broadcast S8x2048 (Scalar.ofBits .f32 0x00000000#32)) shapeCasts_S8x2048_S8x2048

/-! ## The later points -/

/-- What a later point reads: its rows of the projection's gradient, row blocks of the weight, and of the point before
    the row groups of the residual, of its gradient and of the tile; the scale, and the accumulator. -/
structure Ld (F : FTy → Type) where
  z : Vec F S256x5120 .bf16
  w : ℕ → Vec F S256x5120 .bf16
  x : ℕ → Vec F S16x2048 .f32
  d : ℕ → Vec F S16x2048 .f32
  t : ℕ → Vec F S16x2048 .f32
  g : Vec F S1x2048 .f32
  a : Vec F S8x2048 .f32

variable (c : Ld F)

/-- A column block of the new tile. -/
def tv (j : ℕ) : FVec F S256x256 .f32 :=
  shapeCast S256x256 (matmul dot_S256x5120_S256x5120_S256x256_1_1_0_0_n_n none c.z (c.w j) (constant S256x256 .f32 0x00000000#32)) shapeCasts_S256x256_S256x256

/-- The first `n` of those blocks as stored. -/
def tl (n : ℕ) : List (View.Piece (Elt F) S256x2048 .f32) :=
  Nat.rec [] (fun j L => ⟨rC j, tv c j⟩ :: L) n

/-- The reciprocal root of a row's mean square. -/
def rr (q : ℕ) : FVec F S16x1 .f32 :=
  rsqrt (addf (divf (shapeCast S16x1 (multiReduction .add [1] S16 (mulf (c.x q) (c.x q)) 0x00000000#32 reduces_S16x2048_S16 (.inl rfl) rfl) shapeCasts_S16_S16x1)
    (broadcast S16x1 (Scalar.ofBits .f32 0x45000000#32))) (broadcast S16x1 (Scalar.ofBits .f32 0x358637BD#32)))

/-- The normalised residual. -/
def xn (q : ℕ) : FVec F S16x2048 .f32 := mulf (c.x q) (broadcastTo S16x2048 (rr c q) broadcasts_S16x1_S16x2048)

/-- The tile's rows scaled. -/
def tg (q : ℕ) : FVec F S16x2048 .f32 := mulf (c.t q) (broadcastTo S16x2048 c.g broadcasts_S1x2048_S16x2048)

/-- The mean the norm's gradient subtracts. -/
def mm (q : ℕ) : FVec F S16x1 .f32 :=
  divf (shapeCast S16x1 (multiReduction .add [1] S16 (mulf (tg c q) (xn c q)) 0x00000000#32 reduces_S16x2048_S16 (.inl rfl) rfl) shapeCasts_S16_S16x1)
    (broadcast S16x1 (Scalar.ofBits .f32 0x45000000#32))

/-- The gradient of the residual in a row group. -/
def gv (q : ℕ) : FVec F S16x2048 .f32 :=
  addf (c.d q) (mulf (broadcastTo S16x2048 (rr c q) broadcasts_S16x1_S16x2048)
    (subf (tg c q) (mulf (xn c q) (broadcastTo S16x2048 (mm c q) broadcasts_S16x1_S16x2048))))

/-- The first `n` of those as stored. -/
def gl (n : ℕ) : List (View.Piece (Elt F) S256x2048 .f32) :=
  Nat.rec [] (fun q L => ⟨rR q, gv c q⟩ :: L) n

/-- A row group's contribution to the scale's gradient, folded onto 8 rows. -/
def fold (q : ℕ) : FVec F S8x2048 .f32 :=
  addf (extractStridedSlice S8x2048 ![0, 0] (mulf (c.t q) (xn c q)) slices_S16x2048_o0_0_S8x2048)
    (extractStridedSlice S8x2048 ![8, 0] (mulf (c.t q) (xn c q)) slices_S16x2048_o8_0_S8x2048)

/-- The accumulator after the first `n` row groups. -/
def acc (n : ℕ) : FVec F S8x2048 .f32 := Nat.rec c.a (fun q a => addf a (fold c q)) n

/-- The accumulator as stored. -/
def al : List (View.Piece (Elt F) S8x2048 .f32) := [⟨r8, shapeCast S8x2048 (acc c 16) shapeCasts_S8x2048_S8x2048⟩]

/-- The accumulator's rows summed. -/
def dgv (v : Vec F S8x2048 .f32) : FVec F S1x2048 .f32 :=
  shapeCast S1x2048 (multiReduction .add [0] S2048 v 0x00000000#32 reduces_S8x2048_S2048 (.inl rfl) rfl) shapeCasts_S2048_S1x2048

end Cert.InbIdeal.Voc

end
-- ==== Proof.InbFun.lean ====
/-
  The gradient of the input projection as functions of rows and columns, over the extended reals.

  With `z` the gradient of the projection, `w` its weight, `x` the residual, `g` the scale of the norm and `d` the
  gradient that already reached the residual, these are the gradients the kernel stores, in its own grouping of factors.
-/
module

public import Idealize.ShloMosaic.Lib.IdealHost
public import proofs.«01_k».proof.Proof.Sums

@[expose] public section

noncomputable section

open Idealize.ShloMosaic

namespace Cert.InbFun

/-- The arguments at a row and a column. -/
structure Arrs where
  z : ℕ → ℕ → EReal
  w : ℕ → ℕ → EReal
  x : ℕ → ℕ → EReal
  d : ℕ → ℕ → EReal
  g : ℕ → EReal

variable (A : Arrs)

/-- The gradient of the normalised residual. -/
def dh (r i : ℕ) : EReal := ∑ k ∈ Finset.range 5120, A.z r k * A.w i k

/-- The reciprocal root of a row's mean square. -/
def rr (r : ℕ) : EReal :=
  Ideal.rsqrt (Ideal.div (∑ k ∈ Finset.range 2048, A.x r k * A.x r k) (Ideal.ofBits .f32 0x45000000#32)
    + Ideal.ofBits .f32 0x358637BD#32)

/-- The normalised residual. -/
def xn (r k : ℕ) : EReal := A.x r k * rr A r

/-- The mean the norm's gradient subtracts. -/
def mm (r : ℕ) : EReal :=
  Ideal.div (∑ k ∈ Finset.range 2048, dh A r k * A.g k * xn A r k) (Ideal.ofBits .f32 0x45000000#32)

/-- The gradient of the residual. -/
def gx (r k : ℕ) : EReal := A.d r k + rr A r * (dh A r k * A.g k - xn A r k * mm A r)

/-- The gradient of the scale. -/
def dg (k : ℕ) : EReal := ∑ r ∈ Finset.range 8192, dh A r k * xn A r k

end Cert.InbFun

end
-- ==== Proof.InbPoint.lean ====
/-
  What one grid point of the input projection's gradient stores, over the extended reals.

  If the loads of a point read the arguments (`ReadsA`, `Reads`), then each quantity of the point is the function of
  `InbFun` at the row and the column it stands for. A later point finishes the rows from `b` on and multiplies those
  from `b'` on.
-/
module

public import proofs.«01_k».proof.Proof.InbVoc
public import proofs.«01_k».proof.Proof.InbFun
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.InbIdeal.Voc

open Cert.InbIdeal Cert.InbIdeal.Gen Cert.InbFun

/-- A block, an accumulator, a row stored whole last reads back. -/
theorem read_whole {sig' : RefSig} {κ : Kind} {sp : Space} (v : View sig' κ sp S256x2048 .f32) (f : v.ty.Contents (Elt Ideal))
    (w : Vec Ideal S256x2048 .f32) (L : List (View.Piece (Elt Ideal) S256x2048 .f32)) (y : S256x2048.Idx) :
    v.read (Elt Ideal) (v.writes (Elt Ideal) f (⟨rB, w⟩ :: L)) y = w y := by
  refine View.read_writes_cons_unit_of_mem (v := v) (f := f) _ _ _ y y rfl fun a => ?_
  match a with
  | ⟨0, _⟩ => exact (Nat.zero_add _).symm
  | ⟨1, _⟩ => exact (Nat.zero_add _).symm

theorem read_whole8 {sig' : RefSig} {κ : Kind} {sp : Space} (v : View sig' κ sp S8x2048 .f32) (f : v.ty.Contents (Elt Ideal))
    (w : Vec Ideal S8x2048 .f32) (y : S8x2048.Idx) : v.read (Elt Ideal) (v.writes (Elt Ideal) f [⟨r8, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

theorem read_whole1 {sig' : RefSig} {κ : Kind} {sp : Space} (v : View sig' κ sp S1x2048 .f32) (f : v.ty.Contents (Elt Ideal))
    (w : Vec Ideal S1x2048 .f32) (y : S1x2048.Idx) : v.read (Elt Ideal) (v.writes (Elt Ideal) f [⟨r1, w⟩]) y = w y := by
  refine View.read_writes_cons_unit_of_mem (v := v) (f := f) _ _ _ y y rfl fun a => ?_
  match a with
  | ⟨0, _⟩ => exact (Nat.zero_add _).symm
  | ⟨1, _⟩ => exact (Nat.zero_add _).symm

/-- The gradient of the normalised residual over a block of rows. -/
def dhF (A : Arrs) (b : ℕ) (y : S256x2048.Idx) : EReal := InbFun.dh A (b + (y 0).val) (y 1).val

/-- The gradient of the residual over a block of rows. -/
def gxF (A : Arrs) (b : ℕ) (y : S256x2048.Idx) : EReal := InbFun.gx A (b + (y 0).val) (y 1).val

/-! ## The first point -/

/-- The loads of the first point read the arguments `A`, a load of the tile the block stored last. -/
structure ReadsA (c : LdA Ideal) (A : Arrs) : Prop where
  z : ∀ s x, c.z s x = A.z (x 0).val (640 * (s % 8) + (x 1).val)
  w : ∀ s x, c.w s x = A.w (x 0).val (640 * (s % 8) + (x 1).val)
  e : ∀ v L x, c.e (⟨rB, v⟩ :: L) x = v x

theorem sv_apply {c : LdA Ideal} {A : Arrs} (h : ReadsA c A) (s : ℕ) (hs : s < 8) (x : S256x2048.Idx) :
    sv c s x = ∑ k ∈ Finset.range 640, A.z (x 0).val (640 * s + k) * A.w (x 1).val (640 * s + k) := by
  have e : s % 8 = s := Nat.mod_eq_of_lt hs
  pointwise [sv]
  rw [Finset.sum_range]
  simp only [h.z, h.w, e]
  rfl

/-- After `n + 1` slabs the tile is the sum of their products. -/
theorem el_head {c : LdA Ideal} {A : Arrs} (h : ReadsA c A) (n : ℕ) (hn : n < 8) :
    ∃ v L, el c n = ⟨rB, v⟩ :: L ∧ ∀ x : S256x2048.Idx, v x
      = ∑ s ∈ Finset.range (n + 1), ∑ k ∈ Finset.range 640, A.z (x 0).val (640 * s + k) * A.w (x 1).val (640 * s + k) := by
  induction n with
  | zero =>
    refine ⟨_, _, rfl, fun x => ?_⟩
    rw [shapeCast_self, sv_apply h 0 (by decide), Finset.sum_range_one]
  | succ n ih =>
    obtain ⟨v, L, e, hv⟩ := ih (by omega)
    refine ⟨_, _, rfl, fun x => ?_⟩
    rw [shapeCast_self, Finset.sum_range_succ _ (n + 1), ← hv x, ← sv_apply h (n + 1) hn]
    show c.e (el c n) x + _ = _
    rw [e, h.e]

theorem el_read {c : LdA Ideal} {A : Arrs} (h : ReadsA c A) {sig' : RefSig} {κ : Kind} {sp : Space} (v : View sig' κ sp S256x2048 .f32) (f : v.ty.Contents (Elt Ideal))
    (y : S256x2048.Idx) : v.read (Elt Ideal) (v.writes (Elt Ideal) f (el c 7)) y = InbFun.dh A (y 0).val (y 1).val := by
  obtain ⟨u, L, e, hu⟩ := el_head h 7 (by decide)
  rw [e, read_whole, hu y]
  exact Sums.range_blocks 640 (fun k => A.z (y 0).val k * A.w (y 1).val k) 8

/-- The slabs restrict the weight, -/
theorem wl_pieces {w : ℕ → Vec Ideal S2048x640 .bf16} {A : Arrs} (h : ∀ s, s < 8 → ∀ x, w s x = A.w (x 0).val (640 * s + (x 1).val)) (n : ℕ) (hn : n ≤ 8) :
    ∀ p ∈ wl w n, ∀ x, p.2 x = (fun y : S2048x5120.Idx => A.w (y 0).val (y 1).val) (p.1.emb x) := by
  induction n with
  | zero => intro p hp; exact absurd hp List.not_mem_nil
  | succ s ih =>
    intro p hp x
    rcases List.mem_cons.mp hp with rfl | hp
    · refine (h s (by omega) x).trans ?_
      show _ = A.w (0 + 1 * (x 0).val) (640 * (s % 8) + 1 * (x 1).val)
      rw [Nat.one_mul, Nat.one_mul, Nat.zero_add, Nat.mod_eq_of_lt (show s < 8 by omega)]
    · exact ih (by omega) p hp x

theorem wl_mem (w : ℕ → Vec Ideal S2048x640 .bf16) (n s : ℕ) (hs : s < n) :
    (⟨rS s, w s⟩ : View.Piece (Elt Ideal) S2048x5120 .bf16) ∈ wl w n := by
  induction n with
  | zero => omega
  | succ n ih =>
    rcases Nat.lt_or_ge s n with hs' | hs'
    · exact List.mem_cons_of_mem _ (ih hs')
    · obtain rfl : s = n := by omega
      exact List.mem_cons_self

theorem wl_cover (w : ℕ → Vec Ideal S2048x640 .bf16) (y : S2048x5120.Idx) : ∃ p ∈ wl w 8, y ∈ p.1.set := by
  have h1 : (y 1).val < 5120 := (y 1).isLt
  refine ⟨_, wl_mem w 8 ((y 1).val / 640) (by omega), (LoadRect.mem_set _).mpr fun a => ?_⟩
  match a with
  | ⟨0, _⟩ => exact ⟨(y 0).val, (y 0).isLt, by show (y 0).val = 0 + 1 * (y 0).val; omega⟩
  | ⟨1, _⟩ =>
    refine ⟨(y 1).val % 640, Nat.mod_lt _ (by decide), ?_⟩
    show (y 1).val = 640 * ((y 1).val / 640 % 8) + 1 * ((y 1).val % 640)
    omega

/-- so that together they are the weight. -/
theorem wl_read {w : ℕ → Vec Ideal S2048x640 .bf16} {A : Arrs} (h : ∀ s, s < 8 → ∀ x, w s x = A.w (x 0).val (640 * s + (x 1).val))
    {sig' : RefSig} {κ : Kind} {sp : Space} (v : View sig' κ sp S2048x5120 .bf16) (f : v.ty.Contents (Elt Ideal)) (y : S2048x5120.Idx) :
    v.read (Elt Ideal) (v.writes (Elt Ideal) f (wl w 8)) y = A.w (y 0).val (y 1).val :=
  View.read_writes_apply_of_pieces v f (fun y : S2048x5120.Idx => A.w (y 0).val (y 1).val) (wl w 8) (wl_pieces h 8 le_rfl) y (wl_cover w y)

theorem az_apply (y : S8x2048.Idx) : az (F := Ideal) y = 0 := by
  unfold az
  rw [shapeCast_self]
  exact Ideal.ofBits_zero_f32

/-! ## The later points -/

/-- The loads of a later point read the arguments `A`, and the tile the point before left. -/
structure Reads (c : Ld Ideal) (A : Arrs) (b b' : ℕ) : Prop where
  z : ∀ x, c.z x = A.z (b' + (x 0).val) (x 1).val
  w : ∀ j x, c.w j x = A.w (256 * (j % 8) + (x 0).val) (x 1).val
  x : ∀ q x, c.x q x = A.x (b + (16 * (q % 16) + (x 0).val)) (x 1).val
  d : ∀ q x, c.d q x = A.d (b + (16 * (q % 16) + (x 0).val)) (x 1).val
  t : ∀ q x, c.t q x = InbFun.dh A (b + (16 * (q % 16) + (x 0).val)) (x 1).val
  g : ∀ x, c.g x = A.g (x 1).val

variable {c : Ld Ideal} {A : Arrs} {b b' : ℕ} (h : Reads c A b b')
include h

theorem tv_apply (j : ℕ) (x : S256x256.Idx) : tv c j x = InbFun.dh A (b' + (x 0).val) (256 * (j % 8) + (x 1).val) := by
  pointwise [tv]
  unfold InbFun.dh
  rw [Finset.sum_range]
  simp only [h.z, h.w]
  rfl

theorem tl_pieces (n : ℕ) : ∀ p ∈ tl c n, ∀ x, p.2 x = dhF A b' (p.1.emb x) := by
  induction n with
  | zero => intro p hp; exact absurd hp List.not_mem_nil
  | succ j ih =>
    intro p hp x
    rcases List.mem_cons.mp hp with rfl | hp
    · refine (tv_apply h j x).trans ?_
      show _ = InbFun.dh A (b' + (0 + 1 * (x 0).val)) (256 * (j % 8) + 1 * (x 1).val)
      rw [Nat.one_mul, Nat.one_mul, Nat.zero_add]
    · exact ih p hp x

omit h in
theorem tl_mem (n j : ℕ) (hj : j < n) : (⟨rC j, tv c j⟩ : View.Piece (Elt Ideal) S256x2048 .f32) ∈ tl c n := by
  induction n with
  | zero => omega
  | succ n ih =>
    rcases Nat.lt_or_ge j n with hj' | hj'
    · exact List.mem_cons_of_mem _ (ih hj')
    · obtain rfl : j = n := by omega
      exact List.mem_cons_self

omit h in
theorem tl_cover (y : S256x2048.Idx) : ∃ p ∈ tl c 8, y ∈ p.1.set := by
  have h1 : (y 1).val < 2048 := (y 1).isLt
  refine ⟨_, tl_mem (c := c) 8 ((y 1).val / 256) (by omega), (LoadRect.mem_set _).mpr fun a => ?_⟩
  match a with
  | ⟨0, _⟩ => exact ⟨(y 0).val, (y 0).isLt, by show (y 0).val = 0 + 1 * (y 0).val; omega⟩
  | ⟨1, _⟩ =>
    refine ⟨(y 1).val % 256, Nat.mod_lt _ (by decide), ?_⟩
    show (y 1).val = 256 * ((y 1).val / 256 % 8) + 1 * ((y 1).val % 256)
    omega

/-- The new tile reads back, whatever the buffer. -/
theorem tl_read {sig' : RefSig} {κ : Kind} {sp : Space} (v : View sig' κ sp S256x2048 .f32) (f : v.ty.Contents (Elt Ideal)) (y : S256x2048.Idx) :
    v.read (Elt Ideal) (v.writes (Elt Ideal) f (tl c 8)) y = dhF A b' y :=
  View.read_writes_apply_of_pieces v f _ (tl c 8) (tl_pieces h 8) y (tl_cover y)

theorem rr_apply (q : ℕ) (x : S16x1.Idx) : rr c q x = InbFun.rr A (b + (16 * (q % 16) + (x 0).val)) := by
  pointwise [rr]
  unfold InbFun.rr
  rw [Finset.sum_range]
  simp only [h.x]
  rfl

theorem xn_apply (q : ℕ) (x : S16x2048.Idx) : xn c q x = InbFun.xn A (b + (16 * (q % 16) + (x 0).val)) (x 1).val := by
  pointwise [xn]
  rw [h.x, rr_apply h]
  rfl

theorem tg_apply (q : ℕ) (x : S16x2048.Idx) :
    tg c q x = InbFun.dh A (b + (16 * (q % 16) + (x 0).val)) (x 1).val * A.g (x 1).val := by
  pointwise [tg]
  rw [h.t, h.g]
  rfl

theorem mm_apply (q : ℕ) (x : S16x1.Idx) : mm c q x = InbFun.mm A (b + (16 * (q % 16) + (x 0).val)) := by
  pointwise [mm]
  unfold InbFun.mm
  rw [Finset.sum_range]
  simp only [tg_apply h, xn_apply h]
  rfl

theorem gv_apply (q : ℕ) (x : S16x2048.Idx) : gv c q x = InbFun.gx A (b + (16 * (q % 16) + (x 0).val)) (x 1).val := by
  pointwise [gv]
  rw [h.d, rr_apply h, tg_apply h, xn_apply h, mm_apply h]
  rfl

theorem gl_pieces (n : ℕ) : ∀ p ∈ gl c n, ∀ x, p.2 x = gxF A b (p.1.emb x) := by
  induction n with
  | zero => intro p hp; exact absurd hp List.not_mem_nil
  | succ q ih =>
    intro p hp x
    rcases List.mem_cons.mp hp with rfl | hp
    · refine (gv_apply h q x).trans ?_
      show _ = InbFun.gx A (b + (16 * (q % 16) + 1 * (x 0).val)) (0 + 1 * (x 1).val)
      rw [Nat.one_mul, Nat.one_mul, Nat.zero_add]
    · exact ih p hp x

omit h in
theorem gl_mem (n q : ℕ) (hq : q < n) : (⟨rR q, gv c q⟩ : View.Piece (Elt Ideal) S256x2048 .f32) ∈ gl c n := by
  induction n with
  | zero => omega
  | succ n ih =>
    rcases Nat.lt_or_ge q n with hq' | hq'
    · exact List.mem_cons_of_mem _ (ih hq')
    · obtain rfl : q = n := by omega
      exact List.mem_cons_self

omit h in
theorem gl_cover (y : S256x2048.Idx) : ∃ p ∈ gl c 16, y ∈ p.1.set := by
  have h0 : (y 0).val < 256 := (y 0).isLt
  refine ⟨_, gl_mem (c := c) 16 ((y 0).val / 16) (by omega), (LoadRect.mem_set _).mpr fun a => ?_⟩
  match a with
  | ⟨0, _⟩ =>
    refine ⟨(y 0).val % 16, Nat.mod_lt _ (by decide), ?_⟩
    show (y 0).val = 16 * ((y 0).val / 16 % 16) + 1 * ((y 0).val % 16)
    omega
  | ⟨1, _⟩ => exact ⟨(y 1).val, (y 1).isLt, by show (y 1).val = 0 + 1 * (y 1).val; omega⟩

/-- The stored gradients of the residual read back, whatever the buffer. -/
theorem gl_read {sig' : RefSig} {κ : Kind} {sp : Space} (v : View sig' κ sp S256x2048 .f32) (f : v.ty.Contents (Elt Ideal)) (y : S256x2048.Idx) :
    v.read (Elt Ideal) (v.writes (Elt Ideal) f (gl c 16)) y = gxF A b y :=
  View.read_writes_apply_of_pieces v f _ (gl c 16) (gl_pieces h 16) y (gl_cover y)

/-- The accumulator's contribution of a point that finishes the rows from `b` on, at row `s` and column `k`. -/
def accAdd (A : Arrs) (b s k : ℕ) : EReal :=
  ∑ q ∈ Finset.range 16, (InbFun.dh A (b + (16 * q + s)) k * InbFun.xn A (b + (16 * q + s)) k
    + InbFun.dh A (b + (16 * q + (8 + s))) k * InbFun.xn A (b + (16 * q + (8 + s))) k)

theorem fold_apply (q : ℕ) (x : S8x2048.Idx) :
    fold c q x = InbFun.dh A (b + (16 * (q % 16) + (x 0).val)) (x 1).val * InbFun.xn A (b + (16 * (q % 16) + (x 0).val)) (x 1).val
      + InbFun.dh A (b + (16 * (q % 16) + (8 + (x 0).val))) (x 1).val * InbFun.xn A (b + (16 * (q % 16) + (8 + (x 0).val))) (x 1).val := by
  pointwise [fold]
  rw [h.t, xn_apply h, h.t, xn_apply h]
  rfl

theorem acc_apply (n : ℕ) (hn : n ≤ 16) (x : S8x2048.Idx) :
    acc c n x = c.a x + ∑ q ∈ Finset.range n, (InbFun.dh A (b + (16 * q + (x 0).val)) (x 1).val * InbFun.xn A (b + (16 * q + (x 0).val)) (x 1).val
      + InbFun.dh A (b + (16 * q + (8 + (x 0).val))) (x 1).val * InbFun.xn A (b + (16 * q + (8 + (x 0).val))) (x 1).val) := by
  induction n with
  | zero => rw [Finset.range_zero, Finset.sum_empty, add_zero]; rfl
  | succ q ih =>
    have e : q % 16 = q := Nat.mod_eq_of_lt (by omega)
    rw [Finset.sum_range_succ, ← add_assoc, ← ih (by omega)]
    show acc c q x + fold c q x = _
    rw [fold_apply h, e]

/-- The accumulator stored is the one loaded plus the point's contribution. -/
theorem al_read {sig' : RefSig} {κ : Kind} {sp : Space} (v : View sig' κ sp S8x2048 .f32) (f : v.ty.Contents (Elt Ideal)) (y : S8x2048.Idx) :
    v.read (Elt Ideal) (v.writes (Elt Ideal) f (al c)) y = c.a y + accAdd A b (y 0).val (y 1).val := by
  unfold al
  rw [read_whole8, shapeCast_self]
  exact acc_apply h 16 le_rfl y

omit h in
theorem dgv_apply (v : Vec Ideal S8x2048 .f32) (x : S1x2048.Idx) : dgv (F := Ideal) v x = ∑ s : Fin 8, v (ix2 s (x 1)) := by
  pointwise [dgv]

end Cert.InbIdeal.Voc

end
-- ==== Proof.InbBridge.lean ====
/-
  What a grid point of the input projection's gradient stores: the store lists of the four kinds of points are the lists
  of `InbVoc`, so that each result's block, the weight, the two tiles and the accumulator hold the functions of `InbFun`.

  The first point copies the weight in, fills the even tile and clears the accumulator. An odd point finishes the rows
  of the even tile and fills the odd one, a later even point the other way round; the last also stores the scale's
  gradient.
-/
module

public import proofs.«01_k».proof.Proof.InbPoint
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.InbIdeal.Voc

open Cert.InbIdeal Cert.InbIdeal.Gen Cert.InbIdeal.Inb Cert.InbFun

section Loads
variable {F : FTy → Type} [FloatOps F]

/-- The loads of a later point that holds the arguments' blocks, the weight `w`, the old tile `u` and the accumulator `a`. -/
def ldOf (arg1 : Memref sig .tc .vmem S256x5120 .bf16) (harg1 : arg1.IsWhole) (arg3 : Memref sig .tc .vmem S256x2048 .f32) (harg3 : arg3.IsWhole)
    (arg4 : Memref sig .tc .vmem S256x2048 .f32) (harg4 : arg4.IsWhole) (arg5 : Memref sig .tc .vmem S1x2048 .f32) (harg5 : arg5.IsWhole)
    (arg8 : Memref sig .tc .vmem S2048x5120 .bf16) (harg8 : arg8.IsWhole) (arg9 : Memref sig .tc .vmem S256x2048 .f32) (harg9 : arg9.IsWhole)
    (arg11 : Memref sig .tc .vmem S8x2048 .f32) (harg11 : arg11.IsWhole)
    (x0 : Vec F S256x5120 .bf16) (x1 x2 : Vec F S256x2048 .f32) (x3 : Vec F S1x2048 .f32) (w : Vec F S2048x5120 .bf16) (u : Vec F S256x2048 .f32)
    (a : Vec F S8x2048 .f32) : Ld F where
  z := View.readAt (Elt F) arg1.view rD.toLoadRect (harg1.unread x0)
  w j := View.readAt (Elt F) arg8.view (rV j).toLoadRect (harg8.unread w)
  x q := View.readAt (Elt F) arg3.view (rR q).toLoadRect (harg3.unread x1)
  d q := View.readAt (Elt F) arg4.view (rR q).toLoadRect (harg4.unread x2)
  t q := View.readAt (Elt F) arg9.view (rR q).toLoadRect (harg9.unread u)
  g := View.readAt (Elt F) arg5.view r1.toLoadRect (harg5.unread x3)
  a := View.readAt (Elt F) arg11.view r8.toLoadRect (harg11.unread a)

/-- The slabs of the weight as the first point copies them in. -/
def slab (c : Dev nD) (fh : HbBuf (F := F) c hbW) (s : ℕ) : Vec F S2048x640 .bf16 :=
  match s with
  | 0 => ReadAs.same.apply (View.read (Elt F) (((Memref.whole main_arg1).slice (Rect.unit (s := S8x2048x640) ![0, 0, 0] S1x2048x640.size inb_S8x2048x640_S1x2048x640_0_0_0) (fun _ => rfl)).squeeze S2048x640 squeezes_S1x2048x640_S2048x640).view fh)
  | 1 => ReadAs.same.apply (View.read (Elt F) (((Memref.whole main_arg1).slice (Rect.unit (s := S8x2048x640) ![1, 0, 0] S1x2048x640.size inb_S8x2048x640_S1x2048x640_1_0_0) (fun _ => rfl)).squeeze S2048x640 squeezes_S1x2048x640_S2048x640).view fh)
  | 2 => ReadAs.same.apply (View.read (Elt F) (((Memref.whole main_arg1).slice (Rect.unit (s := S8x2048x640) ![2, 0, 0] S1x2048x640.size inb_S8x2048x640_S1x2048x640_2_0_0) (fun _ => rfl)).squeeze S2048x640 squeezes_S1x2048x640_S2048x640).view fh)
  | 3 => ReadAs.same.apply (View.read (Elt F) (((Memref.whole main_arg1).slice (Rect.unit (s := S8x2048x640) ![3, 0, 0] S1x2048x640.size inb_S8x2048x640_S1x2048x640_3_0_0) (fun _ => rfl)).squeeze S2048x640 squeezes_S1x2048x640_S2048x640).view fh)
  | 4 => ReadAs.same.apply (View.read (Elt F) (((Memref.whole main_arg1).slice (Rect.unit (s := S8x2048x640) ![4, 0, 0] S1x2048x640.size inb_S8x2048x640_S1x2048x640_4_0_0) (fun _ => rfl)).squeeze S2048x640 squeezes_S1x2048x640_S2048x640).view fh)
  | 5 => ReadAs.same.apply (View.read (Elt F) (((Memref.whole main_arg1).slice (Rect.unit (s := S8x2048x640) ![5, 0, 0] S1x2048x640.size inb_S8x2048x640_S1x2048x640_5_0_0) (fun _ => rfl)).squeeze S2048x640 squeezes_S1x2048x640_S2048x640).view fh)
  | 6 => ReadAs.same.apply (View.read (Elt F) (((Memref.whole main_arg1).slice (Rect.unit (s := S8x2048x640) ![6, 0, 0] S1x2048x640.size inb_S8x2048x640_S1x2048x640_6_0_0) (fun _ => rfl)).squeeze S2048x640 squeezes_S1x2048x640_S2048x640).view fh)
  | _ => ReadAs.same.apply (View.read (Elt F) (((Memref.whole main_arg1).slice (Rect.unit (s := S8x2048x640) ![7, 0, 0] S1x2048x640.size inb_S8x2048x640_S1x2048x640_7_0_0) (fun _ => rfl)).squeeze S2048x640 squeezes_S1x2048x640_S2048x640).view fh)

/-- The loads of the first point. -/
def ldA (c : Dev nD) (fh : HbBuf (F := F) c hbW) (arg1 : Memref sig .tc .vmem S256x5120 .bf16) (harg1 : arg1.IsWhole)
    (arg8 : Memref sig .tc .vmem S2048x5120 .bf16) (arg9 : Memref sig .tc .vmem S256x2048 .f32) (x0 : Vec F S256x5120 .bf16) : LdA F where
  z s := View.readAt (Elt F) arg1.view (rZ s).toLoadRect (harg1.unread x0)
  w s := arg8.view.readCov (wl (slab c fh) 8) (rS s).toLoadRect
  e L := arg9.view.readCov L rB.toLoadRect

end Loads

/-- The blocks a later point is handed: rows from `b` on of the residual and its gradient, from `b'` on of the
    projection's gradient, the scale. -/
structure Blk (A : Arrs) (b b' : ℕ) (x0 : Vec Ideal S256x5120 .bf16) (x1 x2 : Vec Ideal S256x2048 .f32) (x3 : Vec Ideal S1x2048 .f32) : Prop where
  h0 : ∀ y, x0 y = A.z (b' + (y 0).val) (y 1).val
  h1 : ∀ y, x1 y = A.x (b + (y 0).val) (y 1).val
  h2 : ∀ y, x2 y = A.d (b + (y 0).val) (y 1).val
  h3 : ∀ y, x3 y = A.g (y 1).val

theorem reads_of {A : Arrs} {b b' : ℕ} (arg1 : Memref sig .tc .vmem S256x5120 .bf16) (harg1 : arg1.IsWhole) (arg3 : Memref sig .tc .vmem S256x2048 .f32) (harg3 : arg3.IsWhole)
    (arg4 : Memref sig .tc .vmem S256x2048 .f32) (harg4 : arg4.IsWhole) (arg5 : Memref sig .tc .vmem S1x2048 .f32) (harg5 : arg5.IsWhole)
    (arg8 : Memref sig .tc .vmem S2048x5120 .bf16) (harg8 : arg8.IsWhole) (arg9 : Memref sig .tc .vmem S256x2048 .f32) (harg9 : arg9.IsWhole)
    (arg11 : Memref sig .tc .vmem S8x2048 .f32) (harg11 : arg11.IsWhole)
    {x0 : Vec Ideal S256x5120 .bf16} {x1 x2 : Vec Ideal S256x2048 .f32} {x3 : Vec Ideal S1x2048 .f32} (hb : Blk A b b' x0 x1 x2 x3)
    {w : Vec Ideal S2048x5120 .bf16} (hw : ∀ y, w y = A.w (y 0).val (y 1).val)
    {u : Vec Ideal S256x2048 .f32} (hu : ∀ y, u y = dhF A b y) (a : Vec Ideal S8x2048 .f32) :
    Reads (ldOf arg1 harg1 arg3 harg3 arg4 harg4 arg5 harg5 arg8 harg8 arg9 harg9 arg11 harg11 x0 x1 x2 x3 w u a) A b b' where
  z x := by
    show View.readAt (Elt Ideal) arg1.view rD.toLoadRect (harg1.unread x0) x = _
    rw [Memref.IsWhole.readAt_unread, hb.h0]
    show A.z (b' + (0 + 1 * (x 0).val)) (0 + 1 * (x 1).val) = _
    rw [Nat.one_mul, Nat.one_mul, Nat.zero_add, Nat.zero_add]
  w j x := by
    show View.readAt (Elt Ideal) arg8.view (rV j).toLoadRect (harg8.unread w) x = _
    rw [Memref.IsWhole.readAt_unread, hw]
    show A.w (256 * (j % 8) + 1 * (x 0).val) (0 + 1 * (x 1).val) = _
    rw [Nat.one_mul, Nat.one_mul, Nat.zero_add]
  x q x := by
    show View.readAt (Elt Ideal) arg3.view (rR q).toLoadRect (harg3.unread x1) x = _
    rw [Memref.IsWhole.readAt_unread, hb.h1]
    show A.x (b + (16 * (q % 16) + 1 * (x 0).val)) (0 + 1 * (x 1).val) = _
    rw [Nat.one_mul, Nat.one_mul, Nat.zero_add]
  d q x := by
    show View.readAt (Elt Ideal) arg4.view (rR q).toLoadRect (harg4.unread x2) x = _
    rw [Memref.IsWhole.readAt_unread, hb.h2]
    show A.d (b + (16 * (q % 16) + 1 * (x 0).val)) (0 + 1 * (x 1).val) = _
    rw [Nat.one_mul, Nat.one_mul, Nat.zero_add]
  t q x := by
    show View.readAt (Elt Ideal) arg9.view (rR q).toLoadRect (harg9.unread u) x = _
    rw [Memref.IsWhole.readAt_unread, hu]
    show InbFun.dh A (b + (16 * (q % 16) + 1 * (x 0).val)) (0 + 1 * (x 1).val) = _
    rw [Nat.one_mul, Nat.one_mul, Nat.zero_add]
  g x := by
    show View.readAt (Elt Ideal) arg5.view r1.toLoadRect (harg5.unread x3) x = _
    rw [Memref.IsWhole.readAt_unread, hb.h3]
    show A.g (0 + 1 * (x 1).val) = _
    rw [Nat.one_mul, Nat.zero_add]

theorem a_of (arg1 : Memref sig .tc .vmem S256x5120 .bf16) (harg1 : arg1.IsWhole) (arg3 : Memref sig .tc .vmem S256x2048 .f32) (harg3 : arg3.IsWhole)
    (arg4 : Memref sig .tc .vmem S256x2048 .f32) (harg4 : arg4.IsWhole) (arg5 : Memref sig .tc .vmem S1x2048 .f32) (harg5 : arg5.IsWhole)
    (arg8 : Memref sig .tc .vmem S2048x5120 .bf16) (harg8 : arg8.IsWhole) (arg9 : Memref sig .tc .vmem S256x2048 .f32) (harg9 : arg9.IsWhole)
    (arg11 : Memref sig .tc .vmem S8x2048 .f32) (harg11 : arg11.IsWhole)
    (x0 : Vec Ideal S256x5120 .bf16) (x1 x2 : Vec Ideal S256x2048 .f32) (x3 : Vec Ideal S1x2048 .f32)
    (w : Vec Ideal S2048x5120 .bf16) (u : Vec Ideal S256x2048 .f32) (a : Vec Ideal S8x2048 .f32) (y : S8x2048.Idx) :
    (ldOf (F := Ideal) arg1 harg1 arg3 harg3 arg4 harg4 arg5 harg5 arg8 harg8 arg9 harg9 arg11 harg11 x0 x1 x2 x3 w u a).a y = a y := by
  show View.readAt (Elt Ideal) arg11.view r8.toLoadRect (harg11.unread a) y = _
  rw [Memref.IsWhole.readAt_unread]
  refine congrArg a (funext fun k => Fin.ext ?_)
  match k with
  | ⟨0, _⟩ => show 0 + 1 * (y 0).val = (y 0).val; omega
  | ⟨1, _⟩ => show 0 + 1 * (y 1).val = (y 1).val; omega

theorem readsA_of {A : Arrs} {c : Dev nD} {fh : HbBuf (F := Ideal) c hbW} (arg1 : Memref sig .tc .vmem S256x5120 .bf16) (harg1 : arg1.IsWhole)
    (arg8 : Memref sig .tc .vmem S2048x5120 .bf16) (arg9 : Memref sig .tc .vmem S256x2048 .f32) {x0 : Vec Ideal S256x5120 .bf16}
    (h0 : ∀ y, x0 y = A.z (y 0).val (y 1).val) (hw : ∀ s, s < 8 → ∀ x, slab c fh s x = A.w (x 0).val (640 * s + (x 1).val)) :
    ReadsA (ldA c fh arg1 harg1 arg8 arg9 x0) A where
  z s x := by
    show View.readAt (Elt Ideal) arg1.view (rZ s).toLoadRect (harg1.unread x0) x = _
    rw [Memref.IsWhole.readAt_unread, h0]
    show A.z (0 + 1 * (x 0).val) (640 * (s % 8) + 1 * (x 1).val) = _
    rw [Nat.one_mul, Nat.one_mul, Nat.zero_add]
  w s x := by
    refine (wl_read hw arg8.view (arg8.view.junk (Val := Elt Ideal)) ((rS s).emb x)).trans ?_
    show A.w (0 + 1 * (x 0).val) (640 * (s % 8) + 1 * (x 1).val) = _
    rw [Nat.one_mul, Nat.one_mul, Nat.zero_add]
  e v L x := by
    refine (read_whole arg9.view (arg9.view.junk (Val := Elt Ideal)) v L (rB.emb x)).trans ?_
    refine congrArg v (funext fun k => Fin.ext ?_)
    match k with
    | ⟨0, _⟩ => show 0 + 1 * (x 0).val = (x 0).val; omega
    | ⟨1, _⟩ => show 0 + 1 * (x 1).val = (x 1).val; omega

/-! ## The store lists -/

section Lists
variable {F : FTy → Type} [FloatOps F]

variable {c : Dev nD} {i : grid0.Coords} {arg1 : Memref sig .tc .vmem S256x5120 .bf16} {harg1 : arg1.IsWhole} {arg3 : Memref sig .tc .vmem S256x2048 .f32} {harg3 : arg3.IsWhole} {arg4 : Memref sig .tc .vmem S256x2048 .f32} {harg4 : arg4.IsWhole} {arg5 : Memref sig .tc .vmem S1x2048 .f32} {harg5 : arg5.IsWhole} {arg6 : Memref sig .tc .vmem S256x2048 .f32} {harg6 : arg6.IsWhole} {arg7 : Memref sig .tc .vmem S1x2048 .f32} {harg7 : arg7.IsWhole} {arg8 : Memref sig .tc .vmem S2048x5120 .bf16} {harg8 : arg8.IsWhole} {arg9 : Memref sig .tc .vmem S256x2048 .f32} {harg9 : arg9.IsWhole} {arg10 : Memref sig .tc .vmem S256x2048 .f32} {harg10 : arg10.IsWhole} {arg11 : Memref sig .tc .vmem S8x2048 .f32} {harg11 : arg11.IsWhole}
    {x0 : Vec F S256x5120 .bf16} {x1 x2 : Vec F S256x2048 .f32} {x3 : Vec F S1x2048 .f32} {w : Vec F S2048x5120 .bf16} {u : Vec F S256x2048 .f32} {a : Vec F S8x2048 .f32} {fh : HbBuf (F := F) c hbW}

section First
variable {hA : isA i}
theorem lw_A : (runA (F := F) c i arg1 harg1 arg3 harg3 arg4 harg4 arg5 harg5 arg6 harg6 arg7 harg7 arg8 harg8 arg9 harg9 arg10 harg10 arg11 harg11 hA x0 fh).1 = wl (slab c fh) 8 := by sl_kernel_rfl
theorem le_A : (runA (F := F) c i arg1 harg1 arg3 harg3 arg4 harg4 arg5 harg5 arg6 harg6 arg7 harg7 arg8 harg8 arg9 harg9 arg10 harg10 arg11 harg11 hA x0 fh).2.1 = el (ldA (F := F) c fh arg1 harg1 arg8 arg9 x0) 7 := by sl_kernel_rfl
theorem la_A : (runA (F := F) c i arg1 harg1 arg3 harg3 arg4 harg4 arg5 harg5 arg6 harg6 arg7 harg7 arg8 harg8 arg9 harg9 arg10 harg10 arg11 harg11 hA x0 fh).2.2.1 = [⟨r8, az⟩] := by sl_kernel_rfl
end First

section Odd
variable {hB : isB i}
theorem gl_B : (runB (F := F) c i arg1 harg1 arg3 harg3 arg4 harg4 arg5 harg5 arg6 harg6 arg7 harg7 arg8 harg8 arg9 harg9 arg10 harg10 arg11 harg11 hB x0 x1 x2 x3 w u a).1 = gl (ldOf (F := F) arg1 harg1 arg3 harg3 arg4 harg4 arg5 harg5 arg8 harg8 arg9 harg9 arg11 harg11 x0 x1 x2 x3 w u a) 16 := by sl_kernel_rfl
theorem tl_B : (runB (F := F) c i arg1 harg1 arg3 harg3 arg4 harg4 arg5 harg5 arg6 harg6 arg7 harg7 arg8 harg8 arg9 harg9 arg10 harg10 arg11 harg11 hB x0 x1 x2 x3 w u a).2.1 = tl (ldOf (F := F) arg1 harg1 arg3 harg3 arg4 harg4 arg5 harg5 arg8 harg8 arg9 harg9 arg11 harg11 x0 x1 x2 x3 w u a) 8 := by sl_kernel_rfl
theorem al_B : (runB (F := F) c i arg1 harg1 arg3 harg3 arg4 harg4 arg5 harg5 arg6 harg6 arg7 harg7 arg8 harg8 arg9 harg9 arg10 harg10 arg11 harg11 hB x0 x1 x2 x3 w u a).2.2.1 = al (ldOf (F := F) arg1 harg1 arg3 harg3 arg4 harg4 arg5 harg5 arg8 harg8 arg9 harg9 arg11 harg11 x0 x1 x2 x3 w u a) := by sl_kernel_rfl
end Odd

section Even
variable {hC : isC i}
theorem gl_C : (runC (F := F) c i arg1 harg1 arg3 harg3 arg4 harg4 arg5 harg5 arg6 harg6 arg7 harg7 arg8 harg8 arg9 harg9 arg10 harg10 arg11 harg11 hC x0 x1 x2 x3 w u a).1 = gl (ldOf (F := F) arg1 harg1 arg3 harg3 arg4 harg4 arg5 harg5 arg8 harg8 arg10 harg10 arg11 harg11 x0 x1 x2 x3 w u a) 16 := by sl_kernel_rfl
theorem tl_C : (runC (F := F) c i arg1 harg1 arg3 harg3 arg4 harg4 arg5 harg5 arg6 harg6 arg7 harg7 arg8 harg8 arg9 harg9 arg10 harg10 arg11 harg11 hC x0 x1 x2 x3 w u a).2.1 = tl (ldOf (F := F) arg1 harg1 arg3 harg3 arg4 harg4 arg5 harg5 arg8 harg8 arg10 harg10 arg11 harg11 x0 x1 x2 x3 w u a) 8 := by sl_kernel_rfl
theorem al_C : (runC (F := F) c i arg1 harg1 arg3 harg3 arg4 harg4 arg5 harg5 arg6 harg6 arg7 harg7 arg8 harg8 arg9 harg9 arg10 harg10 arg11 harg11 hC x0 x1 x2 x3 w u a).2.2.1 = al (ldOf (F := F) arg1 harg1 arg3 harg3 arg4 harg4 arg5 harg5 arg8 harg8 arg10 harg10 arg11 harg11 x0 x1 x2 x3 w u a) := by sl_kernel_rfl
end Even

section Last
variable {hD : isD i}
theorem gl_D : (runD (F := F) c i arg1 harg1 arg3 harg3 arg4 harg4 arg5 harg5 arg6 harg6 arg7 harg7 arg8 harg8 arg9 harg9 arg10 harg10 arg11 harg11 hD x0 x1 x2 x3 w u a).1 = gl (ldOf (F := F) arg1 harg1 arg3 harg3 arg4 harg4 arg5 harg5 arg8 harg8 arg10 harg10 arg11 harg11 x0 x1 x2 x3 w u a) 16 := by sl_kernel_rfl
theorem tl_D : (runD (F := F) c i arg1 harg1 arg3 harg3 arg4 harg4 arg5 harg5 arg6 harg6 arg7 harg7 arg8 harg8 arg9 harg9 arg10 harg10 arg11 harg11 hD x0 x1 x2 x3 w u a).2.2.1 = tl (ldOf (F := F) arg1 harg1 arg3 harg3 arg4 harg4 arg5 harg5 arg8 harg8 arg10 harg10 arg11 harg11 x0 x1 x2 x3 w u a) 8 := by sl_kernel_rfl
theorem al_D : (runD (F := F) c i arg1 harg1 arg3 harg3 arg4 harg4 arg5 harg5 arg6 harg6 arg7 harg7 arg8 harg8 arg9 harg9 arg10 harg10 arg11 harg11 hD x0 x1 x2 x3 w u a).2.2.2.1 = al (ldOf (F := F) arg1 harg1 arg3 harg3 arg4 harg4 arg5 harg5 arg8 harg8 arg10 harg10 arg11 harg11 x0 x1 x2 x3 w u a) := by sl_kernel_rfl
theorem dl_D : (runD (F := F) c i arg1 harg1 arg3 harg3 arg4 harg4 arg5 harg5 arg6 harg6 arg7 harg7 arg8 harg8 arg9 harg9 arg10 harg10 arg11 harg11 hD x0 x1 x2 x3 w u a).2.1 = [⟨r1, dgv (arg11.view.readCov (al (ldOf (F := F) arg1 harg1 arg3 harg3 arg4 harg4 arg5 harg5 arg8 harg8 arg10 harg10 arg11 harg11 x0 x1 x2 x3 w u a)) r8.toLoadRect)⟩] := by sl_kernel_rfl
end Last

end Lists

end Cert.InbIdeal.Voc

end
-- ==== Proof.InbValue.lean ====
/-
  What the input projection's gradient leaves in its two results, over the extended reals.

  The launch has 33 points. Point `n` multiplies the 256 rows from `256 n` on (the last point those of the one before
  again), and finishes the rows the point before multiplied; every later point finds the weight in its scratch, copied
  there by the first. The accumulator after point `n` is the sum of the contributions of the rows finished so far.
-/
module

public import proofs.«01_k».proof.Proof.InbBridge
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.InbIdeal.Voc

open Cert.InbIdeal Cert.InbIdeal.Gen Cert.InbIdeal.Inb Cert.InbFun

/-- The index `(r, q)` of an `[8192, 2048]` array, for any natural numbers (reduced into range). -/
abbrev ixA (r q : ℕ) : S8192x2048.Idx := fun a => match a with
  | ⟨0, _⟩ => Fin.ofNat 8192 r
  | ⟨1, _⟩ => Fin.ofNat 2048 q

/-- The index `(r, q)` of the projection's gradient. -/
abbrev ixZ (r q : ℕ) : S8192x5120.Idx := fun a => match a with
  | ⟨0, _⟩ => Fin.ofNat 8192 r
  | ⟨1, _⟩ => Fin.ofNat 5120 q

/-- Where the weight's entry of row `i` and column `k` lies: slab, row and column within the slab. -/
abbrev ixW (i k : ℕ) : S8x2048x640.Idx := fun a => match a with
  | ⟨0, _⟩ => Fin.ofNat 8 (k / 640)
  | ⟨1, _⟩ => Fin.ofNat 2048 i
  | ⟨2, _⟩ => Fin.ofNat 640 k

/-- The index `q` of a row. -/
abbrev ixG (q : ℕ) : S1x2048.Idx := fun a => match a with
  | ⟨0, _⟩ => (0 : Fin 1)
  | ⟨1, _⟩ => Fin.ofNat 2048 q

variable (m : (ℓ : Loc nD τ sig) → Buf (Elt Ideal) ℓ) (c : Dev nD)

/-- What the launch reads, at a row and a column. -/
def arrs : Arrs where
  z r k := (m ((c : Thread nD τ).loc main_arg0) : S8192x5120.Idx → EReal) (ixZ r k)
  w i k := (m ((c : Thread nD τ).loc main_arg1) : S8x2048x640.Idx → EReal) (ixW i k)
  x r k := (m ((c : Thread nD τ).loc main_arg2) : S8192x2048.Idx → EReal) (ixA r k)
  d r k := (m ((c : Thread nD τ).loc main_arg3) : S8192x2048.Idx → EReal) (ixA r k)
  g k := (m ((c : Thread nD τ).loc main_arg4) : S1x2048.Idx → EReal) (ixG k)

theorem idx0 : ∀ t : Fin cfg0.N, win0_0.index t (0 : Fin 2) = min t.val 31 ∧ win0_0.index t (1 : Fin 2) = 0 :=
  (by decide +kernel : ∀ t : Fin grid0.N, _)
theorem idx1 : ∀ t : Fin cfg0.N, win0_1.index t (0 : Fin 2) = t.val - 1 ∧ win0_1.index t (1 : Fin 2) = 0 :=
  (by decide +kernel : ∀ t : Fin grid0.N, _)
theorem idx2 : ∀ t : Fin cfg0.N, win0_2.index t (0 : Fin 2) = t.val - 1 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val - 1 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem hN33 : cfg0.N = 33 := N_0

/-- Point `t` finishes the rows from `256 (t - 1)` on and multiplies those from `256 t` on. -/
theorem blk_of (t : Fin cfg0.N) : Blk (arrs m c) (256 * (t.val - 1)) (256 * min t.val 31) (blk m c 0 t) (blk m c 1 t) (blk m c 2 t) (blk m c 3 t) := by
  have hN := lt_of_lt_of_eq t.isLt hN33
  constructor
  · intro y
    have h0 : (y 0).val < 256 := (y 0).isLt
    have h1 : (y 1).val < 5120 := (y 1).isLt
    unfold blk
    rw [View.read_apply]
    show m ((c : Thread nD τ).loc main_arg0) _ = m ((c : Thread nD τ).loc main_arg0) _
    congr 1
    funext a
    apply Fin.ext
    match a with
    | ⟨0, _⟩ => show win0_0.index t 0 * 256 + 1 * (y 0).val = (256 * min t.val 31 + (y 0).val) % 8192; rw [(idx0 t).1]; omega
    | ⟨1, _⟩ => show win0_0.index t 1 * 5120 + 1 * (y 1).val = (y 1).val % 5120; rw [(idx0 t).2]; omega
  · intro y
    have h0 : (y 0).val < 256 := (y 0).isLt
    have h1 : (y 1).val < 2048 := (y 1).isLt
    unfold blk
    rw [View.read_apply]
    show m ((c : Thread nD τ).loc main_arg2) _ = m ((c : Thread nD τ).loc main_arg2) _
    congr 1
    funext a
    apply Fin.ext
    match a with
    | ⟨0, _⟩ => show win0_1.index t 0 * 256 + 1 * (y 0).val = (256 * (t.val - 1) + (y 0).val) % 8192; rw [(idx1 t).1]; omega
    | ⟨1, _⟩ => show win0_1.index t 1 * 2048 + 1 * (y 1).val = (y 1).val % 2048; rw [(idx1 t).2]; omega
  · intro y
    have h0 : (y 0).val < 256 := (y 0).isLt
    have h1 : (y 1).val < 2048 := (y 1).isLt
    unfold blk
    rw [View.read_apply]
    show m ((c : Thread nD τ).loc main_arg3) _ = m ((c : Thread nD τ).loc main_arg3) _
    congr 1
    funext a
    apply Fin.ext
    match a with
    | ⟨0, _⟩ => show win0_2.index t 0 * 256 + 1 * (y 0).val = (256 * (t.val - 1) + (y 0).val) % 8192; rw [(idx2 t).1]; omega
    | ⟨1, _⟩ => show win0_2.index t 1 * 2048 + 1 * (y 1).val = (y 1).val % 2048; rw [(idx2 t).2]; omega
  · intro y
    have h0 : (y 0).val < 1 := (y 0).isLt
    have h1 : (y 1).val < 2048 := (y 1).isLt
    unfold blk
    rw [View.read_apply]
    show m ((c : Thread nD τ).loc main_arg4) _ = m ((c : Thread nD τ).loc main_arg4) _
    congr 1
    funext a
    apply Fin.ext
    match a with
    | ⟨0, _⟩ => show win0_3.index t 0 * 1 + 1 * (y 0).val = 0; rw [(idx3 t).1]; omega
    | ⟨1, _⟩ => show win0_3.index t 1 * 2048 + 1 * (y 1).val = (y 1).val % 2048; rw [(idx3 t).2]; omega

/-- A slab has as many elements squeezed as not. -/
theorem slab_casts : S1x2048x640.ShapeCasts S2048x640 := squeezes_S1x2048x640_S2048x640.numel_eq

/-- A slab read squeezed, at a row and a column. -/
theorem slab_cast (g : S1x2048x640.Idx → EReal) (h : S1x2048x640.ShapeCasts S2048x640) (x : S2048x640.Idx) :
    shapeCast S2048x640 g h x = g (ix3 (0 : Fin 1) (⟨(x 0).val, (x 0).isLt⟩ : Fin 2048) (⟨(x 1).val, (x 1).isLt⟩ : Fin 640)) := by
  refine shapeCast_apply (s := S1x2048x640) _ _ _ _ ?_
  rewrite [Shape.rowMajor_val_three, Shape.rowMajor_val_two]
  show (0 * 2048 + (x 0).val) * 640 + (x 1).val = (x 0).val * 640 + (x 1).val
  omega

/-- The copy of slab `s` reads the weight's entries of that slab. -/
theorem slab_read (s : ℕ) (hs : s < 8) (inb : ∀ a, (![s, 0, 0] : Fin 3 → ℕ) a + S1x2048x640.size a ≤ S8x2048x640.size a)
    (hr : ∀ a, (Rect.unit (s := S8x2048x640) ![s, 0, 0] S1x2048x640.size inb).stride a = 1) (f : S8x2048x640.Idx → EReal) (x : S2048x640.Idx) :
    View.read (Elt Ideal) (((Memref.whole main_arg1).slice (Rect.unit (s := S8x2048x640) ![s, 0, 0] S1x2048x640.size inb) hr).squeeze S2048x640 squeezes_S1x2048x640_S2048x640).view f x
      = f (ixW (x 0).val (640 * s + (x 1).val)) := by
  have h0 : (x 0).val < 2048 := (x 0).isLt
  have h1 : (x 1).val < 640 := (x 1).isLt
  have e := Memref.read_squeeze_slice (Val := Elt Ideal) (Memref.whole main_arg1) (Rect.unit (s := S8x2048x640) ![s, 0, 0] S1x2048x640.size inb) hr squeezes_S1x2048x640_S2048x640 slab_casts f
  refine (congrFun e x).trans ((slab_cast (fun j : S1x2048x640.Idx => f ((Rect.unit (s := S8x2048x640) ![s, 0, 0] S1x2048x640.size inb).emb j)) slab_casts x).trans ?_)
  refine congrArg f (funext fun a => Fin.ext ?_)
  match a with
  | ⟨0, _⟩ => show s + 1 * 0 = (640 * s + (x 1).val) / 640 % 8; omega
  | ⟨1, _⟩ => show 0 + 1 * (x 0).val = (x 0).val % 2048; omega
  | ⟨2, _⟩ => show 0 + 1 * (x 1).val = (640 * s + (x 1).val) % 640; omega

/-- So do the eight copies of the first point. -/
theorem slab_lt (s : ℕ) (hs : s < 8) (x : S2048x640.Idx) :
    slab (F := Ideal) c (V m c main_arg1) s x = (arrs m c).w (x 0).val (640 * s + (x 1).val) := by
  match s, hs with
  | 0, h => exact slab_read 0 h inb_S8x2048x640_S1x2048x640_0_0_0 (fun _ => rfl) (V m c main_arg1) x
  | 1, h => exact slab_read 1 h inb_S8x2048x640_S1x2048x640_1_0_0 (fun _ => rfl) (V m c main_arg1) x
  | 2, h => exact slab_read 2 h inb_S8x2048x640_S1x2048x640_2_0_0 (fun _ => rfl) (V m c main_arg1) x
  | 3, h => exact slab_read 3 h inb_S8x2048x640_S1x2048x640_3_0_0 (fun _ => rfl) (V m c main_arg1) x
  | 4, h => exact slab_read 4 h inb_S8x2048x640_S1x2048x640_4_0_0 (fun _ => rfl) (V m c main_arg1) x
  | 5, h => exact slab_read 5 h inb_S8x2048x640_S1x2048x640_5_0_0 (fun _ => rfl) (V m c main_arg1) x
  | 6, h => exact slab_read 6 h inb_S8x2048x640_S1x2048x640_6_0_0 (fun _ => rfl) (V m c main_arg1) x
  | 7, h => exact slab_read 7 h inb_S8x2048x640_S1x2048x640_7_0_0 (fun _ => rfl) (V m c main_arg1) x

/-! ## The points -/

/-- The tile the product of point `n` lies in: the even one at an even point, else the odd one. -/
def tileOf (n : ℕ) (s : St Ideal) : S256x2048.Idx → EReal := if n % 2 = 0 then s.te else s.tod

/-- What the launch holds after point `n`: the weight, the tile just multiplied, the accumulator, the block just
    finished, and after the last point the scale's gradient. -/
structure State (n : ℕ) (hn : n < cfg0.N) : Prop where
  w : ∀ y, (after m c n hn).w y = (arrs m c).w (y 0).val (y 1).val
  t : ∀ y, tileOf n (after m c n hn) y = dhF (arrs m c) (256 * min n 31) y
  a : ∀ y, (after m c n hn).acc y = ∑ u ∈ Finset.range n, accAdd (arrs m c) (256 * u) (y 0).val (y 1).val
  x : n ≠ 0 → ∀ y, (after m c n hn).gx y = gxF (arrs m c) (256 * (n - 1)) y
  g : n = 32 → ∀ y, (after m c n hn).dg y = ∑ s : Fin 8, ∑ u ∈ Finset.range 32, accAdd (arrs m c) (256 * u) s.val (y 1).val

/-! What each kind of point leaves, by name. -/

theorem goB_w (c : Dev nD) (t : Fin cfg0.N) (h : isB (grid0.coords t)) (s : St Ideal) : (goB m c t h s).w = s.w := by sl_kernel_rfl
theorem goB_t (c : Dev nD) (t : Fin cfg0.N) (h : isB (grid0.coords t)) (s : St Ideal) : (goB m c t h s).tod = rdT (atB m c t h s).2.1 := by sl_kernel_rfl
theorem goB_acc (c : Dev nD) (t : Fin cfg0.N) (h : isB (grid0.coords t)) (s : St Ideal) : (goB m c t h s).acc = rdA (atB m c t h s).2.2.1 := by sl_kernel_rfl
theorem goB_gx (c : Dev nD) (t : Fin cfg0.N) (h : isB (grid0.coords t)) (s : St Ideal) : (goB m c t h s).gx = rdT (atB m c t h s).1 := by sl_kernel_rfl
theorem goC_w (c : Dev nD) (t : Fin cfg0.N) (h : isC (grid0.coords t)) (s : St Ideal) : (goC m c t h s).w = s.w := by sl_kernel_rfl
theorem goC_t (c : Dev nD) (t : Fin cfg0.N) (h : isC (grid0.coords t)) (s : St Ideal) : (goC m c t h s).te = rdT (atC m c t h s).2.1 := by sl_kernel_rfl
theorem goC_acc (c : Dev nD) (t : Fin cfg0.N) (h : isC (grid0.coords t)) (s : St Ideal) : (goC m c t h s).acc = rdA (atC m c t h s).2.2.1 := by sl_kernel_rfl
theorem goC_gx (c : Dev nD) (t : Fin cfg0.N) (h : isC (grid0.coords t)) (s : St Ideal) : (goC m c t h s).gx = rdT (atC m c t h s).1 := by sl_kernel_rfl
theorem goD_w (c : Dev nD) (t : Fin cfg0.N) (h : isD (grid0.coords t)) (s : St Ideal) : (goD m c t h s).w = s.w := by sl_kernel_rfl
theorem goD_t (c : Dev nD) (t : Fin cfg0.N) (h : isD (grid0.coords t)) (s : St Ideal) : (goD m c t h s).te = rdT (atD m c t h s).2.2.1 := by sl_kernel_rfl
theorem goD_acc (c : Dev nD) (t : Fin cfg0.N) (h : isD (grid0.coords t)) (s : St Ideal) : (goD m c t h s).acc = rdA (atD m c t h s).2.2.2.1 := by sl_kernel_rfl
theorem goD_gx (c : Dev nD) (t : Fin cfg0.N) (h : isD (grid0.coords t)) (s : St Ideal) : (goD m c t h s).gx = rdT (atD m c t h s).1 := by sl_kernel_rfl
theorem goD_dg (c : Dev nD) (t : Fin cfg0.N) (h : isD (grid0.coords t)) (s : St Ideal) : (goD m c t h s).dg = rdG (atD m c t h s).2.1 := by sl_kernel_rfl
theorem goA_w (c : Dev nD) (t : Fin cfg0.N) (h : isA (grid0.coords t)) : (goA m c t h).w = rdW (atA m c t h).1 := by sl_kernel_rfl
theorem goA_t (c : Dev nD) (t : Fin cfg0.N) (h : isA (grid0.coords t)) : (goA m c t h).te = rdT (atA m c t h).2.1 := by sl_kernel_rfl
theorem goA_acc (c : Dev nD) (t : Fin cfg0.N) (h : isA (grid0.coords t)) : (goA m c t h).acc = rdA (atA m c t h).2.2.1 := by sl_kernel_rfl

/-- The first point. -/
theorem state_A (hn : 0 < cfg0.N) : State m c 0 hn := by
  have e : after m c 0 hn = _ := after_A m c ⟨0, hn⟩ rfl
  have hb := blk_of m c ⟨0, hn⟩
  have h0 : ∀ y, blk m c 0 ⟨0, hn⟩ y = (arrs m c).z (y 0).val (y 1).val := by
    intro y
    refine (hb.h0 y).trans ?_
    show (arrs m c).z (0 + (y 0).val) (y 1).val = _
    rw [Nat.zero_add]
  have hR := readsA_of (c := c) (fh := V m c main_arg1) (st0 ⟨0, hn⟩) (hst0 ⟨0, hn⟩) scW scE h0 (slab_lt m c)
  constructor
  · intro y
    rw [e, goA_w]
    unfold rdW
    rw [lw_A]
    exact wl_read (slab_lt m c) _ _ y
  · intro y
    unfold tileOf
    rw [e, if_pos rfl, goA_t]
    unfold rdT
    rw [le_A]
    refine (el_read hR _ _ y).trans ?_
    show _ = InbFun.dh (arrs m c) (0 + (y 0).val) (y 1).val
    rw [Nat.zero_add]
  · intro y
    rw [e, Finset.range_zero, Finset.sum_empty, goA_acc]
    unfold rdA
    rw [la_A, read_whole8]
    exact az_apply y
  · intro h; exact absurd rfl h
  · intro h; omega

/-- A point of kind B. -/
theorem state_B (n : ℕ) (hn : n + 1 < cfg0.N) (h : (n + 1) % 2 = 1) (hp : State m c n (Nat.lt_of_succ_lt hn)) : State m c (n + 1) hn := by
  have hn' := lt_of_lt_of_eq hn hN33
  have e : after m c (n + 1) hn = _ := after_B m c ⟨n + 1, hn⟩ h
  have hb := blk_of m c ⟨n + 1, hn⟩
  have hu : ∀ y, (after m c n (Nat.lt_of_succ_lt hn)).te y = dhF (arrs m c) (256 * n) y := by
    intro y
    have ht := hp.t y
    unfold tileOf at ht
    rw [if_pos (show n % 2 = 0 by omega), show min n 31 = n by omega] at ht
    exact ht
  have hR := reads_of (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
    scW (Memref.isWhole_whole _) scE (Memref.isWhole_whole _) scA (Memref.isWhole_whole _) hb hp.w hu (after m c n (Nat.lt_of_succ_lt hn)).acc
  have ha : ∀ (v : View sig .tc .vmem S8x2048 .f32) f y, v.read (Elt Ideal) (v.writes (Elt Ideal) f (al (ldOf (F := Ideal) (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
      scW (Memref.isWhole_whole _) scE (Memref.isWhole_whole _) scA (Memref.isWhole_whole _) (blk m c 0 ⟨n + 1, hn⟩) (blk m c 1 ⟨n + 1, hn⟩) (blk m c 2 ⟨n + 1, hn⟩) (blk m c 3 ⟨n + 1, hn⟩)
      (after m c n (Nat.lt_of_succ_lt hn)).w (after m c n (Nat.lt_of_succ_lt hn)).te (after m c n (Nat.lt_of_succ_lt hn)).acc))) y
      = ∑ u ∈ Finset.range (n + 1), accAdd (arrs m c) (256 * u) (y 0).val (y 1).val := by
    intro v f y
    rw [al_read hR, a_of, hp.a, Finset.sum_range_succ]
    rfl
  constructor
  · intro y; rw [e, goB_w]; exact hp.w y
  · intro y
    unfold tileOf
    rw [e, if_neg (show ¬(n + 1) % 2 = 0 by omega), goB_t]
    unfold rdT
    rw [tl_B]
    exact tl_read hR _ _ y
  · intro y
    rw [e, goB_acc]
    unfold rdA
    rw [al_B]
    exact ha _ _ y
  · intro _ y
    rw [e, goB_gx]
    unfold rdT
    rw [gl_B]
    exact gl_read hR _ _ y
  · intro h32 y
    omega

/-- A point of kind C. -/
theorem state_C (n : ℕ) (hn : n + 1 < cfg0.N) (h : (n + 1) % 2 = 0) (h2 : n + 1 ≠ 32) (hp : State m c n (Nat.lt_of_succ_lt hn)) : State m c (n + 1) hn := by
  have hn' := lt_of_lt_of_eq hn hN33
  have e : after m c (n + 1) hn = _ := after_C m c ⟨n + 1, hn⟩ h (Nat.succ_ne_zero n) h2
  have hb := blk_of m c ⟨n + 1, hn⟩
  have hu : ∀ y, (after m c n (Nat.lt_of_succ_lt hn)).tod y = dhF (arrs m c) (256 * n) y := by
    intro y
    have ht := hp.t y
    unfold tileOf at ht
    rw [if_neg (show ¬n % 2 = 0 by omega), show min n 31 = n by omega] at ht
    exact ht
  have hR := reads_of (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
    scW (Memref.isWhole_whole _) scO (Memref.isWhole_whole _) scA (Memref.isWhole_whole _) hb hp.w hu (after m c n (Nat.lt_of_succ_lt hn)).acc
  have ha : ∀ (v : View sig .tc .vmem S8x2048 .f32) f y, v.read (Elt Ideal) (v.writes (Elt Ideal) f (al (ldOf (F := Ideal) (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
      scW (Memref.isWhole_whole _) scO (Memref.isWhole_whole _) scA (Memref.isWhole_whole _) (blk m c 0 ⟨n + 1, hn⟩) (blk m c 1 ⟨n + 1, hn⟩) (blk m c 2 ⟨n + 1, hn⟩) (blk m c 3 ⟨n + 1, hn⟩)
      (after m c n (Nat.lt_of_succ_lt hn)).w (after m c n (Nat.lt_of_succ_lt hn)).tod (after m c n (Nat.lt_of_succ_lt hn)).acc))) y
      = ∑ u ∈ Finset.range (n + 1), accAdd (arrs m c) (256 * u) (y 0).val (y 1).val := by
    intro v f y
    rw [al_read hR, a_of, hp.a, Finset.sum_range_succ]
    rfl
  constructor
  · intro y; rw [e, goC_w]; exact hp.w y
  · intro y
    unfold tileOf
    rw [e, if_pos h, goC_t]
    unfold rdT
    rw [tl_C]
    exact tl_read hR _ _ y
  · intro y
    rw [e, goC_acc]
    unfold rdA
    rw [al_C]
    exact ha _ _ y
  · intro _ y
    rw [e, goC_gx]
    unfold rdT
    rw [gl_C]
    exact gl_read hR _ _ y
  · intro h32 y
    omega

/-- A point of kind D. -/
theorem state_D (n : ℕ) (hn : n + 1 < cfg0.N) (h2 : n + 1 = 32) (hp : State m c n (Nat.lt_of_succ_lt hn)) : State m c (n + 1) hn := by
  have hn' := lt_of_lt_of_eq hn hN33
  have e : after m c (n + 1) hn = _ := after_D m c ⟨n + 1, hn⟩ h2
  have hb := blk_of m c ⟨n + 1, hn⟩
  have hu : ∀ y, (after m c n (Nat.lt_of_succ_lt hn)).tod y = dhF (arrs m c) (256 * n) y := by
    intro y
    have ht := hp.t y
    unfold tileOf at ht
    rw [if_neg (show ¬n % 2 = 0 by omega), show min n 31 = n by omega] at ht
    exact ht
  have hR := reads_of (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
    scW (Memref.isWhole_whole _) scO (Memref.isWhole_whole _) scA (Memref.isWhole_whole _) hb hp.w hu (after m c n (Nat.lt_of_succ_lt hn)).acc
  have ha : ∀ (v : View sig .tc .vmem S8x2048 .f32) f y, v.read (Elt Ideal) (v.writes (Elt Ideal) f (al (ldOf (F := Ideal) (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
      scW (Memref.isWhole_whole _) scO (Memref.isWhole_whole _) scA (Memref.isWhole_whole _) (blk m c 0 ⟨n + 1, hn⟩) (blk m c 1 ⟨n + 1, hn⟩) (blk m c 2 ⟨n + 1, hn⟩) (blk m c 3 ⟨n + 1, hn⟩)
      (after m c n (Nat.lt_of_succ_lt hn)).w (after m c n (Nat.lt_of_succ_lt hn)).tod (after m c n (Nat.lt_of_succ_lt hn)).acc))) y
      = ∑ u ∈ Finset.range (n + 1), accAdd (arrs m c) (256 * u) (y 0).val (y 1).val := by
    intro v f y
    rw [al_read hR, a_of, hp.a, Finset.sum_range_succ]
    rfl
  constructor
  · intro y; rw [e, goD_w]; exact hp.w y
  · intro y
    unfold tileOf
    rw [e, if_pos (show (n + 1) % 2 = 0 by omega), goD_t]
    unfold rdT
    rw [tl_D]
    exact tl_read hR _ _ y
  · intro y
    rw [e, goD_acc]
    unfold rdA
    rw [al_D]
    exact ha _ _ y
  · intro _ y
    rw [e, goD_gx]
    unfold rdT
    rw [gl_D]
    exact gl_read hR _ _ y
  · intro h32 y
    rw [e, goD_dg]
    unfold rdG
    rw [dl_D, read_whole1, dgv_apply]
    refine Finset.sum_congr rfl fun s _ => ?_
    refine (ha scA.view (scA.view.junk (Val := Elt Ideal)) (r8.emb (ix2 s (y 1)))).trans ?_
    rw [h32]
    show ∑ u ∈ Finset.range 32, accAdd (arrs m c) (256 * u) (0 + 1 * s.val) (0 + 1 * (y 1).val) = _
    rw [Nat.zero_add, Nat.one_mul, Nat.zero_add, Nat.one_mul]

/-- Every point. -/
theorem state (n : ℕ) (hn : n < cfg0.N) : State m c n hn := by
  induction n with
  | zero => exact state_A m c hn
  | succ n ih =>
    have hp := ih (Nat.lt_of_succ_lt hn)
    by_cases h : (n + 1) % 2 = 1
    · exact state_B m c n hn h hp
    · by_cases h2 : n + 1 = 32
      · exact state_D m c n hn h2 hp
      · exact state_C m c n hn (by omega) h2 hp

/-! ## The two results -/

/-- A point other than the first writes its block of the residual's gradient back, the last one the scale's gradient. -/
theorem flush4 : ∀ t : Fin cfg0.N, (cfg0.win 4).flush t = true → t.val ≠ 0 :=
  (by decide +kernel : ∀ t : Fin grid0.N, _)
theorem flush5 : ∀ t : Fin cfg0.N, (cfg0.win 5).flush t = true → t.val = 32 :=
  (by decide +kernel : ∀ t : Fin grid0.N, _)

/-- The gradient of the residual. -/
theorem arr4 : (dats m 0 c).arrAt 4 cfg0.N = fun i : S8192x2048.Idx => InbFun.gx (arrs m c) (i 0).val (i 1).val := by
  refine (dats m 0 c).arrAt_eq_of_covers 4 _ (by decide +kernel) fun t hf y => ?_
  blk_simp
  rw [after4]
  refine ((state m c t.val t.isLt).x (flush4 t hf) _).trans ?_
  exact congrArg₂ (InbFun.gx (arrs m c)) (by rw [(idx4 t).1, Nat.mul_comm]) (by rw [(idx4 t).2, Nat.zero_mul, Nat.zero_add])

/-- The accumulator's rows, summed over its eight rows and all points, are the sum over all rows. -/
theorem sum_acc (A : Arrs) (k : ℕ) :
    ∑ s : Fin 8, ∑ t ∈ Finset.range 32, accAdd A (256 * t) s.val k = InbFun.dg A k := by
  unfold InbFun.dg
  rw [Finset.sum_comm, ← Sums.range_blocks 256 (fun r => InbFun.dh A r k * InbFun.xn A r k) 32]
  refine Finset.sum_congr rfl fun t _ => ?_
  rw [show (256 : ℕ) = 16 * 16 from rfl, ← Sums.range_lanes 8 16 rfl (fun r => InbFun.dh A (16 * 16 * t + r) k * InbFun.xn A (16 * 16 * t + r) k) 16, Finset.sum_range]
  rfl

/-- The gradient of the scale. -/
theorem arr5 : (dats m 0 c).arrAt 5 cfg0.N = fun i : S1x2048.Idx => InbFun.dg (arrs m c) (i 1).val := by
  refine (dats m 0 c).arrAt_eq_of_covers 5 _ (by decide +kernel) fun t hf y => ?_
  have h32 := flush5 t hf
  blk_simp
  rw [after5]
  refine ((state m c t.val t.isLt).g h32 _).trans ?_
  refine (sum_acc (arrs m c) _).trans ?_
  exact congrArg (InbFun.dg (arrs m c)) (by rw [(idx5 t).2, Nat.zero_mul, Nat.zero_add])

/-- Every execution ends with the two results as the pipeline leaves them and the arguments as launched. -/
theorem run_blocks (ρ : Dev nD → PrngReg) : θ_run defs (onTc (τ := τ) (main (F := Ideal))) ⟨m, fun _ => 0, ρ⟩ (fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h.1 c).1 4, (h.1 c).1 5,
      ((h.1 c).1 0).trans (((dats m 0 c).arrAt_in 0 rfl _).trans (A_eq m c 0)),
      (h.1 c).2 main_arg1 (Pipeline.mem_restRefs_of main_arg1 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩) (run m ρ)

end Cert.InbIdeal.Voc

end
-- ==== Proof.InbClaim.lean ====
/-
  The input projection's backward kernel against the derivative of the forward lines.

  The reference joins the weight's eight slabs along the columns; column `k` lies in slab `k / 640`. Its derivative of the
  norm has three terms where the kernel has a factored form; they agree because a mean square is not negative, so that
  its reciprocal root is a finite number.
-/
module

public import proofs.«01_k».proof.Defs
public import proofs.«01_k».proof.Proof.Reals
public import proofs.«01_k».proof.Proof.InbValue
public import proofs.«01_k».proof.Proof.Gen.InbRefIdeal.Read

@[expose] public section

set_option maxRecDepth 16384

noncomputable section

open Idealize.ShloMosaic Idealize.ShloMosaic.TcCoe Idealize.SL.Sem

namespace Cert.InbClaim

open Cert.InbRefIdeal Cert.InbRefIdeal.Gen Cert.InbRefIdeal.Read Cert.InbFun
open Cert.InbIdeal.Voc (ixA ixZ ixW ixG)

variable (x0 : S8192x5120.Idx → EReal) (x1 : S8x2048x640.Idx → EReal) (x2 x3 : S8192x2048.Idx → EReal) (x4 : S1x2048.Idx → EReal)

/-- An index is the pair of its coordinates. -/
theorem ixA_eta (i : S8192x2048.Idx) : ixA (i 0).val (i 1).val = i := by
  have h0 : (i 0).val < 8192 := (i 0).isLt
  have h1 : (i 1).val < 2048 := (i 1).isLt
  funext a; apply Fin.ext
  match a with
  | ⟨0, _⟩ => exact Nat.mod_eq_of_lt h0
  | ⟨1, _⟩ => exact Nat.mod_eq_of_lt h1

/-- The reference's arguments at a row and a column. -/
def refArrs : Arrs where
  z r k := x0 (ixZ r k)
  w i k := x1 (ixW i k)
  x r k := x2 (ixA r k)
  d r k := x3 (ixA r k)
  g k := x4 (ixG k)

/-- The reference's gradient of the normalised residual. -/
theorem v22_apply (i : S8192x2048.Idx) : val_main_v22 (F := Ideal) x0 x1 i = dh (refArrs x0 x1 x2 x3 x4) (i 0).val (i 1).val := by
  have h0 : (i 0).val < 8192 := (i 0).isLt
  have h1 : (i 1).val < 2048 := (i 1).isLt
  rw [val_main_v22_apply]
  unfold dh
  rw [Finset.sum_range]
  refine Finset.sum_congr rfl fun k _ => congrArg₂ (· * ·) ?_ ?_
  · show x0 _ = x0 _
    have hk : k.val < 5120 := k.isLt
    refine congrArg x0 (funext fun a => Fin.ext ?_)
    match a with
    | ⟨0, _⟩ => exact (Nat.mod_eq_of_lt h0).symm
    | ⟨1, _⟩ => exact (Nat.mod_eq_of_lt hk).symm
  · rw [val_main_v2_apply, val_main_v1_apply]
    show x1 _ = x1 _
    have hk : k.val < 5120 := k.isLt
    refine congrArg x1 (funext fun a => Fin.ext ?_)
    match a with
    | ⟨0, _⟩ => show ((i 1).val * 5120 + k.val) / 640 % 8 = k.val / 640 % 8; omega
    | ⟨1, _⟩ => show ((i 1).val * 5120 + k.val) / 5120 = (i 1).val % 2048; omega
    | ⟨2, _⟩ => show ((i 1).val * 5120 + k.val) % 640 = k.val % 640; omega

theorem x2_eq (i : S8192x2048.Idx) : x2 i = (refArrs x0 x1 x2 x3 x4).x (i 0).val (i 1).val := by
  show _ = x2 (ixA _ _)
  rw [ixA_eta]

theorem x3_eq (i : S8192x2048.Idx) : x3 i = (refArrs x0 x1 x2 x3 x4).d (i 0).val (i 1).val := by
  show _ = x3 (ixA _ _)
  rw [ixA_eta]

/-- The sum of a row's squares. -/
theorem v5_apply (i : S8192.Idx) : val_main_v5 (F := Ideal) x2 i
    = ∑ k ∈ Finset.range 2048, (refArrs x0 x1 x2 x3 x4).x (i 0).val k * (refArrs x0 x1 x2 x3 x4).x (i 0).val k := by
  rw [val_main_v5_apply, Finset.sum_range]
  have e : (val_main_cst (F := Ideal)) (Shape.Idx.first h_S_) = (0 : EReal) := Ideal.ofBits_zero_f32
  rw [e]
  refine (zero_add _).trans (Finset.sum_congr rfl fun k _ => ?_)
  show x2 _ * x2 _ = _
  rw [x2_eq x0 x1 x2 x3 x4]

/-- A row's mean square plus the constant. -/
theorem v10_apply (i : S8192x1.Idx) : val_main_v10 (F := Ideal) x2 i
    = Ideal.div (∑ k ∈ Finset.range 2048, (refArrs x0 x1 x2 x3 x4).x (i 0).val k * (refArrs x0 x1 x2 x3 x4).x (i 0).val k) (Ideal.ofBits .f32 0x45000000#32)
      + Ideal.ofBits .f32 0x358637BD#32 := by
  rw [val_main_v10_apply, val_main_v8_apply, val_main_v6_apply, v5_apply x0 x1 x2 x3 x4]
  rfl

theorem v11_apply (i : S8192x1.Idx) : val_main_v11 (F := Ideal) x2 i = rr (refArrs x0 x1 x2 x3 x4) (i 0).val := by
  rw [val_main_v11_apply, v10_apply x0 x1 x2 x3 x4]
  rfl

/-- The normalised residual. -/
theorem v16_apply (i : S8192x2048.Idx) : val_main_v16 (F := Ideal) x2 i = xn (refArrs x0 x1 x2 x3 x4) (i 0).val (i 1).val := by
  rw [val_main_v16_apply, val_main_v15_apply, v11_apply x0 x1 x2 x3 x4, x2_eq x0 x1 x2 x3 x4]
  rfl

/-- The gradient of the scale. -/
theorem v43_apply (i : S1x2048.Idx) : val_main_v43 (F := Ideal) x0 x1 x2 i = dg (refArrs x0 x1 x2 x3 x4) (i 1).val := by
  have h0 : (i 0).val < 1 := (i 0).isLt
  have h1 : (i 1).val < 2048 := (i 1).isLt
  rw [val_main_v43_apply, val_main_v28_apply, Fin.sum_univ_one, val_main_v25_apply, val_main_v24_apply]
  have e4 : (val_main_cst_4 (F := Ideal)) (Shape.Idx.first h_S_) = (0 : EReal) := Ideal.ofBits_zero_f32
  have e3 : (val_main_cst_3 (F := Ideal)) (Shape.Idx.first h_S_) = (0 : EReal) := Ideal.ofBits_zero_f32
  rw [e4, e3]
  refine (zero_add _).trans ((zero_add _).trans ?_)
  unfold dg
  rw [Finset.sum_range]
  refine Finset.sum_congr rfl fun k _ => ?_
  rw [val_main_v23_apply, v16_apply x0 x1 x2 x3 x4, v22_apply x0 x1 x2 x3 x4]
  refine (mul_comm _ _).trans ?_
  generalize hj : idx_main_v24 _ k = j
  have c0 : (j 0).val = k.val := by rw [← hj]
  have c1 : (j 1).val = (i 1).val := by
    rw [← hj]
    show 0 * 2048 + (i 1).val = _
    omega
  rw [c0, c1]

/-- The gradient reaching the norm, times the scale. -/
theorem v27_apply (i : S8192x2048.Idx) : val_main_v27 (F := Ideal) x0 x1 x4 i
    = dh (refArrs x0 x1 x2 x3 x4) (i 0).val (i 1).val * (refArrs x0 x1 x2 x3 x4).g (i 1).val := by
  rw [val_main_v27_apply, v22_apply x0 x1 x2 x3 x4, val_main_v26_apply, val_main_v17_apply, val_main_v3_apply]
  refine congrArg (dh (refArrs x0 x1 x2 x3 x4) (i 0).val (i 1).val * ·) (congrArg x4 (funext fun a => Fin.ext ?_))
  match a with
  | ⟨0, _⟩ => rfl
  | ⟨1, _⟩ => rfl

theorem v30_apply (i : S8192.Idx) : val_main_v30 (F := Ideal) x0 x1 x2 x4 i
    = ∑ k ∈ Finset.range 2048, (refArrs x0 x1 x2 x3 x4).x (i 0).val k * (dh (refArrs x0 x1 x2 x3 x4) (i 0).val k * (refArrs x0 x1 x2 x3 x4).g k) := by
  rw [val_main_v30_apply, Finset.sum_range]
  have e : (val_main_cst_5 (F := Ideal)) (Shape.Idx.first h_S_) = (0 : EReal) := Ideal.ofBits_zero_f32
  rw [e]
  refine (zero_add _).trans (Finset.sum_congr rfl fun k _ => ?_)
  rw [val_main_v29_apply, v27_apply x0 x1 x2 x3 x4, x2_eq x0 x1 x2 x3 x4]
  rfl

/-- Half the gradient of a row's mean square, spread over the row. -/
theorem v38_apply (i : S8192x2048.Idx) : val_main_v38 (F := Ideal) x0 x1 x2 x4 i
    = Ideal.div ((∑ k ∈ Finset.range 2048, (refArrs x0 x1 x2 x3 x4).x (i 0).val k * (dh (refArrs x0 x1 x2 x3 x4) (i 0).val k * (refArrs x0 x1 x2 x3 x4).g k))
        * (Ideal.ofBits .f32 0xBF000000#32 * Ideal.div (rr (refArrs x0 x1 x2 x3 x4) (i 0).val)
            (Ideal.div (∑ k ∈ Finset.range 2048, (refArrs x0 x1 x2 x3 x4).x (i 0).val k * (refArrs x0 x1 x2 x3 x4).x (i 0).val k) (Ideal.ofBits .f32 0x45000000#32) + Ideal.ofBits .f32 0x358637BD#32)))
        (Ideal.ofBits .f32 0x45000000#32) := by
  rw [val_main_v38_apply, val_main_v37_apply, Fin.sum_univ_one]
  have e : (val_main_cst_7 (F := Ideal)) (Shape.Idx.first h_S_) = (0 : EReal) := Ideal.ofBits_zero_f32
  rw [e]
  refine (zero_add _).trans ?_
  generalize hj : idx_main_v37 (idx_main_v38 i) 0 = j
  have c0 : (j 0).val = (i 0).val := by rw [← hj]
  have c1 : ((idx_main_v31 j) 0).val = (i 0).val := by
    rw [← hj]
    show (i 0).val * 1 + 0 = _
    omega
  rw [val_main_v36_apply, val_main_v34_apply, val_main_v31_apply, val_main_v14_apply, val_main_v12_apply,
    v30_apply x0 x1 x2 x3 x4, v11_apply x0 x1 x2 x3 x4, v10_apply x0 x1 x2 x3 x4, c0, c1]
  rfl

/-- The kernel's row sum has the reciprocal root inside. -/
theorem mm_eq (B : Arrs) (r : ℕ) (q : ℝ) (hq : 0 ≤ q) (h : rr B r = (q : EReal)) :
    mm B r = (∑ k ∈ Finset.range 2048, B.x r k * (dh B r k * B.g k)) * (q : EReal) * Ideal.ofBits .f32 0x3A000000#32 := by
  unfold mm
  rw [Reals.bits_2048, Ideal.div_coe (by norm_num), ← Reals.bits_inv2048, Reals.sum_mul _ _ q hq]
  refine congrArg (· * _) (Finset.sum_congr rfl fun k _ => ?_)
  unfold xn
  rw [h]
  ac_rfl

/-- The reference's gradient of the residual. -/
theorem v44_apply (i : S8192x2048.Idx) : val_main_v44 (F := Ideal) x0 x1 x2 x3 x4 i = gx (refArrs x0 x1 x2 x3 x4) (i 0).val (i 1).val := by
  rw [val_main_v44_apply, val_main_v42_apply, val_main_v41_apply, val_main_v40_apply, val_main_v39_apply, val_main_v33_apply, val_main_v32_apply,
    v38_apply x0 x1 x2 x3 x4, v27_apply x0 x1 x2 x3 x4, v11_apply x0 x1 x2 x3 x4, x2_eq x0 x1 x2 x3 x4, x3_eq x0 x1 x2 x3 x4]
  obtain ⟨q, hq, h1, h2⟩ := Reals.rsqrt_mean (∑ k ∈ Finset.range 2048, (refArrs x0 x1 x2 x3 x4).x (i 0).val k * (refArrs x0 x1 x2 x3 x4).x (i 0).val k)
    (Finset.sum_nonneg fun k _ => Reals.sq_nonneg _)
  have hr : rr (refArrs x0 x1 x2 x3 x4) (i 0).val = (q : EReal) := h1
  rw [hr, h2]
  unfold gx xn
  rw [mm_eq (refArrs x0 x1 x2 x3 x4) _ q hq hr, hr, Reals.norm_grad q hq]
  rfl

end Cert.InbClaim

namespace Cert.InbClaim

open Cert.InbIdeal Cert.InbIdeal.Gen Cert.InbIdeal.Inb

/-- The input projection's backward kernel and the derivative of the forward lines end with equal results from equal
    arguments. -/
theorem algebraic : Cert.algebraic_InbIdeal_InbRefIdeal := by
  intro m ρ m' ρ' _ hagree
  refine ⟨fun c => (dats m 0 c).arrAt 4 cfg0.N, fun c => (dats m 0 c).arrAt 5 cfg0.N, Voc.run_blocks m ρ, ?_⟩
  refine (θ_run Cert.InbRefIdeal.defs _ _).mono (fun _ h c => ⟨(h c).1.trans ?_, (h c).2.1.trans ?_, (h c).2.2⟩)
    (Cert.InbRefIdeal.Value.run (F := Ideal) m' ρ')
  all_goals obtain ⟨h0, h1, h2, h3, h4⟩ := hagree c
  · rw [Cert.InbRefIdeal.Read.val_main_v44_eq, h0, h1, h2, h3, h4]
    show _ = (dats m 0 c).arrAt 4 cfg0.N
    rw [Voc.arr4]
    funext i
    exact v44_apply _ _ _ _ _ i
  · rw [h0, h1, h2, Cert.InbRefIdeal.Read.val_main_v43_eq]
    show _ = (dats m 0 c).arrAt 5 cfg0.N
    rw [Voc.arr5]
    funext i
    exact v43_apply _ _ _ (m ((c.tc : Thread nD τ).loc main_arg3)) (m ((c.tc : Thread nD τ).loc main_arg4)) i

end Cert.InbClaim

end
-- ==== Proof.OpVoc.lean ====
/-
  One grid point of the output projection, written as functions of the row group `q` and the column block `j`.

  A point handles 512 rows, in 32 groups of 16 rows, and 2048 columns, in 8 blocks of 256 columns. The definitions
  below name each quantity the body forms; what a point stores is then a list of blocks, one for each `q` and `j`.
-/
module

public import proofs.«01_k».proof.Proof.Gen.OpIdeal.Frame

@[expose] public section

set_option maxRecDepth 16384

noncomputable section

open Idealize.ShloMosaic Idealize.ShloMosaic.TcCoe Idealize.SL.Sem

namespace Cert.OpIdeal.Voc

open Cert.OpIdeal Cert.OpIdeal.Gen

variable {F : FTy → Type} [FloatOps F]

theorem inbT (q j : ℕ) : ∀ a, (![16 * (q % 32), 256 * (j % 8)] : Fin 2 → ℕ) a + S16x256.size a ≤ S512x2048.size a := fun a => by
  have := Nat.mod_lt q (show 0 < 32 by decide); have := Nat.mod_lt j (show 0 < 8 by decide)
  fin_cases a
  · show 16 * (q % 32) + 16 ≤ 512; omega
  · show 256 * (j % 8) + 256 ≤ 2048; omega

theorem inbR (q : ℕ) : ∀ a, (![16 * (q % 32), 0] : Fin 2 → ℕ) a + S16x2048.size a ≤ S512x2048.size a := fun a => by
  have := Nat.mod_lt q (show 0 < 32 by decide)
  fin_cases a
  · show 16 * (q % 32) + 16 ≤ 512; omega
  · show 0 + 2048 ≤ 2048; omega

theorem inbC (j : ℕ) : ∀ a, (![0, 256 * (j % 8)] : Fin 2 → ℕ) a + S512x256.size a ≤ S512x2048.size a := fun a => by
  have := Nat.mod_lt j (show 0 < 8 by decide)
  fin_cases a
  · show 0 + 512 ≤ 512; omega
  · show 256 * (j % 8) + 256 ≤ 2048; omega

theorem inbV (j : ℕ) : ∀ a, (![0, 256 * (j % 8)] : Fin 2 → ℕ) a + S2048x256.size a ≤ S2048x2048.size a := fun a => by
  have := Nat.mod_lt j (show 0 < 8 by decide)
  fin_cases a
  · show 0 + 2048 ≤ 2048; omega
  · show 256 * (j % 8) + 256 ≤ 2048; omega

/-- The block of row group `q` and column block `j`. -/
abbrev rT (q j : ℕ) : Rect S512x2048 := Rect.unit (s := S512x2048) ![16 * (q % 32), 256 * (j % 8)] S16x256.size (inbT q j)
/-- The rows of group `q`, all columns. -/
abbrev rR (q : ℕ) : Rect S512x2048 := Rect.unit (s := S512x2048) ![16 * (q % 32), 0] S16x2048.size (inbR q)
/-- Column block `j`, all rows. -/
abbrev rC (j : ℕ) : Rect S512x2048 := Rect.unit (s := S512x2048) ![0, 256 * (j % 8)] S512x256.size (inbC j)
/-- Columns `256 j` to `256 j + 255` of the weight. -/
abbrev rV (j : ℕ) : Rect S2048x2048 := Rect.unit (s := S2048x2048) ![0, 256 * (j % 8)] S2048x256.size (inbV j)

/-- What a point reads: the mixed value, column blocks of the weight, row groups of the residual, the scale, and blocks
    and row groups of the projected value given the column blocks stored before. -/
structure Ld (F : FTy → Type) where
  y : Vec F S512x2048 .bf16
  w : ℕ → Vec F S2048x256 .bf16
  x : ℕ → Vec F S16x2048 .f32
  g : Vec F S1x2048 .f32
  o0 : List (View.Piece (Elt F) S512x2048 .f32) → ℕ → ℕ → Vec F S16x256 .f32
  h0 : List (View.Piece (Elt F) S512x2048 .f32) → ℕ → Vec F S16x2048 .f32

variable (c : Ld F)

/-- A column block of the projected value. -/
def ov (j : ℕ) : FVec F S512x256 .f32 :=
  shapeCast S512x256 (matmul dot_S512x2048_S2048x256_S512x256_1_0_0_1_n_n none c.y (c.w j) (constant S512x256 .f32 0x00000000#32)) shapeCasts_S512x256_S512x256

/-- The first `n` of those blocks as stored, the last store first. -/
def ol (n : ℕ) : List (View.Piece (Elt F) S512x2048 .f32) :=
  Nat.rec [] (fun j L => ⟨rC j, ov c j⟩ :: L) n

/-- A block of the projected value, read back. -/
def ob (q j : ℕ) : FVec F S16x256 .f32 := c.o0 (ol c (j + 1)) q j

/-- The first `n` blocks of the projected value as stored, narrowed: column block by column block, in each the row groups. -/
def l4 (n : ℕ) : List (View.Piece (Elt F) S512x2048 .bf16) :=
  Nat.rec [] (fun k L => ⟨rT (k % 32) (k / 32), truncf .bf16 (ob c (k % 32) (k / 32)) bitsLt_bf16_f32⟩ :: L) n

/-- The squares summed over the first `n` column blocks, folded onto 128 columns. -/
def part (q n : ℕ) : FVec F S16x128 .f32 :=
  Nat.rec (broadcast S16x128 (Scalar.ofBits .f32 0x00000000#32))
    (fun j p => addf (addf p (extractStridedSlice S16x128 ![0, 0] (mulf (ob c q j) (ob c q j)) slices_S16x256_o0_0_S16x128))
      (extractStridedSlice S16x128 ![0, 128] (mulf (ob c q j) (ob c q j)) slices_S16x256_o0_128_S16x128)) n

/-- The reciprocal root of a row's mean square. -/
def rr (q : ℕ) : FVec F S16x1 .f32 :=
  rsqrt (addf (mulf (shapeCast S16x1 (multiReduction .add [1] S16 (part c q 8) 0x00000000#32 reduces_S16x128_S16 (.inl rfl) rfl) shapeCasts_S16_S16x1)
    (broadcast S16x1 (Scalar.ofBits .f32 0x3A000000#32))) (broadcast S16x1 (Scalar.ofBits .f32 0x358637BD#32)))

/-- A row group of the residual with the normalised value added. -/
def hv (q : ℕ) : FVec F S16x2048 .f32 :=
  addf (c.x q) (mulf (mulf (c.h0 (ol c 8) q) (broadcastTo S16x2048 (rr c q) broadcasts_S16x1_S16x2048))
    (broadcastTo S16x2048 (shapeCast S1x2048 c.g shapeCasts_S1x2048_S1x2048) broadcasts_S1x2048_S16x2048))

/-- The first `n` of those row groups as stored. -/
def l3 (n : ℕ) : List (View.Piece (Elt F) S512x2048 .f32) :=
  Nat.rec [] (fun q L => ⟨rR q, hv c q⟩ :: L) n

end Cert.OpIdeal.Voc

end
-- ==== Proof.OpFun.lean ====
/-
  The output projection of a block and its normalised residual, as functions of rows and columns over the extended reals.

  With `y` the mixed value, `w` the projection, `x` the residual and `g` the scale of the norm, these are the two results
  the kernel stores, in the kernel's own grouping of factors.
-/
module

public import Idealize.ShloMosaic.Lib.IdealHost
public import proofs.«01_k».proof.Proof.Sums

@[expose] public section

noncomputable section

open Idealize.ShloMosaic

namespace Cert.OpFun

/-- The arguments at a row and a column. -/
structure Arrs where
  y : ℕ → ℕ → EReal
  x : ℕ → ℕ → EReal
  w : ℕ → ℕ → EReal
  g : ℕ → EReal

variable (A : Arrs)

/-- The projected value. -/
def o (r k : ℕ) : EReal := ∑ l ∈ Finset.range 2048, A.y r l * A.w l k

/-- The mean square of a row, -/
def ms (r : ℕ) : EReal := (∑ k ∈ Finset.range 2048, o A r k * o A r k) * Ideal.ofBits .f32 0x3A000000#32

/-- and the residual with the normalised value added. -/
def h1 (r k : ℕ) : EReal := A.x r k + o A r k * Ideal.rsqrt (ms A r + Ideal.ofBits .f32 0x358637BD#32) * A.g k

end Cert.OpFun

end
-- ==== Proof.OpPoint.lean ====
/-
  What one grid point of the output projection stores, over the extended reals.

  If the loads of a point whose rows start at `b` read the arguments there (`Reads`), then each quantity of the point is
  the function of `OpFun` at the row `b + …` and the column it stands for.
-/
module

public import proofs.«01_k».proof.Proof.OpVoc
public import proofs.«01_k».proof.Proof.OpFun
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.OpIdeal.Voc

open Cert.OpIdeal Cert.OpIdeal.Gen Cert.OpFun

/-- The loads of a point whose rows start at `b` read the arguments `A`; a load of the buffer just written reads the
    function that all the blocks stored there restrict. -/
structure Reads (c : Ld Ideal) (A : Arrs) (b : ℕ) : Prop where
  y : ∀ x, c.y x = A.y (b + (x 0).val) (x 1).val
  w : ∀ j x, c.w j x = A.w (x 0).val (256 * (j % 8) + (x 1).val)
  x : ∀ q x, c.x q x = A.x (b + (16 * (q % 32) + (x 0).val)) (x 1).val
  g : ∀ x, c.g x = A.g (x 1).val
  o0 : ∀ (T : S512x2048.Idx → EReal) (L : List (View.Piece (Elt Ideal) S512x2048 .f32)),
    (∀ p ∈ L, ∀ x, p.2 x = T (p.1.emb x)) → ∀ q j x, (∃ p ∈ L, (rT q j).emb x ∈ p.1.set) → c.o0 L q j x = T ((rT q j).emb x)
  h0 : ∀ (T : S512x2048.Idx → EReal) (L : List (View.Piece (Elt Ideal) S512x2048 .f32)),
    (∀ p ∈ L, ∀ x, p.2 x = T (p.1.emb x)) → ∀ q x, (∃ p ∈ L, (rR q).emb x ∈ p.1.set) → c.h0 L q x = T ((rR q).emb x)

variable {c : Ld Ideal} {A : Arrs} {b : ℕ} (h : Reads c A b)
include h

theorem ov_apply (j : ℕ) (x : S512x256.Idx) : ov c j x = OpFun.o A (b + (x 0).val) (256 * (j % 8) + (x 1).val) := by
  pointwise [ov]
  unfold OpFun.o
  rw [Finset.sum_range]
  simp only [h.y, h.w]
  rfl

/-- The projected value over a point's block. -/
def oF (A : Arrs) (b : ℕ) (y : S512x2048.Idx) : EReal := OpFun.o A (b + (y 0).val) (y 1).val

theorem ol_pieces (n : ℕ) : ∀ p ∈ ol c n, ∀ x, p.2 x = oF A b (p.1.emb x) := by
  induction n with
  | zero => intro p hp; exact absurd hp List.not_mem_nil
  | succ j ih =>
    intro p hp x
    rcases List.mem_cons.mp hp with rfl | hp
    · refine (ov_apply h j x).trans ?_
      show _ = OpFun.o A (b + (0 + 1 * (x 0).val)) (256 * (j % 8) + 1 * (x 1).val)
      rw [Nat.one_mul, Nat.one_mul, Nat.zero_add]
    · exact ih p hp x

omit h in
theorem ol_mem (n j : ℕ) (hj : j < n) : (⟨rC j, ov c j⟩ : View.Piece (Elt Ideal) S512x2048 .f32) ∈ ol c n := by
  induction n with
  | zero => omega
  | succ n ih =>
    rcases Nat.lt_or_ge j n with hj' | hj'
    · exact List.mem_cons_of_mem _ (ih hj')
    · obtain rfl : j = n := by omega
      exact List.mem_cons_self

omit h in
theorem ol_cover (y : S512x2048.Idx) : ∃ p ∈ ol c 8, y ∈ p.1.set := by
  have h1 : (y 1).val < 2048 := (y 1).isLt
  refine ⟨_, ol_mem (c := c) 8 ((y 1).val / 256) (by omega), (LoadRect.mem_set _).mpr fun a => ?_⟩
  match a with
  | ⟨0, _⟩ => exact ⟨(y 0).val, (y 0).isLt, by show (y 0).val = 0 + 1 * (y 0).val; omega⟩
  | ⟨1, _⟩ =>
    refine ⟨(y 1).val % 256, Nat.mod_lt _ (by decide), ?_⟩
    show (y 1).val = 256 * ((y 1).val / 256 % 8) + 1 * ((y 1).val % 256)
    omega

theorem ob_apply (q j : ℕ) (x : S16x256.Idx) :
    ob c q j x = OpFun.o A (b + (16 * (q % 32) + (x 0).val)) (256 * (j % 8) + (x 1).val) := by
  have h0 : (x 0).val < 16 := (x 0).isLt
  have h1 : (x 1).val < 256 := (x 1).isLt
  have hq := Nat.mod_lt q (show 0 < 32 by decide)
  show c.o0 (ol c (j + 1)) q j x = _
  rw [h.o0 (oF A b) _ (ol_pieces h (j + 1)) q j x ⟨_, List.mem_cons_self, ?_⟩]
  · show OpFun.o A (b + (16 * (q % 32) + 1 * (x 0).val)) (256 * (j % 8) + 1 * (x 1).val) = _
    rw [Nat.one_mul, Nat.one_mul]
  · refine (LoadRect.mem_set _).mpr fun a => ?_
    match a with
    | ⟨0, _⟩ => exact ⟨16 * (q % 32) + (x 0).val, by show _ < 512; omega, by show 16 * (q % 32) + 1 * (x 0).val = 0 + 1 * _; omega⟩
    | ⟨1, _⟩ => exact ⟨(x 1).val, h1, rfl⟩

theorem l4_pieces (n : ℕ) : ∀ p ∈ l4 c n, ∀ x, p.2 x = oF A b (p.1.emb x) := by
  induction n with
  | zero => intro p hp; exact absurd hp List.not_mem_nil
  | succ k ih =>
    intro p hp x
    rcases List.mem_cons.mp hp with rfl | hp
    · refine (ob_apply h (k % 32) (k / 32) x).trans ?_
      show _ = OpFun.o A (b + (16 * (k % 32 % 32) + 1 * (x 0).val)) (256 * (k / 32 % 8) + 1 * (x 1).val)
      rw [Nat.one_mul, Nat.one_mul]
    · exact ih p hp x

omit h in
theorem l4_mem (n k : ℕ) (hk : k < n) : (⟨rT (k % 32) (k / 32), truncf .bf16 (ob c (k % 32) (k / 32)) bitsLt_bf16_f32⟩ : View.Piece (Elt Ideal) S512x2048 .bf16) ∈ l4 c n := by
  induction n with
  | zero => omega
  | succ n ih =>
    rcases Nat.lt_or_ge k n with hk' | hk'
    · exact List.mem_cons_of_mem _ (ih hk')
    · obtain rfl : k = n := by omega
      exact List.mem_cons_self

omit h in
theorem l4_cover (y : S512x2048.Idx) : ∃ p ∈ l4 c 256, y ∈ p.1.set := by
  have h0 : (y 0).val < 512 := (y 0).isLt
  have h1 : (y 1).val < 2048 := (y 1).isLt
  refine ⟨_, l4_mem (c := c) 256 (32 * ((y 1).val / 256) + (y 0).val / 16) (by omega), (LoadRect.mem_set _).mpr fun a => ?_⟩
  match a with
  | ⟨0, _⟩ =>
    refine ⟨(y 0).val % 16, Nat.mod_lt _ (by decide), ?_⟩
    show (y 0).val = 16 * ((32 * ((y 1).val / 256) + (y 0).val / 16) % 32 % 32) + 1 * ((y 0).val % 16)
    omega
  | ⟨1, _⟩ =>
    refine ⟨(y 1).val % 256, Nat.mod_lt _ (by decide), ?_⟩
    show (y 1).val = 256 * ((32 * ((y 1).val / 256) + (y 0).val / 16) / 32 % 8) + 1 * ((y 1).val % 256)
    omega

/-- The stored projected values read back, whatever the buffer. -/
theorem l4_read {sig' : RefSig} {κ : Kind} {sp : Space} (v : View sig' κ sp S512x2048 .bf16) (f : v.ty.Contents (Elt Ideal)) (y : S512x2048.Idx) :
    v.read (Elt Ideal) (v.writes (Elt Ideal) f (l4 c 256)) y = oF A b y :=
  View.read_writes_apply_of_pieces v f _ (l4 c 256) (l4_pieces h 256) y (l4_cover y)

theorem part_apply (q n : ℕ) (hn : n ≤ 8) (x : S16x128.Idx) :
    part c q n x = ∑ j ∈ Finset.range n,
      (OpFun.o A (b + (16 * (q % 32) + (x 0).val)) (256 * j + (x 1).val) * OpFun.o A (b + (16 * (q % 32) + (x 0).val)) (256 * j + (x 1).val)
      + OpFun.o A (b + (16 * (q % 32) + (x 0).val)) (256 * j + (128 + (x 1).val)) * OpFun.o A (b + (16 * (q % 32) + (x 0).val)) (256 * j + (128 + (x 1).val))) := by
  induction n with
  | zero => exact Ideal.ofBits_zero_f32
  | succ j ih =>
    rw [Finset.sum_range_succ, ← ih (by omega), ← add_assoc]
    have e : j % 8 = j := Nat.mod_eq_of_lt (by omega)
    show addf (addf (part c q j) (extractStridedSlice S16x128 ![0, 0] (mulf (ob c q j) (ob c q j)) slices_S16x256_o0_0_S16x128))
      (extractStridedSlice S16x128 ![0, 128] (mulf (ob c q j) (ob c q j)) slices_S16x256_o0_128_S16x128) x = _
    pointwise []
    rw [ob_apply h, ob_apply h, e]
    rfl

theorem rr_apply (q : ℕ) (x : S16x1.Idx) :
    rr c q x = Ideal.rsqrt (OpFun.ms A (b + (16 * (q % 32) + (x 0).val)) + Ideal.ofBits .f32 0x358637BD#32) := by
  pointwise [rr]
  unfold OpFun.ms
  refine congrArg Ideal.rsqrt (congrArg (· + _) (congrArg (· * _) ?_))
  rw [show (2048 : ℕ) = 8 * 256 from rfl, ← Sums.range_lanes 128 256 rfl (fun k => OpFun.o A (b + (16 * (q % 32) + (x 0).val)) k * OpFun.o A (b + (16 * (q % 32) + (x 0).val)) k) 8, Finset.sum_range]
  refine Finset.sum_congr rfl fun l _ => ?_
  rw [part_apply h q 8 le_rfl]
  rfl

theorem hv_apply (q : ℕ) (x : S16x2048.Idx) : hv c q x = OpFun.h1 A (b + (16 * (q % 32) + (x 0).val)) (x 1).val := by
  pointwise [hv]
  rw [rr_apply h, h.x, h.g, h.h0 (oF A b) _ (ol_pieces h 8) q x (ol_cover _)]
  have e : oF A b ((rR q).emb x) = OpFun.o A (b + (16 * (q % 32) + (x 0).val)) (x 1).val := by
    show OpFun.o A (b + (16 * (q % 32) + 1 * (x 0).val)) (0 + 1 * (x 1).val) = _
    rw [Nat.one_mul, Nat.one_mul, Nat.zero_add]
  rw [e]
  rfl

/-- The residual over a point's block. -/
def hF (A : Arrs) (b : ℕ) (y : S512x2048.Idx) : EReal := OpFun.h1 A (b + (y 0).val) (y 1).val

theorem l3_pieces (n : ℕ) : ∀ p ∈ l3 c n, ∀ x, p.2 x = hF A b (p.1.emb x) := by
  induction n with
  | zero => intro p hp; exact absurd hp List.not_mem_nil
  | succ q ih =>
    intro p hp x
    rcases List.mem_cons.mp hp with rfl | hp
    · refine (hv_apply h q x).trans ?_
      show _ = OpFun.h1 A (b + (16 * (q % 32) + 1 * (x 0).val)) (0 + 1 * (x 1).val)
      rw [Nat.one_mul, Nat.one_mul, Nat.zero_add]
    · exact ih p hp x

omit h in
theorem l3_mem (n q : ℕ) (hq : q < n) : (⟨rR q, hv c q⟩ : View.Piece (Elt Ideal) S512x2048 .f32) ∈ l3 c n := by
  induction n with
  | zero => omega
  | succ n ih =>
    rcases Nat.lt_or_ge q n with hq' | hq'
    · exact List.mem_cons_of_mem _ (ih hq')
    · obtain rfl : q = n := by omega
      exact List.mem_cons_self

omit h in
theorem l3_cover (y : S512x2048.Idx) : ∃ p ∈ l3 c 32, y ∈ p.1.set := by
  have h0 : (y 0).val < 512 := (y 0).isLt
  refine ⟨_, l3_mem (c := c) 32 ((y 0).val / 16) (by omega), (LoadRect.mem_set _).mpr fun a => ?_⟩
  match a with
  | ⟨0, _⟩ =>
    refine ⟨(y 0).val % 16, Nat.mod_lt _ (by decide), ?_⟩
    show (y 0).val = 16 * ((y 0).val / 16 % 32) + 1 * ((y 0).val % 16)
    omega
  | ⟨1, _⟩ => exact ⟨(y 1).val, (y 1).isLt, by show (y 1).val = 0 + 1 * (y 1).val; omega⟩

/-- The stored residuals read back, whatever the buffer. -/
theorem l3_read {sig' : RefSig} {κ : Kind} {sp : Space} (v : View sig' κ sp S512x2048 .f32) (f : v.ty.Contents (Elt Ideal)) (y : S512x2048.Idx) :
    v.read (Elt Ideal) (v.writes (Elt Ideal) f (l3 c 32)) y = hF A b y :=
  View.read_writes_apply_of_pieces v f _ (l3 c 32) (l3_pieces h 32) y (l3_cover y)

end Cert.OpIdeal.Voc

end
-- ==== Proof.OpBridge.lean ====
/-
  What a grid point of the output projection stores: the generated store lists are the lists of `OpVoc`, so that each
  result's block holds the function of `OpFun`.

  The launch has two kinds of points. The first copies the weight in; the others find it in scratch.
-/
module

public import proofs.«01_k».proof.Proof.OpPoint
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.OpIdeal.Voc

open Cert.OpIdeal Cert.OpIdeal.Gen Cert.OpFun

/-- The whole of a block and of a row. -/
abbrev rB : Rect S512x2048 := Rect.unit (s := S512x2048) ![0, 0] S512x2048.size inb_S512x2048_S512x2048_0_0
abbrev r1 : Rect S1x2048 := Rect.unit (s := S1x2048) ![0, 0] S1x2048.size inb_S1x2048_S1x2048_0_0

section Loads
variable {F : FTy → Type} [FloatOps F]

/-- The loads of a point that holds the arguments' blocks and finds the weight's columns `w`. -/
def ldOf (arg1 : Memref sig .tc .vmem S512x2048 .bf16) (harg1 : arg1.IsWhole) (arg2 : Memref sig .tc .vmem S512x2048 .f32) (harg2 : arg2.IsWhole)
    (arg4 : Memref sig .tc .vmem S1x2048 .f32) (harg4 : arg4.IsWhole) (arg8 : Memref sig .tc .vmem S512x2048 .f32)
    (x0 : Vec F S512x2048 .bf16) (x1 : Vec F S512x2048 .f32) (x2 : Vec F S1x2048 .f32) (w : ℕ → Vec F S2048x256 .bf16) : Ld F where
  y := View.readAt (Elt F) arg1.view rB.toLoadRect (harg1.unread x0)
  w := w
  x q := View.readAt (Elt F) arg2.view (rR q).toLoadRect (harg2.unread x1)
  g := View.readAt (Elt F) arg4.view r1.toLoadRect (harg4.unread x2)
  o0 L q j := arg8.view.readCov L (rT q j).toLoadRect
  h0 L q := arg8.view.readCov L (rR q).toLoadRect

end Loads

/-- The blocks a point is handed are the rows of the arguments that start at `b`. -/
structure Blk (A : Arrs) (b : ℕ) (x0 : Vec Ideal S512x2048 .bf16) (x1 : Vec Ideal S512x2048 .f32) (x2 : Vec Ideal S1x2048 .f32) : Prop where
  h0 : ∀ y, x0 y = A.y (b + (y 0).val) (y 1).val
  h1 : ∀ y, x1 y = A.x (b + (y 0).val) (y 1).val
  h2 : ∀ y, x2 y = A.g (y 1).val

theorem reads_of {A : Arrs} {b : ℕ} (arg1 : Memref sig .tc .vmem S512x2048 .bf16) (harg1 : arg1.IsWhole) (arg2 : Memref sig .tc .vmem S512x2048 .f32) (harg2 : arg2.IsWhole)
    (arg4 : Memref sig .tc .vmem S1x2048 .f32) (harg4 : arg4.IsWhole) (arg8 : Memref sig .tc .vmem S512x2048 .f32)
    {x0 : Vec Ideal S512x2048 .bf16} {x1 : Vec Ideal S512x2048 .f32} {x2 : Vec Ideal S1x2048 .f32} (hb : Blk A b x0 x1 x2)
    (w : ℕ → Vec Ideal S2048x256 .bf16) (hw : ∀ j x, w j x = A.w (x 0).val (256 * (j % 8) + (x 1).val)) :
    Reads (ldOf arg1 harg1 arg2 harg2 arg4 harg4 arg8 x0 x1 x2 w) A b where
  y x := by
    show View.readAt (Elt Ideal) arg1.view rB.toLoadRect (harg1.unread x0) x = _
    rw [Memref.IsWhole.readAt_unread, hb.h0]
    show A.y (b + (0 + 1 * (x 0).val)) (0 + 1 * (x 1).val) = _
    rw [Nat.one_mul, Nat.one_mul, Nat.zero_add, Nat.zero_add]
  w := hw
  x q x := by
    show View.readAt (Elt Ideal) arg2.view (rR q).toLoadRect (harg2.unread x1) x = _
    rw [Memref.IsWhole.readAt_unread, hb.h1]
    show A.x (b + (16 * (q % 32) + 1 * (x 0).val)) (0 + 1 * (x 1).val) = _
    rw [Nat.one_mul, Nat.one_mul, Nat.zero_add]
  g x := by
    show View.readAt (Elt Ideal) arg4.view r1.toLoadRect (harg4.unread x2) x = _
    rw [Memref.IsWhole.readAt_unread, hb.h2]
    show A.g (0 + 1 * (x 1).val) = _
    rw [Nat.one_mul, Nat.zero_add]
  o0 T L hL q j x hx := View.read_writes_apply_of_pieces (Val := Elt Ideal) arg8.view (arg8.view.junk (Val := Elt Ideal)) T L hL ((rT q j).emb x) hx
  h0 T L hL q x hx := View.read_writes_apply_of_pieces (Val := Elt Ideal) arg8.view (arg8.view.junk (Val := Elt Ideal)) T L hL ((rR q).emb x) hx

/-! ## The first point -/

section CaseA

section Lists
variable {F : FTy → Type} [FloatOps F]

variable {c : Dev nD} {i : grid0.Coords} {arg1 : Memref sig .tc .vmem S512x2048 .bf16} {harg1 : arg1.IsWhole} {arg2 : Memref sig .tc .vmem S512x2048 .f32} {harg2 : arg2.IsWhole} {arg4 : Memref sig .tc .vmem S1x2048 .f32} {harg4 : arg4.IsWhole} {arg5 : Memref sig .tc .vmem S512x2048 .f32} {harg5 : arg5.IsWhole} {arg6 : Memref sig .tc .vmem S512x2048 .bf16} {harg6 : arg6.IsWhole} {arg7 : Memref sig .tc .vmem S2048x2048 .bf16} {harg7 : arg7.IsWhole} {arg8 : Memref sig .tc .vmem S512x2048 .f32} {harg8 : arg8.IsWhole} {hc0 : cond0_0 i}
    {x0 : Vec F S512x2048 .bf16} {x1 : Vec F S512x2048 .f32} {x2 : Vec F S1x2048 .f32} {fh0 : HbBuf0 (F := F) c hbM0_0}

theorem l3_A : (kernelRun0_A c i arg1 harg1 arg2 harg2 arg4 harg4 arg5 harg5 arg6 harg6 arg7 harg7 arg8 harg8 hc0 x0 x1 x2 fh0).1 = l3 (ldOf (F := F) arg1 harg1 arg2 harg2 arg4 harg4 arg8 x0 x1 x2 (fun j => arg7.view.readCov [⟨Rect.whole S2048x2048, ReadAs.same.apply (View.read (Elt F) (Memref.whole main_arg2).view fh0)⟩] (rV j).toLoadRect)) 32 := by sl_kernel_rfl

theorem l4_A : (kernelRun0_A c i arg1 harg1 arg2 harg2 arg4 harg4 arg5 harg5 arg6 harg6 arg7 harg7 arg8 harg8 hc0 x0 x1 x2 fh0).2.1 = l4 (ldOf (F := F) arg1 harg1 arg2 harg2 arg4 harg4 arg8 x0 x1 x2 (fun j => arg7.view.readCov [⟨Rect.whole S2048x2048, ReadAs.same.apply (View.read (Elt F) (Memref.whole main_arg2).view fh0)⟩] (rV j).toLoadRect)) 256 := by sl_kernel_rfl

theorem ls0_A : (kernelRun0_A c i arg1 harg1 arg2 harg2 arg4 harg4 arg5 harg5 arg6 harg6 arg7 harg7 arg8 harg8 hc0 x0 x1 x2 fh0).2.2.1 = [⟨Rect.whole S2048x2048, ReadAs.same.apply (View.read (Elt F) (Memref.whole main_arg2).view fh0)⟩] := by sl_kernel_rfl

end Lists

variable {c : Dev nD} {i : grid0.Coords} {arg1 : Memref sig .tc .vmem S512x2048 .bf16} {harg1 : arg1.IsWhole} {arg2 : Memref sig .tc .vmem S512x2048 .f32} {harg2 : arg2.IsWhole} {arg4 : Memref sig .tc .vmem S1x2048 .f32} {harg4 : arg4.IsWhole} {arg5 : Memref sig .tc .vmem S512x2048 .f32} {harg5 : arg5.IsWhole} {arg6 : Memref sig .tc .vmem S512x2048 .bf16} {harg6 : arg6.IsWhole} {arg7 : Memref sig .tc .vmem S2048x2048 .bf16} {harg7 : arg7.IsWhole} {arg8 : Memref sig .tc .vmem S512x2048 .f32} {harg8 : arg8.IsWhole} {hc0 : cond0_0 i}
    {x0 : Vec Ideal S512x2048 .bf16} {x1 : Vec Ideal S512x2048 .f32} {x2 : Vec Ideal S1x2048 .f32} {fh0 : HbBuf0 (F := Ideal) c hbM0_0}
  {A : Arrs} {b : ℕ} (hb : Blk A b x0 x1 x2)
  (hw : ∀ y, View.read (Elt Ideal) (Memref.whole main_arg2).view fh0 y = A.w (y 0).val (y 1).val)

include hb hw in
theorem reads_A : Reads (ldOf (F := Ideal) arg1 harg1 arg2 harg2 arg4 harg4 arg8 x0 x1 x2 (fun j => arg7.view.readCov [⟨Rect.whole S2048x2048, ReadAs.same.apply (View.read (Elt Ideal) (Memref.whole main_arg2).view fh0)⟩] (rV j).toLoadRect)) A b :=
  reads_of arg1 harg1 arg2 harg2 arg4 harg4 arg8 hb _ (fun j x => by
    show View.read (Elt Ideal) arg7.view (arg7.view.writes (Elt Ideal) _ [⟨Rect.whole S2048x2048, _⟩]) _ = _
    rw [View.read_writes_whole]
    refine (hw _).trans ?_
    show A.w (0 + 1 * (x 0).val) (256 * (j % 8) + 1 * (x 1).val) = _
    rw [Nat.one_mul, Nat.one_mul, Nat.zero_add])

include hb hw in
/-- The block of the residual. -/
theorem out3_A (y : S512x2048.Idx) : out0_A_3 (F := Ideal) c i arg1 harg1 arg2 harg2 arg4 harg4 arg5 harg5 arg6 harg6 arg7 harg7 arg8 harg8 hc0 x0 x1 x2 fh0 y = OpFun.h1 A (b + (y 0).val) (y 1).val := by
  unfold out0_A_3
  rw [l3_A]
  exact l3_read (reads_A hb hw) _ _ y

include hb hw in
/-- The block of the projected value. -/
theorem out4_A (y : S512x2048.Idx) : out0_A_4 (F := Ideal) c i arg1 harg1 arg2 harg2 arg4 harg4 arg5 harg5 arg6 harg6 arg7 harg7 arg8 harg8 hc0 x0 x1 x2 fh0 y = OpFun.o A (b + (y 0).val) (y 1).val := by
  unfold out0_A_4
  rw [l4_A]
  exact l4_read (reads_A hb hw) _ _ y

/-- The weight is copied whole. -/
theorem sout0_A : sout0_A_0 (F := Ideal) c i arg1 harg1 arg2 harg2 arg4 harg4 arg5 harg5 arg6 harg6 arg7 harg7 arg8 harg8 hc0 x0 x1 x2 fh0 = View.read (Elt Ideal) (Memref.whole main_arg2).view fh0 := by
  unfold sout0_A_0
  rw [ls0_A, View.read_writes_whole]

end CaseA

/-! ## The other points -/

section CaseB

section Lists
variable {F : FTy → Type} [FloatOps F]

variable {c : Dev nD} {i : grid0.Coords} {arg1 : Memref sig .tc .vmem S512x2048 .bf16} {harg1 : arg1.IsWhole} {arg2 : Memref sig .tc .vmem S512x2048 .f32} {harg2 : arg2.IsWhole} {arg4 : Memref sig .tc .vmem S1x2048 .f32} {harg4 : arg4.IsWhole} {arg5 : Memref sig .tc .vmem S512x2048 .f32} {harg5 : arg5.IsWhole} {arg6 : Memref sig .tc .vmem S512x2048 .bf16} {harg6 : arg6.IsWhole} {arg7 : Memref sig .tc .vmem S2048x2048 .bf16} {harg7 : arg7.IsWhole} {arg8 : Memref sig .tc .vmem S512x2048 .f32} {harg8 : arg8.IsWhole} {hc0 : ¬cond0_0 i}
    {x0 : Vec F S512x2048 .bf16} {x1 : Vec F S512x2048 .f32} {x2 : Vec F S1x2048 .f32} {xs0 : Vec F S2048x2048 .bf16} {fh0 : HbBuf0 (F := F) c hbM0_0}

theorem l3_B : (kernelRun0_B c i arg1 harg1 arg2 harg2 arg4 harg4 arg5 harg5 arg6 harg6 arg7 harg7 arg8 harg8 hc0 x0 x1 x2 xs0 fh0).1 = l3 (ldOf (F := F) arg1 harg1 arg2 harg2 arg4 harg4 arg8 x0 x1 x2 (fun j => View.readAt (Elt F) arg7.view (rV j).toLoadRect (harg7.unread xs0))) 32 := by sl_kernel_rfl

theorem l4_B : (kernelRun0_B c i arg1 harg1 arg2 harg2 arg4 harg4 arg5 harg5 arg6 harg6 arg7 harg7 arg8 harg8 hc0 x0 x1 x2 xs0 fh0).2.1 = l4 (ldOf (F := F) arg1 harg1 arg2 harg2 arg4 harg4 arg8 x0 x1 x2 (fun j => View.readAt (Elt F) arg7.view (rV j).toLoadRect (harg7.unread xs0))) 256 := by sl_kernel_rfl

end Lists

variable {c : Dev nD} {i : grid0.Coords} {arg1 : Memref sig .tc .vmem S512x2048 .bf16} {harg1 : arg1.IsWhole} {arg2 : Memref sig .tc .vmem S512x2048 .f32} {harg2 : arg2.IsWhole} {arg4 : Memref sig .tc .vmem S1x2048 .f32} {harg4 : arg4.IsWhole} {arg5 : Memref sig .tc .vmem S512x2048 .f32} {harg5 : arg5.IsWhole} {arg6 : Memref sig .tc .vmem S512x2048 .bf16} {harg6 : arg6.IsWhole} {arg7 : Memref sig .tc .vmem S2048x2048 .bf16} {harg7 : arg7.IsWhole} {arg8 : Memref sig .tc .vmem S512x2048 .f32} {harg8 : arg8.IsWhole} {hc0 : ¬cond0_0 i}
    {x0 : Vec Ideal S512x2048 .bf16} {x1 : Vec Ideal S512x2048 .f32} {x2 : Vec Ideal S1x2048 .f32} {xs0 : Vec Ideal S2048x2048 .bf16} {fh0 : HbBuf0 (F := Ideal) c hbM0_0}
  {A : Arrs} {b : ℕ} (hb : Blk A b x0 x1 x2)
  (hw : ∀ y, xs0 y = A.w (y 0).val (y 1).val)

include hb hw in
theorem reads_B : Reads (ldOf (F := Ideal) arg1 harg1 arg2 harg2 arg4 harg4 arg8 x0 x1 x2 (fun j => View.readAt (Elt Ideal) arg7.view (rV j).toLoadRect (harg7.unread xs0))) A b :=
  reads_of arg1 harg1 arg2 harg2 arg4 harg4 arg8 hb _ (fun j x => by
    show View.readAt (Elt Ideal) arg7.view (rV j).toLoadRect (harg7.unread xs0) x = _
    rw [Memref.IsWhole.readAt_unread, hw]
    show A.w (0 + 1 * (x 0).val) (256 * (j % 8) + 1 * (x 1).val) = _
    rw [Nat.one_mul, Nat.one_mul, Nat.zero_add])

include hb hw in
/-- The block of the residual. -/
theorem out3_B (y : S512x2048.Idx) : out0_B_3 (F := Ideal) c i arg1 harg1 arg2 harg2 arg4 harg4 arg5 harg5 arg6 harg6 arg7 harg7 arg8 harg8 hc0 x0 x1 x2 xs0 fh0 y = OpFun.h1 A (b + (y 0).val) (y 1).val := by
  unfold out0_B_3
  rw [l3_B]
  exact l3_read (reads_B hb hw) _ _ y

include hb hw in
/-- The block of the projected value. -/
theorem out4_B (y : S512x2048.Idx) : out0_B_4 (F := Ideal) c i arg1 harg1 arg2 harg2 arg4 harg4 arg5 harg5 arg6 harg6 arg7 harg7 arg8 harg8 hc0 x0 x1 x2 xs0 fh0 y = OpFun.o A (b + (y 0).val) (y 1).val := by
  unfold out0_B_4
  rw [l4_B]
  exact l4_read (reads_B hb hw) _ _ y

end CaseB

end Cert.OpIdeal.Voc

end
-- ==== Proof.OpValue.lean ====
/-
  What the output projection leaves in its two results, over the extended reals.

  The launch has 16 points, one per 512 rows. Every point finds the weight in its scratch, copied by the first point.
-/
module

public import proofs.«01_k».proof.Proof.OpBridge
public import proofs.«01_k».proof.Proof.Gen.OpIdeal.Value
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.OpIdeal.Voc

open Cert.OpIdeal Cert.OpIdeal.Gen Cert.OpFun

/-- The index `(r, q)` of an `[8192, 2048]` array, for any natural numbers (reduced into range). -/
abbrev ixA (r q : ℕ) : S8192x2048.Idx := fun a => match a with
  | ⟨0, _⟩ => Fin.ofNat 8192 r
  | ⟨1, _⟩ => Fin.ofNat 2048 q

/-- The index `(r, q)` of the weight. -/
abbrev ixW (r q : ℕ) : S2048x2048.Idx := fun a => match a with
  | ⟨0, _⟩ => Fin.ofNat 2048 r
  | ⟨1, _⟩ => Fin.ofNat 2048 q

/-- The index `q` of a row. -/
abbrev ixG (q : ℕ) : S1x2048.Idx := fun a => match a with
  | ⟨0, _⟩ => (0 : Fin 1)
  | ⟨1, _⟩ => Fin.ofNat 2048 q

variable (m : (ℓ : Loc nD τ sig) → Buf (Elt Ideal) ℓ) (c : Dev nD)

/-- What the launch reads, at a row and a column: three arguments, and the scale as the host leaves it. -/
def arrs : Arrs where
  y r k := (m ((c : Thread nD τ).loc main_arg0) : S8192x2048.Idx → EReal) (ixA r k)
  x r k := (m ((c : Thread nD τ).loc main_arg1) : S8192x2048.Idx → EReal) (ixA r k)
  w r k := (m ((c : Thread nD τ).loc main_arg2) : S2048x2048.Idx → EReal) (ixW r k)
  g k := (V m c main_v0 : S1x2048.Idx → EReal) (ixG k)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

theorem hN16 : cfg0.N = 16 := N_0

/-- Point `t` reads the rows from `512 t` on. -/
theorem blk_of (t : Fin cfg0.N) : Blk (arrs m c) (512 * t.val) (iblk m c 0 t) (iblk m c 1 t) (iblk m c 2 t) := by
  have hN := lt_of_lt_of_eq t.isLt hN16
  constructor
  · intro y
    have h0 : (y 0).val < 512 := (y 0).isLt
    have h1 : (y 1).val < 2048 := (y 1).isLt
    unfold iblk
    rw [View.read_apply]
    show V m c main_arg0 _ = m ((c : Thread nD τ).loc main_arg0) _
    rw [V_main_arg0]
    congr 1
    funext a
    apply Fin.ext
    match a with
    | ⟨0, _⟩ => show win0_0.index t 0 * 512 + 1 * (y 0).val = (512 * t.val + (y 0).val) % 8192; rw [(idx0 t).1]; omega
    | ⟨1, _⟩ => show win0_0.index t 1 * 2048 + 1 * (y 1).val = (y 1).val % 2048; rw [(idx0 t).2]; omega
  · intro y
    have h0 : (y 0).val < 512 := (y 0).isLt
    have h1 : (y 1).val < 2048 := (y 1).isLt
    unfold iblk
    rw [View.read_apply]
    show V m c main_arg1 _ = m ((c : Thread nD τ).loc main_arg1) _
    rw [V_main_arg1]
    congr 1
    funext a
    apply Fin.ext
    match a with
    | ⟨0, _⟩ => show win0_1.index t 0 * 512 + 1 * (y 0).val = (512 * t.val + (y 0).val) % 8192; rw [(idx1 t).1]; omega
    | ⟨1, _⟩ => show win0_1.index t 1 * 2048 + 1 * (y 1).val = (y 1).val % 2048; rw [(idx1 t).2]; omega
  · intro y
    have h0 : (y 0).val < 1 := (y 0).isLt
    have h1 : (y 1).val < 2048 := (y 1).isLt
    unfold iblk
    rw [View.read_apply]
    show V m c main_v0 _ = V m c main_v0 _
    congr 1
    funext a
    apply Fin.ext
    match a with
    | ⟨0, _⟩ => show win0_2.index t 0 * 1 + 1 * (y 0).val = 0; rw [(idx2 t).1]; omega
    | ⟨1, _⟩ => show win0_2.index t 1 * 2048 + 1 * (y 1).val = (y 1).val % 2048; rw [(idx2 t).2]; omega

theorem w_of (y : S2048x2048.Idx) : View.read (Elt Ideal) (Memref.whole main_arg2).view (V m c main_arg2) y = (arrs m c).w (y 0).val (y 1).val := by
  have h0 : (y 0).val < 2048 := (y 0).isLt
  have h1 : (y 1).val < 2048 := (y 1).isLt
  rw [V_main_arg2]
  show m ((c : Thread nD τ).loc main_arg2) _ = m ((c : Thread nD τ).loc main_arg2) _
  congr 1
  funext a
  apply Fin.ext
  match a with
  | ⟨0, _⟩ => show (y 0).val = (y 0).val % 2048; omega
  | ⟨1, _⟩ => show (y 1).val = (y 1).val % 2048; omega

/-- What the launch holds after point `n`: the two blocks the point stored, and the weight. -/
structure State (n : ℕ) (hn : n < cfg0.N) : Prop where
  o3 : ∀ y, (outsAt0 m c n hn).1 y = OpFun.h1 (arrs m c) (512 * n + (y 0).val) (y 1).val
  o4 : ∀ y, (outsAt0 m c n hn).2.1 y = OpFun.o (arrs m c) (512 * n + (y 0).val) (y 1).val
  s0 : ∀ y, (outsAt0 m c n hn).2.2 y = (arrs m c).w (y 0).val (y 1).val

theorem state (n : ℕ) (hn : n < cfg0.N) : State m c n hn := by
  have hn' : n < 16 := lt_of_lt_of_eq hn hN16
  induction n with
  | zero =>
    have e := outsAt0_A m c ⟨0, hn⟩ rfl
    have hb := blk_of m c ⟨0, hn⟩
    dsimp only at e
    constructor
    · intro y; rw [e]; dsimp only; exact out3_A hb (w_of m c) y
    · intro y; rw [e]; dsimp only; exact out4_A hb (w_of m c) y
    · intro y; rw [e]; dsimp only; exact (congrFun sout0_A y).trans (w_of m c y)
  | succ n ih =>
    have hp := ih (by omega) (by omega)
    have hb := blk_of m c ⟨n + 1, hn⟩
    have e := outsAt0_B m c ⟨n + 1, hn⟩ (by show ¬(n + 1) % 16 = 0; omega)
    dsimp only at e
    constructor
    · intro y; rw [e]; dsimp only; exact out3_B hb hp.s0 y
    · intro y; rw [e]; dsimp only; exact out4_B hb hp.s0 y
    · intro y; rw [e]; dsimp only; exact hp.s0 y

/-! ## The two results -/

/-- The residual with the normalised value added. -/
theorem arr3 : (dats m 0 c).arrAt 3 cfg0.N = fun i : S8192x2048.Idx => OpFun.h1 (arrs m c) (i 0).val (i 1).val := by
  refine (dats m 0 c).arrAt_eq_of_covers 3 _ (by decide +kernel) fun t hf y => ?_
  blk_simp
  rw [after0_3]
  refine ((state m c t.val t.isLt).o3 _).trans ?_
  exact congrArg₂ (OpFun.h1 (arrs m c)) (by rw [(idx3 t).1, Nat.mul_comm]) (by rw [(idx3 t).2, Nat.zero_mul, Nat.zero_add])

/-- The projected value. -/
theorem arr4 : (dats m 0 c).arrAt 4 cfg0.N = fun i : S8192x2048.Idx => OpFun.o (arrs m c) (i 0).val (i 1).val := by
  refine (dats m 0 c).arrAt_eq_of_covers 4 _ (by decide +kernel) fun t hf y => ?_
  blk_simp
  rw [after0_4]
  refine ((state m c t.val t.isLt).o4 _).trans ?_
  exact congrArg₂ (OpFun.o (arrs m c)) (by rw [(idx4 t).1, Nat.mul_comm]) (by rw [(idx4 t).2, Nat.zero_mul, Nat.zero_add])

end Cert.OpIdeal.Voc

end
-- ==== Proof.OpClaim.lean ====
/-
  The output projection's kernel against the reference's lines.

  The kernel multiplies the sum of squares by the reciprocal of the number of columns where the reference divides by that
  number; over the extended reals the two are equal, and nothing else differs.
-/
module

public import proofs.«01_k».proof.Defs
public import proofs.«01_k».proof.Proof.Reals
public import proofs.«01_k».proof.Proof.OpValue
public import proofs.«01_k».proof.Proof.Gen.OpIdeal.Value
public import proofs.«01_k».proof.Proof.Gen.OpRefIdeal.Read

@[expose] public section

set_option maxRecDepth 16384

noncomputable section

open Idealize.ShloMosaic Idealize.ShloMosaic.TcCoe Idealize.SL.Sem

namespace Cert.OpClaim

open Cert.OpRefIdeal Cert.OpRefIdeal.Gen Cert.OpRefIdeal.Read Cert.OpFun
open Cert.OpIdeal.Voc (ixA ixW ixG)

variable (x0 x1 : S8192x2048.Idx → EReal) (x2 : S2048x2048.Idx → EReal) (x3 : S2048.Idx → EReal)

/-- An index is the pair of its coordinates. -/
theorem ixA_eta (i : S8192x2048.Idx) : ixA (i 0).val (i 1).val = i := by
  have h0 : (i 0).val < 8192 := (i 0).isLt
  have h1 : (i 1).val < 2048 := (i 1).isLt
  funext a; apply Fin.ext
  match a with
  | ⟨0, _⟩ => exact Nat.mod_eq_of_lt h0
  | ⟨1, _⟩ => exact Nat.mod_eq_of_lt h1

theorem ixW_eta (i : S2048x2048.Idx) : ixW (i 0).val (i 1).val = i := by
  have h0 : (i 0).val < 2048 := (i 0).isLt
  have h1 : (i 1).val < 2048 := (i 1).isLt
  funext a; apply Fin.ext
  match a with
  | ⟨0, _⟩ => exact Nat.mod_eq_of_lt h0
  | ⟨1, _⟩ => exact Nat.mod_eq_of_lt h1

/-- The index `q` of the scale. -/
abbrev ixS (q : ℕ) : S2048.Idx := fun a => match a with
  | ⟨0, _⟩ => Fin.ofNat 2048 q

/-- The reference's arguments, at a row and a column. -/
def refArrs : Arrs where
  y r k := x0 (ixA r k)
  x r k := x1 (ixA r k)
  w r k := x2 (ixW r k)
  g k := x3 (ixS k)

/-- The reference's projection. -/
theorem v2_apply (i : S8192x2048.Idx) : val_main_v2 (F := Ideal) x0 x2 i = o (refArrs x0 x1 x2 x3) (i 0).val (i 1).val := by
  rw [val_main_v2_apply]
  unfold o
  rw [Finset.sum_range]
  refine Finset.sum_congr rfl fun k _ => congrArg₂ (· * ·) ?_ ?_
  · show x0 _ = x0 _
    exact congrArg x0 (by rw [← ixA_eta (lidx_main_v2 i k)])
  · show x2 _ = x2 _
    exact congrArg x2 (by rw [← ixW_eta (ridx_main_v2 i k)])

/-- A row's mean square. -/
theorem v7_apply (i : S8192x1.Idx) : val_main_v7 (F := Ideal) x0 x2 i = ms (refArrs x0 x1 x2 x3) (i 0).val := by
  rw [val_main_v7_apply, val_main_v5_apply, val_main_v4_apply]
  have e : (val_main_cst (F := Ideal)) (Shape.Idx.first h_S_) = (0 : EReal) := Ideal.ofBits_zero_f32
  rw [e]
  show Ideal.div (0 + _) (Ideal.ofBits .f32 0x45000000#32) = _
  rw [zero_add, Reals.bits_2048, Ideal.div_coe (by norm_num)]
  unfold ms
  rw [Reals.bits_inv2048, Finset.sum_range]
  refine congrArg₂ (· * ·) (Finset.sum_congr rfl fun k _ => ?_) (by norm_num)
  show val_main_v2 (F := Ideal) x0 x2 _ * val_main_v2 (F := Ideal) x0 x2 _ = _
  rw [v2_apply x0 x1 x2 x3]

/-- The reference's residual. -/
theorem v16_apply (i : S8192x2048.Idx) : val_main_v16 (F := Ideal) x0 x1 x2 x3 i = h1 (refArrs x0 x1 x2 x3) (i 0).val (i 1).val := by
  rw [val_main_v16_apply, val_main_v15_apply, val_main_v12_apply, val_main_v11_apply, val_main_v10_apply, val_main_v9_apply,
    val_main_v14_apply, val_main_v13_apply, v7_apply x0 x1 x2 x3, v2_apply x0 x1 x2 x3]
  have h1 : (i 1).val < 2048 := (i 1).isLt
  show x1 i + _ * x3 _ = x1 _ + _ * x3 _
  rw [ixA_eta]
  refine congrArg (x1 i + ·) (congrArg₂ (· * ·) rfl (congrArg x3 ?_))
  funext a; apply Fin.ext
  match a with
  | ⟨0, _⟩ => exact (Nat.mod_eq_of_lt h1).symm

end Cert.OpClaim

namespace Cert.OpClaim

open Cert.OpIdeal Cert.OpIdeal.Gen

variable (m : (ℓ : Loc nD τ sig) → Buf (Elt Ideal) ℓ) (c : Dev nD)

/-- The host hands the kernel the scale as one row. -/
theorem V0_apply (q : ℕ) : (V m c main_v0 : S1x2048.Idx → EReal) (Voc.ixG q)
    = (m ((c.tc : Thread nD τ).loc main_arg3) : S2048.Idx → EReal) (ixS q) := by
  have e : (V m c main_v0 : S1x2048.Idx → EReal)
      = shapeCast S1x2048 (m ((c.tc : Thread nD τ).loc main_arg3) : S2048.Idx → EReal) shapeCasts_S2048_S1x2048 := by
    unfold_abbrev_sides
    after_results
    rfl
  rw [e]
  generalize (m ((c.tc : Thread nD τ).loc main_arg3) : S2048.Idx → EReal) = y
  refine shapeCast_apply (s := S2048) y _ _ _ ?_
  rewrite [Shape.rowMajor_val_one, Shape.rowMajor_val_two]
  show q % 2048 = 0 * 2048 + q % 2048
  omega

/-- What the launch reads is what the reference reads. -/
theorem arrs_eq : Voc.arrs m c = refArrs (m ((c.tc : Thread nD τ).loc main_arg0)) (m ((c.tc : Thread nD τ).loc main_arg1)) (m ((c.tc : Thread nD τ).loc main_arg2))
    (m ((c.tc : Thread nD τ).loc main_arg3)) := by
  unfold Voc.arrs refArrs
  congr 1
  funext k
  exact V0_apply m c k

/-- The output projection's kernel and the reference's lines end with equal results from equal arguments. -/
theorem algebraic : Cert.algebraic_OpIdeal_OpRefIdeal := by
  intro m ρ m' ρ' _ hagree
  refine ⟨fun c => (dats m 0 c).arrAt 3 cfg0.N, fun c => (dats m 0 c).arrAt 4 cfg0.N, Cert.OpIdeal.Value.run_blocks (F := Ideal) m ρ, ?_⟩
  refine (θ_run Cert.OpRefIdeal.defs _ _).mono (fun _ h c => ⟨(h c).1.trans ?_, (h c).2.1.trans ?_, (h c).2.2⟩)
    (Cert.OpRefIdeal.Value.run (F := Ideal) m' ρ')
  all_goals obtain ⟨h0, h1, h2, h3⟩ := hagree c
  · rw [Cert.OpRefIdeal.Read.val_main_v16_eq, h0, h1, h2, h3]
    show _ = (dats m 0 c).arrAt 3 cfg0.N
    rw [Voc.arr3, arrs_eq]
    funext i
    exact v16_apply _ _ _ _ i
  · rw [Cert.OpRefIdeal.Read.val_main_v17_eq, h0, h2]
    show _ = (dats m 0 c).arrAt 4 cfg0.N
    rw [Voc.arr4, arrs_eq]
    funext i
    exact v2_apply _ _ _ _ i

end Cert.OpClaim

end
-- ==== Proof.AdFun.lean ====
/-
  One optimiser step at one entry, over the extended reals: the two moments and the change of the weight, from the
  gradient, the weight and the moments before. The constants are the rationals of the float words both sides print.
-/
module

public import Idealize.ShloMosaic.Lib.IdealHost
public import Mathlib.Algebra.BigOperators.Fin

@[expose] public section

noncomputable section

open Idealize.ShloMosaic

namespace Cert.AdFun

/-- The sum of eight parts, in the order in which a kernel adds them. -/
def sum8 (p : Fin 8 → EReal) : EReal := p 0 + p 1 + p 2 + p 3 + p 4 + p 5 + p 6 + p 7

/-- It is the reference's sum, which starts from zero. -/
theorem sum8_eq (p : Fin 8 → EReal) : sum8 p = Ideal.ofBits .f32 0x00000000#32 + ∑ k, p k := by
  rw [Ideal.ofBits_zero_f32, zero_add, Fin.sum_univ_eight]
  rfl

/-- The sum of five parts, in the order in which a kernel adds them. -/
def sum5 (p : Fin 5 → EReal) : EReal := p 0 + p 1 + p 2 + p 3 + p 4

/-- It is the reference's sum, which starts from zero. -/
theorem sum5_eq (p : Fin 5 → EReal) : sum5 p = Ideal.ofBits .f32 0x00000000#32 + ∑ k, p k := by
  rw [Ideal.ofBits_zero_f32, zero_add, Fin.sum_univ_five]
  rfl

/-- The first moment. -/
def nm (g m : EReal) : EReal := Ideal.ofBits .f32 0x3F666666#32 * m + Ideal.ofBits .f32 0x3DCCCCCD#32 * g

/-- The second moment. -/
def nv (g v : EReal) : EReal := Ideal.ofBits .f32 0x3F7FBE77#32 * v + Ideal.ofBits .f32 0x3A83126F#32 * (g * g)

/-- The change of the weight. -/
def de (w g m v : EReal) : EReal :=
  Ideal.ofBits .f32 0xBA83126F#32
    * (Ideal.div (Ideal.div (nm g m) (Ideal.ofBits .f32 0x3F26BD02#32))
        (Ideal.sqrt (Ideal.div (nv g v) (Ideal.ofBits .f32 0x3C231ACC#32)) + Ideal.ofBits .f32 0x322BCC77#32)
      + Ideal.ofBits .f32 0x3C23D70A#32 * w)

end Cert.AdFun

end
-- ==== Proof.AdOutClaim.lean ====
/-
  The optimiser step of the output projection's weight and of the gate's weight, which have one shape.
-/
module

public import proofs.«01_k».proof.Defs
public import proofs.«01_k».proof.Proof.AdFun
public import proofs.«01_k».proof.Proof.Gen.AdOutIdeal.Value
public import proofs.«01_k».proof.Proof.Gen.AdOutRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdOutIdeal.Step

open Cert.AdOutIdeal Cert.AdOutIdeal.Gen Cert.AdFun

theorem hz : (![0, 0] : Fin 2 → Nat) = fun _ => 0 := funext fun a => by fin_cases a <;> rfl

/-- The entry `(r, q)` of a part's block. -/
abbrev ixB (s : Fin 8) (y : S128x2048.Idx) : S8x128x2048.Idx := fun a => match a with
  | ⟨0, _⟩ => s
  | ⟨1, _⟩ => ⟨(y 0).val, (y 0).isLt⟩
  | ⟨2, _⟩ => ⟨(y 1).val, (y 1).isLt⟩

/-- Part `s` of the block, its leading axis dropped. -/
theorem part (x : S8x128x2048.Idx → EReal) (s : ℕ) (hs : s < 8)
    (inb : ∀ a, (![s, 0, 0] : Fin 3 → ℕ) a + S1x128x2048.size a ≤ S8x128x2048.size a) (h : S1x128x2048.ShapeCasts S128x2048) (y : S128x2048.Idx) :
    shapeCast S128x2048 (fun z : S1x128x2048.Idx => x ((Rect.unit (s := S8x128x2048) ![s, 0, 0] S1x128x2048.size inb).idx z)) h y = x (ixB ⟨s, hs⟩ y) := by
  refine (shapeCast_apply (s := S1x128x2048) _ h y (fun a => match a with
    | ⟨0, _⟩ => (0 : Fin 1)
    | ⟨1, _⟩ => ⟨(y 0).val, (y 0).isLt⟩
    | ⟨2, _⟩ => ⟨(y 1).val, (y 1).isLt⟩) ?_).trans ?_
  · rewrite [Shape.rowMajor_val_three, Shape.rowMajor_val_two]
    show (0 * 128 + (y 0).val) * 2048 + (y 1).val = (y 0).val * 2048 + (y 1).val
    omega
  · refine congrArg x (funext fun a => Fin.ext ?_)
    match a with
    | ⟨0, _⟩ => show s + 1 * 0 = s; omega
    | ⟨1, _⟩ => show 0 + 1 * (y 0).val = (y 0).val; omega
    | ⟨2, _⟩ => show 0 + 1 * (y 1).val = (y 1).val; omega

variable (x0 : Vec Ideal S8x128x2048 .bf16) (x1 x2 x3 : Vec Ideal S128x2048 .f32) (y : S128x2048.Idx)

/-- What a point stores as the gradient: the sum of the eight parts. -/
theorem out4_apply : out0_4 x0 x1 x2 x3 y = sum8 fun s => x0 (ixB s y) := by
  unfold out0_4
  rw [View.canon_unit_zero hz]
  unfold k0_pay4
  show shapeCast S128x2048 (View.ld x0 r0_0) shapeCasts_S1x128x2048_S128x2048 y + shapeCast S128x2048 (View.ld x0 r0_1) shapeCasts_S1x128x2048_S128x2048 y + shapeCast S128x2048 (View.ld x0 r0_2) shapeCasts_S1x128x2048_S128x2048 y + shapeCast S128x2048 (View.ld x0 r0_3) shapeCasts_S1x128x2048_S128x2048 y + shapeCast S128x2048 (View.ld x0 r0_4) shapeCasts_S1x128x2048_S128x2048 y + shapeCast S128x2048 (View.ld x0 r0_5) shapeCasts_S1x128x2048_S128x2048 y + shapeCast S128x2048 (View.ld x0 r0_6) shapeCasts_S1x128x2048_S128x2048 y + shapeCast S128x2048 (View.ld x0 r0_7) shapeCasts_S1x128x2048_S128x2048 y = _
  exact congrArg₂ (· + ·) (congrArg₂ (· + ·) (congrArg₂ (· + ·) (congrArg₂ (· + ·) (congrArg₂ (· + ·) (congrArg₂ (· + ·) (congrArg₂ (· + ·)
    (part x0 0 (by decide) _ _ y) (part x0 1 (by decide) _ _ y)) (part x0 2 (by decide) _ _ y)) (part x0 3 (by decide) _ _ y))
    (part x0 4 (by decide) _ _ y)) (part x0 5 (by decide) _ _ y)) (part x0 6 (by decide) _ _ y)) (part x0 7 (by decide) _ _ y)

/-- The same sum where the other results read it. -/
theorem pay5_apply : k0_pay5 x0 x1 x2 x3 y = sum8 fun s => x0 (ixB s y) := by
  rw [← out4_apply x0 x1 x2 x3 y]
  unfold out0_4
  rw [View.canon_unit_zero hz]
  rfl

/-- The first moment it stores. -/
theorem out6_apply : out0_6 x0 x1 x2 x3 y = nm (sum8 fun s => x0 (ixB s y)) (x2 y) := by
  unfold out0_6
  rw [View.canon_unit_zero hz]
  simp only [View.ld_unit_zero (S := S128x2048) hz]
  rw [← pay5_apply x0 x1 x2 x3 y]
  rfl

/-- The second moment it stores. -/
theorem out7_apply : out0_7 x0 x1 x2 x3 y = nv (sum8 fun s => x0 (ixB s y)) (x3 y) := by
  unfold out0_7
  rw [View.canon_unit_zero hz]
  simp only [View.ld_unit_zero (S := S128x2048) hz]
  rw [← pay5_apply x0 x1 x2 x3 y]
  rfl

/-- The change of the weight it stores. -/
theorem out5_apply : out0_5 x0 x1 x2 x3 y = de (x1 y) (sum8 fun s => x0 (ixB s y)) (x2 y) (x3 y) := by
  unfold out0_5
  rw [View.canon_unit_zero hz]
  simp only [View.ld_unit_zero (S := S128x2048) hz]
  rw [← pay5_apply x0 x1 x2 x3 y]
  rfl

/-! ## The blocks a point reads -/

/-- The row of the array that a point's row is. -/
abbrev ixR (t : ℕ) (y : S128x2048.Idx) : S256x2048.Idx := fun a => match a with
  | ⟨0, _⟩ => Fin.ofNat 256 (128 * t + (y 0).val)
  | ⟨1, _⟩ => ⟨(y 1).val, (y 1).isLt⟩

variable (m : (ℓ : Loc nD τ sig) → Buf (Elt Ideal) ℓ) (c : Dev nD)

/-- The arguments. -/
abbrev A0 : S8x256x2048.Idx → EReal := m ((c.tc : Thread nD τ).loc main_arg0)
abbrev A1 : S256x2048.Idx → EReal := m ((c.tc : Thread nD τ).loc main_arg1)
abbrev A2 : S256x2048.Idx → EReal := m ((c.tc : Thread nD τ).loc main_arg2)
abbrev A3 : S256x2048.Idx → EReal := m ((c.tc : Thread nD τ).loc main_arg3)

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem hN : cfg0.N = 2 := N_0

theorem blk0 (t : Fin cfg0.N) (s : Fin 8) (y : S128x2048.Idx) :
    (iblk m c 0 t : S8x128x2048.Idx → EReal) (ixB s y) = (A0 m c)
      (Cert.AdOutRefIdeal.Read.idx_main_v1 (ixR t.val y) s) := by
  have hN := lt_of_lt_of_eq t.isLt hN
  have h0 : (y 0).val < 128 := (y 0).isLt
  have h1 : (y 1).val < 2048 := (y 1).isLt
  unfold iblk
  rw [View.read_apply]
  show V m c main_arg0 _ = _
  rw [V_main_arg0]
  refine congrArg (A0 m c) (funext fun a => Fin.ext ?_)
  match a with
  | ⟨0, _⟩ => show win0_0.index t 0 * 8 + 1 * s.val = s.val; rw [(idx0 t).1]; omega
  | ⟨1, _⟩ => show win0_0.index t 1 * 128 + 1 * (y 0).val = (128 * t.val + (y 0).val) % 256; rw [(idx0 t).2.1]; omega
  | ⟨2, _⟩ => show win0_0.index t 2 * 2048 + 1 * (y 1).val = (y 1).val; rw [(idx0 t).2.2]; omega

theorem blk1 (t : Fin cfg0.N) (y : S128x2048.Idx) :
    (iblk m c 1 t : S128x2048.Idx → EReal) y = (A1 m c) (ixR t.val y) := by
  have hN := lt_of_lt_of_eq t.isLt hN
  have h0 : (y 0).val < 128 := (y 0).isLt
  have h1 : (y 1).val < 2048 := (y 1).isLt
  unfold iblk
  rw [View.read_apply]
  show V m c main_arg1 _ = _
  rw [V_main_arg1]
  refine congrArg (A1 m c) (funext fun a => Fin.ext ?_)
  match a with
  | ⟨0, _⟩ => show win0_1.index t 0 * 128 + 1 * (y 0).val = (128 * t.val + (y 0).val) % 256; rw [(idx1 t).1]; omega
  | ⟨1, _⟩ => show win0_1.index t 1 * 2048 + 1 * (y 1).val = (y 1).val; rw [(idx1 t).2]; omega

theorem blk2 (t : Fin cfg0.N) (y : S128x2048.Idx) :
    (iblk m c 2 t : S128x2048.Idx → EReal) y = (A2 m c) (ixR t.val y) := by
  have hN := lt_of_lt_of_eq t.isLt hN
  have h0 : (y 0).val < 128 := (y 0).isLt
  have h1 : (y 1).val < 2048 := (y 1).isLt
  unfold iblk
  rw [View.read_apply]
  show V m c main_arg2 _ = _
  rw [V_main_arg2]
  refine congrArg (A2 m c) (funext fun a => Fin.ext ?_)
  match a with
  | ⟨0, _⟩ => show win0_2.index t 0 * 128 + 1 * (y 0).val = (128 * t.val + (y 0).val) % 256; rw [(idx2 t).1]; omega
  | ⟨1, _⟩ => show win0_2.index t 1 * 2048 + 1 * (y 1).val = (y 1).val; rw [(idx2 t).2]; omega

theorem blk3 (t : Fin cfg0.N) (y : S128x2048.Idx) :
    (iblk m c 3 t : S128x2048.Idx → EReal) y = (A3 m c) (ixR t.val y) := by
  have hN := lt_of_lt_of_eq t.isLt hN
  have h0 : (y 0).val < 128 := (y 0).isLt
  have h1 : (y 1).val < 2048 := (y 1).isLt
  unfold iblk
  rw [View.read_apply]
  show V m c main_arg3 _ = _
  rw [V_main_arg3]
  refine congrArg (A3 m c) (funext fun a => Fin.ext ?_)
  match a with
  | ⟨0, _⟩ => show win0_3.index t 0 * 128 + 1 * (y 0).val = (128 * t.val + (y 0).val) % 256; rw [(idx3 t).1]; omega
  | ⟨1, _⟩ => show win0_3.index t 1 * 2048 + 1 * (y 1).val = (y 1).val; rw [(idx3 t).2]; omega

/-- The reference's gradient. -/
theorem ref_g (p : S8x256x2048.Idx → EReal) (i : S256x2048.Idx) :
    Ideal.ofBits .f32 0x00000000#32 + ∑ k, p (Cert.AdOutRefIdeal.Read.idx_main_v1 i k) = Cert.AdOutRefIdeal.Read.val_main_v1 (F := Ideal) p i := by
  rw [Cert.AdOutRefIdeal.Read.val_main_v1_apply]
  rfl

/-- The gradient. -/
theorem arr4 : (dats m 0 c).arrAt 4 cfg0.N
    = (Cert.AdOutRefIdeal.Read.val_main_v1 (F := Ideal) (A0 m c) : S256x2048.Idx → EReal) := by
  refine (dats m 0 c).arrAt_eq_of_covers 4 _ (by decide +kernel) fun t hf y => ?_
  have hN := lt_of_lt_of_eq t.isLt hN
  have h0 : (y 0).val < 128 := (y 0).isLt
  blk_simp
  rw [after0_4]
  refine (out4_apply _ _ _ _ _).trans ?_
  simp only [blk0]
  rw [sum8_eq]
  have e : ∀ i : S256x2048.Idx, (Ideal.ofBits .f32 0x00000000#32 + ∑ k, A0 m c (Cert.AdOutRefIdeal.Read.idx_main_v1 i k)) = (Cert.AdOutRefIdeal.Read.val_main_v1 (F := Ideal) (A0 m c) : S256x2048.Idx → EReal) i := fun i => ref_g _ i
  refine (e _).trans (congrArg _ (funext fun a => Fin.ext ?_))
  match a with
  | ⟨0, _⟩ => show (128 * t.val + (y 0).val) % 256 = win0_4.index t 0 * 128 + 1 * (y 0).val; rw [(idx4 t).1]; omega
  | ⟨1, _⟩ => show (y 1).val = win0_4.index t 1 * 2048 + 1 * (y 1).val; rw [(idx4 t).2]; omega

/-- The change of the weight. -/
theorem arr5 : (dats m 0 c).arrAt 5 cfg0.N
    = (Cert.AdOutRefIdeal.Read.val_main_v25 (F := Ideal) (A0 m c) (A1 m c) (A2 m c) (A3 m c) : S256x2048.Idx → EReal) := by
  refine (dats m 0 c).arrAt_eq_of_covers 5 _ (by decide +kernel) fun t hf y => ?_
  have hN := lt_of_lt_of_eq t.isLt hN
  have h0 : (y 0).val < 128 := (y 0).isLt
  blk_simp
  rw [after0_5]
  refine (out5_apply _ _ _ _ _).trans ?_
  simp only [blk0, blk1, blk2, blk3]
  rw [sum8_eq]
  have e : ∀ i : S256x2048.Idx, de (A1 m c i) (Ideal.ofBits .f32 0x00000000#32 + ∑ k, A0 m c (Cert.AdOutRefIdeal.Read.idx_main_v1 i k)) (A2 m c i) (A3 m c i) = (Cert.AdOutRefIdeal.Read.val_main_v25 (F := Ideal) (A0 m c) (A1 m c) (A2 m c) (A3 m c) : S256x2048.Idx → EReal) i := fun i => by rw [ref_g]; rfl
  refine (e _).trans (congrArg _ (funext fun a => Fin.ext ?_))
  match a with
  | ⟨0, _⟩ => show (128 * t.val + (y 0).val) % 256 = win0_5.index t 0 * 128 + 1 * (y 0).val; rw [(idx5 t).1]; omega
  | ⟨1, _⟩ => show (y 1).val = win0_5.index t 1 * 2048 + 1 * (y 1).val; rw [(idx5 t).2]; omega

/-- The first moment. -/
theorem arr6 : (dats m 0 c).arrAt 6 cfg0.N
    = (Cert.AdOutRefIdeal.Read.val_main_v6 (F := Ideal) (A0 m c) (A2 m c) : S256x2048.Idx → EReal) := by
  refine (dats m 0 c).arrAt_eq_of_covers 6 _ (by decide +kernel) fun t hf y => ?_
  have hN := lt_of_lt_of_eq t.isLt hN
  have h0 : (y 0).val < 128 := (y 0).isLt
  blk_simp
  rw [after0_6]
  refine (out6_apply _ _ _ _ _).trans ?_
  simp only [blk0, blk2]
  rw [sum8_eq]
  have e : ∀ i : S256x2048.Idx, nm (Ideal.ofBits .f32 0x00000000#32 + ∑ k, A0 m c (Cert.AdOutRefIdeal.Read.idx_main_v1 i k)) (A2 m c i) = (Cert.AdOutRefIdeal.Read.val_main_v6 (F := Ideal) (A0 m c) (A2 m c) : S256x2048.Idx → EReal) i := fun i => by rw [ref_g]; rfl
  refine (e _).trans (congrArg _ (funext fun a => Fin.ext ?_))
  match a with
  | ⟨0, _⟩ => show (128 * t.val + (y 0).val) % 256 = win0_6.index t 0 * 128 + 1 * (y 0).val; rw [(idx6 t).1]; omega
  | ⟨1, _⟩ => show (y 1).val = win0_6.index t 1 * 2048 + 1 * (y 1).val; rw [(idx6 t).2]; omega

/-- The second moment. -/
theorem arr7 : (dats m 0 c).arrAt 7 cfg0.N
    = (Cert.AdOutRefIdeal.Read.val_main_v12 (F := Ideal) (A0 m c) (A3 m c) : S256x2048.Idx → EReal) := by
  refine (dats m 0 c).arrAt_eq_of_covers 7 _ (by decide +kernel) fun t hf y => ?_
  have hN := lt_of_lt_of_eq t.isLt hN
  have h0 : (y 0).val < 128 := (y 0).isLt
  blk_simp
  rw [after0_7]
  refine (out7_apply _ _ _ _ _).trans ?_
  simp only [blk0, blk3]
  rw [sum8_eq]
  have e : ∀ i : S256x2048.Idx, nv (Ideal.ofBits .f32 0x00000000#32 + ∑ k, A0 m c (Cert.AdOutRefIdeal.Read.idx_main_v1 i k)) (A3 m c i) = (Cert.AdOutRefIdeal.Read.val_main_v12 (F := Ideal) (A0 m c) (A3 m c) : S256x2048.Idx → EReal) i := fun i => by rw [ref_g]; rfl
  refine (e _).trans (congrArg _ (funext fun a => Fin.ext ?_))
  match a with
  | ⟨0, _⟩ => show (128 * t.val + (y 0).val) % 256 = win0_7.index t 0 * 128 + 1 * (y 0).val; rw [(idx7 t).1]; omega
  | ⟨1, _⟩ => show (y 1).val = win0_7.index t 1 * 2048 + 1 * (y 1).val; rw [(idx7 t).2]; omega

/-- The optimiser step of the output projection's weight and of the gate's weight, which have one shape: the kernel and the reference's lines end with equal results from equal arguments. -/
theorem algebraic : Cert.algebraic_AdOutIdeal_AdOutRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdOutIdeal.Value.run_blocks (F := Ideal) m ρ, ?_⟩
  refine (θ_run Cert.AdOutRefIdeal.defs _ _).mono (fun _ h c => ⟨(h c).1.trans ?_, (h c).2.1.trans ?_, (h c).2.2.1.trans ?_,
    (h c).2.2.2.1.trans ?_, (h c).2.2.2.2⟩) (Cert.AdOutRefIdeal.Value.run (F := Ideal) m' ρ')
  all_goals obtain ⟨h0, h1, h2, h3⟩ := hagree c
  · rw [Cert.AdOutRefIdeal.Read.val_main_v1_eq, h0]
    exact (arr4 m c).symm
  · rw [Cert.AdOutRefIdeal.Read.val_main_v25_eq, h0, h1, h2, h3]
    exact (arr5 m c).symm
  · rw [Cert.AdOutRefIdeal.Read.val_main_v6_eq, h0, h2]
    exact (arr6 m c).symm
  · rw [Cert.AdOutRefIdeal.Read.val_main_v12_eq, h0, h3]
    exact (arr7 m c).symm

end Cert.AdOutIdeal.Step

end
-- ==== Proof.AdPeClaim.lean ====
/-
  The optimiser step of the per-layer embedding's weight.
-/
module

public import proofs.«01_k».proof.Defs
public import proofs.«01_k».proof.Proof.AdFun
public import proofs.«01_k».proof.Proof.Gen.AdPeIdeal.Value
public import proofs.«01_k».proof.Proof.Gen.AdPeRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdPeIdeal.Step

open Cert.AdPeIdeal Cert.AdPeIdeal.Gen Cert.AdFun

theorem hz : (![0, 0] : Fin 2 → Nat) = fun _ => 0 := funext fun a => by fin_cases a <;> rfl

/-- The entry `(r, q)` of a part's block. -/
abbrev ixB (s : Fin 8) (y : S256x256.Idx) : S8x256x256.Idx := fun a => match a with
  | ⟨0, _⟩ => s
  | ⟨1, _⟩ => ⟨(y 0).val, (y 0).isLt⟩
  | ⟨2, _⟩ => ⟨(y 1).val, (y 1).isLt⟩

/-- Part `s` of the block, its leading axis dropped. -/
theorem part (x : S8x256x256.Idx → EReal) (s : ℕ) (hs : s < 8)
    (inb : ∀ a, (![s, 0, 0] : Fin 3 → ℕ) a + S1x256x256.size a ≤ S8x256x256.size a) (h : S1x256x256.ShapeCasts S256x256) (y : S256x256.Idx) :
    shapeCast S256x256 (fun z : S1x256x256.Idx => x ((Rect.unit (s := S8x256x256) ![s, 0, 0] S1x256x256.size inb).idx z)) h y = x (ixB ⟨s, hs⟩ y) := by
  refine (shapeCast_apply (s := S1x256x256) _ h y (fun a => match a with
    | ⟨0, _⟩ => (0 : Fin 1)
    | ⟨1, _⟩ => ⟨(y 0).val, (y 0).isLt⟩
    | ⟨2, _⟩ => ⟨(y 1).val, (y 1).isLt⟩) ?_).trans ?_
  · rewrite [Shape.rowMajor_val_three, Shape.rowMajor_val_two]
    show (0 * 256 + (y 0).val) * 256 + (y 1).val = (y 0).val * 256 + (y 1).val
    omega
  · refine congrArg x (funext fun a => Fin.ext ?_)
    match a with
    | ⟨0, _⟩ => show s + 1 * 0 = s; omega
    | ⟨1, _⟩ => show 0 + 1 * (y 0).val = (y 0).val; omega
    | ⟨2, _⟩ => show 0 + 1 * (y 1).val = (y 1).val; omega

variable (x0 : Vec Ideal S8x256x256 .bf16) (x1 x2 x3 : Vec Ideal S256x256 .f32) (y : S256x256.Idx)

/-- What a point stores as the gradient: the sum of the eight parts. -/
theorem out4_apply : out0_4 x0 x1 x2 x3 y = sum8 fun s => x0 (ixB s y) := by
  unfold out0_4
  rw [View.canon_unit_zero hz]
  unfold k0_pay4
  show shapeCast S256x256 (View.ld x0 r0_0) shapeCasts_S1x256x256_S256x256 y + shapeCast S256x256 (View.ld x0 r0_1) shapeCasts_S1x256x256_S256x256 y + shapeCast S256x256 (View.ld x0 r0_2) shapeCasts_S1x256x256_S256x256 y + shapeCast S256x256 (View.ld x0 r0_3) shapeCasts_S1x256x256_S256x256 y + shapeCast S256x256 (View.ld x0 r0_4) shapeCasts_S1x256x256_S256x256 y + shapeCast S256x256 (View.ld x0 r0_5) shapeCasts_S1x256x256_S256x256 y + shapeCast S256x256 (View.ld x0 r0_6) shapeCasts_S1x256x256_S256x256 y + shapeCast S256x256 (View.ld x0 r0_7) shapeCasts_S1x256x256_S256x256 y = _
  exact congrArg₂ (· + ·) (congrArg₂ (· + ·) (congrArg₂ (· + ·) (congrArg₂ (· + ·) (congrArg₂ (· + ·) (congrArg₂ (· + ·) (congrArg₂ (· + ·)
    (part x0 0 (by decide) _ _ y) (part x0 1 (by decide) _ _ y)) (part x0 2 (by decide) _ _ y)) (part x0 3 (by decide) _ _ y))
    (part x0 4 (by decide) _ _ y)) (part x0 5 (by decide) _ _ y)) (part x0 6 (by decide) _ _ y)) (part x0 7 (by decide) _ _ y)

/-- The same sum where the other results read it. -/
theorem pay5_apply : k0_pay5 x0 x1 x2 x3 y = sum8 fun s => x0 (ixB s y) := by
  rw [← out4_apply x0 x1 x2 x3 y]
  unfold out0_4
  rw [View.canon_unit_zero hz]
  rfl

/-- The first moment it stores. -/
theorem out6_apply : out0_6 x0 x1 x2 x3 y = nm (sum8 fun s => x0 (ixB s y)) (x2 y) := by
  unfold out0_6
  rw [View.canon_unit_zero hz]
  simp only [View.ld_unit_zero (S := S256x256) hz]
  rw [← pay5_apply x0 x1 x2 x3 y]
  rfl

/-- The second moment it stores. -/
theorem out7_apply : out0_7 x0 x1 x2 x3 y = nv (sum8 fun s => x0 (ixB s y)) (x3 y) := by
  unfold out0_7
  rw [View.canon_unit_zero hz]
  simp only [View.ld_unit_zero (S := S256x256) hz]
  rw [← pay5_apply x0 x1 x2 x3 y]
  rfl

/-- The change of the weight it stores. -/
theorem out5_apply : out0_5 x0 x1 x2 x3 y = de (x1 y) (sum8 fun s => x0 (ixB s y)) (x2 y) (x3 y) := by
  unfold out0_5
  rw [View.canon_unit_zero hz]
  simp only [View.ld_unit_zero (S := S256x256) hz]
  rw [← pay5_apply x0 x1 x2 x3 y]
  rfl

/-! ## The blocks the only point reads are the whole arrays -/

variable (m : (ℓ : Loc nD τ sig) → Buf (Elt Ideal) ℓ) (c : Dev nD)

/-- The arguments. -/
abbrev A0 : S8x256x256.Idx → EReal := m ((c.tc : Thread nD τ).loc main_arg0)
abbrev A1 : S256x256.Idx → EReal := m ((c.tc : Thread nD τ).loc main_arg1)
abbrev A2 : S256x256.Idx → EReal := m ((c.tc : Thread nD τ).loc main_arg2)
abbrev A3 : S256x256.Idx → EReal := m ((c.tc : Thread nD τ).loc main_arg3)

/-- The only point. -/
abbrev t0 : Fin cfg0.N := ⟨0, by decide⟩

theorem e0 (w : Fin cfg0.W) (h : ∀ a, (cfg0.win w).index t0 a = 0) (y) (a) :
    (((cfg0.win w).rect t0).emb y a).val = (y a).val :=
  Pipeline.Window.rect_emb_val_of_index_zero _ _ _ (h a) y

theorem ix (s : Fin 8) (y : S256x256.Idx) : ixB s y = Cert.AdPeRefIdeal.Read.idx_main_v1 y s :=
  funext fun a => match a with
    | ⟨0, _⟩ => rfl
    | ⟨1, _⟩ => rfl
    | ⟨2, _⟩ => rfl

theorem in0 : (iblk m c 0 t0 : S8x256x256.Idx → EReal) = A0 m c :=
  Eq.trans (b := (V m c main_arg0 : S8x256x256.Idx → EReal)) (funext fun y => congrArg (V m c main_arg0) (funext fun a => Fin.ext (e0 0 (by decide +kernel) y a))) (V_main_arg0 m c)

theorem in1 : (iblk m c 1 t0 : S256x256.Idx → EReal) = A1 m c :=
  Eq.trans (b := (V m c main_arg1 : S256x256.Idx → EReal)) (funext fun y => congrArg (V m c main_arg1) (funext fun a => Fin.ext (e0 1 (by decide +kernel) y a))) (V_main_arg1 m c)

theorem in2 : (iblk m c 2 t0 : S256x256.Idx → EReal) = A2 m c :=
  Eq.trans (b := (V m c main_arg2 : S256x256.Idx → EReal)) (funext fun y => congrArg (V m c main_arg2) (funext fun a => Fin.ext (e0 2 (by decide +kernel) y a))) (V_main_arg2 m c)

theorem in3 : (iblk m c 3 t0 : S256x256.Idx → EReal) = A3 m c :=
  Eq.trans (b := (V m c main_arg3 : S256x256.Idx → EReal)) (funext fun y => congrArg (V m c main_arg3) (funext fun a => Fin.ext (e0 3 (by decide +kernel) y a))) (V_main_arg3 m c)

/-- The reference's gradient. -/
theorem ref_g (p : S8x256x256.Idx → EReal) (i : S256x256.Idx) :
    Ideal.ofBits .f32 0x00000000#32 + ∑ k, p (Cert.AdPeRefIdeal.Read.idx_main_v1 i k) = Cert.AdPeRefIdeal.Read.val_main_v1 (F := Ideal) p i := by
  rw [Cert.AdPeRefIdeal.Read.val_main_v1_apply]
  rfl

set_option maxHeartbeats 4000000

/-- The gradient. -/
theorem arr4 : (dats m 0 c).arrAt 4 cfg0.N
    = (Cert.AdPeRefIdeal.Read.val_main_v1 (F := Ideal) (A0 m c) : S256x256.Idx → EReal) := by
  refine (dats m 0 c).arrAt_eq_of_after_last 4 t0 (by decide +kernel) _ fun j => ?_
  refine (out4_apply (iblk m c 0 t0) (iblk m c 1 t0) (iblk m c 2 t0) (iblk m c 3 t0) j).trans ?_
  rw [in0, sum8_eq]
  simp only [ix]
  rw [ref_g]; rfl

/-- The change of the weight. -/
theorem arr5 : (dats m 0 c).arrAt 5 cfg0.N
    = (Cert.AdPeRefIdeal.Read.val_main_v25 (F := Ideal) (A0 m c) (A1 m c) (A2 m c) (A3 m c) : S256x256.Idx → EReal) := by
  refine (dats m 0 c).arrAt_eq_of_after_last 5 t0 (by decide +kernel) _ fun j => ?_
  refine (out5_apply (iblk m c 0 t0) (iblk m c 1 t0) (iblk m c 2 t0) (iblk m c 3 t0) j).trans ?_
  rw [in0, in1, in2, in3, sum8_eq]
  simp only [ix]
  rw [ref_g]; rfl

/-- The first moment. -/
theorem arr6 : (dats m 0 c).arrAt 6 cfg0.N
    = (Cert.AdPeRefIdeal.Read.val_main_v6 (F := Ideal) (A0 m c) (A2 m c) : S256x256.Idx → EReal) := by
  refine (dats m 0 c).arrAt_eq_of_after_last 6 t0 (by decide +kernel) _ fun j => ?_
  refine (out6_apply (iblk m c 0 t0) (iblk m c 1 t0) (iblk m c 2 t0) (iblk m c 3 t0) j).trans ?_
  rw [in0, in2, sum8_eq]
  simp only [ix]
  rw [ref_g]; rfl

/-- The second moment. -/
theorem arr7 : (dats m 0 c).arrAt 7 cfg0.N
    = (Cert.AdPeRefIdeal.Read.val_main_v12 (F := Ideal) (A0 m c) (A3 m c) : S256x256.Idx → EReal) := by
  refine (dats m 0 c).arrAt_eq_of_after_last 7 t0 (by decide +kernel) _ fun j => ?_
  refine (out7_apply (iblk m c 0 t0) (iblk m c 1 t0) (iblk m c 2 t0) (iblk m c 3 t0) j).trans ?_
  rw [in0, in3, sum8_eq]
  simp only [ix]
  rw [ref_g]; rfl

/-- The optimiser step of the per-layer embedding's weight: the kernel and the reference's lines end with equal results from equal arguments. -/
theorem algebraic : Cert.algebraic_AdPeIdeal_AdPeRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdPeIdeal.Value.run_blocks (F := Ideal) m ρ, ?_⟩
  refine (θ_run Cert.AdPeRefIdeal.defs _ _).mono (fun _ h c => ⟨(h c).1.trans ?_, (h c).2.1.trans ?_, (h c).2.2.1.trans ?_,
    (h c).2.2.2.1.trans ?_, (h c).2.2.2.2⟩) (Cert.AdPeRefIdeal.Value.run (F := Ideal) m' ρ')
  all_goals obtain ⟨h0, h1, h2, h3⟩ := hagree c
  · rw [Cert.AdPeRefIdeal.Read.val_main_v1_eq, h0]
    exact (arr4 m c).symm
  · rw [Cert.AdPeRefIdeal.Read.val_main_v25_eq, h0, h1, h2, h3]
    exact (arr5 m c).symm
  · rw [Cert.AdPeRefIdeal.Read.val_main_v6_eq, h0, h2]
    exact (arr6 m c).symm
  · rw [Cert.AdPeRefIdeal.Read.val_main_v12_eq, h0, h3]
    exact (arr7 m c).symm

end Cert.AdPeIdeal.Step

end
-- ==== Proof.AdCwClaim.lean ====
/-
  The optimiser step of the convolution's weight, as rows.
-/
module

public import proofs.«01_k».proof.Defs
public import proofs.«01_k».proof.Proof.AdFun
public import proofs.«01_k».proof.Proof.Gen.AdCwIdeal.Value
public import proofs.«01_k».proof.Proof.Gen.AdCwRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdCwIdeal.Step

open Cert.AdCwIdeal Cert.AdCwIdeal.Gen Cert.AdFun

theorem hz : (![0, 0] : Fin 2 → Nat) = fun _ => 0 := funext fun a => by fin_cases a <;> rfl

/-- The entry `(r, q)` of a part's block. -/
abbrev ixB (s : Fin 8) (y : S8x128.Idx) : S8x8x128.Idx := fun a => match a with
  | ⟨0, _⟩ => s
  | ⟨1, _⟩ => ⟨(y 0).val, (y 0).isLt⟩
  | ⟨2, _⟩ => ⟨(y 1).val, (y 1).isLt⟩

/-- Part `s` of the block, its leading axis dropped. -/
theorem part (x : S8x8x128.Idx → EReal) (s : ℕ) (hs : s < 8)
    (inb : ∀ a, (![s, 0, 0] : Fin 3 → ℕ) a + S1x8x128.size a ≤ S8x8x128.size a) (h : S1x8x128.ShapeCasts S8x128) (y : S8x128.Idx) :
    shapeCast S8x128 (fun z : S1x8x128.Idx => x ((Rect.unit (s := S8x8x128) ![s, 0, 0] S1x8x128.size inb).idx z)) h y = x (ixB ⟨s, hs⟩ y) := by
  refine (shapeCast_apply (s := S1x8x128) _ h y (fun a => match a with
    | ⟨0, _⟩ => (0 : Fin 1)
    | ⟨1, _⟩ => ⟨(y 0).val, (y 0).isLt⟩
    | ⟨2, _⟩ => ⟨(y 1).val, (y 1).isLt⟩) ?_).trans ?_
  · rewrite [Shape.rowMajor_val_three, Shape.rowMajor_val_two]
    show (0 * 8 + (y 0).val) * 128 + (y 1).val = (y 0).val * 128 + (y 1).val
    omega
  · refine congrArg x (funext fun a => Fin.ext ?_)
    match a with
    | ⟨0, _⟩ => show s + 1 * 0 = s; omega
    | ⟨1, _⟩ => show 0 + 1 * (y 0).val = (y 0).val; omega
    | ⟨2, _⟩ => show 0 + 1 * (y 1).val = (y 1).val; omega

variable (x0 : Vec Ideal S8x8x128 .f32) (x1 x2 x3 : Vec Ideal S8x128 .f32) (y : S8x128.Idx)

/-- What a point stores as the gradient: the sum of the eight parts. -/
theorem out4_apply : out0_4 x0 x1 x2 x3 y = sum8 fun s => x0 (ixB s y) := by
  unfold out0_4
  rw [View.canon_unit_zero hz]
  unfold k0_pay4
  show shapeCast S8x128 (View.ld x0 r0_0) shapeCasts_S1x8x128_S8x128 y + shapeCast S8x128 (View.ld x0 r0_1) shapeCasts_S1x8x128_S8x128 y + shapeCast S8x128 (View.ld x0 r0_2) shapeCasts_S1x8x128_S8x128 y + shapeCast S8x128 (View.ld x0 r0_3) shapeCasts_S1x8x128_S8x128 y + shapeCast S8x128 (View.ld x0 r0_4) shapeCasts_S1x8x128_S8x128 y + shapeCast S8x128 (View.ld x0 r0_5) shapeCasts_S1x8x128_S8x128 y + shapeCast S8x128 (View.ld x0 r0_6) shapeCasts_S1x8x128_S8x128 y + shapeCast S8x128 (View.ld x0 r0_7) shapeCasts_S1x8x128_S8x128 y = _
  exact congrArg₂ (· + ·) (congrArg₂ (· + ·) (congrArg₂ (· + ·) (congrArg₂ (· + ·) (congrArg₂ (· + ·) (congrArg₂ (· + ·) (congrArg₂ (· + ·)
    (part x0 0 (by decide) _ _ y) (part x0 1 (by decide) _ _ y)) (part x0 2 (by decide) _ _ y)) (part x0 3 (by decide) _ _ y))
    (part x0 4 (by decide) _ _ y)) (part x0 5 (by decide) _ _ y)) (part x0 6 (by decide) _ _ y)) (part x0 7 (by decide) _ _ y)

/-- The same sum where the other results read it. -/
theorem pay5_apply : k0_pay7 x0 x1 x2 x3 y = sum8 fun s => x0 (ixB s y) := by
  rw [← out4_apply x0 x1 x2 x3 y]
  unfold out0_4
  rw [View.canon_unit_zero hz]
  rfl

/-- The first moment it stores. -/
theorem out6_apply : out0_6 x0 x1 x2 x3 y = nm (sum8 fun s => x0 (ixB s y)) (x2 y) := by
  unfold out0_6
  rw [View.canon_unit_zero hz]
  simp only [k0_pay9, k0_pay8, k0_pay6, k0_pay5, View.ld_unit_zero (S := S8x128) hz]
  rw [← pay5_apply x0 x1 x2 x3 y]
  rfl

/-- The second moment it stores. -/
theorem out7_apply : out0_7 x0 x1 x2 x3 y = nv (sum8 fun s => x0 (ixB s y)) (x3 y) := by
  unfold out0_7
  rw [View.canon_unit_zero hz]
  simp only [k0_pay9, k0_pay8, k0_pay6, k0_pay5, View.ld_unit_zero (S := S8x128) hz]
  rw [← pay5_apply x0 x1 x2 x3 y]
  rfl

/-- The change of the weight it stores. -/
theorem out5_apply : out0_5 x0 x1 x2 x3 y = de (x1 y) (sum8 fun s => x0 (ixB s y)) (x2 y) (x3 y) := by
  unfold out0_5
  rw [View.canon_unit_zero hz]
  simp only [k0_pay9, k0_pay8, k0_pay6, k0_pay5, View.ld_unit_zero (S := S8x128) hz]
  rw [← pay5_apply x0 x1 x2 x3 y]
  rfl

/-! ## The blocks the only point reads are the whole arrays -/

variable (m : (ℓ : Loc nD τ sig) → Buf (Elt Ideal) ℓ) (c : Dev nD)

/-- The arguments. -/
abbrev A0 : S8x8x128.Idx → EReal := m ((c.tc : Thread nD τ).loc main_arg0)
abbrev A1 : S8x128.Idx → EReal := m ((c.tc : Thread nD τ).loc main_arg1)
abbrev A2 : S8x128.Idx → EReal := m ((c.tc : Thread nD τ).loc main_arg2)
abbrev A3 : S8x128.Idx → EReal := m ((c.tc : Thread nD τ).loc main_arg3)

/-- The only point. -/
abbrev t0 : Fin cfg0.N := ⟨0, by decide⟩

theorem e0 (w : Fin cfg0.W) (h : ∀ a, (cfg0.win w).index t0 a = 0) (y) (a) :
    (((cfg0.win w).rect t0).emb y a).val = (y a).val :=
  Pipeline.Window.rect_emb_val_of_index_zero _ _ _ (h a) y

theorem ix (s : Fin 8) (y : S8x128.Idx) : ixB s y = Cert.AdCwRefIdeal.Read.idx_main_v0 y s :=
  funext fun a => match a with
    | ⟨0, _⟩ => rfl
    | ⟨1, _⟩ => rfl
    | ⟨2, _⟩ => rfl

theorem in0 : (iblk m c 0 t0 : S8x8x128.Idx → EReal) = A0 m c :=
  Eq.trans (b := (V m c main_arg0 : S8x8x128.Idx → EReal)) (funext fun y => congrArg (V m c main_arg0) (funext fun a => Fin.ext (e0 0 (by decide +kernel) y a))) (V_main_arg0 m c)

theorem in1 : (iblk m c 1 t0 : S8x128.Idx → EReal) = A1 m c :=
  Eq.trans (b := (V m c main_arg1 : S8x128.Idx → EReal)) (funext fun y => congrArg (V m c main_arg1) (funext fun a => Fin.ext (e0 1 (by decide +kernel) y a))) (V_main_arg1 m c)

theorem in2 : (iblk m c 2 t0 : S8x128.Idx → EReal) = A2 m c :=
  Eq.trans (b := (V m c main_arg2 : S8x128.Idx → EReal)) (funext fun y => congrArg (V m c main_arg2) (funext fun a => Fin.ext (e0 2 (by decide +kernel) y a))) (V_main_arg2 m c)

theorem in3 : (iblk m c 3 t0 : S8x128.Idx → EReal) = A3 m c :=
  Eq.trans (b := (V m c main_arg3 : S8x128.Idx → EReal)) (funext fun y => congrArg (V m c main_arg3) (funext fun a => Fin.ext (e0 3 (by decide +kernel) y a))) (V_main_arg3 m c)

/-- The reference's gradient. -/
theorem ref_g (p : S8x8x128.Idx → EReal) (i : S8x128.Idx) :
    Ideal.ofBits .f32 0x00000000#32 + ∑ k, p (Cert.AdCwRefIdeal.Read.idx_main_v0 i k) = Cert.AdCwRefIdeal.Read.val_main_v0 (F := Ideal) p i := by
  rw [Cert.AdCwRefIdeal.Read.val_main_v0_apply]
  rfl

/-- The gradient. -/
theorem arr4 : (dats m 0 c).arrAt 4 cfg0.N
    = (Cert.AdCwRefIdeal.Read.val_main_v0 (F := Ideal) (A0 m c) : S8x128.Idx → EReal) := by
  refine (dats m 0 c).arrAt_eq_of_after_last 4 t0 (by decide +kernel) _ fun j => ?_
  refine (out4_apply (iblk m c 0 t0) (iblk m c 1 t0) (iblk m c 2 t0) (iblk m c 3 t0) j).trans ?_
  rw [in0, sum8_eq]
  simp only [ix]
  rw [ref_g]; rfl

/-- The change of the weight. -/
theorem arr5 : (dats m 0 c).arrAt 5 cfg0.N
    = (Cert.AdCwRefIdeal.Read.val_main_v24 (F := Ideal) (A0 m c) (A1 m c) (A2 m c) (A3 m c) : S8x128.Idx → EReal) := by
  refine (dats m 0 c).arrAt_eq_of_after_last 5 t0 (by decide +kernel) _ fun j => ?_
  refine (out5_apply (iblk m c 0 t0) (iblk m c 1 t0) (iblk m c 2 t0) (iblk m c 3 t0) j).trans ?_
  rw [in0, in1, in2, in3, sum8_eq]
  simp only [ix]
  rw [ref_g]; rfl

/-- The first moment. -/
theorem arr6 : (dats m 0 c).arrAt 6 cfg0.N
    = (Cert.AdCwRefIdeal.Read.val_main_v5 (F := Ideal) (A0 m c) (A2 m c) : S8x128.Idx → EReal) := by
  refine (dats m 0 c).arrAt_eq_of_after_last 6 t0 (by decide +kernel) _ fun j => ?_
  refine (out6_apply (iblk m c 0 t0) (iblk m c 1 t0) (iblk m c 2 t0) (iblk m c 3 t0) j).trans ?_
  rw [in0, in2, sum8_eq]
  simp only [ix]
  rw [ref_g]; rfl

/-- The second moment. -/
theorem arr7 : (dats m 0 c).arrAt 7 cfg0.N
    = (Cert.AdCwRefIdeal.Read.val_main_v11 (F := Ideal) (A0 m c) (A3 m c) : S8x128.Idx → EReal) := by
  refine (dats m 0 c).arrAt_eq_of_after_last 7 t0 (by decide +kernel) _ fun j => ?_
  refine (out7_apply (iblk m c 0 t0) (iblk m c 1 t0) (iblk m c 2 t0) (iblk m c 3 t0) j).trans ?_
  rw [in0, in3, sum8_eq]
  simp only [ix]
  rw [ref_g]; rfl

/-- The optimiser step of the convolution's weight, as rows: the kernel and the reference's lines end with equal results from equal arguments. -/
theorem algebraic : Cert.algebraic_AdCwIdeal_AdCwRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdCwIdeal.Value.run_blocks (F := Ideal) m ρ, ?_⟩
  refine (θ_run Cert.AdCwRefIdeal.defs _ _).mono (fun _ h c => ⟨(h c).1.trans ?_, (h c).2.1.trans ?_, (h c).2.2.1.trans ?_,
    (h c).2.2.2.1.trans ?_, (h c).2.2.2.2⟩) (Cert.AdCwRefIdeal.Value.run (F := Ideal) m' ρ')
  all_goals obtain ⟨h0, h1, h2, h3⟩ := hagree c
  · rw [Cert.AdCwRefIdeal.Read.val_main_v0_eq, h0]
    exact (arr4 m c).symm
  · rw [Cert.AdCwRefIdeal.Read.val_main_v24_eq, h0, h1, h2, h3]
    exact (arr5 m c).symm
  · rw [Cert.AdCwRefIdeal.Read.val_main_v5_eq, h0, h2]
    exact (arr6 m c).symm
  · rw [Cert.AdCwRefIdeal.Read.val_main_v11_eq, h0, h3]
    exact (arr7 m c).symm

end Cert.AdCwIdeal.Step

end
-- ==== Proof.AdPreClaim.lean ====
/-
  The optimiser step of the first norm's scale.
-/
module

public import proofs.«01_k».proof.Defs
public import proofs.«01_k».proof.Proof.AdFun
public import proofs.«01_k».proof.Proof.Gen.AdPreIdeal.Value
public import proofs.«01_k».proof.Proof.Gen.AdPreRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdPreIdeal.Step

open Cert.AdPreIdeal Cert.AdPreIdeal.Gen Cert.AdFun

theorem hz : (![0, 0] : Fin 2 → Nat) = fun _ => 0 := funext fun a => by fin_cases a <;> rfl

/-- The entry `(r, q)` of a part's block. -/
abbrev ixB (s : Fin 8) (y : S16x128.Idx) : S8x16x128.Idx := fun a => match a with
  | ⟨0, _⟩ => s
  | ⟨1, _⟩ => ⟨(y 0).val, (y 0).isLt⟩
  | ⟨2, _⟩ => ⟨(y 1).val, (y 1).isLt⟩

/-- Part `s` of the block, its leading axis dropped. -/
theorem part (x : S8x16x128.Idx → EReal) (s : ℕ) (hs : s < 8)
    (inb : ∀ a, (![s, 0, 0] : Fin 3 → ℕ) a + S1x16x128.size a ≤ S8x16x128.size a) (h : S1x16x128.ShapeCasts S16x128) (y : S16x128.Idx) :
    shapeCast S16x128 (fun z : S1x16x128.Idx => x ((Rect.unit (s := S8x16x128) ![s, 0, 0] S1x16x128.size inb).idx z)) h y = x (ixB ⟨s, hs⟩ y) := by
  refine (shapeCast_apply (s := S1x16x128) _ h y (fun a => match a with
    | ⟨0, _⟩ => (0 : Fin 1)
    | ⟨1, _⟩ => ⟨(y 0).val, (y 0).isLt⟩
    | ⟨2, _⟩ => ⟨(y 1).val, (y 1).isLt⟩) ?_).trans ?_
  · rewrite [Shape.rowMajor_val_three, Shape.rowMajor_val_two]
    show (0 * 16 + (y 0).val) * 128 + (y 1).val = (y 0).val * 128 + (y 1).val
    omega
  · refine congrArg x (funext fun a => Fin.ext ?_)
    match a with
    | ⟨0, _⟩ => show s + 1 * 0 = s; omega
    | ⟨1, _⟩ => show 0 + 1 * (y 0).val = (y 0).val; omega
    | ⟨2, _⟩ => show 0 + 1 * (y 1).val = (y 1).val; omega

variable (x0 : Vec Ideal S8x16x128 .f32) (x1 x2 x3 : Vec Ideal S16x128 .f32) (y : S16x128.Idx)

/-- What a point stores as the gradient: the sum of the eight parts. -/
theorem out4_apply : out0_4 x0 x1 x2 x3 y = sum8 fun s => x0 (ixB s y) := by
  unfold out0_4
  rw [View.canon_unit_zero hz]
  unfold k0_pay4
  show shapeCast S16x128 (View.ld x0 r0_0) shapeCasts_S1x16x128_S16x128 y + shapeCast S16x128 (View.ld x0 r0_1) shapeCasts_S1x16x128_S16x128 y + shapeCast S16x128 (View.ld x0 r0_2) shapeCasts_S1x16x128_S16x128 y + shapeCast S16x128 (View.ld x0 r0_3) shapeCasts_S1x16x128_S16x128 y + shapeCast S16x128 (View.ld x0 r0_4) shapeCasts_S1x16x128_S16x128 y + shapeCast S16x128 (View.ld x0 r0_5) shapeCasts_S1x16x128_S16x128 y + shapeCast S16x128 (View.ld x0 r0_6) shapeCasts_S1x16x128_S16x128 y + shapeCast S16x128 (View.ld x0 r0_7) shapeCasts_S1x16x128_S16x128 y = _
  exact congrArg₂ (· + ·) (congrArg₂ (· + ·) (congrArg₂ (· + ·) (congrArg₂ (· + ·) (congrArg₂ (· + ·) (congrArg₂ (· + ·) (congrArg₂ (· + ·)
    (part x0 0 (by decide) _ _ y) (part x0 1 (by decide) _ _ y)) (part x0 2 (by decide) _ _ y)) (part x0 3 (by decide) _ _ y))
    (part x0 4 (by decide) _ _ y)) (part x0 5 (by decide) _ _ y)) (part x0 6 (by decide) _ _ y)) (part x0 7 (by decide) _ _ y)

/-- The same sum where the other results read it. -/
theorem pay5_apply : k0_pay6 x0 x1 x2 x3 y = sum8 fun s => x0 (ixB s y) := by
  rw [← out4_apply x0 x1 x2 x3 y]
  unfold out0_4
  rw [View.canon_unit_zero hz]
  rfl

/-- The first moment it stores. -/
theorem out6_apply : out0_6 x0 x1 x2 x3 y = nm (sum8 fun s => x0 (ixB s y)) (x2 y) := by
  unfold out0_6
  rw [View.canon_unit_zero hz]
  simp only [k0_pay7, k0_pay5, k0_pay2, k0_pay3, shapeCast_self, View.ld_unit_zero (S := S16x128) hz]
  rw [← pay5_apply x0 x1 x2 x3 y]
  rfl

/-- The second moment it stores. -/
theorem out7_apply : out0_7 x0 x1 x2 x3 y = nv (sum8 fun s => x0 (ixB s y)) (x3 y) := by
  unfold out0_7
  rw [View.canon_unit_zero hz]
  simp only [k0_pay7, k0_pay5, k0_pay2, k0_pay3, shapeCast_self, View.ld_unit_zero (S := S16x128) hz]
  rw [← pay5_apply x0 x1 x2 x3 y]
  rfl

/-- The change of the weight it stores. -/
theorem out5_apply : out0_5 x0 x1 x2 x3 y = de (x1 y) (sum8 fun s => x0 (ixB s y)) (x2 y) (x3 y) := by
  unfold out0_5
  rw [View.canon_unit_zero hz]
  simp only [k0_pay7, k0_pay5, k0_pay2, k0_pay3, shapeCast_self, View.ld_unit_zero (S := S16x128) hz]
  rw [← pay5_apply x0 x1 x2 x3 y]
  rfl

/-! ## The blocks the only point reads are the whole arrays -/

variable (m : (ℓ : Loc nD τ sig) → Buf (Elt Ideal) ℓ) (c : Dev nD)

/-- The arguments. -/
abbrev A0 : S8x16x128.Idx → EReal := m ((c.tc : Thread nD τ).loc main_arg0)
abbrev A1 : S1x2048.Idx → EReal := m ((c.tc : Thread nD τ).loc main_arg1)
abbrev A2 : S1x2048.Idx → EReal := m ((c.tc : Thread nD τ).loc main_arg2)
abbrev A3 : S1x2048.Idx → EReal := m ((c.tc : Thread nD τ).loc main_arg3)

/-- The only point. -/
abbrev t0 : Fin cfg0.N := ⟨0, by decide⟩

theorem e0 (w : Fin cfg0.W) (h : ∀ a, (cfg0.win w).index t0 a = 0) (y) (a) :
    (((cfg0.win w).rect t0).emb y a).val = (y a).val :=
  Pipeline.Window.rect_emb_val_of_index_zero _ _ _ (h a) y

theorem ix (s : Fin 8) (y : S16x128.Idx) : ixB s y = Cert.AdPreRefIdeal.Read.idx_main_v3 y s :=
  funext fun a => match a with
    | ⟨0, _⟩ => rfl
    | ⟨1, _⟩ => rfl
    | ⟨2, _⟩ => rfl

/-- The row a weight or a moment comes as, laid out as 16 rows of 128. -/
def rows (x : S1x2048.Idx → EReal) : S16x128.Idx → EReal := shapeCast S16x128 x shapeCasts_S1x2048_S16x128

theorem rows1 : (V m c main_v0 : S16x128.Idx → EReal) = rows (A1 m c) := by
  unfold_abbrev_sides
  after_results
  rfl

theorem rows2 : (V m c main_v1 : S16x128.Idx → EReal) = rows (A2 m c) := by
  unfold_abbrev_sides
  after_results
  rfl

theorem rows3 : (V m c main_v2 : S16x128.Idx → EReal) = rows (A3 m c) := by
  unfold_abbrev_sides
  after_results
  rfl

theorem in0 : (iblk m c 0 t0 : S8x16x128.Idx → EReal) = A0 m c :=
  Eq.trans (b := (V m c main_arg0 : S8x16x128.Idx → EReal)) (funext fun y => congrArg (V m c main_arg0) (funext fun a => Fin.ext (e0 0 (by decide +kernel) y a))) (V_main_arg0 m c)

theorem in1 : (iblk m c 1 t0 : S16x128.Idx → EReal) = Cert.AdPreIdeal.Step.rows (A1 m c) :=
  Eq.trans (b := (V m c main_v0 : S16x128.Idx → EReal)) (funext fun y => congrArg (V m c main_v0) (funext fun a => Fin.ext (e0 1 (by decide +kernel) y a))) (rows1 m c)

theorem in2 : (iblk m c 2 t0 : S16x128.Idx → EReal) = Cert.AdPreIdeal.Step.rows (A2 m c) :=
  Eq.trans (b := (V m c main_v1 : S16x128.Idx → EReal)) (funext fun y => congrArg (V m c main_v1) (funext fun a => Fin.ext (e0 2 (by decide +kernel) y a))) (rows2 m c)

theorem in3 : (iblk m c 3 t0 : S16x128.Idx → EReal) = Cert.AdPreIdeal.Step.rows (A3 m c) :=
  Eq.trans (b := (V m c main_v2 : S16x128.Idx → EReal)) (funext fun y => congrArg (V m c main_v2) (funext fun a => Fin.ext (e0 3 (by decide +kernel) y a))) (rows3 m c)

/-- The reference's gradient. -/
theorem ref_g (p : S8x16x128.Idx → EReal) (i : S16x128.Idx) :
    Ideal.ofBits .f32 0x00000000#32 + ∑ k, p (Cert.AdPreRefIdeal.Read.idx_main_v3 i k) = Cert.AdPreRefIdeal.Read.val_main_v3 (F := Ideal) p i := by
  rw [Cert.AdPreRefIdeal.Read.val_main_v3_apply]
  rfl

/-- The gradient. -/
theorem arr4 : (dats m 0 c).arrAt 4 cfg0.N
    = (Cert.AdPreRefIdeal.Read.val_main_v3 (F := Ideal) (A0 m c) : S16x128.Idx → EReal) := by
  refine (dats m 0 c).arrAt_eq_of_after_last 4 t0 (by decide +kernel) _ fun j => ?_
  refine (out4_apply (iblk m c 0 t0) (iblk m c 1 t0) (iblk m c 2 t0) (iblk m c 3 t0) j).trans ?_
  rw [in0, sum8_eq]
  simp only [ix]
  rw [ref_g]; rfl

/-- The change of the weight. -/
theorem arr5 : (dats m 0 c).arrAt 5 cfg0.N
    = (Cert.AdPreRefIdeal.Read.val_main_v27 (F := Ideal) (A0 m c) (A1 m c) (A2 m c) (A3 m c) : S16x128.Idx → EReal) := by
  refine (dats m 0 c).arrAt_eq_of_after_last 5 t0 (by decide +kernel) _ fun j => ?_
  refine (out5_apply (iblk m c 0 t0) (iblk m c 1 t0) (iblk m c 2 t0) (iblk m c 3 t0) j).trans ?_
  rw [in0, in1, in2, in3, sum8_eq]
  simp only [ix]
  rw [ref_g]; rfl

/-- The first moment. -/
theorem arr6 : (dats m 0 c).arrAt 6 cfg0.N
    = (Cert.AdPreRefIdeal.Read.val_main_v8 (F := Ideal) (A0 m c) (A2 m c) : S16x128.Idx → EReal) := by
  refine (dats m 0 c).arrAt_eq_of_after_last 6 t0 (by decide +kernel) _ fun j => ?_
  refine (out6_apply (iblk m c 0 t0) (iblk m c 1 t0) (iblk m c 2 t0) (iblk m c 3 t0) j).trans ?_
  rw [in0, in2, sum8_eq]
  simp only [ix]
  rw [ref_g]; rfl

/-- The second moment. -/
theorem arr7 : (dats m 0 c).arrAt 7 cfg0.N
    = (Cert.AdPreRefIdeal.Read.val_main_v14 (F := Ideal) (A0 m c) (A3 m c) : S16x128.Idx → EReal) := by
  refine (dats m 0 c).arrAt_eq_of_after_last 7 t0 (by decide +kernel) _ fun j => ?_
  refine (out7_apply (iblk m c 0 t0) (iblk m c 1 t0) (iblk m c 2 t0) (iblk m c 3 t0) j).trans ?_
  rw [in0, in3, sum8_eq]
  simp only [ix]
  rw [ref_g]; rfl

/-- The optimiser step of the first norm's scale: the kernel and the reference's lines end with equal results from equal arguments. -/
theorem algebraic : Cert.algebraic_AdPreIdeal_AdPreRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdPreIdeal.Value.run_blocks (F := Ideal) m ρ, ?_⟩
  refine (θ_run Cert.AdPreRefIdeal.defs _ _).mono (fun _ h c => ⟨(h c).1.trans ?_, (h c).2.1.trans ?_, (h c).2.2.1.trans ?_,
    (h c).2.2.2.1.trans ?_, (h c).2.2.2.2⟩) (Cert.AdPreRefIdeal.Value.run (F := Ideal) m' ρ')
  all_goals obtain ⟨h0, h1, h2, h3⟩ := hagree c
  · rw [Cert.AdPreRefIdeal.Read.val_main_v3_eq, h0]
    exact (arr4 m c).symm
  · rw [Cert.AdPreRefIdeal.Read.val_main_v27_eq, h0, h1, h2, h3]
    exact (arr5 m c).symm
  · rw [Cert.AdPreRefIdeal.Read.val_main_v8_eq, h0, h2]
    exact (arr6 m c).symm
  · rw [Cert.AdPreRefIdeal.Read.val_main_v14_eq, h0, h3]
    exact (arr7 m c).symm

end Cert.AdPreIdeal.Step

end
-- ==== Proof.SumClaim.lean ====
/-
  The sum of the eight parts of the small weights' gradients.
-/
module

public import proofs.«01_k».proof.Defs
public import proofs.«01_k».proof.Proof.AdFun
public import proofs.«01_k».proof.Proof.Gen.SumIdeal.Value
public import proofs.«01_k».proof.Proof.Gen.SumRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.SumIdeal.Step

open Cert.SumIdeal Cert.SumIdeal.Gen Cert.AdFun

theorem hz : (![0, 0] : Fin 2 → Nat) = fun _ => 0 := funext fun a => by fin_cases a <;> rfl

/-- The entry `(r, q)` of a part's block. -/
abbrev ixB (s : Fin 8) (y : S400x128.Idx) : S8x400x128.Idx := fun a => match a with
  | ⟨0, _⟩ => s
  | ⟨1, _⟩ => ⟨(y 0).val, (y 0).isLt⟩
  | ⟨2, _⟩ => ⟨(y 1).val, (y 1).isLt⟩

/-- Part `s` of the block, its leading axis dropped. -/
theorem part (x : S8x400x128.Idx → EReal) (s : ℕ) (hs : s < 8)
    (inb : ∀ a, (![s, 0, 0] : Fin 3 → ℕ) a + S1x400x128.size a ≤ S8x400x128.size a) (h : S1x400x128.ShapeCasts S400x128) (y : S400x128.Idx) :
    shapeCast S400x128 (fun z : S1x400x128.Idx => x ((Rect.unit (s := S8x400x128) ![s, 0, 0] S1x400x128.size inb).idx z)) h y = x (ixB ⟨s, hs⟩ y) := by
  refine (shapeCast_apply (s := S1x400x128) _ h y (fun a => match a with
    | ⟨0, _⟩ => (0 : Fin 1)
    | ⟨1, _⟩ => ⟨(y 0).val, (y 0).isLt⟩
    | ⟨2, _⟩ => ⟨(y 1).val, (y 1).isLt⟩) ?_).trans ?_
  · rewrite [Shape.rowMajor_val_three, Shape.rowMajor_val_two]
    show (0 * 400 + (y 0).val) * 128 + (y 1).val = (y 0).val * 128 + (y 1).val
    omega
  · refine congrArg x (funext fun a => Fin.ext ?_)
    match a with
    | ⟨0, _⟩ => show s + 1 * 0 = s; omega
    | ⟨1, _⟩ => show 0 + 1 * (y 0).val = (y 0).val; omega
    | ⟨2, _⟩ => show 0 + 1 * (y 1).val = (y 1).val; omega

variable (x0 : Vec Ideal S8x400x128 .f32) (y : S400x128.Idx)

/-- What the kernel stores: the sum of the eight parts. -/
theorem out1_apply : out0_1 x0 y = sum8 fun s => x0 (ixB s y) := by
  unfold out0_1
  rw [View.canon_unit_zero hz]
  unfold k0_pay1
  show shapeCast S400x128 (View.ld x0 r0_0) shapeCasts_S1x400x128_S400x128 y + shapeCast S400x128 (View.ld x0 r0_1) shapeCasts_S1x400x128_S400x128 y + shapeCast S400x128 (View.ld x0 r0_2) shapeCasts_S1x400x128_S400x128 y + shapeCast S400x128 (View.ld x0 r0_3) shapeCasts_S1x400x128_S400x128 y + shapeCast S400x128 (View.ld x0 r0_4) shapeCasts_S1x400x128_S400x128 y + shapeCast S400x128 (View.ld x0 r0_5) shapeCasts_S1x400x128_S400x128 y + shapeCast S400x128 (View.ld x0 r0_6) shapeCasts_S1x400x128_S400x128 y + shapeCast S400x128 (View.ld x0 r0_7) shapeCasts_S1x400x128_S400x128 y = _
  exact congrArg₂ (· + ·) (congrArg₂ (· + ·) (congrArg₂ (· + ·) (congrArg₂ (· + ·) (congrArg₂ (· + ·) (congrArg₂ (· + ·) (congrArg₂ (· + ·)
    (part x0 0 (by decide) _ _ y) (part x0 1 (by decide) _ _ y)) (part x0 2 (by decide) _ _ y)) (part x0 3 (by decide) _ _ y))
    (part x0 4 (by decide) _ _ y)) (part x0 5 (by decide) _ _ y)) (part x0 6 (by decide) _ _ y)) (part x0 7 (by decide) _ _ y)

variable (m : (ℓ : Loc nD τ sig) → Buf (Elt Ideal) ℓ) (c : Dev nD)

/-- The argument. -/
abbrev A0 : S8x400x128.Idx → EReal := m ((c.tc : Thread nD τ).loc main_arg0)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)

theorem blk0 (t : Fin cfg0.N) (s : Fin 8) (y : S400x128.Idx) :
    (iblk m c 0 t : S8x400x128.Idx → EReal) (ixB s y) = (A0 m c) (Cert.SumRefIdeal.Read.idx_main_v0 y s) := by
  unfold iblk
  rw [View.read_apply]
  show V m c main_arg0 _ = _
  rw [V_main_arg0]
  refine congrArg (A0 m c) (funext fun a => Fin.ext ?_)
  match a with
  | ⟨0, _⟩ => show win0_0.index t 0 * 8 + 1 * s.val = s.val; rw [(idx0 t).1]; omega
  | ⟨1, _⟩ => show win0_0.index t 1 * 400 + 1 * (y 0).val = (y 0).val; rw [(idx0 t).2.1]; omega
  | ⟨2, _⟩ => show win0_0.index t 2 * 128 + 1 * (y 1).val = (y 1).val; rw [(idx0 t).2.2]; omega

/-- The reference's sum. -/
theorem ref_g (p : S8x400x128.Idx → EReal) (i : S400x128.Idx) :
    Ideal.ofBits .f32 0x00000000#32 + ∑ k, p (Cert.SumRefIdeal.Read.idx_main_v0 i k) = Cert.SumRefIdeal.Read.val_main_v0 (F := Ideal) p i := by
  rw [Cert.SumRefIdeal.Read.val_main_v0_apply]
  rfl

/-- The array the kernel leaves. -/
theorem arr1 : (dats m 0 c).arrAt 1 cfg0.N
    = (Cert.SumRefIdeal.Read.val_main_v0 (F := Ideal) (A0 m c) : S400x128.Idx → EReal) := by
  refine (dats m 0 c).arrAt_eq_of_covers 1 _ (by decide +kernel) fun t hf y => ?_
  blk_simp
  rw [after0_1]
  refine (out1_apply _ _).trans ?_
  simp only [blk0]
  rw [sum8_eq, ref_g]
  refine congrArg _ (funext fun a => Fin.ext ?_)
  match a with
  | ⟨0, _⟩ => show (y 0).val = win0_1.index t 0 * 400 + 1 * (y 0).val; rw [(idx1 t).1]; omega
  | ⟨1, _⟩ => show (y 1).val = win0_1.index t 1 * 128 + 1 * (y 1).val; rw [(idx1 t).2]; omega

/-- The kernel and the reference's line end with equal results from equal arguments. -/
theorem algebraic : Cert.algebraic_SumIdeal_SumRefIdeal := by
  intro m ρ m' ρ' _ hagree
  refine ⟨fun c => (dats m 0 c).arrAt 1 cfg0.N, Cert.SumIdeal.Value.run_blocks (F := Ideal) m ρ, ?_⟩
  refine (θ_run Cert.SumRefIdeal.defs _ _).mono (fun _ h c => ⟨(h c).1.trans ?_, (h c).2⟩) (Cert.SumRefIdeal.Value.run (F := Ideal) m' ρ')
  have h0 := hagree c
  rw [Cert.SumRefIdeal.Read.val_main_v0_eq, h0]
  exact (arr1 m c).symm

end Cert.SumIdeal.Step

end
-- ==== Proof.AdSmRun.lean ====
/-
  The optimiser step of the thirteen small weights: its run, over any numbers. Forty windows are read, fifty-three are
  written, at one grid point; every window is its whole array.
-/
module

public import proofs.«01_k».proof.Defs
public import proofs.«01_k».proof.Proof.Gen.AdSmIdeal.Launch
public import proofs.«01_k».proof.Proof.Gen.AdSmIdeal.Skeleton
public import proofs.«01_k».proof.Proof.Gen.AdSmIdeal.Points
public import proofs.«01_k».proof.Proof.Gen.AdSm
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdSmIdeal.Step

open Cert.AdSmIdeal Cert.AdSmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the launch finds -/

/-- The buffers after the host has laid each argument out as rows. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 1000000 in
/-- The program is that layout and the launch. -/
theorem host_region (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

set_option maxHeartbeats 1000000 in
/-- The layout writes none but its own results. -/
theorem kept (c : Dev nD) (b : Ref sig .tc) (hb : b ∉ ([main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39] : List (Ref sig .tc))) :
    V m c b = m ((c : Thread nD τ).loc b) := by
  simp only [List.mem_cons, List.not_mem_nil, or_false, not_or] at hb
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.reshape_writes, Finset.mem_singleton]
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hb
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17, StableHlo.devRef_ne_of_ne h18, StableHlo.devRef_ne_of_ne h19, StableHlo.devRef_ne_of_ne h20, StableHlo.devRef_ne_of_ne h21, StableHlo.devRef_ne_of_ne h22, StableHlo.devRef_ne_of_ne h23, StableHlo.devRef_ne_of_ne h24, StableHlo.devRef_ne_of_ne h25, StableHlo.devRef_ne_of_ne h26, StableHlo.devRef_ne_of_ne h27, StableHlo.devRef_ne_of_ne h28, StableHlo.devRef_ne_of_ne h29, StableHlo.devRef_ne_of_ne h30, StableHlo.devRef_ne_of_ne h31, StableHlo.devRef_ne_of_ne h32, StableHlo.devRef_ne_of_ne h33, StableHlo.devRef_ne_of_ne h34, StableHlo.devRef_ne_of_ne h35, StableHlo.devRef_ne_of_ne h36, StableHlo.devRef_ne_of_ne h37, StableHlo.devRef_ne_of_ne h38, StableHlo.devRef_ne_of_ne h39⟩

/-- What window `w` reads at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores

A weight's rows of the packed gradients are read through the rectangle `G` of their first row; whole blocks through `RA`,
`RB` and `RC`. -/

abbrev RA : Rect S8x128 := Rect.unit (s := S8x128) ![0, 0] S8x128.size inb_S8x128_S8x128_0_0
abbrev RB : Rect S1024x128 := Rect.unit (s := S1024x128) ![0, 0] S1024x128.size inb_S1024x128_S1024x128_0_0
abbrev RC : Rect S16x128 := Rect.unit (s := S16x128) ![0, 0] S16x128.size inb_S16x128_S16x128_0_0
abbrev G0 : Rect S3200x128 := Rect.unit (s := S3200x128) ![0, 0] S8x128.size inb_S3200x128_S8x128_0_0
abbrev G8 : Rect S3200x128 := Rect.unit (s := S3200x128) ![8, 0] S8x128.size inb_S3200x128_S8x128_8_0
abbrev G16 : Rect S3200x128 := Rect.unit (s := S3200x128) ![16, 0] S1024x128.size inb_S3200x128_S1024x128_16_0
abbrev G1040 : Rect S3200x128 := Rect.unit (s := S3200x128) ![1040, 0] S8x128.size inb_S3200x128_S8x128_1040_0
abbrev G1048 : Rect S3200x128 := Rect.unit (s := S3200x128) ![1048, 0] S8x128.size inb_S3200x128_S8x128_1048_0
abbrev G1056 : Rect S3200x128 := Rect.unit (s := S3200x128) ![1056, 0] S1024x128.size inb_S3200x128_S1024x128_1056_0
abbrev G2080 : Rect S3200x128 := Rect.unit (s := S3200x128) ![2080, 0] S8x128.size inb_S3200x128_S8x128_2080_0
abbrev G2088 : Rect S3200x128 := Rect.unit (s := S3200x128) ![2088, 0] S1024x128.size inb_S3200x128_S1024x128_2088_0
abbrev G3112 : Rect S3200x128 := Rect.unit (s := S3200x128) ![3112, 0] S8x128.size inb_S3200x128_S8x128_3112_0
abbrev G3120 : Rect S3200x128 := Rect.unit (s := S3200x128) ![3120, 0] S8x128.size inb_S3200x128_S8x128_3120_0
abbrev G3128 : Rect S3200x128 := Rect.unit (s := S3200x128) ![3128, 0] S8x128.size inb_S3200x128_S8x128_3128_0
abbrev G3136 : Rect S3200x128 := Rect.unit (s := S3200x128) ![3136, 0] S8x128.size inb_S3200x128_S8x128_3136_0
abbrev G3144 : Rect S3200x128 := Rect.unit (s := S3200x128) ![3144, 0] S16x128.size inb_S3200x128_S16x128_3144_0
abbrev G3160 : Rect S3200x128 := Rect.unit (s := S3200x128) ![3160, 0] S8x128.size inb_S3200x128_S8x128_3160_0

def o40 (x0 : Vec F S3200x128 .f32) : Vec F S8x128 .f32 :=
  View.canon [⟨RA, k0_pay3 (View.ld x0 G0)⟩]
def o41 (x0 : Vec F S3200x128 .f32) (x1 x2 x3 : Vec F S8x128 .f32) : Vec F S8x128 .f32 :=
  View.canon [⟨RA, k0_pay8 (k0_pay6 (View.ld x0 G0) (View.ld x2 RA) (View.ld x3 RA) (View.ld x1 RA)) (k0_pay7 (F := F))⟩]
def o42 (x0 : Vec F S3200x128 .f32) (x2 : Vec F S8x128 .f32) : Vec F S8x128 .f32 :=
  View.canon [⟨RA, k0_pay4 (View.ld x0 G0) (View.ld x2 RA)⟩]
def o43 (x0 : Vec F S3200x128 .f32) (x3 : Vec F S8x128 .f32) : Vec F S8x128 .f32 :=
  View.canon [⟨RA, k0_pay5 (View.ld x0 G0) (View.ld x3 RA)⟩]
def o44 (x0 : Vec F S3200x128 .f32) : Vec F S8x128 .f32 :=
  View.canon [⟨RA, k0_pay9 (View.ld x0 G8)⟩]
def o45 (x0 : Vec F S3200x128 .f32) (x4 x5 x6 : Vec F S8x128 .f32) : Vec F S8x128 .f32 :=
  View.canon [⟨RA, k0_pay14 (k0_pay12 (View.ld x0 G8) (View.ld x5 RA) (View.ld x6 RA)) (k0_pay13 (View.ld x4 RA)) (Scalar.ofBits .f32 0x3C23D70A#32)⟩]
def o46 (x0 : Vec F S3200x128 .f32) (x5 : Vec F S8x128 .f32) : Vec F S8x128 .f32 :=
  View.canon [⟨RA, k0_pay10 (View.ld x0 G8) (View.ld x5 RA)⟩]
def o47 (x0 : Vec F S3200x128 .f32) (x6 : Vec F S8x128 .f32) : Vec F S8x128 .f32 :=
  View.canon [⟨RA, k0_pay11 (View.ld x0 G8) (View.ld x6 RA)⟩]
def o48 (x0 : Vec F S3200x128 .f32) : Vec F S1024x128 .f32 :=
  View.canon [⟨RB, k0_pay15 (View.ld x0 G16)⟩]
def o49 (x0 : Vec F S3200x128 .f32) (x7 x8 x9 : Vec F S1024x128 .f32) : Vec F S1024x128 .f32 :=
  View.canon [⟨RB, k0_pay19 (k0_pay18 (View.ld x0 G16) (View.ld x8 RB) (View.ld x9 RB)) (View.ld x7 RB)⟩]
def o50 (x0 : Vec F S3200x128 .f32) (x8 : Vec F S1024x128 .f32) : Vec F S1024x128 .f32 :=
  View.canon [⟨RB, k0_pay16 (View.ld x0 G16) (View.ld x8 RB)⟩]
def o51 (x0 : Vec F S3200x128 .f32) (x9 : Vec F S1024x128 .f32) : Vec F S1024x128 .f32 :=
  View.canon [⟨RB, k0_pay17 (View.ld x0 G16) (View.ld x9 RB)⟩]
def o52 (x0 : Vec F S3200x128 .f32) : Vec F S8x128 .f32 :=
  View.canon [⟨RA, k0_pay20 (View.ld x0 G1040)⟩]
def o53 (x0 : Vec F S3200x128 .f32) (x10 x11 x12 : Vec F S8x128 .f32) : Vec F S8x128 .f32 :=
  View.canon [⟨RA, k0_pay25 (k0_pay23 (View.ld x0 G1040) (View.ld x11 RA)) (k0_pay24 (View.ld x0 G1040) (View.ld x12 RA)) (View.ld x10 RA)⟩]
def o54 (x0 : Vec F S3200x128 .f32) (x11 : Vec F S8x128 .f32) : Vec F S8x128 .f32 :=
  View.canon [⟨RA, k0_pay21 (View.ld x0 G1040) (View.ld x11 RA)⟩]
def o55 (x0 : Vec F S3200x128 .f32) (x12 : Vec F S8x128 .f32) : Vec F S8x128 .f32 :=
  View.canon [⟨RA, k0_pay22 (View.ld x0 G1040) (View.ld x12 RA)⟩]
def o56 (x0 : Vec F S3200x128 .f32) : Vec F S8x128 .f32 :=
  View.canon [⟨RA, k0_pay26 (View.ld x0 G1048)⟩]
def o57 (x0 : Vec F S3200x128 .f32) (x13 x14 x15 : Vec F S8x128 .f32) : Vec F S8x128 .f32 :=
  View.canon [⟨RA, k0_pay29 (k0_pay27 (View.ld x0 G1048) (View.ld x14 RA)) (k0_pay28 (View.ld x0 G1048) (View.ld x15 RA)) (Scalar.ofBits .f32 0x3F26BD02#32) (View.ld x13 RA)⟩]
def o58 (x0 : Vec F S3200x128 .f32) (x14 : Vec F S8x128 .f32) : Vec F S8x128 .f32 :=
  View.canon [⟨RA, k0_pay27 (View.ld x0 G1048) (View.ld x14 RA)⟩]
def o59 (x0 : Vec F S3200x128 .f32) (x15 : Vec F S8x128 .f32) : Vec F S8x128 .f32 :=
  View.canon [⟨RA, k0_pay28 (View.ld x0 G1048) (View.ld x15 RA)⟩]
def o60 (x0 : Vec F S3200x128 .f32) : Vec F S1024x128 .f32 :=
  View.canon [⟨RB, k0_pay30 (View.ld x0 G1056)⟩]
def o61 (x0 : Vec F S3200x128 .f32) (x16 x17 x18 : Vec F S1024x128 .f32) : Vec F S1024x128 .f32 :=
  View.canon [⟨RB, k0_pay33 (k0_pay31 (View.ld x0 G1056) (View.ld x17 RB)) (k0_pay32 (View.ld x0 G1056) (View.ld x18 RB)) (View.ld x16 RB)⟩]
def o62 (x0 : Vec F S3200x128 .f32) (x17 : Vec F S1024x128 .f32) : Vec F S1024x128 .f32 :=
  View.canon [⟨RB, k0_pay31 (View.ld x0 G1056) (View.ld x17 RB)⟩]
def o63 (x0 : Vec F S3200x128 .f32) (x18 : Vec F S1024x128 .f32) : Vec F S1024x128 .f32 :=
  View.canon [⟨RB, (k0_pay32 (View.ld x0 G1056) (View.ld x18 RB))⟩]
def o64 (x0 : Vec F S3200x128 .f32) : Vec F S8x128 .f32 :=
  View.canon [⟨RA, k0_pay34 (View.ld x0 G2080)⟩]
def o65 (x0 : Vec F S3200x128 .f32) (x19 x20 x21 : Vec F S8x128 .f32) : Vec F S8x128 .f32 :=
  View.canon [⟨RA, k0_pay39 (k0_pay35 (View.ld x0 G2080) (View.ld x20 RA)) (k0_pay36 (View.ld x21 RA)) (k0_pay37 (View.ld x0 G2080)) (View.ld x19 RA)⟩]
def o66 (x0 : Vec F S3200x128 .f32) (x20 : Vec F S8x128 .f32) : Vec F S8x128 .f32 :=
  View.canon [⟨RA, (k0_pay35 (View.ld x0 G2080) (View.ld x20 RA))⟩]
def o67 (x0 : Vec F S3200x128 .f32) (x21 : Vec F S8x128 .f32) : Vec F S8x128 .f32 :=
  View.canon [⟨RA, k0_pay38 (k0_pay36 (View.ld x21 RA)) (k0_pay37 (View.ld x0 G2080))⟩]
def o68 (x0 : Vec F S3200x128 .f32) : Vec F S1024x128 .f32 :=
  View.canon [⟨RB, k0_pay40 (View.ld x0 G2088)⟩]
def o69 (x0 : Vec F S3200x128 .f32) (x22 x23 x24 : Vec F S1024x128 .f32) : Vec F S1024x128 .f32 :=
  View.canon [⟨RB, k0_pay45 (k0_pay40 (View.ld x0 G2088)) (k0_pay41 (View.ld x0 G2088) (View.ld x23 RB)) (k0_pay42 (View.ld x24 RB)) (k0_pay43 (F := F)) (View.ld x22 RB)⟩]
def o70 (x0 : Vec F S3200x128 .f32) (x23 : Vec F S1024x128 .f32) : Vec F S1024x128 .f32 :=
  View.canon [⟨RB, (k0_pay41 (View.ld x0 G2088) (View.ld x23 RB))⟩]
def o71 (x0 : Vec F S3200x128 .f32) (x24 : Vec F S1024x128 .f32) : Vec F S1024x128 .f32 :=
  View.canon [⟨RB, k0_pay44 (k0_pay40 (View.ld x0 G2088)) (k0_pay42 (View.ld x24 RB)) (k0_pay43 (F := F))⟩]
def o72 (x0 : Vec F S3200x128 .f32) : Vec F S8x128 .f32 :=
  View.canon [⟨RA, k0_pay46 (View.ld x0 G3112)⟩]
def o73 (x0 : Vec F S3200x128 .f32) (x25 x26 x27 : Vec F S8x128 .f32) : Vec F S8x128 .f32 :=
  View.canon [⟨RA, k0_pay49 (k0_pay46 (View.ld x0 G3112)) (k0_pay47 (View.ld x0 G3112) (View.ld x26 RA)) (View.ld x27 RA) (View.ld x25 RA)⟩]
def o74 (x0 : Vec F S3200x128 .f32) (x26 : Vec F S8x128 .f32) : Vec F S8x128 .f32 :=
  View.canon [⟨RA, (k0_pay47 (View.ld x0 G3112) (View.ld x26 RA))⟩]
def o75 (x0 : Vec F S3200x128 .f32) (x27 : Vec F S8x128 .f32) : Vec F S8x128 .f32 :=
  View.canon [⟨RA, k0_pay48 (k0_pay46 (View.ld x0 G3112)) (View.ld x27 RA)⟩]
def o76 (x0 : Vec F S3200x128 .f32) : Vec F S8x128 .f32 :=
  View.canon [⟨RA, k0_pay50 (View.ld x0 G3120)⟩]
def o77 (x0 : Vec F S3200x128 .f32) (x28 x29 x30 : Vec F S8x128 .f32) : Vec F S8x128 .f32 :=
  View.canon [⟨RA, k0_pay54 (k0_pay50 (View.ld x0 G3120)) (k0_pay51 (View.ld x29 RA)) (View.ld x30 RA) (View.ld x28 RA)⟩]
def o78 (x0 : Vec F S3200x128 .f32) (x29 : Vec F S8x128 .f32) : Vec F S8x128 .f32 :=
  View.canon [⟨RA, k0_pay52 (k0_pay50 (View.ld x0 G3120)) (k0_pay51 (View.ld x29 RA))⟩]
def o79 (x0 : Vec F S3200x128 .f32) (x30 : Vec F S8x128 .f32) : Vec F S8x128 .f32 :=
  View.canon [⟨RA, k0_pay53 (k0_pay50 (View.ld x0 G3120)) (View.ld x30 RA)⟩]
def o80 (x0 : Vec F S3200x128 .f32) : Vec F S8x128 .f32 :=
  View.canon [⟨RA, k0_pay55 (View.ld x0 G3128)⟩]
def o81 (x0 : Vec F S3200x128 .f32) (x31 x32 x33 : Vec F S8x128 .f32) : Vec F S8x128 .f32 :=
  View.canon [⟨RA, k0_pay58 (k0_pay55 (View.ld x0 G3128)) (View.ld x32 RA) (View.ld x33 RA) (View.ld x31 RA)⟩]
def o82 (x0 : Vec F S3200x128 .f32) (x32 : Vec F S8x128 .f32) : Vec F S8x128 .f32 :=
  View.canon [⟨RA, k0_pay56 (k0_pay55 (View.ld x0 G3128)) (View.ld x32 RA)⟩]
def o83 (x0 : Vec F S3200x128 .f32) (x33 : Vec F S8x128 .f32) : Vec F S8x128 .f32 :=
  View.canon [⟨RA, k0_pay57 (k0_pay55 (View.ld x0 G3128)) (View.ld x33 RA)⟩]
def o84 (x0 : Vec F S3200x128 .f32) : Vec F S8x128 .f32 :=
  View.canon [⟨RA, (k0_pay59 (View.ld x0 G3136))⟩]
def o85 (x0 : Vec F S3200x128 .f32) (x34 x35 x36 : Vec F S8x128 .f32) : Vec F S8x128 .f32 :=
  View.canon [⟨RA, k0_pay62 (k0_pay59 (View.ld x0 G3136)) (View.ld x35 RA) (View.ld x36 RA) (View.ld x34 RA)⟩]
def o86 (x0 : Vec F S3200x128 .f32) (x35 : Vec F S8x128 .f32) : Vec F S8x128 .f32 :=
  View.canon [⟨RA, k0_pay60 (k0_pay59 (View.ld x0 G3136)) (View.ld x35 RA)⟩]
def o87 (x0 : Vec F S3200x128 .f32) (x36 : Vec F S8x128 .f32) : Vec F S8x128 .f32 :=
  View.canon [⟨RA, k0_pay61 (k0_pay59 (View.ld x0 G3136)) (View.ld x36 RA)⟩]
def o88 (x0 : Vec F S3200x128 .f32) : Vec F S16x128 .f32 :=
  View.canon [⟨RC, k0_pay63 (View.ld x0 G3144)⟩]
def o89 (x0 : Vec F S3200x128 .f32) (x37 x38 x39 : Vec F S16x128 .f32) : Vec F S16x128 .f32 :=
  View.canon [⟨RC, k0_pay1 (k0_pay66 (View.ld x0 G3144) (View.ld x38 RC) (View.ld x39 RC) (View.ld x37 RC)) (k0_pay67 (F := F))⟩]
def o90 (x0 : Vec F S3200x128 .f32) (x38 : Vec F S16x128 .f32) : Vec F S16x128 .f32 :=
  View.canon [⟨RC, k0_pay64 (View.ld x0 G3144) (View.ld x38 RC)⟩]
def o91 (x0 : Vec F S3200x128 .f32) (x39 : Vec F S16x128 .f32) : Vec F S16x128 .f32 :=
  View.canon [⟨RC, k0_pay65 (View.ld x0 G3144) (View.ld x39 RC)⟩]
def o92 (x0 : Vec F S3200x128 .f32) : Vec F S8x128 .f32 :=
  View.canon [⟨RA, k0_pay2 (View.ld x0 G3160)⟩]

theorem covRA (p : Vec F S8x128 .f32) (y : S8x128.Idx) : ∃ pc ∈ ([⟨RA, p⟩] : List (View.Piece (Elt F) S8x128 .f32)), y ∈ pc.1.set :=
  View.cover_of_tiled [⟨RA, p⟩] S8x128.size (by rfl) y

theorem covRB (p : Vec F S1024x128 .f32) (y : S1024x128.Idx) : ∃ pc ∈ ([⟨RB, p⟩] : List (View.Piece (Elt F) S1024x128 .f32)), y ∈ pc.1.set :=
  View.cover_of_tiled [⟨RB, p⟩] S1024x128.size (by rfl) y

theorem covRC (p : Vec F S16x128 .f32) (y : S16x128.Idx) : ∃ pc ∈ ([⟨RC, p⟩] : List (View.Piece (Elt F) S16x128 .f32)), y ∈ pc.1.set :=
  View.cover_of_tiled [⟨RC, p⟩] S16x128.size (by rfl) y

/-! ## The body -/

set_option maxHeartbeats 6000000 in
/-- On whole buffers the body leaves what it reads as it was and in each other buffer what it stores there. -/
theorem body_runs (c : Dev nD) {a0 : Memref sig .tc .vmem S3200x128 .f32} {a1 a2 a3 a4 a5 a6 : Memref sig .tc .vmem S8x128 .f32} {a7 a8 a9 : Memref sig .tc .vmem S1024x128 .f32} {a10 a11 a12 a13 a14 a15 : Memref sig .tc .vmem S8x128 .f32} {a16 a17 a18 : Memref sig .tc .vmem S1024x128 .f32} {a19 a20 a21 : Memref sig .tc .vmem S8x128 .f32} {a22 a23 a24 : Memref sig .tc .vmem S1024x128 .f32} {a25 a26 a27 a28 a29 a30 a31 a32 a33 a34 a35 a36 : Memref sig .tc .vmem S8x128 .f32} {a37 a38 a39 : Memref sig .tc .vmem S16x128 .f32} {a40 a41 a42 a43 a44 a45 a46 a47 : Memref sig .tc .vmem S8x128 .f32} {a48 a49 a50 a51 : Memref sig .tc .vmem S1024x128 .f32} {a52 a53 a54 a55 a56 a57 a58 a59 : Memref sig .tc .vmem S8x128 .f32} {a60 a61 a62 a63 : Memref sig .tc .vmem S1024x128 .f32} {a64 a65 a66 a67 : Memref sig .tc .vmem S8x128 .f32} {a68 a69 a70 a71 : Memref sig .tc .vmem S1024x128 .f32} {a72 a73 a74 a75 a76 a77 a78 a79 a80 a81 a82 a83 a84 a85 a86 a87 : Memref sig .tc .vmem S8x128 .f32} {a88 a89 a90 a91 : Memref sig .tc .vmem S16x128 .f32} {a92 : Memref sig .tc .vmem S8x128 .f32}
    {h0 : a0.IsWhole} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} {h17 : a17.IsWhole} {h18 : a18.IsWhole} {h19 : a19.IsWhole} {h20 : a20.IsWhole} {h21 : a21.IsWhole} {h22 : a22.IsWhole} {h23 : a23.IsWhole} {h24 : a24.IsWhole} {h25 : a25.IsWhole} {h26 : a26.IsWhole} {h27 : a27.IsWhole} {h28 : a28.IsWhole} {h29 : a29.IsWhole} {h30 : a30.IsWhole} {h31 : a31.IsWhole} {h32 : a32.IsWhole} {h33 : a33.IsWhole} {h34 : a34.IsWhole} {h35 : a35.IsWhole} {h36 : a36.IsWhole} {h37 : a37.IsWhole} {h38 : a38.IsWhole} {h39 : a39.IsWhole} {h40 : a40.IsWhole} {h41 : a41.IsWhole} {h42 : a42.IsWhole} {h43 : a43.IsWhole} {h44 : a44.IsWhole} {h45 : a45.IsWhole} {h46 : a46.IsWhole} {h47 : a47.IsWhole} {h48 : a48.IsWhole} {h49 : a49.IsWhole} {h50 : a50.IsWhole} {h51 : a51.IsWhole} {h52 : a52.IsWhole} {h53 : a53.IsWhole} {h54 : a54.IsWhole} {h55 : a55.IsWhole} {h56 : a56.IsWhole} {h57 : a57.IsWhole} {h58 : a58.IsWhole} {h59 : a59.IsWhole} {h60 : a60.IsWhole} {h61 : a61.IsWhole} {h62 : a62.IsWhole} {h63 : a63.IsWhole} {h64 : a64.IsWhole} {h65 : a65.IsWhole} {h66 : a66.IsWhole} {h67 : a67.IsWhole} {h68 : a68.IsWhole} {h69 : a69.IsWhole} {h70 : a70.IsWhole} {h71 : a71.IsWhole} {h72 : a72.IsWhole} {h73 : a73.IsWhole} {h74 : a74.IsWhole} {h75 : a75.IsWhole} {h76 : a76.IsWhole} {h77 : a77.IsWhole} {h78 : a78.IsWhole} {h79 : a79.IsWhole} {h80 : a80.IsWhole} {h81 : a81.IsWhole} {h82 : a82.IsWhole} {h83 : a83.IsWhole} {h84 : a84.IsWhole} {h85 : a85.IsWhole} {h86 : a86.IsWhole} {h87 : a87.IsWhole} {h88 : a88.IsWhole} {h89 : a89.IsWhole} {h90 : a90.IsWhole} {h91 : a91.IsWhole} {h92 : a92.IsWhole}
    (x0 : Vec F S3200x128 .f32) (x1 x2 x3 x4 x5 x6 : Vec F S8x128 .f32) (x7 x8 x9 : Vec F S1024x128 .f32) (x10 x11 x12 x13 x14 x15 : Vec F S8x128 .f32) (x16 x17 x18 : Vec F S1024x128 .f32) (x19 x20 x21 : Vec F S8x128 .f32) (x22 x23 x24 : Vec F S1024x128 .f32) (x25 x26 x27 x28 x29 x30 x31 x32 x33 x34 x35 x36 : Vec F S8x128 .f32) (x37 x38 x39 : Vec F S16x128 .f32) (P Q : sProp 𝕄) :
    iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26 ∗ owns (c : Thread nD τ) a27 fullShare x27 ∗ owns (c : Thread nD τ) a28 fullShare x28 ∗ owns (c : Thread nD τ) a29 fullShare x29 ∗ owns (c : Thread nD τ) a30 fullShare x30 ∗ owns (c : Thread nD τ) a31 fullShare x31 ∗ owns (c : Thread nD τ) a32 fullShare x32 ∗ owns (c : Thread nD τ) a33 fullShare x33 ∗ owns (c : Thread nD τ) a34 fullShare x34 ∗ owns (c : Thread nD τ) a35 fullShare x35 ∗ owns (c : Thread nD τ) a36 fullShare x36 ∗ owns (c : Thread nD τ) a37 fullShare x37 ∗ owns (c : Thread nD τ) a38 fullShare x38 ∗ owns (c : Thread nD τ) a39 fullShare x39 ∗ (∃ d, owns (c : Thread nD τ) a40 fullShare d) ∗ (∃ d, owns (c : Thread nD τ) a41 fullShare d) ∗ (∃ d, owns (c : Thread nD τ) a42 fullShare d) ∗ (∃ d, owns (c : Thread nD τ) a43 fullShare d) ∗ (∃ d, owns (c : Thread nD τ) a44 fullShare d) ∗ (∃ d, owns (c : Thread nD τ) a45 fullShare d) ∗ (∃ d, owns (c : Thread nD τ) a46 fullShare d) ∗ (∃ d, owns (c : Thread nD τ) a47 fullShare d) ∗ (∃ d, owns (c : Thread nD τ) a48 fullShare d) ∗ (∃ d, owns (c : Thread nD τ) a49 fullShare d) ∗ (∃ d, owns (c : Thread nD τ) a50 fullShare d) ∗ (∃ d, owns (c : Thread nD τ) a51 fullShare d) ∗ (∃ d, owns (c : Thread nD τ) a52 fullShare d) ∗ (∃ d, owns (c : Thread nD τ) a53 fullShare d) ∗ (∃ d, owns (c : Thread nD τ) a54 fullShare d) ∗ (∃ d, owns (c : Thread nD τ) a55 fullShare d) ∗ (∃ d, owns (c : Thread nD τ) a56 fullShare d) ∗ (∃ d, owns (c : Thread nD τ) a57 fullShare d) ∗ (∃ d, owns (c : Thread nD τ) a58 fullShare d) ∗ (∃ d, owns (c : Thread nD τ) a59 fullShare d) ∗ (∃ d, owns (c : Thread nD τ) a60 fullShare d) ∗ (∃ d, owns (c : Thread nD τ) a61 fullShare d) ∗ (∃ d, owns (c : Thread nD τ) a62 fullShare d) ∗ (∃ d, owns (c : Thread nD τ) a63 fullShare d) ∗ (∃ d, owns (c : Thread nD τ) a64 fullShare d) ∗ (∃ d, owns (c : Thread nD τ) a65 fullShare d) ∗ (∃ d, owns (c : Thread nD τ) a66 fullShare d) ∗ (∃ d, owns (c : Thread nD τ) a67 fullShare d) ∗ (∃ d, owns (c : Thread nD τ) a68 fullShare d) ∗ (∃ d, owns (c : Thread nD τ) a69 fullShare d) ∗ (∃ d, owns (c : Thread nD τ) a70 fullShare d) ∗ (∃ d, owns (c : Thread nD τ) a71 fullShare d) ∗ (∃ d, owns (c : Thread nD τ) a72 fullShare d) ∗ (∃ d, owns (c : Thread nD τ) a73 fullShare d) ∗ (∃ d, owns (c : Thread nD τ) a74 fullShare d) ∗ (∃ d, owns (c : Thread nD τ) a75 fullShare d) ∗ (∃ d, owns (c : Thread nD τ) a76 fullShare d) ∗ (∃ d, owns (c : Thread nD τ) a77 fullShare d) ∗ (∃ d, owns (c : Thread nD τ) a78 fullShare d) ∗ (∃ d, owns (c : Thread nD τ) a79 fullShare d) ∗ (∃ d, owns (c : Thread nD τ) a80 fullShare d) ∗ (∃ d, owns (c : Thread nD τ) a81 fullShare d) ∗ (∃ d, owns (c : Thread nD τ) a82 fullShare d) ∗ (∃ d, owns (c : Thread nD τ) a83 fullShare d) ∗ (∃ d, owns (c : Thread nD τ) a84 fullShare d) ∗ (∃ d, owns (c : Thread nD τ) a85 fullShare d) ∗ (∃ d, owns (c : Thread nD τ) a86 fullShare d) ∗ (∃ d, owns (c : Thread nD τ) a87 fullShare d) ∗ (∃ d, owns (c : Thread nD τ) a88 fullShare d) ∗ (∃ d, owns (c : Thread nD τ) a89 fullShare d) ∗ (∃ d, owns (c : Thread nD τ) a90 fullShare d) ∗ (∃ d, owns (c : Thread nD τ) a91 fullShare d) ∗ (∃ d, owns (c : Thread nD τ) a92 fullShare d))
      ⊢ wp frame (wpE (defs₀ (F := F)) Variants.none c none) Set.univ (cc0_adamw_small a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92)
        fun _ => iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26 ∗ owns (c : Thread nD τ) a27 fullShare x27 ∗ owns (c : Thread nD τ) a28 fullShare x28 ∗ owns (c : Thread nD τ) a29 fullShare x29 ∗ owns (c : Thread nD τ) a30 fullShare x30 ∗ owns (c : Thread nD τ) a31 fullShare x31 ∗ owns (c : Thread nD τ) a32 fullShare x32 ∗ owns (c : Thread nD τ) a33 fullShare x33 ∗ owns (c : Thread nD τ) a34 fullShare x34 ∗ owns (c : Thread nD τ) a35 fullShare x35 ∗ owns (c : Thread nD τ) a36 fullShare x36 ∗ owns (c : Thread nD τ) a37 fullShare x37 ∗ owns (c : Thread nD τ) a38 fullShare x38 ∗ owns (c : Thread nD τ) a39 fullShare x39 ∗ owns (c : Thread nD τ) a40 fullShare (o40 x0) ∗ owns (c : Thread nD τ) a41 fullShare (o41 x0 x1 x2 x3) ∗ owns (c : Thread nD τ) a42 fullShare (o42 x0 x2) ∗ owns (c : Thread nD τ) a43 fullShare (o43 x0 x3) ∗ owns (c : Thread nD τ) a44 fullShare (o44 x0) ∗ owns (c : Thread nD τ) a45 fullShare (o45 x0 x4 x5 x6) ∗ owns (c : Thread nD τ) a46 fullShare (o46 x0 x5) ∗ owns (c : Thread nD τ) a47 fullShare (o47 x0 x6) ∗ owns (c : Thread nD τ) a48 fullShare (o48 x0) ∗ owns (c : Thread nD τ) a49 fullShare (o49 x0 x7 x8 x9) ∗ owns (c : Thread nD τ) a50 fullShare (o50 x0 x8) ∗ owns (c : Thread nD τ) a51 fullShare (o51 x0 x9) ∗ owns (c : Thread nD τ) a52 fullShare (o52 x0) ∗ owns (c : Thread nD τ) a53 fullShare (o53 x0 x10 x11 x12) ∗ owns (c : Thread nD τ) a54 fullShare (o54 x0 x11) ∗ owns (c : Thread nD τ) a55 fullShare (o55 x0 x12) ∗ owns (c : Thread nD τ) a56 fullShare (o56 x0) ∗ owns (c : Thread nD τ) a57 fullShare (o57 x0 x13 x14 x15) ∗ owns (c : Thread nD τ) a58 fullShare (o58 x0 x14) ∗ owns (c : Thread nD τ) a59 fullShare (o59 x0 x15) ∗ owns (c : Thread nD τ) a60 fullShare (o60 x0) ∗ owns (c : Thread nD τ) a61 fullShare (o61 x0 x16 x17 x18) ∗ owns (c : Thread nD τ) a62 fullShare (o62 x0 x17) ∗ owns (c : Thread nD τ) a63 fullShare (o63 x0 x18) ∗ owns (c : Thread nD τ) a64 fullShare (o64 x0) ∗ owns (c : Thread nD τ) a65 fullShare (o65 x0 x19 x20 x21) ∗ owns (c : Thread nD τ) a66 fullShare (o66 x0 x20) ∗ owns (c : Thread nD τ) a67 fullShare (o67 x0 x21) ∗ owns (c : Thread nD τ) a68 fullShare (o68 x0) ∗ owns (c : Thread nD τ) a69 fullShare (o69 x0 x22 x23 x24) ∗ owns (c : Thread nD τ) a70 fullShare (o70 x0 x23) ∗ owns (c : Thread nD τ) a71 fullShare (o71 x0 x24) ∗ owns (c : Thread nD τ) a72 fullShare (o72 x0) ∗ owns (c : Thread nD τ) a73 fullShare (o73 x0 x25 x26 x27) ∗ owns (c : Thread nD τ) a74 fullShare (o74 x0 x26) ∗ owns (c : Thread nD τ) a75 fullShare (o75 x0 x27) ∗ owns (c : Thread nD τ) a76 fullShare (o76 x0) ∗ owns (c : Thread nD τ) a77 fullShare (o77 x0 x28 x29 x30) ∗ owns (c : Thread nD τ) a78 fullShare (o78 x0 x29) ∗ owns (c : Thread nD τ) a79 fullShare (o79 x0 x30) ∗ owns (c : Thread nD τ) a80 fullShare (o80 x0) ∗ owns (c : Thread nD τ) a81 fullShare (o81 x0 x31 x32 x33) ∗ owns (c : Thread nD τ) a82 fullShare (o82 x0 x32) ∗ owns (c : Thread nD τ) a83 fullShare (o83 x0 x33) ∗ owns (c : Thread nD τ) a84 fullShare (o84 x0) ∗ owns (c : Thread nD τ) a85 fullShare (o85 x0 x34 x35 x36) ∗ owns (c : Thread nD τ) a86 fullShare (o86 x0 x35) ∗ owns (c : Thread nD τ) a87 fullShare (o87 x0 x36) ∗ owns (c : Thread nD τ) a88 fullShare (o88 x0) ∗ owns (c : Thread nD τ) a89 fullShare (o89 x0 x37 x38 x39) ∗ owns (c : Thread nD τ) a90 fullShare (o90 x0 x38) ∗ owns (c : Thread nD τ) a91 fullShare (o91 x0 x39) ∗ owns (c : Thread nD τ) a92 fullShare (o92 x0)) := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨HP, HQ, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, ⟨%f35, %e35, H35⟩, ⟨%f36, %e36, H36⟩, ⟨%f37, %e37, H37⟩, ⟨%f38, %e38, H38⟩, ⟨%f39, %e39, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81, %f81, -, H81⟩, ⟨%d82, %f82, -, H82⟩, ⟨%d83, %f83, -, H83⟩, ⟨%d84, %f84, -, H84⟩, ⟨%d85, %f85, -, H85⟩, ⟨%d86, %f86, -, H86⟩, ⟨%d87, %f87, -, H87⟩, ⟨%d88, %f88, -, H88⟩, ⟨%d89, %f89, -, H89⟩, ⟨%d90, %f90, -, H90⟩, ⟨%d91, %f91, -, H91⟩, ⟨%d92, %f92, -, H92⟩⟩
  subst e0 e1 e2 e3 e4 e5 e6 e7 e8 e9 e10 e11 e12 e13 e14 e15 e16 e17 e18 e19 e20 e21 e22 e23 e24 e25 e26 e27 e28 e29 e30 e31 e32 e33 e34 e35 e36 e37 e38 e39
  sl_exec
  sl_step
  isplitl [HP]; · iexact HP
  isplitl [HQ]; · iexact HQ
  isplitl [H0]; · iexists f0; isplitr; swap; iexact H0; ipureintro; rfl
  isplitl [H1]; · iexists f1; isplitr; swap; iexact H1; ipureintro; rfl
  isplitl [H2]; · iexists f2; isplitr; swap; iexact H2; ipureintro; rfl
  isplitl [H3]; · iexists f3; isplitr; swap; iexact H3; ipureintro; rfl
  isplitl [H4]; · iexists f4; isplitr; swap; iexact H4; ipureintro; rfl
  isplitl [H5]; · iexists f5; isplitr; swap; iexact H5; ipureintro; rfl
  isplitl [H6]; · iexists f6; isplitr; swap; iexact H6; ipureintro; rfl
  isplitl [H7]; · iexists f7; isplitr; swap; iexact H7; ipureintro; rfl
  isplitl [H8]; · iexists f8; isplitr; swap; iexact H8; ipureintro; rfl
  isplitl [H9]; · iexists f9; isplitr; swap; iexact H9; ipureintro; rfl
  isplitl [H10]; · iexists f10; isplitr; swap; iexact H10; ipureintro; rfl
  isplitl [H11]; · iexists f11; isplitr; swap; iexact H11; ipureintro; rfl
  isplitl [H12]; · iexists f12; isplitr; swap; iexact H12; ipureintro; rfl
  isplitl [H13]; · iexists f13; isplitr; swap; iexact H13; ipureintro; rfl
  isplitl [H14]; · iexists f14; isplitr; swap; iexact H14; ipureintro; rfl
  isplitl [H15]; · iexists f15; isplitr; swap; iexact H15; ipureintro; rfl
  isplitl [H16]; · iexists f16; isplitr; swap; iexact H16; ipureintro; rfl
  isplitl [H17]; · iexists f17; isplitr; swap; iexact H17; ipureintro; rfl
  isplitl [H18]; · iexists f18; isplitr; swap; iexact H18; ipureintro; rfl
  isplitl [H19]; · iexists f19; isplitr; swap; iexact H19; ipureintro; rfl
  isplitl [H20]; · iexists f20; isplitr; swap; iexact H20; ipureintro; rfl
  isplitl [H21]; · iexists f21; isplitr; swap; iexact H21; ipureintro; rfl
  isplitl [H22]; · iexists f22; isplitr; swap; iexact H22; ipureintro; rfl
  isplitl [H23]; · iexists f23; isplitr; swap; iexact H23; ipureintro; rfl
  isplitl [H24]; · iexists f24; isplitr; swap; iexact H24; ipureintro; rfl
  isplitl [H25]; · iexists f25; isplitr; swap; iexact H25; ipureintro; rfl
  isplitl [H26]; · iexists f26; isplitr; swap; iexact H26; ipureintro; rfl
  isplitl [H27]; · iexists f27; isplitr; swap; iexact H27; ipureintro; rfl
  isplitl [H28]; · iexists f28; isplitr; swap; iexact H28; ipureintro; rfl
  isplitl [H29]; · iexists f29; isplitr; swap; iexact H29; ipureintro; rfl
  isplitl [H30]; · iexists f30; isplitr; swap; iexact H30; ipureintro; rfl
  isplitl [H31]; · iexists f31; isplitr; swap; iexact H31; ipureintro; rfl
  isplitl [H32]; · iexists f32; isplitr; swap; iexact H32; ipureintro; rfl
  isplitl [H33]; · iexists f33; isplitr; swap; iexact H33; ipureintro; rfl
  isplitl [H34]; · iexists f34; isplitr; swap; iexact H34; ipureintro; rfl
  isplitl [H35]; · iexists f35; isplitr; swap; iexact H35; ipureintro; rfl
  isplitl [H36]; · iexists f36; isplitr; swap; iexact H36; ipureintro; rfl
  isplitl [H37]; · iexists f37; isplitr; swap; iexact H37; ipureintro; rfl
  isplitl [H38]; · iexists f38; isplitr; swap; iexact H38; ipureintro; rfl
  isplitl [H39]; · iexists f39; isplitr; swap; iexact H39; ipureintro; rfl
  isplitl [H40]; · iexists _; isplitr; swap; iexact H40; ipureintro; exact (View.read_writes_eq_canon _ _ _ (covRA _)).trans rfl
  isplitl [H41]; · iexists _; isplitr; swap; iexact H41; ipureintro; exact (View.read_writes_eq_canon _ _ _ (covRA _)).trans rfl
  isplitl [H42]; · iexists _; isplitr; swap; iexact H42; ipureintro; exact (View.read_writes_eq_canon _ _ _ (covRA _)).trans rfl
  isplitl [H43]; · iexists _; isplitr; swap; iexact H43; ipureintro; exact (View.read_writes_eq_canon _ _ _ (covRA _)).trans rfl
  isplitl [H44]; · iexists _; isplitr; swap; iexact H44; ipureintro; exact (View.read_writes_eq_canon _ _ _ (covRA _)).trans rfl
  isplitl [H45]; · iexists _; isplitr; swap; iexact H45; ipureintro; exact (View.read_writes_eq_canon _ _ _ (covRA _)).trans rfl
  isplitl [H46]; · iexists _; isplitr; swap; iexact H46; ipureintro; exact (View.read_writes_eq_canon _ _ _ (covRA _)).trans rfl
  isplitl [H47]; · iexists _; isplitr; swap; iexact H47; ipureintro; exact (View.read_writes_eq_canon _ _ _ (covRA _)).trans rfl
  isplitl [H48]; · iexists _; isplitr; swap; iexact H48; ipureintro; exact (View.read_writes_eq_canon _ _ _ (covRB _)).trans rfl
  isplitl [H49]; · iexists _; isplitr; swap; iexact H49; ipureintro; exact (View.read_writes_eq_canon _ _ _ (covRB _)).trans rfl
  isplitl [H50]; · iexists _; isplitr; swap; iexact H50; ipureintro; exact (View.read_writes_eq_canon _ _ _ (covRB _)).trans rfl
  isplitl [H51]; · iexists _; isplitr; swap; iexact H51; ipureintro; exact (View.read_writes_eq_canon _ _ _ (covRB _)).trans rfl
  isplitl [H52]; · iexists _; isplitr; swap; iexact H52; ipureintro; exact (View.read_writes_eq_canon _ _ _ (covRA _)).trans rfl
  isplitl [H53]; · iexists _; isplitr; swap; iexact H53; ipureintro; exact (View.read_writes_eq_canon _ _ _ (covRA _)).trans rfl
  isplitl [H54]; · iexists _; isplitr; swap; iexact H54; ipureintro; exact (View.read_writes_eq_canon _ _ _ (covRA _)).trans rfl
  isplitl [H55]; · iexists _; isplitr; swap; iexact H55; ipureintro; exact (View.read_writes_eq_canon _ _ _ (covRA _)).trans rfl
  isplitl [H56]; · iexists _; isplitr; swap; iexact H56; ipureintro; exact (View.read_writes_eq_canon _ _ _ (covRA _)).trans rfl
  isplitl [H57]; · iexists _; isplitr; swap; iexact H57; ipureintro; exact (View.read_writes_eq_canon _ _ _ (covRA _)).trans rfl
  isplitl [H58]; · iexists _; isplitr; swap; iexact H58; ipureintro; exact (View.read_writes_eq_canon _ _ _ (covRA _)).trans rfl
  isplitl [H59]; · iexists _; isplitr; swap; iexact H59; ipureintro; exact (View.read_writes_eq_canon _ _ _ (covRA _)).trans rfl
  isplitl [H60]; · iexists _; isplitr; swap; iexact H60; ipureintro; exact (View.read_writes_eq_canon _ _ _ (covRB _)).trans rfl
  isplitl [H61]; · iexists _; isplitr; swap; iexact H61; ipureintro; exact (View.read_writes_eq_canon _ _ _ (covRB _)).trans rfl
  isplitl [H62]; · iexists _; isplitr; swap; iexact H62; ipureintro; exact (View.read_writes_eq_canon _ _ _ (covRB _)).trans rfl
  isplitl [H63]; · iexists _; isplitr; swap; iexact H63; ipureintro; exact (View.read_writes_eq_canon _ _ _ (covRB _)).trans rfl
  isplitl [H64]; · iexists _; isplitr; swap; iexact H64; ipureintro; exact (View.read_writes_eq_canon _ _ _ (covRA _)).trans rfl
  isplitl [H65]; · iexists _; isplitr; swap; iexact H65; ipureintro; exact (View.read_writes_eq_canon _ _ _ (covRA _)).trans rfl
  isplitl [H66]; · iexists _; isplitr; swap; iexact H66; ipureintro; exact (View.read_writes_eq_canon _ _ _ (covRA _)).trans rfl
  isplitl [H67]; · iexists _; isplitr; swap; iexact H67; ipureintro; exact (View.read_writes_eq_canon _ _ _ (covRA _)).trans rfl
  isplitl [H68]; · iexists _; isplitr; swap; iexact H68; ipureintro; exact (View.read_writes_eq_canon _ _ _ (covRB _)).trans rfl
  isplitl [H69]; · iexists _; isplitr; swap; iexact H69; ipureintro; exact (View.read_writes_eq_canon _ _ _ (covRB _)).trans rfl
  isplitl [H70]; · iexists _; isplitr; swap; iexact H70; ipureintro; exact (View.read_writes_eq_canon _ _ _ (covRB _)).trans rfl
  isplitl [H71]; · iexists _; isplitr; swap; iexact H71; ipureintro; exact (View.read_writes_eq_canon _ _ _ (covRB _)).trans rfl
  isplitl [H72]; · iexists _; isplitr; swap; iexact H72; ipureintro; exact (View.read_writes_eq_canon _ _ _ (covRA _)).trans rfl
  isplitl [H73]; · iexists _; isplitr; swap; iexact H73; ipureintro; exact (View.read_writes_eq_canon _ _ _ (covRA _)).trans rfl
  isplitl [H74]; · iexists _; isplitr; swap; iexact H74; ipureintro; exact (View.read_writes_eq_canon _ _ _ (covRA _)).trans rfl
  isplitl [H75]; · iexists _; isplitr; swap; iexact H75; ipureintro; exact (View.read_writes_eq_canon _ _ _ (covRA _)).trans rfl
  isplitl [H76]; · iexists _; isplitr; swap; iexact H76; ipureintro; exact (View.read_writes_eq_canon _ _ _ (covRA _)).trans rfl
  isplitl [H77]; · iexists _; isplitr; swap; iexact H77; ipureintro; exact (View.read_writes_eq_canon _ _ _ (covRA _)).trans rfl
  isplitl [H78]; · iexists _; isplitr; swap; iexact H78; ipureintro; exact (View.read_writes_eq_canon _ _ _ (covRA _)).trans rfl
  isplitl [H79]; · iexists _; isplitr; swap; iexact H79; ipureintro; exact (View.read_writes_eq_canon _ _ _ (covRA _)).trans rfl
  isplitl [H80]; · iexists _; isplitr; swap; iexact H80; ipureintro; exact (View.read_writes_eq_canon _ _ _ (covRA _)).trans rfl
  isplitl [H81]; · iexists _; isplitr; swap; iexact H81; ipureintro; exact (View.read_writes_eq_canon _ _ _ (covRA _)).trans rfl
  isplitl [H82]; · iexists _; isplitr; swap; iexact H82; ipureintro; exact (View.read_writes_eq_canon _ _ _ (covRA _)).trans rfl
  isplitl [H83]; · iexists _; isplitr; swap; iexact H83; ipureintro; exact (View.read_writes_eq_canon _ _ _ (covRA _)).trans rfl
  isplitl [H84]; · iexists _; isplitr; swap; iexact H84; ipureintro; exact (View.read_writes_eq_canon _ _ _ (covRA _)).trans rfl
  isplitl [H85]; · iexists _; isplitr; swap; iexact H85; ipureintro; exact (View.read_writes_eq_canon _ _ _ (covRA _)).trans rfl
  isplitl [H86]; · iexists _; isplitr; swap; iexact H86; ipureintro; exact (View.read_writes_eq_canon _ _ _ (covRA _)).trans rfl
  isplitl [H87]; · iexists _; isplitr; swap; iexact H87; ipureintro; exact (View.read_writes_eq_canon _ _ _ (covRA _)).trans rfl
  isplitl [H88]; · iexists _; isplitr; swap; iexact H88; ipureintro; exact (View.read_writes_eq_canon _ _ _ (covRC _)).trans rfl
  isplitl [H89]; · iexists _; isplitr; swap; iexact H89; ipureintro; exact (View.read_writes_eq_canon _ _ _ (covRC _)).trans rfl
  isplitl [H90]; · iexists _; isplitr; swap; iexact H90; ipureintro; exact (View.read_writes_eq_canon _ _ _ (covRC _)).trans rfl
  isplitl [H91]; · iexists _; isplitr; swap; iexact H91; ipureintro; exact (View.read_writes_eq_canon _ _ _ (covRC _)).trans rfl
  iexists _; isplitr; swap; iexact H92; ipureintro; exact (View.read_writes_eq_canon _ _ _ (covRA _)).trans rfl

/-! ## The proof data -/

/-- Each read buffer keeps its block; each written one holds what the body stores, of the blocks read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => o40 (iblk m c 0 t)
    | ⟨41, _⟩ => o41 (iblk m c 0 t) (iblk m c 1 t) (iblk m c 2 t) (iblk m c 3 t)
    | ⟨42, _⟩ => o42 (iblk m c 0 t) (iblk m c 2 t)
    | ⟨43, _⟩ => o43 (iblk m c 0 t) (iblk m c 3 t)
    | ⟨44, _⟩ => o44 (iblk m c 0 t)
    | ⟨45, _⟩ => o45 (iblk m c 0 t) (iblk m c 4 t) (iblk m c 5 t) (iblk m c 6 t)
    | ⟨46, _⟩ => o46 (iblk m c 0 t) (iblk m c 5 t)
    | ⟨47, _⟩ => o47 (iblk m c 0 t) (iblk m c 6 t)
    | ⟨48, _⟩ => o48 (iblk m c 0 t)
    | ⟨49, _⟩ => o49 (iblk m c 0 t) (iblk m c 7 t) (iblk m c 8 t) (iblk m c 9 t)
    | ⟨50, _⟩ => o50 (iblk m c 0 t) (iblk m c 8 t)
    | ⟨51, _⟩ => o51 (iblk m c 0 t) (iblk m c 9 t)
    | ⟨52, _⟩ => o52 (iblk m c 0 t)
    | ⟨53, _⟩ => o53 (iblk m c 0 t) (iblk m c 10 t) (iblk m c 11 t) (iblk m c 12 t)
    | ⟨54, _⟩ => o54 (iblk m c 0 t) (iblk m c 11 t)
    | ⟨55, _⟩ => o55 (iblk m c 0 t) (iblk m c 12 t)
    | ⟨56, _⟩ => o56 (iblk m c 0 t)
    | ⟨57, _⟩ => o57 (iblk m c 0 t) (iblk m c 13 t) (iblk m c 14 t) (iblk m c 15 t)
    | ⟨58, _⟩ => o58 (iblk m c 0 t) (iblk m c 14 t)
    | ⟨59, _⟩ => o59 (iblk m c 0 t) (iblk m c 15 t)
    | ⟨60, _⟩ => o60 (iblk m c 0 t)
    | ⟨61, _⟩ => o61 (iblk m c 0 t) (iblk m c 16 t) (iblk m c 17 t) (iblk m c 18 t)
    | ⟨62, _⟩ => o62 (iblk m c 0 t) (iblk m c 17 t)
    | ⟨63, _⟩ => o63 (iblk m c 0 t) (iblk m c 18 t)
    | ⟨64, _⟩ => o64 (iblk m c 0 t)
    | ⟨65, _⟩ => o65 (iblk m c 0 t) (iblk m c 19 t) (iblk m c 20 t) (iblk m c 21 t)
    | ⟨66, _⟩ => o66 (iblk m c 0 t) (iblk m c 20 t)
    | ⟨67, _⟩ => o67 (iblk m c 0 t) (iblk m c 21 t)
    | ⟨68, _⟩ => o68 (iblk m c 0 t)
    | ⟨69, _⟩ => o69 (iblk m c 0 t) (iblk m c 22 t) (iblk m c 23 t) (iblk m c 24 t)
    | ⟨70, _⟩ => o70 (iblk m c 0 t) (iblk m c 23 t)
    | ⟨71, _⟩ => o71 (iblk m c 0 t) (iblk m c 24 t)
    | ⟨72, _⟩ => o72 (iblk m c 0 t)
    | ⟨73, _⟩ => o73 (iblk m c 0 t) (iblk m c 25 t) (iblk m c 26 t) (iblk m c 27 t)
    | ⟨74, _⟩ => o74 (iblk m c 0 t) (iblk m c 26 t)
    | ⟨75, _⟩ => o75 (iblk m c 0 t) (iblk m c 27 t)
    | ⟨76, _⟩ => o76 (iblk m c 0 t)
    | ⟨77, _⟩ => o77 (iblk m c 0 t) (iblk m c 28 t) (iblk m c 29 t) (iblk m c 30 t)
    | ⟨78, _⟩ => o78 (iblk m c 0 t) (iblk m c 29 t)
    | ⟨79, _⟩ => o79 (iblk m c 0 t) (iblk m c 30 t)
    | ⟨80, _⟩ => o80 (iblk m c 0 t)
    | ⟨81, _⟩ => o81 (iblk m c 0 t) (iblk m c 31 t) (iblk m c 32 t) (iblk m c 33 t)
    | ⟨82, _⟩ => o82 (iblk m c 0 t) (iblk m c 32 t)
    | ⟨83, _⟩ => o83 (iblk m c 0 t) (iblk m c 33 t)
    | ⟨84, _⟩ => o84 (iblk m c 0 t)
    | ⟨85, _⟩ => o85 (iblk m c 0 t) (iblk m c 34 t) (iblk m c 35 t) (iblk m c 36 t)
    | ⟨86, _⟩ => o86 (iblk m c 0 t) (iblk m c 35 t)
    | ⟨87, _⟩ => o87 (iblk m c 0 t) (iblk m c 36 t)
    | ⟨88, _⟩ => o88 (iblk m c 0 t)
    | ⟨89, _⟩ => o89 (iblk m c 0 t) (iblk m c 37 t) (iblk m c 38 t) (iblk m c 39 t)
    | ⟨90, _⟩ => o90 (iblk m c 0 t) (iblk m c 38 t)
    | ⟨91, _⟩ => o91 (iblk m c 0 t) (iblk m c 39 t)
    | ⟨92, _⟩ => o92 (iblk m c 0 t)
    | ⟨_ + 93, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_read (c : Dev nD) (t : Fin cfg0.N) (w : Fin cfg0.W) (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (ha : ∀ t, (cfg0.win w).cut (cfg0.grid.coords t) ((dats m 0 c).after w t) = iblk m c w t) (d) :
    (dats m 0 c).before w t d = (dats m 0 c).fetched w t d :=
  (dats m 0 c).before_in_eq_fetched w hw hl hc (fun t => by rw [ha]; unfold Dat.blockOf iblk; rw [A_eq]; try rfl) t d

theorem b0 (c : Dev nD) (t : Fin cfg0.N) (d) : (dats m 0 c).before 0 t d = iblk m c 0 t :=
  (before_read m c t 0 rfl (fun _ => rfl) (fun _ _ _ => rfl) (fun t => by dsimp only [dats]) d).trans
    (by unfold Dat.fetched Dat.blockOf iblk; rw [A_eq]; try rfl)
theorem b1 (c : Dev nD) (t : Fin cfg0.N) (d) : (dats m 0 c).before 1 t d = iblk m c 1 t :=
  (before_read m c t 1 rfl (fun _ => rfl) (fun _ _ _ => rfl) (fun t => by dsimp only [dats]) d).trans
    (by unfold Dat.fetched Dat.blockOf iblk; rw [A_eq]; try rfl)
theorem b2 (c : Dev nD) (t : Fin cfg0.N) (d) : (dats m 0 c).before 2 t d = iblk m c 2 t :=
  (before_read m c t 2 rfl (fun _ => rfl) (fun _ _ _ => rfl) (fun t => by dsimp only [dats]) d).trans
    (by unfold Dat.fetched Dat.blockOf iblk; rw [A_eq]; try rfl)
theorem b3 (c : Dev nD) (t : Fin cfg0.N) (d) : (dats m 0 c).before 3 t d = iblk m c 3 t :=
  (before_read m c t 3 rfl (fun _ => rfl) (fun _ _ _ => rfl) (fun t => by dsimp only [dats]) d).trans
    (by unfold Dat.fetched Dat.blockOf iblk; rw [A_eq]; try rfl)
theorem b4 (c : Dev nD) (t : Fin cfg0.N) (d) : (dats m 0 c).before 4 t d = iblk m c 4 t :=
  (before_read m c t 4 rfl (fun _ => rfl) (fun _ _ _ => rfl) (fun t => by dsimp only [dats]) d).trans
    (by unfold Dat.fetched Dat.blockOf iblk; rw [A_eq]; try rfl)
theorem b5 (c : Dev nD) (t : Fin cfg0.N) (d) : (dats m 0 c).before 5 t d = iblk m c 5 t :=
  (before_read m c t 5 rfl (fun _ => rfl) (fun _ _ _ => rfl) (fun t => by dsimp only [dats]) d).trans
    (by unfold Dat.fetched Dat.blockOf iblk; rw [A_eq]; try rfl)
theorem b6 (c : Dev nD) (t : Fin cfg0.N) (d) : (dats m 0 c).before 6 t d = iblk m c 6 t :=
  (before_read m c t 6 rfl (fun _ => rfl) (fun _ _ _ => rfl) (fun t => by dsimp only [dats]) d).trans
    (by unfold Dat.fetched Dat.blockOf iblk; rw [A_eq]; try rfl)
theorem b7 (c : Dev nD) (t : Fin cfg0.N) (d) : (dats m 0 c).before 7 t d = iblk m c 7 t :=
  (before_read m c t 7 rfl (fun _ => rfl) (fun _ _ _ => rfl) (fun t => by dsimp only [dats]) d).trans
    (by unfold Dat.fetched Dat.blockOf iblk; rw [A_eq]; try rfl)
theorem b8 (c : Dev nD) (t : Fin cfg0.N) (d) : (dats m 0 c).before 8 t d = iblk m c 8 t :=
  (before_read m c t 8 rfl (fun _ => rfl) (fun _ _ _ => rfl) (fun t => by dsimp only [dats]) d).trans
    (by unfold Dat.fetched Dat.blockOf iblk; rw [A_eq]; try rfl)
theorem b9 (c : Dev nD) (t : Fin cfg0.N) (d) : (dats m 0 c).before 9 t d = iblk m c 9 t :=
  (before_read m c t 9 rfl (fun _ => rfl) (fun _ _ _ => rfl) (fun t => by dsimp only [dats]) d).trans
    (by unfold Dat.fetched Dat.blockOf iblk; rw [A_eq]; try rfl)
theorem b10 (c : Dev nD) (t : Fin cfg0.N) (d) : (dats m 0 c).before 10 t d = iblk m c 10 t :=
  (before_read m c t 10 rfl (fun _ => rfl) (fun _ _ _ => rfl) (fun t => by dsimp only [dats]) d).trans
    (by unfold Dat.fetched Dat.blockOf iblk; rw [A_eq]; try rfl)
theorem b11 (c : Dev nD) (t : Fin cfg0.N) (d) : (dats m 0 c).before 11 t d = iblk m c 11 t :=
  (before_read m c t 11 rfl (fun _ => rfl) (fun _ _ _ => rfl) (fun t => by dsimp only [dats]) d).trans
    (by unfold Dat.fetched Dat.blockOf iblk; rw [A_eq]; try rfl)
theorem b12 (c : Dev nD) (t : Fin cfg0.N) (d) : (dats m 0 c).before 12 t d = iblk m c 12 t :=
  (before_read m c t 12 rfl (fun _ => rfl) (fun _ _ _ => rfl) (fun t => by dsimp only [dats]) d).trans
    (by unfold Dat.fetched Dat.blockOf iblk; rw [A_eq]; try rfl)
theorem b13 (c : Dev nD) (t : Fin cfg0.N) (d) : (dats m 0 c).before 13 t d = iblk m c 13 t :=
  (before_read m c t 13 rfl (fun _ => rfl) (fun _ _ _ => rfl) (fun t => by dsimp only [dats]) d).trans
    (by unfold Dat.fetched Dat.blockOf iblk; rw [A_eq]; try rfl)
theorem b14 (c : Dev nD) (t : Fin cfg0.N) (d) : (dats m 0 c).before 14 t d = iblk m c 14 t :=
  (before_read m c t 14 rfl (fun _ => rfl) (fun _ _ _ => rfl) (fun t => by dsimp only [dats]) d).trans
    (by unfold Dat.fetched Dat.blockOf iblk; rw [A_eq]; try rfl)
theorem b15 (c : Dev nD) (t : Fin cfg0.N) (d) : (dats m 0 c).before 15 t d = iblk m c 15 t :=
  (before_read m c t 15 rfl (fun _ => rfl) (fun _ _ _ => rfl) (fun t => by dsimp only [dats]) d).trans
    (by unfold Dat.fetched Dat.blockOf iblk; rw [A_eq]; try rfl)
theorem b16 (c : Dev nD) (t : Fin cfg0.N) (d) : (dats m 0 c).before 16 t d = iblk m c 16 t :=
  (before_read m c t 16 rfl (fun _ => rfl) (fun _ _ _ => rfl) (fun t => by dsimp only [dats]) d).trans
    (by unfold Dat.fetched Dat.blockOf iblk; rw [A_eq]; try rfl)
theorem b17 (c : Dev nD) (t : Fin cfg0.N) (d) : (dats m 0 c).before 17 t d = iblk m c 17 t :=
  (before_read m c t 17 rfl (fun _ => rfl) (fun _ _ _ => rfl) (fun t => by dsimp only [dats]) d).trans
    (by unfold Dat.fetched Dat.blockOf iblk; rw [A_eq]; try rfl)
theorem b18 (c : Dev nD) (t : Fin cfg0.N) (d) : (dats m 0 c).before 18 t d = iblk m c 18 t :=
  (before_read m c t 18 rfl (fun _ => rfl) (fun _ _ _ => rfl) (fun t => by dsimp only [dats]) d).trans
    (by unfold Dat.fetched Dat.blockOf iblk; rw [A_eq]; try rfl)
theorem b19 (c : Dev nD) (t : Fin cfg0.N) (d) : (dats m 0 c).before 19 t d = iblk m c 19 t :=
  (before_read m c t 19 rfl (fun _ => rfl) (fun _ _ _ => rfl) (fun t => by dsimp only [dats]) d).trans
    (by unfold Dat.fetched Dat.blockOf iblk; rw [A_eq]; try rfl)
theorem b20 (c : Dev nD) (t : Fin cfg0.N) (d) : (dats m 0 c).before 20 t d = iblk m c 20 t :=
  (before_read m c t 20 rfl (fun _ => rfl) (fun _ _ _ => rfl) (fun t => by dsimp only [dats]) d).trans
    (by unfold Dat.fetched Dat.blockOf iblk; rw [A_eq]; try rfl)
theorem b21 (c : Dev nD) (t : Fin cfg0.N) (d) : (dats m 0 c).before 21 t d = iblk m c 21 t :=
  (before_read m c t 21 rfl (fun _ => rfl) (fun _ _ _ => rfl) (fun t => by dsimp only [dats]) d).trans
    (by unfold Dat.fetched Dat.blockOf iblk; rw [A_eq]; try rfl)
theorem b22 (c : Dev nD) (t : Fin cfg0.N) (d) : (dats m 0 c).before 22 t d = iblk m c 22 t :=
  (before_read m c t 22 rfl (fun _ => rfl) (fun _ _ _ => rfl) (fun t => by dsimp only [dats]) d).trans
    (by unfold Dat.fetched Dat.blockOf iblk; rw [A_eq]; try rfl)
theorem b23 (c : Dev nD) (t : Fin cfg0.N) (d) : (dats m 0 c).before 23 t d = iblk m c 23 t :=
  (before_read m c t 23 rfl (fun _ => rfl) (fun _ _ _ => rfl) (fun t => by dsimp only [dats]) d).trans
    (by unfold Dat.fetched Dat.blockOf iblk; rw [A_eq]; try rfl)
theorem b24 (c : Dev nD) (t : Fin cfg0.N) (d) : (dats m 0 c).before 24 t d = iblk m c 24 t :=
  (before_read m c t 24 rfl (fun _ => rfl) (fun _ _ _ => rfl) (fun t => by dsimp only [dats]) d).trans
    (by unfold Dat.fetched Dat.blockOf iblk; rw [A_eq]; try rfl)
theorem b25 (c : Dev nD) (t : Fin cfg0.N) (d) : (dats m 0 c).before 25 t d = iblk m c 25 t :=
  (before_read m c t 25 rfl (fun _ => rfl) (fun _ _ _ => rfl) (fun t => by dsimp only [dats]) d).trans
    (by unfold Dat.fetched Dat.blockOf iblk; rw [A_eq]; try rfl)
theorem b26 (c : Dev nD) (t : Fin cfg0.N) (d) : (dats m 0 c).before 26 t d = iblk m c 26 t :=
  (before_read m c t 26 rfl (fun _ => rfl) (fun _ _ _ => rfl) (fun t => by dsimp only [dats]) d).trans
    (by unfold Dat.fetched Dat.blockOf iblk; rw [A_eq]; try rfl)
theorem b27 (c : Dev nD) (t : Fin cfg0.N) (d) : (dats m 0 c).before 27 t d = iblk m c 27 t :=
  (before_read m c t 27 rfl (fun _ => rfl) (fun _ _ _ => rfl) (fun t => by dsimp only [dats]) d).trans
    (by unfold Dat.fetched Dat.blockOf iblk; rw [A_eq]; try rfl)
theorem b28 (c : Dev nD) (t : Fin cfg0.N) (d) : (dats m 0 c).before 28 t d = iblk m c 28 t :=
  (before_read m c t 28 rfl (fun _ => rfl) (fun _ _ _ => rfl) (fun t => by dsimp only [dats]) d).trans
    (by unfold Dat.fetched Dat.blockOf iblk; rw [A_eq]; try rfl)
theorem b29 (c : Dev nD) (t : Fin cfg0.N) (d) : (dats m 0 c).before 29 t d = iblk m c 29 t :=
  (before_read m c t 29 rfl (fun _ => rfl) (fun _ _ _ => rfl) (fun t => by dsimp only [dats]) d).trans
    (by unfold Dat.fetched Dat.blockOf iblk; rw [A_eq]; try rfl)
theorem b30 (c : Dev nD) (t : Fin cfg0.N) (d) : (dats m 0 c).before 30 t d = iblk m c 30 t :=
  (before_read m c t 30 rfl (fun _ => rfl) (fun _ _ _ => rfl) (fun t => by dsimp only [dats]) d).trans
    (by unfold Dat.fetched Dat.blockOf iblk; rw [A_eq]; try rfl)
theorem b31 (c : Dev nD) (t : Fin cfg0.N) (d) : (dats m 0 c).before 31 t d = iblk m c 31 t :=
  (before_read m c t 31 rfl (fun _ => rfl) (fun _ _ _ => rfl) (fun t => by dsimp only [dats]) d).trans
    (by unfold Dat.fetched Dat.blockOf iblk; rw [A_eq]; try rfl)
theorem b32 (c : Dev nD) (t : Fin cfg0.N) (d) : (dats m 0 c).before 32 t d = iblk m c 32 t :=
  (before_read m c t 32 rfl (fun _ => rfl) (fun _ _ _ => rfl) (fun t => by dsimp only [dats]) d).trans
    (by unfold Dat.fetched Dat.blockOf iblk; rw [A_eq]; try rfl)
theorem b33 (c : Dev nD) (t : Fin cfg0.N) (d) : (dats m 0 c).before 33 t d = iblk m c 33 t :=
  (before_read m c t 33 rfl (fun _ => rfl) (fun _ _ _ => rfl) (fun t => by dsimp only [dats]) d).trans
    (by unfold Dat.fetched Dat.blockOf iblk; rw [A_eq]; try rfl)
theorem b34 (c : Dev nD) (t : Fin cfg0.N) (d) : (dats m 0 c).before 34 t d = iblk m c 34 t :=
  (before_read m c t 34 rfl (fun _ => rfl) (fun _ _ _ => rfl) (fun t => by dsimp only [dats]) d).trans
    (by unfold Dat.fetched Dat.blockOf iblk; rw [A_eq]; try rfl)
theorem b35 (c : Dev nD) (t : Fin cfg0.N) (d) : (dats m 0 c).before 35 t d = iblk m c 35 t :=
  (before_read m c t 35 rfl (fun _ => rfl) (fun _ _ _ => rfl) (fun t => by dsimp only [dats]) d).trans
    (by unfold Dat.fetched Dat.blockOf iblk; rw [A_eq]; try rfl)
theorem b36 (c : Dev nD) (t : Fin cfg0.N) (d) : (dats m 0 c).before 36 t d = iblk m c 36 t :=
  (before_read m c t 36 rfl (fun _ => rfl) (fun _ _ _ => rfl) (fun t => by dsimp only [dats]) d).trans
    (by unfold Dat.fetched Dat.blockOf iblk; rw [A_eq]; try rfl)
theorem b37 (c : Dev nD) (t : Fin cfg0.N) (d) : (dats m 0 c).before 37 t d = iblk m c 37 t :=
  (before_read m c t 37 rfl (fun _ => rfl) (fun _ _ _ => rfl) (fun t => by dsimp only [dats]) d).trans
    (by unfold Dat.fetched Dat.blockOf iblk; rw [A_eq]; try rfl)
theorem b38 (c : Dev nD) (t : Fin cfg0.N) (d) : (dats m 0 c).before 38 t d = iblk m c 38 t :=
  (before_read m c t 38 rfl (fun _ => rfl) (fun _ _ _ => rfl) (fun t => by dsimp only [dats]) d).trans
    (by unfold Dat.fetched Dat.blockOf iblk; rw [A_eq]; try rfl)
theorem b39 (c : Dev nD) (t : Fin cfg0.N) (d) : (dats m 0 c).before 39 t d = iblk m c 39 t :=
  (before_read m c t 39 rfl (fun _ => rfl) (fun _ _ _ => rfl) (fun t => by dsimp only [dats]) d).trans
    (by unfold Dat.fetched Dat.blockOf iblk; rw [A_eq]; try rfl)

theorem row (t : Fin cfg0.N) : defs₀ (F := F) .tc cfg0.body (cfg0.bodyArgs t (cfg0.slots t)) = bodyAt0 t := by
  unfold defs₀; rw [Defs.onTc_tc]

theorem give {α : Type} {s : Shape} (c : Dev nD) (a : Memref sig .tc .vmem s .f32) {f : α → Vec F s .f32} {x : Vec F s .f32} (h : ∀ d, f d = x) :
    iprop(∃ d, owns (c : Thread nD τ) a fullShare (f d)) ⊢ (owns (c : Thread nD τ) a fullShare x : sProp 𝕄) := by
  iintro ⟨%d, H⟩; rw [h d]; iexact H

theorem lose {α : Type} {s : Shape} (c : Dev nD) (a : Memref sig .tc .vmem s .f32) {f : α → Vec F s .f32} :
    iprop(∃ d, owns (c : Thread nD τ) a fullShare (f d)) ⊢ (iprop(∃ d, owns (c : Thread nD τ) a fullShare d) : sProp 𝕄) := by
  iintro ⟨%d, H⟩; iexists _; iexact H

end Cert.AdSmIdeal.Step

end
-- ==== Proof.AdSmOb.lean ====
/-
  The optimiser step of the thirteen small weights: its run, over any numbers. Forty windows are read, fifty-three are
  written, at one grid point; every window is its whole array.
-/
module

public import proofs.«01_k».proof.Proof.AdSmRun
public import proofs.«01_k».proof.Proof.Gen.AdSmIdeal.Launch
public import proofs.«01_k».proof.Proof.Gen.AdSmIdeal.Skeleton
public import proofs.«01_k».proof.Proof.Gen.AdSmIdeal.Points
public import proofs.«01_k».proof.Proof.Gen.AdSm
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdSmIdeal.Step

open Cert.AdSmIdeal Cert.AdSmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Two entailments side by side. -/
theorem mn {P P' Q Q' : sProp 𝕄} (h : P ⊢ P') (h' : Q ⊢ Q') : iprop(P ∗ Q) ⊢ iprop(P' ∗ Q') := BIClass.sep_mono h h'

/-- A buffer is held at equal contents. -/
theorem keep {s : Shape} (c : Dev nD) (a : Memref sig .tc .vmem s .f32) {x y : Vec F s .f32} (h : x = y) :
    owns (c : Thread nD τ) a fullShare x ⊢ (owns (c : Thread nD τ) a fullShare y : sProp 𝕄) := by
  subst h; exact .rfl

set_option maxHeartbeats 6000000 in
/-- The body keeps the proof data. -/
theorem obligation (c : Dev nD) : BodyObligation (dats (F := F) m 0 c) (defs₀ (F := F)) Variants.none () Set.univ := fun t => by
  rw [bigSep_W0, bigSep_W0, row]
  unfold bodyAt0
  refine triple_restated (body_runs c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t)
    ((dats m 0 c).Φ t.castSucc) ((dats m 0 c).owesAt () t.castSucc)) rfl ?_ fun _ => ?_
  · refine mn .rfl ?_
    refine mn .rfl ?_
    refine mn (give c (st0_0 t) (b0 m c t)) ?_
    refine mn (give c (st0_1 t) (b1 m c t)) ?_
    refine mn (give c (st0_2 t) (b2 m c t)) ?_
    refine mn (give c (st0_3 t) (b3 m c t)) ?_
    refine mn (give c (st0_4 t) (b4 m c t)) ?_
    refine mn (give c (st0_5 t) (b5 m c t)) ?_
    refine mn (give c (st0_6 t) (b6 m c t)) ?_
    refine mn (give c (st0_7 t) (b7 m c t)) ?_
    refine mn (give c (st0_8 t) (b8 m c t)) ?_
    refine mn (give c (st0_9 t) (b9 m c t)) ?_
    refine mn (give c (st0_10 t) (b10 m c t)) ?_
    refine mn (give c (st0_11 t) (b11 m c t)) ?_
    refine mn (give c (st0_12 t) (b12 m c t)) ?_
    refine mn (give c (st0_13 t) (b13 m c t)) ?_
    refine mn (give c (st0_14 t) (b14 m c t)) ?_
    refine mn (give c (st0_15 t) (b15 m c t)) ?_
    refine mn (give c (st0_16 t) (b16 m c t)) ?_
    refine mn (give c (st0_17 t) (b17 m c t)) ?_
    refine mn (give c (st0_18 t) (b18 m c t)) ?_
    refine mn (give c (st0_19 t) (b19 m c t)) ?_
    refine mn (give c (st0_20 t) (b20 m c t)) ?_
    refine mn (give c (st0_21 t) (b21 m c t)) ?_
    refine mn (give c (st0_22 t) (b22 m c t)) ?_
    refine mn (give c (st0_23 t) (b23 m c t)) ?_
    refine mn (give c (st0_24 t) (b24 m c t)) ?_
    refine mn (give c (st0_25 t) (b25 m c t)) ?_
    refine mn (give c (st0_26 t) (b26 m c t)) ?_
    refine mn (give c (st0_27 t) (b27 m c t)) ?_
    refine mn (give c (st0_28 t) (b28 m c t)) ?_
    refine mn (give c (st0_29 t) (b29 m c t)) ?_
    refine mn (give c (st0_30 t) (b30 m c t)) ?_
    refine mn (give c (st0_31 t) (b31 m c t)) ?_
    refine mn (give c (st0_32 t) (b32 m c t)) ?_
    refine mn (give c (st0_33 t) (b33 m c t)) ?_
    refine mn (give c (st0_34 t) (b34 m c t)) ?_
    refine mn (give c (st0_35 t) (b35 m c t)) ?_
    refine mn (give c (st0_36 t) (b36 m c t)) ?_
    refine mn (give c (st0_37 t) (b37 m c t)) ?_
    refine mn (give c (st0_38 t) (b38 m c t)) ?_
    refine mn (give c (st0_39 t) (b39 m c t)) ?_
    refine mn (lose c (st0_40 t)) ?_
    refine mn (lose c (st0_41 t)) ?_
    refine mn (lose c (st0_42 t)) ?_
    refine mn (lose c (st0_43 t)) ?_
    refine mn (lose c (st0_44 t)) ?_
    refine mn (lose c (st0_45 t)) ?_
    refine mn (lose c (st0_46 t)) ?_
    refine mn (lose c (st0_47 t)) ?_
    refine mn (lose c (st0_48 t)) ?_
    refine mn (lose c (st0_49 t)) ?_
    refine mn (lose c (st0_50 t)) ?_
    refine mn (lose c (st0_51 t)) ?_
    refine mn (lose c (st0_52 t)) ?_
    refine mn (lose c (st0_53 t)) ?_
    refine mn (lose c (st0_54 t)) ?_
    refine mn (lose c (st0_55 t)) ?_
    refine mn (lose c (st0_56 t)) ?_
    refine mn (lose c (st0_57 t)) ?_
    refine mn (lose c (st0_58 t)) ?_
    refine mn (lose c (st0_59 t)) ?_
    refine mn (lose c (st0_60 t)) ?_
    refine mn (lose c (st0_61 t)) ?_
    refine mn (lose c (st0_62 t)) ?_
    refine mn (lose c (st0_63 t)) ?_
    refine mn (lose c (st0_64 t)) ?_
    refine mn (lose c (st0_65 t)) ?_
    refine mn (lose c (st0_66 t)) ?_
    refine mn (lose c (st0_67 t)) ?_
    refine mn (lose c (st0_68 t)) ?_
    refine mn (lose c (st0_69 t)) ?_
    refine mn (lose c (st0_70 t)) ?_
    refine mn (lose c (st0_71 t)) ?_
    refine mn (lose c (st0_72 t)) ?_
    refine mn (lose c (st0_73 t)) ?_
    refine mn (lose c (st0_74 t)) ?_
    refine mn (lose c (st0_75 t)) ?_
    refine mn (lose c (st0_76 t)) ?_
    refine mn (lose c (st0_77 t)) ?_
    refine mn (lose c (st0_78 t)) ?_
    refine mn (lose c (st0_79 t)) ?_
    refine mn (lose c (st0_80 t)) ?_
    refine mn (lose c (st0_81 t)) ?_
    refine mn (lose c (st0_82 t)) ?_
    refine mn (lose c (st0_83 t)) ?_
    refine mn (lose c (st0_84 t)) ?_
    refine mn (lose c (st0_85 t)) ?_
    refine mn (lose c (st0_86 t)) ?_
    refine mn (lose c (st0_87 t)) ?_
    refine mn (lose c (st0_88 t)) ?_
    refine mn (lose c (st0_89 t)) ?_
    refine mn (lose c (st0_90 t)) ?_
    refine mn (lose c (st0_91 t)) ?_
    exact lose c (st0_92 t)
  · refine mn .rfl ?_
    refine mn .rfl ?_
    refine mn (keep c (st0_0 t) (y := (dats m 0 c).after 0 t) (by dsimp only [dats])) ?_
    refine mn (keep c (st0_1 t) (y := (dats m 0 c).after 1 t) (by dsimp only [dats])) ?_
    refine mn (keep c (st0_2 t) (y := (dats m 0 c).after 2 t) (by dsimp only [dats])) ?_
    refine mn (keep c (st0_3 t) (y := (dats m 0 c).after 3 t) (by dsimp only [dats])) ?_
    refine mn (keep c (st0_4 t) (y := (dats m 0 c).after 4 t) (by dsimp only [dats])) ?_
    refine mn (keep c (st0_5 t) (y := (dats m 0 c).after 5 t) (by dsimp only [dats])) ?_
    refine mn (keep c (st0_6 t) (y := (dats m 0 c).after 6 t) (by dsimp only [dats])) ?_
    refine mn (keep c (st0_7 t) (y := (dats m 0 c).after 7 t) (by dsimp only [dats])) ?_
    refine mn (keep c (st0_8 t) (y := (dats m 0 c).after 8 t) (by dsimp only [dats])) ?_
    refine mn (keep c (st0_9 t) (y := (dats m 0 c).after 9 t) (by dsimp only [dats])) ?_
    refine mn (keep c (st0_10 t) (y := (dats m 0 c).after 10 t) (by dsimp only [dats])) ?_
    refine mn (keep c (st0_11 t) (y := (dats m 0 c).after 11 t) (by dsimp only [dats])) ?_
    refine mn (keep c (st0_12 t) (y := (dats m 0 c).after 12 t) (by dsimp only [dats])) ?_
    refine mn (keep c (st0_13 t) (y := (dats m 0 c).after 13 t) (by dsimp only [dats])) ?_
    refine mn (keep c (st0_14 t) (y := (dats m 0 c).after 14 t) (by dsimp only [dats])) ?_
    refine mn (keep c (st0_15 t) (y := (dats m 0 c).after 15 t) (by dsimp only [dats])) ?_
    refine mn (keep c (st0_16 t) (y := (dats m 0 c).after 16 t) (by dsimp only [dats])) ?_
    refine mn (keep c (st0_17 t) (y := (dats m 0 c).after 17 t) (by dsimp only [dats])) ?_
    refine mn (keep c (st0_18 t) (y := (dats m 0 c).after 18 t) (by dsimp only [dats])) ?_
    refine mn (keep c (st0_19 t) (y := (dats m 0 c).after 19 t) (by dsimp only [dats])) ?_
    refine mn (keep c (st0_20 t) (y := (dats m 0 c).after 20 t) (by dsimp only [dats])) ?_
    refine mn (keep c (st0_21 t) (y := (dats m 0 c).after 21 t) (by dsimp only [dats])) ?_
    refine mn (keep c (st0_22 t) (y := (dats m 0 c).after 22 t) (by dsimp only [dats])) ?_
    refine mn (keep c (st0_23 t) (y := (dats m 0 c).after 23 t) (by dsimp only [dats])) ?_
    refine mn (keep c (st0_24 t) (y := (dats m 0 c).after 24 t) (by dsimp only [dats])) ?_
    refine mn (keep c (st0_25 t) (y := (dats m 0 c).after 25 t) (by dsimp only [dats])) ?_
    refine mn (keep c (st0_26 t) (y := (dats m 0 c).after 26 t) (by dsimp only [dats])) ?_
    refine mn (keep c (st0_27 t) (y := (dats m 0 c).after 27 t) (by dsimp only [dats])) ?_
    refine mn (keep c (st0_28 t) (y := (dats m 0 c).after 28 t) (by dsimp only [dats])) ?_
    refine mn (keep c (st0_29 t) (y := (dats m 0 c).after 29 t) (by dsimp only [dats])) ?_
    refine mn (keep c (st0_30 t) (y := (dats m 0 c).after 30 t) (by dsimp only [dats])) ?_
    refine mn (keep c (st0_31 t) (y := (dats m 0 c).after 31 t) (by dsimp only [dats])) ?_
    refine mn (keep c (st0_32 t) (y := (dats m 0 c).after 32 t) (by dsimp only [dats])) ?_
    refine mn (keep c (st0_33 t) (y := (dats m 0 c).after 33 t) (by dsimp only [dats])) ?_
    refine mn (keep c (st0_34 t) (y := (dats m 0 c).after 34 t) (by dsimp only [dats])) ?_
    refine mn (keep c (st0_35 t) (y := (dats m 0 c).after 35 t) (by dsimp only [dats])) ?_
    refine mn (keep c (st0_36 t) (y := (dats m 0 c).after 36 t) (by dsimp only [dats])) ?_
    refine mn (keep c (st0_37 t) (y := (dats m 0 c).after 37 t) (by dsimp only [dats])) ?_
    refine mn (keep c (st0_38 t) (y := (dats m 0 c).after 38 t) (by dsimp only [dats])) ?_
    refine mn (keep c (st0_39 t) (y := (dats m 0 c).after 39 t) (by dsimp only [dats])) ?_
    refine mn (keep c (st0_40 t) (y := (dats m 0 c).after 40 t) (by dsimp only [dats])) ?_
    refine mn (keep c (st0_41 t) (y := (dats m 0 c).after 41 t) (by dsimp only [dats])) ?_
    refine mn (keep c (st0_42 t) (y := (dats m 0 c).after 42 t) (by dsimp only [dats])) ?_
    refine mn (keep c (st0_43 t) (y := (dats m 0 c).after 43 t) (by dsimp only [dats])) ?_
    refine mn (keep c (st0_44 t) (y := (dats m 0 c).after 44 t) (by dsimp only [dats])) ?_
    refine mn (keep c (st0_45 t) (y := (dats m 0 c).after 45 t) (by dsimp only [dats])) ?_
    refine mn (keep c (st0_46 t) (y := (dats m 0 c).after 46 t) (by dsimp only [dats])) ?_
    refine mn (keep c (st0_47 t) (y := (dats m 0 c).after 47 t) (by dsimp only [dats])) ?_
    refine mn (keep c (st0_48 t) (y := (dats m 0 c).after 48 t) (by dsimp only [dats])) ?_
    refine mn (keep c (st0_49 t) (y := (dats m 0 c).after 49 t) (by dsimp only [dats])) ?_
    refine mn (keep c (st0_50 t) (y := (dats m 0 c).after 50 t) (by dsimp only [dats])) ?_
    refine mn (keep c (st0_51 t) (y := (dats m 0 c).after 51 t) (by dsimp only [dats])) ?_
    refine mn (keep c (st0_52 t) (y := (dats m 0 c).after 52 t) (by dsimp only [dats])) ?_
    refine mn (keep c (st0_53 t) (y := (dats m 0 c).after 53 t) (by dsimp only [dats])) ?_
    refine mn (keep c (st0_54 t) (y := (dats m 0 c).after 54 t) (by dsimp only [dats])) ?_
    refine mn (keep c (st0_55 t) (y := (dats m 0 c).after 55 t) (by dsimp only [dats])) ?_
    refine mn (keep c (st0_56 t) (y := (dats m 0 c).after 56 t) (by dsimp only [dats])) ?_
    refine mn (keep c (st0_57 t) (y := (dats m 0 c).after 57 t) (by dsimp only [dats])) ?_
    refine mn (keep c (st0_58 t) (y := (dats m 0 c).after 58 t) (by dsimp only [dats])) ?_
    refine mn (keep c (st0_59 t) (y := (dats m 0 c).after 59 t) (by dsimp only [dats])) ?_
    refine mn (keep c (st0_60 t) (y := (dats m 0 c).after 60 t) (by dsimp only [dats])) ?_
    refine mn (keep c (st0_61 t) (y := (dats m 0 c).after 61 t) (by dsimp only [dats])) ?_
    refine mn (keep c (st0_62 t) (y := (dats m 0 c).after 62 t) (by dsimp only [dats])) ?_
    refine mn (keep c (st0_63 t) (y := (dats m 0 c).after 63 t) (by dsimp only [dats])) ?_
    refine mn (keep c (st0_64 t) (y := (dats m 0 c).after 64 t) (by dsimp only [dats])) ?_
    refine mn (keep c (st0_65 t) (y := (dats m 0 c).after 65 t) (by dsimp only [dats])) ?_
    refine mn (keep c (st0_66 t) (y := (dats m 0 c).after 66 t) (by dsimp only [dats])) ?_
    refine mn (keep c (st0_67 t) (y := (dats m 0 c).after 67 t) (by dsimp only [dats])) ?_
    refine mn (keep c (st0_68 t) (y := (dats m 0 c).after 68 t) (by dsimp only [dats])) ?_
    refine mn (keep c (st0_69 t) (y := (dats m 0 c).after 69 t) (by dsimp only [dats])) ?_
    refine mn (keep c (st0_70 t) (y := (dats m 0 c).after 70 t) (by dsimp only [dats])) ?_
    refine mn (keep c (st0_71 t) (y := (dats m 0 c).after 71 t) (by dsimp only [dats])) ?_
    refine mn (keep c (st0_72 t) (y := (dats m 0 c).after 72 t) (by dsimp only [dats])) ?_
    refine mn (keep c (st0_73 t) (y := (dats m 0 c).after 73 t) (by dsimp only [dats])) ?_
    refine mn (keep c (st0_74 t) (y := (dats m 0 c).after 74 t) (by dsimp only [dats])) ?_
    refine mn (keep c (st0_75 t) (y := (dats m 0 c).after 75 t) (by dsimp only [dats])) ?_
    refine mn (keep c (st0_76 t) (y := (dats m 0 c).after 76 t) (by dsimp only [dats])) ?_
    refine mn (keep c (st0_77 t) (y := (dats m 0 c).after 77 t) (by dsimp only [dats])) ?_
    refine mn (keep c (st0_78 t) (y := (dats m 0 c).after 78 t) (by dsimp only [dats])) ?_
    refine mn (keep c (st0_79 t) (y := (dats m 0 c).after 79 t) (by dsimp only [dats])) ?_
    refine mn (keep c (st0_80 t) (y := (dats m 0 c).after 80 t) (by dsimp only [dats])) ?_
    refine mn (keep c (st0_81 t) (y := (dats m 0 c).after 81 t) (by dsimp only [dats])) ?_
    refine mn (keep c (st0_82 t) (y := (dats m 0 c).after 82 t) (by dsimp only [dats])) ?_
    refine mn (keep c (st0_83 t) (y := (dats m 0 c).after 83 t) (by dsimp only [dats])) ?_
    refine mn (keep c (st0_84 t) (y := (dats m 0 c).after 84 t) (by dsimp only [dats])) ?_
    refine mn (keep c (st0_85 t) (y := (dats m 0 c).after 85 t) (by dsimp only [dats])) ?_
    refine mn (keep c (st0_86 t) (y := (dats m 0 c).after 86 t) (by dsimp only [dats])) ?_
    refine mn (keep c (st0_87 t) (y := (dats m 0 c).after 87 t) (by dsimp only [dats])) ?_
    refine mn (keep c (st0_88 t) (y := (dats m 0 c).after 88 t) (by dsimp only [dats])) ?_
    refine mn (keep c (st0_89 t) (y := (dats m 0 c).after 89 t) (by dsimp only [dats])) ?_
    refine mn (keep c (st0_90 t) (y := (dats m 0 c).after 90 t) (by dsimp only [dats])) ?_
    refine mn (keep c (st0_91 t) (y := (dats m 0 c).after 91 t) (by dsimp only [dats])) ?_
    exact keep c (st0_92 t) (y := (dats m 0 c).after 92 t) (by dsimp only [dats])

end Cert.AdSmIdeal.Step

end
-- ==== Proof.AdSmFr.lean ====
/-
  The optimiser step of the thirteen small weights: its run from the body's obligation, and its frame.
-/
module

public import proofs.«01_k».proof.Proof.AdSmOb
public import proofs.«01_k».proof.Proof.Gen.AdSmIdeal.Launch
public import proofs.«01_k».proof.Proof.Gen.AdSmIdeal.Skeleton
public import proofs.«01_k».proof.Proof.Gen.AdSmIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.AdSmIdeal.Step

open Cert.AdSmIdeal Cert.AdSmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1600000 in
/-- Every array of the launch ends as the proof data says, every other buffer as the launch found it, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_region m Variants.none) (hA := A_eq m) (hΦ := fun _ _ => rfl)

/-- What is not an array of the launch and not a result of the layout ends as it began. -/
theorem quiet {r : (PUnit × (MemSt nD τ sig (Elt F)))} (h : Pipeline.FramePost cfgs (dats m) 0 (V m) r) (c : Dev nD) (b : Ref sig .tc)
    (hs : b.isScoped = false) (ha : ∀ w, (spec0 w).arr.view.ref ≠ b) (hb : b ∉ ([main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39] : List (Ref sig .tc))) :
    r.2.mem ((c.tc : Thread nD τ).loc b) = m ((c.tc : Thread nD τ).loc b) :=
  ((h c).2 b (Pipeline.mem_restRefs_of b hs ha)).trans (kept m c b hb)

/-- A buffer ends as it began. -/
abbrev kp (r : PUnit × MemSt nD τ sig (Elt F)) (c : Dev nD) (b : Ref sig .tc) : Prop :=
  r.2.mem ((c.tc : Thread nD τ).loc b) = m ((c.tc : Thread nD τ).loc b)

/-- Every argument ends as it began. -/
abbrev Args (r : PUnit × MemSt nD τ sig (Elt F)) (c : Dev nD) : Prop :=
  kp m r c main_arg0 ∧ kp m r c main_arg1 ∧ kp m r c main_arg2 ∧ kp m r c main_arg3 ∧ kp m r c main_arg4 ∧ kp m r c main_arg5 ∧ kp m r c main_arg6 ∧ kp m r c main_arg7 ∧ kp m r c main_arg8 ∧ kp m r c main_arg9 ∧ kp m r c main_arg10 ∧ kp m r c main_arg11 ∧ kp m r c main_arg12 ∧ kp m r c main_arg13 ∧ kp m r c main_arg14 ∧ kp m r c main_arg15 ∧ kp m r c main_arg16 ∧ kp m r c main_arg17 ∧ kp m r c main_arg18 ∧ kp m r c main_arg19 ∧ kp m r c main_arg20 ∧ kp m r c main_arg21 ∧ kp m r c main_arg22 ∧ kp m r c main_arg23 ∧ kp m r c main_arg24 ∧ kp m r c main_arg25 ∧ kp m r c main_arg26 ∧ kp m r c main_arg27 ∧ kp m r c main_arg28 ∧ kp m r c main_arg29 ∧ kp m r c main_arg30 ∧ kp m r c main_arg31 ∧ kp m r c main_arg32 ∧ kp m r c main_arg33 ∧ kp m r c main_arg34 ∧ kp m r c main_arg35 ∧ kp m r c main_arg36 ∧ kp m r c main_arg37 ∧ kp m r c main_arg38 ∧ kp m r c main_arg39

theorem args {r : PUnit × MemSt nD τ sig (Elt F)} (h : Pipeline.FramePost cfgs (dats m) 0 (V m) r) (c : Dev nD) : Args m r c := by
  repeat' (first | exact quiet m h c _ rfl (by decide) (by decide) | apply And.intro)

/-- Every execution ends, with every argument as it began and every counter at zero. -/
theorem frame : θ_run defs (onTc (τ := τ) (main (F := F))) ⟨m, fun _ => 0, ρ⟩ (fun r => (∀ c : Dev nD, Args m r c) ∧ r.2.sem = fun _ => 0) :=
  (θ_run defs _ _).mono (fun _ h => ⟨fun c => args m h.1 c, h.2⟩) (run m ρ)

end Cert.AdSmIdeal.Step

end
-- ==== Proof.AdSmIn.lean ====
/-
  The optimiser step of the thirteen small weights: the kernel against the reference's lines.
-/
module

public import proofs.«01_k».proof.Proof.AdSmRun
public import proofs.«01_k».proof.Proof.Gen.AdSmRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdSmIdeal.Step

open Cert.AdSmIdeal Cert.AdSmIdeal.Gen Cert.AdSmRefIdeal.Read

variable (m : (ℓ : Loc nD τ sig) → Buf (Elt Ideal) ℓ) (c : Dev nD)

/-- What a buffer holds at the start. -/
abbrev A (b : Ref sig .tc) : Buf (Elt Ideal) ((c : Thread nD τ).loc b) := m ((c : Thread nD τ).loc b)

theorem hz : (![0, 0] : Fin 2 → Nat) = fun _ => 0 := funext fun a => by fin_cases a <;> rfl

/-- The only step. -/
abbrev t0 : Fin cfg0.N := ⟨0, by decide⟩

/-! ## What the launch reads

Window `k` reads argument `k` as rows. -/

theorem e0 (w : Fin cfg0.W) (h : ∀ a, (cfg0.win w).index t0 a = 0) (y) (a) :
    (((cfg0.win w).rect t0).emb y a).val = (y a).val :=
  Pipeline.Window.rect_emb_val_of_index_zero _ _ _ (h a) y

theorem in0 : (iblk m c 0 t0 : S3200x128.Idx → EReal) = val_main_v0 (F := Ideal) (A m c main_arg0) :=
  Eq.trans (b := (V m c main_v0 : S3200x128.Idx → EReal)) (funext fun y => congrArg (V m c main_v0) (funext fun a => Fin.ext (e0 0 (by decide +kernel) y a)))
    (by unfold_abbrev_sides; after_results; rfl)

theorem in1 : (iblk m c 1 t0 : S8x128.Idx → EReal) = val_main_v1 (F := Ideal) (A m c main_arg1) :=
  Eq.trans (b := (V m c main_v1 : S8x128.Idx → EReal)) (funext fun y => congrArg (V m c main_v1) (funext fun a => Fin.ext (e0 1 (by decide +kernel) y a)))
    (by unfold_abbrev_sides; after_results; rfl)

theorem in2 : (iblk m c 2 t0 : S8x128.Idx → EReal) = val_main_v2 (F := Ideal) (A m c main_arg2) :=
  Eq.trans (b := (V m c main_v2 : S8x128.Idx → EReal)) (funext fun y => congrArg (V m c main_v2) (funext fun a => Fin.ext (e0 2 (by decide +kernel) y a)))
    (by unfold_abbrev_sides; after_results; rfl)

theorem in3 : (iblk m c 3 t0 : S8x128.Idx → EReal) = val_main_v3 (F := Ideal) (A m c main_arg3) :=
  Eq.trans (b := (V m c main_v3 : S8x128.Idx → EReal)) (funext fun y => congrArg (V m c main_v3) (funext fun a => Fin.ext (e0 3 (by decide +kernel) y a)))
    (by unfold_abbrev_sides; after_results; rfl)

theorem in4 : (iblk m c 4 t0 : S8x128.Idx → EReal) = val_main_v29 (F := Ideal) (A m c main_arg4) :=
  Eq.trans (b := (V m c main_v4 : S8x128.Idx → EReal)) (funext fun y => congrArg (V m c main_v4) (funext fun a => Fin.ext (e0 4 (by decide +kernel) y a)))
    (by unfold_abbrev_sides; after_results; rfl)

theorem in5 : (iblk m c 5 t0 : S8x128.Idx → EReal) = val_main_v30 (F := Ideal) (A m c main_arg5) :=
  Eq.trans (b := (V m c main_v5 : S8x128.Idx → EReal)) (funext fun y => congrArg (V m c main_v5) (funext fun a => Fin.ext (e0 5 (by decide +kernel) y a)))
    (by unfold_abbrev_sides; after_results; rfl)

theorem in6 : (iblk m c 6 t0 : S8x128.Idx → EReal) = val_main_v31 (F := Ideal) (A m c main_arg6) :=
  Eq.trans (b := (V m c main_v6 : S8x128.Idx → EReal)) (funext fun y => congrArg (V m c main_v6) (funext fun a => Fin.ext (e0 6 (by decide +kernel) y a)))
    (by unfold_abbrev_sides; after_results; rfl)

theorem in7 : (iblk m c 7 t0 : S1024x128.Idx → EReal) = val_main_v57 (F := Ideal) (A m c main_arg7) :=
  Eq.trans (b := (V m c main_v7 : S1024x128.Idx → EReal)) (funext fun y => congrArg (V m c main_v7) (funext fun a => Fin.ext (e0 7 (by decide +kernel) y a)))
    (by unfold_abbrev_sides; after_results; rfl)

theorem in8 : (iblk m c 8 t0 : S1024x128.Idx → EReal) = val_main_v58 (F := Ideal) (A m c main_arg8) :=
  Eq.trans (b := (V m c main_v8 : S1024x128.Idx → EReal)) (funext fun y => congrArg (V m c main_v8) (funext fun a => Fin.ext (e0 8 (by decide +kernel) y a)))
    (by unfold_abbrev_sides; after_results; rfl)

theorem in9 : (iblk m c 9 t0 : S1024x128.Idx → EReal) = val_main_v59 (F := Ideal) (A m c main_arg9) :=
  Eq.trans (b := (V m c main_v9 : S1024x128.Idx → EReal)) (funext fun y => congrArg (V m c main_v9) (funext fun a => Fin.ext (e0 9 (by decide +kernel) y a)))
    (by unfold_abbrev_sides; after_results; rfl)

theorem in10 : (iblk m c 10 t0 : S8x128.Idx → EReal) = val_main_v85 (F := Ideal) (A m c main_arg10) :=
  Eq.trans (b := (V m c main_v10 : S8x128.Idx → EReal)) (funext fun y => congrArg (V m c main_v10) (funext fun a => Fin.ext (e0 10 (by decide +kernel) y a)))
    (by unfold_abbrev_sides; after_results; rfl)

theorem in11 : (iblk m c 11 t0 : S8x128.Idx → EReal) = val_main_v86 (F := Ideal) (A m c main_arg11) :=
  Eq.trans (b := (V m c main_v11 : S8x128.Idx → EReal)) (funext fun y => congrArg (V m c main_v11) (funext fun a => Fin.ext (e0 11 (by decide +kernel) y a)))
    (by unfold_abbrev_sides; after_results; rfl)

theorem in12 : (iblk m c 12 t0 : S8x128.Idx → EReal) = val_main_v87 (F := Ideal) (A m c main_arg12) :=
  Eq.trans (b := (V m c main_v12 : S8x128.Idx → EReal)) (funext fun y => congrArg (V m c main_v12) (funext fun a => Fin.ext (e0 12 (by decide +kernel) y a)))
    (by unfold_abbrev_sides; after_results; rfl)

theorem in13 : (iblk m c 13 t0 : S8x128.Idx → EReal) = val_main_v113 (F := Ideal) (A m c main_arg13) :=
  Eq.trans (b := (V m c main_v13 : S8x128.Idx → EReal)) (funext fun y => congrArg (V m c main_v13) (funext fun a => Fin.ext (e0 13 (by decide +kernel) y a)))
    (by unfold_abbrev_sides; after_results; rfl)

theorem in14 : (iblk m c 14 t0 : S8x128.Idx → EReal) = val_main_v114 (F := Ideal) (A m c main_arg14) :=
  Eq.trans (b := (V m c main_v14 : S8x128.Idx → EReal)) (funext fun y => congrArg (V m c main_v14) (funext fun a => Fin.ext (e0 14 (by decide +kernel) y a)))
    (by unfold_abbrev_sides; after_results; rfl)

theorem in15 : (iblk m c 15 t0 : S8x128.Idx → EReal) = val_main_v115 (F := Ideal) (A m c main_arg15) :=
  Eq.trans (b := (V m c main_v15 : S8x128.Idx → EReal)) (funext fun y => congrArg (V m c main_v15) (funext fun a => Fin.ext (e0 15 (by decide +kernel) y a)))
    (by unfold_abbrev_sides; after_results; rfl)

theorem in16 : (iblk m c 16 t0 : S1024x128.Idx → EReal) = val_main_v141 (F := Ideal) (A m c main_arg16) :=
  Eq.trans (b := (V m c main_v16 : S1024x128.Idx → EReal)) (funext fun y => congrArg (V m c main_v16) (funext fun a => Fin.ext (e0 16 (by decide +kernel) y a)))
    (by unfold_abbrev_sides; after_results; rfl)

theorem in17 : (iblk m c 17 t0 : S1024x128.Idx → EReal) = val_main_v142 (F := Ideal) (A m c main_arg17) :=
  Eq.trans (b := (V m c main_v17 : S1024x128.Idx → EReal)) (funext fun y => congrArg (V m c main_v17) (funext fun a => Fin.ext (e0 17 (by decide +kernel) y a)))
    (by unfold_abbrev_sides; after_results; rfl)

theorem in18 : (iblk m c 18 t0 : S1024x128.Idx → EReal) = val_main_v143 (F := Ideal) (A m c main_arg18) :=
  Eq.trans (b := (V m c main_v18 : S1024x128.Idx → EReal)) (funext fun y => congrArg (V m c main_v18) (funext fun a => Fin.ext (e0 18 (by decide +kernel) y a)))
    (by unfold_abbrev_sides; after_results; rfl)

theorem in19 : (iblk m c 19 t0 : S8x128.Idx → EReal) = val_main_v169 (F := Ideal) (A m c main_arg19) :=
  Eq.trans (b := (V m c main_v19 : S8x128.Idx → EReal)) (funext fun y => congrArg (V m c main_v19) (funext fun a => Fin.ext (e0 19 (by decide +kernel) y a)))
    (by unfold_abbrev_sides; after_results; rfl)

theorem in20 : (iblk m c 20 t0 : S8x128.Idx → EReal) = val_main_v170 (F := Ideal) (A m c main_arg20) :=
  Eq.trans (b := (V m c main_v20 : S8x128.Idx → EReal)) (funext fun y => congrArg (V m c main_v20) (funext fun a => Fin.ext (e0 20 (by decide +kernel) y a)))
    (by unfold_abbrev_sides; after_results; rfl)

theorem in21 : (iblk m c 21 t0 : S8x128.Idx → EReal) = val_main_v171 (F := Ideal) (A m c main_arg21) :=
  Eq.trans (b := (V m c main_v21 : S8x128.Idx → EReal)) (funext fun y => congrArg (V m c main_v21) (funext fun a => Fin.ext (e0 21 (by decide +kernel) y a)))
    (by unfold_abbrev_sides; after_results; rfl)

theorem in22 : (iblk m c 22 t0 : S1024x128.Idx → EReal) = val_main_v197 (F := Ideal) (A m c main_arg22) :=
  Eq.trans (b := (V m c main_v22 : S1024x128.Idx → EReal)) (funext fun y => congrArg (V m c main_v22) (funext fun a => Fin.ext (e0 22 (by decide +kernel) y a)))
    (by unfold_abbrev_sides; after_results; rfl)

theorem in23 : (iblk m c 23 t0 : S1024x128.Idx → EReal) = val_main_v198 (F := Ideal) (A m c main_arg23) :=
  Eq.trans (b := (V m c main_v23 : S1024x128.Idx → EReal)) (funext fun y => congrArg (V m c main_v23) (funext fun a => Fin.ext (e0 23 (by decide +kernel) y a)))
    (by unfold_abbrev_sides; after_results; rfl)

theorem in24 : (iblk m c 24 t0 : S1024x128.Idx → EReal) = val_main_v199 (F := Ideal) (A m c main_arg24) :=
  Eq.trans (b := (V m c main_v24 : S1024x128.Idx → EReal)) (funext fun y => congrArg (V m c main_v24) (funext fun a => Fin.ext (e0 24 (by decide +kernel) y a)))
    (by unfold_abbrev_sides; after_results; rfl)

theorem in25 : (iblk m c 25 t0 : S8x128.Idx → EReal) = val_main_v225 (F := Ideal) (A m c main_arg25) :=
  Eq.trans (b := (V m c main_v25 : S8x128.Idx → EReal)) (funext fun y => congrArg (V m c main_v25) (funext fun a => Fin.ext (e0 25 (by decide +kernel) y a)))
    (by unfold_abbrev_sides; after_results; rfl)

theorem in26 : (iblk m c 26 t0 : S8x128.Idx → EReal) = val_main_v226 (F := Ideal) (A m c main_arg26) :=
  Eq.trans (b := (V m c main_v26 : S8x128.Idx → EReal)) (funext fun y => congrArg (V m c main_v26) (funext fun a => Fin.ext (e0 26 (by decide +kernel) y a)))
    (by unfold_abbrev_sides; after_results; rfl)

theorem in27 : (iblk m c 27 t0 : S8x128.Idx → EReal) = val_main_v227 (F := Ideal) (A m c main_arg27) :=
  Eq.trans (b := (V m c main_v27 : S8x128.Idx → EReal)) (funext fun y => congrArg (V m c main_v27) (funext fun a => Fin.ext (e0 27 (by decide +kernel) y a)))
    (by unfold_abbrev_sides; after_results; rfl)

theorem in28 : (iblk m c 28 t0 : S8x128.Idx → EReal) = val_main_v253 (F := Ideal) (A m c main_arg28) :=
  Eq.trans (b := (V m c main_v28 : S8x128.Idx → EReal)) (funext fun y => congrArg (V m c main_v28) (funext fun a => Fin.ext (e0 28 (by decide +kernel) y a)))
    (by unfold_abbrev_sides; after_results; rfl)

theorem in29 : (iblk m c 29 t0 : S8x128.Idx → EReal) = val_main_v254 (F := Ideal) (A m c main_arg29) :=
  Eq.trans (b := (V m c main_v29 : S8x128.Idx → EReal)) (funext fun y => congrArg (V m c main_v29) (funext fun a => Fin.ext (e0 29 (by decide +kernel) y a)))
    (by unfold_abbrev_sides; after_results; rfl)

theorem in30 : (iblk m c 30 t0 : S8x128.Idx → EReal) = val_main_v255 (F := Ideal) (A m c main_arg30) :=
  Eq.trans (b := (V m c main_v30 : S8x128.Idx → EReal)) (funext fun y => congrArg (V m c main_v30) (funext fun a => Fin.ext (e0 30 (by decide +kernel) y a)))
    (by unfold_abbrev_sides; after_results; rfl)

theorem in31 : (iblk m c 31 t0 : S8x128.Idx → EReal) = val_main_v281 (F := Ideal) (A m c main_arg31) :=
  Eq.trans (b := (V m c main_v31 : S8x128.Idx → EReal)) (funext fun y => congrArg (V m c main_v31) (funext fun a => Fin.ext (e0 31 (by decide +kernel) y a)))
    (by unfold_abbrev_sides; after_results; rfl)

theorem in32 : (iblk m c 32 t0 : S8x128.Idx → EReal) = val_main_v282 (F := Ideal) (A m c main_arg32) :=
  Eq.trans (b := (V m c main_v32 : S8x128.Idx → EReal)) (funext fun y => congrArg (V m c main_v32) (funext fun a => Fin.ext (e0 32 (by decide +kernel) y a)))
    (by unfold_abbrev_sides; after_results; rfl)

theorem in33 : (iblk m c 33 t0 : S8x128.Idx → EReal) = val_main_v283 (F := Ideal) (A m c main_arg33) :=
  Eq.trans (b := (V m c main_v33 : S8x128.Idx → EReal)) (funext fun y => congrArg (V m c main_v33) (funext fun a => Fin.ext (e0 33 (by decide +kernel) y a)))
    (by unfold_abbrev_sides; after_results; rfl)

theorem in34 : (iblk m c 34 t0 : S8x128.Idx → EReal) = val_main_v309 (F := Ideal) (A m c main_arg34) :=
  Eq.trans (b := (V m c main_v34 : S8x128.Idx → EReal)) (funext fun y => congrArg (V m c main_v34) (funext fun a => Fin.ext (e0 34 (by decide +kernel) y a)))
    (by unfold_abbrev_sides; after_results; rfl)

theorem in35 : (iblk m c 35 t0 : S8x128.Idx → EReal) = val_main_v310 (F := Ideal) (A m c main_arg35) :=
  Eq.trans (b := (V m c main_v35 : S8x128.Idx → EReal)) (funext fun y => congrArg (V m c main_v35) (funext fun a => Fin.ext (e0 35 (by decide +kernel) y a)))
    (by unfold_abbrev_sides; after_results; rfl)

theorem in36 : (iblk m c 36 t0 : S8x128.Idx → EReal) = val_main_v311 (F := Ideal) (A m c main_arg36) :=
  Eq.trans (b := (V m c main_v36 : S8x128.Idx → EReal)) (funext fun y => congrArg (V m c main_v36) (funext fun a => Fin.ext (e0 36 (by decide +kernel) y a)))
    (by unfold_abbrev_sides; after_results; rfl)

theorem in37 : (iblk m c 37 t0 : S16x128.Idx → EReal) = val_main_v337 (F := Ideal) (A m c main_arg37) :=
  Eq.trans (b := (V m c main_v37 : S16x128.Idx → EReal)) (funext fun y => congrArg (V m c main_v37) (funext fun a => Fin.ext (e0 37 (by decide +kernel) y a)))
    (by unfold_abbrev_sides; after_results; rfl)

theorem in38 : (iblk m c 38 t0 : S16x128.Idx → EReal) = val_main_v338 (F := Ideal) (A m c main_arg38) :=
  Eq.trans (b := (V m c main_v38 : S16x128.Idx → EReal)) (funext fun y => congrArg (V m c main_v38) (funext fun a => Fin.ext (e0 38 (by decide +kernel) y a)))
    (by unfold_abbrev_sides; after_results; rfl)

theorem in39 : (iblk m c 39 t0 : S16x128.Idx → EReal) = val_main_v339 (F := Ideal) (A m c main_arg39) :=
  Eq.trans (b := (V m c main_v39 : S16x128.Idx → EReal)) (funext fun y => congrArg (V m c main_v39) (funext fun a => Fin.ext (e0 39 (by decide +kernel) y a)))
    (by unfold_abbrev_sides; after_results; rfl)

/-! ## The rows of the packed gradients -/

theorem g0 : (View.ld (iblk m c 0 t0) G0 : S8x128.Idx → EReal) = val_main_v4 (F := Ideal) (A m c main_arg0) := by
  rw [in0]; unfold val_main_v4; exact funext fun y => View.ld_unit_apply_of _ _ _ _ y _ fun _ => rfl

theorem g1 : (View.ld (iblk m c 0 t0) G8 : S8x128.Idx → EReal) = val_main_v32 (F := Ideal) (A m c main_arg0) := by
  rw [in0]; unfold val_main_v32; exact funext fun y => View.ld_unit_apply_of _ _ _ _ y _ fun _ => rfl

theorem g2 : (View.ld (iblk m c 0 t0) G16 : S1024x128.Idx → EReal) = val_main_v60 (F := Ideal) (A m c main_arg0) := by
  rw [in0]; unfold val_main_v60; exact funext fun y => View.ld_unit_apply_of _ _ _ _ y _ fun _ => rfl

theorem g3 : (View.ld (iblk m c 0 t0) G1040 : S8x128.Idx → EReal) = val_main_v88 (F := Ideal) (A m c main_arg0) := by
  rw [in0]; unfold val_main_v88; exact funext fun y => View.ld_unit_apply_of _ _ _ _ y _ fun _ => rfl

theorem g4 : (View.ld (iblk m c 0 t0) G1048 : S8x128.Idx → EReal) = val_main_v116 (F := Ideal) (A m c main_arg0) := by
  rw [in0]; unfold val_main_v116; exact funext fun y => View.ld_unit_apply_of _ _ _ _ y _ fun _ => rfl

theorem g5 : (View.ld (iblk m c 0 t0) G1056 : S1024x128.Idx → EReal) = val_main_v144 (F := Ideal) (A m c main_arg0) := by
  rw [in0]; unfold val_main_v144; exact funext fun y => View.ld_unit_apply_of _ _ _ _ y _ fun _ => rfl

theorem g6 : (View.ld (iblk m c 0 t0) G2080 : S8x128.Idx → EReal) = val_main_v172 (F := Ideal) (A m c main_arg0) := by
  rw [in0]; unfold val_main_v172; exact funext fun y => View.ld_unit_apply_of _ _ _ _ y _ fun _ => rfl

theorem g7 : (View.ld (iblk m c 0 t0) G2088 : S1024x128.Idx → EReal) = val_main_v200 (F := Ideal) (A m c main_arg0) := by
  rw [in0]; unfold val_main_v200; exact funext fun y => View.ld_unit_apply_of _ _ _ _ y _ fun _ => rfl

theorem g8 : (View.ld (iblk m c 0 t0) G3112 : S8x128.Idx → EReal) = val_main_v228 (F := Ideal) (A m c main_arg0) := by
  rw [in0]; unfold val_main_v228; exact funext fun y => View.ld_unit_apply_of _ _ _ _ y _ fun _ => rfl

theorem g9 : (View.ld (iblk m c 0 t0) G3120 : S8x128.Idx → EReal) = val_main_v256 (F := Ideal) (A m c main_arg0) := by
  rw [in0]; unfold val_main_v256; exact funext fun y => View.ld_unit_apply_of _ _ _ _ y _ fun _ => rfl

theorem g10 : (View.ld (iblk m c 0 t0) G3128 : S8x128.Idx → EReal) = val_main_v284 (F := Ideal) (A m c main_arg0) := by
  rw [in0]; unfold val_main_v284; exact funext fun y => View.ld_unit_apply_of _ _ _ _ y _ fun _ => rfl

theorem g11 : (View.ld (iblk m c 0 t0) G3136 : S8x128.Idx → EReal) = val_main_v312 (F := Ideal) (A m c main_arg0) := by
  rw [in0]; unfold val_main_v312; exact funext fun y => View.ld_unit_apply_of _ _ _ _ y _ fun _ => rfl

theorem g12 : (View.ld (iblk m c 0 t0) G3144 : S16x128.Idx → EReal) = val_main_v340 (F := Ideal) (A m c main_arg0) := by
  rw [in0]; unfold val_main_v340; exact funext fun y => View.ld_unit_apply_of _ _ _ _ y _ fun _ => rfl

theorem g13 : (View.ld (iblk m c 0 t0) G3160 : S8x128.Idx → EReal) = val_main_v365 (F := Ideal) (A m c main_arg0) := by
  rw [in0]; unfold val_main_v365; exact funext fun y => View.ld_unit_apply_of _ _ _ _ y _ fun _ => rfl

/-! ## What each result holds -/

theorem lRB (X : S1024x128.Idx → Elt Ideal .f32) : (View.ld X RB : S1024x128.Idx → Elt Ideal .f32) = X := View.ld_unit_zero (S := S1024x128) hz _ X

theorem lRC (X : S16x128.Idx → Elt Ideal .f32) : (View.ld X RC : S16x128.Idx → Elt Ideal .f32) = X := View.ld_unit_zero (S := S16x128) hz _ X

theorem lRA (X : S8x128.Idx → Elt Ideal .f32) : (View.ld X RA : S8x128.Idx → Elt Ideal .f32) = X := View.ld_unit_zero (S := S8x128) hz _ X

end Cert.AdSmIdeal.Step

end
-- ==== Proof.AdSmA.lean ====
/-
  The optimiser step of the thirteen small weights: what some of its results hold.
-/
module

public import proofs.«01_k».proof.Proof.AdSmIn
public import proofs.«01_k».proof.Proof.Gen.AdSmRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdSmIdeal.Step

open Cert.AdSmIdeal Cert.AdSmIdeal.Gen Cert.AdSmRefIdeal.Read

variable (m : (ℓ : Loc nD τ sig) → Buf (Elt Ideal) ℓ) (c : Dev nD)

set_option maxHeartbeats 4000000

/-! ## What each result holds -/

theorem r40 : (dats m 0 c).arrAt 40 cfg0.N = (val_main_v4 (F := Ideal) (A m c main_arg0) : S8x128.Idx → EReal) := by
  refine (dats m 0 c).arrAt_eq_of_after_last 40 t0 (by decide +kernel) _ fun j => ?_
  refine Eq.trans (b := o40 (iblk m c 0 t0) j) (by sl_kernel_rfl) ?_
  unfold o40
  rw [View.canon_unit_zero hz, g0]
  simp only [k0_pay3, shapeCast_self]; sl_kernel_rfl

theorem r41 : (dats m 0 c).arrAt 41 cfg0.N = (val_main_v28 (F := Ideal) (A m c main_arg0) (A m c main_arg1) (A m c main_arg2) (A m c main_arg3) : S8x128.Idx → EReal) := by
  refine (dats m 0 c).arrAt_eq_of_after_last 41 t0 (by decide +kernel) _ fun j => ?_
  refine Eq.trans (b := o41 (iblk m c 0 t0) (iblk m c 1 t0) (iblk m c 2 t0) (iblk m c 3 t0) j) (by sl_kernel_rfl) ?_
  unfold o41
  rw [View.canon_unit_zero hz, g0, lRA, in1, lRA, in2, lRA, in3]
  simp only [k0_pay3, k0_pay4, k0_pay5, k0_pay6, k0_pay7, k0_pay8, shapeCast_self]; sl_kernel_rfl

theorem r42 : (dats m 0 c).arrAt 42 cfg0.N = (val_main_v9 (F := Ideal) (A m c main_arg0) (A m c main_arg2) : S8x128.Idx → EReal) := by
  refine (dats m 0 c).arrAt_eq_of_after_last 42 t0 (by decide +kernel) _ fun j => ?_
  refine Eq.trans (b := o42 (iblk m c 0 t0) (iblk m c 2 t0) j) (by sl_kernel_rfl) ?_
  unfold o42
  rw [View.canon_unit_zero hz, g0, lRA, in2]
  simp only [k0_pay3, k0_pay4, shapeCast_self]; sl_kernel_rfl

theorem r43 : (dats m 0 c).arrAt 43 cfg0.N = (val_main_v15 (F := Ideal) (A m c main_arg0) (A m c main_arg3) : S8x128.Idx → EReal) := by
  refine (dats m 0 c).arrAt_eq_of_after_last 43 t0 (by decide +kernel) _ fun j => ?_
  refine Eq.trans (b := o43 (iblk m c 0 t0) (iblk m c 3 t0) j) (by sl_kernel_rfl) ?_
  unfold o43
  rw [View.canon_unit_zero hz, g0, lRA, in3]
  simp only [k0_pay3, k0_pay5, shapeCast_self]; sl_kernel_rfl

theorem r44 : (dats m 0 c).arrAt 44 cfg0.N = (val_main_v32 (F := Ideal) (A m c main_arg0) : S8x128.Idx → EReal) := by
  refine (dats m 0 c).arrAt_eq_of_after_last 44 t0 (by decide +kernel) _ fun j => ?_
  refine Eq.trans (b := o44 (iblk m c 0 t0) j) (by sl_kernel_rfl) ?_
  unfold o44
  rw [View.canon_unit_zero hz, g1]
  simp only [k0_pay9, shapeCast_self]; sl_kernel_rfl

theorem r45 : (dats m 0 c).arrAt 45 cfg0.N = (val_main_v56 (F := Ideal) (A m c main_arg0) (A m c main_arg4) (A m c main_arg5) (A m c main_arg6) : S8x128.Idx → EReal) := by
  refine (dats m 0 c).arrAt_eq_of_after_last 45 t0 (by decide +kernel) _ fun j => ?_
  refine Eq.trans (b := o45 (iblk m c 0 t0) (iblk m c 4 t0) (iblk m c 5 t0) (iblk m c 6 t0) j) (by sl_kernel_rfl) ?_
  unfold o45
  rw [View.canon_unit_zero hz, g1, lRA, in4, lRA, in5, lRA, in6]
  simp only [k0_pay9, k0_pay10, k0_pay11, k0_pay12, k0_pay13, k0_pay14, shapeCast_self]; sl_kernel_rfl

theorem r46 : (dats m 0 c).arrAt 46 cfg0.N = (val_main_v37 (F := Ideal) (A m c main_arg0) (A m c main_arg5) : S8x128.Idx → EReal) := by
  refine (dats m 0 c).arrAt_eq_of_after_last 46 t0 (by decide +kernel) _ fun j => ?_
  refine Eq.trans (b := o46 (iblk m c 0 t0) (iblk m c 5 t0) j) (by sl_kernel_rfl) ?_
  unfold o46
  rw [View.canon_unit_zero hz, g1, lRA, in5]
  simp only [k0_pay9, k0_pay10, shapeCast_self]; sl_kernel_rfl

theorem r47 : (dats m 0 c).arrAt 47 cfg0.N = (val_main_v43 (F := Ideal) (A m c main_arg0) (A m c main_arg6) : S8x128.Idx → EReal) := by
  refine (dats m 0 c).arrAt_eq_of_after_last 47 t0 (by decide +kernel) _ fun j => ?_
  refine Eq.trans (b := o47 (iblk m c 0 t0) (iblk m c 6 t0) j) (by sl_kernel_rfl) ?_
  unfold o47
  rw [View.canon_unit_zero hz, g1, lRA, in6]
  simp only [k0_pay9, k0_pay11, shapeCast_self]; sl_kernel_rfl

theorem r48 : (dats m 0 c).arrAt 48 cfg0.N = (val_main_v60 (F := Ideal) (A m c main_arg0) : S1024x128.Idx → EReal) := by
  refine (dats m 0 c).arrAt_eq_of_after_last 48 t0 (by decide +kernel) _ fun j => ?_
  refine Eq.trans (b := o48 (iblk m c 0 t0) j) (by sl_kernel_rfl) ?_
  unfold o48
  rw [View.canon_unit_zero hz, g2]
  simp only [k0_pay15, shapeCast_self]; sl_kernel_rfl

theorem r49 : (dats m 0 c).arrAt 49 cfg0.N = (val_main_v84 (F := Ideal) (A m c main_arg0) (A m c main_arg7) (A m c main_arg8) (A m c main_arg9) : S1024x128.Idx → EReal) := by
  refine (dats m 0 c).arrAt_eq_of_after_last 49 t0 (by decide +kernel) _ fun j => ?_
  refine Eq.trans (b := o49 (iblk m c 0 t0) (iblk m c 7 t0) (iblk m c 8 t0) (iblk m c 9 t0) j) (by sl_kernel_rfl) ?_
  unfold o49
  rw [View.canon_unit_zero hz, g2, lRB, in7, lRB, in8, lRB, in9]
  simp only [k0_pay15, k0_pay16, k0_pay17, k0_pay18, k0_pay19, shapeCast_self]; sl_kernel_rfl

theorem r50 : (dats m 0 c).arrAt 50 cfg0.N = (val_main_v65 (F := Ideal) (A m c main_arg0) (A m c main_arg8) : S1024x128.Idx → EReal) := by
  refine (dats m 0 c).arrAt_eq_of_after_last 50 t0 (by decide +kernel) _ fun j => ?_
  refine Eq.trans (b := o50 (iblk m c 0 t0) (iblk m c 8 t0) j) (by sl_kernel_rfl) ?_
  unfold o50
  rw [View.canon_unit_zero hz, g2, lRB, in8]
  simp only [k0_pay15, k0_pay16, shapeCast_self]; sl_kernel_rfl

theorem r51 : (dats m 0 c).arrAt 51 cfg0.N = (val_main_v71 (F := Ideal) (A m c main_arg0) (A m c main_arg9) : S1024x128.Idx → EReal) := by
  refine (dats m 0 c).arrAt_eq_of_after_last 51 t0 (by decide +kernel) _ fun j => ?_
  refine Eq.trans (b := o51 (iblk m c 0 t0) (iblk m c 9 t0) j) (by sl_kernel_rfl) ?_
  unfold o51
  rw [View.canon_unit_zero hz, g2, lRB, in9]
  simp only [k0_pay15, k0_pay17, shapeCast_self]; sl_kernel_rfl

theorem r52 : (dats m 0 c).arrAt 52 cfg0.N = (val_main_v88 (F := Ideal) (A m c main_arg0) : S8x128.Idx → EReal) := by
  refine (dats m 0 c).arrAt_eq_of_after_last 52 t0 (by decide +kernel) _ fun j => ?_
  refine Eq.trans (b := o52 (iblk m c 0 t0) j) (by sl_kernel_rfl) ?_
  unfold o52
  rw [View.canon_unit_zero hz, g3]
  simp only [k0_pay20, shapeCast_self]; sl_kernel_rfl

theorem r53 : (dats m 0 c).arrAt 53 cfg0.N = (val_main_v112 (F := Ideal) (A m c main_arg0) (A m c main_arg10) (A m c main_arg11) (A m c main_arg12) : S8x128.Idx → EReal) := by
  refine (dats m 0 c).arrAt_eq_of_after_last 53 t0 (by decide +kernel) _ fun j => ?_
  refine Eq.trans (b := o53 (iblk m c 0 t0) (iblk m c 10 t0) (iblk m c 11 t0) (iblk m c 12 t0) j) (by sl_kernel_rfl) ?_
  unfold o53
  rw [View.canon_unit_zero hz, g3, lRA, in10, lRA, in11, lRA, in12, g3]
  simp only [k0_pay20, k0_pay21, k0_pay22, k0_pay23, k0_pay24, k0_pay25, shapeCast_self]; sl_kernel_rfl

theorem r54 : (dats m 0 c).arrAt 54 cfg0.N = (val_main_v93 (F := Ideal) (A m c main_arg0) (A m c main_arg11) : S8x128.Idx → EReal) := by
  refine (dats m 0 c).arrAt_eq_of_after_last 54 t0 (by decide +kernel) _ fun j => ?_
  refine Eq.trans (b := o54 (iblk m c 0 t0) (iblk m c 11 t0) j) (by sl_kernel_rfl) ?_
  unfold o54
  rw [View.canon_unit_zero hz, g3, lRA, in11]
  simp only [k0_pay20, k0_pay21, shapeCast_self]; sl_kernel_rfl

theorem r55 : (dats m 0 c).arrAt 55 cfg0.N = (val_main_v99 (F := Ideal) (A m c main_arg0) (A m c main_arg12) : S8x128.Idx → EReal) := by
  refine (dats m 0 c).arrAt_eq_of_after_last 55 t0 (by decide +kernel) _ fun j => ?_
  refine Eq.trans (b := o55 (iblk m c 0 t0) (iblk m c 12 t0) j) (by sl_kernel_rfl) ?_
  unfold o55
  rw [View.canon_unit_zero hz, g3, lRA, in12]
  simp only [k0_pay20, k0_pay22, shapeCast_self]; sl_kernel_rfl

theorem r56 : (dats m 0 c).arrAt 56 cfg0.N = (val_main_v116 (F := Ideal) (A m c main_arg0) : S8x128.Idx → EReal) := by
  refine (dats m 0 c).arrAt_eq_of_after_last 56 t0 (by decide +kernel) _ fun j => ?_
  refine Eq.trans (b := o56 (iblk m c 0 t0) j) (by sl_kernel_rfl) ?_
  unfold o56
  rw [View.canon_unit_zero hz, g4]
  simp only [k0_pay26, shapeCast_self]; sl_kernel_rfl

theorem r57 : (dats m 0 c).arrAt 57 cfg0.N = (val_main_v140 (F := Ideal) (A m c main_arg0) (A m c main_arg13) (A m c main_arg14) (A m c main_arg15) : S8x128.Idx → EReal) := by
  refine (dats m 0 c).arrAt_eq_of_after_last 57 t0 (by decide +kernel) _ fun j => ?_
  refine Eq.trans (b := o57 (iblk m c 0 t0) (iblk m c 13 t0) (iblk m c 14 t0) (iblk m c 15 t0) j) (by sl_kernel_rfl) ?_
  unfold o57
  rw [View.canon_unit_zero hz, g4, lRA, in13, lRA, in14, lRA, in15, g4]
  simp only [k0_pay26, k0_pay27, k0_pay28, k0_pay29, shapeCast_self]; sl_kernel_rfl

theorem r58 : (dats m 0 c).arrAt 58 cfg0.N = (val_main_v121 (F := Ideal) (A m c main_arg0) (A m c main_arg14) : S8x128.Idx → EReal) := by
  refine (dats m 0 c).arrAt_eq_of_after_last 58 t0 (by decide +kernel) _ fun j => ?_
  refine Eq.trans (b := o58 (iblk m c 0 t0) (iblk m c 14 t0) j) (by sl_kernel_rfl) ?_
  unfold o58
  rw [View.canon_unit_zero hz, g4, lRA, in14]
  simp only [k0_pay26, k0_pay27, shapeCast_self]; sl_kernel_rfl

theorem r59 : (dats m 0 c).arrAt 59 cfg0.N = (val_main_v127 (F := Ideal) (A m c main_arg0) (A m c main_arg15) : S8x128.Idx → EReal) := by
  refine (dats m 0 c).arrAt_eq_of_after_last 59 t0 (by decide +kernel) _ fun j => ?_
  refine Eq.trans (b := o59 (iblk m c 0 t0) (iblk m c 15 t0) j) (by sl_kernel_rfl) ?_
  unfold o59
  rw [View.canon_unit_zero hz, g4, lRA, in15]
  simp only [k0_pay26, k0_pay28, shapeCast_self]; sl_kernel_rfl

end Cert.AdSmIdeal.Step

end
-- ==== Proof.AdSmB.lean ====
/-
  The optimiser step of the thirteen small weights: what more of its results hold.
-/
module

public import proofs.«01_k».proof.Proof.AdSmIn
public import proofs.«01_k».proof.Proof.Gen.AdSmRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdSmIdeal.Step

open Cert.AdSmIdeal Cert.AdSmIdeal.Gen Cert.AdSmRefIdeal.Read

variable (m : (ℓ : Loc nD τ sig) → Buf (Elt Ideal) ℓ) (c : Dev nD)

set_option maxHeartbeats 4000000

/-! ## What each result holds -/

theorem r60 : (dats m 0 c).arrAt 60 cfg0.N = (val_main_v144 (F := Ideal) (A m c main_arg0) : S1024x128.Idx → EReal) := by
  refine (dats m 0 c).arrAt_eq_of_after_last 60 t0 (by decide +kernel) _ fun j => ?_
  refine Eq.trans (b := o60 (iblk m c 0 t0) j) (by sl_kernel_rfl) ?_
  unfold o60
  rw [View.canon_unit_zero hz, g5]
  simp only [k0_pay30, shapeCast_self]; sl_kernel_rfl

theorem r61 : (dats m 0 c).arrAt 61 cfg0.N = (val_main_v168 (F := Ideal) (A m c main_arg0) (A m c main_arg16) (A m c main_arg17) (A m c main_arg18) : S1024x128.Idx → EReal) := by
  refine (dats m 0 c).arrAt_eq_of_after_last 61 t0 (by decide +kernel) _ fun j => ?_
  refine Eq.trans (b := o61 (iblk m c 0 t0) (iblk m c 16 t0) (iblk m c 17 t0) (iblk m c 18 t0) j) (by sl_kernel_rfl) ?_
  unfold o61
  rw [View.canon_unit_zero hz, g5, lRB, in16, lRB, in17, lRB, in18, g5]
  simp only [k0_pay30, k0_pay31, k0_pay32, k0_pay33, shapeCast_self]; sl_kernel_rfl

theorem r62 : (dats m 0 c).arrAt 62 cfg0.N = (val_main_v149 (F := Ideal) (A m c main_arg0) (A m c main_arg17) : S1024x128.Idx → EReal) := by
  refine (dats m 0 c).arrAt_eq_of_after_last 62 t0 (by decide +kernel) _ fun j => ?_
  refine Eq.trans (b := o62 (iblk m c 0 t0) (iblk m c 17 t0) j) (by sl_kernel_rfl) ?_
  unfold o62
  rw [View.canon_unit_zero hz, g5, lRB, in17]
  simp only [k0_pay30, k0_pay31, shapeCast_self]; sl_kernel_rfl

theorem r63 : (dats m 0 c).arrAt 63 cfg0.N = (val_main_v155 (F := Ideal) (A m c main_arg0) (A m c main_arg18) : S1024x128.Idx → EReal) := by
  refine (dats m 0 c).arrAt_eq_of_after_last 63 t0 (by decide +kernel) _ fun j => ?_
  refine Eq.trans (b := o63 (iblk m c 0 t0) (iblk m c 18 t0) j) (by sl_kernel_rfl) ?_
  unfold o63
  rw [View.canon_unit_zero hz, g5, lRB, in18]
  simp only [k0_pay30, k0_pay32, shapeCast_self]; sl_kernel_rfl

theorem r64 : (dats m 0 c).arrAt 64 cfg0.N = (val_main_v172 (F := Ideal) (A m c main_arg0) : S8x128.Idx → EReal) := by
  refine (dats m 0 c).arrAt_eq_of_after_last 64 t0 (by decide +kernel) _ fun j => ?_
  refine Eq.trans (b := o64 (iblk m c 0 t0) j) (by sl_kernel_rfl) ?_
  unfold o64
  rw [View.canon_unit_zero hz, g6]
  simp only [k0_pay34, shapeCast_self]; sl_kernel_rfl

theorem r65 : (dats m 0 c).arrAt 65 cfg0.N = (val_main_v196 (F := Ideal) (A m c main_arg0) (A m c main_arg19) (A m c main_arg20) (A m c main_arg21) : S8x128.Idx → EReal) := by
  refine (dats m 0 c).arrAt_eq_of_after_last 65 t0 (by decide +kernel) _ fun j => ?_
  refine Eq.trans (b := o65 (iblk m c 0 t0) (iblk m c 19 t0) (iblk m c 20 t0) (iblk m c 21 t0) j) (by sl_kernel_rfl) ?_
  unfold o65
  rw [View.canon_unit_zero hz, g6, lRA, in19, lRA, in20, lRA, in21, g6]
  simp only [k0_pay34, k0_pay35, k0_pay36, k0_pay37, k0_pay38, k0_pay39, shapeCast_self]; sl_kernel_rfl

theorem r66 : (dats m 0 c).arrAt 66 cfg0.N = (val_main_v177 (F := Ideal) (A m c main_arg0) (A m c main_arg20) : S8x128.Idx → EReal) := by
  refine (dats m 0 c).arrAt_eq_of_after_last 66 t0 (by decide +kernel) _ fun j => ?_
  refine Eq.trans (b := o66 (iblk m c 0 t0) (iblk m c 20 t0) j) (by sl_kernel_rfl) ?_
  unfold o66
  rw [View.canon_unit_zero hz, g6, lRA, in20]
  simp only [k0_pay34, k0_pay35, shapeCast_self]; sl_kernel_rfl

theorem r67 : (dats m 0 c).arrAt 67 cfg0.N = (val_main_v183 (F := Ideal) (A m c main_arg0) (A m c main_arg21) : S8x128.Idx → EReal) := by
  refine (dats m 0 c).arrAt_eq_of_after_last 67 t0 (by decide +kernel) _ fun j => ?_
  refine Eq.trans (b := o67 (iblk m c 0 t0) (iblk m c 21 t0) j) (by sl_kernel_rfl) ?_
  unfold o67
  rw [View.canon_unit_zero hz, g6, lRA, in21]
  simp only [k0_pay34, k0_pay36, k0_pay37, k0_pay38, shapeCast_self]; sl_kernel_rfl

theorem r68 : (dats m 0 c).arrAt 68 cfg0.N = (val_main_v200 (F := Ideal) (A m c main_arg0) : S1024x128.Idx → EReal) := by
  refine (dats m 0 c).arrAt_eq_of_after_last 68 t0 (by decide +kernel) _ fun j => ?_
  refine Eq.trans (b := o68 (iblk m c 0 t0) j) (by sl_kernel_rfl) ?_
  unfold o68
  rw [View.canon_unit_zero hz, g7]
  simp only [k0_pay40, shapeCast_self]; sl_kernel_rfl

theorem r69 : (dats m 0 c).arrAt 69 cfg0.N = (val_main_v224 (F := Ideal) (A m c main_arg0) (A m c main_arg22) (A m c main_arg23) (A m c main_arg24) : S1024x128.Idx → EReal) := by
  refine (dats m 0 c).arrAt_eq_of_after_last 69 t0 (by decide +kernel) _ fun j => ?_
  refine Eq.trans (b := o69 (iblk m c 0 t0) (iblk m c 22 t0) (iblk m c 23 t0) (iblk m c 24 t0) j) (by sl_kernel_rfl) ?_
  unfold o69
  rw [View.canon_unit_zero hz, g7, lRB, in22, lRB, in23, lRB, in24, g7]
  simp only [k0_pay40, k0_pay41, k0_pay42, k0_pay43, k0_pay44, k0_pay45, shapeCast_self]; sl_kernel_rfl

theorem r70 : (dats m 0 c).arrAt 70 cfg0.N = (val_main_v205 (F := Ideal) (A m c main_arg0) (A m c main_arg23) : S1024x128.Idx → EReal) := by
  refine (dats m 0 c).arrAt_eq_of_after_last 70 t0 (by decide +kernel) _ fun j => ?_
  refine Eq.trans (b := o70 (iblk m c 0 t0) (iblk m c 23 t0) j) (by sl_kernel_rfl) ?_
  unfold o70
  rw [View.canon_unit_zero hz, g7, lRB, in23]
  simp only [k0_pay40, k0_pay41, shapeCast_self]; sl_kernel_rfl

theorem r71 : (dats m 0 c).arrAt 71 cfg0.N = (val_main_v211 (F := Ideal) (A m c main_arg0) (A m c main_arg24) : S1024x128.Idx → EReal) := by
  refine (dats m 0 c).arrAt_eq_of_after_last 71 t0 (by decide +kernel) _ fun j => ?_
  refine Eq.trans (b := o71 (iblk m c 0 t0) (iblk m c 24 t0) j) (by sl_kernel_rfl) ?_
  unfold o71
  rw [View.canon_unit_zero hz, g7, lRB, in24]
  simp only [k0_pay40, k0_pay42, k0_pay43, k0_pay44, shapeCast_self]; sl_kernel_rfl

theorem r72 : (dats m 0 c).arrAt 72 cfg0.N = (val_main_v228 (F := Ideal) (A m c main_arg0) : S8x128.Idx → EReal) := by
  refine (dats m 0 c).arrAt_eq_of_after_last 72 t0 (by decide +kernel) _ fun j => ?_
  refine Eq.trans (b := o72 (iblk m c 0 t0) j) (by sl_kernel_rfl) ?_
  unfold o72
  rw [View.canon_unit_zero hz, g8]
  simp only [k0_pay46, shapeCast_self]; sl_kernel_rfl

theorem r73 : (dats m 0 c).arrAt 73 cfg0.N = (val_main_v252 (F := Ideal) (A m c main_arg0) (A m c main_arg25) (A m c main_arg26) (A m c main_arg27) : S8x128.Idx → EReal) := by
  refine (dats m 0 c).arrAt_eq_of_after_last 73 t0 (by decide +kernel) _ fun j => ?_
  refine Eq.trans (b := o73 (iblk m c 0 t0) (iblk m c 25 t0) (iblk m c 26 t0) (iblk m c 27 t0) j) (by sl_kernel_rfl) ?_
  unfold o73
  rw [View.canon_unit_zero hz, g8, lRA, in25, lRA, in26, lRA, in27, g8]
  simp only [k0_pay46, k0_pay47, k0_pay48, k0_pay49, shapeCast_self]; sl_kernel_rfl

theorem r74 : (dats m 0 c).arrAt 74 cfg0.N = (val_main_v233 (F := Ideal) (A m c main_arg0) (A m c main_arg26) : S8x128.Idx → EReal) := by
  refine (dats m 0 c).arrAt_eq_of_after_last 74 t0 (by decide +kernel) _ fun j => ?_
  refine Eq.trans (b := o74 (iblk m c 0 t0) (iblk m c 26 t0) j) (by sl_kernel_rfl) ?_
  unfold o74
  rw [View.canon_unit_zero hz, g8, lRA, in26]
  simp only [k0_pay46, k0_pay47, shapeCast_self]; sl_kernel_rfl

theorem r75 : (dats m 0 c).arrAt 75 cfg0.N = (val_main_v239 (F := Ideal) (A m c main_arg0) (A m c main_arg27) : S8x128.Idx → EReal) := by
  refine (dats m 0 c).arrAt_eq_of_after_last 75 t0 (by decide +kernel) _ fun j => ?_
  refine Eq.trans (b := o75 (iblk m c 0 t0) (iblk m c 27 t0) j) (by sl_kernel_rfl) ?_
  unfold o75
  rw [View.canon_unit_zero hz, g8, lRA, in27]
  simp only [k0_pay46, k0_pay48, shapeCast_self]; sl_kernel_rfl

end Cert.AdSmIdeal.Step

end
-- ==== Proof.AdSmC.lean ====
/-
  The optimiser step of the thirteen small weights: what the rest of its results hold.
-/
module

public import proofs.«01_k».proof.Proof.AdSmIn
public import proofs.«01_k».proof.Proof.Gen.AdSmRefIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AdSmIdeal.Step

open Cert.AdSmIdeal Cert.AdSmIdeal.Gen Cert.AdSmRefIdeal.Read

variable (m : (ℓ : Loc nD τ sig) → Buf (Elt Ideal) ℓ) (c : Dev nD)

set_option maxHeartbeats 4000000

/-! ## What each result holds -/

theorem r76 : (dats m 0 c).arrAt 76 cfg0.N = (val_main_v256 (F := Ideal) (A m c main_arg0) : S8x128.Idx → EReal) := by
  refine (dats m 0 c).arrAt_eq_of_after_last 76 t0 (by decide +kernel) _ fun j => ?_
  refine Eq.trans (b := o76 (iblk m c 0 t0) j) (by sl_kernel_rfl) ?_
  unfold o76
  rw [View.canon_unit_zero hz, g9]
  simp only [k0_pay50, shapeCast_self]; sl_kernel_rfl

theorem r77 : (dats m 0 c).arrAt 77 cfg0.N = (val_main_v280 (F := Ideal) (A m c main_arg0) (A m c main_arg28) (A m c main_arg29) (A m c main_arg30) : S8x128.Idx → EReal) := by
  refine (dats m 0 c).arrAt_eq_of_after_last 77 t0 (by decide +kernel) _ fun j => ?_
  refine Eq.trans (b := o77 (iblk m c 0 t0) (iblk m c 28 t0) (iblk m c 29 t0) (iblk m c 30 t0) j) (by sl_kernel_rfl) ?_
  unfold o77
  rw [View.canon_unit_zero hz, g9, lRA, in28, lRA, in29, lRA, in30]
  simp only [k0_pay50, k0_pay51, k0_pay52, k0_pay53, k0_pay54, shapeCast_self]; sl_kernel_rfl

theorem r78 : (dats m 0 c).arrAt 78 cfg0.N = (val_main_v261 (F := Ideal) (A m c main_arg0) (A m c main_arg29) : S8x128.Idx → EReal) := by
  refine (dats m 0 c).arrAt_eq_of_after_last 78 t0 (by decide +kernel) _ fun j => ?_
  refine Eq.trans (b := o78 (iblk m c 0 t0) (iblk m c 29 t0) j) (by sl_kernel_rfl) ?_
  unfold o78
  rw [View.canon_unit_zero hz, g9, lRA, in29]
  simp only [k0_pay50, k0_pay51, k0_pay52, shapeCast_self]; sl_kernel_rfl

theorem r79 : (dats m 0 c).arrAt 79 cfg0.N = (val_main_v267 (F := Ideal) (A m c main_arg0) (A m c main_arg30) : S8x128.Idx → EReal) := by
  refine (dats m 0 c).arrAt_eq_of_after_last 79 t0 (by decide +kernel) _ fun j => ?_
  refine Eq.trans (b := o79 (iblk m c 0 t0) (iblk m c 30 t0) j) (by sl_kernel_rfl) ?_
  unfold o79
  rw [View.canon_unit_zero hz, g9, lRA, in30]
  simp only [k0_pay50, k0_pay53, shapeCast_self]; sl_kernel_rfl

theorem r80 : (dats m 0 c).arrAt 80 cfg0.N = (val_main_v284 (F := Ideal) (A m c main_arg0) : S8x128.Idx → EReal) := by
  refine (dats m 0 c).arrAt_eq_of_after_last 80 t0 (by decide +kernel) _ fun j => ?_
  refine Eq.trans (b := o80 (iblk m c 0 t0) j) (by sl_kernel_rfl) ?_
  unfold o80
  rw [View.canon_unit_zero hz, g10]
  simp only [k0_pay55, shapeCast_self]; sl_kernel_rfl

theorem r81 : (dats m 0 c).arrAt 81 cfg0.N = (val_main_v308 (F := Ideal) (A m c main_arg0) (A m c main_arg31) (A m c main_arg32) (A m c main_arg33) : S8x128.Idx → EReal) := by
  refine (dats m 0 c).arrAt_eq_of_after_last 81 t0 (by decide +kernel) _ fun j => ?_
  refine Eq.trans (b := o81 (iblk m c 0 t0) (iblk m c 31 t0) (iblk m c 32 t0) (iblk m c 33 t0) j) (by sl_kernel_rfl) ?_
  unfold o81
  rw [View.canon_unit_zero hz, g10, lRA, in31, lRA, in32, lRA, in33]
  simp only [k0_pay55, k0_pay56, k0_pay57, k0_pay58, shapeCast_self]; sl_kernel_rfl

theorem r82 : (dats m 0 c).arrAt 82 cfg0.N = (val_main_v289 (F := Ideal) (A m c main_arg0) (A m c main_arg32) : S8x128.Idx → EReal) := by
  refine (dats m 0 c).arrAt_eq_of_after_last 82 t0 (by decide +kernel) _ fun j => ?_
  refine Eq.trans (b := o82 (iblk m c 0 t0) (iblk m c 32 t0) j) (by sl_kernel_rfl) ?_
  unfold o82
  rw [View.canon_unit_zero hz, g10, lRA, in32]
  simp only [k0_pay55, k0_pay56, shapeCast_self]; sl_kernel_rfl

theorem r83 : (dats m 0 c).arrAt 83 cfg0.N = (val_main_v295 (F := Ideal) (A m c main_arg0) (A m c main_arg33) : S8x128.Idx → EReal) := by
  refine (dats m 0 c).arrAt_eq_of_after_last 83 t0 (by decide +kernel) _ fun j => ?_
  refine Eq.trans (b := o83 (iblk m c 0 t0) (iblk m c 33 t0) j) (by sl_kernel_rfl) ?_
  unfold o83
  rw [View.canon_unit_zero hz, g10, lRA, in33]
  simp only [k0_pay55, k0_pay57, shapeCast_self]; sl_kernel_rfl

theorem r84 : (dats m 0 c).arrAt 84 cfg0.N = (val_main_v312 (F := Ideal) (A m c main_arg0) : S8x128.Idx → EReal) := by
  refine (dats m 0 c).arrAt_eq_of_after_last 84 t0 (by decide +kernel) _ fun j => ?_
  refine Eq.trans (b := o84 (iblk m c 0 t0) j) (by sl_kernel_rfl) ?_
  unfold o84
  rw [View.canon_unit_zero hz, g11]
  simp only [k0_pay59, shapeCast_self]; sl_kernel_rfl

theorem r85 : (dats m 0 c).arrAt 85 cfg0.N = (val_main_v336 (F := Ideal) (A m c main_arg0) (A m c main_arg34) (A m c main_arg35) (A m c main_arg36) : S8x128.Idx → EReal) := by
  refine (dats m 0 c).arrAt_eq_of_after_last 85 t0 (by decide +kernel) _ fun j => ?_
  refine Eq.trans (b := o85 (iblk m c 0 t0) (iblk m c 34 t0) (iblk m c 35 t0) (iblk m c 36 t0) j) (by sl_kernel_rfl) ?_
  unfold o85
  rw [View.canon_unit_zero hz, g11, lRA, in34, lRA, in35, lRA, in36]
  simp only [k0_pay59, k0_pay60, k0_pay61, k0_pay62, shapeCast_self]; sl_kernel_rfl

theorem r86 : (dats m 0 c).arrAt 86 cfg0.N = (val_main_v317 (F := Ideal) (A m c main_arg0) (A m c main_arg35) : S8x128.Idx → EReal) := by
  refine (dats m 0 c).arrAt_eq_of_after_last 86 t0 (by decide +kernel) _ fun j => ?_
  refine Eq.trans (b := o86 (iblk m c 0 t0) (iblk m c 35 t0) j) (by sl_kernel_rfl) ?_
  unfold o86
  rw [View.canon_unit_zero hz, g11, lRA, in35]
  simp only [k0_pay59, k0_pay60, shapeCast_self]; sl_kernel_rfl

theorem r87 : (dats m 0 c).arrAt 87 cfg0.N = (val_main_v323 (F := Ideal) (A m c main_arg0) (A m c main_arg36) : S8x128.Idx → EReal) := by
  refine (dats m 0 c).arrAt_eq_of_after_last 87 t0 (by decide +kernel) _ fun j => ?_
  refine Eq.trans (b := o87 (iblk m c 0 t0) (iblk m c 36 t0) j) (by sl_kernel_rfl) ?_
  unfold o87
  rw [View.canon_unit_zero hz, g11, lRA, in36]
  simp only [k0_pay59, k0_pay61, shapeCast_self]; sl_kernel_rfl

theorem r88 : (dats m 0 c).arrAt 88 cfg0.N = (val_main_v340 (F := Ideal) (A m c main_arg0) : S16x128.Idx → EReal) := by
  refine (dats m 0 c).arrAt_eq_of_after_last 88 t0 (by decide +kernel) _ fun j => ?_
  refine Eq.trans (b := o88 (iblk m c 0 t0) j) (by sl_kernel_rfl) ?_
  unfold o88
  rw [View.canon_unit_zero hz, g12]
  simp only [k0_pay63, shapeCast_self]; sl_kernel_rfl

theorem r89 : (dats m 0 c).arrAt 89 cfg0.N = (val_main_v364 (F := Ideal) (A m c main_arg0) (A m c main_arg37) (A m c main_arg38) (A m c main_arg39) : S16x128.Idx → EReal) := by
  refine (dats m 0 c).arrAt_eq_of_after_last 89 t0 (by decide +kernel) _ fun j => ?_
  refine Eq.trans (b := o89 (iblk m c 0 t0) (iblk m c 37 t0) (iblk m c 38 t0) (iblk m c 39 t0) j) (by sl_kernel_rfl) ?_
  unfold o89
  rw [View.canon_unit_zero hz, g12, lRC, in37, lRC, in38, lRC, in39]
  simp only [k0_pay1, k0_pay63, k0_pay64, k0_pay65, k0_pay66, k0_pay67, shapeCast_self]; sl_kernel_rfl

theorem r90 : (dats m 0 c).arrAt 90 cfg0.N = (val_main_v345 (F := Ideal) (A m c main_arg0) (A m c main_arg38) : S16x128.Idx → EReal) := by
  refine (dats m 0 c).arrAt_eq_of_after_last 90 t0 (by decide +kernel) _ fun j => ?_
  refine Eq.trans (b := o90 (iblk m c 0 t0) (iblk m c 38 t0) j) (by sl_kernel_rfl) ?_
  unfold o90
  rw [View.canon_unit_zero hz, g12, lRC, in38]
  simp only [k0_pay63, k0_pay64, shapeCast_self]; sl_kernel_rfl

theorem r91 : (dats m 0 c).arrAt 91 cfg0.N = (val_main_v351 (F := Ideal) (A m c main_arg0) (A m c main_arg39) : S16x128.Idx → EReal) := by
  refine (dats m 0 c).arrAt_eq_of_after_last 91 t0 (by decide +kernel) _ fun j => ?_
  refine Eq.trans (b := o91 (iblk m c 0 t0) (iblk m c 39 t0) j) (by sl_kernel_rfl) ?_
  unfold o91
  rw [View.canon_unit_zero hz, g12, lRC, in39]
  simp only [k0_pay63, k0_pay65, shapeCast_self]; sl_kernel_rfl

theorem r92 : (dats m 0 c).arrAt 92 cfg0.N = (val_main_v365 (F := Ideal) (A m c main_arg0) : S8x128.Idx → EReal) := by
  refine (dats m 0 c).arrAt_eq_of_after_last 92 t0 (by decide +kernel) _ fun j => ?_
  refine Eq.trans (b := o92 (iblk m c 0 t0) j) (by sl_kernel_rfl) ?_
  unfold o92
  rw [View.canon_unit_zero hz, g13]
  simp only [k0_pay2, shapeCast_self]; sl_kernel_rfl

end Cert.AdSmIdeal.Step

end
-- ==== Proof.AdSmEnd.lean ====
/-
  The optimiser step of the thirteen small weights: the claim against the reference's lines.
-/
module

public import proofs.«01_k».proof.Proof.AdSmFr
public import proofs.«01_k».proof.Proof.AdSmA
public import proofs.«01_k».proof.Proof.AdSmB
public import proofs.«01_k».proof.Proof.AdSmC
public import proofs.«01_k».proof.Proof.Gen.AdSmRefIdeal.Run
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.AdSmIdeal.Step

open Cert.AdSmIdeal Cert.AdSmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem c4 {α β γ δ ε : Type} (f : α → β → γ → δ → ε) {a a' : α} {b b' : β} {x x' : γ} {d d' : δ} (ha : a = a') (hb : b = b') (hx : x = x')
    (hd : d = d') : f a b x d = f a' b' x' d' := by
  subst ha; subst hb; subst hx; subst hd; rfl

open Cert.AdSmRefIdeal.Read

set_option maxHeartbeats 3200000 in
/-- The optimiser step of the thirteen small weights: the kernel and the reference's lines end with equal gradients, steps and
    moments from equal arguments. -/
theorem algebraic : Cert.algebraic_AdSmIdeal_AdSmRefIdeal := by
  intro m ρ m' ρ' _ hagree
  refine ⟨fun c => (dats m 0 c).arrAt 40 cfg0.N,
    fun c => (dats m 0 c).arrAt 41 cfg0.N,
    fun c => (dats m 0 c).arrAt 42 cfg0.N,
    fun c => (dats m 0 c).arrAt 43 cfg0.N,
    fun c => (dats m 0 c).arrAt 44 cfg0.N,
    fun c => (dats m 0 c).arrAt 45 cfg0.N,
    fun c => (dats m 0 c).arrAt 46 cfg0.N,
    fun c => (dats m 0 c).arrAt 47 cfg0.N,
    fun c => (dats m 0 c).arrAt 48 cfg0.N,
    fun c => (dats m 0 c).arrAt 49 cfg0.N,
    fun c => (dats m 0 c).arrAt 50 cfg0.N,
    fun c => (dats m 0 c).arrAt 51 cfg0.N,
    fun c => (dats m 0 c).arrAt 52 cfg0.N,
    fun c => (dats m 0 c).arrAt 53 cfg0.N,
    fun c => (dats m 0 c).arrAt 54 cfg0.N,
    fun c => (dats m 0 c).arrAt 55 cfg0.N,
    fun c => (dats m 0 c).arrAt 56 cfg0.N,
    fun c => (dats m 0 c).arrAt 57 cfg0.N,
    fun c => (dats m 0 c).arrAt 58 cfg0.N,
    fun c => (dats m 0 c).arrAt 59 cfg0.N,
    fun c => (dats m 0 c).arrAt 60 cfg0.N,
    fun c => (dats m 0 c).arrAt 61 cfg0.N,
    fun c => (dats m 0 c).arrAt 62 cfg0.N,
    fun c => (dats m 0 c).arrAt 63 cfg0.N,
    fun c => (dats m 0 c).arrAt 64 cfg0.N,
    fun c => (dats m 0 c).arrAt 65 cfg0.N,
    fun c => (dats m 0 c).arrAt 66 cfg0.N,
    fun c => (dats m 0 c).arrAt 67 cfg0.N,
    fun c => (dats m 0 c).arrAt 68 cfg0.N,
    fun c => (dats m 0 c).arrAt 69 cfg0.N,
    fun c => (dats m 0 c).arrAt 70 cfg0.N,
    fun c => (dats m 0 c).arrAt 71 cfg0.N,
    fun c => (dats m 0 c).arrAt 72 cfg0.N,
    fun c => (dats m 0 c).arrAt 73 cfg0.N,
    fun c => (dats m 0 c).arrAt 74 cfg0.N,
    fun c => (dats m 0 c).arrAt 75 cfg0.N,
    fun c => (dats m 0 c).arrAt 76 cfg0.N,
    fun c => (dats m 0 c).arrAt 77 cfg0.N,
    fun c => (dats m 0 c).arrAt 78 cfg0.N,
    fun c => (dats m 0 c).arrAt 79 cfg0.N,
    fun c => (dats m 0 c).arrAt 80 cfg0.N,
    fun c => (dats m 0 c).arrAt 81 cfg0.N,
    fun c => (dats m 0 c).arrAt 82 cfg0.N,
    fun c => (dats m 0 c).arrAt 83 cfg0.N,
    fun c => (dats m 0 c).arrAt 84 cfg0.N,
    fun c => (dats m 0 c).arrAt 85 cfg0.N,
    fun c => (dats m 0 c).arrAt 86 cfg0.N,
    fun c => (dats m 0 c).arrAt 87 cfg0.N,
    fun c => (dats m 0 c).arrAt 88 cfg0.N,
    fun c => (dats m 0 c).arrAt 89 cfg0.N,
    fun c => (dats m 0 c).arrAt 90 cfg0.N,
    fun c => (dats m 0 c).arrAt 91 cfg0.N,
    fun c => (dats m 0 c).arrAt 92 cfg0.N,
    (θ_run _ _ _).mono (fun r h c => ⟨(h.1 c).1 40, (h.1 c).1 41, (h.1 c).1 42, (h.1 c).1 43, (h.1 c).1 44, (h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62, (h.1 c).1 63, (h.1 c).1 64, (h.1 c).1 65, (h.1 c).1 66, (h.1 c).1 67, (h.1 c).1 68, (h.1 c).1 69, (h.1 c).1 70, (h.1 c).1 71, (h.1 c).1 72, (h.1 c).1 73, (h.1 c).1 74, (h.1 c).1 75, (h.1 c).1 76, (h.1 c).1 77, (h.1 c).1 78, (h.1 c).1 79, (h.1 c).1 80, (h.1 c).1 81, (h.1 c).1 82, (h.1 c).1 83, (h.1 c).1 84, (h.1 c).1 85, (h.1 c).1 86, (h.1 c).1 87, (h.1 c).1 88, (h.1 c).1 89, (h.1 c).1 90, (h.1 c).1 91, (h.1 c).1 92, args m h.1 c⟩)
      (run (F := Ideal) m ρ), ?_⟩
  refine (θ_run Cert.AdSmRefIdeal.defs _ _).mono (fun _ h c => ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2.1.trans ?_,
    (h c).2.2.2.2.2.2.2.2.2.2.1.trans ?_,
    (h c).2.2.2.2.2.2.2.2.2.2.2.1.trans ?_,
    (h c).2.2.2.2.2.2.2.2.2.2.2.2.1.trans ?_,
    (h c).2.2.2.2.2.2.2.2.2.2.2.2.2.1.trans ?_,
    (h c).2.2.2.2.2.2.2.2.2.2.2.2.2.2.1.trans ?_,
    (h c).2.2.2.2.2.2.2.2.2.2.2.2.2.2.2.1.trans ?_,
    (h c).2.2.2.2.2.2.2.2.2.2.2.2.2.2.2.2.1.trans ?_,
    (h c).2.2.2.2.2.2.2.2.2.2.2.2.2.2.2.2.2.1.trans ?_,
    (h c).2.2.2.2.2.2.2.2.2.2.2.2.2.2.2.2.2.2.1.trans ?_,
    (h c).2.2.2.2.2.2.2.2.2.2.2.2.2.2.2.2.2.2.2.1.trans ?_,
    (h c).2.2.2.2.2.2.2.2.2.2.2.2.2.2.2.2.2.2.2.2.1.trans ?_,
    (h c).2.2.2.2.2.2.2.2.2.2.2.2.2.2.2.2.2.2.2.2.2.1.trans ?_,
    (h c).2.2.2.2.2.2.2.2.2.2.2.2.2.2.2.2.2.2.2.2.2.2.1.trans ?_,
    (h c).2.2.2.2.2.2.2.2.2.2.2.2.2.2.2.2.2.2.2.2.2.2.2.1.trans ?_,
    (h c).2.2.2.2.2.2.2.2.2.2.2.2.2.2.2.2.2.2.2.2.2.2.2.2.1.trans ?_,
    (h c).2.2.2.2.2.2.2.2.2.2.2.2.2.2.2.2.2.2.2.2.2.2.2.2.2.1.trans ?_,
    (h c).2.2.2.2.2.2.2.2.2.2.2.2.2.2.2.2.2.2.2.2.2.2.2.2.2.2.1.trans ?_,
    (h c).2.2.2.2.2.2.2.2.2.2.2.2.2.2.2.2.2.2.2.2.2.2.2.2.2.2.2.1.trans ?_,
    (h c).2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.2.2.2.2.2.1.trans ?_,
    (h c).2.2.2.2.2.2.2.2.2.2.2.2.2.2.2.2.2.2.2.2.2.2.2.2.2.2.2.2.2.2.2.2.2.2.2.2.2.2.2.2.2.2.2.2.2.2.2.2.2.2.2.2.2⟩)
    (Cert.AdSmRefIdeal.Value.run (F := Ideal) m' ρ')
  all_goals obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hagree c
  · exact (val_main_v4_eq _).trans ((congrArg (val_main_v4 (F := Ideal)) h0).trans (r40 m c).symm)
  · exact (val_main_v28_eq _).trans ((c4 (val_main_v28 (F := Ideal)) h0 h1 h2 h3).trans (r41 m c).symm)
  · exact (val_main_v9_eq _).trans ((congrArg₂ (val_main_v9 (F := Ideal)) h0 h2).trans (r42 m c).symm)
  · exact (val_main_v15_eq _).trans ((congrArg₂ (val_main_v15 (F := Ideal)) h0 h3).trans (r43 m c).symm)
  · exact (val_main_v32_eq _).trans ((congrArg (val_main_v32 (F := Ideal)) h0).trans (r44 m c).symm)
  · exact (val_main_v56_eq _).trans ((c4 (val_main_v56 (F := Ideal)) h0 h4 h5 h6).trans (r45 m c).symm)
  · exact (val_main_v37_eq _).trans ((congrArg₂ (val_main_v37 (F := Ideal)) h0 h5).trans (r46 m c).symm)
  · exact (val_main_v43_eq _).trans ((congrArg₂ (val_main_v43 (F := Ideal)) h0 h6).trans (r47 m c).symm)
  · exact (val_main_v60_eq _).trans ((congrArg (val_main_v60 (F := Ideal)) h0).trans (r48 m c).symm)
  · exact (val_main_v84_eq _).trans ((c4 (val_main_v84 (F := Ideal)) h0 h7 h8 h9).trans (r49 m c).symm)
  · exact (val_main_v65_eq _).trans ((congrArg₂ (val_main_v65 (F := Ideal)) h0 h8).trans (r50 m c).symm)
  · exact (val_main_v71_eq _).trans ((congrArg₂ (val_main_v71 (F := Ideal)) h0 h9).trans (r51 m c).symm)
  · exact (val_main_v88_eq _).trans ((congrArg (val_main_v88 (F := Ideal)) h0).trans (r52 m c).symm)
  · exact (val_main_v112_eq _).trans ((c4 (val_main_v112 (F := Ideal)) h0 h10 h11 h12).trans (r53 m c).symm)
  · exact (val_main_v93_eq _).trans ((congrArg₂ (val_main_v93 (F := Ideal)) h0 h11).trans (r54 m c).symm)
  · exact (val_main_v99_eq _).trans ((congrArg₂ (val_main_v99 (F := Ideal)) h0 h12).trans (r55 m c).symm)
  · exact (val_main_v116_eq _).trans ((congrArg (val_main_v116 (F := Ideal)) h0).trans (r56 m c).symm)
  · exact (val_main_v140_eq _).trans ((c4 (val_main_v140 (F := Ideal)) h0 h13 h14 h15).trans (r57 m c).symm)
  · exact (val_main_v121_eq _).trans ((congrArg₂ (val_main_v121 (F := Ideal)) h0 h14).trans (r58 m c).symm)
  · exact (val_main_v127_eq _).trans ((congrArg₂ (val_main_v127 (F := Ideal)) h0 h15).trans (r59 m c).symm)
  · exact (val_main_v144_eq _).trans ((congrArg (val_main_v144 (F := Ideal)) h0).trans (r60 m c).symm)
  · exact (val_main_v168_eq _).trans ((c4 (val_main_v168 (F := Ideal)) h0 h16 h17 h18).trans (r61 m c).symm)
  · exact (val_main_v149_eq _).trans ((congrArg₂ (val_main_v149 (F := Ideal)) h0 h17).trans (r62 m c).symm)
  · exact (val_main_v155_eq _).trans ((congrArg₂ (val_main_v155 (F := Ideal)) h0 h18).trans (r63 m c).symm)
  · exact (val_main_v172_eq _).trans ((congrArg (val_main_v172 (F := Ideal)) h0).trans (r64 m c).symm)
  · exact (val_main_v196_eq _).trans ((c4 (val_main_v196 (F := Ideal)) h0 h19 h20 h21).trans (r65 m c).symm)
  · exact (val_main_v177_eq _).trans ((congrArg₂ (val_main_v177 (F := Ideal)) h0 h20).trans (r66 m c).symm)
  · exact (val_main_v183_eq _).trans ((congrArg₂ (val_main_v183 (F := Ideal)) h0 h21).trans (r67 m c).symm)
  · exact (val_main_v200_eq _).trans ((congrArg (val_main_v200 (F := Ideal)) h0).trans (r68 m c).symm)
  · exact (val_main_v224_eq _).trans ((c4 (val_main_v224 (F := Ideal)) h0 h22 h23 h24).trans (r69 m c).symm)
  · exact (val_main_v205_eq _).trans ((congrArg₂ (val_main_v205 (F := Ideal)) h0 h23).trans (r70 m c).symm)
  · exact (val_main_v211_eq _).trans ((congrArg₂ (val_main_v211 (F := Ideal)) h0 h24).trans (r71 m c).symm)
  · exact (val_main_v228_eq _).trans ((congrArg (val_main_v228 (F := Ideal)) h0).trans (r72 m c).symm)
  · exact (val_main_v252_eq _).trans ((c4 (val_main_v252 (F := Ideal)) h0 h25 h26 h27).trans (r73 m c).symm)
  · exact (val_main_v233_eq _).trans ((congrArg₂ (val_main_v233 (F := Ideal)) h0 h26).trans (r74 m c).symm)
  · exact (val_main_v239_eq _).trans ((congrArg₂ (val_main_v239 (F := Ideal)) h0 h27).trans (r75 m c).symm)
  · exact (val_main_v256_eq _).trans ((congrArg (val_main_v256 (F := Ideal)) h0).trans (r76 m c).symm)
  · exact (val_main_v280_eq _).trans ((c4 (val_main_v280 (F := Ideal)) h0 h28 h29 h30).trans (r77 m c).symm)
  · exact (val_main_v261_eq _).trans ((congrArg₂ (val_main_v261 (F := Ideal)) h0 h29).trans (r78 m c).symm)
  · exact (val_main_v267_eq _).trans ((congrArg₂ (val_main_v267 (F := Ideal)) h0 h30).trans (r79 m c).symm)
  · exact (val_main_v284_eq _).trans ((congrArg (val_main_v284 (F := Ideal)) h0).trans (r80 m c).symm)
  · exact (val_main_v308_eq _).trans ((c4 (val_main_v308 (F := Ideal)) h0 h31 h32 h33).trans (r81 m c).symm)
  · exact (val_main_v289_eq _).trans ((congrArg₂ (val_main_v289 (F := Ideal)) h0 h32).trans (r82 m c).symm)
  · exact (val_main_v295_eq _).trans ((congrArg₂ (val_main_v295 (F := Ideal)) h0 h33).trans (r83 m c).symm)
  · exact (val_main_v312_eq _).trans ((congrArg (val_main_v312 (F := Ideal)) h0).trans (r84 m c).symm)
  · exact (val_main_v336_eq _).trans ((c4 (val_main_v336 (F := Ideal)) h0 h34 h35 h36).trans (r85 m c).symm)
  · exact (val_main_v317_eq _).trans ((congrArg₂ (val_main_v317 (F := Ideal)) h0 h35).trans (r86 m c).symm)
  · exact (val_main_v323_eq _).trans ((congrArg₂ (val_main_v323 (F := Ideal)) h0 h36).trans (r87 m c).symm)
  · exact (val_main_v340_eq _).trans ((congrArg (val_main_v340 (F := Ideal)) h0).trans (r88 m c).symm)
  · exact (val_main_v364_eq _).trans ((c4 (val_main_v364 (F := Ideal)) h0 h37 h38 h39).trans (r89 m c).symm)
  · exact (val_main_v345_eq _).trans ((congrArg₂ (val_main_v345 (F := Ideal)) h0 h38).trans (r90 m c).symm)
  · exact (val_main_v351_eq _).trans ((congrArg₂ (val_main_v351 (F := Ideal)) h0 h39).trans (r91 m c).symm)
  · exact (val_main_v365_eq _).trans ((congrArg (val_main_v365 (F := Ideal)) h0).trans (r92 m c).symm)

end Cert.AdSmIdeal.Step

end
-- ==== Proof.AdSmSame.lean ====
/-
  The frames of the optimiser step of the thirteen small weights. Over machine words the text is the same as over the extended
  reals, so the run is the one proved.
-/
module

public import proofs.«01_k».proof.Defs
public import proofs.«01_k».proof.Proof.AdSmFr
public import proofs.«01_k».proof.Proof.Gen.AdSm
public import proofs.«01_k».proof.Proof.Gen.AdSmRefIdeal.Run
public import Idealize.ShloMosaic.Adequacy
public import Idealize.ShloMosaic.Init

@[expose] public section

set_option maxRecDepth 16384
set_option maxHeartbeats 8000000

noncomputable section

namespace Cert.Proof

open Idealize.ShloMosaic Idealize.ShloMosaic.TcCoe Idealize.ShloMosaic.Tactic Idealize.SL.Sem

/-- Over the extended reals. -/
theorem frame_ad_sm_ideal : Cert.quiescent_AdSmIdeal := fun m ρ _ => Cert.AdSmIdeal.Step.frame m ρ

/-- The two programs' bodies are one text. -/
theorem ad_sm_defs : Cert.AdSm.defs (F := Bits) = Cert.AdSmIdeal.defs (F := Bits) := by sl_kernel_rfl

/-- Over machine words. -/
theorem frame_ad_sm : Cert.quiescent_AdSm := fun m ρ _ => by
  rw [ad_sm_defs]; exact Cert.AdSmIdeal.Step.frame (F := Bits) m ρ

/-- Its reference, which runs on the host alone. -/
theorem frame_ad_sm_ref : Cert.quiescent_AdSmRefIdeal := fun m ρ _ =>
  (θ_run Cert.AdSmRefIdeal.defs _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2,
      sem_eq_zero_of_no_sems (by decide) r.2⟩)
    (Cert.AdSmRefIdeal.Value.run (F := Ideal) m ρ)

end Cert.Proof

end
-- ==== Proof.lean ====
/-
  The certificate of eleven kernels of the step: the gradient of the step's last stage (`Tail`), of the per-layer
  embedding's gate and the loss (`Ple`), of a weight (`Gw`), of the norm and the input projection (`Inb`), the
  output projection with its norm (`Op`), the optimiser step of four shapes of weight (`AdOut`, `AdPe`, `AdCw`,
  `AdPre`), the sum of the parts of the small weights' gradients (`Sum`) and the optimiser step of the thirteen small
  weights (`AdSm`). Each runs to completion, leaves its arguments as they were and every semaphore at zero; the value
  claims are proved in the modules named after them.
-/
module

public import proofs.«01_k».proof.Defs
public import proofs.«01_k».proof.Proof.Frames
public import proofs.«01_k».proof.Proof.GwValue
public import proofs.«01_k».proof.Proof.TailClaim
public import proofs.«01_k».proof.Proof.PleClaim
public import proofs.«01_k».proof.Proof.InbSame
public import proofs.«01_k».proof.Proof.InbClaim
public import proofs.«01_k».proof.Proof.OpClaim
public import proofs.«01_k».proof.Proof.AdOutClaim
public import proofs.«01_k».proof.Proof.AdPeClaim
public import proofs.«01_k».proof.Proof.AdCwClaim
public import proofs.«01_k».proof.Proof.AdPreClaim
public import proofs.«01_k».proof.Proof.SumClaim
public import proofs.«01_k».proof.Proof.AdSmEnd
public import proofs.«01_k».proof.Proof.AdSmSame
public import proofs.«01_k».proof.Proof.Gen.GwRefIdeal.Read
public import proofs.«01_k».proof.Proof.Gen.PleRefIdeal.Read
public import proofs.«01_k».proof.Proof.Gen.TailRefIdeal.Read
public import proofs.«01_k».proof.Proof.Gen.GwIdeal.Value
public import proofs.«01_k».proof.Proof.Gen.OpIdeal.Value
public import proofs.«01_k».proof.Proof.Gen.OpRefIdeal.Read
public import proofs.«01_k».proof.Proof.Gen.InbRefIdeal.Read
public import proofs.«01_k».proof.Proof.Gen.PleIdeal.Value
public import proofs.«01_k».proof.Proof.Gen.TailIdeal.Value
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.Gw
public import proofs.«01_k».proof.Proof.Gen.Gw.Skeleton
public import proofs.«01_k».proof.Proof.Gen.Gw.Launch
public import proofs.«01_k».proof.Proof.Gen.Gw.Points
public import proofs.«01_k».proof.Proof.Gen.Gw.Frame
public import proofs.«01_k».proof.Proof.Gen.GwIdeal
public import proofs.«01_k».proof.Proof.Gen.GwIdeal.Skeleton
public import proofs.«01_k».proof.Proof.Gen.GwIdeal.Launch
public import proofs.«01_k».proof.Proof.Gen.GwIdeal.Points
public import proofs.«01_k».proof.Proof.Gen.GwIdeal.Frame
public import proofs.«01_k».proof.Proof.Gen.GwRefIdeal
public import proofs.«01_k».proof.Proof.Gen.Inb
public import proofs.«01_k».proof.Proof.Gen.InbIdeal
public import proofs.«01_k».proof.Proof.Gen.InbIdeal.Skeleton
public import proofs.«01_k».proof.Proof.Gen.InbIdeal.Launch
public import proofs.«01_k».proof.Proof.Gen.InbIdeal.Points
public import proofs.«01_k».proof.Proof.Gen.InbRefIdeal
public import proofs.«01_k».proof.Proof.Gen.Op
public import proofs.«01_k».proof.Proof.Gen.Op.Skeleton
public import proofs.«01_k».proof.Proof.Gen.Op.Launch
public import proofs.«01_k».proof.Proof.Gen.Op.Points
public import proofs.«01_k».proof.Proof.Gen.Op.Frame
public import proofs.«01_k».proof.Proof.Gen.OpIdeal
public import proofs.«01_k».proof.Proof.Gen.OpIdeal.Skeleton
public import proofs.«01_k».proof.Proof.Gen.OpIdeal.Launch
public import proofs.«01_k».proof.Proof.Gen.OpIdeal.Points
public import proofs.«01_k».proof.Proof.Gen.OpIdeal.Frame
public import proofs.«01_k».proof.Proof.Gen.OpRefIdeal
public import proofs.«01_k».proof.Proof.Gen.AdOutIdeal.Value
public import proofs.«01_k».proof.Proof.Gen.AdOutRefIdeal.Read
public import proofs.«01_k».proof.Proof.Gen.AdPeIdeal.Value
public import proofs.«01_k».proof.Proof.Gen.AdPeRefIdeal.Read
public import proofs.«01_k».proof.Proof.Gen.AdCwIdeal.Value
public import proofs.«01_k».proof.Proof.Gen.AdCwRefIdeal.Read
public import proofs.«01_k».proof.Proof.Gen.AdPreIdeal.Value
public import proofs.«01_k».proof.Proof.Gen.AdPreRefIdeal.Read
public import proofs.«01_k».proof.Proof.Gen.SumIdeal.Value
public import proofs.«01_k».proof.Proof.Gen.SumRefIdeal.Read
public import proofs.«01_k».proof.Proof.Gen.AdSm
public import proofs.«01_k».proof.Proof.Gen.AdSmIdeal
public import proofs.«01_k».proof.Proof.Gen.AdSmIdeal.Skeleton
public import proofs.«01_k».proof.Proof.Gen.AdSmIdeal.Launch
public import proofs.«01_k».proof.Proof.Gen.AdSmIdeal.Points
public import proofs.«01_k».proof.Proof.Gen.AdSmRefIdeal
public import proofs.«01_k».proof.Proof.Gen.AdSmRefIdeal.Read
public import proofs.«01_k».proof.Proof.Gen.AdSmRefIdeal.Run
public import proofs.«01_k».proof.Proof.Gen.AdOut
public import proofs.«01_k».proof.Proof.Gen.AdOut.Skeleton
public import proofs.«01_k».proof.Proof.Gen.AdOut.Launch
public import proofs.«01_k».proof.Proof.Gen.AdOut.Points
public import proofs.«01_k».proof.Proof.Gen.AdOut.Frame
public import proofs.«01_k».proof.Proof.Gen.AdOutIdeal
public import proofs.«01_k».proof.Proof.Gen.AdOutIdeal.Skeleton
public import proofs.«01_k».proof.Proof.Gen.AdOutIdeal.Launch
public import proofs.«01_k».proof.Proof.Gen.AdOutIdeal.Points
public import proofs.«01_k».proof.Proof.Gen.AdOutIdeal.Frame
public import proofs.«01_k».proof.Proof.Gen.AdOutRefIdeal
public import proofs.«01_k».proof.Proof.Gen.AdPe
public import proofs.«01_k».proof.Proof.Gen.AdPe.Skeleton
public import proofs.«01_k».proof.Proof.Gen.AdPe.Launch
public import proofs.«01_k».proof.Proof.Gen.AdPe.Points
public import proofs.«01_k».proof.Proof.Gen.AdPe.Frame
public import proofs.«01_k».proof.Proof.Gen.AdPeIdeal
public import proofs.«01_k».proof.Proof.Gen.AdPeIdeal.Skeleton
public import proofs.«01_k».proof.Proof.Gen.AdPeIdeal.Launch
public import proofs.«01_k».proof.Proof.Gen.AdPeIdeal.Points
public import proofs.«01_k».proof.Proof.Gen.AdPeIdeal.Frame
public import proofs.«01_k».proof.Proof.Gen.AdPeRefIdeal
public import proofs.«01_k».proof.Proof.Gen.AdCw
public import proofs.«01_k».proof.Proof.Gen.AdCw.Skeleton
public import proofs.«01_k».proof.Proof.Gen.AdCw.Launch
public import proofs.«01_k».proof.Proof.Gen.AdCw.Points
public import proofs.«01_k».proof.Proof.Gen.AdCw.Frame
public import proofs.«01_k».proof.Proof.Gen.AdCwIdeal
public import proofs.«01_k».proof.Proof.Gen.AdCwIdeal.Skeleton
public import proofs.«01_k».proof.Proof.Gen.AdCwIdeal.Launch
public import proofs.«01_k».proof.Proof.Gen.AdCwIdeal.Points
public import proofs.«01_k».proof.Proof.Gen.AdCwIdeal.Frame
public import proofs.«01_k».proof.Proof.Gen.AdCwRefIdeal
public import proofs.«01_k».proof.Proof.Gen.AdPre
public import proofs.«01_k».proof.Proof.Gen.AdPre.Skeleton
public import proofs.«01_k».proof.Proof.Gen.AdPre.Launch
public import proofs.«01_k».proof.Proof.Gen.AdPre.Points
public import proofs.«01_k».proof.Proof.Gen.AdPre.Frame
public import proofs.«01_k».proof.Proof.Gen.AdPreIdeal
public import proofs.«01_k».proof.Proof.Gen.AdPreIdeal.Skeleton
public import proofs.«01_k».proof.Proof.Gen.AdPreIdeal.Launch
public import proofs.«01_k».proof.Proof.Gen.AdPreIdeal.Points
public import proofs.«01_k».proof.Proof.Gen.AdPreIdeal.Frame
public import proofs.«01_k».proof.Proof.Gen.AdPreRefIdeal
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumRefIdeal
public import Idealize.ShloMosaic.Adequacy
public import Idealize.ShloMosaic.Init

@[expose] public section

noncomputable section

namespace Cert.Proof

open Idealize.ShloMosaic Idealize.SL.Sem Cert.Tail

/-- All the claims together, in the order in which they are stated. -/
theorem claim : Cert.Claim := ⟨Cert.Tail.Gen.facts, Cert.TailIdeal.Gen.facts, Cert.TailRefIdeal.Gen.facts,
  Cert.Ple.Gen.facts, Cert.PleIdeal.Gen.facts, Cert.PleRefIdeal.Gen.facts,
  Cert.Gw.Gen.facts, Cert.GwIdeal.Gen.facts, Cert.GwRefIdeal.Gen.facts,
  Cert.Inb.Gen.facts, Cert.InbIdeal.Gen.facts, Cert.InbRefIdeal.Gen.facts,
  Cert.Op.Gen.facts, Cert.OpIdeal.Gen.facts, Cert.OpRefIdeal.Gen.facts,
  Cert.AdOut.Gen.facts, Cert.AdOutIdeal.Gen.facts, Cert.AdOutRefIdeal.Gen.facts,
  Cert.AdPe.Gen.facts, Cert.AdPeIdeal.Gen.facts, Cert.AdPeRefIdeal.Gen.facts,
  Cert.AdCw.Gen.facts, Cert.AdCwIdeal.Gen.facts, Cert.AdCwRefIdeal.Gen.facts,
  Cert.AdPre.Gen.facts, Cert.AdPreIdeal.Gen.facts, Cert.AdPreRefIdeal.Gen.facts,
  Cert.Sum.Gen.facts, Cert.SumIdeal.Gen.facts, Cert.SumRefIdeal.Gen.facts,
  Cert.AdSm.Gen.facts, Cert.AdSmIdeal.Gen.facts, Cert.AdSmRefIdeal.Gen.facts,
  frame_tail, frame_tail_ideal, frame_tail_ref, frame_ple, frame_ple_ideal, frame_ple_ref,
  frame_gw, frame_gw_ideal, frame_gw_ref, frame_inb, frame_inb_ideal, frame_inb_ref, frame_op, frame_op_ideal, frame_op_ref,
  frame_ad_out, frame_ad_out_ideal, frame_ad_out_ref,
  frame_ad_pe, frame_ad_pe_ideal, frame_ad_pe_ref,
  frame_ad_cw, frame_ad_cw_ideal, frame_ad_cw_ref,
  frame_ad_pre, frame_ad_pre_ideal, frame_ad_pre_ref,
  frame_sum, frame_sum_ideal, frame_sum_ref,
  frame_ad_sm, frame_ad_sm_ideal, frame_ad_sm_ref,
  trivial, Cert.TailClaim.algebraic, trivial, Cert.PleClaim.algebraic, trivial, Cert.GwClaim.algebraic,
  trivial, Cert.InbClaim.algebraic, trivial, Cert.OpClaim.algebraic,
  trivial, Cert.AdOutIdeal.Step.algebraic,
  trivial, Cert.AdPeIdeal.Step.algebraic,
  trivial, Cert.AdCwIdeal.Step.algebraic,
  trivial, Cert.AdPreIdeal.Step.algebraic,
  trivial, Cert.SumIdeal.Step.algebraic,
  trivial, Cert.AdSmIdeal.Step.algebraic⟩

end Cert.Proof

end
